-- ==== Defs.lean ====
def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherRefIdeal (m : (ℓ : Loc Cert.GatherRefIdeal.nD Cert.GatherRefIdeal.τ Cert.GatherRefIdeal.sig) → Buf (Elt Ideal) ℓ) : Prop :=
  True

def Pre_Sibling (m : (ℓ : Loc Cert.Sibling.nD Cert.Sibling.τ Cert.Sibling.sig) → Buf (Elt Bits) ℓ) : Prop :=
  True

def Pre_SiblingIdeal (m : (ℓ : Loc Cert.SiblingIdeal.nD Cert.SiblingIdeal.τ Cert.SiblingIdeal.sig) → Buf (Elt Ideal) ℓ) : Prop :=
  True

def Pre_SiblingRefIdeal (m : (ℓ : Loc Cert.SiblingRefIdeal.nD Cert.SiblingRefIdeal.τ Cert.SiblingRefIdeal.sig) → Buf (Elt Ideal) ℓ) : Prop :=
  True

def Pre_Chips (m : (ℓ : Loc Cert.Chips.nD Cert.Chips.τ Cert.Chips.sig) → Buf (Elt Bits) ℓ) : Prop :=
  True

def Pre_ChipsIdeal (m : (ℓ : Loc Cert.ChipsIdeal.nD Cert.ChipsIdeal.τ Cert.ChipsIdeal.sig) → Buf (Elt Ideal) ℓ) : Prop :=
  True

def Pre_ChipsRefIdeal (m : (ℓ : Loc Cert.ChipsRefIdeal.nD Cert.ChipsRefIdeal.τ Cert.ChipsRefIdeal.sig) → Buf (Elt Ideal) ℓ) : Prop :=
  True

def Pre_UpGate (m : (ℓ : Loc Cert.UpGate.nD Cert.UpGate.τ Cert.UpGate.sig) → Buf (Elt Bits) ℓ) : Prop :=
  True

def Pre_UpGateIdeal (m : (ℓ : Loc Cert.UpGateIdeal.nD Cert.UpGateIdeal.τ Cert.UpGateIdeal.sig) → Buf (Elt Ideal) ℓ) : Prop :=
  True

def Pre_UpGateRefIdeal (m : (ℓ : Loc Cert.UpGateRefIdeal.nD Cert.UpGateRefIdeal.τ Cert.UpGateRefIdeal.sig) → Buf (Elt Ideal) ℓ) : Prop :=
  True

def Pre_UpDown (m : (ℓ : Loc Cert.UpDown.nD Cert.UpDown.τ Cert.UpDown.sig) → Buf (Elt Bits) ℓ) : Prop :=
  True

def Pre_UpDownIdeal (m : (ℓ : Loc Cert.UpDownIdeal.nD Cert.UpDownIdeal.τ Cert.UpDownIdeal.sig) → Buf (Elt Ideal) ℓ) : Prop :=
  True

def Pre_UpDownRefIdeal (m : (ℓ : Loc Cert.UpDownRefIdeal.nD Cert.UpDownRefIdeal.τ Cert.UpDownRefIdeal.sig) → Buf (Elt Ideal) ℓ) : Prop :=
  True

def Pre_UpIn (m : (ℓ : Loc Cert.UpIn.nD Cert.UpIn.τ Cert.UpIn.sig) → Buf (Elt Bits) ℓ) : Prop :=
  True

def Pre_UpInIdeal (m : (ℓ : Loc Cert.UpInIdeal.nD Cert.UpInIdeal.τ Cert.UpInIdeal.sig) → Buf (Elt Ideal) ℓ) : Prop :=
  True

def Pre_UpInRefIdeal (m : (ℓ : Loc Cert.UpInRefIdeal.nD Cert.UpInRefIdeal.τ Cert.UpInRefIdeal.sig) → Buf (Elt Ideal) ℓ) : Prop :=
  True

def Pre_UpUq (m : (ℓ : Loc Cert.UpUq.nD Cert.UpUq.τ Cert.UpUq.sig) → Buf (Elt Bits) ℓ) : Prop :=
  True

def Pre_UpUqIdeal (m : (ℓ : Loc Cert.UpUqIdeal.nD Cert.UpUqIdeal.τ Cert.UpUqIdeal.sig) → Buf (Elt Ideal) ℓ) : Prop :=
  True

def Pre_UpUqRefIdeal (m : (ℓ : Loc Cert.UpUqRefIdeal.nD Cert.UpUqRefIdeal.τ Cert.UpUqRefIdeal.sig) → Buf (Elt Ideal) ℓ) : Prop :=
  True

def Pre_UpUkv (m : (ℓ : Loc Cert.UpUkv.nD Cert.UpUkv.τ Cert.UpUkv.sig) → Buf (Elt Bits) ℓ) : Prop :=
  True

def Pre_UpUkvIdeal (m : (ℓ : Loc Cert.UpUkvIdeal.nD Cert.UpUkvIdeal.τ Cert.UpUkvIdeal.sig) → Buf (Elt Ideal) ℓ) : Prop :=
  True

def Pre_UpUkvRefIdeal (m : (ℓ : Loc Cert.UpUkvRefIdeal.nD Cert.UpUkvRefIdeal.τ Cert.UpUkvRefIdeal.sig) → Buf (Elt Ideal) ℓ) : Prop :=
  True

def Pre_UpOut (m : (ℓ : Loc Cert.UpOut.nD Cert.UpOut.τ Cert.UpOut.sig) → Buf (Elt Bits) ℓ) : Prop :=
  True

def Pre_UpOutIdeal (m : (ℓ : Loc Cert.UpOutIdeal.nD Cert.UpOutIdeal.τ Cert.UpOutIdeal.sig) → Buf (Elt Ideal) ℓ) : Prop :=
  True

def Pre_UpOutRefIdeal (m : (ℓ : Loc Cert.UpOutRefIdeal.nD Cert.UpOutRefIdeal.τ Cert.UpOutRefIdeal.sig) → Buf (Elt Ideal) ℓ) : Prop :=
  True

def Pre_UpConv (m : (ℓ : Loc Cert.UpConv.nD Cert.UpConv.τ Cert.UpConv.sig) → Buf (Elt Bits) ℓ) : Prop :=
  True

def Pre_UpConvIdeal (m : (ℓ : Loc Cert.UpConvIdeal.nD Cert.UpConvIdeal.τ Cert.UpConvIdeal.sig) → Buf (Elt Ideal) ℓ) : Prop :=
  True

def Pre_UpConvRefIdeal (m : (ℓ : Loc Cert.UpConvRefIdeal.nD Cert.UpConvRefIdeal.τ Cert.UpConvRefIdeal.sig) → Buf (Elt Ideal) ℓ) : Prop :=
  True

def Pre_UpVectors (m : (ℓ : Loc Cert.UpVectors.nD Cert.UpVectors.τ Cert.UpVectors.sig) → Buf (Elt Bits) ℓ) : Prop :=
  True

def Pre_UpVectorsIdeal (m : (ℓ : Loc Cert.UpVectorsIdeal.nD Cert.UpVectorsIdeal.τ Cert.UpVectorsIdeal.sig) → Buf (Elt Ideal) ℓ) : Prop :=
  True

def Pre_UpVectorsRefIdeal (m : (ℓ : Loc Cert.UpVectorsRefIdeal.nD Cert.UpVectorsRefIdeal.τ Cert.UpVectorsRefIdeal.sig) → Buf (Elt Ideal) ℓ) : Prop :=
  True

def Pre_Small (m : (ℓ : Loc Cert.Small.nD Cert.Small.τ Cert.Small.sig) → Buf (Elt Bits) ℓ) : Prop :=
  True

def Pre_SmallIdeal (m : (ℓ : Loc Cert.SmallIdeal.nD Cert.SmallIdeal.τ Cert.SmallIdeal.sig) → Buf (Elt Ideal) ℓ) : Prop :=
  True

def Pre_SmallRefIdeal (m : (ℓ : Loc Cert.SmallRefIdeal.nD Cert.SmallRefIdeal.τ Cert.SmallRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_FfnDz (m : (ℓ : Loc Cert.FfnDz.nD Cert.FfnDz.τ Cert.FfnDz.sig) → Buf (Elt Bits) ℓ) : Prop :=
  True

def Pre_FfnDzIdeal (m : (ℓ : Loc Cert.FfnDzIdeal.nD Cert.FfnDzIdeal.τ Cert.FfnDzIdeal.sig) → Buf (Elt Ideal) ℓ) : Prop :=
  True

def Pre_FfnDzRefIdeal (m : (ℓ : Loc Cert.FfnDzRefIdeal.nD Cert.FfnDzRefIdeal.τ Cert.FfnDzRefIdeal.sig) → Buf (Elt Ideal) ℓ) : Prop :=
  True

def Pre_FfnDwd (m : (ℓ : Loc Cert.FfnDwd.nD Cert.FfnDwd.τ Cert.FfnDwd.sig) → Buf (Elt Bits) ℓ) : Prop :=
  True

def Pre_FfnDwdIdeal (m : (ℓ : Loc Cert.FfnDwdIdeal.nD Cert.FfnDwdIdeal.τ Cert.FfnDwdIdeal.sig) → Buf (Elt Ideal) ℓ) : Prop :=
  True

def Pre_FfnDwdRefIdeal (m : (ℓ : Loc Cert.FfnDwdRefIdeal.nD Cert.FfnDwdRefIdeal.τ Cert.FfnDwdRefIdeal.sig) → Buf (Elt Ideal) ℓ) : Prop :=
  True

def Pre_GluBack (m : (ℓ : Loc Cert.GluBack.nD Cert.GluBack.τ Cert.GluBack.sig) → Buf (Elt Bits) ℓ) : Prop :=
  True

def Pre_GluBackIdeal (m : (ℓ : Loc Cert.GluBackIdeal.nD Cert.GluBackIdeal.τ Cert.GluBackIdeal.sig) → Buf (Elt Ideal) ℓ) : Prop :=
  True

def Pre_GluBackRefIdeal (m : (ℓ : Loc Cert.GluBackRefIdeal.nD Cert.GluBackRefIdeal.τ Cert.GluBackRefIdeal.sig) → Buf (Elt Ideal) ℓ) : Prop :=
  True

def Pre_FfnDwgu (m : (ℓ : Loc Cert.FfnDwgu.nD Cert.FfnDwgu.τ Cert.FfnDwgu.sig) → Buf (Elt Bits) ℓ) : Prop :=
  True

def Pre_FfnDwguIdeal (m : (ℓ : Loc Cert.FfnDwguIdeal.nD Cert.FfnDwguIdeal.τ Cert.FfnDwguIdeal.sig) → Buf (Elt Ideal) ℓ) : Prop :=
  True

def Pre_FfnDwguRefIdeal (m : (ℓ : Loc Cert.FfnDwguRefIdeal.nD Cert.FfnDwguRefIdeal.τ Cert.FfnDwguRefIdeal.sig) → Buf (Elt Ideal) ℓ) : Prop :=
  True

def Pre_FfnDh (m : (ℓ : Loc Cert.FfnDh.nD Cert.FfnDh.τ Cert.FfnDh.sig) → Buf (Elt Bits) ℓ) : Prop :=
  True

def Pre_FfnDhIdeal (m : (ℓ : Loc Cert.FfnDhIdeal.nD Cert.FfnDhIdeal.τ Cert.FfnDhIdeal.sig) → Buf (Elt Ideal) ℓ) : Prop :=
  True

def Pre_FfnDhRefIdeal (m : (ℓ : Loc Cert.FfnDhRefIdeal.nD Cert.FfnDhRefIdeal.τ Cert.FfnDhRefIdeal.sig) → Buf (Elt Ideal) ℓ) : Prop :=
  True

def Pre_NormIn (m : (ℓ : Loc Cert.NormIn.nD Cert.NormIn.τ Cert.NormIn.sig) → Buf (Elt Bits) ℓ) : Prop :=
  True

def Pre_NormInIdeal (m : (ℓ : Loc Cert.NormInIdeal.nD Cert.NormInIdeal.τ Cert.NormInIdeal.sig) → Buf (Elt Ideal) ℓ) : Prop :=
  True

def Pre_NormInRefIdeal (m : (ℓ : Loc Cert.NormInRefIdeal.nD Cert.NormInRefIdeal.τ Cert.NormInRefIdeal.sig) → Buf (Elt Ideal) ℓ) : Prop :=
  True

def Pre_NormOut (m : (ℓ : Loc Cert.NormOut.nD Cert.NormOut.τ Cert.NormOut.sig) → Buf (Elt Bits) ℓ) : Prop :=
  True

def Pre_NormOutIdeal (m : (ℓ : Loc Cert.NormOutIdeal.nD Cert.NormOutIdeal.τ Cert.NormOutIdeal.sig) → Buf (Elt Ideal) ℓ) : Prop :=
  True

def Pre_NormOutRefIdeal (m : (ℓ : Loc Cert.NormOutRefIdeal.nD Cert.NormOutRefIdeal.τ Cert.NormOutRefIdeal.sig) → Buf (Elt Ideal) ℓ) : Prop :=
  True

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInRefIdeal (m : (ℓ : Loc Cert.MixInRefIdeal.nD Cert.MixInRefIdeal.τ Cert.MixInRefIdeal.sig) → Buf (Elt Ideal) ℓ) : Prop :=
  True

def Pre_MixQ (m : (ℓ : Loc Cert.MixQ.nD Cert.MixQ.τ Cert.MixQ.sig) → Buf (Elt Bits) ℓ) : Prop :=
  True

def Pre_MixQIdeal (m : (ℓ : Loc Cert.MixQIdeal.nD Cert.MixQIdeal.τ Cert.MixQIdeal.sig) → Buf (Elt Ideal) ℓ) : Prop :=
  True

def Pre_MixQRefIdeal (m : (ℓ : Loc Cert.MixQRefIdeal.nD Cert.MixQRefIdeal.τ Cert.MixQRefIdeal.sig) → Buf (Elt Ideal) ℓ) : Prop :=
  True

def Pre_MixK (m : (ℓ : Loc Cert.MixK.nD Cert.MixK.τ Cert.MixK.sig) → Buf (Elt Bits) ℓ) : Prop :=
  True

def Pre_MixKIdeal (m : (ℓ : Loc Cert.MixKIdeal.nD Cert.MixKIdeal.τ Cert.MixKIdeal.sig) → Buf (Elt Ideal) ℓ) : Prop :=
  True

def Pre_MixKRefIdeal (m : (ℓ : Loc Cert.MixKRefIdeal.nD Cert.MixKRefIdeal.τ Cert.MixKRefIdeal.sig) → Buf (Elt Ideal) ℓ) : Prop :=
  True

def Pre_MixV (m : (ℓ : Loc Cert.MixV.nD Cert.MixV.τ Cert.MixV.sig) → Buf (Elt Bits) ℓ) : Prop :=
  True

def Pre_MixVIdeal (m : (ℓ : Loc Cert.MixVIdeal.nD Cert.MixVIdeal.τ Cert.MixVIdeal.sig) → Buf (Elt Ideal) ℓ) : Prop :=
  True

def Pre_MixVRefIdeal (m : (ℓ : Loc Cert.MixVRefIdeal.nD Cert.MixVRefIdeal.τ Cert.MixVRefIdeal.sig) → Buf (Elt Ideal) ℓ) : Prop :=
  True

def Pre_MixAttn (m : (ℓ : Loc Cert.MixAttn.nD Cert.MixAttn.τ Cert.MixAttn.sig) → Buf (Elt Bits) ℓ) : Prop :=
  True

def Pre_MixAttnIdeal (m : (ℓ : Loc Cert.MixAttnIdeal.nD Cert.MixAttnIdeal.τ Cert.MixAttnIdeal.sig) → Buf (Elt Ideal) ℓ) : Prop :=
  True

def Pre_MixAttnRefIdeal (m : (ℓ : Loc Cert.MixAttnRefIdeal.nD Cert.MixAttnRefIdeal.τ Cert.MixAttnRefIdeal.sig) → Buf (Elt Ideal) ℓ) : Prop :=
  True

def Pre_MixConv (m : (ℓ : Loc Cert.MixConv.nD Cert.MixConv.τ Cert.MixConv.sig) → Buf (Elt Bits) ℓ) : Prop :=
  True

def Pre_MixConvIdeal (m : (ℓ : Loc Cert.MixConvIdeal.nD Cert.MixConvIdeal.τ Cert.MixConvIdeal.sig) → Buf (Elt Ideal) ℓ) : Prop :=
  True

def Pre_MixConvRefIdeal (m : (ℓ : Loc Cert.MixConvRefIdeal.nD Cert.MixConvRefIdeal.τ Cert.MixConvRefIdeal.sig) → Buf (Elt Ideal) ℓ) : Prop :=
  True

def Pre_MixDo (m : (ℓ : Loc Cert.MixDo.nD Cert.MixDo.τ Cert.MixDo.sig) → Buf (Elt Bits) ℓ) : Prop :=
  True

def Pre_MixDoIdeal (m : (ℓ : Loc Cert.MixDoIdeal.nD Cert.MixDoIdeal.τ Cert.MixDoIdeal.sig) → Buf (Elt Ideal) ℓ) : Prop :=
  True

def Pre_MixDoRefIdeal (m : (ℓ : Loc Cert.MixDoRefIdeal.nD Cert.MixDoRefIdeal.τ Cert.MixDoRefIdeal.sig) → Buf (Elt Ideal) ℓ) : Prop :=
  True

def Pre_MixDcv (m : (ℓ : Loc Cert.MixDcv.nD Cert.MixDcv.τ Cert.MixDcv.sig) → Buf (Elt Bits) ℓ) : Prop :=
  True

def Pre_MixDcvIdeal (m : (ℓ : Loc Cert.MixDcvIdeal.nD Cert.MixDcvIdeal.τ Cert.MixDcvIdeal.sig) → Buf (Elt Ideal) ℓ) : Prop :=
  True

def Pre_MixDcvRefIdeal (m : (ℓ : Loc Cert.MixDcvRefIdeal.nD Cert.MixDcvRefIdeal.τ Cert.MixDcvRefIdeal.sig) → Buf (Elt Ideal) ℓ) : Prop :=
  True

def Pre_MixDqln (m : (ℓ : Loc Cert.MixDqln.nD Cert.MixDqln.τ Cert.MixDqln.sig) → Buf (Elt Bits) ℓ) : Prop :=
  True

def Pre_MixDqlnIdeal (m : (ℓ : Loc Cert.MixDqlnIdeal.nD Cert.MixDqlnIdeal.τ Cert.MixDqlnIdeal.sig) → Buf (Elt Ideal) ℓ) : Prop :=
  True

def Pre_MixDqlnRefIdeal (m : (ℓ : Loc Cert.MixDqlnRefIdeal.nD Cert.MixDqlnRefIdeal.τ Cert.MixDqlnRefIdeal.sig) → Buf (Elt Ideal) ℓ) : Prop :=
  True

def Pre_MixDkvlnK (m : (ℓ : Loc Cert.MixDkvlnK.nD Cert.MixDkvlnK.τ Cert.MixDkvlnK.sig) → Buf (Elt Bits) ℓ) : Prop :=
  True

def Pre_MixDkvlnKIdeal (m : (ℓ : Loc Cert.MixDkvlnKIdeal.nD Cert.MixDkvlnKIdeal.τ Cert.MixDkvlnKIdeal.sig) → Buf (Elt Ideal) ℓ) : Prop :=
  True

def Pre_MixDkvlnKRefIdeal (m : (ℓ : Loc Cert.MixDkvlnKRefIdeal.nD Cert.MixDkvlnKRefIdeal.τ Cert.MixDkvlnKRefIdeal.sig) → Buf (Elt Ideal) ℓ) : Prop :=
  True

def Pre_MixDkvlnV (m : (ℓ : Loc Cert.MixDkvlnV.nD Cert.MixDkvlnV.τ Cert.MixDkvlnV.sig) → Buf (Elt Bits) ℓ) : Prop :=
  True

def Pre_MixDkvlnVIdeal (m : (ℓ : Loc Cert.MixDkvlnVIdeal.nD Cert.MixDkvlnVIdeal.τ Cert.MixDkvlnVIdeal.sig) → Buf (Elt Ideal) ℓ) : Prop :=
  True

def Pre_MixDkvlnVRefIdeal (m : (ℓ : Loc Cert.MixDkvlnVRefIdeal.nD Cert.MixDkvlnVRefIdeal.τ Cert.MixDkvlnVRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_GatherRef (m : (ℓ : Loc Cert.GatherRef.nD Cert.GatherRef.τ Cert.GatherRef.sig) → Buf (Elt Bits) ℓ) : Prop :=
  True

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0))
      ∧ r.2.sem = fun _ => 0)

def quiescent_GatherRefIdeal [hGatherRefIdeal : Cert.GatherRefIdeal.Facts] : Prop :=
  ∀ (m : (ℓ : Loc Cert.GatherRefIdeal.nD Cert.GatherRefIdeal.τ Cert.GatherRefIdeal.sig) → Buf (Elt Ideal) ℓ) (g : Dev Cert.GatherRefIdeal.nD → PrngReg), Pre_GatherRefIdeal m →
    θ_run (Cert.GatherRefIdeal.defs (F := Ideal)) (onTc (τ := Cert.GatherRefIdeal.τ) (Cert.GatherRefIdeal.main (F := Ideal))) ⟨m, fun _ => 0, g⟩ (fun r => (∀ c : Dev Cert.GatherRefIdeal.nD,
      r.2.mem ((c.tc : Thread Cert.GatherRefIdeal.nD Cert.GatherRefIdeal.τ).loc Cert.GatherRefIdeal.main_arg0) = m ((c.tc : Thread Cert.GatherRefIdeal.nD Cert.GatherRefIdeal.τ).loc Cert.GatherRefIdeal.main_arg0))
      ∧ r.2.sem = fun _ => 0)

def quiescent_Sibling [hSibling : Cert.Sibling.Facts] : Prop :=
  ∀ (m : (ℓ : Loc Cert.Sibling.nD Cert.Sibling.τ Cert.Sibling.sig) → Buf (Elt Bits) ℓ) (g : Dev Cert.Sibling.nD → PrngReg), Pre_Sibling m →
    θ_run (Cert.Sibling.defs (F := Bits)) (onTc (τ := Cert.Sibling.τ) (Cert.Sibling.main (F := Bits))) ⟨m, fun _ => 0, g⟩ (fun r => (∀ c : Dev Cert.Sibling.nD,
      r.2.mem ((c.tc : Thread Cert.Sibling.nD Cert.Sibling.τ).loc Cert.Sibling.main_arg0) = m ((c.tc : Thread Cert.Sibling.nD Cert.Sibling.τ).loc Cert.Sibling.main_arg0))
      ∧ r.2.sem = fun _ => 0)

def quiescent_SiblingIdeal [hSiblingIdeal : Cert.SiblingIdeal.Facts] : Prop :=
  ∀ (m : (ℓ : Loc Cert.SiblingIdeal.nD Cert.SiblingIdeal.τ Cert.SiblingIdeal.sig) → Buf (Elt Ideal) ℓ) (g : Dev Cert.SiblingIdeal.nD → PrngReg), Pre_SiblingIdeal m →
    θ_run (Cert.SiblingIdeal.defs (F := Ideal)) (onTc (τ := Cert.SiblingIdeal.τ) (Cert.SiblingIdeal.main (F := Ideal))) ⟨m, fun _ => 0, g⟩ (fun r => (∀ c : Dev Cert.SiblingIdeal.nD,
      r.2.mem ((c.tc : Thread Cert.SiblingIdeal.nD Cert.SiblingIdeal.τ).loc Cert.SiblingIdeal.main_arg0) = m ((c.tc : Thread Cert.SiblingIdeal.nD Cert.SiblingIdeal.τ).loc Cert.SiblingIdeal.main_arg0))
      ∧ r.2.sem = fun _ => 0)

def quiescent_SiblingRefIdeal [hSiblingRefIdeal : Cert.SiblingRefIdeal.Facts] : Prop :=
  ∀ (m : (ℓ : Loc Cert.SiblingRefIdeal.nD Cert.SiblingRefIdeal.τ Cert.SiblingRefIdeal.sig) → Buf (Elt Ideal) ℓ) (g : Dev Cert.SiblingRefIdeal.nD → PrngReg), Pre_SiblingRefIdeal m →
    θ_run (Cert.SiblingRefIdeal.defs (F := Ideal)) (onTc (τ := Cert.SiblingRefIdeal.τ) (Cert.SiblingRefIdeal.main (F := Ideal))) ⟨m, fun _ => 0, g⟩ (fun r => (∀ c : Dev Cert.SiblingRefIdeal.nD,
      r.2.mem ((c.tc : Thread Cert.SiblingRefIdeal.nD Cert.SiblingRefIdeal.τ).loc Cert.SiblingRefIdeal.main_arg0) = m ((c.tc : Thread Cert.SiblingRefIdeal.nD Cert.SiblingRefIdeal.τ).loc Cert.SiblingRefIdeal.main_arg0))
      ∧ r.2.sem = fun _ => 0)

def quiescent_Chips [hChips : Cert.Chips.Facts] : Prop :=
  ∀ (m : (ℓ : Loc Cert.Chips.nD Cert.Chips.τ Cert.Chips.sig) → Buf (Elt Bits) ℓ) (g : Dev Cert.Chips.nD → PrngReg), Pre_Chips m →
    θ_run (Cert.Chips.defs (F := Bits)) (onTc (τ := Cert.Chips.τ) (Cert.Chips.main (F := Bits))) ⟨m, fun _ => 0, g⟩ (fun r => (∀ c : Dev Cert.Chips.nD,
      r.2.mem ((c.tc : Thread Cert.Chips.nD Cert.Chips.τ).loc Cert.Chips.main_arg0) = m ((c.tc : Thread Cert.Chips.nD Cert.Chips.τ).loc Cert.Chips.main_arg0))
      ∧ r.2.sem = fun _ => 0)

def quiescent_ChipsIdeal [hChipsIdeal : Cert.ChipsIdeal.Facts] : Prop :=
  ∀ (m : (ℓ : Loc Cert.ChipsIdeal.nD Cert.ChipsIdeal.τ Cert.ChipsIdeal.sig) → Buf (Elt Ideal) ℓ) (g : Dev Cert.ChipsIdeal.nD → PrngReg), Pre_ChipsIdeal m →
    θ_run (Cert.ChipsIdeal.defs (F := Ideal)) (onTc (τ := Cert.ChipsIdeal.τ) (Cert.ChipsIdeal.main (F := Ideal))) ⟨m, fun _ => 0, g⟩ (fun r => (∀ c : Dev Cert.ChipsIdeal.nD,
      r.2.mem ((c.tc : Thread Cert.ChipsIdeal.nD Cert.ChipsIdeal.τ).loc Cert.ChipsIdeal.main_arg0) = m ((c.tc : Thread Cert.ChipsIdeal.nD Cert.ChipsIdeal.τ).loc Cert.ChipsIdeal.main_arg0))
      ∧ r.2.sem = fun _ => 0)

def quiescent_ChipsRefIdeal [hChipsRefIdeal : Cert.ChipsRefIdeal.Facts] : Prop :=
  ∀ (m : (ℓ : Loc Cert.ChipsRefIdeal.nD Cert.ChipsRefIdeal.τ Cert.ChipsRefIdeal.sig) → Buf (Elt Ideal) ℓ) (g : Dev Cert.ChipsRefIdeal.nD → PrngReg), Pre_ChipsRefIdeal m →
    θ_run (Cert.ChipsRefIdeal.defs (F := Ideal)) (onTc (τ := Cert.ChipsRefIdeal.τ) (Cert.ChipsRefIdeal.main (F := Ideal))) ⟨m, fun _ => 0, g⟩ (fun r => (∀ c : Dev Cert.ChipsRefIdeal.nD,
      r.2.mem ((c.tc : Thread Cert.ChipsRefIdeal.nD Cert.ChipsRefIdeal.τ).loc Cert.ChipsRefIdeal.main_arg0) = m ((c.tc : Thread Cert.ChipsRefIdeal.nD Cert.ChipsRefIdeal.τ).loc Cert.ChipsRefIdeal.main_arg0))
      ∧ r.2.sem = fun _ => 0)

def quiescent_UpGate [hUpGate : Cert.UpGate.Facts] : Prop :=
  ∀ (m : (ℓ : Loc Cert.UpGate.nD Cert.UpGate.τ Cert.UpGate.sig) → Buf (Elt Bits) ℓ) (g : Dev Cert.UpGate.nD → PrngReg), Pre_UpGate m →
    θ_run (Cert.UpGate.defs (F := Bits)) (onTc (τ := Cert.UpGate.τ) (Cert.UpGate.main (F := Bits))) ⟨m, fun _ => 0, g⟩ (fun r => (∀ c : Dev Cert.UpGate.nD,
      r.2.mem ((c.tc : Thread Cert.UpGate.nD Cert.UpGate.τ).loc Cert.UpGate.main_arg0) = m ((c.tc : Thread Cert.UpGate.nD Cert.UpGate.τ).loc Cert.UpGate.main_arg0)
      ∧ r.2.mem ((c.tc : Thread Cert.UpGate.nD Cert.UpGate.τ).loc Cert.UpGate.main_arg1) = m ((c.tc : Thread Cert.UpGate.nD Cert.UpGate.τ).loc Cert.UpGate.main_arg1)
      ∧ r.2.mem ((c.tc : Thread Cert.UpGate.nD Cert.UpGate.τ).loc Cert.UpGate.main_arg2) = m ((c.tc : Thread Cert.UpGate.nD Cert.UpGate.τ).loc Cert.UpGate.main_arg2)
      ∧ r.2.mem ((c.tc : Thread Cert.UpGate.nD Cert.UpGate.τ).loc Cert.UpGate.main_arg3) = m ((c.tc : Thread Cert.UpGate.nD Cert.UpGate.τ).loc Cert.UpGate.main_arg3))
      ∧ r.2.sem = fun _ => 0)

def quiescent_UpGateIdeal [hUpGateIdeal : Cert.UpGateIdeal.Facts] : Prop :=
  ∀ (m : (ℓ : Loc Cert.UpGateIdeal.nD Cert.UpGateIdeal.τ Cert.UpGateIdeal.sig) → Buf (Elt Ideal) ℓ) (g : Dev Cert.UpGateIdeal.nD → PrngReg), Pre_UpGateIdeal m →
    θ_run (Cert.UpGateIdeal.defs (F := Ideal)) (onTc (τ := Cert.UpGateIdeal.τ) (Cert.UpGateIdeal.main (F := Ideal))) ⟨m, fun _ => 0, g⟩ (fun r => (∀ c : Dev Cert.UpGateIdeal.nD,
      r.2.mem ((c.tc : Thread Cert.UpGateIdeal.nD Cert.UpGateIdeal.τ).loc Cert.UpGateIdeal.main_arg0) = m ((c.tc : Thread Cert.UpGateIdeal.nD Cert.UpGateIdeal.τ).loc Cert.UpGateIdeal.main_arg0)
      ∧ r.2.mem ((c.tc : Thread Cert.UpGateIdeal.nD Cert.UpGateIdeal.τ).loc Cert.UpGateIdeal.main_arg1) = m ((c.tc : Thread Cert.UpGateIdeal.nD Cert.UpGateIdeal.τ).loc Cert.UpGateIdeal.main_arg1)
      ∧ r.2.mem ((c.tc : Thread Cert.UpGateIdeal.nD Cert.UpGateIdeal.τ).loc Cert.UpGateIdeal.main_arg2) = m ((c.tc : Thread Cert.UpGateIdeal.nD Cert.UpGateIdeal.τ).loc Cert.UpGateIdeal.main_arg2)
      ∧ r.2.mem ((c.tc : Thread Cert.UpGateIdeal.nD Cert.UpGateIdeal.τ).loc Cert.UpGateIdeal.main_arg3) = m ((c.tc : Thread Cert.UpGateIdeal.nD Cert.UpGateIdeal.τ).loc Cert.UpGateIdeal.main_arg3))
      ∧ r.2.sem = fun _ => 0)

def quiescent_UpGateRefIdeal [hUpGateRefIdeal : Cert.UpGateRefIdeal.Facts] : Prop :=
  ∀ (m : (ℓ : Loc Cert.UpGateRefIdeal.nD Cert.UpGateRefIdeal.τ Cert.UpGateRefIdeal.sig) → Buf (Elt Ideal) ℓ) (g : Dev Cert.UpGateRefIdeal.nD → PrngReg), Pre_UpGateRefIdeal m →
    θ_run (Cert.UpGateRefIdeal.defs (F := Ideal)) (onTc (τ := Cert.UpGateRefIdeal.τ) (Cert.UpGateRefIdeal.main (F := Ideal))) ⟨m, fun _ => 0, g⟩ (fun r => (∀ c : Dev Cert.UpGateRefIdeal.nD,
      r.2.mem ((c.tc : Thread Cert.UpGateRefIdeal.nD Cert.UpGateRefIdeal.τ).loc Cert.UpGateRefIdeal.main_arg0) = m ((c.tc : Thread Cert.UpGateRefIdeal.nD Cert.UpGateRefIdeal.τ).loc Cert.UpGateRefIdeal.main_arg0)
      ∧ r.2.mem ((c.tc : Thread Cert.UpGateRefIdeal.nD Cert.UpGateRefIdeal.τ).loc Cert.UpGateRefIdeal.main_arg1) = m ((c.tc : Thread Cert.UpGateRefIdeal.nD Cert.UpGateRefIdeal.τ).loc Cert.UpGateRefIdeal.main_arg1)
      ∧ r.2.mem ((c.tc : Thread Cert.UpGateRefIdeal.nD Cert.UpGateRefIdeal.τ).loc Cert.UpGateRefIdeal.main_arg2) = m ((c.tc : Thread Cert.UpGateRefIdeal.nD Cert.UpGateRefIdeal.τ).loc Cert.UpGateRefIdeal.main_arg2)
      ∧ r.2.mem ((c.tc : Thread Cert.UpGateRefIdeal.nD Cert.UpGateRefIdeal.τ).loc Cert.UpGateRefIdeal.main_arg3) = m ((c.tc : Thread Cert.UpGateRefIdeal.nD Cert.UpGateRefIdeal.τ).loc Cert.UpGateRefIdeal.main_arg3))
      ∧ r.2.sem = fun _ => 0)

def quiescent_UpDown [hUpDown : Cert.UpDown.Facts] : Prop :=
  ∀ (m : (ℓ : Loc Cert.UpDown.nD Cert.UpDown.τ Cert.UpDown.sig) → Buf (Elt Bits) ℓ) (g : Dev Cert.UpDown.nD → PrngReg), Pre_UpDown m →
    θ_run (Cert.UpDown.defs (F := Bits)) (onTc (τ := Cert.UpDown.τ) (Cert.UpDown.main (F := Bits))) ⟨m, fun _ => 0, g⟩ (fun r => (∀ c : Dev Cert.UpDown.nD,
      r.2.mem ((c.tc : Thread Cert.UpDown.nD Cert.UpDown.τ).loc Cert.UpDown.main_arg0) = m ((c.tc : Thread Cert.UpDown.nD Cert.UpDown.τ).loc Cert.UpDown.main_arg0)
      ∧ r.2.mem ((c.tc : Thread Cert.UpDown.nD Cert.UpDown.τ).loc Cert.UpDown.main_arg1) = m ((c.tc : Thread Cert.UpDown.nD Cert.UpDown.τ).loc Cert.UpDown.main_arg1)
      ∧ r.2.mem ((c.tc : Thread Cert.UpDown.nD Cert.UpDown.τ).loc Cert.UpDown.main_arg2) = m ((c.tc : Thread Cert.UpDown.nD Cert.UpDown.τ).loc Cert.UpDown.main_arg2)
      ∧ r.2.mem ((c.tc : Thread Cert.UpDown.nD Cert.UpDown.τ).loc Cert.UpDown.main_arg3) = m ((c.tc : Thread Cert.UpDown.nD Cert.UpDown.τ).loc Cert.UpDown.main_arg3))
      ∧ r.2.sem = fun _ => 0)

def quiescent_UpDownIdeal [hUpDownIdeal : Cert.UpDownIdeal.Facts] : Prop :=
  ∀ (m : (ℓ : Loc Cert.UpDownIdeal.nD Cert.UpDownIdeal.τ Cert.UpDownIdeal.sig) → Buf (Elt Ideal) ℓ) (g : Dev Cert.UpDownIdeal.nD → PrngReg), Pre_UpDownIdeal m →
    θ_run (Cert.UpDownIdeal.defs (F := Ideal)) (onTc (τ := Cert.UpDownIdeal.τ) (Cert.UpDownIdeal.main (F := Ideal))) ⟨m, fun _ => 0, g⟩ (fun r => (∀ c : Dev Cert.UpDownIdeal.nD,
      r.2.mem ((c.tc : Thread Cert.UpDownIdeal.nD Cert.UpDownIdeal.τ).loc Cert.UpDownIdeal.main_arg0) = m ((c.tc : Thread Cert.UpDownIdeal.nD Cert.UpDownIdeal.τ).loc Cert.UpDownIdeal.main_arg0)
      ∧ r.2.mem ((c.tc : Thread Cert.UpDownIdeal.nD Cert.UpDownIdeal.τ).loc Cert.UpDownIdeal.main_arg1) = m ((c.tc : Thread Cert.UpDownIdeal.nD Cert.UpDownIdeal.τ).loc Cert.UpDownIdeal.main_arg1)
      ∧ r.2.mem ((c.tc : Thread Cert.UpDownIdeal.nD Cert.UpDownIdeal.τ).loc Cert.UpDownIdeal.main_arg2) = m ((c.tc : Thread Cert.UpDownIdeal.nD Cert.UpDownIdeal.τ).loc Cert.UpDownIdeal.main_arg2)
      ∧ r.2.mem ((c.tc : Thread Cert.UpDownIdeal.nD Cert.UpDownIdeal.τ).loc Cert.UpDownIdeal.main_arg3) = m ((c.tc : Thread Cert.UpDownIdeal.nD Cert.UpDownIdeal.τ).loc Cert.UpDownIdeal.main_arg3))
      ∧ r.2.sem = fun _ => 0)

def quiescent_UpDownRefIdeal [hUpDownRefIdeal : Cert.UpDownRefIdeal.Facts] : Prop :=
  ∀ (m : (ℓ : Loc Cert.UpDownRefIdeal.nD Cert.UpDownRefIdeal.τ Cert.UpDownRefIdeal.sig) → Buf (Elt Ideal) ℓ) (g : Dev Cert.UpDownRefIdeal.nD → PrngReg), Pre_UpDownRefIdeal m →
    θ_run (Cert.UpDownRefIdeal.defs (F := Ideal)) (onTc (τ := Cert.UpDownRefIdeal.τ) (Cert.UpDownRefIdeal.main (F := Ideal))) ⟨m, fun _ => 0, g⟩ (fun r => (∀ c : Dev Cert.UpDownRefIdeal.nD,
      r.2.mem ((c.tc : Thread Cert.UpDownRefIdeal.nD Cert.UpDownRefIdeal.τ).loc Cert.UpDownRefIdeal.main_arg0) = m ((c.tc : Thread Cert.UpDownRefIdeal.nD Cert.UpDownRefIdeal.τ).loc Cert.UpDownRefIdeal.main_arg0)
      ∧ r.2.mem ((c.tc : Thread Cert.UpDownRefIdeal.nD Cert.UpDownRefIdeal.τ).loc Cert.UpDownRefIdeal.main_arg1) = m ((c.tc : Thread Cert.UpDownRefIdeal.nD Cert.UpDownRefIdeal.τ).loc Cert.UpDownRefIdeal.main_arg1)
      ∧ r.2.mem ((c.tc : Thread Cert.UpDownRefIdeal.nD Cert.UpDownRefIdeal.τ).loc Cert.UpDownRefIdeal.main_arg2) = m ((c.tc : Thread Cert.UpDownRefIdeal.nD Cert.UpDownRefIdeal.τ).loc Cert.UpDownRefIdeal.main_arg2)
      ∧ r.2.mem ((c.tc : Thread Cert.UpDownRefIdeal.nD Cert.UpDownRefIdeal.τ).loc Cert.UpDownRefIdeal.main_arg3) = m ((c.tc : Thread Cert.UpDownRefIdeal.nD Cert.UpDownRefIdeal.τ).loc Cert.UpDownRefIdeal.main_arg3))
      ∧ r.2.sem = fun _ => 0)

def quiescent_UpIn [hUpIn : Cert.UpIn.Facts] : Prop :=
  ∀ (m : (ℓ : Loc Cert.UpIn.nD Cert.UpIn.τ Cert.UpIn.sig) → Buf (Elt Bits) ℓ) (g : Dev Cert.UpIn.nD → PrngReg), Pre_UpIn m →
    θ_run (Cert.UpIn.defs (F := Bits)) (onTc (τ := Cert.UpIn.τ) (Cert.UpIn.main (F := Bits))) ⟨m, fun _ => 0, g⟩ (fun r => (∀ c : Dev Cert.UpIn.nD,
      r.2.mem ((c.tc : Thread Cert.UpIn.nD Cert.UpIn.τ).loc Cert.UpIn.main_arg0) = m ((c.tc : Thread Cert.UpIn.nD Cert.UpIn.τ).loc Cert.UpIn.main_arg0)
      ∧ r.2.mem ((c.tc : Thread Cert.UpIn.nD Cert.UpIn.τ).loc Cert.UpIn.main_arg1) = m ((c.tc : Thread Cert.UpIn.nD Cert.UpIn.τ).loc Cert.UpIn.main_arg1)
      ∧ r.2.mem ((c.tc : Thread Cert.UpIn.nD Cert.UpIn.τ).loc Cert.UpIn.main_arg2) = m ((c.tc : Thread Cert.UpIn.nD Cert.UpIn.τ).loc Cert.UpIn.main_arg2)
      ∧ r.2.mem ((c.tc : Thread Cert.UpIn.nD Cert.UpIn.τ).loc Cert.UpIn.main_arg3) = m ((c.tc : Thread Cert.UpIn.nD Cert.UpIn.τ).loc Cert.UpIn.main_arg3))
      ∧ r.2.sem = fun _ => 0)

def quiescent_UpInIdeal [hUpInIdeal : Cert.UpInIdeal.Facts] : Prop :=
  ∀ (m : (ℓ : Loc Cert.UpInIdeal.nD Cert.UpInIdeal.τ Cert.UpInIdeal.sig) → Buf (Elt Ideal) ℓ) (g : Dev Cert.UpInIdeal.nD → PrngReg), Pre_UpInIdeal m →
    θ_run (Cert.UpInIdeal.defs (F := Ideal)) (onTc (τ := Cert.UpInIdeal.τ) (Cert.UpInIdeal.main (F := Ideal))) ⟨m, fun _ => 0, g⟩ (fun r => (∀ c : Dev Cert.UpInIdeal.nD,
      r.2.mem ((c.tc : Thread Cert.UpInIdeal.nD Cert.UpInIdeal.τ).loc Cert.UpInIdeal.main_arg0) = m ((c.tc : Thread Cert.UpInIdeal.nD Cert.UpInIdeal.τ).loc Cert.UpInIdeal.main_arg0)
      ∧ r.2.mem ((c.tc : Thread Cert.UpInIdeal.nD Cert.UpInIdeal.τ).loc Cert.UpInIdeal.main_arg1) = m ((c.tc : Thread Cert.UpInIdeal.nD Cert.UpInIdeal.τ).loc Cert.UpInIdeal.main_arg1)
      ∧ r.2.mem ((c.tc : Thread Cert.UpInIdeal.nD Cert.UpInIdeal.τ).loc Cert.UpInIdeal.main_arg2) = m ((c.tc : Thread Cert.UpInIdeal.nD Cert.UpInIdeal.τ).loc Cert.UpInIdeal.main_arg2)
      ∧ r.2.mem ((c.tc : Thread Cert.UpInIdeal.nD Cert.UpInIdeal.τ).loc Cert.UpInIdeal.main_arg3) = m ((c.tc : Thread Cert.UpInIdeal.nD Cert.UpInIdeal.τ).loc Cert.UpInIdeal.main_arg3))
      ∧ r.2.sem = fun _ => 0)

def quiescent_UpInRefIdeal [hUpInRefIdeal : Cert.UpInRefIdeal.Facts] : Prop :=
  ∀ (m : (ℓ : Loc Cert.UpInRefIdeal.nD Cert.UpInRefIdeal.τ Cert.UpInRefIdeal.sig) → Buf (Elt Ideal) ℓ) (g : Dev Cert.UpInRefIdeal.nD → PrngReg), Pre_UpInRefIdeal m →
    θ_run (Cert.UpInRefIdeal.defs (F := Ideal)) (onTc (τ := Cert.UpInRefIdeal.τ) (Cert.UpInRefIdeal.main (F := Ideal))) ⟨m, fun _ => 0, g⟩ (fun r => (∀ c : Dev Cert.UpInRefIdeal.nD,
      r.2.mem ((c.tc : Thread Cert.UpInRefIdeal.nD Cert.UpInRefIdeal.τ).loc Cert.UpInRefIdeal.main_arg0) = m ((c.tc : Thread Cert.UpInRefIdeal.nD Cert.UpInRefIdeal.τ).loc Cert.UpInRefIdeal.main_arg0)
      ∧ r.2.mem ((c.tc : Thread Cert.UpInRefIdeal.nD Cert.UpInRefIdeal.τ).loc Cert.UpInRefIdeal.main_arg1) = m ((c.tc : Thread Cert.UpInRefIdeal.nD Cert.UpInRefIdeal.τ).loc Cert.UpInRefIdeal.main_arg1)
      ∧ r.2.mem ((c.tc : Thread Cert.UpInRefIdeal.nD Cert.UpInRefIdeal.τ).loc Cert.UpInRefIdeal.main_arg2) = m ((c.tc : Thread Cert.UpInRefIdeal.nD Cert.UpInRefIdeal.τ).loc Cert.UpInRefIdeal.main_arg2)
      ∧ r.2.mem ((c.tc : Thread Cert.UpInRefIdeal.nD Cert.UpInRefIdeal.τ).loc Cert.UpInRefIdeal.main_arg3) = m ((c.tc : Thread Cert.UpInRefIdeal.nD Cert.UpInRefIdeal.τ).loc Cert.UpInRefIdeal.main_arg3))
      ∧ r.2.sem = fun _ => 0)

def quiescent_UpUq [hUpUq : Cert.UpUq.Facts] : Prop :=
  ∀ (m : (ℓ : Loc Cert.UpUq.nD Cert.UpUq.τ Cert.UpUq.sig) → Buf (Elt Bits) ℓ) (g : Dev Cert.UpUq.nD → PrngReg), Pre_UpUq m →
    θ_run (Cert.UpUq.defs (F := Bits)) (onTc (τ := Cert.UpUq.τ) (Cert.UpUq.main (F := Bits))) ⟨m, fun _ => 0, g⟩ (fun r => (∀ c : Dev Cert.UpUq.nD,
      r.2.mem ((c.tc : Thread Cert.UpUq.nD Cert.UpUq.τ).loc Cert.UpUq.main_arg0) = m ((c.tc : Thread Cert.UpUq.nD Cert.UpUq.τ).loc Cert.UpUq.main_arg0)
      ∧ r.2.mem ((c.tc : Thread Cert.UpUq.nD Cert.UpUq.τ).loc Cert.UpUq.main_arg1) = m ((c.tc : Thread Cert.UpUq.nD Cert.UpUq.τ).loc Cert.UpUq.main_arg1)
      ∧ r.2.mem ((c.tc : Thread Cert.UpUq.nD Cert.UpUq.τ).loc Cert.UpUq.main_arg2) = m ((c.tc : Thread Cert.UpUq.nD Cert.UpUq.τ).loc Cert.UpUq.main_arg2)
      ∧ r.2.mem ((c.tc : Thread Cert.UpUq.nD Cert.UpUq.τ).loc Cert.UpUq.main_arg3) = m ((c.tc : Thread Cert.UpUq.nD Cert.UpUq.τ).loc Cert.UpUq.main_arg3))
      ∧ r.2.sem = fun _ => 0)

def quiescent_UpUqIdeal [hUpUqIdeal : Cert.UpUqIdeal.Facts] : Prop :=
  ∀ (m : (ℓ : Loc Cert.UpUqIdeal.nD Cert.UpUqIdeal.τ Cert.UpUqIdeal.sig) → Buf (Elt Ideal) ℓ) (g : Dev Cert.UpUqIdeal.nD → PrngReg), Pre_UpUqIdeal m →
    θ_run (Cert.UpUqIdeal.defs (F := Ideal)) (onTc (τ := Cert.UpUqIdeal.τ) (Cert.UpUqIdeal.main (F := Ideal))) ⟨m, fun _ => 0, g⟩ (fun r => (∀ c : Dev Cert.UpUqIdeal.nD,
      r.2.mem ((c.tc : Thread Cert.UpUqIdeal.nD Cert.UpUqIdeal.τ).loc Cert.UpUqIdeal.main_arg0) = m ((c.tc : Thread Cert.UpUqIdeal.nD Cert.UpUqIdeal.τ).loc Cert.UpUqIdeal.main_arg0)
      ∧ r.2.mem ((c.tc : Thread Cert.UpUqIdeal.nD Cert.UpUqIdeal.τ).loc Cert.UpUqIdeal.main_arg1) = m ((c.tc : Thread Cert.UpUqIdeal.nD Cert.UpUqIdeal.τ).loc Cert.UpUqIdeal.main_arg1)
      ∧ r.2.mem ((c.tc : Thread Cert.UpUqIdeal.nD Cert.UpUqIdeal.τ).loc Cert.UpUqIdeal.main_arg2) = m ((c.tc : Thread Cert.UpUqIdeal.nD Cert.UpUqIdeal.τ).loc Cert.UpUqIdeal.main_arg2)
      ∧ r.2.mem ((c.tc : Thread Cert.UpUqIdeal.nD Cert.UpUqIdeal.τ).loc Cert.UpUqIdeal.main_arg3) = m ((c.tc : Thread Cert.UpUqIdeal.nD Cert.UpUqIdeal.τ).loc Cert.UpUqIdeal.main_arg3))
      ∧ r.2.sem = fun _ => 0)

def quiescent_UpUqRefIdeal [hUpUqRefIdeal : Cert.UpUqRefIdeal.Facts] : Prop :=
  ∀ (m : (ℓ : Loc Cert.UpUqRefIdeal.nD Cert.UpUqRefIdeal.τ Cert.UpUqRefIdeal.sig) → Buf (Elt Ideal) ℓ) (g : Dev Cert.UpUqRefIdeal.nD → PrngReg), Pre_UpUqRefIdeal m →
    θ_run (Cert.UpUqRefIdeal.defs (F := Ideal)) (onTc (τ := Cert.UpUqRefIdeal.τ) (Cert.UpUqRefIdeal.main (F := Ideal))) ⟨m, fun _ => 0, g⟩ (fun r => (∀ c : Dev Cert.UpUqRefIdeal.nD,
      r.2.mem ((c.tc : Thread Cert.UpUqRefIdeal.nD Cert.UpUqRefIdeal.τ).loc Cert.UpUqRefIdeal.main_arg0) = m ((c.tc : Thread Cert.UpUqRefIdeal.nD Cert.UpUqRefIdeal.τ).loc Cert.UpUqRefIdeal.main_arg0)
      ∧ r.2.mem ((c.tc : Thread Cert.UpUqRefIdeal.nD Cert.UpUqRefIdeal.τ).loc Cert.UpUqRefIdeal.main_arg1) = m ((c.tc : Thread Cert.UpUqRefIdeal.nD Cert.UpUqRefIdeal.τ).loc Cert.UpUqRefIdeal.main_arg1)
      ∧ r.2.mem ((c.tc : Thread Cert.UpUqRefIdeal.nD Cert.UpUqRefIdeal.τ).loc Cert.UpUqRefIdeal.main_arg2) = m ((c.tc : Thread Cert.UpUqRefIdeal.nD Cert.UpUqRefIdeal.τ).loc Cert.UpUqRefIdeal.main_arg2)
      ∧ r.2.mem ((c.tc : Thread Cert.UpUqRefIdeal.nD Cert.UpUqRefIdeal.τ).loc Cert.UpUqRefIdeal.main_arg3) = m ((c.tc : Thread Cert.UpUqRefIdeal.nD Cert.UpUqRefIdeal.τ).loc Cert.UpUqRefIdeal.main_arg3))
      ∧ r.2.sem = fun _ => 0)

def quiescent_UpUkv [hUpUkv : Cert.UpUkv.Facts] : Prop :=
  ∀ (m : (ℓ : Loc Cert.UpUkv.nD Cert.UpUkv.τ Cert.UpUkv.sig) → Buf (Elt Bits) ℓ) (g : Dev Cert.UpUkv.nD → PrngReg), Pre_UpUkv m →
    θ_run (Cert.UpUkv.defs (F := Bits)) (onTc (τ := Cert.UpUkv.τ) (Cert.UpUkv.main (F := Bits))) ⟨m, fun _ => 0, g⟩ (fun r => (∀ c : Dev Cert.UpUkv.nD,
      r.2.mem ((c.tc : Thread Cert.UpUkv.nD Cert.UpUkv.τ).loc Cert.UpUkv.main_arg0) = m ((c.tc : Thread Cert.UpUkv.nD Cert.UpUkv.τ).loc Cert.UpUkv.main_arg0)
      ∧ r.2.mem ((c.tc : Thread Cert.UpUkv.nD Cert.UpUkv.τ).loc Cert.UpUkv.main_arg1) = m ((c.tc : Thread Cert.UpUkv.nD Cert.UpUkv.τ).loc Cert.UpUkv.main_arg1)
      ∧ r.2.mem ((c.tc : Thread Cert.UpUkv.nD Cert.UpUkv.τ).loc Cert.UpUkv.main_arg2) = m ((c.tc : Thread Cert.UpUkv.nD Cert.UpUkv.τ).loc Cert.UpUkv.main_arg2)
      ∧ r.2.mem ((c.tc : Thread Cert.UpUkv.nD Cert.UpUkv.τ).loc Cert.UpUkv.main_arg3) = m ((c.tc : Thread Cert.UpUkv.nD Cert.UpUkv.τ).loc Cert.UpUkv.main_arg3))
      ∧ r.2.sem = fun _ => 0)

def quiescent_UpUkvIdeal [hUpUkvIdeal : Cert.UpUkvIdeal.Facts] : Prop :=
  ∀ (m : (ℓ : Loc Cert.UpUkvIdeal.nD Cert.UpUkvIdeal.τ Cert.UpUkvIdeal.sig) → Buf (Elt Ideal) ℓ) (g : Dev Cert.UpUkvIdeal.nD → PrngReg), Pre_UpUkvIdeal m →
    θ_run (Cert.UpUkvIdeal.defs (F := Ideal)) (onTc (τ := Cert.UpUkvIdeal.τ) (Cert.UpUkvIdeal.main (F := Ideal))) ⟨m, fun _ => 0, g⟩ (fun r => (∀ c : Dev Cert.UpUkvIdeal.nD,
      r.2.mem ((c.tc : Thread Cert.UpUkvIdeal.nD Cert.UpUkvIdeal.τ).loc Cert.UpUkvIdeal.main_arg0) = m ((c.tc : Thread Cert.UpUkvIdeal.nD Cert.UpUkvIdeal.τ).loc Cert.UpUkvIdeal.main_arg0)
      ∧ r.2.mem ((c.tc : Thread Cert.UpUkvIdeal.nD Cert.UpUkvIdeal.τ).loc Cert.UpUkvIdeal.main_arg1) = m ((c.tc : Thread Cert.UpUkvIdeal.nD Cert.UpUkvIdeal.τ).loc Cert.UpUkvIdeal.main_arg1)
      ∧ r.2.mem ((c.tc : Thread Cert.UpUkvIdeal.nD Cert.UpUkvIdeal.τ).loc Cert.UpUkvIdeal.main_arg2) = m ((c.tc : Thread Cert.UpUkvIdeal.nD Cert.UpUkvIdeal.τ).loc Cert.UpUkvIdeal.main_arg2)
      ∧ r.2.mem ((c.tc : Thread Cert.UpUkvIdeal.nD Cert.UpUkvIdeal.τ).loc Cert.UpUkvIdeal.main_arg3) = m ((c.tc : Thread Cert.UpUkvIdeal.nD Cert.UpUkvIdeal.τ).loc Cert.UpUkvIdeal.main_arg3))
      ∧ r.2.sem = fun _ => 0)

def quiescent_UpUkvRefIdeal [hUpUkvRefIdeal : Cert.UpUkvRefIdeal.Facts] : Prop :=
  ∀ (m : (ℓ : Loc Cert.UpUkvRefIdeal.nD Cert.UpUkvRefIdeal.τ Cert.UpUkvRefIdeal.sig) → Buf (Elt Ideal) ℓ) (g : Dev Cert.UpUkvRefIdeal.nD → PrngReg), Pre_UpUkvRefIdeal m →
    θ_run (Cert.UpUkvRefIdeal.defs (F := Ideal)) (onTc (τ := Cert.UpUkvRefIdeal.τ) (Cert.UpUkvRefIdeal.main (F := Ideal))) ⟨m, fun _ => 0, g⟩ (fun r => (∀ c : Dev Cert.UpUkvRefIdeal.nD,
      r.2.mem ((c.tc : Thread Cert.UpUkvRefIdeal.nD Cert.UpUkvRefIdeal.τ).loc Cert.UpUkvRefIdeal.main_arg0) = m ((c.tc : Thread Cert.UpUkvRefIdeal.nD Cert.UpUkvRefIdeal.τ).loc Cert.UpUkvRefIdeal.main_arg0)
      ∧ r.2.mem ((c.tc : Thread Cert.UpUkvRefIdeal.nD Cert.UpUkvRefIdeal.τ).loc Cert.UpUkvRefIdeal.main_arg1) = m ((c.tc : Thread Cert.UpUkvRefIdeal.nD Cert.UpUkvRefIdeal.τ).loc Cert.UpUkvRefIdeal.main_arg1)
      ∧ r.2.mem ((c.tc : Thread Cert.UpUkvRefIdeal.nD Cert.UpUkvRefIdeal.τ).loc Cert.UpUkvRefIdeal.main_arg2) = m ((c.tc : Thread Cert.UpUkvRefIdeal.nD Cert.UpUkvRefIdeal.τ).loc Cert.UpUkvRefIdeal.main_arg2)
      ∧ r.2.mem ((c.tc : Thread Cert.UpUkvRefIdeal.nD Cert.UpUkvRefIdeal.τ).loc Cert.UpUkvRefIdeal.main_arg3) = m ((c.tc : Thread Cert.UpUkvRefIdeal.nD Cert.UpUkvRefIdeal.τ).loc Cert.UpUkvRefIdeal.main_arg3))
      ∧ r.2.sem = fun _ => 0)

def quiescent_UpOut [hUpOut : Cert.UpOut.Facts] : Prop :=
  ∀ (m : (ℓ : Loc Cert.UpOut.nD Cert.UpOut.τ Cert.UpOut.sig) → Buf (Elt Bits) ℓ) (g : Dev Cert.UpOut.nD → PrngReg), Pre_UpOut m →
    θ_run (Cert.UpOut.defs (F := Bits)) (onTc (τ := Cert.UpOut.τ) (Cert.UpOut.main (F := Bits))) ⟨m, fun _ => 0, g⟩ (fun r => (∀ c : Dev Cert.UpOut.nD,
      r.2.mem ((c.tc : Thread Cert.UpOut.nD Cert.UpOut.τ).loc Cert.UpOut.main_arg0) = m ((c.tc : Thread Cert.UpOut.nD Cert.UpOut.τ).loc Cert.UpOut.main_arg0)
      ∧ r.2.mem ((c.tc : Thread Cert.UpOut.nD Cert.UpOut.τ).loc Cert.UpOut.main_arg1) = m ((c.tc : Thread Cert.UpOut.nD Cert.UpOut.τ).loc Cert.UpOut.main_arg1)
      ∧ r.2.mem ((c.tc : Thread Cert.UpOut.nD Cert.UpOut.τ).loc Cert.UpOut.main_arg2) = m ((c.tc : Thread Cert.UpOut.nD Cert.UpOut.τ).loc Cert.UpOut.main_arg2)
      ∧ r.2.mem ((c.tc : Thread Cert.UpOut.nD Cert.UpOut.τ).loc Cert.UpOut.main_arg3) = m ((c.tc : Thread Cert.UpOut.nD Cert.UpOut.τ).loc Cert.UpOut.main_arg3))
      ∧ r.2.sem = fun _ => 0)

def quiescent_UpOutIdeal [hUpOutIdeal : Cert.UpOutIdeal.Facts] : Prop :=
  ∀ (m : (ℓ : Loc Cert.UpOutIdeal.nD Cert.UpOutIdeal.τ Cert.UpOutIdeal.sig) → Buf (Elt Ideal) ℓ) (g : Dev Cert.UpOutIdeal.nD → PrngReg), Pre_UpOutIdeal m →
    θ_run (Cert.UpOutIdeal.defs (F := Ideal)) (onTc (τ := Cert.UpOutIdeal.τ) (Cert.UpOutIdeal.main (F := Ideal))) ⟨m, fun _ => 0, g⟩ (fun r => (∀ c : Dev Cert.UpOutIdeal.nD,
      r.2.mem ((c.tc : Thread Cert.UpOutIdeal.nD Cert.UpOutIdeal.τ).loc Cert.UpOutIdeal.main_arg0) = m ((c.tc : Thread Cert.UpOutIdeal.nD Cert.UpOutIdeal.τ).loc Cert.UpOutIdeal.main_arg0)
      ∧ r.2.mem ((c.tc : Thread Cert.UpOutIdeal.nD Cert.UpOutIdeal.τ).loc Cert.UpOutIdeal.main_arg1) = m ((c.tc : Thread Cert.UpOutIdeal.nD Cert.UpOutIdeal.τ).loc Cert.UpOutIdeal.main_arg1)
      ∧ r.2.mem ((c.tc : Thread Cert.UpOutIdeal.nD Cert.UpOutIdeal.τ).loc Cert.UpOutIdeal.main_arg2) = m ((c.tc : Thread Cert.UpOutIdeal.nD Cert.UpOutIdeal.τ).loc Cert.UpOutIdeal.main_arg2)
      ∧ r.2.mem ((c.tc : Thread Cert.UpOutIdeal.nD Cert.UpOutIdeal.τ).loc Cert.UpOutIdeal.main_arg3) = m ((c.tc : Thread Cert.UpOutIdeal.nD Cert.UpOutIdeal.τ).loc Cert.UpOutIdeal.main_arg3))
      ∧ r.2.sem = fun _ => 0)

def quiescent_UpOutRefIdeal [hUpOutRefIdeal : Cert.UpOutRefIdeal.Facts] : Prop :=
  ∀ (m : (ℓ : Loc Cert.UpOutRefIdeal.nD Cert.UpOutRefIdeal.τ Cert.UpOutRefIdeal.sig) → Buf (Elt Ideal) ℓ) (g : Dev Cert.UpOutRefIdeal.nD → PrngReg), Pre_UpOutRefIdeal m →
    θ_run (Cert.UpOutRefIdeal.defs (F := Ideal)) (onTc (τ := Cert.UpOutRefIdeal.τ) (Cert.UpOutRefIdeal.main (F := Ideal))) ⟨m, fun _ => 0, g⟩ (fun r => (∀ c : Dev Cert.UpOutRefIdeal.nD,
      r.2.mem ((c.tc : Thread Cert.UpOutRefIdeal.nD Cert.UpOutRefIdeal.τ).loc Cert.UpOutRefIdeal.main_arg0) = m ((c.tc : Thread Cert.UpOutRefIdeal.nD Cert.UpOutRefIdeal.τ).loc Cert.UpOutRefIdeal.main_arg0)
      ∧ r.2.mem ((c.tc : Thread Cert.UpOutRefIdeal.nD Cert.UpOutRefIdeal.τ).loc Cert.UpOutRefIdeal.main_arg1) = m ((c.tc : Thread Cert.UpOutRefIdeal.nD Cert.UpOutRefIdeal.τ).loc Cert.UpOutRefIdeal.main_arg1)
      ∧ r.2.mem ((c.tc : Thread Cert.UpOutRefIdeal.nD Cert.UpOutRefIdeal.τ).loc Cert.UpOutRefIdeal.main_arg2) = m ((c.tc : Thread Cert.UpOutRefIdeal.nD Cert.UpOutRefIdeal.τ).loc Cert.UpOutRefIdeal.main_arg2)
      ∧ r.2.mem ((c.tc : Thread Cert.UpOutRefIdeal.nD Cert.UpOutRefIdeal.τ).loc Cert.UpOutRefIdeal.main_arg3) = m ((c.tc : Thread Cert.UpOutRefIdeal.nD Cert.UpOutRefIdeal.τ).loc Cert.UpOutRefIdeal.main_arg3))
      ∧ r.2.sem = fun _ => 0)

def quiescent_UpConv [hUpConv : Cert.UpConv.Facts] : Prop :=
  ∀ (m : (ℓ : Loc Cert.UpConv.nD Cert.UpConv.τ Cert.UpConv.sig) → Buf (Elt Bits) ℓ) (g : Dev Cert.UpConv.nD → PrngReg), Pre_UpConv m →
    θ_run (Cert.UpConv.defs (F := Bits)) (onTc (τ := Cert.UpConv.τ) (Cert.UpConv.main (F := Bits))) ⟨m, fun _ => 0, g⟩ (fun r => (∀ c : Dev Cert.UpConv.nD,
      r.2.mem ((c.tc : Thread Cert.UpConv.nD Cert.UpConv.τ).loc Cert.UpConv.main_arg0) = m ((c.tc : Thread Cert.UpConv.nD Cert.UpConv.τ).loc Cert.UpConv.main_arg0)
      ∧ r.2.mem ((c.tc : Thread Cert.UpConv.nD Cert.UpConv.τ).loc Cert.UpConv.main_arg1) = m ((c.tc : Thread Cert.UpConv.nD Cert.UpConv.τ).loc Cert.UpConv.main_arg1)
      ∧ r.2.mem ((c.tc : Thread Cert.UpConv.nD Cert.UpConv.τ).loc Cert.UpConv.main_arg2) = m ((c.tc : Thread Cert.UpConv.nD Cert.UpConv.τ).loc Cert.UpConv.main_arg2)
      ∧ r.2.mem ((c.tc : Thread Cert.UpConv.nD Cert.UpConv.τ).loc Cert.UpConv.main_arg3) = m ((c.tc : Thread Cert.UpConv.nD Cert.UpConv.τ).loc Cert.UpConv.main_arg3))
      ∧ r.2.sem = fun _ => 0)

def quiescent_UpConvIdeal [hUpConvIdeal : Cert.UpConvIdeal.Facts] : Prop :=
  ∀ (m : (ℓ : Loc Cert.UpConvIdeal.nD Cert.UpConvIdeal.τ Cert.UpConvIdeal.sig) → Buf (Elt Ideal) ℓ) (g : Dev Cert.UpConvIdeal.nD → PrngReg), Pre_UpConvIdeal m →
    θ_run (Cert.UpConvIdeal.defs (F := Ideal)) (onTc (τ := Cert.UpConvIdeal.τ) (Cert.UpConvIdeal.main (F := Ideal))) ⟨m, fun _ => 0, g⟩ (fun r => (∀ c : Dev Cert.UpConvIdeal.nD,
      r.2.mem ((c.tc : Thread Cert.UpConvIdeal.nD Cert.UpConvIdeal.τ).loc Cert.UpConvIdeal.main_arg0) = m ((c.tc : Thread Cert.UpConvIdeal.nD Cert.UpConvIdeal.τ).loc Cert.UpConvIdeal.main_arg0)
      ∧ r.2.mem ((c.tc : Thread Cert.UpConvIdeal.nD Cert.UpConvIdeal.τ).loc Cert.UpConvIdeal.main_arg1) = m ((c.tc : Thread Cert.UpConvIdeal.nD Cert.UpConvIdeal.τ).loc Cert.UpConvIdeal.main_arg1)
      ∧ r.2.mem ((c.tc : Thread Cert.UpConvIdeal.nD Cert.UpConvIdeal.τ).loc Cert.UpConvIdeal.main_arg2) = m ((c.tc : Thread Cert.UpConvIdeal.nD Cert.UpConvIdeal.τ).loc Cert.UpConvIdeal.main_arg2)
      ∧ r.2.mem ((c.tc : Thread Cert.UpConvIdeal.nD Cert.UpConvIdeal.τ).loc Cert.UpConvIdeal.main_arg3) = m ((c.tc : Thread Cert.UpConvIdeal.nD Cert.UpConvIdeal.τ).loc Cert.UpConvIdeal.main_arg3))
      ∧ r.2.sem = fun _ => 0)

def quiescent_UpConvRefIdeal [hUpConvRefIdeal : Cert.UpConvRefIdeal.Facts] : Prop :=
  ∀ (m : (ℓ : Loc Cert.UpConvRefIdeal.nD Cert.UpConvRefIdeal.τ Cert.UpConvRefIdeal.sig) → Buf (Elt Ideal) ℓ) (g : Dev Cert.UpConvRefIdeal.nD → PrngReg), Pre_UpConvRefIdeal m →
    θ_run (Cert.UpConvRefIdeal.defs (F := Ideal)) (onTc (τ := Cert.UpConvRefIdeal.τ) (Cert.UpConvRefIdeal.main (F := Ideal))) ⟨m, fun _ => 0, g⟩ (fun r => (∀ c : Dev Cert.UpConvRefIdeal.nD,
      r.2.mem ((c.tc : Thread Cert.UpConvRefIdeal.nD Cert.UpConvRefIdeal.τ).loc Cert.UpConvRefIdeal.main_arg0) = m ((c.tc : Thread Cert.UpConvRefIdeal.nD Cert.UpConvRefIdeal.τ).loc Cert.UpConvRefIdeal.main_arg0)
      ∧ r.2.mem ((c.tc : Thread Cert.UpConvRefIdeal.nD Cert.UpConvRefIdeal.τ).loc Cert.UpConvRefIdeal.main_arg1) = m ((c.tc : Thread Cert.UpConvRefIdeal.nD Cert.UpConvRefIdeal.τ).loc Cert.UpConvRefIdeal.main_arg1)
      ∧ r.2.mem ((c.tc : Thread Cert.UpConvRefIdeal.nD Cert.UpConvRefIdeal.τ).loc Cert.UpConvRefIdeal.main_arg2) = m ((c.tc : Thread Cert.UpConvRefIdeal.nD Cert.UpConvRefIdeal.τ).loc Cert.UpConvRefIdeal.main_arg2)
      ∧ r.2.mem ((c.tc : Thread Cert.UpConvRefIdeal.nD Cert.UpConvRefIdeal.τ).loc Cert.UpConvRefIdeal.main_arg3) = m ((c.tc : Thread Cert.UpConvRefIdeal.nD Cert.UpConvRefIdeal.τ).loc Cert.UpConvRefIdeal.main_arg3))
      ∧ r.2.sem = fun _ => 0)

def quiescent_UpVectors [hUpVectors : Cert.UpVectors.Facts] : Prop :=
  ∀ (m : (ℓ : Loc Cert.UpVectors.nD Cert.UpVectors.τ Cert.UpVectors.sig) → Buf (Elt Bits) ℓ) (g : Dev Cert.UpVectors.nD → PrngReg), Pre_UpVectors m →
    θ_run (Cert.UpVectors.defs (F := Bits)) (onTc (τ := Cert.UpVectors.τ) (Cert.UpVectors.main (F := Bits))) ⟨m, fun _ => 0, g⟩ (fun r => (∀ c : Dev Cert.UpVectors.nD,
      r.2.mem ((c.tc : Thread Cert.UpVectors.nD Cert.UpVectors.τ).loc Cert.UpVectors.main_arg0) = m ((c.tc : Thread Cert.UpVectors.nD Cert.UpVectors.τ).loc Cert.UpVectors.main_arg0)
      ∧ r.2.mem ((c.tc : Thread Cert.UpVectors.nD Cert.UpVectors.τ).loc Cert.UpVectors.main_arg1) = m ((c.tc : Thread Cert.UpVectors.nD Cert.UpVectors.τ).loc Cert.UpVectors.main_arg1)
      ∧ r.2.mem ((c.tc : Thread Cert.UpVectors.nD Cert.UpVectors.τ).loc Cert.UpVectors.main_arg2) = m ((c.tc : Thread Cert.UpVectors.nD Cert.UpVectors.τ).loc Cert.UpVectors.main_arg2)
      ∧ r.2.mem ((c.tc : Thread Cert.UpVectors.nD Cert.UpVectors.τ).loc Cert.UpVectors.main_arg3) = m ((c.tc : Thread Cert.UpVectors.nD Cert.UpVectors.τ).loc Cert.UpVectors.main_arg3))
      ∧ r.2.sem = fun _ => 0)

def quiescent_UpVectorsIdeal [hUpVectorsIdeal : Cert.UpVectorsIdeal.Facts] : Prop :=
  ∀ (m : (ℓ : Loc Cert.UpVectorsIdeal.nD Cert.UpVectorsIdeal.τ Cert.UpVectorsIdeal.sig) → Buf (Elt Ideal) ℓ) (g : Dev Cert.UpVectorsIdeal.nD → PrngReg), Pre_UpVectorsIdeal m →
    θ_run (Cert.UpVectorsIdeal.defs (F := Ideal)) (onTc (τ := Cert.UpVectorsIdeal.τ) (Cert.UpVectorsIdeal.main (F := Ideal))) ⟨m, fun _ => 0, g⟩ (fun r => (∀ c : Dev Cert.UpVectorsIdeal.nD,
      r.2.mem ((c.tc : Thread Cert.UpVectorsIdeal.nD Cert.UpVectorsIdeal.τ).loc Cert.UpVectorsIdeal.main_arg0) = m ((c.tc : Thread Cert.UpVectorsIdeal.nD Cert.UpVectorsIdeal.τ).loc Cert.UpVectorsIdeal.main_arg0)
      ∧ r.2.mem ((c.tc : Thread Cert.UpVectorsIdeal.nD Cert.UpVectorsIdeal.τ).loc Cert.UpVectorsIdeal.main_arg1) = m ((c.tc : Thread Cert.UpVectorsIdeal.nD Cert.UpVectorsIdeal.τ).loc Cert.UpVectorsIdeal.main_arg1)
      ∧ r.2.mem ((c.tc : Thread Cert.UpVectorsIdeal.nD Cert.UpVectorsIdeal.τ).loc Cert.UpVectorsIdeal.main_arg2) = m ((c.tc : Thread Cert.UpVectorsIdeal.nD Cert.UpVectorsIdeal.τ).loc Cert.UpVectorsIdeal.main_arg2)
      ∧ r.2.mem ((c.tc : Thread Cert.UpVectorsIdeal.nD Cert.UpVectorsIdeal.τ).loc Cert.UpVectorsIdeal.main_arg3) = m ((c.tc : Thread Cert.UpVectorsIdeal.nD Cert.UpVectorsIdeal.τ).loc Cert.UpVectorsIdeal.main_arg3))
      ∧ r.2.sem = fun _ => 0)

def quiescent_UpVectorsRefIdeal [hUpVectorsRefIdeal : Cert.UpVectorsRefIdeal.Facts] : Prop :=
  ∀ (m : (ℓ : Loc Cert.UpVectorsRefIdeal.nD Cert.UpVectorsRefIdeal.τ Cert.UpVectorsRefIdeal.sig) → Buf (Elt Ideal) ℓ) (g : Dev Cert.UpVectorsRefIdeal.nD → PrngReg), Pre_UpVectorsRefIdeal m →
    θ_run (Cert.UpVectorsRefIdeal.defs (F := Ideal)) (onTc (τ := Cert.UpVectorsRefIdeal.τ) (Cert.UpVectorsRefIdeal.main (F := Ideal))) ⟨m, fun _ => 0, g⟩ (fun r => (∀ c : Dev Cert.UpVectorsRefIdeal.nD,
      r.2.mem ((c.tc : Thread Cert.UpVectorsRefIdeal.nD Cert.UpVectorsRefIdeal.τ).loc Cert.UpVectorsRefIdeal.main_arg0) = m ((c.tc : Thread Cert.UpVectorsRefIdeal.nD Cert.UpVectorsRefIdeal.τ).loc Cert.UpVectorsRefIdeal.main_arg0)
      ∧ r.2.mem ((c.tc : Thread Cert.UpVectorsRefIdeal.nD Cert.UpVectorsRefIdeal.τ).loc Cert.UpVectorsRefIdeal.main_arg1) = m ((c.tc : Thread Cert.UpVectorsRefIdeal.nD Cert.UpVectorsRefIdeal.τ).loc Cert.UpVectorsRefIdeal.main_arg1)
      ∧ r.2.mem ((c.tc : Thread Cert.UpVectorsRefIdeal.nD Cert.UpVectorsRefIdeal.τ).loc Cert.UpVectorsRefIdeal.main_arg2) = m ((c.tc : Thread Cert.UpVectorsRefIdeal.nD Cert.UpVectorsRefIdeal.τ).loc Cert.UpVectorsRefIdeal.main_arg2)
      ∧ r.2.mem ((c.tc : Thread Cert.UpVectorsRefIdeal.nD Cert.UpVectorsRefIdeal.τ).loc Cert.UpVectorsRefIdeal.main_arg3) = m ((c.tc : Thread Cert.UpVectorsRefIdeal.nD Cert.UpVectorsRefIdeal.τ).loc Cert.UpVectorsRefIdeal.main_arg3))
      ∧ r.2.sem = fun _ => 0)

def quiescent_Small [hSmall : Cert.Small.Facts] : Prop :=
  ∀ (m : (ℓ : Loc Cert.Small.nD Cert.Small.τ Cert.Small.sig) → Buf (Elt Bits) ℓ) (g : Dev Cert.Small.nD → PrngReg), Pre_Small m →
    θ_run (Cert.Small.defs (F := Bits)) (onTc (τ := Cert.Small.τ) (Cert.Small.main (F := Bits))) ⟨m, fun _ => 0, g⟩ (fun r => (∀ c : Dev Cert.Small.nD,
      r.2.mem ((c.tc : Thread Cert.Small.nD Cert.Small.τ).loc Cert.Small.main_arg0) = m ((c.tc : Thread Cert.Small.nD Cert.Small.τ).loc Cert.Small.main_arg0)
      ∧ r.2.mem ((c.tc : Thread Cert.Small.nD Cert.Small.τ).loc Cert.Small.main_arg1) = m ((c.tc : Thread Cert.Small.nD Cert.Small.τ).loc Cert.Small.main_arg1)
      ∧ r.2.mem ((c.tc : Thread Cert.Small.nD Cert.Small.τ).loc Cert.Small.main_arg2) = m ((c.tc : Thread Cert.Small.nD Cert.Small.τ).loc Cert.Small.main_arg2)
      ∧ r.2.mem ((c.tc : Thread Cert.Small.nD Cert.Small.τ).loc Cert.Small.main_arg3) = m ((c.tc : Thread Cert.Small.nD Cert.Small.τ).loc Cert.Small.main_arg3)
      ∧ r.2.mem ((c.tc : Thread Cert.Small.nD Cert.Small.τ).loc Cert.Small.main_arg4) = m ((c.tc : Thread Cert.Small.nD Cert.Small.τ).loc Cert.Small.main_arg4)
      ∧ r.2.mem ((c.tc : Thread Cert.Small.nD Cert.Small.τ).loc Cert.Small.main_arg5) = m ((c.tc : Thread Cert.Small.nD Cert.Small.τ).loc Cert.Small.main_arg5)
      ∧ r.2.mem ((c.tc : Thread Cert.Small.nD Cert.Small.τ).loc Cert.Small.main_arg6) = m ((c.tc : Thread Cert.Small.nD Cert.Small.τ).loc Cert.Small.main_arg6)
      ∧ r.2.mem ((c.tc : Thread Cert.Small.nD Cert.Small.τ).loc Cert.Small.main_arg7) = m ((c.tc : Thread Cert.Small.nD Cert.Small.τ).loc Cert.Small.main_arg7))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
      ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
      ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
      ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3)
      ∧ r.2.mem ((c.tc : Thread Cert.SmallIdeal.nD Cert.SmallIdeal.τ).loc Cert.SmallIdeal.main_arg4) = m ((c.tc : Thread Cert.SmallIdeal.nD Cert.SmallIdeal.τ).loc Cert.SmallIdeal.main_arg4)
      ∧ r.2.mem ((c.tc : Thread Cert.SmallIdeal.nD Cert.SmallIdeal.τ).loc Cert.SmallIdeal.main_arg5) = m ((c.tc : Thread Cert.SmallIdeal.nD Cert.SmallIdeal.τ).loc Cert.SmallIdeal.main_arg5)
      ∧ r.2.mem ((c.tc : Thread Cert.SmallIdeal.nD Cert.SmallIdeal.τ).loc Cert.SmallIdeal.main_arg6) = m ((c.tc : Thread Cert.SmallIdeal.nD Cert.SmallIdeal.τ).loc Cert.SmallIdeal.main_arg6)
      ∧ r.2.mem ((c.tc : Thread Cert.SmallIdeal.nD Cert.SmallIdeal.τ).loc Cert.SmallIdeal.main_arg7) = m ((c.tc : Thread Cert.SmallIdeal.nD Cert.SmallIdeal.τ).loc Cert.SmallIdeal.main_arg7))
      ∧ r.2.sem = fun _ => 0)

def quiescent_SmallRefIdeal [hSmallRefIdeal : Cert.SmallRefIdeal.Facts] : Prop :=
  ∀ (m : (ℓ : Loc Cert.SmallRefIdeal.nD Cert.SmallRefIdeal.τ Cert.SmallRefIdeal.sig) → Buf (Elt Ideal) ℓ) (g : Dev Cert.SmallRefIdeal.nD → PrngReg), Pre_SmallRefIdeal m →
    θ_run (Cert.SmallRefIdeal.defs (F := Ideal)) (onTc (τ := Cert.SmallRefIdeal.τ) (Cert.SmallRefIdeal.main (F := Ideal))) ⟨m, fun _ => 0, g⟩ (fun r => (∀ c : Dev Cert.SmallRefIdeal.nD,
      r.2.mem ((c.tc : Thread Cert.SmallRefIdeal.nD Cert.SmallRefIdeal.τ).loc Cert.SmallRefIdeal.main_arg0) = m ((c.tc : Thread Cert.SmallRefIdeal.nD Cert.SmallRefIdeal.τ).loc Cert.SmallRefIdeal.main_arg0)
      ∧ r.2.mem ((c.tc : Thread Cert.SmallRefIdeal.nD Cert.SmallRefIdeal.τ).loc Cert.SmallRefIdeal.main_arg1) = m ((c.tc : Thread Cert.SmallRefIdeal.nD Cert.SmallRefIdeal.τ).loc Cert.SmallRefIdeal.main_arg1)
      ∧ r.2.mem ((c.tc : Thread Cert.SmallRefIdeal.nD Cert.SmallRefIdeal.τ).loc Cert.SmallRefIdeal.main_arg2) = m ((c.tc : Thread Cert.SmallRefIdeal.nD Cert.SmallRefIdeal.τ).loc Cert.SmallRefIdeal.main_arg2)
      ∧ r.2.mem ((c.tc : Thread Cert.SmallRefIdeal.nD Cert.SmallRefIdeal.τ).loc Cert.SmallRefIdeal.main_arg3) = m ((c.tc : Thread Cert.SmallRefIdeal.nD Cert.SmallRefIdeal.τ).loc Cert.SmallRefIdeal.main_arg3)
      ∧ r.2.mem ((c.tc : Thread Cert.SmallRefIdeal.nD Cert.SmallRefIdeal.τ).loc Cert.SmallRefIdeal.main_arg4) = m ((c.tc : Thread Cert.SmallRefIdeal.nD Cert.SmallRefIdeal.τ).loc Cert.SmallRefIdeal.main_arg4)
      ∧ r.2.mem ((c.tc : Thread Cert.SmallRefIdeal.nD Cert.SmallRefIdeal.τ).loc Cert.SmallRefIdeal.main_arg5) = m ((c.tc : Thread Cert.SmallRefIdeal.nD Cert.SmallRefIdeal.τ).loc Cert.SmallRefIdeal.main_arg5)
      ∧ r.2.mem ((c.tc : Thread Cert.SmallRefIdeal.nD Cert.SmallRefIdeal.τ).loc Cert.SmallRefIdeal.main_arg6) = m ((c.tc : Thread Cert.SmallRefIdeal.nD Cert.SmallRefIdeal.τ).loc Cert.SmallRefIdeal.main_arg6)
      ∧ r.2.mem ((c.tc : Thread Cert.SmallRefIdeal.nD Cert.SmallRefIdeal.τ).loc Cert.SmallRefIdeal.main_arg7) = m ((c.tc : Thread Cert.SmallRefIdeal.nD Cert.SmallRefIdeal.τ).loc Cert.SmallRefIdeal.main_arg7))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2))
      ∧ r.2.sem = fun _ => 0)

def quiescent_FfnDz [hFfnDz : Cert.FfnDz.Facts] : Prop :=
  ∀ (m : (ℓ : Loc Cert.FfnDz.nD Cert.FfnDz.τ Cert.FfnDz.sig) → Buf (Elt Bits) ℓ) (g : Dev Cert.FfnDz.nD → PrngReg), Pre_FfnDz m →
    θ_run (Cert.FfnDz.defs (F := Bits)) (onTc (τ := Cert.FfnDz.τ) (Cert.FfnDz.main (F := Bits))) ⟨m, fun _ => 0, g⟩ (fun r => (∀ c : Dev Cert.FfnDz.nD,
      r.2.mem ((c.tc : Thread Cert.FfnDz.nD Cert.FfnDz.τ).loc Cert.FfnDz.main_arg0) = m ((c.tc : Thread Cert.FfnDz.nD Cert.FfnDz.τ).loc Cert.FfnDz.main_arg0)
      ∧ r.2.mem ((c.tc : Thread Cert.FfnDz.nD Cert.FfnDz.τ).loc Cert.FfnDz.main_arg1) = m ((c.tc : Thread Cert.FfnDz.nD Cert.FfnDz.τ).loc Cert.FfnDz.main_arg1))
      ∧ r.2.sem = fun _ => 0)

def quiescent_FfnDzIdeal [hFfnDzIdeal : Cert.FfnDzIdeal.Facts] : Prop :=
  ∀ (m : (ℓ : Loc Cert.FfnDzIdeal.nD Cert.FfnDzIdeal.τ Cert.FfnDzIdeal.sig) → Buf (Elt Ideal) ℓ) (g : Dev Cert.FfnDzIdeal.nD → PrngReg), Pre_FfnDzIdeal m →
    θ_run (Cert.FfnDzIdeal.defs (F := Ideal)) (onTc (τ := Cert.FfnDzIdeal.τ) (Cert.FfnDzIdeal.main (F := Ideal))) ⟨m, fun _ => 0, g⟩ (fun r => (∀ c : Dev Cert.FfnDzIdeal.nD,
      r.2.mem ((c.tc : Thread Cert.FfnDzIdeal.nD Cert.FfnDzIdeal.τ).loc Cert.FfnDzIdeal.main_arg0) = m ((c.tc : Thread Cert.FfnDzIdeal.nD Cert.FfnDzIdeal.τ).loc Cert.FfnDzIdeal.main_arg0)
      ∧ r.2.mem ((c.tc : Thread Cert.FfnDzIdeal.nD Cert.FfnDzIdeal.τ).loc Cert.FfnDzIdeal.main_arg1) = m ((c.tc : Thread Cert.FfnDzIdeal.nD Cert.FfnDzIdeal.τ).loc Cert.FfnDzIdeal.main_arg1))
      ∧ r.2.sem = fun _ => 0)

def quiescent_FfnDzRefIdeal [hFfnDzRefIdeal : Cert.FfnDzRefIdeal.Facts] : Prop :=
  ∀ (m : (ℓ : Loc Cert.FfnDzRefIdeal.nD Cert.FfnDzRefIdeal.τ Cert.FfnDzRefIdeal.sig) → Buf (Elt Ideal) ℓ) (g : Dev Cert.FfnDzRefIdeal.nD → PrngReg), Pre_FfnDzRefIdeal m →
    θ_run (Cert.FfnDzRefIdeal.defs (F := Ideal)) (onTc (τ := Cert.FfnDzRefIdeal.τ) (Cert.FfnDzRefIdeal.main (F := Ideal))) ⟨m, fun _ => 0, g⟩ (fun r => (∀ c : Dev Cert.FfnDzRefIdeal.nD,
      r.2.mem ((c.tc : Thread Cert.FfnDzRefIdeal.nD Cert.FfnDzRefIdeal.τ).loc Cert.FfnDzRefIdeal.main_arg0) = m ((c.tc : Thread Cert.FfnDzRefIdeal.nD Cert.FfnDzRefIdeal.τ).loc Cert.FfnDzRefIdeal.main_arg0)
      ∧ r.2.mem ((c.tc : Thread Cert.FfnDzRefIdeal.nD Cert.FfnDzRefIdeal.τ).loc Cert.FfnDzRefIdeal.main_arg1) = m ((c.tc : Thread Cert.FfnDzRefIdeal.nD Cert.FfnDzRefIdeal.τ).loc Cert.FfnDzRefIdeal.main_arg1))
      ∧ r.2.sem = fun _ => 0)

def quiescent_FfnDwd [hFfnDwd : Cert.FfnDwd.Facts] : Prop :=
  ∀ (m : (ℓ : Loc Cert.FfnDwd.nD Cert.FfnDwd.τ Cert.FfnDwd.sig) → Buf (Elt Bits) ℓ) (g : Dev Cert.FfnDwd.nD → PrngReg), Pre_FfnDwd m →
    θ_run (Cert.FfnDwd.defs (F := Bits)) (onTc (τ := Cert.FfnDwd.τ) (Cert.FfnDwd.main (F := Bits))) ⟨m, fun _ => 0, g⟩ (fun r => (∀ c : Dev Cert.FfnDwd.nD,
      r.2.mem ((c.tc : Thread Cert.FfnDwd.nD Cert.FfnDwd.τ).loc Cert.FfnDwd.main_arg0) = m ((c.tc : Thread Cert.FfnDwd.nD Cert.FfnDwd.τ).loc Cert.FfnDwd.main_arg0)
      ∧ r.2.mem ((c.tc : Thread Cert.FfnDwd.nD Cert.FfnDwd.τ).loc Cert.FfnDwd.main_arg1) = m ((c.tc : Thread Cert.FfnDwd.nD Cert.FfnDwd.τ).loc Cert.FfnDwd.main_arg1))
      ∧ r.2.sem = fun _ => 0)

def quiescent_FfnDwdIdeal [hFfnDwdIdeal : Cert.FfnDwdIdeal.Facts] : Prop :=
  ∀ (m : (ℓ : Loc Cert.FfnDwdIdeal.nD Cert.FfnDwdIdeal.τ Cert.FfnDwdIdeal.sig) → Buf (Elt Ideal) ℓ) (g : Dev Cert.FfnDwdIdeal.nD → PrngReg), Pre_FfnDwdIdeal m →
    θ_run (Cert.FfnDwdIdeal.defs (F := Ideal)) (onTc (τ := Cert.FfnDwdIdeal.τ) (Cert.FfnDwdIdeal.main (F := Ideal))) ⟨m, fun _ => 0, g⟩ (fun r => (∀ c : Dev Cert.FfnDwdIdeal.nD,
      r.2.mem ((c.tc : Thread Cert.FfnDwdIdeal.nD Cert.FfnDwdIdeal.τ).loc Cert.FfnDwdIdeal.main_arg0) = m ((c.tc : Thread Cert.FfnDwdIdeal.nD Cert.FfnDwdIdeal.τ).loc Cert.FfnDwdIdeal.main_arg0)
      ∧ r.2.mem ((c.tc : Thread Cert.FfnDwdIdeal.nD Cert.FfnDwdIdeal.τ).loc Cert.FfnDwdIdeal.main_arg1) = m ((c.tc : Thread Cert.FfnDwdIdeal.nD Cert.FfnDwdIdeal.τ).loc Cert.FfnDwdIdeal.main_arg1))
      ∧ r.2.sem = fun _ => 0)

def quiescent_FfnDwdRefIdeal [hFfnDwdRefIdeal : Cert.FfnDwdRefIdeal.Facts] : Prop :=
  ∀ (m : (ℓ : Loc Cert.FfnDwdRefIdeal.nD Cert.FfnDwdRefIdeal.τ Cert.FfnDwdRefIdeal.sig) → Buf (Elt Ideal) ℓ) (g : Dev Cert.FfnDwdRefIdeal.nD → PrngReg), Pre_FfnDwdRefIdeal m →
    θ_run (Cert.FfnDwdRefIdeal.defs (F := Ideal)) (onTc (τ := Cert.FfnDwdRefIdeal.τ) (Cert.FfnDwdRefIdeal.main (F := Ideal))) ⟨m, fun _ => 0, g⟩ (fun r => (∀ c : Dev Cert.FfnDwdRefIdeal.nD,
      r.2.mem ((c.tc : Thread Cert.FfnDwdRefIdeal.nD Cert.FfnDwdRefIdeal.τ).loc Cert.FfnDwdRefIdeal.main_arg0) = m ((c.tc : Thread Cert.FfnDwdRefIdeal.nD Cert.FfnDwdRefIdeal.τ).loc Cert.FfnDwdRefIdeal.main_arg0)
      ∧ r.2.mem ((c.tc : Thread Cert.FfnDwdRefIdeal.nD Cert.FfnDwdRefIdeal.τ).loc Cert.FfnDwdRefIdeal.main_arg1) = m ((c.tc : Thread Cert.FfnDwdRefIdeal.nD Cert.FfnDwdRefIdeal.τ).loc Cert.FfnDwdRefIdeal.main_arg1))
      ∧ r.2.sem = fun _ => 0)

def quiescent_GluBack [hGluBack : Cert.GluBack.Facts] : Prop :=
  ∀ (m : (ℓ : Loc Cert.GluBack.nD Cert.GluBack.τ Cert.GluBack.sig) → Buf (Elt Bits) ℓ) (g : Dev Cert.GluBack.nD → PrngReg), Pre_GluBack m →
    θ_run (Cert.GluBack.defs (F := Bits)) (onTc (τ := Cert.GluBack.τ) (Cert.GluBack.main (F := Bits))) ⟨m, fun _ => 0, g⟩ (fun r => (∀ c : Dev Cert.GluBack.nD,
      r.2.mem ((c.tc : Thread Cert.GluBack.nD Cert.GluBack.τ).loc Cert.GluBack.main_arg0) = m ((c.tc : Thread Cert.GluBack.nD Cert.GluBack.τ).loc Cert.GluBack.main_arg0)
      ∧ r.2.mem ((c.tc : Thread Cert.GluBack.nD Cert.GluBack.τ).loc Cert.GluBack.main_arg1) = m ((c.tc : Thread Cert.GluBack.nD Cert.GluBack.τ).loc Cert.GluBack.main_arg1))
      ∧ r.2.sem = fun _ => 0)

def quiescent_GluBackIdeal [hGluBackIdeal : Cert.GluBackIdeal.Facts] : Prop :=
  ∀ (m : (ℓ : Loc Cert.GluBackIdeal.nD Cert.GluBackIdeal.τ Cert.GluBackIdeal.sig) → Buf (Elt Ideal) ℓ) (g : Dev Cert.GluBackIdeal.nD → PrngReg), Pre_GluBackIdeal m →
    θ_run (Cert.GluBackIdeal.defs (F := Ideal)) (onTc (τ := Cert.GluBackIdeal.τ) (Cert.GluBackIdeal.main (F := Ideal))) ⟨m, fun _ => 0, g⟩ (fun r => (∀ c : Dev Cert.GluBackIdeal.nD,
      r.2.mem ((c.tc : Thread Cert.GluBackIdeal.nD Cert.GluBackIdeal.τ).loc Cert.GluBackIdeal.main_arg0) = m ((c.tc : Thread Cert.GluBackIdeal.nD Cert.GluBackIdeal.τ).loc Cert.GluBackIdeal.main_arg0)
      ∧ r.2.mem ((c.tc : Thread Cert.GluBackIdeal.nD Cert.GluBackIdeal.τ).loc Cert.GluBackIdeal.main_arg1) = m ((c.tc : Thread Cert.GluBackIdeal.nD Cert.GluBackIdeal.τ).loc Cert.GluBackIdeal.main_arg1))
      ∧ r.2.sem = fun _ => 0)

def quiescent_GluBackRefIdeal [hGluBackRefIdeal : Cert.GluBackRefIdeal.Facts] : Prop :=
  ∀ (m : (ℓ : Loc Cert.GluBackRefIdeal.nD Cert.GluBackRefIdeal.τ Cert.GluBackRefIdeal.sig) → Buf (Elt Ideal) ℓ) (g : Dev Cert.GluBackRefIdeal.nD → PrngReg), Pre_GluBackRefIdeal m →
    θ_run (Cert.GluBackRefIdeal.defs (F := Ideal)) (onTc (τ := Cert.GluBackRefIdeal.τ) (Cert.GluBackRefIdeal.main (F := Ideal))) ⟨m, fun _ => 0, g⟩ (fun r => (∀ c : Dev Cert.GluBackRefIdeal.nD,
      r.2.mem ((c.tc : Thread Cert.GluBackRefIdeal.nD Cert.GluBackRefIdeal.τ).loc Cert.GluBackRefIdeal.main_arg0) = m ((c.tc : Thread Cert.GluBackRefIdeal.nD Cert.GluBackRefIdeal.τ).loc Cert.GluBackRefIdeal.main_arg0)
      ∧ r.2.mem ((c.tc : Thread Cert.GluBackRefIdeal.nD Cert.GluBackRefIdeal.τ).loc Cert.GluBackRefIdeal.main_arg1) = m ((c.tc : Thread Cert.GluBackRefIdeal.nD Cert.GluBackRefIdeal.τ).loc Cert.GluBackRefIdeal.main_arg1))
      ∧ r.2.sem = fun _ => 0)

def quiescent_FfnDwgu [hFfnDwgu : Cert.FfnDwgu.Facts] : Prop :=
  ∀ (m : (ℓ : Loc Cert.FfnDwgu.nD Cert.FfnDwgu.τ Cert.FfnDwgu.sig) → Buf (Elt Bits) ℓ) (g : Dev Cert.FfnDwgu.nD → PrngReg), Pre_FfnDwgu m →
    θ_run (Cert.FfnDwgu.defs (F := Bits)) (onTc (τ := Cert.FfnDwgu.τ) (Cert.FfnDwgu.main (F := Bits))) ⟨m, fun _ => 0, g⟩ (fun r => (∀ c : Dev Cert.FfnDwgu.nD,
      r.2.mem ((c.tc : Thread Cert.FfnDwgu.nD Cert.FfnDwgu.τ).loc Cert.FfnDwgu.main_arg0) = m ((c.tc : Thread Cert.FfnDwgu.nD Cert.FfnDwgu.τ).loc Cert.FfnDwgu.main_arg0)
      ∧ r.2.mem ((c.tc : Thread Cert.FfnDwgu.nD Cert.FfnDwgu.τ).loc Cert.FfnDwgu.main_arg1) = m ((c.tc : Thread Cert.FfnDwgu.nD Cert.FfnDwgu.τ).loc Cert.FfnDwgu.main_arg1))
      ∧ r.2.sem = fun _ => 0)

def quiescent_FfnDwguIdeal [hFfnDwguIdeal : Cert.FfnDwguIdeal.Facts] : Prop :=
  ∀ (m : (ℓ : Loc Cert.FfnDwguIdeal.nD Cert.FfnDwguIdeal.τ Cert.FfnDwguIdeal.sig) → Buf (Elt Ideal) ℓ) (g : Dev Cert.FfnDwguIdeal.nD → PrngReg), Pre_FfnDwguIdeal m →
    θ_run (Cert.FfnDwguIdeal.defs (F := Ideal)) (onTc (τ := Cert.FfnDwguIdeal.τ) (Cert.FfnDwguIdeal.main (F := Ideal))) ⟨m, fun _ => 0, g⟩ (fun r => (∀ c : Dev Cert.FfnDwguIdeal.nD,
      r.2.mem ((c.tc : Thread Cert.FfnDwguIdeal.nD Cert.FfnDwguIdeal.τ).loc Cert.FfnDwguIdeal.main_arg0) = m ((c.tc : Thread Cert.FfnDwguIdeal.nD Cert.FfnDwguIdeal.τ).loc Cert.FfnDwguIdeal.main_arg0)
      ∧ r.2.mem ((c.tc : Thread Cert.FfnDwguIdeal.nD Cert.FfnDwguIdeal.τ).loc Cert.FfnDwguIdeal.main_arg1) = m ((c.tc : Thread Cert.FfnDwguIdeal.nD Cert.FfnDwguIdeal.τ).loc Cert.FfnDwguIdeal.main_arg1))
      ∧ r.2.sem = fun _ => 0)

def quiescent_FfnDwguRefIdeal [hFfnDwguRefIdeal : Cert.FfnDwguRefIdeal.Facts] : Prop :=
  ∀ (m : (ℓ : Loc Cert.FfnDwguRefIdeal.nD Cert.FfnDwguRefIdeal.τ Cert.FfnDwguRefIdeal.sig) → Buf (Elt Ideal) ℓ) (g : Dev Cert.FfnDwguRefIdeal.nD → PrngReg), Pre_FfnDwguRefIdeal m →
    θ_run (Cert.FfnDwguRefIdeal.defs (F := Ideal)) (onTc (τ := Cert.FfnDwguRefIdeal.τ) (Cert.FfnDwguRefIdeal.main (F := Ideal))) ⟨m, fun _ => 0, g⟩ (fun r => (∀ c : Dev Cert.FfnDwguRefIdeal.nD,
      r.2.mem ((c.tc : Thread Cert.FfnDwguRefIdeal.nD Cert.FfnDwguRefIdeal.τ).loc Cert.FfnDwguRefIdeal.main_arg0) = m ((c.tc : Thread Cert.FfnDwguRefIdeal.nD Cert.FfnDwguRefIdeal.τ).loc Cert.FfnDwguRefIdeal.main_arg0)
      ∧ r.2.mem ((c.tc : Thread Cert.FfnDwguRefIdeal.nD Cert.FfnDwguRefIdeal.τ).loc Cert.FfnDwguRefIdeal.main_arg1) = m ((c.tc : Thread Cert.FfnDwguRefIdeal.nD Cert.FfnDwguRefIdeal.τ).loc Cert.FfnDwguRefIdeal.main_arg1))
      ∧ r.2.sem = fun _ => 0)

def quiescent_FfnDh [hFfnDh : Cert.FfnDh.Facts] : Prop :=
  ∀ (m : (ℓ : Loc Cert.FfnDh.nD Cert.FfnDh.τ Cert.FfnDh.sig) → Buf (Elt Bits) ℓ) (g : Dev Cert.FfnDh.nD → PrngReg), Pre_FfnDh m →
    θ_run (Cert.FfnDh.defs (F := Bits)) (onTc (τ := Cert.FfnDh.τ) (Cert.FfnDh.main (F := Bits))) ⟨m, fun _ => 0, g⟩ (fun r => (∀ c : Dev Cert.FfnDh.nD,
      r.2.mem ((c.tc : Thread Cert.FfnDh.nD Cert.FfnDh.τ).loc Cert.FfnDh.main_arg0) = m ((c.tc : Thread Cert.FfnDh.nD Cert.FfnDh.τ).loc Cert.FfnDh.main_arg0)
      ∧ r.2.mem ((c.tc : Thread Cert.FfnDh.nD Cert.FfnDh.τ).loc Cert.FfnDh.main_arg1) = m ((c.tc : Thread Cert.FfnDh.nD Cert.FfnDh.τ).loc Cert.FfnDh.main_arg1))
      ∧ r.2.sem = fun _ => 0)

def quiescent_FfnDhIdeal [hFfnDhIdeal : Cert.FfnDhIdeal.Facts] : Prop :=
  ∀ (m : (ℓ : Loc Cert.FfnDhIdeal.nD Cert.FfnDhIdeal.τ Cert.FfnDhIdeal.sig) → Buf (Elt Ideal) ℓ) (g : Dev Cert.FfnDhIdeal.nD → PrngReg), Pre_FfnDhIdeal m →
    θ_run (Cert.FfnDhIdeal.defs (F := Ideal)) (onTc (τ := Cert.FfnDhIdeal.τ) (Cert.FfnDhIdeal.main (F := Ideal))) ⟨m, fun _ => 0, g⟩ (fun r => (∀ c : Dev Cert.FfnDhIdeal.nD,
      r.2.mem ((c.tc : Thread Cert.FfnDhIdeal.nD Cert.FfnDhIdeal.τ).loc Cert.FfnDhIdeal.main_arg0) = m ((c.tc : Thread Cert.FfnDhIdeal.nD Cert.FfnDhIdeal.τ).loc Cert.FfnDhIdeal.main_arg0)
      ∧ r.2.mem ((c.tc : Thread Cert.FfnDhIdeal.nD Cert.FfnDhIdeal.τ).loc Cert.FfnDhIdeal.main_arg1) = m ((c.tc : Thread Cert.FfnDhIdeal.nD Cert.FfnDhIdeal.τ).loc Cert.FfnDhIdeal.main_arg1))
      ∧ r.2.sem = fun _ => 0)

def quiescent_FfnDhRefIdeal [hFfnDhRefIdeal : Cert.FfnDhRefIdeal.Facts] : Prop :=
  ∀ (m : (ℓ : Loc Cert.FfnDhRefIdeal.nD Cert.FfnDhRefIdeal.τ Cert.FfnDhRefIdeal.sig) → Buf (Elt Ideal) ℓ) (g : Dev Cert.FfnDhRefIdeal.nD → PrngReg), Pre_FfnDhRefIdeal m →
    θ_run (Cert.FfnDhRefIdeal.defs (F := Ideal)) (onTc (τ := Cert.FfnDhRefIdeal.τ) (Cert.FfnDhRefIdeal.main (F := Ideal))) ⟨m, fun _ => 0, g⟩ (fun r => (∀ c : Dev Cert.FfnDhRefIdeal.nD,
      r.2.mem ((c.tc : Thread Cert.FfnDhRefIdeal.nD Cert.FfnDhRefIdeal.τ).loc Cert.FfnDhRefIdeal.main_arg0) = m ((c.tc : Thread Cert.FfnDhRefIdeal.nD Cert.FfnDhRefIdeal.τ).loc Cert.FfnDhRefIdeal.main_arg0)
      ∧ r.2.mem ((c.tc : Thread Cert.FfnDhRefIdeal.nD Cert.FfnDhRefIdeal.τ).loc Cert.FfnDhRefIdeal.main_arg1) = m ((c.tc : Thread Cert.FfnDhRefIdeal.nD Cert.FfnDhRefIdeal.τ).loc Cert.FfnDhRefIdeal.main_arg1))
      ∧ r.2.sem = fun _ => 0)

def quiescent_NormIn [hNormIn : Cert.NormIn.Facts] : Prop :=
  ∀ (m : (ℓ : Loc Cert.NormIn.nD Cert.NormIn.τ Cert.NormIn.sig) → Buf (Elt Bits) ℓ) (g : Dev Cert.NormIn.nD → PrngReg), Pre_NormIn m →
    θ_run (Cert.NormIn.defs (F := Bits)) (onTc (τ := Cert.NormIn.τ) (Cert.NormIn.main (F := Bits))) ⟨m, fun _ => 0, g⟩ (fun r => (∀ c : Dev Cert.NormIn.nD,
      r.2.mem ((c.tc : Thread Cert.NormIn.nD Cert.NormIn.τ).loc Cert.NormIn.main_arg0) = m ((c.tc : Thread Cert.NormIn.nD Cert.NormIn.τ).loc Cert.NormIn.main_arg0)
      ∧ r.2.mem ((c.tc : Thread Cert.NormIn.nD Cert.NormIn.τ).loc Cert.NormIn.main_arg1) = m ((c.tc : Thread Cert.NormIn.nD Cert.NormIn.τ).loc Cert.NormIn.main_arg1))
      ∧ r.2.sem = fun _ => 0)

def quiescent_NormInIdeal [hNormInIdeal : Cert.NormInIdeal.Facts] : Prop :=
  ∀ (m : (ℓ : Loc Cert.NormInIdeal.nD Cert.NormInIdeal.τ Cert.NormInIdeal.sig) → Buf (Elt Ideal) ℓ) (g : Dev Cert.NormInIdeal.nD → PrngReg), Pre_NormInIdeal m →
    θ_run (Cert.NormInIdeal.defs (F := Ideal)) (onTc (τ := Cert.NormInIdeal.τ) (Cert.NormInIdeal.main (F := Ideal))) ⟨m, fun _ => 0, g⟩ (fun r => (∀ c : Dev Cert.NormInIdeal.nD,
      r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
      ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1))
      ∧ r.2.sem = fun _ => 0)

def quiescent_NormInRefIdeal [hNormInRefIdeal : Cert.NormInRefIdeal.Facts] : Prop :=
  ∀ (m : (ℓ : Loc Cert.NormInRefIdeal.nD Cert.NormInRefIdeal.τ Cert.NormInRefIdeal.sig) → Buf (Elt Ideal) ℓ) (g : Dev Cert.NormInRefIdeal.nD → PrngReg), Pre_NormInRefIdeal m →
    θ_run (Cert.NormInRefIdeal.defs (F := Ideal)) (onTc (τ := Cert.NormInRefIdeal.τ) (Cert.NormInRefIdeal.main (F := Ideal))) ⟨m, fun _ => 0, g⟩ (fun r => (∀ c : Dev Cert.NormInRefIdeal.nD,
      r.2.mem ((c.tc : Thread Cert.NormInRefIdeal.nD Cert.NormInRefIdeal.τ).loc Cert.NormInRefIdeal.main_arg0) = m ((c.tc : Thread Cert.NormInRefIdeal.nD Cert.NormInRefIdeal.τ).loc Cert.NormInRefIdeal.main_arg0)
      ∧ r.2.mem ((c.tc : Thread Cert.NormInRefIdeal.nD Cert.NormInRefIdeal.τ).loc Cert.NormInRefIdeal.main_arg1) = m ((c.tc : Thread Cert.NormInRefIdeal.nD Cert.NormInRefIdeal.τ).loc Cert.NormInRefIdeal.main_arg1))
      ∧ r.2.sem = fun _ => 0)

def quiescent_NormOut [hNormOut : Cert.NormOut.Facts] : Prop :=
  ∀ (m : (ℓ : Loc Cert.NormOut.nD Cert.NormOut.τ Cert.NormOut.sig) → Buf (Elt Bits) ℓ) (g : Dev Cert.NormOut.nD → PrngReg), Pre_NormOut m →
    θ_run (Cert.NormOut.defs (F := Bits)) (onTc (τ := Cert.NormOut.τ) (Cert.NormOut.main (F := Bits))) ⟨m, fun _ => 0, g⟩ (fun r => (∀ c : Dev Cert.NormOut.nD,
      r.2.mem ((c.tc : Thread Cert.NormOut.nD Cert.NormOut.τ).loc Cert.NormOut.main_arg0) = m ((c.tc : Thread Cert.NormOut.nD Cert.NormOut.τ).loc Cert.NormOut.main_arg0)
      ∧ r.2.mem ((c.tc : Thread Cert.NormOut.nD Cert.NormOut.τ).loc Cert.NormOut.main_arg1) = m ((c.tc : Thread Cert.NormOut.nD Cert.NormOut.τ).loc Cert.NormOut.main_arg1))
      ∧ r.2.sem = fun _ => 0)

def quiescent_NormOutIdeal [hNormOutIdeal : Cert.NormOutIdeal.Facts] : Prop :=
  ∀ (m : (ℓ : Loc Cert.NormOutIdeal.nD Cert.NormOutIdeal.τ Cert.NormOutIdeal.sig) → Buf (Elt Ideal) ℓ) (g : Dev Cert.NormOutIdeal.nD → PrngReg), Pre_NormOutIdeal m →
    θ_run (Cert.NormOutIdeal.defs (F := Ideal)) (onTc (τ := Cert.NormOutIdeal.τ) (Cert.NormOutIdeal.main (F := Ideal))) ⟨m, fun _ => 0, g⟩ (fun r => (∀ c : Dev Cert.NormOutIdeal.nD,
      r.2.mem ((c.tc : Thread Cert.NormOutIdeal.nD Cert.NormOutIdeal.τ).loc Cert.NormOutIdeal.main_arg0) = m ((c.tc : Thread Cert.NormOutIdeal.nD Cert.NormOutIdeal.τ).loc Cert.NormOutIdeal.main_arg0)
      ∧ r.2.mem ((c.tc : Thread Cert.NormOutIdeal.nD Cert.NormOutIdeal.τ).loc Cert.NormOutIdeal.main_arg1) = m ((c.tc : Thread Cert.NormOutIdeal.nD Cert.NormOutIdeal.τ).loc Cert.NormOutIdeal.main_arg1))
      ∧ r.2.sem = fun _ => 0)

def quiescent_NormOutRefIdeal [hNormOutRefIdeal : Cert.NormOutRefIdeal.Facts] : Prop :=
  ∀ (m : (ℓ : Loc Cert.NormOutRefIdeal.nD Cert.NormOutRefIdeal.τ Cert.NormOutRefIdeal.sig) → Buf (Elt Ideal) ℓ) (g : Dev Cert.NormOutRefIdeal.nD → PrngReg), Pre_NormOutRefIdeal m →
    θ_run (Cert.NormOutRefIdeal.defs (F := Ideal)) (onTc (τ := Cert.NormOutRefIdeal.τ) (Cert.NormOutRefIdeal.main (F := Ideal))) ⟨m, fun _ => 0, g⟩ (fun r => (∀ c : Dev Cert.NormOutRefIdeal.nD,
      r.2.mem ((c.tc : Thread Cert.NormOutRefIdeal.nD Cert.NormOutRefIdeal.τ).loc Cert.NormOutRefIdeal.main_arg0) = m ((c.tc : Thread Cert.NormOutRefIdeal.nD Cert.NormOutRefIdeal.τ).loc Cert.NormOutRefIdeal.main_arg0)
      ∧ r.2.mem ((c.tc : Thread Cert.NormOutRefIdeal.nD Cert.NormOutRefIdeal.τ).loc Cert.NormOutRefIdeal.main_arg1) = m ((c.tc : Thread Cert.NormOutRefIdeal.nD Cert.NormOutRefIdeal.τ).loc Cert.NormOutRefIdeal.main_arg1))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1))
      ∧ r.2.sem = fun _ => 0)

def quiescent_MixQ [hMixQ : Cert.MixQ.Facts] : Prop :=
  ∀ (m : (ℓ : Loc Cert.MixQ.nD Cert.MixQ.τ Cert.MixQ.sig) → Buf (Elt Bits) ℓ) (g : Dev Cert.MixQ.nD → PrngReg), Pre_MixQ m →
    θ_run (Cert.MixQ.defs (F := Bits)) (onTc (τ := Cert.MixQ.τ) (Cert.MixQ.main (F := Bits))) ⟨m, fun _ => 0, g⟩ (fun r => (∀ c : Dev Cert.MixQ.nD,
      r.2.mem ((c.tc : Thread Cert.MixQ.nD Cert.MixQ.τ).loc Cert.MixQ.main_arg0) = m ((c.tc : Thread Cert.MixQ.nD Cert.MixQ.τ).loc Cert.MixQ.main_arg0)
      ∧ r.2.mem ((c.tc : Thread Cert.MixQ.nD Cert.MixQ.τ).loc Cert.MixQ.main_arg1) = m ((c.tc : Thread Cert.MixQ.nD Cert.MixQ.τ).loc Cert.MixQ.main_arg1))
      ∧ r.2.sem = fun _ => 0)

def quiescent_MixQIdeal [hMixQIdeal : Cert.MixQIdeal.Facts] : Prop :=
  ∀ (m : (ℓ : Loc Cert.MixQIdeal.nD Cert.MixQIdeal.τ Cert.MixQIdeal.sig) → Buf (Elt Ideal) ℓ) (g : Dev Cert.MixQIdeal.nD → PrngReg), Pre_MixQIdeal m →
    θ_run (Cert.MixQIdeal.defs (F := Ideal)) (onTc (τ := Cert.MixQIdeal.τ) (Cert.MixQIdeal.main (F := Ideal))) ⟨m, fun _ => 0, g⟩ (fun r => (∀ c : Dev Cert.MixQIdeal.nD,
      r.2.mem ((c.tc : Thread Cert.MixQIdeal.nD Cert.MixQIdeal.τ).loc Cert.MixQIdeal.main_arg0) = m ((c.tc : Thread Cert.MixQIdeal.nD Cert.MixQIdeal.τ).loc Cert.MixQIdeal.main_arg0)
      ∧ r.2.mem ((c.tc : Thread Cert.MixQIdeal.nD Cert.MixQIdeal.τ).loc Cert.MixQIdeal.main_arg1) = m ((c.tc : Thread Cert.MixQIdeal.nD Cert.MixQIdeal.τ).loc Cert.MixQIdeal.main_arg1))
      ∧ r.2.sem = fun _ => 0)

def quiescent_MixQRefIdeal [hMixQRefIdeal : Cert.MixQRefIdeal.Facts] : Prop :=
  ∀ (m : (ℓ : Loc Cert.MixQRefIdeal.nD Cert.MixQRefIdeal.τ Cert.MixQRefIdeal.sig) → Buf (Elt Ideal) ℓ) (g : Dev Cert.MixQRefIdeal.nD → PrngReg), Pre_MixQRefIdeal m →
    θ_run (Cert.MixQRefIdeal.defs (F := Ideal)) (onTc (τ := Cert.MixQRefIdeal.τ) (Cert.MixQRefIdeal.main (F := Ideal))) ⟨m, fun _ => 0, g⟩ (fun r => (∀ c : Dev Cert.MixQRefIdeal.nD,
      r.2.mem ((c.tc : Thread Cert.MixQRefIdeal.nD Cert.MixQRefIdeal.τ).loc Cert.MixQRefIdeal.main_arg0) = m ((c.tc : Thread Cert.MixQRefIdeal.nD Cert.MixQRefIdeal.τ).loc Cert.MixQRefIdeal.main_arg0)
      ∧ r.2.mem ((c.tc : Thread Cert.MixQRefIdeal.nD Cert.MixQRefIdeal.τ).loc Cert.MixQRefIdeal.main_arg1) = m ((c.tc : Thread Cert.MixQRefIdeal.nD Cert.MixQRefIdeal.τ).loc Cert.MixQRefIdeal.main_arg1))
      ∧ r.2.sem = fun _ => 0)

def quiescent_MixK [hMixK : Cert.MixK.Facts] : Prop :=
  ∀ (m : (ℓ : Loc Cert.MixK.nD Cert.MixK.τ Cert.MixK.sig) → Buf (Elt Bits) ℓ) (g : Dev Cert.MixK.nD → PrngReg), Pre_MixK m →
    θ_run (Cert.MixK.defs (F := Bits)) (onTc (τ := Cert.MixK.τ) (Cert.MixK.main (F := Bits))) ⟨m, fun _ => 0, g⟩ (fun r => (∀ c : Dev Cert.MixK.nD,
      r.2.mem ((c.tc : Thread Cert.MixK.nD Cert.MixK.τ).loc Cert.MixK.main_arg0) = m ((c.tc : Thread Cert.MixK.nD Cert.MixK.τ).loc Cert.MixK.main_arg0)
      ∧ r.2.mem ((c.tc : Thread Cert.MixK.nD Cert.MixK.τ).loc Cert.MixK.main_arg1) = m ((c.tc : Thread Cert.MixK.nD Cert.MixK.τ).loc Cert.MixK.main_arg1))
      ∧ r.2.sem = fun _ => 0)

def quiescent_MixKIdeal [hMixKIdeal : Cert.MixKIdeal.Facts] : Prop :=
  ∀ (m : (ℓ : Loc Cert.MixKIdeal.nD Cert.MixKIdeal.τ Cert.MixKIdeal.sig) → Buf (Elt Ideal) ℓ) (g : Dev Cert.MixKIdeal.nD → PrngReg), Pre_MixKIdeal m →
    θ_run (Cert.MixKIdeal.defs (F := Ideal)) (onTc (τ := Cert.MixKIdeal.τ) (Cert.MixKIdeal.main (F := Ideal))) ⟨m, fun _ => 0, g⟩ (fun r => (∀ c : Dev Cert.MixKIdeal.nD,
      r.2.mem ((c.tc : Thread Cert.MixKIdeal.nD Cert.MixKIdeal.τ).loc Cert.MixKIdeal.main_arg0) = m ((c.tc : Thread Cert.MixKIdeal.nD Cert.MixKIdeal.τ).loc Cert.MixKIdeal.main_arg0)
      ∧ r.2.mem ((c.tc : Thread Cert.MixKIdeal.nD Cert.MixKIdeal.τ).loc Cert.MixKIdeal.main_arg1) = m ((c.tc : Thread Cert.MixKIdeal.nD Cert.MixKIdeal.τ).loc Cert.MixKIdeal.main_arg1))
      ∧ r.2.sem = fun _ => 0)

def quiescent_MixKRefIdeal [hMixKRefIdeal : Cert.MixKRefIdeal.Facts] : Prop :=
  ∀ (m : (ℓ : Loc Cert.MixKRefIdeal.nD Cert.MixKRefIdeal.τ Cert.MixKRefIdeal.sig) → Buf (Elt Ideal) ℓ) (g : Dev Cert.MixKRefIdeal.nD → PrngReg), Pre_MixKRefIdeal m →
    θ_run (Cert.MixKRefIdeal.defs (F := Ideal)) (onTc (τ := Cert.MixKRefIdeal.τ) (Cert.MixKRefIdeal.main (F := Ideal))) ⟨m, fun _ => 0, g⟩ (fun r => (∀ c : Dev Cert.MixKRefIdeal.nD,
      r.2.mem ((c.tc : Thread Cert.MixKRefIdeal.nD Cert.MixKRefIdeal.τ).loc Cert.MixKRefIdeal.main_arg0) = m ((c.tc : Thread Cert.MixKRefIdeal.nD Cert.MixKRefIdeal.τ).loc Cert.MixKRefIdeal.main_arg0)
      ∧ r.2.mem ((c.tc : Thread Cert.MixKRefIdeal.nD Cert.MixKRefIdeal.τ).loc Cert.MixKRefIdeal.main_arg1) = m ((c.tc : Thread Cert.MixKRefIdeal.nD Cert.MixKRefIdeal.τ).loc Cert.MixKRefIdeal.main_arg1))
      ∧ r.2.sem = fun _ => 0)

def quiescent_MixV [hMixV : Cert.MixV.Facts] : Prop :=
  ∀ (m : (ℓ : Loc Cert.MixV.nD Cert.MixV.τ Cert.MixV.sig) → Buf (Elt Bits) ℓ) (g : Dev Cert.MixV.nD → PrngReg), Pre_MixV m →
    θ_run (Cert.MixV.defs (F := Bits)) (onTc (τ := Cert.MixV.τ) (Cert.MixV.main (F := Bits))) ⟨m, fun _ => 0, g⟩ (fun r => (∀ c : Dev Cert.MixV.nD,
      r.2.mem ((c.tc : Thread Cert.MixV.nD Cert.MixV.τ).loc Cert.MixV.main_arg0) = m ((c.tc : Thread Cert.MixV.nD Cert.MixV.τ).loc Cert.MixV.main_arg0)
      ∧ r.2.mem ((c.tc : Thread Cert.MixV.nD Cert.MixV.τ).loc Cert.MixV.main_arg1) = m ((c.tc : Thread Cert.MixV.nD Cert.MixV.τ).loc Cert.MixV.main_arg1))
      ∧ r.2.sem = fun _ => 0)

def quiescent_MixVIdeal [hMixVIdeal : Cert.MixVIdeal.Facts] : Prop :=
  ∀ (m : (ℓ : Loc Cert.MixVIdeal.nD Cert.MixVIdeal.τ Cert.MixVIdeal.sig) → Buf (Elt Ideal) ℓ) (g : Dev Cert.MixVIdeal.nD → PrngReg), Pre_MixVIdeal m →
    θ_run (Cert.MixVIdeal.defs (F := Ideal)) (onTc (τ := Cert.MixVIdeal.τ) (Cert.MixVIdeal.main (F := Ideal))) ⟨m, fun _ => 0, g⟩ (fun r => (∀ c : Dev Cert.MixVIdeal.nD,
      r.2.mem ((c.tc : Thread Cert.MixVIdeal.nD Cert.MixVIdeal.τ).loc Cert.MixVIdeal.main_arg0) = m ((c.tc : Thread Cert.MixVIdeal.nD Cert.MixVIdeal.τ).loc Cert.MixVIdeal.main_arg0)
      ∧ r.2.mem ((c.tc : Thread Cert.MixVIdeal.nD Cert.MixVIdeal.τ).loc Cert.MixVIdeal.main_arg1) = m ((c.tc : Thread Cert.MixVIdeal.nD Cert.MixVIdeal.τ).loc Cert.MixVIdeal.main_arg1))
      ∧ r.2.sem = fun _ => 0)

def quiescent_MixVRefIdeal [hMixVRefIdeal : Cert.MixVRefIdeal.Facts] : Prop :=
  ∀ (m : (ℓ : Loc Cert.MixVRefIdeal.nD Cert.MixVRefIdeal.τ Cert.MixVRefIdeal.sig) → Buf (Elt Ideal) ℓ) (g : Dev Cert.MixVRefIdeal.nD → PrngReg), Pre_MixVRefIdeal m →
    θ_run (Cert.MixVRefIdeal.defs (F := Ideal)) (onTc (τ := Cert.MixVRefIdeal.τ) (Cert.MixVRefIdeal.main (F := Ideal))) ⟨m, fun _ => 0, g⟩ (fun r => (∀ c : Dev Cert.MixVRefIdeal.nD,
      r.2.mem ((c.tc : Thread Cert.MixVRefIdeal.nD Cert.MixVRefIdeal.τ).loc Cert.MixVRefIdeal.main_arg0) = m ((c.tc : Thread Cert.MixVRefIdeal.nD Cert.MixVRefIdeal.τ).loc Cert.MixVRefIdeal.main_arg0)
      ∧ r.2.mem ((c.tc : Thread Cert.MixVRefIdeal.nD Cert.MixVRefIdeal.τ).loc Cert.MixVRefIdeal.main_arg1) = m ((c.tc : Thread Cert.MixVRefIdeal.nD Cert.MixVRefIdeal.τ).loc Cert.MixVRefIdeal.main_arg1))
      ∧ r.2.sem = fun _ => 0)

def quiescent_MixAttn [hMixAttn : Cert.MixAttn.Facts] : Prop :=
  ∀ (m : (ℓ : Loc Cert.MixAttn.nD Cert.MixAttn.τ Cert.MixAttn.sig) → Buf (Elt Bits) ℓ) (g : Dev Cert.MixAttn.nD → PrngReg), Pre_MixAttn m →
    θ_run (Cert.MixAttn.defs (F := Bits)) (onTc (τ := Cert.MixAttn.τ) (Cert.MixAttn.main (F := Bits))) ⟨m, fun _ => 0, g⟩ (fun r => (∀ c : Dev Cert.MixAttn.nD,
      r.2.mem ((c.tc : Thread Cert.MixAttn.nD Cert.MixAttn.τ).loc Cert.MixAttn.main_arg0) = m ((c.tc : Thread Cert.MixAttn.nD Cert.MixAttn.τ).loc Cert.MixAttn.main_arg0)
      ∧ r.2.mem ((c.tc : Thread Cert.MixAttn.nD Cert.MixAttn.τ).loc Cert.MixAttn.main_arg1) = m ((c.tc : Thread Cert.MixAttn.nD Cert.MixAttn.τ).loc Cert.MixAttn.main_arg1)
      ∧ r.2.mem ((c.tc : Thread Cert.MixAttn.nD Cert.MixAttn.τ).loc Cert.MixAttn.main_arg2) = m ((c.tc : Thread Cert.MixAttn.nD Cert.MixAttn.τ).loc Cert.MixAttn.main_arg2))
      ∧ r.2.sem = fun _ => 0)

def quiescent_MixAttnIdeal [hMixAttnIdeal : Cert.MixAttnIdeal.Facts] : Prop :=
  ∀ (m : (ℓ : Loc Cert.MixAttnIdeal.nD Cert.MixAttnIdeal.τ Cert.MixAttnIdeal.sig) → Buf (Elt Ideal) ℓ) (g : Dev Cert.MixAttnIdeal.nD → PrngReg), Pre_MixAttnIdeal m →
    θ_run (Cert.MixAttnIdeal.defs (F := Ideal)) (onTc (τ := Cert.MixAttnIdeal.τ) (Cert.MixAttnIdeal.main (F := Ideal))) ⟨m, fun _ => 0, g⟩ (fun r => (∀ c : Dev Cert.MixAttnIdeal.nD,
      r.2.mem ((c.tc : Thread Cert.MixAttnIdeal.nD Cert.MixAttnIdeal.τ).loc Cert.MixAttnIdeal.main_arg0) = m ((c.tc : Thread Cert.MixAttnIdeal.nD Cert.MixAttnIdeal.τ).loc Cert.MixAttnIdeal.main_arg0)
      ∧ r.2.mem ((c.tc : Thread Cert.MixAttnIdeal.nD Cert.MixAttnIdeal.τ).loc Cert.MixAttnIdeal.main_arg1) = m ((c.tc : Thread Cert.MixAttnIdeal.nD Cert.MixAttnIdeal.τ).loc Cert.MixAttnIdeal.main_arg1)
      ∧ r.2.mem ((c.tc : Thread Cert.MixAttnIdeal.nD Cert.MixAttnIdeal.τ).loc Cert.MixAttnIdeal.main_arg2) = m ((c.tc : Thread Cert.MixAttnIdeal.nD Cert.MixAttnIdeal.τ).loc Cert.MixAttnIdeal.main_arg2))
      ∧ r.2.sem = fun _ => 0)

def quiescent_MixAttnRefIdeal [hMixAttnRefIdeal : Cert.MixAttnRefIdeal.Facts] : Prop :=
  ∀ (m : (ℓ : Loc Cert.MixAttnRefIdeal.nD Cert.MixAttnRefIdeal.τ Cert.MixAttnRefIdeal.sig) → Buf (Elt Ideal) ℓ) (g : Dev Cert.MixAttnRefIdeal.nD → PrngReg), Pre_MixAttnRefIdeal m →
    θ_run (Cert.MixAttnRefIdeal.defs (F := Ideal)) (onTc (τ := Cert.MixAttnRefIdeal.τ) (Cert.MixAttnRefIdeal.main (F := Ideal))) ⟨m, fun _ => 0, g⟩ (fun r => (∀ c : Dev Cert.MixAttnRefIdeal.nD,
      r.2.mem ((c.tc : Thread Cert.MixAttnRefIdeal.nD Cert.MixAttnRefIdeal.τ).loc Cert.MixAttnRefIdeal.main_arg0) = m ((c.tc : Thread Cert.MixAttnRefIdeal.nD Cert.MixAttnRefIdeal.τ).loc Cert.MixAttnRefIdeal.main_arg0)
      ∧ r.2.mem ((c.tc : Thread Cert.MixAttnRefIdeal.nD Cert.MixAttnRefIdeal.τ).loc Cert.MixAttnRefIdeal.main_arg1) = m ((c.tc : Thread Cert.MixAttnRefIdeal.nD Cert.MixAttnRefIdeal.τ).loc Cert.MixAttnRefIdeal.main_arg1)
      ∧ r.2.mem ((c.tc : Thread Cert.MixAttnRefIdeal.nD Cert.MixAttnRefIdeal.τ).loc Cert.MixAttnRefIdeal.main_arg2) = m ((c.tc : Thread Cert.MixAttnRefIdeal.nD Cert.MixAttnRefIdeal.τ).loc Cert.MixAttnRefIdeal.main_arg2))
      ∧ r.2.sem = fun _ => 0)

def quiescent_MixConv [hMixConv : Cert.MixConv.Facts] : Prop :=
  ∀ (m : (ℓ : Loc Cert.MixConv.nD Cert.MixConv.τ Cert.MixConv.sig) → Buf (Elt Bits) ℓ) (g : Dev Cert.MixConv.nD → PrngReg), Pre_MixConv m →
    θ_run (Cert.MixConv.defs (F := Bits)) (onTc (τ := Cert.MixConv.τ) (Cert.MixConv.main (F := Bits))) ⟨m, fun _ => 0, g⟩ (fun r => (∀ c : Dev Cert.MixConv.nD,
      r.2.mem ((c.tc : Thread Cert.MixConv.nD Cert.MixConv.τ).loc Cert.MixConv.main_arg0) = m ((c.tc : Thread Cert.MixConv.nD Cert.MixConv.τ).loc Cert.MixConv.main_arg0)
      ∧ r.2.mem ((c.tc : Thread Cert.MixConv.nD Cert.MixConv.τ).loc Cert.MixConv.main_arg1) = m ((c.tc : Thread Cert.MixConv.nD Cert.MixConv.τ).loc Cert.MixConv.main_arg1)
      ∧ r.2.mem ((c.tc : Thread Cert.MixConv.nD Cert.MixConv.τ).loc Cert.MixConv.main_arg2) = m ((c.tc : Thread Cert.MixConv.nD Cert.MixConv.τ).loc Cert.MixConv.main_arg2))
      ∧ r.2.sem = fun _ => 0)

def quiescent_MixConvIdeal [hMixConvIdeal : Cert.MixConvIdeal.Facts] : Prop :=
  ∀ (m : (ℓ : Loc Cert.MixConvIdeal.nD Cert.MixConvIdeal.τ Cert.MixConvIdeal.sig) → Buf (Elt Ideal) ℓ) (g : Dev Cert.MixConvIdeal.nD → PrngReg), Pre_MixConvIdeal m →
    θ_run (Cert.MixConvIdeal.defs (F := Ideal)) (onTc (τ := Cert.MixConvIdeal.τ) (Cert.MixConvIdeal.main (F := Ideal))) ⟨m, fun _ => 0, g⟩ (fun r => (∀ c : Dev Cert.MixConvIdeal.nD,
      r.2.mem ((c.tc : Thread Cert.MixConvIdeal.nD Cert.MixConvIdeal.τ).loc Cert.MixConvIdeal.main_arg0) = m ((c.tc : Thread Cert.MixConvIdeal.nD Cert.MixConvIdeal.τ).loc Cert.MixConvIdeal.main_arg0)
      ∧ r.2.mem ((c.tc : Thread Cert.MixConvIdeal.nD Cert.MixConvIdeal.τ).loc Cert.MixConvIdeal.main_arg1) = m ((c.tc : Thread Cert.MixConvIdeal.nD Cert.MixConvIdeal.τ).loc Cert.MixConvIdeal.main_arg1)
      ∧ r.2.mem ((c.tc : Thread Cert.MixConvIdeal.nD Cert.MixConvIdeal.τ).loc Cert.MixConvIdeal.main_arg2) = m ((c.tc : Thread Cert.MixConvIdeal.nD Cert.MixConvIdeal.τ).loc Cert.MixConvIdeal.main_arg2))
      ∧ r.2.sem = fun _ => 0)

def quiescent_MixConvRefIdeal [hMixConvRefIdeal : Cert.MixConvRefIdeal.Facts] : Prop :=
  ∀ (m : (ℓ : Loc Cert.MixConvRefIdeal.nD Cert.MixConvRefIdeal.τ Cert.MixConvRefIdeal.sig) → Buf (Elt Ideal) ℓ) (g : Dev Cert.MixConvRefIdeal.nD → PrngReg), Pre_MixConvRefIdeal m →
    θ_run (Cert.MixConvRefIdeal.defs (F := Ideal)) (onTc (τ := Cert.MixConvRefIdeal.τ) (Cert.MixConvRefIdeal.main (F := Ideal))) ⟨m, fun _ => 0, g⟩ (fun r => (∀ c : Dev Cert.MixConvRefIdeal.nD,
      r.2.mem ((c.tc : Thread Cert.MixConvRefIdeal.nD Cert.MixConvRefIdeal.τ).loc Cert.MixConvRefIdeal.main_arg0) = m ((c.tc : Thread Cert.MixConvRefIdeal.nD Cert.MixConvRefIdeal.τ).loc Cert.MixConvRefIdeal.main_arg0)
      ∧ r.2.mem ((c.tc : Thread Cert.MixConvRefIdeal.nD Cert.MixConvRefIdeal.τ).loc Cert.MixConvRefIdeal.main_arg1) = m ((c.tc : Thread Cert.MixConvRefIdeal.nD Cert.MixConvRefIdeal.τ).loc Cert.MixConvRefIdeal.main_arg1)
      ∧ r.2.mem ((c.tc : Thread Cert.MixConvRefIdeal.nD Cert.MixConvRefIdeal.τ).loc Cert.MixConvRefIdeal.main_arg2) = m ((c.tc : Thread Cert.MixConvRefIdeal.nD Cert.MixConvRefIdeal.τ).loc Cert.MixConvRefIdeal.main_arg2))
      ∧ r.2.sem = fun _ => 0)

def quiescent_MixDo [hMixDo : Cert.MixDo.Facts] : Prop :=
  ∀ (m : (ℓ : Loc Cert.MixDo.nD Cert.MixDo.τ Cert.MixDo.sig) → Buf (Elt Bits) ℓ) (g : Dev Cert.MixDo.nD → PrngReg), Pre_MixDo m →
    θ_run (Cert.MixDo.defs (F := Bits)) (onTc (τ := Cert.MixDo.τ) (Cert.MixDo.main (F := Bits))) ⟨m, fun _ => 0, g⟩ (fun r => (∀ c : Dev Cert.MixDo.nD,
      r.2.mem ((c.tc : Thread Cert.MixDo.nD Cert.MixDo.τ).loc Cert.MixDo.main_arg0) = m ((c.tc : Thread Cert.MixDo.nD Cert.MixDo.τ).loc Cert.MixDo.main_arg0)
      ∧ r.2.mem ((c.tc : Thread Cert.MixDo.nD Cert.MixDo.τ).loc Cert.MixDo.main_arg1) = m ((c.tc : Thread Cert.MixDo.nD Cert.MixDo.τ).loc Cert.MixDo.main_arg1))
      ∧ r.2.sem = fun _ => 0)

def quiescent_MixDoIdeal [hMixDoIdeal : Cert.MixDoIdeal.Facts] : Prop :=
  ∀ (m : (ℓ : Loc Cert.MixDoIdeal.nD Cert.MixDoIdeal.τ Cert.MixDoIdeal.sig) → Buf (Elt Ideal) ℓ) (g : Dev Cert.MixDoIdeal.nD → PrngReg), Pre_MixDoIdeal m →
    θ_run (Cert.MixDoIdeal.defs (F := Ideal)) (onTc (τ := Cert.MixDoIdeal.τ) (Cert.MixDoIdeal.main (F := Ideal))) ⟨m, fun _ => 0, g⟩ (fun r => (∀ c : Dev Cert.MixDoIdeal.nD,
      r.2.mem ((c.tc : Thread Cert.MixDoIdeal.nD Cert.MixDoIdeal.τ).loc Cert.MixDoIdeal.main_arg0) = m ((c.tc : Thread Cert.MixDoIdeal.nD Cert.MixDoIdeal.τ).loc Cert.MixDoIdeal.main_arg0)
      ∧ r.2.mem ((c.tc : Thread Cert.MixDoIdeal.nD Cert.MixDoIdeal.τ).loc Cert.MixDoIdeal.main_arg1) = m ((c.tc : Thread Cert.MixDoIdeal.nD Cert.MixDoIdeal.τ).loc Cert.MixDoIdeal.main_arg1))
      ∧ r.2.sem = fun _ => 0)

def quiescent_MixDoRefIdeal [hMixDoRefIdeal : Cert.MixDoRefIdeal.Facts] : Prop :=
  ∀ (m : (ℓ : Loc Cert.MixDoRefIdeal.nD Cert.MixDoRefIdeal.τ Cert.MixDoRefIdeal.sig) → Buf (Elt Ideal) ℓ) (g : Dev Cert.MixDoRefIdeal.nD → PrngReg), Pre_MixDoRefIdeal m →
    θ_run (Cert.MixDoRefIdeal.defs (F := Ideal)) (onTc (τ := Cert.MixDoRefIdeal.τ) (Cert.MixDoRefIdeal.main (F := Ideal))) ⟨m, fun _ => 0, g⟩ (fun r => (∀ c : Dev Cert.MixDoRefIdeal.nD,
      r.2.mem ((c.tc : Thread Cert.MixDoRefIdeal.nD Cert.MixDoRefIdeal.τ).loc Cert.MixDoRefIdeal.main_arg0) = m ((c.tc : Thread Cert.MixDoRefIdeal.nD Cert.MixDoRefIdeal.τ).loc Cert.MixDoRefIdeal.main_arg0)
      ∧ r.2.mem ((c.tc : Thread Cert.MixDoRefIdeal.nD Cert.MixDoRefIdeal.τ).loc Cert.MixDoRefIdeal.main_arg1) = m ((c.tc : Thread Cert.MixDoRefIdeal.nD Cert.MixDoRefIdeal.τ).loc Cert.MixDoRefIdeal.main_arg1))
      ∧ r.2.sem = fun _ => 0)

def quiescent_MixDcv [hMixDcv : Cert.MixDcv.Facts] : Prop :=
  ∀ (m : (ℓ : Loc Cert.MixDcv.nD Cert.MixDcv.τ Cert.MixDcv.sig) → Buf (Elt Bits) ℓ) (g : Dev Cert.MixDcv.nD → PrngReg), Pre_MixDcv m →
    θ_run (Cert.MixDcv.defs (F := Bits)) (onTc (τ := Cert.MixDcv.τ) (Cert.MixDcv.main (F := Bits))) ⟨m, fun _ => 0, g⟩ (fun r => (∀ c : Dev Cert.MixDcv.nD,
      r.2.mem ((c.tc : Thread Cert.MixDcv.nD Cert.MixDcv.τ).loc Cert.MixDcv.main_arg0) = m ((c.tc : Thread Cert.MixDcv.nD Cert.MixDcv.τ).loc Cert.MixDcv.main_arg0)
      ∧ r.2.mem ((c.tc : Thread Cert.MixDcv.nD Cert.MixDcv.τ).loc Cert.MixDcv.main_arg1) = m ((c.tc : Thread Cert.MixDcv.nD Cert.MixDcv.τ).loc Cert.MixDcv.main_arg1))
      ∧ r.2.sem = fun _ => 0)

def quiescent_MixDcvIdeal [hMixDcvIdeal : Cert.MixDcvIdeal.Facts] : Prop :=
  ∀ (m : (ℓ : Loc Cert.MixDcvIdeal.nD Cert.MixDcvIdeal.τ Cert.MixDcvIdeal.sig) → Buf (Elt Ideal) ℓ) (g : Dev Cert.MixDcvIdeal.nD → PrngReg), Pre_MixDcvIdeal m →
    θ_run (Cert.MixDcvIdeal.defs (F := Ideal)) (onTc (τ := Cert.MixDcvIdeal.τ) (Cert.MixDcvIdeal.main (F := Ideal))) ⟨m, fun _ => 0, g⟩ (fun r => (∀ c : Dev Cert.MixDcvIdeal.nD,
      r.2.mem ((c.tc : Thread Cert.MixDcvIdeal.nD Cert.MixDcvIdeal.τ).loc Cert.MixDcvIdeal.main_arg0) = m ((c.tc : Thread Cert.MixDcvIdeal.nD Cert.MixDcvIdeal.τ).loc Cert.MixDcvIdeal.main_arg0)
      ∧ r.2.mem ((c.tc : Thread Cert.MixDcvIdeal.nD Cert.MixDcvIdeal.τ).loc Cert.MixDcvIdeal.main_arg1) = m ((c.tc : Thread Cert.MixDcvIdeal.nD Cert.MixDcvIdeal.τ).loc Cert.MixDcvIdeal.main_arg1))
      ∧ r.2.sem = fun _ => 0)

def quiescent_MixDcvRefIdeal [hMixDcvRefIdeal : Cert.MixDcvRefIdeal.Facts] : Prop :=
  ∀ (m : (ℓ : Loc Cert.MixDcvRefIdeal.nD Cert.MixDcvRefIdeal.τ Cert.MixDcvRefIdeal.sig) → Buf (Elt Ideal) ℓ) (g : Dev Cert.MixDcvRefIdeal.nD → PrngReg), Pre_MixDcvRefIdeal m →
    θ_run (Cert.MixDcvRefIdeal.defs (F := Ideal)) (onTc (τ := Cert.MixDcvRefIdeal.τ) (Cert.MixDcvRefIdeal.main (F := Ideal))) ⟨m, fun _ => 0, g⟩ (fun r => (∀ c : Dev Cert.MixDcvRefIdeal.nD,
      r.2.mem ((c.tc : Thread Cert.MixDcvRefIdeal.nD Cert.MixDcvRefIdeal.τ).loc Cert.MixDcvRefIdeal.main_arg0) = m ((c.tc : Thread Cert.MixDcvRefIdeal.nD Cert.MixDcvRefIdeal.τ).loc Cert.MixDcvRefIdeal.main_arg0)
      ∧ r.2.mem ((c.tc : Thread Cert.MixDcvRefIdeal.nD Cert.MixDcvRefIdeal.τ).loc Cert.MixDcvRefIdeal.main_arg1) = m ((c.tc : Thread Cert.MixDcvRefIdeal.nD Cert.MixDcvRefIdeal.τ).loc Cert.MixDcvRefIdeal.main_arg1))
      ∧ r.2.sem = fun _ => 0)

def quiescent_MixDqln [hMixDqln : Cert.MixDqln.Facts] : Prop :=
  ∀ (m : (ℓ : Loc Cert.MixDqln.nD Cert.MixDqln.τ Cert.MixDqln.sig) → Buf (Elt Bits) ℓ) (g : Dev Cert.MixDqln.nD → PrngReg), Pre_MixDqln m →
    θ_run (Cert.MixDqln.defs (F := Bits)) (onTc (τ := Cert.MixDqln.τ) (Cert.MixDqln.main (F := Bits))) ⟨m, fun _ => 0, g⟩ (fun r => (∀ c : Dev Cert.MixDqln.nD,
      r.2.mem ((c.tc : Thread Cert.MixDqln.nD Cert.MixDqln.τ).loc Cert.MixDqln.main_arg0) = m ((c.tc : Thread Cert.MixDqln.nD Cert.MixDqln.τ).loc Cert.MixDqln.main_arg0)
      ∧ r.2.mem ((c.tc : Thread Cert.MixDqln.nD Cert.MixDqln.τ).loc Cert.MixDqln.main_arg1) = m ((c.tc : Thread Cert.MixDqln.nD Cert.MixDqln.τ).loc Cert.MixDqln.main_arg1))
      ∧ r.2.sem = fun _ => 0)

def quiescent_MixDqlnIdeal [hMixDqlnIdeal : Cert.MixDqlnIdeal.Facts] : Prop :=
  ∀ (m : (ℓ : Loc Cert.MixDqlnIdeal.nD Cert.MixDqlnIdeal.τ Cert.MixDqlnIdeal.sig) → Buf (Elt Ideal) ℓ) (g : Dev Cert.MixDqlnIdeal.nD → PrngReg), Pre_MixDqlnIdeal m →
    θ_run (Cert.MixDqlnIdeal.defs (F := Ideal)) (onTc (τ := Cert.MixDqlnIdeal.τ) (Cert.MixDqlnIdeal.main (F := Ideal))) ⟨m, fun _ => 0, g⟩ (fun r => (∀ c : Dev Cert.MixDqlnIdeal.nD,
      r.2.mem ((c.tc : Thread Cert.MixDqlnIdeal.nD Cert.MixDqlnIdeal.τ).loc Cert.MixDqlnIdeal.main_arg0) = m ((c.tc : Thread Cert.MixDqlnIdeal.nD Cert.MixDqlnIdeal.τ).loc Cert.MixDqlnIdeal.main_arg0)
      ∧ r.2.mem ((c.tc : Thread Cert.MixDqlnIdeal.nD Cert.MixDqlnIdeal.τ).loc Cert.MixDqlnIdeal.main_arg1) = m ((c.tc : Thread Cert.MixDqlnIdeal.nD Cert.MixDqlnIdeal.τ).loc Cert.MixDqlnIdeal.main_arg1))
      ∧ r.2.sem = fun _ => 0)

def quiescent_MixDqlnRefIdeal [hMixDqlnRefIdeal : Cert.MixDqlnRefIdeal.Facts] : Prop :=
  ∀ (m : (ℓ : Loc Cert.MixDqlnRefIdeal.nD Cert.MixDqlnRefIdeal.τ Cert.MixDqlnRefIdeal.sig) → Buf (Elt Ideal) ℓ) (g : Dev Cert.MixDqlnRefIdeal.nD → PrngReg), Pre_MixDqlnRefIdeal m →
    θ_run (Cert.MixDqlnRefIdeal.defs (F := Ideal)) (onTc (τ := Cert.MixDqlnRefIdeal.τ) (Cert.MixDqlnRefIdeal.main (F := Ideal))) ⟨m, fun _ => 0, g⟩ (fun r => (∀ c : Dev Cert.MixDqlnRefIdeal.nD,
      r.2.mem ((c.tc : Thread Cert.MixDqlnRefIdeal.nD Cert.MixDqlnRefIdeal.τ).loc Cert.MixDqlnRefIdeal.main_arg0) = m ((c.tc : Thread Cert.MixDqlnRefIdeal.nD Cert.MixDqlnRefIdeal.τ).loc Cert.MixDqlnRefIdeal.main_arg0)
      ∧ r.2.mem ((c.tc : Thread Cert.MixDqlnRefIdeal.nD Cert.MixDqlnRefIdeal.τ).loc Cert.MixDqlnRefIdeal.main_arg1) = m ((c.tc : Thread Cert.MixDqlnRefIdeal.nD Cert.MixDqlnRefIdeal.τ).loc Cert.MixDqlnRefIdeal.main_arg1))
      ∧ r.2.sem = fun _ => 0)

def quiescent_MixDkvlnK [hMixDkvlnK : Cert.MixDkvlnK.Facts] : Prop :=
  ∀ (m : (ℓ : Loc Cert.MixDkvlnK.nD Cert.MixDkvlnK.τ Cert.MixDkvlnK.sig) → Buf (Elt Bits) ℓ) (g : Dev Cert.MixDkvlnK.nD → PrngReg), Pre_MixDkvlnK m →
    θ_run (Cert.MixDkvlnK.defs (F := Bits)) (onTc (τ := Cert.MixDkvlnK.τ) (Cert.MixDkvlnK.main (F := Bits))) ⟨m, fun _ => 0, g⟩ (fun r => (∀ c : Dev Cert.MixDkvlnK.nD,
      r.2.mem ((c.tc : Thread Cert.MixDkvlnK.nD Cert.MixDkvlnK.τ).loc Cert.MixDkvlnK.main_arg0) = m ((c.tc : Thread Cert.MixDkvlnK.nD Cert.MixDkvlnK.τ).loc Cert.MixDkvlnK.main_arg0)
      ∧ r.2.mem ((c.tc : Thread Cert.MixDkvlnK.nD Cert.MixDkvlnK.τ).loc Cert.MixDkvlnK.main_arg1) = m ((c.tc : Thread Cert.MixDkvlnK.nD Cert.MixDkvlnK.τ).loc Cert.MixDkvlnK.main_arg1))
      ∧ r.2.sem = fun _ => 0)

def quiescent_MixDkvlnKIdeal [hMixDkvlnKIdeal : Cert.MixDkvlnKIdeal.Facts] : Prop :=
  ∀ (m : (ℓ : Loc Cert.MixDkvlnKIdeal.nD Cert.MixDkvlnKIdeal.τ Cert.MixDkvlnKIdeal.sig) → Buf (Elt Ideal) ℓ) (g : Dev Cert.MixDkvlnKIdeal.nD → PrngReg), Pre_MixDkvlnKIdeal m →
    θ_run (Cert.MixDkvlnKIdeal.defs (F := Ideal)) (onTc (τ := Cert.MixDkvlnKIdeal.τ) (Cert.MixDkvlnKIdeal.main (F := Ideal))) ⟨m, fun _ => 0, g⟩ (fun r => (∀ c : Dev Cert.MixDkvlnKIdeal.nD,
      r.2.mem ((c.tc : Thread Cert.MixDkvlnKIdeal.nD Cert.MixDkvlnKIdeal.τ).loc Cert.MixDkvlnKIdeal.main_arg0) = m ((c.tc : Thread Cert.MixDkvlnKIdeal.nD Cert.MixDkvlnKIdeal.τ).loc Cert.MixDkvlnKIdeal.main_arg0)
      ∧ r.2.mem ((c.tc : Thread Cert.MixDkvlnKIdeal.nD Cert.MixDkvlnKIdeal.τ).loc Cert.MixDkvlnKIdeal.main_arg1) = m ((c.tc : Thread Cert.MixDkvlnKIdeal.nD Cert.MixDkvlnKIdeal.τ).loc Cert.MixDkvlnKIdeal.main_arg1))
      ∧ r.2.sem = fun _ => 0)

def quiescent_MixDkvlnKRefIdeal [hMixDkvlnKRefIdeal : Cert.MixDkvlnKRefIdeal.Facts] : Prop :=
  ∀ (m : (ℓ : Loc Cert.MixDkvlnKRefIdeal.nD Cert.MixDkvlnKRefIdeal.τ Cert.MixDkvlnKRefIdeal.sig) → Buf (Elt Ideal) ℓ) (g : Dev Cert.MixDkvlnKRefIdeal.nD → PrngReg), Pre_MixDkvlnKRefIdeal m →
    θ_run (Cert.MixDkvlnKRefIdeal.defs (F := Ideal)) (onTc (τ := Cert.MixDkvlnKRefIdeal.τ) (Cert.MixDkvlnKRefIdeal.main (F := Ideal))) ⟨m, fun _ => 0, g⟩ (fun r => (∀ c : Dev Cert.MixDkvlnKRefIdeal.nD,
      r.2.mem ((c.tc : Thread Cert.MixDkvlnKRefIdeal.nD Cert.MixDkvlnKRefIdeal.τ).loc Cert.MixDkvlnKRefIdeal.main_arg0) = m ((c.tc : Thread Cert.MixDkvlnKRefIdeal.nD Cert.MixDkvlnKRefIdeal.τ).loc Cert.MixDkvlnKRefIdeal.main_arg0)
      ∧ r.2.mem ((c.tc : Thread Cert.MixDkvlnKRefIdeal.nD Cert.MixDkvlnKRefIdeal.τ).loc Cert.MixDkvlnKRefIdeal.main_arg1) = m ((c.tc : Thread Cert.MixDkvlnKRefIdeal.nD Cert.MixDkvlnKRefIdeal.τ).loc Cert.MixDkvlnKRefIdeal.main_arg1))
      ∧ r.2.sem = fun _ => 0)

def quiescent_MixDkvlnV [hMixDkvlnV : Cert.MixDkvlnV.Facts] : Prop :=
  ∀ (m : (ℓ : Loc Cert.MixDkvlnV.nD Cert.MixDkvlnV.τ Cert.MixDkvlnV.sig) → Buf (Elt Bits) ℓ) (g : Dev Cert.MixDkvlnV.nD → PrngReg), Pre_MixDkvlnV m →
    θ_run (Cert.MixDkvlnV.defs (F := Bits)) (onTc (τ := Cert.MixDkvlnV.τ) (Cert.MixDkvlnV.main (F := Bits))) ⟨m, fun _ => 0, g⟩ (fun r => (∀ c : Dev Cert.MixDkvlnV.nD,
      r.2.mem ((c.tc : Thread Cert.MixDkvlnV.nD Cert.MixDkvlnV.τ).loc Cert.MixDkvlnV.main_arg0) = m ((c.tc : Thread Cert.MixDkvlnV.nD Cert.MixDkvlnV.τ).loc Cert.MixDkvlnV.main_arg0)
      ∧ r.2.mem ((c.tc : Thread Cert.MixDkvlnV.nD Cert.MixDkvlnV.τ).loc Cert.MixDkvlnV.main_arg1) = m ((c.tc : Thread Cert.MixDkvlnV.nD Cert.MixDkvlnV.τ).loc Cert.MixDkvlnV.main_arg1)
      ∧ r.2.mem ((c.tc : Thread Cert.MixDkvlnV.nD Cert.MixDkvlnV.τ).loc Cert.MixDkvlnV.main_arg2) = m ((c.tc : Thread Cert.MixDkvlnV.nD Cert.MixDkvlnV.τ).loc Cert.MixDkvlnV.main_arg2))
      ∧ r.2.sem = fun _ => 0)

def quiescent_MixDkvlnVIdeal [hMixDkvlnVIdeal : Cert.MixDkvlnVIdeal.Facts] : Prop :=
  ∀ (m : (ℓ : Loc Cert.MixDkvlnVIdeal.nD Cert.MixDkvlnVIdeal.τ Cert.MixDkvlnVIdeal.sig) → Buf (Elt Ideal) ℓ) (g : Dev Cert.MixDkvlnVIdeal.nD → PrngReg), Pre_MixDkvlnVIdeal m →
    θ_run (Cert.MixDkvlnVIdeal.defs (F := Ideal)) (onTc (τ := Cert.MixDkvlnVIdeal.τ) (Cert.MixDkvlnVIdeal.main (F := Ideal))) ⟨m, fun _ => 0, g⟩ (fun r => (∀ c : Dev Cert.MixDkvlnVIdeal.nD,
      r.2.mem ((c.tc : Thread Cert.MixDkvlnVIdeal.nD Cert.MixDkvlnVIdeal.τ).loc Cert.MixDkvlnVIdeal.main_arg0) = m ((c.tc : Thread Cert.MixDkvlnVIdeal.nD Cert.MixDkvlnVIdeal.τ).loc Cert.MixDkvlnVIdeal.main_arg0)
      ∧ r.2.mem ((c.tc : Thread Cert.MixDkvlnVIdeal.nD Cert.MixDkvlnVIdeal.τ).loc Cert.MixDkvlnVIdeal.main_arg1) = m ((c.tc : Thread Cert.MixDkvlnVIdeal.nD Cert.MixDkvlnVIdeal.τ).loc Cert.MixDkvlnVIdeal.main_arg1)
      ∧ r.2.mem ((c.tc : Thread Cert.MixDkvlnVIdeal.nD Cert.MixDkvlnVIdeal.τ).loc Cert.MixDkvlnVIdeal.main_arg2) = m ((c.tc : Thread Cert.MixDkvlnVIdeal.nD Cert.MixDkvlnVIdeal.τ).loc Cert.MixDkvlnVIdeal.main_arg2))
      ∧ r.2.sem = fun _ => 0)

def quiescent_MixDkvlnVRefIdeal [hMixDkvlnVRefIdeal : Cert.MixDkvlnVRefIdeal.Facts] : Prop :=
  ∀ (m : (ℓ : Loc Cert.MixDkvlnVRefIdeal.nD Cert.MixDkvlnVRefIdeal.τ Cert.MixDkvlnVRefIdeal.sig) → Buf (Elt Ideal) ℓ) (g : Dev Cert.MixDkvlnVRefIdeal.nD → PrngReg), Pre_MixDkvlnVRefIdeal m →
    θ_run (Cert.MixDkvlnVRefIdeal.defs (F := Ideal)) (onTc (τ := Cert.MixDkvlnVRefIdeal.τ) (Cert.MixDkvlnVRefIdeal.main (F := Ideal))) ⟨m, fun _ => 0, g⟩ (fun r => (∀ c : Dev Cert.MixDkvlnVRefIdeal.nD,
      r.2.mem ((c.tc : Thread Cert.MixDkvlnVRefIdeal.nD Cert.MixDkvlnVRefIdeal.τ).loc Cert.MixDkvlnVRefIdeal.main_arg0) = m ((c.tc : Thread Cert.MixDkvlnVRefIdeal.nD Cert.MixDkvlnVRefIdeal.τ).loc Cert.MixDkvlnVRefIdeal.main_arg0)
      ∧ r.2.mem ((c.tc : Thread Cert.MixDkvlnVRefIdeal.nD Cert.MixDkvlnVRefIdeal.τ).loc Cert.MixDkvlnVRefIdeal.main_arg1) = m ((c.tc : Thread Cert.MixDkvlnVRefIdeal.nD Cert.MixDkvlnVRefIdeal.τ).loc Cert.MixDkvlnVRefIdeal.main_arg1)
      ∧ r.2.mem ((c.tc : Thread Cert.MixDkvlnVRefIdeal.nD Cert.MixDkvlnVRefIdeal.τ).loc Cert.MixDkvlnVRefIdeal.main_arg2) = m ((c.tc : Thread Cert.MixDkvlnVRefIdeal.nD Cert.MixDkvlnVRefIdeal.τ).loc Cert.MixDkvlnVRefIdeal.main_arg2))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_GatherRef [hGatherRef : Cert.GatherRef.Facts] : Prop :=
  ∀ (m : (ℓ : Loc Cert.GatherRef.nD Cert.GatherRef.τ Cert.GatherRef.sig) → Buf (Elt Bits) ℓ) (g : Dev Cert.GatherRef.nD → PrngReg), Pre_GatherRef m →
    θ_run (Cert.GatherRef.defs (F := Bits)) (onTc (τ := Cert.GatherRef.τ) (Cert.GatherRef.main (F := Bits))) ⟨m, fun _ => 0, g⟩ (fun r => (∀ c : Dev Cert.GatherRef.nD,
      r.2.mem ((c.tc : Thread Cert.GatherRef.nD Cert.GatherRef.τ).loc Cert.GatherRef.main_arg0) = m ((c.tc : Thread Cert.GatherRef.nD Cert.GatherRef.τ).loc Cert.GatherRef.main_arg0))
      ∧ r.2.sem = fun _ => 0)

def preserves_Gather_GatherIdeal : Prop :=
  True

def algebraic_GatherIdeal_GatherRefIdeal [hGatherIdeal : Cert.GatherIdeal.Facts] [hGatherRefIdeal : Cert.GatherRefIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherRefIdeal.nD Cert.GatherRefIdeal.τ Cert.GatherRefIdeal.sig) → Buf (Elt Ideal) ℓ) (g' : Dev Cert.GatherRefIdeal.nD → PrngReg), Pre_GatherIdeal m →
    (∀ c : Dev Cert.GatherIdeal.nD,
      m ((c.tc : Thread Cert.GatherIdeal.nD Cert.GatherIdeal.τ).loc Cert.GatherIdeal.main_arg0) = Layout.block ⟨2, ![5040, 1024]⟩ ⟨2, ![40320, 1024]⟩ 0 8 c (m' (((0 : Dev Cert.GatherRefIdeal.nD).tc : Thread Cert.GatherRefIdeal.nD Cert.GatherRefIdeal.τ).loc Cert.GatherRefIdeal.main_arg0))) →
    ∃ (v0 : Buf (Elt Ideal) (((0 : Dev Cert.GatherRefIdeal.nD).tc : Thread Cert.GatherRefIdeal.nD Cert.GatherRefIdeal.τ).loc Cert.GatherRefIdeal.main_arg0)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v1) = v0
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0))
      ∧ θ_run (Cert.GatherRefIdeal.defs (F := Ideal)) (onTc (τ := Cert.GatherRefIdeal.τ) (Cert.GatherRefIdeal.main (F := Ideal))) ⟨m', fun _ => 0, g'⟩ (fun r =>
          r.2.mem (((0 : Dev Cert.GatherRefIdeal.nD).tc : Thread Cert.GatherRefIdeal.nD Cert.GatherRefIdeal.τ).loc Cert.GatherRefIdeal.main_arg0) = v0
          ∧ r.2.mem (((0 : Dev Cert.GatherRefIdeal.nD).tc : Thread Cert.GatherRefIdeal.nD Cert.GatherRefIdeal.τ).loc Cert.GatherRefIdeal.main_arg0) = m' (((0 : Dev Cert.GatherRefIdeal.nD).tc : Thread Cert.GatherRefIdeal.nD Cert.GatherRefIdeal.τ).loc Cert.GatherRefIdeal.main_arg0))

def preserves_Sibling_SiblingIdeal : Prop :=
  True

def algebraic_SiblingIdeal_SiblingRefIdeal [hSiblingIdeal : Cert.SiblingIdeal.Facts] [hSiblingRefIdeal : Cert.SiblingRefIdeal.Facts] : Prop :=
  ∀ (m : (ℓ : Loc Cert.SiblingIdeal.nD Cert.SiblingIdeal.τ Cert.SiblingIdeal.sig) → Buf (Elt Ideal) ℓ) (g : Dev Cert.SiblingIdeal.nD → PrngReg)
    (m' : (ℓ : Loc Cert.SiblingRefIdeal.nD Cert.SiblingRefIdeal.τ Cert.SiblingRefIdeal.sig) → Buf (Elt Ideal) ℓ) (g' : Dev Cert.SiblingRefIdeal.nD → PrngReg), Pre_SiblingIdeal m →
    (∀ c : Dev Cert.SiblingIdeal.nD,
      m ((c.tc : Thread Cert.SiblingIdeal.nD Cert.SiblingIdeal.τ).loc Cert.SiblingIdeal.main_arg0) = Layout.block ⟨3, ![8, 5040, 1024]⟩ ⟨3, ![64, 5040, 1024]⟩ 0 8 c (m' (((0 : Dev Cert.SiblingRefIdeal.nD).tc : Thread Cert.SiblingRefIdeal.nD Cert.SiblingRefIdeal.τ).loc Cert.SiblingRefIdeal.main_arg0))) →
    ∃ (v0 : Buf (Elt Ideal) (((0 : Dev Cert.SiblingRefIdeal.nD).tc : Thread Cert.SiblingRefIdeal.nD Cert.SiblingRefIdeal.τ).loc Cert.SiblingRefIdeal.main_v4)),
      θ_run (Cert.SiblingIdeal.defs (F := Ideal)) (onTc (τ := Cert.SiblingIdeal.τ) (Cert.SiblingIdeal.main (F := Ideal))) ⟨m, fun _ => 0, g⟩ (fun r => ∀ c : Dev Cert.SiblingIdeal.nD,
          r.2.mem ((c.tc : Thread Cert.SiblingIdeal.nD Cert.SiblingIdeal.τ).loc Cert.SiblingIdeal.main_v7) = Layout.block ⟨3, ![4, 5040, 1024]⟩ ⟨3, ![32, 5040, 1024]⟩ 0 8 c v0
          ∧ r.2.mem ((c.tc : Thread Cert.SiblingIdeal.nD Cert.SiblingIdeal.τ).loc Cert.SiblingIdeal.main_arg0) = m ((c.tc : Thread Cert.SiblingIdeal.nD Cert.SiblingIdeal.τ).loc Cert.SiblingIdeal.main_arg0))
      ∧ θ_run (Cert.SiblingRefIdeal.defs (F := Ideal)) (onTc (τ := Cert.SiblingRefIdeal.τ) (Cert.SiblingRefIdeal.main (F := Ideal))) ⟨m', fun _ => 0, g'⟩ (fun r =>
          r.2.mem (((0 : Dev Cert.SiblingRefIdeal.nD).tc : Thread Cert.SiblingRefIdeal.nD Cert.SiblingRefIdeal.τ).loc Cert.SiblingRefIdeal.main_v4) = v0
          ∧ r.2.mem (((0 : Dev Cert.SiblingRefIdeal.nD).tc : Thread Cert.SiblingRefIdeal.nD Cert.SiblingRefIdeal.τ).loc Cert.SiblingRefIdeal.main_arg0) = m' (((0 : Dev Cert.SiblingRefIdeal.nD).tc : Thread Cert.SiblingRefIdeal.nD Cert.SiblingRefIdeal.τ).loc Cert.SiblingRefIdeal.main_arg0))

def preserves_Chips_ChipsIdeal : Prop :=
  True

def algebraic_ChipsIdeal_ChipsRefIdeal [hChipsIdeal : Cert.ChipsIdeal.Facts] [hChipsRefIdeal : Cert.ChipsRefIdeal.Facts] : Prop :=
  ∀ (m : (ℓ : Loc Cert.ChipsIdeal.nD Cert.ChipsIdeal.τ Cert.ChipsIdeal.sig) → Buf (Elt Ideal) ℓ) (g : Dev Cert.ChipsIdeal.nD → PrngReg)
    (m' : (ℓ : Loc Cert.ChipsRefIdeal.nD Cert.ChipsRefIdeal.τ Cert.ChipsRefIdeal.sig) → Buf (Elt Ideal) ℓ) (g' : Dev Cert.ChipsRefIdeal.nD → PrngReg), Pre_ChipsIdeal m →
    (∀ c : Dev Cert.ChipsIdeal.nD,
      m ((c.tc : Thread Cert.ChipsIdeal.nD Cert.ChipsIdeal.τ).loc Cert.ChipsIdeal.main_arg0) = Layout.block ⟨3, ![4, 5040, 1024]⟩ ⟨3, ![32, 5040, 1024]⟩ 0 8 c (m' (((0 : Dev Cert.ChipsRefIdeal.nD).tc : Thread Cert.ChipsRefIdeal.nD Cert.ChipsRefIdeal.τ).loc Cert.ChipsRefIdeal.main_arg0))) →
    ∃ (v0 : Buf (Elt Ideal) (((0 : Dev Cert.ChipsRefIdeal.nD).tc : Thread Cert.ChipsRefIdeal.nD Cert.ChipsRefIdeal.τ).loc Cert.ChipsRefIdeal.main_v3)),
      θ_run (Cert.ChipsIdeal.defs (F := Ideal)) (onTc (τ := Cert.ChipsIdeal.τ) (Cert.ChipsIdeal.main (F := Ideal))) ⟨m, fun _ => 0, g⟩ (fun r => ∀ c : Dev Cert.ChipsIdeal.nD,
          r.2.mem ((c.tc : Thread Cert.ChipsIdeal.nD Cert.ChipsIdeal.τ).loc Cert.ChipsIdeal.main_v13) = Layout.block ⟨2, ![5040, 1024]⟩ ⟨2, ![40320, 1024]⟩ 0 8 c v0
          ∧ r.2.mem ((c.tc : Thread Cert.ChipsIdeal.nD Cert.ChipsIdeal.τ).loc Cert.ChipsIdeal.main_arg0) = m ((c.tc : Thread Cert.ChipsIdeal.nD Cert.ChipsIdeal.τ).loc Cert.ChipsIdeal.main_arg0))
      ∧ θ_run (Cert.ChipsRefIdeal.defs (F := Ideal)) (onTc (τ := Cert.ChipsRefIdeal.τ) (Cert.ChipsRefIdeal.main (F := Ideal))) ⟨m', fun _ => 0, g'⟩ (fun r =>
          r.2.mem (((0 : Dev Cert.ChipsRefIdeal.nD).tc : Thread Cert.ChipsRefIdeal.nD Cert.ChipsRefIdeal.τ).loc Cert.ChipsRefIdeal.main_v3) = v0
          ∧ r.2.mem (((0 : Dev Cert.ChipsRefIdeal.nD).tc : Thread Cert.ChipsRefIdeal.nD Cert.ChipsRefIdeal.τ).loc Cert.ChipsRefIdeal.main_arg0) = m' (((0 : Dev Cert.ChipsRefIdeal.nD).tc : Thread Cert.ChipsRefIdeal.nD Cert.ChipsRefIdeal.τ).loc Cert.ChipsRefIdeal.main_arg0))

def preserves_UpGate_UpGateIdeal : Prop :=
  True

def algebraic_UpGateIdeal_UpGateRefIdeal [hUpGateIdeal : Cert.UpGateIdeal.Facts] [hUpGateRefIdeal : Cert.UpGateRefIdeal.Facts] : Prop :=
  ∀ (m : (ℓ : Loc Cert.UpGateIdeal.nD Cert.UpGateIdeal.τ Cert.UpGateIdeal.sig) → Buf (Elt Ideal) ℓ) (g : Dev Cert.UpGateIdeal.nD → PrngReg)
    (m' : (ℓ : Loc Cert.UpGateRefIdeal.nD Cert.UpGateRefIdeal.τ Cert.UpGateRefIdeal.sig) → Buf (Elt Ideal) ℓ) (g' : Dev Cert.UpGateRefIdeal.nD → PrngReg), Pre_UpGateIdeal m →
    (∀ c : Dev Cert.UpGateIdeal.nD,
      m' ((c.tc : Thread Cert.UpGateRefIdeal.nD Cert.UpGateRefIdeal.τ).loc Cert.UpGateRefIdeal.main_arg0) = m ((c.tc : Thread Cert.UpGateIdeal.nD Cert.UpGateIdeal.τ).loc Cert.UpGateIdeal.main_arg0)
      ∧ m' ((c.tc : Thread Cert.UpGateRefIdeal.nD Cert.UpGateRefIdeal.τ).loc Cert.UpGateRefIdeal.main_arg1) = m ((c.tc : Thread Cert.UpGateIdeal.nD Cert.UpGateIdeal.τ).loc Cert.UpGateIdeal.main_arg1)
      ∧ m' ((c.tc : Thread Cert.UpGateRefIdeal.nD Cert.UpGateRefIdeal.τ).loc Cert.UpGateRefIdeal.main_arg2) = m ((c.tc : Thread Cert.UpGateIdeal.nD Cert.UpGateIdeal.τ).loc Cert.UpGateIdeal.main_arg2)
      ∧ m' ((c.tc : Thread Cert.UpGateRefIdeal.nD Cert.UpGateRefIdeal.τ).loc Cert.UpGateRefIdeal.main_arg3) = m ((c.tc : Thread Cert.UpGateIdeal.nD Cert.UpGateIdeal.τ).loc Cert.UpGateIdeal.main_arg3)) →
    ∃ (v0 : (c : Dev Cert.UpGateIdeal.nD) → Buf (Elt Ideal) ((c.tc : Thread Cert.UpGateIdeal.nD Cert.UpGateIdeal.τ).loc Cert.UpGateIdeal.main_v0_0)) (v1 : (c : Dev Cert.UpGateIdeal.nD) → Buf (Elt Ideal) ((c.tc : Thread Cert.UpGateIdeal.nD Cert.UpGateIdeal.τ).loc Cert.UpGateIdeal.main_v0_1)) (v2 : (c : Dev Cert.UpGateIdeal.nD) → Buf (Elt Ideal) ((c.tc : Thread Cert.UpGateIdeal.nD Cert.UpGateIdeal.τ).loc Cert.UpGateIdeal.main_v0_2)),
      θ_run (Cert.UpGateIdeal.defs (F := Ideal)) (onTc (τ := Cert.UpGateIdeal.τ) (Cert.UpGateIdeal.main (F := Ideal))) ⟨m, fun _ => 0, g⟩ (fun r => ∀ c : Dev Cert.UpGateIdeal.nD,
          r.2.mem ((c.tc : Thread Cert.UpGateIdeal.nD Cert.UpGateIdeal.τ).loc Cert.UpGateIdeal.main_v0_0) = v0 c
          ∧ r.2.mem ((c.tc : Thread Cert.UpGateIdeal.nD Cert.UpGateIdeal.τ).loc Cert.UpGateIdeal.main_v0_1) = v1 c
          ∧ r.2.mem ((c.tc : Thread Cert.UpGateIdeal.nD Cert.UpGateIdeal.τ).loc Cert.UpGateIdeal.main_v0_2) = v2 c
          ∧ r.2.mem ((c.tc : Thread Cert.UpGateIdeal.nD Cert.UpGateIdeal.τ).loc Cert.UpGateIdeal.main_arg0) = m ((c.tc : Thread Cert.UpGateIdeal.nD Cert.UpGateIdeal.τ).loc Cert.UpGateIdeal.main_arg0)
          ∧ r.2.mem ((c.tc : Thread Cert.UpGateIdeal.nD Cert.UpGateIdeal.τ).loc Cert.UpGateIdeal.main_arg1) = m ((c.tc : Thread Cert.UpGateIdeal.nD Cert.UpGateIdeal.τ).loc Cert.UpGateIdeal.main_arg1)
          ∧ r.2.mem ((c.tc : Thread Cert.UpGateIdeal.nD Cert.UpGateIdeal.τ).loc Cert.UpGateIdeal.main_arg2) = m ((c.tc : Thread Cert.UpGateIdeal.nD Cert.UpGateIdeal.τ).loc Cert.UpGateIdeal.main_arg2)
          ∧ r.2.mem ((c.tc : Thread Cert.UpGateIdeal.nD Cert.UpGateIdeal.τ).loc Cert.UpGateIdeal.main_arg3) = m ((c.tc : Thread Cert.UpGateIdeal.nD Cert.UpGateIdeal.τ).loc Cert.UpGateIdeal.main_arg3))
      ∧ θ_run (Cert.UpGateRefIdeal.defs (F := Ideal)) (onTc (τ := Cert.UpGateRefIdeal.τ) (Cert.UpGateRefIdeal.main (F := Ideal))) ⟨m', fun _ => 0, g'⟩ (fun r => ∀ c : Dev Cert.UpGateRefIdeal.nD,
          r.2.mem ((c.tc : Thread Cert.UpGateRefIdeal.nD Cert.UpGateRefIdeal.τ).loc Cert.UpGateRefIdeal.main_v23) = v0 c
          ∧ r.2.mem ((c.tc : Thread Cert.UpGateRefIdeal.nD Cert.UpGateRefIdeal.τ).loc Cert.UpGateRefIdeal.main_v4) = v1 c
          ∧ r.2.mem ((c.tc : Thread Cert.UpGateRefIdeal.nD Cert.UpGateRefIdeal.τ).loc Cert.UpGateRefIdeal.main_v10) = v2 c
          ∧ r.2.mem ((c.tc : Thread Cert.UpGateRefIdeal.nD Cert.UpGateRefIdeal.τ).loc Cert.UpGateRefIdeal.main_arg0) = m' ((c.tc : Thread Cert.UpGateRefIdeal.nD Cert.UpGateRefIdeal.τ).loc Cert.UpGateRefIdeal.main_arg0)
          ∧ r.2.mem ((c.tc : Thread Cert.UpGateRefIdeal.nD Cert.UpGateRefIdeal.τ).loc Cert.UpGateRefIdeal.main_arg1) = m' ((c.tc : Thread Cert.UpGateRefIdeal.nD Cert.UpGateRefIdeal.τ).loc Cert.UpGateRefIdeal.main_arg1)
          ∧ r.2.mem ((c.tc : Thread Cert.UpGateRefIdeal.nD Cert.UpGateRefIdeal.τ).loc Cert.UpGateRefIdeal.main_arg2) = m' ((c.tc : Thread Cert.UpGateRefIdeal.nD Cert.UpGateRefIdeal.τ).loc Cert.UpGateRefIdeal.main_arg2)
          ∧ r.2.mem ((c.tc : Thread Cert.UpGateRefIdeal.nD Cert.UpGateRefIdeal.τ).loc Cert.UpGateRefIdeal.main_arg3) = m' ((c.tc : Thread Cert.UpGateRefIdeal.nD Cert.UpGateRefIdeal.τ).loc Cert.UpGateRefIdeal.main_arg3))

def preserves_UpDown_UpDownIdeal : Prop :=
  True

def algebraic_UpDownIdeal_UpDownRefIdeal [hUpDownIdeal : Cert.UpDownIdeal.Facts] [hUpDownRefIdeal : Cert.UpDownRefIdeal.Facts] : Prop :=
  ∀ (m : (ℓ : Loc Cert.UpDownIdeal.nD Cert.UpDownIdeal.τ Cert.UpDownIdeal.sig) → Buf (Elt Ideal) ℓ) (g : Dev Cert.UpDownIdeal.nD → PrngReg)
    (m' : (ℓ : Loc Cert.UpDownRefIdeal.nD Cert.UpDownRefIdeal.τ Cert.UpDownRefIdeal.sig) → Buf (Elt Ideal) ℓ) (g' : Dev Cert.UpDownRefIdeal.nD → PrngReg), Pre_UpDownIdeal m →
    (∀ c : Dev Cert.UpDownIdeal.nD,
      m' ((c.tc : Thread Cert.UpDownRefIdeal.nD Cert.UpDownRefIdeal.τ).loc Cert.UpDownRefIdeal.main_arg0) = m ((c.tc : Thread Cert.UpDownIdeal.nD Cert.UpDownIdeal.τ).loc Cert.UpDownIdeal.main_arg0)
      ∧ m' ((c.tc : Thread Cert.UpDownRefIdeal.nD Cert.UpDownRefIdeal.τ).loc Cert.UpDownRefIdeal.main_arg1) = m ((c.tc : Thread Cert.UpDownIdeal.nD Cert.UpDownIdeal.τ).loc Cert.UpDownIdeal.main_arg1)
      ∧ m' ((c.tc : Thread Cert.UpDownRefIdeal.nD Cert.UpDownRefIdeal.τ).loc Cert.UpDownRefIdeal.main_arg2) = m ((c.tc : Thread Cert.UpDownIdeal.nD Cert.UpDownIdeal.τ).loc Cert.UpDownIdeal.main_arg2)
      ∧ m' ((c.tc : Thread Cert.UpDownRefIdeal.nD Cert.UpDownRefIdeal.τ).loc Cert.UpDownRefIdeal.main_arg3) = m ((c.tc : Thread Cert.UpDownIdeal.nD Cert.UpDownIdeal.τ).loc Cert.UpDownIdeal.main_arg3)) →
    ∃ (v0 : (c : Dev Cert.UpDownIdeal.nD) → Buf (Elt Ideal) ((c.tc : Thread Cert.UpDownIdeal.nD Cert.UpDownIdeal.τ).loc Cert.UpDownIdeal.main_v0_0)) (v1 : (c : Dev Cert.UpDownIdeal.nD) → Buf (Elt Ideal) ((c.tc : Thread Cert.UpDownIdeal.nD Cert.UpDownIdeal.τ).loc Cert.UpDownIdeal.main_v0_1)) (v2 : (c : Dev Cert.UpDownIdeal.nD) → Buf (Elt Ideal) ((c.tc : Thread Cert.UpDownIdeal.nD Cert.UpDownIdeal.τ).loc Cert.UpDownIdeal.main_v0_2)),
      θ_run (Cert.UpDownIdeal.defs (F := Ideal)) (onTc (τ := Cert.UpDownIdeal.τ) (Cert.UpDownIdeal.main (F := Ideal))) ⟨m, fun _ => 0, g⟩ (fun r => ∀ c : Dev Cert.UpDownIdeal.nD,
          r.2.mem ((c.tc : Thread Cert.UpDownIdeal.nD Cert.UpDownIdeal.τ).loc Cert.UpDownIdeal.main_v0_0) = v0 c
          ∧ r.2.mem ((c.tc : Thread Cert.UpDownIdeal.nD Cert.UpDownIdeal.τ).loc Cert.UpDownIdeal.main_v0_1) = v1 c
          ∧ r.2.mem ((c.tc : Thread Cert.UpDownIdeal.nD Cert.UpDownIdeal.τ).loc Cert.UpDownIdeal.main_v0_2) = v2 c
          ∧ r.2.mem ((c.tc : Thread Cert.UpDownIdeal.nD Cert.UpDownIdeal.τ).loc Cert.UpDownIdeal.main_arg0) = m ((c.tc : Thread Cert.UpDownIdeal.nD Cert.UpDownIdeal.τ).loc Cert.UpDownIdeal.main_arg0)
          ∧ r.2.mem ((c.tc : Thread Cert.UpDownIdeal.nD Cert.UpDownIdeal.τ).loc Cert.UpDownIdeal.main_arg1) = m ((c.tc : Thread Cert.UpDownIdeal.nD Cert.UpDownIdeal.τ).loc Cert.UpDownIdeal.main_arg1)
          ∧ r.2.mem ((c.tc : Thread Cert.UpDownIdeal.nD Cert.UpDownIdeal.τ).loc Cert.UpDownIdeal.main_arg2) = m ((c.tc : Thread Cert.UpDownIdeal.nD Cert.UpDownIdeal.τ).loc Cert.UpDownIdeal.main_arg2)
          ∧ r.2.mem ((c.tc : Thread Cert.UpDownIdeal.nD Cert.UpDownIdeal.τ).loc Cert.UpDownIdeal.main_arg3) = m ((c.tc : Thread Cert.UpDownIdeal.nD Cert.UpDownIdeal.τ).loc Cert.UpDownIdeal.main_arg3))
      ∧ θ_run (Cert.UpDownRefIdeal.defs (F := Ideal)) (onTc (τ := Cert.UpDownRefIdeal.τ) (Cert.UpDownRefIdeal.main (F := Ideal))) ⟨m', fun _ => 0, g'⟩ (fun r => ∀ c : Dev Cert.UpDownRefIdeal.nD,
          r.2.mem ((c.tc : Thread Cert.UpDownRefIdeal.nD Cert.UpDownRefIdeal.τ).loc Cert.UpDownRefIdeal.main_v23) = v0 c
          ∧ r.2.mem ((c.tc : Thread Cert.UpDownRefIdeal.nD Cert.UpDownRefIdeal.τ).loc Cert.UpDownRefIdeal.main_v4) = v1 c
          ∧ r.2.mem ((c.tc : Thread Cert.UpDownRefIdeal.nD Cert.UpDownRefIdeal.τ).loc Cert.UpDownRefIdeal.main_v10) = v2 c
          ∧ r.2.mem ((c.tc : Thread Cert.UpDownRefIdeal.nD Cert.UpDownRefIdeal.τ).loc Cert.UpDownRefIdeal.main_arg0) = m' ((c.tc : Thread Cert.UpDownRefIdeal.nD Cert.UpDownRefIdeal.τ).loc Cert.UpDownRefIdeal.main_arg0)
          ∧ r.2.mem ((c.tc : Thread Cert.UpDownRefIdeal.nD Cert.UpDownRefIdeal.τ).loc Cert.UpDownRefIdeal.main_arg1) = m' ((c.tc : Thread Cert.UpDownRefIdeal.nD Cert.UpDownRefIdeal.τ).loc Cert.UpDownRefIdeal.main_arg1)
          ∧ r.2.mem ((c.tc : Thread Cert.UpDownRefIdeal.nD Cert.UpDownRefIdeal.τ).loc Cert.UpDownRefIdeal.main_arg2) = m' ((c.tc : Thread Cert.UpDownRefIdeal.nD Cert.UpDownRefIdeal.τ).loc Cert.UpDownRefIdeal.main_arg2)
          ∧ r.2.mem ((c.tc : Thread Cert.UpDownRefIdeal.nD Cert.UpDownRefIdeal.τ).loc Cert.UpDownRefIdeal.main_arg3) = m' ((c.tc : Thread Cert.UpDownRefIdeal.nD Cert.UpDownRefIdeal.τ).loc Cert.UpDownRefIdeal.main_arg3))

def preserves_UpIn_UpInIdeal : Prop :=
  True

def algebraic_UpInIdeal_UpInRefIdeal [hUpInIdeal : Cert.UpInIdeal.Facts] [hUpInRefIdeal : Cert.UpInRefIdeal.Facts] : Prop :=
  ∀ (m : (ℓ : Loc Cert.UpInIdeal.nD Cert.UpInIdeal.τ Cert.UpInIdeal.sig) → Buf (Elt Ideal) ℓ) (g : Dev Cert.UpInIdeal.nD → PrngReg)
    (m' : (ℓ : Loc Cert.UpInRefIdeal.nD Cert.UpInRefIdeal.τ Cert.UpInRefIdeal.sig) → Buf (Elt Ideal) ℓ) (g' : Dev Cert.UpInRefIdeal.nD → PrngReg), Pre_UpInIdeal m →
    (∀ c : Dev Cert.UpInIdeal.nD,
      m' ((c.tc : Thread Cert.UpInRefIdeal.nD Cert.UpInRefIdeal.τ).loc Cert.UpInRefIdeal.main_arg0) = m ((c.tc : Thread Cert.UpInIdeal.nD Cert.UpInIdeal.τ).loc Cert.UpInIdeal.main_arg0)
      ∧ m' ((c.tc : Thread Cert.UpInRefIdeal.nD Cert.UpInRefIdeal.τ).loc Cert.UpInRefIdeal.main_arg1) = m ((c.tc : Thread Cert.UpInIdeal.nD Cert.UpInIdeal.τ).loc Cert.UpInIdeal.main_arg1)
      ∧ m' ((c.tc : Thread Cert.UpInRefIdeal.nD Cert.UpInRefIdeal.τ).loc Cert.UpInRefIdeal.main_arg2) = m ((c.tc : Thread Cert.UpInIdeal.nD Cert.UpInIdeal.τ).loc Cert.UpInIdeal.main_arg2)
      ∧ m' ((c.tc : Thread Cert.UpInRefIdeal.nD Cert.UpInRefIdeal.τ).loc Cert.UpInRefIdeal.main_arg3) = m ((c.tc : Thread Cert.UpInIdeal.nD Cert.UpInIdeal.τ).loc Cert.UpInIdeal.main_arg3)) →
    ∃ (v0 : (c : Dev Cert.UpInIdeal.nD) → Buf (Elt Ideal) ((c.tc : Thread Cert.UpInIdeal.nD Cert.UpInIdeal.τ).loc Cert.UpInIdeal.main_v0_0)) (v1 : (c : Dev Cert.UpInIdeal.nD) → Buf (Elt Ideal) ((c.tc : Thread Cert.UpInIdeal.nD Cert.UpInIdeal.τ).loc Cert.UpInIdeal.main_v0_1)) (v2 : (c : Dev Cert.UpInIdeal.nD) → Buf (Elt Ideal) ((c.tc : Thread Cert.UpInIdeal.nD Cert.UpInIdeal.τ).loc Cert.UpInIdeal.main_v0_2)),
      θ_run (Cert.UpInIdeal.defs (F := Ideal)) (onTc (τ := Cert.UpInIdeal.τ) (Cert.UpInIdeal.main (F := Ideal))) ⟨m, fun _ => 0, g⟩ (fun r => ∀ c : Dev Cert.UpInIdeal.nD,
          r.2.mem ((c.tc : Thread Cert.UpInIdeal.nD Cert.UpInIdeal.τ).loc Cert.UpInIdeal.main_v0_0) = v0 c
          ∧ r.2.mem ((c.tc : Thread Cert.UpInIdeal.nD Cert.UpInIdeal.τ).loc Cert.UpInIdeal.main_v0_1) = v1 c
          ∧ r.2.mem ((c.tc : Thread Cert.UpInIdeal.nD Cert.UpInIdeal.τ).loc Cert.UpInIdeal.main_v0_2) = v2 c
          ∧ r.2.mem ((c.tc : Thread Cert.UpInIdeal.nD Cert.UpInIdeal.τ).loc Cert.UpInIdeal.main_arg0) = m ((c.tc : Thread Cert.UpInIdeal.nD Cert.UpInIdeal.τ).loc Cert.UpInIdeal.main_arg0)
          ∧ r.2.mem ((c.tc : Thread Cert.UpInIdeal.nD Cert.UpInIdeal.τ).loc Cert.UpInIdeal.main_arg1) = m ((c.tc : Thread Cert.UpInIdeal.nD Cert.UpInIdeal.τ).loc Cert.UpInIdeal.main_arg1)
          ∧ r.2.mem ((c.tc : Thread Cert.UpInIdeal.nD Cert.UpInIdeal.τ).loc Cert.UpInIdeal.main_arg2) = m ((c.tc : Thread Cert.UpInIdeal.nD Cert.UpInIdeal.τ).loc Cert.UpInIdeal.main_arg2)
          ∧ r.2.mem ((c.tc : Thread Cert.UpInIdeal.nD Cert.UpInIdeal.τ).loc Cert.UpInIdeal.main_arg3) = m ((c.tc : Thread Cert.UpInIdeal.nD Cert.UpInIdeal.τ).loc Cert.UpInIdeal.main_arg3))
      ∧ θ_run (Cert.UpInRefIdeal.defs (F := Ideal)) (onTc (τ := Cert.UpInRefIdeal.τ) (Cert.UpInRefIdeal.main (F := Ideal))) ⟨m', fun _ => 0, g'⟩ (fun r => ∀ c : Dev Cert.UpInRefIdeal.nD,
          r.2.mem ((c.tc : Thread Cert.UpInRefIdeal.nD Cert.UpInRefIdeal.τ).loc Cert.UpInRefIdeal.main_v23) = v0 c
          ∧ r.2.mem ((c.tc : Thread Cert.UpInRefIdeal.nD Cert.UpInRefIdeal.τ).loc Cert.UpInRefIdeal.main_v4) = v1 c
          ∧ r.2.mem ((c.tc : Thread Cert.UpInRefIdeal.nD Cert.UpInRefIdeal.τ).loc Cert.UpInRefIdeal.main_v10) = v2 c
          ∧ r.2.mem ((c.tc : Thread Cert.UpInRefIdeal.nD Cert.UpInRefIdeal.τ).loc Cert.UpInRefIdeal.main_arg0) = m' ((c.tc : Thread Cert.UpInRefIdeal.nD Cert.UpInRefIdeal.τ).loc Cert.UpInRefIdeal.main_arg0)
          ∧ r.2.mem ((c.tc : Thread Cert.UpInRefIdeal.nD Cert.UpInRefIdeal.τ).loc Cert.UpInRefIdeal.main_arg1) = m' ((c.tc : Thread Cert.UpInRefIdeal.nD Cert.UpInRefIdeal.τ).loc Cert.UpInRefIdeal.main_arg1)
          ∧ r.2.mem ((c.tc : Thread Cert.UpInRefIdeal.nD Cert.UpInRefIdeal.τ).loc Cert.UpInRefIdeal.main_arg2) = m' ((c.tc : Thread Cert.UpInRefIdeal.nD Cert.UpInRefIdeal.τ).loc Cert.UpInRefIdeal.main_arg2)
          ∧ r.2.mem ((c.tc : Thread Cert.UpInRefIdeal.nD Cert.UpInRefIdeal.τ).loc Cert.UpInRefIdeal.main_arg3) = m' ((c.tc : Thread Cert.UpInRefIdeal.nD Cert.UpInRefIdeal.τ).loc Cert.UpInRefIdeal.main_arg3))

def preserves_UpUq_UpUqIdeal : Prop :=
  True

def algebraic_UpUqIdeal_UpUqRefIdeal [hUpUqIdeal : Cert.UpUqIdeal.Facts] [hUpUqRefIdeal : Cert.UpUqRefIdeal.Facts] : Prop :=
  ∀ (m : (ℓ : Loc Cert.UpUqIdeal.nD Cert.UpUqIdeal.τ Cert.UpUqIdeal.sig) → Buf (Elt Ideal) ℓ) (g : Dev Cert.UpUqIdeal.nD → PrngReg)
    (m' : (ℓ : Loc Cert.UpUqRefIdeal.nD Cert.UpUqRefIdeal.τ Cert.UpUqRefIdeal.sig) → Buf (Elt Ideal) ℓ) (g' : Dev Cert.UpUqRefIdeal.nD → PrngReg), Pre_UpUqIdeal m →
    (∀ c : Dev Cert.UpUqIdeal.nD,
      m' ((c.tc : Thread Cert.UpUqRefIdeal.nD Cert.UpUqRefIdeal.τ).loc Cert.UpUqRefIdeal.main_arg0) = m ((c.tc : Thread Cert.UpUqIdeal.nD Cert.UpUqIdeal.τ).loc Cert.UpUqIdeal.main_arg0)
      ∧ m' ((c.tc : Thread Cert.UpUqRefIdeal.nD Cert.UpUqRefIdeal.τ).loc Cert.UpUqRefIdeal.main_arg1) = m ((c.tc : Thread Cert.UpUqIdeal.nD Cert.UpUqIdeal.τ).loc Cert.UpUqIdeal.main_arg1)
      ∧ m' ((c.tc : Thread Cert.UpUqRefIdeal.nD Cert.UpUqRefIdeal.τ).loc Cert.UpUqRefIdeal.main_arg2) = m ((c.tc : Thread Cert.UpUqIdeal.nD Cert.UpUqIdeal.τ).loc Cert.UpUqIdeal.main_arg2)
      ∧ m' ((c.tc : Thread Cert.UpUqRefIdeal.nD Cert.UpUqRefIdeal.τ).loc Cert.UpUqRefIdeal.main_arg3) = m ((c.tc : Thread Cert.UpUqIdeal.nD Cert.UpUqIdeal.τ).loc Cert.UpUqIdeal.main_arg3)) →
    ∃ (v0 : (c : Dev Cert.UpUqIdeal.nD) → Buf (Elt Ideal) ((c.tc : Thread Cert.UpUqIdeal.nD Cert.UpUqIdeal.τ).loc Cert.UpUqIdeal.main_v0_0)) (v1 : (c : Dev Cert.UpUqIdeal.nD) → Buf (Elt Ideal) ((c.tc : Thread Cert.UpUqIdeal.nD Cert.UpUqIdeal.τ).loc Cert.UpUqIdeal.main_v0_1)) (v2 : (c : Dev Cert.UpUqIdeal.nD) → Buf (Elt Ideal) ((c.tc : Thread Cert.UpUqIdeal.nD Cert.UpUqIdeal.τ).loc Cert.UpUqIdeal.main_v0_2)),
      θ_run (Cert.UpUqIdeal.defs (F := Ideal)) (onTc (τ := Cert.UpUqIdeal.τ) (Cert.UpUqIdeal.main (F := Ideal))) ⟨m, fun _ => 0, g⟩ (fun r => ∀ c : Dev Cert.UpUqIdeal.nD,
          r.2.mem ((c.tc : Thread Cert.UpUqIdeal.nD Cert.UpUqIdeal.τ).loc Cert.UpUqIdeal.main_v0_0) = v0 c
          ∧ r.2.mem ((c.tc : Thread Cert.UpUqIdeal.nD Cert.UpUqIdeal.τ).loc Cert.UpUqIdeal.main_v0_1) = v1 c
          ∧ r.2.mem ((c.tc : Thread Cert.UpUqIdeal.nD Cert.UpUqIdeal.τ).loc Cert.UpUqIdeal.main_v0_2) = v2 c
          ∧ r.2.mem ((c.tc : Thread Cert.UpUqIdeal.nD Cert.UpUqIdeal.τ).loc Cert.UpUqIdeal.main_arg0) = m ((c.tc : Thread Cert.UpUqIdeal.nD Cert.UpUqIdeal.τ).loc Cert.UpUqIdeal.main_arg0)
          ∧ r.2.mem ((c.tc : Thread Cert.UpUqIdeal.nD Cert.UpUqIdeal.τ).loc Cert.UpUqIdeal.main_arg1) = m ((c.tc : Thread Cert.UpUqIdeal.nD Cert.UpUqIdeal.τ).loc Cert.UpUqIdeal.main_arg1)
          ∧ r.2.mem ((c.tc : Thread Cert.UpUqIdeal.nD Cert.UpUqIdeal.τ).loc Cert.UpUqIdeal.main_arg2) = m ((c.tc : Thread Cert.UpUqIdeal.nD Cert.UpUqIdeal.τ).loc Cert.UpUqIdeal.main_arg2)
          ∧ r.2.mem ((c.tc : Thread Cert.UpUqIdeal.nD Cert.UpUqIdeal.τ).loc Cert.UpUqIdeal.main_arg3) = m ((c.tc : Thread Cert.UpUqIdeal.nD Cert.UpUqIdeal.τ).loc Cert.UpUqIdeal.main_arg3))
      ∧ θ_run (Cert.UpUqRefIdeal.defs (F := Ideal)) (onTc (τ := Cert.UpUqRefIdeal.τ) (Cert.UpUqRefIdeal.main (F := Ideal))) ⟨m', fun _ => 0, g'⟩ (fun r => ∀ c : Dev Cert.UpUqRefIdeal.nD,
          r.2.mem ((c.tc : Thread Cert.UpUqRefIdeal.nD Cert.UpUqRefIdeal.τ).loc Cert.UpUqRefIdeal.main_v23) = v0 c
          ∧ r.2.mem ((c.tc : Thread Cert.UpUqRefIdeal.nD Cert.UpUqRefIdeal.τ).loc Cert.UpUqRefIdeal.main_v4) = v1 c
          ∧ r.2.mem ((c.tc : Thread Cert.UpUqRefIdeal.nD Cert.UpUqRefIdeal.τ).loc Cert.UpUqRefIdeal.main_v10) = v2 c
          ∧ r.2.mem ((c.tc : Thread Cert.UpUqRefIdeal.nD Cert.UpUqRefIdeal.τ).loc Cert.UpUqRefIdeal.main_arg0) = m' ((c.tc : Thread Cert.UpUqRefIdeal.nD Cert.UpUqRefIdeal.τ).loc Cert.UpUqRefIdeal.main_arg0)
          ∧ r.2.mem ((c.tc : Thread Cert.UpUqRefIdeal.nD Cert.UpUqRefIdeal.τ).loc Cert.UpUqRefIdeal.main_arg1) = m' ((c.tc : Thread Cert.UpUqRefIdeal.nD Cert.UpUqRefIdeal.τ).loc Cert.UpUqRefIdeal.main_arg1)
          ∧ r.2.mem ((c.tc : Thread Cert.UpUqRefIdeal.nD Cert.UpUqRefIdeal.τ).loc Cert.UpUqRefIdeal.main_arg2) = m' ((c.tc : Thread Cert.UpUqRefIdeal.nD Cert.UpUqRefIdeal.τ).loc Cert.UpUqRefIdeal.main_arg2)
          ∧ r.2.mem ((c.tc : Thread Cert.UpUqRefIdeal.nD Cert.UpUqRefIdeal.τ).loc Cert.UpUqRefIdeal.main_arg3) = m' ((c.tc : Thread Cert.UpUqRefIdeal.nD Cert.UpUqRefIdeal.τ).loc Cert.UpUqRefIdeal.main_arg3))

def preserves_UpUkv_UpUkvIdeal : Prop :=
  True

def algebraic_UpUkvIdeal_UpUkvRefIdeal [hUpUkvIdeal : Cert.UpUkvIdeal.Facts] [hUpUkvRefIdeal : Cert.UpUkvRefIdeal.Facts] : Prop :=
  ∀ (m : (ℓ : Loc Cert.UpUkvIdeal.nD Cert.UpUkvIdeal.τ Cert.UpUkvIdeal.sig) → Buf (Elt Ideal) ℓ) (g : Dev Cert.UpUkvIdeal.nD → PrngReg)
    (m' : (ℓ : Loc Cert.UpUkvRefIdeal.nD Cert.UpUkvRefIdeal.τ Cert.UpUkvRefIdeal.sig) → Buf (Elt Ideal) ℓ) (g' : Dev Cert.UpUkvRefIdeal.nD → PrngReg), Pre_UpUkvIdeal m →
    (∀ c : Dev Cert.UpUkvIdeal.nD,
      m' ((c.tc : Thread Cert.UpUkvRefIdeal.nD Cert.UpUkvRefIdeal.τ).loc Cert.UpUkvRefIdeal.main_arg0) = m ((c.tc : Thread Cert.UpUkvIdeal.nD Cert.UpUkvIdeal.τ).loc Cert.UpUkvIdeal.main_arg0)
      ∧ m' ((c.tc : Thread Cert.UpUkvRefIdeal.nD Cert.UpUkvRefIdeal.τ).loc Cert.UpUkvRefIdeal.main_arg1) = m ((c.tc : Thread Cert.UpUkvIdeal.nD Cert.UpUkvIdeal.τ).loc Cert.UpUkvIdeal.main_arg1)
      ∧ m' ((c.tc : Thread Cert.UpUkvRefIdeal.nD Cert.UpUkvRefIdeal.τ).loc Cert.UpUkvRefIdeal.main_arg2) = m ((c.tc : Thread Cert.UpUkvIdeal.nD Cert.UpUkvIdeal.τ).loc Cert.UpUkvIdeal.main_arg2)
      ∧ m' ((c.tc : Thread Cert.UpUkvRefIdeal.nD Cert.UpUkvRefIdeal.τ).loc Cert.UpUkvRefIdeal.main_arg3) = m ((c.tc : Thread Cert.UpUkvIdeal.nD Cert.UpUkvIdeal.τ).loc Cert.UpUkvIdeal.main_arg3)) →
    ∃ (v0 : (c : Dev Cert.UpUkvIdeal.nD) → Buf (Elt Ideal) ((c.tc : Thread Cert.UpUkvIdeal.nD Cert.UpUkvIdeal.τ).loc Cert.UpUkvIdeal.main_v0_0)) (v1 : (c : Dev Cert.UpUkvIdeal.nD) → Buf (Elt Ideal) ((c.tc : Thread Cert.UpUkvIdeal.nD Cert.UpUkvIdeal.τ).loc Cert.UpUkvIdeal.main_v0_1)) (v2 : (c : Dev Cert.UpUkvIdeal.nD) → Buf (Elt Ideal) ((c.tc : Thread Cert.UpUkvIdeal.nD Cert.UpUkvIdeal.τ).loc Cert.UpUkvIdeal.main_v0_2)),
      θ_run (Cert.UpUkvIdeal.defs (F := Ideal)) (onTc (τ := Cert.UpUkvIdeal.τ) (Cert.UpUkvIdeal.main (F := Ideal))) ⟨m, fun _ => 0, g⟩ (fun r => ∀ c : Dev Cert.UpUkvIdeal.nD,
          r.2.mem ((c.tc : Thread Cert.UpUkvIdeal.nD Cert.UpUkvIdeal.τ).loc Cert.UpUkvIdeal.main_v0_0) = v0 c
          ∧ r.2.mem ((c.tc : Thread Cert.UpUkvIdeal.nD Cert.UpUkvIdeal.τ).loc Cert.UpUkvIdeal.main_v0_1) = v1 c
          ∧ r.2.mem ((c.tc : Thread Cert.UpUkvIdeal.nD Cert.UpUkvIdeal.τ).loc Cert.UpUkvIdeal.main_v0_2) = v2 c
          ∧ r.2.mem ((c.tc : Thread Cert.UpUkvIdeal.nD Cert.UpUkvIdeal.τ).loc Cert.UpUkvIdeal.main_arg0) = m ((c.tc : Thread Cert.UpUkvIdeal.nD Cert.UpUkvIdeal.τ).loc Cert.UpUkvIdeal.main_arg0)
          ∧ r.2.mem ((c.tc : Thread Cert.UpUkvIdeal.nD Cert.UpUkvIdeal.τ).loc Cert.UpUkvIdeal.main_arg1) = m ((c.tc : Thread Cert.UpUkvIdeal.nD Cert.UpUkvIdeal.τ).loc Cert.UpUkvIdeal.main_arg1)
          ∧ r.2.mem ((c.tc : Thread Cert.UpUkvIdeal.nD Cert.UpUkvIdeal.τ).loc Cert.UpUkvIdeal.main_arg2) = m ((c.tc : Thread Cert.UpUkvIdeal.nD Cert.UpUkvIdeal.τ).loc Cert.UpUkvIdeal.main_arg2)
          ∧ r.2.mem ((c.tc : Thread Cert.UpUkvIdeal.nD Cert.UpUkvIdeal.τ).loc Cert.UpUkvIdeal.main_arg3) = m ((c.tc : Thread Cert.UpUkvIdeal.nD Cert.UpUkvIdeal.τ).loc Cert.UpUkvIdeal.main_arg3))
      ∧ θ_run (Cert.UpUkvRefIdeal.defs (F := Ideal)) (onTc (τ := Cert.UpUkvRefIdeal.τ) (Cert.UpUkvRefIdeal.main (F := Ideal))) ⟨m', fun _ => 0, g'⟩ (fun r => ∀ c : Dev Cert.UpUkvRefIdeal.nD,
          r.2.mem ((c.tc : Thread Cert.UpUkvRefIdeal.nD Cert.UpUkvRefIdeal.τ).loc Cert.UpUkvRefIdeal.main_v23) = v0 c
          ∧ r.2.mem ((c.tc : Thread Cert.UpUkvRefIdeal.nD Cert.UpUkvRefIdeal.τ).loc Cert.UpUkvRefIdeal.main_v4) = v1 c
          ∧ r.2.mem ((c.tc : Thread Cert.UpUkvRefIdeal.nD Cert.UpUkvRefIdeal.τ).loc Cert.UpUkvRefIdeal.main_v10) = v2 c
          ∧ r.2.mem ((c.tc : Thread Cert.UpUkvRefIdeal.nD Cert.UpUkvRefIdeal.τ).loc Cert.UpUkvRefIdeal.main_arg0) = m' ((c.tc : Thread Cert.UpUkvRefIdeal.nD Cert.UpUkvRefIdeal.τ).loc Cert.UpUkvRefIdeal.main_arg0)
          ∧ r.2.mem ((c.tc : Thread Cert.UpUkvRefIdeal.nD Cert.UpUkvRefIdeal.τ).loc Cert.UpUkvRefIdeal.main_arg1) = m' ((c.tc : Thread Cert.UpUkvRefIdeal.nD Cert.UpUkvRefIdeal.τ).loc Cert.UpUkvRefIdeal.main_arg1)
          ∧ r.2.mem ((c.tc : Thread Cert.UpUkvRefIdeal.nD Cert.UpUkvRefIdeal.τ).loc Cert.UpUkvRefIdeal.main_arg2) = m' ((c.tc : Thread Cert.UpUkvRefIdeal.nD Cert.UpUkvRefIdeal.τ).loc Cert.UpUkvRefIdeal.main_arg2)
          ∧ r.2.mem ((c.tc : Thread Cert.UpUkvRefIdeal.nD Cert.UpUkvRefIdeal.τ).loc Cert.UpUkvRefIdeal.main_arg3) = m' ((c.tc : Thread Cert.UpUkvRefIdeal.nD Cert.UpUkvRefIdeal.τ).loc Cert.UpUkvRefIdeal.main_arg3))

def preserves_UpOut_UpOutIdeal : Prop :=
  True

def algebraic_UpOutIdeal_UpOutRefIdeal [hUpOutIdeal : Cert.UpOutIdeal.Facts] [hUpOutRefIdeal : Cert.UpOutRefIdeal.Facts] : Prop :=
  ∀ (m : (ℓ : Loc Cert.UpOutIdeal.nD Cert.UpOutIdeal.τ Cert.UpOutIdeal.sig) → Buf (Elt Ideal) ℓ) (g : Dev Cert.UpOutIdeal.nD → PrngReg)
    (m' : (ℓ : Loc Cert.UpOutRefIdeal.nD Cert.UpOutRefIdeal.τ Cert.UpOutRefIdeal.sig) → Buf (Elt Ideal) ℓ) (g' : Dev Cert.UpOutRefIdeal.nD → PrngReg), Pre_UpOutIdeal m →
    (∀ c : Dev Cert.UpOutIdeal.nD,
      m' ((c.tc : Thread Cert.UpOutRefIdeal.nD Cert.UpOutRefIdeal.τ).loc Cert.UpOutRefIdeal.main_arg0) = m ((c.tc : Thread Cert.UpOutIdeal.nD Cert.UpOutIdeal.τ).loc Cert.UpOutIdeal.main_arg0)
      ∧ m' ((c.tc : Thread Cert.UpOutRefIdeal.nD Cert.UpOutRefIdeal.τ).loc Cert.UpOutRefIdeal.main_arg1) = m ((c.tc : Thread Cert.UpOutIdeal.nD Cert.UpOutIdeal.τ).loc Cert.UpOutIdeal.main_arg1)
      ∧ m' ((c.tc : Thread Cert.UpOutRefIdeal.nD Cert.UpOutRefIdeal.τ).loc Cert.UpOutRefIdeal.main_arg2) = m ((c.tc : Thread Cert.UpOutIdeal.nD Cert.UpOutIdeal.τ).loc Cert.UpOutIdeal.main_arg2)
      ∧ m' ((c.tc : Thread Cert.UpOutRefIdeal.nD Cert.UpOutRefIdeal.τ).loc Cert.UpOutRefIdeal.main_arg3) = m ((c.tc : Thread Cert.UpOutIdeal.nD Cert.UpOutIdeal.τ).loc Cert.UpOutIdeal.main_arg3)) →
    ∃ (v0 : (c : Dev Cert.UpOutIdeal.nD) → Buf (Elt Ideal) ((c.tc : Thread Cert.UpOutIdeal.nD Cert.UpOutIdeal.τ).loc Cert.UpOutIdeal.main_v0_0)) (v1 : (c : Dev Cert.UpOutIdeal.nD) → Buf (Elt Ideal) ((c.tc : Thread Cert.UpOutIdeal.nD Cert.UpOutIdeal.τ).loc Cert.UpOutIdeal.main_v0_1)) (v2 : (c : Dev Cert.UpOutIdeal.nD) → Buf (Elt Ideal) ((c.tc : Thread Cert.UpOutIdeal.nD Cert.UpOutIdeal.τ).loc Cert.UpOutIdeal.main_v0_2)),
      θ_run (Cert.UpOutIdeal.defs (F := Ideal)) (onTc (τ := Cert.UpOutIdeal.τ) (Cert.UpOutIdeal.main (F := Ideal))) ⟨m, fun _ => 0, g⟩ (fun r => ∀ c : Dev Cert.UpOutIdeal.nD,
          r.2.mem ((c.tc : Thread Cert.UpOutIdeal.nD Cert.UpOutIdeal.τ).loc Cert.UpOutIdeal.main_v0_0) = v0 c
          ∧ r.2.mem ((c.tc : Thread Cert.UpOutIdeal.nD Cert.UpOutIdeal.τ).loc Cert.UpOutIdeal.main_v0_1) = v1 c
          ∧ r.2.mem ((c.tc : Thread Cert.UpOutIdeal.nD Cert.UpOutIdeal.τ).loc Cert.UpOutIdeal.main_v0_2) = v2 c
          ∧ r.2.mem ((c.tc : Thread Cert.UpOutIdeal.nD Cert.UpOutIdeal.τ).loc Cert.UpOutIdeal.main_arg0) = m ((c.tc : Thread Cert.UpOutIdeal.nD Cert.UpOutIdeal.τ).loc Cert.UpOutIdeal.main_arg0)
          ∧ r.2.mem ((c.tc : Thread Cert.UpOutIdeal.nD Cert.UpOutIdeal.τ).loc Cert.UpOutIdeal.main_arg1) = m ((c.tc : Thread Cert.UpOutIdeal.nD Cert.UpOutIdeal.τ).loc Cert.UpOutIdeal.main_arg1)
          ∧ r.2.mem ((c.tc : Thread Cert.UpOutIdeal.nD Cert.UpOutIdeal.τ).loc Cert.UpOutIdeal.main_arg2) = m ((c.tc : Thread Cert.UpOutIdeal.nD Cert.UpOutIdeal.τ).loc Cert.UpOutIdeal.main_arg2)
          ∧ r.2.mem ((c.tc : Thread Cert.UpOutIdeal.nD Cert.UpOutIdeal.τ).loc Cert.UpOutIdeal.main_arg3) = m ((c.tc : Thread Cert.UpOutIdeal.nD Cert.UpOutIdeal.τ).loc Cert.UpOutIdeal.main_arg3))
      ∧ θ_run (Cert.UpOutRefIdeal.defs (F := Ideal)) (onTc (τ := Cert.UpOutRefIdeal.τ) (Cert.UpOutRefIdeal.main (F := Ideal))) ⟨m', fun _ => 0, g'⟩ (fun r => ∀ c : Dev Cert.UpOutRefIdeal.nD,
          r.2.mem ((c.tc : Thread Cert.UpOutRefIdeal.nD Cert.UpOutRefIdeal.τ).loc Cert.UpOutRefIdeal.main_v23) = v0 c
          ∧ r.2.mem ((c.tc : Thread Cert.UpOutRefIdeal.nD Cert.UpOutRefIdeal.τ).loc Cert.UpOutRefIdeal.main_v4) = v1 c
          ∧ r.2.mem ((c.tc : Thread Cert.UpOutRefIdeal.nD Cert.UpOutRefIdeal.τ).loc Cert.UpOutRefIdeal.main_v10) = v2 c
          ∧ r.2.mem ((c.tc : Thread Cert.UpOutRefIdeal.nD Cert.UpOutRefIdeal.τ).loc Cert.UpOutRefIdeal.main_arg0) = m' ((c.tc : Thread Cert.UpOutRefIdeal.nD Cert.UpOutRefIdeal.τ).loc Cert.UpOutRefIdeal.main_arg0)
          ∧ r.2.mem ((c.tc : Thread Cert.UpOutRefIdeal.nD Cert.UpOutRefIdeal.τ).loc Cert.UpOutRefIdeal.main_arg1) = m' ((c.tc : Thread Cert.UpOutRefIdeal.nD Cert.UpOutRefIdeal.τ).loc Cert.UpOutRefIdeal.main_arg1)
          ∧ r.2.mem ((c.tc : Thread Cert.UpOutRefIdeal.nD Cert.UpOutRefIdeal.τ).loc Cert.UpOutRefIdeal.main_arg2) = m' ((c.tc : Thread Cert.UpOutRefIdeal.nD Cert.UpOutRefIdeal.τ).loc Cert.UpOutRefIdeal.main_arg2)
          ∧ r.2.mem ((c.tc : Thread Cert.UpOutRefIdeal.nD Cert.UpOutRefIdeal.τ).loc Cert.UpOutRefIdeal.main_arg3) = m' ((c.tc : Thread Cert.UpOutRefIdeal.nD Cert.UpOutRefIdeal.τ).loc Cert.UpOutRefIdeal.main_arg3))

def preserves_UpConv_UpConvIdeal : Prop :=
  True

def algebraic_UpConvIdeal_UpConvRefIdeal [hUpConvIdeal : Cert.UpConvIdeal.Facts] [hUpConvRefIdeal : Cert.UpConvRefIdeal.Facts] : Prop :=
  ∀ (m : (ℓ : Loc Cert.UpConvIdeal.nD Cert.UpConvIdeal.τ Cert.UpConvIdeal.sig) → Buf (Elt Ideal) ℓ) (g : Dev Cert.UpConvIdeal.nD → PrngReg)
    (m' : (ℓ : Loc Cert.UpConvRefIdeal.nD Cert.UpConvRefIdeal.τ Cert.UpConvRefIdeal.sig) → Buf (Elt Ideal) ℓ) (g' : Dev Cert.UpConvRefIdeal.nD → PrngReg), Pre_UpConvIdeal m →
    (∀ c : Dev Cert.UpConvIdeal.nD,
      m' ((c.tc : Thread Cert.UpConvRefIdeal.nD Cert.UpConvRefIdeal.τ).loc Cert.UpConvRefIdeal.main_arg0) = m ((c.tc : Thread Cert.UpConvIdeal.nD Cert.UpConvIdeal.τ).loc Cert.UpConvIdeal.main_arg0)
      ∧ m' ((c.tc : Thread Cert.UpConvRefIdeal.nD Cert.UpConvRefIdeal.τ).loc Cert.UpConvRefIdeal.main_arg1) = m ((c.tc : Thread Cert.UpConvIdeal.nD Cert.UpConvIdeal.τ).loc Cert.UpConvIdeal.main_arg1)
      ∧ m' ((c.tc : Thread Cert.UpConvRefIdeal.nD Cert.UpConvRefIdeal.τ).loc Cert.UpConvRefIdeal.main_arg2) = m ((c.tc : Thread Cert.UpConvIdeal.nD Cert.UpConvIdeal.τ).loc Cert.UpConvIdeal.main_arg2)
      ∧ m' ((c.tc : Thread Cert.UpConvRefIdeal.nD Cert.UpConvRefIdeal.τ).loc Cert.UpConvRefIdeal.main_arg3) = m ((c.tc : Thread Cert.UpConvIdeal.nD Cert.UpConvIdeal.τ).loc Cert.UpConvIdeal.main_arg3)) →
    ∃ (v0 : (c : Dev Cert.UpConvIdeal.nD) → Buf (Elt Ideal) ((c.tc : Thread Cert.UpConvIdeal.nD Cert.UpConvIdeal.τ).loc Cert.UpConvIdeal.main_v0_0)) (v1 : (c : Dev Cert.UpConvIdeal.nD) → Buf (Elt Ideal) ((c.tc : Thread Cert.UpConvIdeal.nD Cert.UpConvIdeal.τ).loc Cert.UpConvIdeal.main_v0_1)) (v2 : (c : Dev Cert.UpConvIdeal.nD) → Buf (Elt Ideal) ((c.tc : Thread Cert.UpConvIdeal.nD Cert.UpConvIdeal.τ).loc Cert.UpConvIdeal.main_v0_2)),
      θ_run (Cert.UpConvIdeal.defs (F := Ideal)) (onTc (τ := Cert.UpConvIdeal.τ) (Cert.UpConvIdeal.main (F := Ideal))) ⟨m, fun _ => 0, g⟩ (fun r => ∀ c : Dev Cert.UpConvIdeal.nD,
          r.2.mem ((c.tc : Thread Cert.UpConvIdeal.nD Cert.UpConvIdeal.τ).loc Cert.UpConvIdeal.main_v0_0) = v0 c
          ∧ r.2.mem ((c.tc : Thread Cert.UpConvIdeal.nD Cert.UpConvIdeal.τ).loc Cert.UpConvIdeal.main_v0_1) = v1 c
          ∧ r.2.mem ((c.tc : Thread Cert.UpConvIdeal.nD Cert.UpConvIdeal.τ).loc Cert.UpConvIdeal.main_v0_2) = v2 c
          ∧ r.2.mem ((c.tc : Thread Cert.UpConvIdeal.nD Cert.UpConvIdeal.τ).loc Cert.UpConvIdeal.main_arg0) = m ((c.tc : Thread Cert.UpConvIdeal.nD Cert.UpConvIdeal.τ).loc Cert.UpConvIdeal.main_arg0)
          ∧ r.2.mem ((c.tc : Thread Cert.UpConvIdeal.nD Cert.UpConvIdeal.τ).loc Cert.UpConvIdeal.main_arg1) = m ((c.tc : Thread Cert.UpConvIdeal.nD Cert.UpConvIdeal.τ).loc Cert.UpConvIdeal.main_arg1)
          ∧ r.2.mem ((c.tc : Thread Cert.UpConvIdeal.nD Cert.UpConvIdeal.τ).loc Cert.UpConvIdeal.main_arg2) = m ((c.tc : Thread Cert.UpConvIdeal.nD Cert.UpConvIdeal.τ).loc Cert.UpConvIdeal.main_arg2)
          ∧ r.2.mem ((c.tc : Thread Cert.UpConvIdeal.nD Cert.UpConvIdeal.τ).loc Cert.UpConvIdeal.main_arg3) = m ((c.tc : Thread Cert.UpConvIdeal.nD Cert.UpConvIdeal.τ).loc Cert.UpConvIdeal.main_arg3))
      ∧ θ_run (Cert.UpConvRefIdeal.defs (F := Ideal)) (onTc (τ := Cert.UpConvRefIdeal.τ) (Cert.UpConvRefIdeal.main (F := Ideal))) ⟨m', fun _ => 0, g'⟩ (fun r => ∀ c : Dev Cert.UpConvRefIdeal.nD,
          r.2.mem ((c.tc : Thread Cert.UpConvRefIdeal.nD Cert.UpConvRefIdeal.τ).loc Cert.UpConvRefIdeal.main_v23) = v0 c
          ∧ r.2.mem ((c.tc : Thread Cert.UpConvRefIdeal.nD Cert.UpConvRefIdeal.τ).loc Cert.UpConvRefIdeal.main_v4) = v1 c
          ∧ r.2.mem ((c.tc : Thread Cert.UpConvRefIdeal.nD Cert.UpConvRefIdeal.τ).loc Cert.UpConvRefIdeal.main_v10) = v2 c
          ∧ r.2.mem ((c.tc : Thread Cert.UpConvRefIdeal.nD Cert.UpConvRefIdeal.τ).loc Cert.UpConvRefIdeal.main_arg0) = m' ((c.tc : Thread Cert.UpConvRefIdeal.nD Cert.UpConvRefIdeal.τ).loc Cert.UpConvRefIdeal.main_arg0)
          ∧ r.2.mem ((c.tc : Thread Cert.UpConvRefIdeal.nD Cert.UpConvRefIdeal.τ).loc Cert.UpConvRefIdeal.main_arg1) = m' ((c.tc : Thread Cert.UpConvRefIdeal.nD Cert.UpConvRefIdeal.τ).loc Cert.UpConvRefIdeal.main_arg1)
          ∧ r.2.mem ((c.tc : Thread Cert.UpConvRefIdeal.nD Cert.UpConvRefIdeal.τ).loc Cert.UpConvRefIdeal.main_arg2) = m' ((c.tc : Thread Cert.UpConvRefIdeal.nD Cert.UpConvRefIdeal.τ).loc Cert.UpConvRefIdeal.main_arg2)
          ∧ r.2.mem ((c.tc : Thread Cert.UpConvRefIdeal.nD Cert.UpConvRefIdeal.τ).loc Cert.UpConvRefIdeal.main_arg3) = m' ((c.tc : Thread Cert.UpConvRefIdeal.nD Cert.UpConvRefIdeal.τ).loc Cert.UpConvRefIdeal.main_arg3))

def preserves_UpVectors_UpVectorsIdeal : Prop :=
  True

def algebraic_UpVectorsIdeal_UpVectorsRefIdeal [hUpVectorsIdeal : Cert.UpVectorsIdeal.Facts] [hUpVectorsRefIdeal : Cert.UpVectorsRefIdeal.Facts] : Prop :=
  ∀ (m : (ℓ : Loc Cert.UpVectorsIdeal.nD Cert.UpVectorsIdeal.τ Cert.UpVectorsIdeal.sig) → Buf (Elt Ideal) ℓ) (g : Dev Cert.UpVectorsIdeal.nD → PrngReg)
    (m' : (ℓ : Loc Cert.UpVectorsRefIdeal.nD Cert.UpVectorsRefIdeal.τ Cert.UpVectorsRefIdeal.sig) → Buf (Elt Ideal) ℓ) (g' : Dev Cert.UpVectorsRefIdeal.nD → PrngReg), Pre_UpVectorsIdeal m →
    (∀ c : Dev Cert.UpVectorsIdeal.nD,
      m' ((c.tc : Thread Cert.UpVectorsRefIdeal.nD Cert.UpVectorsRefIdeal.τ).loc Cert.UpVectorsRefIdeal.main_arg0) = m ((c.tc : Thread Cert.UpVectorsIdeal.nD Cert.UpVectorsIdeal.τ).loc Cert.UpVectorsIdeal.main_arg0)
      ∧ m' ((c.tc : Thread Cert.UpVectorsRefIdeal.nD Cert.UpVectorsRefIdeal.τ).loc Cert.UpVectorsRefIdeal.main_arg1) = m ((c.tc : Thread Cert.UpVectorsIdeal.nD Cert.UpVectorsIdeal.τ).loc Cert.UpVectorsIdeal.main_arg1)
      ∧ m' ((c.tc : Thread Cert.UpVectorsRefIdeal.nD Cert.UpVectorsRefIdeal.τ).loc Cert.UpVectorsRefIdeal.main_arg2) = m ((c.tc : Thread Cert.UpVectorsIdeal.nD Cert.UpVectorsIdeal.τ).loc Cert.UpVectorsIdeal.main_arg2)
      ∧ m' ((c.tc : Thread Cert.UpVectorsRefIdeal.nD Cert.UpVectorsRefIdeal.τ).loc Cert.UpVectorsRefIdeal.main_arg3) = m ((c.tc : Thread Cert.UpVectorsIdeal.nD Cert.UpVectorsIdeal.τ).loc Cert.UpVectorsIdeal.main_arg3)) →
    ∃ (v0 : (c : Dev Cert.UpVectorsIdeal.nD) → Buf (Elt Ideal) ((c.tc : Thread Cert.UpVectorsIdeal.nD Cert.UpVectorsIdeal.τ).loc Cert.UpVectorsIdeal.main_v0_0)) (v1 : (c : Dev Cert.UpVectorsIdeal.nD) → Buf (Elt Ideal) ((c.tc : Thread Cert.UpVectorsIdeal.nD Cert.UpVectorsIdeal.τ).loc Cert.UpVectorsIdeal.main_v0_1)) (v2 : (c : Dev Cert.UpVectorsIdeal.nD) → Buf (Elt Ideal) ((c.tc : Thread Cert.UpVectorsIdeal.nD Cert.UpVectorsIdeal.τ).loc Cert.UpVectorsIdeal.main_v0_2)),
      θ_run (Cert.UpVectorsIdeal.defs (F := Ideal)) (onTc (τ := Cert.UpVectorsIdeal.τ) (Cert.UpVectorsIdeal.main (F := Ideal))) ⟨m, fun _ => 0, g⟩ (fun r => ∀ c : Dev Cert.UpVectorsIdeal.nD,
          r.2.mem ((c.tc : Thread Cert.UpVectorsIdeal.nD Cert.UpVectorsIdeal.τ).loc Cert.UpVectorsIdeal.main_v0_0) = v0 c
          ∧ r.2.mem ((c.tc : Thread Cert.UpVectorsIdeal.nD Cert.UpVectorsIdeal.τ).loc Cert.UpVectorsIdeal.main_v0_1) = v1 c
          ∧ r.2.mem ((c.tc : Thread Cert.UpVectorsIdeal.nD Cert.UpVectorsIdeal.τ).loc Cert.UpVectorsIdeal.main_v0_2) = v2 c
          ∧ r.2.mem ((c.tc : Thread Cert.UpVectorsIdeal.nD Cert.UpVectorsIdeal.τ).loc Cert.UpVectorsIdeal.main_arg0) = m ((c.tc : Thread Cert.UpVectorsIdeal.nD Cert.UpVectorsIdeal.τ).loc Cert.UpVectorsIdeal.main_arg0)
          ∧ r.2.mem ((c.tc : Thread Cert.UpVectorsIdeal.nD Cert.UpVectorsIdeal.τ).loc Cert.UpVectorsIdeal.main_arg1) = m ((c.tc : Thread Cert.UpVectorsIdeal.nD Cert.UpVectorsIdeal.τ).loc Cert.UpVectorsIdeal.main_arg1)
          ∧ r.2.mem ((c.tc : Thread Cert.UpVectorsIdeal.nD Cert.UpVectorsIdeal.τ).loc Cert.UpVectorsIdeal.main_arg2) = m ((c.tc : Thread Cert.UpVectorsIdeal.nD Cert.UpVectorsIdeal.τ).loc Cert.UpVectorsIdeal.main_arg2)
          ∧ r.2.mem ((c.tc : Thread Cert.UpVectorsIdeal.nD Cert.UpVectorsIdeal.τ).loc Cert.UpVectorsIdeal.main_arg3) = m ((c.tc : Thread Cert.UpVectorsIdeal.nD Cert.UpVectorsIdeal.τ).loc Cert.UpVectorsIdeal.main_arg3))
      ∧ θ_run (Cert.UpVectorsRefIdeal.defs (F := Ideal)) (onTc (τ := Cert.UpVectorsRefIdeal.τ) (Cert.UpVectorsRefIdeal.main (F := Ideal))) ⟨m', fun _ => 0, g'⟩ (fun r => ∀ c : Dev Cert.UpVectorsRefIdeal.nD,
          r.2.mem ((c.tc : Thread Cert.UpVectorsRefIdeal.nD Cert.UpVectorsRefIdeal.τ).loc Cert.UpVectorsRefIdeal.main_v23) = v0 c
          ∧ r.2.mem ((c.tc : Thread Cert.UpVectorsRefIdeal.nD Cert.UpVectorsRefIdeal.τ).loc Cert.UpVectorsRefIdeal.main_v4) = v1 c
          ∧ r.2.mem ((c.tc : Thread Cert.UpVectorsRefIdeal.nD Cert.UpVectorsRefIdeal.τ).loc Cert.UpVectorsRefIdeal.main_v10) = v2 c
          ∧ r.2.mem ((c.tc : Thread Cert.UpVectorsRefIdeal.nD Cert.UpVectorsRefIdeal.τ).loc Cert.UpVectorsRefIdeal.main_arg0) = m' ((c.tc : Thread Cert.UpVectorsRefIdeal.nD Cert.UpVectorsRefIdeal.τ).loc Cert.UpVectorsRefIdeal.main_arg0)
          ∧ r.2.mem ((c.tc : Thread Cert.UpVectorsRefIdeal.nD Cert.UpVectorsRefIdeal.τ).loc Cert.UpVectorsRefIdeal.main_arg1) = m' ((c.tc : Thread Cert.UpVectorsRefIdeal.nD Cert.UpVectorsRefIdeal.τ).loc Cert.UpVectorsRefIdeal.main_arg1)
          ∧ r.2.mem ((c.tc : Thread Cert.UpVectorsRefIdeal.nD Cert.UpVectorsRefIdeal.τ).loc Cert.UpVectorsRefIdeal.main_arg2) = m' ((c.tc : Thread Cert.UpVectorsRefIdeal.nD Cert.UpVectorsRefIdeal.τ).loc Cert.UpVectorsRefIdeal.main_arg2)
          ∧ r.2.mem ((c.tc : Thread Cert.UpVectorsRefIdeal.nD Cert.UpVectorsRefIdeal.τ).loc Cert.UpVectorsRefIdeal.main_arg3) = m' ((c.tc : Thread Cert.UpVectorsRefIdeal.nD Cert.UpVectorsRefIdeal.τ).loc Cert.UpVectorsRefIdeal.main_arg3))

def preserves_Small_SmallIdeal : Prop :=
  True

def algebraic_SmallIdeal_SmallRefIdeal [hSmallIdeal : Cert.SmallIdeal.Facts] [hSmallRefIdeal : Cert.SmallRefIdeal.Facts] : Prop :=
  ∀ (m : (ℓ : Loc Cert.SmallIdeal.nD Cert.SmallIdeal.τ Cert.SmallIdeal.sig) → Buf (Elt Ideal) ℓ) (g : Dev Cert.SmallIdeal.nD → PrngReg)
    (m' : (ℓ : Loc Cert.SmallRefIdeal.nD Cert.SmallRefIdeal.τ Cert.SmallRefIdeal.sig) → Buf (Elt Ideal) ℓ) (g' : Dev Cert.SmallRefIdeal.nD → PrngReg), Pre_SmallIdeal m →
    (∀ c : Dev Cert.SmallIdeal.nD,
      m' ((c.tc : Thread Cert.SmallRefIdeal.nD Cert.SmallRefIdeal.τ).loc Cert.SmallRefIdeal.main_arg0) = m ((c.tc : Thread Cert.SmallIdeal.nD Cert.SmallIdeal.τ).loc Cert.SmallIdeal.main_arg0)
      ∧ m' ((c.tc : Thread Cert.SmallRefIdeal.nD Cert.SmallRefIdeal.τ).loc Cert.SmallRefIdeal.main_arg1) = m ((c.tc : Thread Cert.SmallIdeal.nD Cert.SmallIdeal.τ).loc Cert.SmallIdeal.main_arg1)
      ∧ m' ((c.tc : Thread Cert.SmallRefIdeal.nD Cert.SmallRefIdeal.τ).loc Cert.SmallRefIdeal.main_arg2) = m ((c.tc : Thread Cert.SmallIdeal.nD Cert.SmallIdeal.τ).loc Cert.SmallIdeal.main_arg2)
      ∧ m' ((c.tc : Thread Cert.SmallRefIdeal.nD Cert.SmallRefIdeal.τ).loc Cert.SmallRefIdeal.main_arg3) = m ((c.tc : Thread Cert.SmallIdeal.nD Cert.SmallIdeal.τ).loc Cert.SmallIdeal.main_arg3)
      ∧ m' ((c.tc : Thread Cert.SmallRefIdeal.nD Cert.SmallRefIdeal.τ).loc Cert.SmallRefIdeal.main_arg4) = m ((c.tc : Thread Cert.SmallIdeal.nD Cert.SmallIdeal.τ).loc Cert.SmallIdeal.main_arg4)
      ∧ m' ((c.tc : Thread Cert.SmallRefIdeal.nD Cert.SmallRefIdeal.τ).loc Cert.SmallRefIdeal.main_arg5) = m ((c.tc : Thread Cert.SmallIdeal.nD Cert.SmallIdeal.τ).loc Cert.SmallIdeal.main_arg5)
      ∧ m' ((c.tc : Thread Cert.SmallRefIdeal.nD Cert.SmallRefIdeal.τ).loc Cert.SmallRefIdeal.main_arg6) = m ((c.tc : Thread Cert.SmallIdeal.nD Cert.SmallIdeal.τ).loc Cert.SmallIdeal.main_arg6)
      ∧ m' ((c.tc : Thread Cert.SmallRefIdeal.nD Cert.SmallRefIdeal.τ).loc Cert.SmallRefIdeal.main_arg7) = m ((c.tc : Thread Cert.SmallIdeal.nD Cert.SmallIdeal.τ).loc Cert.SmallIdeal.main_arg7)) →
    ∃ (v0 : (c : Dev Cert.SmallIdeal.nD) → Buf (Elt Ideal) ((c.tc : Thread Cert.SmallIdeal.nD Cert.SmallIdeal.τ).loc Cert.SmallIdeal.main_v0)),
      θ_run (Cert.SmallIdeal.defs (F := Ideal)) (onTc (τ := Cert.SmallIdeal.τ) (Cert.SmallIdeal.main (F := Ideal))) ⟨m, fun _ => 0, g⟩ (fun r => ∀ c : Dev Cert.SmallIdeal.nD,
          r.2.mem ((c.tc : Thread Cert.SmallIdeal.nD Cert.SmallIdeal.τ).loc Cert.SmallIdeal.main_v0) = v0 c
          ∧ r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
          ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
          ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
          ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3)
          ∧ r.2.mem ((c.tc : Thread Cert.SmallIdeal.nD Cert.SmallIdeal.τ).loc Cert.SmallIdeal.main_arg4) = m ((c.tc : Thread Cert.SmallIdeal.nD Cert.SmallIdeal.τ).loc Cert.SmallIdeal.main_arg4)
          ∧ r.2.mem ((c.tc : Thread Cert.SmallIdeal.nD Cert.SmallIdeal.τ).loc Cert.SmallIdeal.main_arg5) = m ((c.tc : Thread Cert.SmallIdeal.nD Cert.SmallIdeal.τ).loc Cert.SmallIdeal.main_arg5)
          ∧ r.2.mem ((c.tc : Thread Cert.SmallIdeal.nD Cert.SmallIdeal.τ).loc Cert.SmallIdeal.main_arg6) = m ((c.tc : Thread Cert.SmallIdeal.nD Cert.SmallIdeal.τ).loc Cert.SmallIdeal.main_arg6)
          ∧ r.2.mem ((c.tc : Thread Cert.SmallIdeal.nD Cert.SmallIdeal.τ).loc Cert.SmallIdeal.main_arg7) = m ((c.tc : Thread Cert.SmallIdeal.nD Cert.SmallIdeal.τ).loc Cert.SmallIdeal.main_arg7))
      ∧ θ_run (Cert.SmallRefIdeal.defs (F := Ideal)) (onTc (τ := Cert.SmallRefIdeal.τ) (Cert.SmallRefIdeal.main (F := Ideal))) ⟨m', fun _ => 0, g'⟩ (fun r => ∀ c : Dev Cert.SmallRefIdeal.nD,
          r.2.mem ((c.tc : Thread Cert.SmallRefIdeal.nD Cert.SmallRefIdeal.τ).loc Cert.SmallRefIdeal.main_v9) = v0 c
          ∧ r.2.mem ((c.tc : Thread Cert.SmallRefIdeal.nD Cert.SmallRefIdeal.τ).loc Cert.SmallRefIdeal.main_arg0) = m' ((c.tc : Thread Cert.SmallRefIdeal.nD Cert.SmallRefIdeal.τ).loc Cert.SmallRefIdeal.main_arg0)
          ∧ r.2.mem ((c.tc : Thread Cert.SmallRefIdeal.nD Cert.SmallRefIdeal.τ).loc Cert.SmallRefIdeal.main_arg1) = m' ((c.tc : Thread Cert.SmallRefIdeal.nD Cert.SmallRefIdeal.τ).loc Cert.SmallRefIdeal.main_arg1)
          ∧ r.2.mem ((c.tc : Thread Cert.SmallRefIdeal.nD Cert.SmallRefIdeal.τ).loc Cert.SmallRefIdeal.main_arg2) = m' ((c.tc : Thread Cert.SmallRefIdeal.nD Cert.SmallRefIdeal.τ).loc Cert.SmallRefIdeal.main_arg2)
          ∧ r.2.mem ((c.tc : Thread Cert.SmallRefIdeal.nD Cert.SmallRefIdeal.τ).loc Cert.SmallRefIdeal.main_arg3) = m' ((c.tc : Thread Cert.SmallRefIdeal.nD Cert.SmallRefIdeal.τ).loc Cert.SmallRefIdeal.main_arg3)
          ∧ r.2.mem ((c.tc : Thread Cert.SmallRefIdeal.nD Cert.SmallRefIdeal.τ).loc Cert.SmallRefIdeal.main_arg4) = m' ((c.tc : Thread Cert.SmallRefIdeal.nD Cert.SmallRefIdeal.τ).loc Cert.SmallRefIdeal.main_arg4)
          ∧ r.2.mem ((c.tc : Thread Cert.SmallRefIdeal.nD Cert.SmallRefIdeal.τ).loc Cert.SmallRefIdeal.main_arg5) = m' ((c.tc : Thread Cert.SmallRefIdeal.nD Cert.SmallRefIdeal.τ).loc Cert.SmallRefIdeal.main_arg5)
          ∧ r.2.mem ((c.tc : Thread Cert.SmallRefIdeal.nD Cert.SmallRefIdeal.τ).loc Cert.SmallRefIdeal.main_arg6) = m' ((c.tc : Thread Cert.SmallRefIdeal.nD Cert.SmallRefIdeal.τ).loc Cert.SmallRefIdeal.main_arg6)
          ∧ r.2.mem ((c.tc : Thread Cert.SmallRefIdeal.nD Cert.SmallRefIdeal.τ).loc Cert.SmallRefIdeal.main_arg7) = m' ((c.tc : Thread Cert.SmallRefIdeal.nD Cert.SmallRefIdeal.τ).loc Cert.SmallRefIdeal.main_arg7))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v0_0)) (v1 : (c : Dev Cert.NormIdeal.nD) → Buf (Elt Ideal) ((c.tc : Thread Cert.NormIdeal.nD Cert.NormIdeal.τ).loc Cert.NormIdeal.main_v0_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0_0) = v0 c
          ∧ r.2.mem ((c.tc : Thread Cert.NormIdeal.nD Cert.NormIdeal.τ).loc Cert.NormIdeal.main_v0_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v34) = v0 c
          ∧ r.2.mem ((c.tc : Thread Cert.NormRefIdeal.nD Cert.NormRefIdeal.τ).loc Cert.NormRefIdeal.main_v17) = v1 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v0)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v2) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)) →
    ∃ (v0 : (c : Dev Cert.GluIdeal.nD) → Buf (Elt Ideal) ((c.tc : Thread Cert.GluIdeal.nD Cert.GluIdeal.τ).loc Cert.GluIdeal.main_v0)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v0) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v10) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v0)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v5) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2))

def preserves_FfnDz_FfnDzIdeal : Prop :=
  True

def algebraic_FfnDzIdeal_FfnDzRefIdeal [hFfnDzIdeal : Cert.FfnDzIdeal.Facts] [hFfnDzRefIdeal : Cert.FfnDzRefIdeal.Facts] : Prop :=
  ∀ (m : (ℓ : Loc Cert.FfnDzIdeal.nD Cert.FfnDzIdeal.τ Cert.FfnDzIdeal.sig) → Buf (Elt Ideal) ℓ) (g : Dev Cert.FfnDzIdeal.nD → PrngReg)
    (m' : (ℓ : Loc Cert.FfnDzRefIdeal.nD Cert.FfnDzRefIdeal.τ Cert.FfnDzRefIdeal.sig) → Buf (Elt Ideal) ℓ) (g' : Dev Cert.FfnDzRefIdeal.nD → PrngReg), Pre_FfnDzIdeal m →
    (∀ c : Dev Cert.FfnDzIdeal.nD,
      m' ((c.tc : Thread Cert.FfnDzRefIdeal.nD Cert.FfnDzRefIdeal.τ).loc Cert.FfnDzRefIdeal.main_arg0) = m ((c.tc : Thread Cert.FfnDzIdeal.nD Cert.FfnDzIdeal.τ).loc Cert.FfnDzIdeal.main_arg0)
      ∧ m' ((c.tc : Thread Cert.FfnDzRefIdeal.nD Cert.FfnDzRefIdeal.τ).loc Cert.FfnDzRefIdeal.main_arg1) = m ((c.tc : Thread Cert.FfnDzIdeal.nD Cert.FfnDzIdeal.τ).loc Cert.FfnDzIdeal.main_arg1)) →
    ∃ (v0 : (c : Dev Cert.FfnDzIdeal.nD) → Buf (Elt Ideal) ((c.tc : Thread Cert.FfnDzIdeal.nD Cert.FfnDzIdeal.τ).loc Cert.FfnDzIdeal.main_v0)),
      θ_run (Cert.FfnDzIdeal.defs (F := Ideal)) (onTc (τ := Cert.FfnDzIdeal.τ) (Cert.FfnDzIdeal.main (F := Ideal))) ⟨m, fun _ => 0, g⟩ (fun r => ∀ c : Dev Cert.FfnDzIdeal.nD,
          r.2.mem ((c.tc : Thread Cert.FfnDzIdeal.nD Cert.FfnDzIdeal.τ).loc Cert.FfnDzIdeal.main_v0) = v0 c
          ∧ r.2.mem ((c.tc : Thread Cert.FfnDzIdeal.nD Cert.FfnDzIdeal.τ).loc Cert.FfnDzIdeal.main_arg0) = m ((c.tc : Thread Cert.FfnDzIdeal.nD Cert.FfnDzIdeal.τ).loc Cert.FfnDzIdeal.main_arg0)
          ∧ r.2.mem ((c.tc : Thread Cert.FfnDzIdeal.nD Cert.FfnDzIdeal.τ).loc Cert.FfnDzIdeal.main_arg1) = m ((c.tc : Thread Cert.FfnDzIdeal.nD Cert.FfnDzIdeal.τ).loc Cert.FfnDzIdeal.main_arg1))
      ∧ θ_run (Cert.FfnDzRefIdeal.defs (F := Ideal)) (onTc (τ := Cert.FfnDzRefIdeal.τ) (Cert.FfnDzRefIdeal.main (F := Ideal))) ⟨m', fun _ => 0, g'⟩ (fun r => ∀ c : Dev Cert.FfnDzRefIdeal.nD,
          r.2.mem ((c.tc : Thread Cert.FfnDzRefIdeal.nD Cert.FfnDzRefIdeal.τ).loc Cert.FfnDzRefIdeal.main_v4) = v0 c
          ∧ r.2.mem ((c.tc : Thread Cert.FfnDzRefIdeal.nD Cert.FfnDzRefIdeal.τ).loc Cert.FfnDzRefIdeal.main_arg0) = m' ((c.tc : Thread Cert.FfnDzRefIdeal.nD Cert.FfnDzRefIdeal.τ).loc Cert.FfnDzRefIdeal.main_arg0)
          ∧ r.2.mem ((c.tc : Thread Cert.FfnDzRefIdeal.nD Cert.FfnDzRefIdeal.τ).loc Cert.FfnDzRefIdeal.main_arg1) = m' ((c.tc : Thread Cert.FfnDzRefIdeal.nD Cert.FfnDzRefIdeal.τ).loc Cert.FfnDzRefIdeal.main_arg1))

def preserves_FfnDwd_FfnDwdIdeal : Prop :=
  True

def algebraic_FfnDwdIdeal_FfnDwdRefIdeal [hFfnDwdIdeal : Cert.FfnDwdIdeal.Facts] [hFfnDwdRefIdeal : Cert.FfnDwdRefIdeal.Facts] : Prop :=
  ∀ (m : (ℓ : Loc Cert.FfnDwdIdeal.nD Cert.FfnDwdIdeal.τ Cert.FfnDwdIdeal.sig) → Buf (Elt Ideal) ℓ) (g : Dev Cert.FfnDwdIdeal.nD → PrngReg)
    (m' : (ℓ : Loc Cert.FfnDwdRefIdeal.nD Cert.FfnDwdRefIdeal.τ Cert.FfnDwdRefIdeal.sig) → Buf (Elt Ideal) ℓ) (g' : Dev Cert.FfnDwdRefIdeal.nD → PrngReg), Pre_FfnDwdIdeal m →
    (∀ c : Dev Cert.FfnDwdIdeal.nD,
      m' ((c.tc : Thread Cert.FfnDwdRefIdeal.nD Cert.FfnDwdRefIdeal.τ).loc Cert.FfnDwdRefIdeal.main_arg0) = m ((c.tc : Thread Cert.FfnDwdIdeal.nD Cert.FfnDwdIdeal.τ).loc Cert.FfnDwdIdeal.main_arg0)
      ∧ m' ((c.tc : Thread Cert.FfnDwdRefIdeal.nD Cert.FfnDwdRefIdeal.τ).loc Cert.FfnDwdRefIdeal.main_arg1) = m ((c.tc : Thread Cert.FfnDwdIdeal.nD Cert.FfnDwdIdeal.τ).loc Cert.FfnDwdIdeal.main_arg1)) →
    ∃ (v0 : (c : Dev Cert.FfnDwdIdeal.nD) → Buf (Elt Ideal) ((c.tc : Thread Cert.FfnDwdIdeal.nD Cert.FfnDwdIdeal.τ).loc Cert.FfnDwdIdeal.main_v0)),
      θ_run (Cert.FfnDwdIdeal.defs (F := Ideal)) (onTc (τ := Cert.FfnDwdIdeal.τ) (Cert.FfnDwdIdeal.main (F := Ideal))) ⟨m, fun _ => 0, g⟩ (fun r => ∀ c : Dev Cert.FfnDwdIdeal.nD,
          r.2.mem ((c.tc : Thread Cert.FfnDwdIdeal.nD Cert.FfnDwdIdeal.τ).loc Cert.FfnDwdIdeal.main_v0) = v0 c
          ∧ r.2.mem ((c.tc : Thread Cert.FfnDwdIdeal.nD Cert.FfnDwdIdeal.τ).loc Cert.FfnDwdIdeal.main_arg0) = m ((c.tc : Thread Cert.FfnDwdIdeal.nD Cert.FfnDwdIdeal.τ).loc Cert.FfnDwdIdeal.main_arg0)
          ∧ r.2.mem ((c.tc : Thread Cert.FfnDwdIdeal.nD Cert.FfnDwdIdeal.τ).loc Cert.FfnDwdIdeal.main_arg1) = m ((c.tc : Thread Cert.FfnDwdIdeal.nD Cert.FfnDwdIdeal.τ).loc Cert.FfnDwdIdeal.main_arg1))
      ∧ θ_run (Cert.FfnDwdRefIdeal.defs (F := Ideal)) (onTc (τ := Cert.FfnDwdRefIdeal.τ) (Cert.FfnDwdRefIdeal.main (F := Ideal))) ⟨m', fun _ => 0, g'⟩ (fun r => ∀ c : Dev Cert.FfnDwdRefIdeal.nD,
          r.2.mem ((c.tc : Thread Cert.FfnDwdRefIdeal.nD Cert.FfnDwdRefIdeal.τ).loc Cert.FfnDwdRefIdeal.main_v4) = v0 c
          ∧ r.2.mem ((c.tc : Thread Cert.FfnDwdRefIdeal.nD Cert.FfnDwdRefIdeal.τ).loc Cert.FfnDwdRefIdeal.main_arg0) = m' ((c.tc : Thread Cert.FfnDwdRefIdeal.nD Cert.FfnDwdRefIdeal.τ).loc Cert.FfnDwdRefIdeal.main_arg0)
          ∧ r.2.mem ((c.tc : Thread Cert.FfnDwdRefIdeal.nD Cert.FfnDwdRefIdeal.τ).loc Cert.FfnDwdRefIdeal.main_arg1) = m' ((c.tc : Thread Cert.FfnDwdRefIdeal.nD Cert.FfnDwdRefIdeal.τ).loc Cert.FfnDwdRefIdeal.main_arg1))

def preserves_GluBack_GluBackIdeal : Prop :=
  True

def algebraic_GluBackIdeal_GluBackRefIdeal [hGluBackIdeal : Cert.GluBackIdeal.Facts] [hGluBackRefIdeal : Cert.GluBackRefIdeal.Facts] : Prop :=
  ∀ (m : (ℓ : Loc Cert.GluBackIdeal.nD Cert.GluBackIdeal.τ Cert.GluBackIdeal.sig) → Buf (Elt Ideal) ℓ) (g : Dev Cert.GluBackIdeal.nD → PrngReg)
    (m' : (ℓ : Loc Cert.GluBackRefIdeal.nD Cert.GluBackRefIdeal.τ Cert.GluBackRefIdeal.sig) → Buf (Elt Ideal) ℓ) (g' : Dev Cert.GluBackRefIdeal.nD → PrngReg), Pre_GluBackIdeal m →
    (∀ c : Dev Cert.GluBackIdeal.nD,
      m' ((c.tc : Thread Cert.GluBackRefIdeal.nD Cert.GluBackRefIdeal.τ).loc Cert.GluBackRefIdeal.main_arg0) = m ((c.tc : Thread Cert.GluBackIdeal.nD Cert.GluBackIdeal.τ).loc Cert.GluBackIdeal.main_arg0)
      ∧ m' ((c.tc : Thread Cert.GluBackRefIdeal.nD Cert.GluBackRefIdeal.τ).loc Cert.GluBackRefIdeal.main_arg1) = m ((c.tc : Thread Cert.GluBackIdeal.nD Cert.GluBackIdeal.τ).loc Cert.GluBackIdeal.main_arg1)) →
    ∃ (v0 : (c : Dev Cert.GluBackIdeal.nD) → Buf (Elt Ideal) ((c.tc : Thread Cert.GluBackIdeal.nD Cert.GluBackIdeal.τ).loc Cert.GluBackIdeal.main_v0)),
      θ_run (Cert.GluBackIdeal.defs (F := Ideal)) (onTc (τ := Cert.GluBackIdeal.τ) (Cert.GluBackIdeal.main (F := Ideal))) ⟨m, fun _ => 0, g⟩ (fun r => ∀ c : Dev Cert.GluBackIdeal.nD,
          r.2.mem ((c.tc : Thread Cert.GluBackIdeal.nD Cert.GluBackIdeal.τ).loc Cert.GluBackIdeal.main_v0) = v0 c
          ∧ r.2.mem ((c.tc : Thread Cert.GluBackIdeal.nD Cert.GluBackIdeal.τ).loc Cert.GluBackIdeal.main_arg0) = m ((c.tc : Thread Cert.GluBackIdeal.nD Cert.GluBackIdeal.τ).loc Cert.GluBackIdeal.main_arg0)
          ∧ r.2.mem ((c.tc : Thread Cert.GluBackIdeal.nD Cert.GluBackIdeal.τ).loc Cert.GluBackIdeal.main_arg1) = m ((c.tc : Thread Cert.GluBackIdeal.nD Cert.GluBackIdeal.τ).loc Cert.GluBackIdeal.main_arg1))
      ∧ θ_run (Cert.GluBackRefIdeal.defs (F := Ideal)) (onTc (τ := Cert.GluBackRefIdeal.τ) (Cert.GluBackRefIdeal.main (F := Ideal))) ⟨m', fun _ => 0, g'⟩ (fun r => ∀ c : Dev Cert.GluBackRefIdeal.nD,
          r.2.mem ((c.tc : Thread Cert.GluBackRefIdeal.nD Cert.GluBackRefIdeal.τ).loc Cert.GluBackRefIdeal.main_v19) = v0 c
          ∧ r.2.mem ((c.tc : Thread Cert.GluBackRefIdeal.nD Cert.GluBackRefIdeal.τ).loc Cert.GluBackRefIdeal.main_arg0) = m' ((c.tc : Thread Cert.GluBackRefIdeal.nD Cert.GluBackRefIdeal.τ).loc Cert.GluBackRefIdeal.main_arg0)
          ∧ r.2.mem ((c.tc : Thread Cert.GluBackRefIdeal.nD Cert.GluBackRefIdeal.τ).loc Cert.GluBackRefIdeal.main_arg1) = m' ((c.tc : Thread Cert.GluBackRefIdeal.nD Cert.GluBackRefIdeal.τ).loc Cert.GluBackRefIdeal.main_arg1))

def preserves_FfnDwgu_FfnDwguIdeal : Prop :=
  True

def algebraic_FfnDwguIdeal_FfnDwguRefIdeal [hFfnDwguIdeal : Cert.FfnDwguIdeal.Facts] [hFfnDwguRefIdeal : Cert.FfnDwguRefIdeal.Facts] : Prop :=
  ∀ (m : (ℓ : Loc Cert.FfnDwguIdeal.nD Cert.FfnDwguIdeal.τ Cert.FfnDwguIdeal.sig) → Buf (Elt Ideal) ℓ) (g : Dev Cert.FfnDwguIdeal.nD → PrngReg)
    (m' : (ℓ : Loc Cert.FfnDwguRefIdeal.nD Cert.FfnDwguRefIdeal.τ Cert.FfnDwguRefIdeal.sig) → Buf (Elt Ideal) ℓ) (g' : Dev Cert.FfnDwguRefIdeal.nD → PrngReg), Pre_FfnDwguIdeal m →
    (∀ c : Dev Cert.FfnDwguIdeal.nD,
      m' ((c.tc : Thread Cert.FfnDwguRefIdeal.nD Cert.FfnDwguRefIdeal.τ).loc Cert.FfnDwguRefIdeal.main_arg0) = m ((c.tc : Thread Cert.FfnDwguIdeal.nD Cert.FfnDwguIdeal.τ).loc Cert.FfnDwguIdeal.main_arg0)
      ∧ m' ((c.tc : Thread Cert.FfnDwguRefIdeal.nD Cert.FfnDwguRefIdeal.τ).loc Cert.FfnDwguRefIdeal.main_arg1) = m ((c.tc : Thread Cert.FfnDwguIdeal.nD Cert.FfnDwguIdeal.τ).loc Cert.FfnDwguIdeal.main_arg1)) →
    ∃ (v0 : (c : Dev Cert.FfnDwguIdeal.nD) → Buf (Elt Ideal) ((c.tc : Thread Cert.FfnDwguIdeal.nD Cert.FfnDwguIdeal.τ).loc Cert.FfnDwguIdeal.main_v0)),
      θ_run (Cert.FfnDwguIdeal.defs (F := Ideal)) (onTc (τ := Cert.FfnDwguIdeal.τ) (Cert.FfnDwguIdeal.main (F := Ideal))) ⟨m, fun _ => 0, g⟩ (fun r => ∀ c : Dev Cert.FfnDwguIdeal.nD,
          r.2.mem ((c.tc : Thread Cert.FfnDwguIdeal.nD Cert.FfnDwguIdeal.τ).loc Cert.FfnDwguIdeal.main_v0) = v0 c
          ∧ r.2.mem ((c.tc : Thread Cert.FfnDwguIdeal.nD Cert.FfnDwguIdeal.τ).loc Cert.FfnDwguIdeal.main_arg0) = m ((c.tc : Thread Cert.FfnDwguIdeal.nD Cert.FfnDwguIdeal.τ).loc Cert.FfnDwguIdeal.main_arg0)
          ∧ r.2.mem ((c.tc : Thread Cert.FfnDwguIdeal.nD Cert.FfnDwguIdeal.τ).loc Cert.FfnDwguIdeal.main_arg1) = m ((c.tc : Thread Cert.FfnDwguIdeal.nD Cert.FfnDwguIdeal.τ).loc Cert.FfnDwguIdeal.main_arg1))
      ∧ θ_run (Cert.FfnDwguRefIdeal.defs (F := Ideal)) (onTc (τ := Cert.FfnDwguRefIdeal.τ) (Cert.FfnDwguRefIdeal.main (F := Ideal))) ⟨m', fun _ => 0, g'⟩ (fun r => ∀ c : Dev Cert.FfnDwguRefIdeal.nD,
          r.2.mem ((c.tc : Thread Cert.FfnDwguRefIdeal.nD Cert.FfnDwguRefIdeal.τ).loc Cert.FfnDwguRefIdeal.main_v3) = v0 c
          ∧ r.2.mem ((c.tc : Thread Cert.FfnDwguRefIdeal.nD Cert.FfnDwguRefIdeal.τ).loc Cert.FfnDwguRefIdeal.main_arg0) = m' ((c.tc : Thread Cert.FfnDwguRefIdeal.nD Cert.FfnDwguRefIdeal.τ).loc Cert.FfnDwguRefIdeal.main_arg0)
          ∧ r.2.mem ((c.tc : Thread Cert.FfnDwguRefIdeal.nD Cert.FfnDwguRefIdeal.τ).loc Cert.FfnDwguRefIdeal.main_arg1) = m' ((c.tc : Thread Cert.FfnDwguRefIdeal.nD Cert.FfnDwguRefIdeal.τ).loc Cert.FfnDwguRefIdeal.main_arg1))

def preserves_FfnDh_FfnDhIdeal : Prop :=
  True

def algebraic_FfnDhIdeal_FfnDhRefIdeal [hFfnDhIdeal : Cert.FfnDhIdeal.Facts] [hFfnDhRefIdeal : Cert.FfnDhRefIdeal.Facts] : Prop :=
  ∀ (m : (ℓ : Loc Cert.FfnDhIdeal.nD Cert.FfnDhIdeal.τ Cert.FfnDhIdeal.sig) → Buf (Elt Ideal) ℓ) (g : Dev Cert.FfnDhIdeal.nD → PrngReg)
    (m' : (ℓ : Loc Cert.FfnDhRefIdeal.nD Cert.FfnDhRefIdeal.τ Cert.FfnDhRefIdeal.sig) → Buf (Elt Ideal) ℓ) (g' : Dev Cert.FfnDhRefIdeal.nD → PrngReg), Pre_FfnDhIdeal m →
    (∀ c : Dev Cert.FfnDhIdeal.nD,
      m' ((c.tc : Thread Cert.FfnDhRefIdeal.nD Cert.FfnDhRefIdeal.τ).loc Cert.FfnDhRefIdeal.main_arg0) = m ((c.tc : Thread Cert.FfnDhIdeal.nD Cert.FfnDhIdeal.τ).loc Cert.FfnDhIdeal.main_arg0)
      ∧ m' ((c.tc : Thread Cert.FfnDhRefIdeal.nD Cert.FfnDhRefIdeal.τ).loc Cert.FfnDhRefIdeal.main_arg1) = m ((c.tc : Thread Cert.FfnDhIdeal.nD Cert.FfnDhIdeal.τ).loc Cert.FfnDhIdeal.main_arg1)) →
    ∃ (v0 : (c : Dev Cert.FfnDhIdeal.nD) → Buf (Elt Ideal) ((c.tc : Thread Cert.FfnDhIdeal.nD Cert.FfnDhIdeal.τ).loc Cert.FfnDhIdeal.main_v0)),
      θ_run (Cert.FfnDhIdeal.defs (F := Ideal)) (onTc (τ := Cert.FfnDhIdeal.τ) (Cert.FfnDhIdeal.main (F := Ideal))) ⟨m, fun _ => 0, g⟩ (fun r => ∀ c : Dev Cert.FfnDhIdeal.nD,
          r.2.mem ((c.tc : Thread Cert.FfnDhIdeal.nD Cert.FfnDhIdeal.τ).loc Cert.FfnDhIdeal.main_v0) = v0 c
          ∧ r.2.mem ((c.tc : Thread Cert.FfnDhIdeal.nD Cert.FfnDhIdeal.τ).loc Cert.FfnDhIdeal.main_arg0) = m ((c.tc : Thread Cert.FfnDhIdeal.nD Cert.FfnDhIdeal.τ).loc Cert.FfnDhIdeal.main_arg0)
          ∧ r.2.mem ((c.tc : Thread Cert.FfnDhIdeal.nD Cert.FfnDhIdeal.τ).loc Cert.FfnDhIdeal.main_arg1) = m ((c.tc : Thread Cert.FfnDhIdeal.nD Cert.FfnDhIdeal.τ).loc Cert.FfnDhIdeal.main_arg1))
      ∧ θ_run (Cert.FfnDhRefIdeal.defs (F := Ideal)) (onTc (τ := Cert.FfnDhRefIdeal.τ) (Cert.FfnDhRefIdeal.main (F := Ideal))) ⟨m', fun _ => 0, g'⟩ (fun r => ∀ c : Dev Cert.FfnDhRefIdeal.nD,
          r.2.mem ((c.tc : Thread Cert.FfnDhRefIdeal.nD Cert.FfnDhRefIdeal.τ).loc Cert.FfnDhRefIdeal.main_v3) = v0 c
          ∧ r.2.mem ((c.tc : Thread Cert.FfnDhRefIdeal.nD Cert.FfnDhRefIdeal.τ).loc Cert.FfnDhRefIdeal.main_arg0) = m' ((c.tc : Thread Cert.FfnDhRefIdeal.nD Cert.FfnDhRefIdeal.τ).loc Cert.FfnDhRefIdeal.main_arg0)
          ∧ r.2.mem ((c.tc : Thread Cert.FfnDhRefIdeal.nD Cert.FfnDhRefIdeal.τ).loc Cert.FfnDhRefIdeal.main_arg1) = m' ((c.tc : Thread Cert.FfnDhRefIdeal.nD Cert.FfnDhRefIdeal.τ).loc Cert.FfnDhRefIdeal.main_arg1))

def preserves_NormIn_NormInIdeal : Prop :=
  True

def algebraic_NormInIdeal_NormInRefIdeal [hNormInIdeal : Cert.NormInIdeal.Facts] [hNormInRefIdeal : Cert.NormInRefIdeal.Facts] : Prop :=
  ∀ (m : (ℓ : Loc Cert.NormInIdeal.nD Cert.NormInIdeal.τ Cert.NormInIdeal.sig) → Buf (Elt Ideal) ℓ) (g : Dev Cert.NormInIdeal.nD → PrngReg)
    (m' : (ℓ : Loc Cert.NormInRefIdeal.nD Cert.NormInRefIdeal.τ Cert.NormInRefIdeal.sig) → Buf (Elt Ideal) ℓ) (g' : Dev Cert.NormInRefIdeal.nD → PrngReg), Pre_NormInIdeal m →
    (∀ c : Dev Cert.NormInIdeal.nD,
      m' ((c.tc : Thread Cert.NormInRefIdeal.nD Cert.NormInRefIdeal.τ).loc Cert.NormInRefIdeal.main_arg0) = m ((c.tc : Thread Cert.NormInIdeal.nD Cert.NormInIdeal.τ).loc Cert.NormInIdeal.main_arg0)
      ∧ m' ((c.tc : Thread Cert.NormInRefIdeal.nD Cert.NormInRefIdeal.τ).loc Cert.NormInRefIdeal.main_arg1) = m ((c.tc : Thread Cert.NormInIdeal.nD Cert.NormInIdeal.τ).loc Cert.NormInIdeal.main_arg1)) →
    ∃ (v0 : (c : Dev Cert.NormInIdeal.nD) → Buf (Elt Ideal) ((c.tc : Thread Cert.NormInIdeal.nD Cert.NormInIdeal.τ).loc Cert.NormInIdeal.main_v0)),
      θ_run (Cert.NormInIdeal.defs (F := Ideal)) (onTc (τ := Cert.NormInIdeal.τ) (Cert.NormInIdeal.main (F := Ideal))) ⟨m, fun _ => 0, g⟩ (fun r => ∀ c : Dev Cert.NormInIdeal.nD,
          r.2.mem ((c.tc : Thread Cert.NormInIdeal.nD Cert.NormInIdeal.τ).loc Cert.NormInIdeal.main_v0) = v0 c
          ∧ r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
          ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1))
      ∧ θ_run (Cert.NormInRefIdeal.defs (F := Ideal)) (onTc (τ := Cert.NormInRefIdeal.τ) (Cert.NormInRefIdeal.main (F := Ideal))) ⟨m', fun _ => 0, g'⟩ (fun r => ∀ c : Dev Cert.NormInRefIdeal.nD,
          r.2.mem ((c.tc : Thread Cert.NormInRefIdeal.nD Cert.NormInRefIdeal.τ).loc Cert.NormInRefIdeal.main_v12) = v0 c
          ∧ r.2.mem ((c.tc : Thread Cert.NormInRefIdeal.nD Cert.NormInRefIdeal.τ).loc Cert.NormInRefIdeal.main_arg0) = m' ((c.tc : Thread Cert.NormInRefIdeal.nD Cert.NormInRefIdeal.τ).loc Cert.NormInRefIdeal.main_arg0)
          ∧ r.2.mem ((c.tc : Thread Cert.NormInRefIdeal.nD Cert.NormInRefIdeal.τ).loc Cert.NormInRefIdeal.main_arg1) = m' ((c.tc : Thread Cert.NormInRefIdeal.nD Cert.NormInRefIdeal.τ).loc Cert.NormInRefIdeal.main_arg1))

def preserves_NormOut_NormOutIdeal : Prop :=
  True

def algebraic_NormOutIdeal_NormOutRefIdeal [hNormOutIdeal : Cert.NormOutIdeal.Facts] [hNormOutRefIdeal : Cert.NormOutRefIdeal.Facts] : Prop :=
  ∀ (m : (ℓ : Loc Cert.NormOutIdeal.nD Cert.NormOutIdeal.τ Cert.NormOutIdeal.sig) → Buf (Elt Ideal) ℓ) (g : Dev Cert.NormOutIdeal.nD → PrngReg)
    (m' : (ℓ : Loc Cert.NormOutRefIdeal.nD Cert.NormOutRefIdeal.τ Cert.NormOutRefIdeal.sig) → Buf (Elt Ideal) ℓ) (g' : Dev Cert.NormOutRefIdeal.nD → PrngReg), Pre_NormOutIdeal m →
    (∀ c : Dev Cert.NormOutIdeal.nD,
      m' ((c.tc : Thread Cert.NormOutRefIdeal.nD Cert.NormOutRefIdeal.τ).loc Cert.NormOutRefIdeal.main_arg0) = m ((c.tc : Thread Cert.NormOutIdeal.nD Cert.NormOutIdeal.τ).loc Cert.NormOutIdeal.main_arg0)
      ∧ m' ((c.tc : Thread Cert.NormOutRefIdeal.nD Cert.NormOutRefIdeal.τ).loc Cert.NormOutRefIdeal.main_arg1) = m ((c.tc : Thread Cert.NormOutIdeal.nD Cert.NormOutIdeal.τ).loc Cert.NormOutIdeal.main_arg1)) →
    ∃ (v0 : (c : Dev Cert.NormOutIdeal.nD) → Buf (Elt Ideal) ((c.tc : Thread Cert.NormOutIdeal.nD Cert.NormOutIdeal.τ).loc Cert.NormOutIdeal.main_v0)),
      θ_run (Cert.NormOutIdeal.defs (F := Ideal)) (onTc (τ := Cert.NormOutIdeal.τ) (Cert.NormOutIdeal.main (F := Ideal))) ⟨m, fun _ => 0, g⟩ (fun r => ∀ c : Dev Cert.NormOutIdeal.nD,
          r.2.mem ((c.tc : Thread Cert.NormOutIdeal.nD Cert.NormOutIdeal.τ).loc Cert.NormOutIdeal.main_v0) = v0 c
          ∧ r.2.mem ((c.tc : Thread Cert.NormOutIdeal.nD Cert.NormOutIdeal.τ).loc Cert.NormOutIdeal.main_arg0) = m ((c.tc : Thread Cert.NormOutIdeal.nD Cert.NormOutIdeal.τ).loc Cert.NormOutIdeal.main_arg0)
          ∧ r.2.mem ((c.tc : Thread Cert.NormOutIdeal.nD Cert.NormOutIdeal.τ).loc Cert.NormOutIdeal.main_arg1) = m ((c.tc : Thread Cert.NormOutIdeal.nD Cert.NormOutIdeal.τ).loc Cert.NormOutIdeal.main_arg1))
      ∧ θ_run (Cert.NormOutRefIdeal.defs (F := Ideal)) (onTc (τ := Cert.NormOutRefIdeal.τ) (Cert.NormOutRefIdeal.main (F := Ideal))) ⟨m', fun _ => 0, g'⟩ (fun r => ∀ c : Dev Cert.NormOutRefIdeal.nD,
          r.2.mem ((c.tc : Thread Cert.NormOutRefIdeal.nD Cert.NormOutRefIdeal.τ).loc Cert.NormOutRefIdeal.main_v11) = v0 c
          ∧ r.2.mem ((c.tc : Thread Cert.NormOutRefIdeal.nD Cert.NormOutRefIdeal.τ).loc Cert.NormOutRefIdeal.main_arg0) = m' ((c.tc : Thread Cert.NormOutRefIdeal.nD Cert.NormOutRefIdeal.τ).loc Cert.NormOutRefIdeal.main_arg0)
          ∧ r.2.mem ((c.tc : Thread Cert.NormOutRefIdeal.nD Cert.NormOutRefIdeal.τ).loc Cert.NormOutRefIdeal.main_arg1) = m' ((c.tc : Thread Cert.NormOutRefIdeal.nD Cert.NormOutRefIdeal.τ).loc Cert.NormOutRefIdeal.main_arg1))

def preserves_MixIn_MixInIdeal : Prop :=
  True

def algebraic_MixInIdeal_MixInRefIdeal [hMixInIdeal : Cert.MixInIdeal.Facts] [hMixInRefIdeal : Cert.MixInRefIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)) →
    ∃ (v0 : (c : Dev Cert.MixInIdeal.nD) → Buf (Elt Ideal) ((c.tc : Thread Cert.MixInIdeal.nD Cert.MixInIdeal.τ).loc Cert.MixInIdeal.main_v0)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v0) = v0 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v2) = v0 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1))

def preserves_MixQ_MixQIdeal : Prop :=
  True

def algebraic_MixQIdeal_MixQRefIdeal [hMixQIdeal : Cert.MixQIdeal.Facts] [hMixQRefIdeal : Cert.MixQRefIdeal.Facts] : Prop :=
  ∀ (m : (ℓ : Loc Cert.MixQIdeal.nD Cert.MixQIdeal.τ Cert.MixQIdeal.sig) → Buf (Elt Ideal) ℓ) (g : Dev Cert.MixQIdeal.nD → PrngReg)
    (m' : (ℓ : Loc Cert.MixQRefIdeal.nD Cert.MixQRefIdeal.τ Cert.MixQRefIdeal.sig) → Buf (Elt Ideal) ℓ) (g' : Dev Cert.MixQRefIdeal.nD → PrngReg), Pre_MixQIdeal m →
    (∀ c : Dev Cert.MixQIdeal.nD,
      m' ((c.tc : Thread Cert.MixQRefIdeal.nD Cert.MixQRefIdeal.τ).loc Cert.MixQRefIdeal.main_arg0) = m ((c.tc : Thread Cert.MixQIdeal.nD Cert.MixQIdeal.τ).loc Cert.MixQIdeal.main_arg0)
      ∧ m' ((c.tc : Thread Cert.MixQRefIdeal.nD Cert.MixQRefIdeal.τ).loc Cert.MixQRefIdeal.main_arg1) = m ((c.tc : Thread Cert.MixQIdeal.nD Cert.MixQIdeal.τ).loc Cert.MixQIdeal.main_arg1)) →
    ∃ (v0 : (c : Dev Cert.MixQIdeal.nD) → Buf (Elt Ideal) ((c.tc : Thread Cert.MixQIdeal.nD Cert.MixQIdeal.τ).loc Cert.MixQIdeal.main_v0)),
      θ_run (Cert.MixQIdeal.defs (F := Ideal)) (onTc (τ := Cert.MixQIdeal.τ) (Cert.MixQIdeal.main (F := Ideal))) ⟨m, fun _ => 0, g⟩ (fun r => ∀ c : Dev Cert.MixQIdeal.nD,
          r.2.mem ((c.tc : Thread Cert.MixQIdeal.nD Cert.MixQIdeal.τ).loc Cert.MixQIdeal.main_v0) = v0 c
          ∧ r.2.mem ((c.tc : Thread Cert.MixQIdeal.nD Cert.MixQIdeal.τ).loc Cert.MixQIdeal.main_arg0) = m ((c.tc : Thread Cert.MixQIdeal.nD Cert.MixQIdeal.τ).loc Cert.MixQIdeal.main_arg0)
          ∧ r.2.mem ((c.tc : Thread Cert.MixQIdeal.nD Cert.MixQIdeal.τ).loc Cert.MixQIdeal.main_arg1) = m ((c.tc : Thread Cert.MixQIdeal.nD Cert.MixQIdeal.τ).loc Cert.MixQIdeal.main_arg1))
      ∧ θ_run (Cert.MixQRefIdeal.defs (F := Ideal)) (onTc (τ := Cert.MixQRefIdeal.τ) (Cert.MixQRefIdeal.main (F := Ideal))) ⟨m', fun _ => 0, g'⟩ (fun r => ∀ c : Dev Cert.MixQRefIdeal.nD,
          r.2.mem ((c.tc : Thread Cert.MixQRefIdeal.nD Cert.MixQRefIdeal.τ).loc Cert.MixQRefIdeal.main_v2) = v0 c
          ∧ r.2.mem ((c.tc : Thread Cert.MixQRefIdeal.nD Cert.MixQRefIdeal.τ).loc Cert.MixQRefIdeal.main_arg0) = m' ((c.tc : Thread Cert.MixQRefIdeal.nD Cert.MixQRefIdeal.τ).loc Cert.MixQRefIdeal.main_arg0)
          ∧ r.2.mem ((c.tc : Thread Cert.MixQRefIdeal.nD Cert.MixQRefIdeal.τ).loc Cert.MixQRefIdeal.main_arg1) = m' ((c.tc : Thread Cert.MixQRefIdeal.nD Cert.MixQRefIdeal.τ).loc Cert.MixQRefIdeal.main_arg1))

def preserves_MixK_MixKIdeal : Prop :=
  True

def algebraic_MixKIdeal_MixKRefIdeal [hMixKIdeal : Cert.MixKIdeal.Facts] [hMixKRefIdeal : Cert.MixKRefIdeal.Facts] : Prop :=
  ∀ (m : (ℓ : Loc Cert.MixKIdeal.nD Cert.MixKIdeal.τ Cert.MixKIdeal.sig) → Buf (Elt Ideal) ℓ) (g : Dev Cert.MixKIdeal.nD → PrngReg)
    (m' : (ℓ : Loc Cert.MixKRefIdeal.nD Cert.MixKRefIdeal.τ Cert.MixKRefIdeal.sig) → Buf (Elt Ideal) ℓ) (g' : Dev Cert.MixKRefIdeal.nD → PrngReg), Pre_MixKIdeal m →
    (∀ c : Dev Cert.MixKIdeal.nD,
      m' ((c.tc : Thread Cert.MixKRefIdeal.nD Cert.MixKRefIdeal.τ).loc Cert.MixKRefIdeal.main_arg0) = m ((c.tc : Thread Cert.MixKIdeal.nD Cert.MixKIdeal.τ).loc Cert.MixKIdeal.main_arg0)
      ∧ m' ((c.tc : Thread Cert.MixKRefIdeal.nD Cert.MixKRefIdeal.τ).loc Cert.MixKRefIdeal.main_arg1) = m ((c.tc : Thread Cert.MixKIdeal.nD Cert.MixKIdeal.τ).loc Cert.MixKIdeal.main_arg1)) →
    ∃ (v0 : (c : Dev Cert.MixKIdeal.nD) → Buf (Elt Ideal) ((c.tc : Thread Cert.MixKIdeal.nD Cert.MixKIdeal.τ).loc Cert.MixKIdeal.main_v0)),
      θ_run (Cert.MixKIdeal.defs (F := Ideal)) (onTc (τ := Cert.MixKIdeal.τ) (Cert.MixKIdeal.main (F := Ideal))) ⟨m, fun _ => 0, g⟩ (fun r => ∀ c : Dev Cert.MixKIdeal.nD,
          r.2.mem ((c.tc : Thread Cert.MixKIdeal.nD Cert.MixKIdeal.τ).loc Cert.MixKIdeal.main_v0) = v0 c
          ∧ r.2.mem ((c.tc : Thread Cert.MixKIdeal.nD Cert.MixKIdeal.τ).loc Cert.MixKIdeal.main_arg0) = m ((c.tc : Thread Cert.MixKIdeal.nD Cert.MixKIdeal.τ).loc Cert.MixKIdeal.main_arg0)
          ∧ r.2.mem ((c.tc : Thread Cert.MixKIdeal.nD Cert.MixKIdeal.τ).loc Cert.MixKIdeal.main_arg1) = m ((c.tc : Thread Cert.MixKIdeal.nD Cert.MixKIdeal.τ).loc Cert.MixKIdeal.main_arg1))
      ∧ θ_run (Cert.MixKRefIdeal.defs (F := Ideal)) (onTc (τ := Cert.MixKRefIdeal.τ) (Cert.MixKRefIdeal.main (F := Ideal))) ⟨m', fun _ => 0, g'⟩ (fun r => ∀ c : Dev Cert.MixKRefIdeal.nD,
          r.2.mem ((c.tc : Thread Cert.MixKRefIdeal.nD Cert.MixKRefIdeal.τ).loc Cert.MixKRefIdeal.main_v2) = v0 c
          ∧ r.2.mem ((c.tc : Thread Cert.MixKRefIdeal.nD Cert.MixKRefIdeal.τ).loc Cert.MixKRefIdeal.main_arg0) = m' ((c.tc : Thread Cert.MixKRefIdeal.nD Cert.MixKRefIdeal.τ).loc Cert.MixKRefIdeal.main_arg0)
          ∧ r.2.mem ((c.tc : Thread Cert.MixKRefIdeal.nD Cert.MixKRefIdeal.τ).loc Cert.MixKRefIdeal.main_arg1) = m' ((c.tc : Thread Cert.MixKRefIdeal.nD Cert.MixKRefIdeal.τ).loc Cert.MixKRefIdeal.main_arg1))

def preserves_MixV_MixVIdeal : Prop :=
  True

def algebraic_MixVIdeal_MixVRefIdeal [hMixVIdeal : Cert.MixVIdeal.Facts] [hMixVRefIdeal : Cert.MixVRefIdeal.Facts] : Prop :=
  ∀ (m : (ℓ : Loc Cert.MixVIdeal.nD Cert.MixVIdeal.τ Cert.MixVIdeal.sig) → Buf (Elt Ideal) ℓ) (g : Dev Cert.MixVIdeal.nD → PrngReg)
    (m' : (ℓ : Loc Cert.MixVRefIdeal.nD Cert.MixVRefIdeal.τ Cert.MixVRefIdeal.sig) → Buf (Elt Ideal) ℓ) (g' : Dev Cert.MixVRefIdeal.nD → PrngReg), Pre_MixVIdeal m →
    (∀ c : Dev Cert.MixVIdeal.nD,
      m' ((c.tc : Thread Cert.MixVRefIdeal.nD Cert.MixVRefIdeal.τ).loc Cert.MixVRefIdeal.main_arg0) = m ((c.tc : Thread Cert.MixVIdeal.nD Cert.MixVIdeal.τ).loc Cert.MixVIdeal.main_arg0)
      ∧ m' ((c.tc : Thread Cert.MixVRefIdeal.nD Cert.MixVRefIdeal.τ).loc Cert.MixVRefIdeal.main_arg1) = m ((c.tc : Thread Cert.MixVIdeal.nD Cert.MixVIdeal.τ).loc Cert.MixVIdeal.main_arg1)) →
    ∃ (v0 : (c : Dev Cert.MixVIdeal.nD) → Buf (Elt Ideal) ((c.tc : Thread Cert.MixVIdeal.nD Cert.MixVIdeal.τ).loc Cert.MixVIdeal.main_v0)),
      θ_run (Cert.MixVIdeal.defs (F := Ideal)) (onTc (τ := Cert.MixVIdeal.τ) (Cert.MixVIdeal.main (F := Ideal))) ⟨m, fun _ => 0, g⟩ (fun r => ∀ c : Dev Cert.MixVIdeal.nD,
          r.2.mem ((c.tc : Thread Cert.MixVIdeal.nD Cert.MixVIdeal.τ).loc Cert.MixVIdeal.main_v0) = v0 c
          ∧ r.2.mem ((c.tc : Thread Cert.MixVIdeal.nD Cert.MixVIdeal.τ).loc Cert.MixVIdeal.main_arg0) = m ((c.tc : Thread Cert.MixVIdeal.nD Cert.MixVIdeal.τ).loc Cert.MixVIdeal.main_arg0)
          ∧ r.2.mem ((c.tc : Thread Cert.MixVIdeal.nD Cert.MixVIdeal.τ).loc Cert.MixVIdeal.main_arg1) = m ((c.tc : Thread Cert.MixVIdeal.nD Cert.MixVIdeal.τ).loc Cert.MixVIdeal.main_arg1))
      ∧ θ_run (Cert.MixVRefIdeal.defs (F := Ideal)) (onTc (τ := Cert.MixVRefIdeal.τ) (Cert.MixVRefIdeal.main (F := Ideal))) ⟨m', fun _ => 0, g'⟩ (fun r => ∀ c : Dev Cert.MixVRefIdeal.nD,
          r.2.mem ((c.tc : Thread Cert.MixVRefIdeal.nD Cert.MixVRefIdeal.τ).loc Cert.MixVRefIdeal.main_v3) = v0 c
          ∧ r.2.mem ((c.tc : Thread Cert.MixVRefIdeal.nD Cert.MixVRefIdeal.τ).loc Cert.MixVRefIdeal.main_arg0) = m' ((c.tc : Thread Cert.MixVRefIdeal.nD Cert.MixVRefIdeal.τ).loc Cert.MixVRefIdeal.main_arg0)
          ∧ r.2.mem ((c.tc : Thread Cert.MixVRefIdeal.nD Cert.MixVRefIdeal.τ).loc Cert.MixVRefIdeal.main_arg1) = m' ((c.tc : Thread Cert.MixVRefIdeal.nD Cert.MixVRefIdeal.τ).loc Cert.MixVRefIdeal.main_arg1))

def preserves_MixAttn_MixAttnIdeal : Prop :=
  True

def algebraic_MixAttnIdeal_MixAttnRefIdeal [hMixAttnIdeal : Cert.MixAttnIdeal.Facts] [hMixAttnRefIdeal : Cert.MixAttnRefIdeal.Facts] : Prop :=
  ∀ (m : (ℓ : Loc Cert.MixAttnIdeal.nD Cert.MixAttnIdeal.τ Cert.MixAttnIdeal.sig) → Buf (Elt Ideal) ℓ) (g : Dev Cert.MixAttnIdeal.nD → PrngReg)
    (m' : (ℓ : Loc Cert.MixAttnRefIdeal.nD Cert.MixAttnRefIdeal.τ Cert.MixAttnRefIdeal.sig) → Buf (Elt Ideal) ℓ) (g' : Dev Cert.MixAttnRefIdeal.nD → PrngReg), Pre_MixAttnIdeal m →
    (∀ c : Dev Cert.MixAttnIdeal.nD,
      m' ((c.tc : Thread Cert.MixAttnRefIdeal.nD Cert.MixAttnRefIdeal.τ).loc Cert.MixAttnRefIdeal.main_arg0) = m ((c.tc : Thread Cert.MixAttnIdeal.nD Cert.MixAttnIdeal.τ).loc Cert.MixAttnIdeal.main_arg0)
      ∧ m' ((c.tc : Thread Cert.MixAttnRefIdeal.nD Cert.MixAttnRefIdeal.τ).loc Cert.MixAttnRefIdeal.main_arg1) = m ((c.tc : Thread Cert.MixAttnIdeal.nD Cert.MixAttnIdeal.τ).loc Cert.MixAttnIdeal.main_arg1)
      ∧ m' ((c.tc : Thread Cert.MixAttnRefIdeal.nD Cert.MixAttnRefIdeal.τ).loc Cert.MixAttnRefIdeal.main_arg2) = m ((c.tc : Thread Cert.MixAttnIdeal.nD Cert.MixAttnIdeal.τ).loc Cert.MixAttnIdeal.main_arg2)) →
    ∃ (v0 : (c : Dev Cert.MixAttnIdeal.nD) → Buf (Elt Ideal) ((c.tc : Thread Cert.MixAttnIdeal.nD Cert.MixAttnIdeal.τ).loc Cert.MixAttnIdeal.main_v0)),
      θ_run (Cert.MixAttnIdeal.defs (F := Ideal)) (onTc (τ := Cert.MixAttnIdeal.τ) (Cert.MixAttnIdeal.main (F := Ideal))) ⟨m, fun _ => 0, g⟩ (fun r => ∀ c : Dev Cert.MixAttnIdeal.nD,
          r.2.mem ((c.tc : Thread Cert.MixAttnIdeal.nD Cert.MixAttnIdeal.τ).loc Cert.MixAttnIdeal.main_v0) = v0 c
          ∧ r.2.mem ((c.tc : Thread Cert.MixAttnIdeal.nD Cert.MixAttnIdeal.τ).loc Cert.MixAttnIdeal.main_arg0) = m ((c.tc : Thread Cert.MixAttnIdeal.nD Cert.MixAttnIdeal.τ).loc Cert.MixAttnIdeal.main_arg0)
          ∧ r.2.mem ((c.tc : Thread Cert.MixAttnIdeal.nD Cert.MixAttnIdeal.τ).loc Cert.MixAttnIdeal.main_arg1) = m ((c.tc : Thread Cert.MixAttnIdeal.nD Cert.MixAttnIdeal.τ).loc Cert.MixAttnIdeal.main_arg1)
          ∧ r.2.mem ((c.tc : Thread Cert.MixAttnIdeal.nD Cert.MixAttnIdeal.τ).loc Cert.MixAttnIdeal.main_arg2) = m ((c.tc : Thread Cert.MixAttnIdeal.nD Cert.MixAttnIdeal.τ).loc Cert.MixAttnIdeal.main_arg2))
      ∧ θ_run (Cert.MixAttnRefIdeal.defs (F := Ideal)) (onTc (τ := Cert.MixAttnRefIdeal.τ) (Cert.MixAttnRefIdeal.main (F := Ideal))) ⟨m', fun _ => 0, g'⟩ (fun r => ∀ c : Dev Cert.MixAttnRefIdeal.nD,
          r.2.mem ((c.tc : Thread Cert.MixAttnRefIdeal.nD Cert.MixAttnRefIdeal.τ).loc Cert.MixAttnRefIdeal.main_v2) = v0 c
          ∧ r.2.mem ((c.tc : Thread Cert.MixAttnRefIdeal.nD Cert.MixAttnRefIdeal.τ).loc Cert.MixAttnRefIdeal.main_arg0) = m' ((c.tc : Thread Cert.MixAttnRefIdeal.nD Cert.MixAttnRefIdeal.τ).loc Cert.MixAttnRefIdeal.main_arg0)
          ∧ r.2.mem ((c.tc : Thread Cert.MixAttnRefIdeal.nD Cert.MixAttnRefIdeal.τ).loc Cert.MixAttnRefIdeal.main_arg1) = m' ((c.tc : Thread Cert.MixAttnRefIdeal.nD Cert.MixAttnRefIdeal.τ).loc Cert.MixAttnRefIdeal.main_arg1)
          ∧ r.2.mem ((c.tc : Thread Cert.MixAttnRefIdeal.nD Cert.MixAttnRefIdeal.τ).loc Cert.MixAttnRefIdeal.main_arg2) = m' ((c.tc : Thread Cert.MixAttnRefIdeal.nD Cert.MixAttnRefIdeal.τ).loc Cert.MixAttnRefIdeal.main_arg2))

def preserves_MixConv_MixConvIdeal : Prop :=
  True

def algebraic_MixConvIdeal_MixConvRefIdeal [hMixConvIdeal : Cert.MixConvIdeal.Facts] [hMixConvRefIdeal : Cert.MixConvRefIdeal.Facts] : Prop :=
  ∀ (m : (ℓ : Loc Cert.MixConvIdeal.nD Cert.MixConvIdeal.τ Cert.MixConvIdeal.sig) → Buf (Elt Ideal) ℓ) (g : Dev Cert.MixConvIdeal.nD → PrngReg)
    (m' : (ℓ : Loc Cert.MixConvRefIdeal.nD Cert.MixConvRefIdeal.τ Cert.MixConvRefIdeal.sig) → Buf (Elt Ideal) ℓ) (g' : Dev Cert.MixConvRefIdeal.nD → PrngReg), Pre_MixConvIdeal m →
    (∀ c : Dev Cert.MixConvIdeal.nD,
      m' ((c.tc : Thread Cert.MixConvRefIdeal.nD Cert.MixConvRefIdeal.τ).loc Cert.MixConvRefIdeal.main_arg0) = m ((c.tc : Thread Cert.MixConvIdeal.nD Cert.MixConvIdeal.τ).loc Cert.MixConvIdeal.main_arg0)
      ∧ m' ((c.tc : Thread Cert.MixConvRefIdeal.nD Cert.MixConvRefIdeal.τ).loc Cert.MixConvRefIdeal.main_arg1) = m ((c.tc : Thread Cert.MixConvIdeal.nD Cert.MixConvIdeal.τ).loc Cert.MixConvIdeal.main_arg1)
      ∧ m' ((c.tc : Thread Cert.MixConvRefIdeal.nD Cert.MixConvRefIdeal.τ).loc Cert.MixConvRefIdeal.main_arg2) = m ((c.tc : Thread Cert.MixConvIdeal.nD Cert.MixConvIdeal.τ).loc Cert.MixConvIdeal.main_arg2)) →
    ∃ (v0 : (c : Dev Cert.MixConvIdeal.nD) → Buf (Elt Ideal) ((c.tc : Thread Cert.MixConvIdeal.nD Cert.MixConvIdeal.τ).loc Cert.MixConvIdeal.main_v0)),
      θ_run (Cert.MixConvIdeal.defs (F := Ideal)) (onTc (τ := Cert.MixConvIdeal.τ) (Cert.MixConvIdeal.main (F := Ideal))) ⟨m, fun _ => 0, g⟩ (fun r => ∀ c : Dev Cert.MixConvIdeal.nD,
          r.2.mem ((c.tc : Thread Cert.MixConvIdeal.nD Cert.MixConvIdeal.τ).loc Cert.MixConvIdeal.main_v0) = v0 c
          ∧ r.2.mem ((c.tc : Thread Cert.MixConvIdeal.nD Cert.MixConvIdeal.τ).loc Cert.MixConvIdeal.main_arg0) = m ((c.tc : Thread Cert.MixConvIdeal.nD Cert.MixConvIdeal.τ).loc Cert.MixConvIdeal.main_arg0)
          ∧ r.2.mem ((c.tc : Thread Cert.MixConvIdeal.nD Cert.MixConvIdeal.τ).loc Cert.MixConvIdeal.main_arg1) = m ((c.tc : Thread Cert.MixConvIdeal.nD Cert.MixConvIdeal.τ).loc Cert.MixConvIdeal.main_arg1)
          ∧ r.2.mem ((c.tc : Thread Cert.MixConvIdeal.nD Cert.MixConvIdeal.τ).loc Cert.MixConvIdeal.main_arg2) = m ((c.tc : Thread Cert.MixConvIdeal.nD Cert.MixConvIdeal.τ).loc Cert.MixConvIdeal.main_arg2))
      ∧ θ_run (Cert.MixConvRefIdeal.defs (F := Ideal)) (onTc (τ := Cert.MixConvRefIdeal.τ) (Cert.MixConvRefIdeal.main (F := Ideal))) ⟨m', fun _ => 0, g'⟩ (fun r => ∀ c : Dev Cert.MixConvRefIdeal.nD,
          r.2.mem ((c.tc : Thread Cert.MixConvRefIdeal.nD Cert.MixConvRefIdeal.τ).loc Cert.MixConvRefIdeal.main_v3) = v0 c
          ∧ r.2.mem ((c.tc : Thread Cert.MixConvRefIdeal.nD Cert.MixConvRefIdeal.τ).loc Cert.MixConvRefIdeal.main_arg0) = m' ((c.tc : Thread Cert.MixConvRefIdeal.nD Cert.MixConvRefIdeal.τ).loc Cert.MixConvRefIdeal.main_arg0)
          ∧ r.2.mem ((c.tc : Thread Cert.MixConvRefIdeal.nD Cert.MixConvRefIdeal.τ).loc Cert.MixConvRefIdeal.main_arg1) = m' ((c.tc : Thread Cert.MixConvRefIdeal.nD Cert.MixConvRefIdeal.τ).loc Cert.MixConvRefIdeal.main_arg1)
          ∧ r.2.mem ((c.tc : Thread Cert.MixConvRefIdeal.nD Cert.MixConvRefIdeal.τ).loc Cert.MixConvRefIdeal.main_arg2) = m' ((c.tc : Thread Cert.MixConvRefIdeal.nD Cert.MixConvRefIdeal.τ).loc Cert.MixConvRefIdeal.main_arg2))

def preserves_MixDo_MixDoIdeal : Prop :=
  True

def algebraic_MixDoIdeal_MixDoRefIdeal [hMixDoIdeal : Cert.MixDoIdeal.Facts] [hMixDoRefIdeal : Cert.MixDoRefIdeal.Facts] : Prop :=
  ∀ (m : (ℓ : Loc Cert.MixDoIdeal.nD Cert.MixDoIdeal.τ Cert.MixDoIdeal.sig) → Buf (Elt Ideal) ℓ) (g : Dev Cert.MixDoIdeal.nD → PrngReg)
    (m' : (ℓ : Loc Cert.MixDoRefIdeal.nD Cert.MixDoRefIdeal.τ Cert.MixDoRefIdeal.sig) → Buf (Elt Ideal) ℓ) (g' : Dev Cert.MixDoRefIdeal.nD → PrngReg), Pre_MixDoIdeal m →
    (∀ c : Dev Cert.MixDoIdeal.nD,
      m' ((c.tc : Thread Cert.MixDoRefIdeal.nD Cert.MixDoRefIdeal.τ).loc Cert.MixDoRefIdeal.main_arg0) = m ((c.tc : Thread Cert.MixDoIdeal.nD Cert.MixDoIdeal.τ).loc Cert.MixDoIdeal.main_arg0)
      ∧ m' ((c.tc : Thread Cert.MixDoRefIdeal.nD Cert.MixDoRefIdeal.τ).loc Cert.MixDoRefIdeal.main_arg1) = m ((c.tc : Thread Cert.MixDoIdeal.nD Cert.MixDoIdeal.τ).loc Cert.MixDoIdeal.main_arg1)) →
    ∃ (v0 : (c : Dev Cert.MixDoIdeal.nD) → Buf (Elt Ideal) ((c.tc : Thread Cert.MixDoIdeal.nD Cert.MixDoIdeal.τ).loc Cert.MixDoIdeal.main_v0)),
      θ_run (Cert.MixDoIdeal.defs (F := Ideal)) (onTc (τ := Cert.MixDoIdeal.τ) (Cert.MixDoIdeal.main (F := Ideal))) ⟨m, fun _ => 0, g⟩ (fun r => ∀ c : Dev Cert.MixDoIdeal.nD,
          r.2.mem ((c.tc : Thread Cert.MixDoIdeal.nD Cert.MixDoIdeal.τ).loc Cert.MixDoIdeal.main_v0) = v0 c
          ∧ r.2.mem ((c.tc : Thread Cert.MixDoIdeal.nD Cert.MixDoIdeal.τ).loc Cert.MixDoIdeal.main_arg0) = m ((c.tc : Thread Cert.MixDoIdeal.nD Cert.MixDoIdeal.τ).loc Cert.MixDoIdeal.main_arg0)
          ∧ r.2.mem ((c.tc : Thread Cert.MixDoIdeal.nD Cert.MixDoIdeal.τ).loc Cert.MixDoIdeal.main_arg1) = m ((c.tc : Thread Cert.MixDoIdeal.nD Cert.MixDoIdeal.τ).loc Cert.MixDoIdeal.main_arg1))
      ∧ θ_run (Cert.MixDoRefIdeal.defs (F := Ideal)) (onTc (τ := Cert.MixDoRefIdeal.τ) (Cert.MixDoRefIdeal.main (F := Ideal))) ⟨m', fun _ => 0, g'⟩ (fun r => ∀ c : Dev Cert.MixDoRefIdeal.nD,
          r.2.mem ((c.tc : Thread Cert.MixDoRefIdeal.nD Cert.MixDoRefIdeal.τ).loc Cert.MixDoRefIdeal.main_v2) = v0 c
          ∧ r.2.mem ((c.tc : Thread Cert.MixDoRefIdeal.nD Cert.MixDoRefIdeal.τ).loc Cert.MixDoRefIdeal.main_arg0) = m' ((c.tc : Thread Cert.MixDoRefIdeal.nD Cert.MixDoRefIdeal.τ).loc Cert.MixDoRefIdeal.main_arg0)
          ∧ r.2.mem ((c.tc : Thread Cert.MixDoRefIdeal.nD Cert.MixDoRefIdeal.τ).loc Cert.MixDoRefIdeal.main_arg1) = m' ((c.tc : Thread Cert.MixDoRefIdeal.nD Cert.MixDoRefIdeal.τ).loc Cert.MixDoRefIdeal.main_arg1))

def preserves_MixDcv_MixDcvIdeal : Prop :=
  True

def algebraic_MixDcvIdeal_MixDcvRefIdeal [hMixDcvIdeal : Cert.MixDcvIdeal.Facts] [hMixDcvRefIdeal : Cert.MixDcvRefIdeal.Facts] : Prop :=
  ∀ (m : (ℓ : Loc Cert.MixDcvIdeal.nD Cert.MixDcvIdeal.τ Cert.MixDcvIdeal.sig) → Buf (Elt Ideal) ℓ) (g : Dev Cert.MixDcvIdeal.nD → PrngReg)
    (m' : (ℓ : Loc Cert.MixDcvRefIdeal.nD Cert.MixDcvRefIdeal.τ Cert.MixDcvRefIdeal.sig) → Buf (Elt Ideal) ℓ) (g' : Dev Cert.MixDcvRefIdeal.nD → PrngReg), Pre_MixDcvIdeal m →
    (∀ c : Dev Cert.MixDcvIdeal.nD,
      m' ((c.tc : Thread Cert.MixDcvRefIdeal.nD Cert.MixDcvRefIdeal.τ).loc Cert.MixDcvRefIdeal.main_arg0) = m ((c.tc : Thread Cert.MixDcvIdeal.nD Cert.MixDcvIdeal.τ).loc Cert.MixDcvIdeal.main_arg0)
      ∧ m' ((c.tc : Thread Cert.MixDcvRefIdeal.nD Cert.MixDcvRefIdeal.τ).loc Cert.MixDcvRefIdeal.main_arg1) = m ((c.tc : Thread Cert.MixDcvIdeal.nD Cert.MixDcvIdeal.τ).loc Cert.MixDcvIdeal.main_arg1)) →
    ∃ (v0 : (c : Dev Cert.MixDcvIdeal.nD) → Buf (Elt Ideal) ((c.tc : Thread Cert.MixDcvIdeal.nD Cert.MixDcvIdeal.τ).loc Cert.MixDcvIdeal.main_v0)),
      θ_run (Cert.MixDcvIdeal.defs (F := Ideal)) (onTc (τ := Cert.MixDcvIdeal.τ) (Cert.MixDcvIdeal.main (F := Ideal))) ⟨m, fun _ => 0, g⟩ (fun r => ∀ c : Dev Cert.MixDcvIdeal.nD,
          r.2.mem ((c.tc : Thread Cert.MixDcvIdeal.nD Cert.MixDcvIdeal.τ).loc Cert.MixDcvIdeal.main_v0) = v0 c
          ∧ r.2.mem ((c.tc : Thread Cert.MixDcvIdeal.nD Cert.MixDcvIdeal.τ).loc Cert.MixDcvIdeal.main_arg0) = m ((c.tc : Thread Cert.MixDcvIdeal.nD Cert.MixDcvIdeal.τ).loc Cert.MixDcvIdeal.main_arg0)
          ∧ r.2.mem ((c.tc : Thread Cert.MixDcvIdeal.nD Cert.MixDcvIdeal.τ).loc Cert.MixDcvIdeal.main_arg1) = m ((c.tc : Thread Cert.MixDcvIdeal.nD Cert.MixDcvIdeal.τ).loc Cert.MixDcvIdeal.main_arg1))
      ∧ θ_run (Cert.MixDcvRefIdeal.defs (F := Ideal)) (onTc (τ := Cert.MixDcvRefIdeal.τ) (Cert.MixDcvRefIdeal.main (F := Ideal))) ⟨m', fun _ => 0, g'⟩ (fun r => ∀ c : Dev Cert.MixDcvRefIdeal.nD,
          r.2.mem ((c.tc : Thread Cert.MixDcvRefIdeal.nD Cert.MixDcvRefIdeal.τ).loc Cert.MixDcvRefIdeal.main_v2) = v0 c
          ∧ r.2.mem ((c.tc : Thread Cert.MixDcvRefIdeal.nD Cert.MixDcvRefIdeal.τ).loc Cert.MixDcvRefIdeal.main_arg0) = m' ((c.tc : Thread Cert.MixDcvRefIdeal.nD Cert.MixDcvRefIdeal.τ).loc Cert.MixDcvRefIdeal.main_arg0)
          ∧ r.2.mem ((c.tc : Thread Cert.MixDcvRefIdeal.nD Cert.MixDcvRefIdeal.τ).loc Cert.MixDcvRefIdeal.main_arg1) = m' ((c.tc : Thread Cert.MixDcvRefIdeal.nD Cert.MixDcvRefIdeal.τ).loc Cert.MixDcvRefIdeal.main_arg1))

def preserves_MixDqln_MixDqlnIdeal : Prop :=
  True

def algebraic_MixDqlnIdeal_MixDqlnRefIdeal [hMixDqlnIdeal : Cert.MixDqlnIdeal.Facts] [hMixDqlnRefIdeal : Cert.MixDqlnRefIdeal.Facts] : Prop :=
  ∀ (m : (ℓ : Loc Cert.MixDqlnIdeal.nD Cert.MixDqlnIdeal.τ Cert.MixDqlnIdeal.sig) → Buf (Elt Ideal) ℓ) (g : Dev Cert.MixDqlnIdeal.nD → PrngReg)
    (m' : (ℓ : Loc Cert.MixDqlnRefIdeal.nD Cert.MixDqlnRefIdeal.τ Cert.MixDqlnRefIdeal.sig) → Buf (Elt Ideal) ℓ) (g' : Dev Cert.MixDqlnRefIdeal.nD → PrngReg), Pre_MixDqlnIdeal m →
    (∀ c : Dev Cert.MixDqlnIdeal.nD,
      m' ((c.tc : Thread Cert.MixDqlnRefIdeal.nD Cert.MixDqlnRefIdeal.τ).loc Cert.MixDqlnRefIdeal.main_arg0) = m ((c.tc : Thread Cert.MixDqlnIdeal.nD Cert.MixDqlnIdeal.τ).loc Cert.MixDqlnIdeal.main_arg0)
      ∧ m' ((c.tc : Thread Cert.MixDqlnRefIdeal.nD Cert.MixDqlnRefIdeal.τ).loc Cert.MixDqlnRefIdeal.main_arg1) = m ((c.tc : Thread Cert.MixDqlnIdeal.nD Cert.MixDqlnIdeal.τ).loc Cert.MixDqlnIdeal.main_arg1)) →
    ∃ (v0 : (c : Dev Cert.MixDqlnIdeal.nD) → Buf (Elt Ideal) ((c.tc : Thread Cert.MixDqlnIdeal.nD Cert.MixDqlnIdeal.τ).loc Cert.MixDqlnIdeal.main_v0)),
      θ_run (Cert.MixDqlnIdeal.defs (F := Ideal)) (onTc (τ := Cert.MixDqlnIdeal.τ) (Cert.MixDqlnIdeal.main (F := Ideal))) ⟨m, fun _ => 0, g⟩ (fun r => ∀ c : Dev Cert.MixDqlnIdeal.nD,
          r.2.mem ((c.tc : Thread Cert.MixDqlnIdeal.nD Cert.MixDqlnIdeal.τ).loc Cert.MixDqlnIdeal.main_v0) = v0 c
          ∧ r.2.mem ((c.tc : Thread Cert.MixDqlnIdeal.nD Cert.MixDqlnIdeal.τ).loc Cert.MixDqlnIdeal.main_arg0) = m ((c.tc : Thread Cert.MixDqlnIdeal.nD Cert.MixDqlnIdeal.τ).loc Cert.MixDqlnIdeal.main_arg0)
          ∧ r.2.mem ((c.tc : Thread Cert.MixDqlnIdeal.nD Cert.MixDqlnIdeal.τ).loc Cert.MixDqlnIdeal.main_arg1) = m ((c.tc : Thread Cert.MixDqlnIdeal.nD Cert.MixDqlnIdeal.τ).loc Cert.MixDqlnIdeal.main_arg1))
      ∧ θ_run (Cert.MixDqlnRefIdeal.defs (F := Ideal)) (onTc (τ := Cert.MixDqlnRefIdeal.τ) (Cert.MixDqlnRefIdeal.main (F := Ideal))) ⟨m', fun _ => 0, g'⟩ (fun r => ∀ c : Dev Cert.MixDqlnRefIdeal.nD,
          r.2.mem ((c.tc : Thread Cert.MixDqlnRefIdeal.nD Cert.MixDqlnRefIdeal.τ).loc Cert.MixDqlnRefIdeal.main_v2) = v0 c
          ∧ r.2.mem ((c.tc : Thread Cert.MixDqlnRefIdeal.nD Cert.MixDqlnRefIdeal.τ).loc Cert.MixDqlnRefIdeal.main_arg0) = m' ((c.tc : Thread Cert.MixDqlnRefIdeal.nD Cert.MixDqlnRefIdeal.τ).loc Cert.MixDqlnRefIdeal.main_arg0)
          ∧ r.2.mem ((c.tc : Thread Cert.MixDqlnRefIdeal.nD Cert.MixDqlnRefIdeal.τ).loc Cert.MixDqlnRefIdeal.main_arg1) = m' ((c.tc : Thread Cert.MixDqlnRefIdeal.nD Cert.MixDqlnRefIdeal.τ).loc Cert.MixDqlnRefIdeal.main_arg1))

def preserves_MixDkvlnK_MixDkvlnKIdeal : Prop :=
  True

def algebraic_MixDkvlnKIdeal_MixDkvlnKRefIdeal [hMixDkvlnKIdeal : Cert.MixDkvlnKIdeal.Facts] [hMixDkvlnKRefIdeal : Cert.MixDkvlnKRefIdeal.Facts] : Prop :=
  ∀ (m : (ℓ : Loc Cert.MixDkvlnKIdeal.nD Cert.MixDkvlnKIdeal.τ Cert.MixDkvlnKIdeal.sig) → Buf (Elt Ideal) ℓ) (g : Dev Cert.MixDkvlnKIdeal.nD → PrngReg)
    (m' : (ℓ : Loc Cert.MixDkvlnKRefIdeal.nD Cert.MixDkvlnKRefIdeal.τ Cert.MixDkvlnKRefIdeal.sig) → Buf (Elt Ideal) ℓ) (g' : Dev Cert.MixDkvlnKRefIdeal.nD → PrngReg), Pre_MixDkvlnKIdeal m →
    (∀ c : Dev Cert.MixDkvlnKIdeal.nD,
      m' ((c.tc : Thread Cert.MixDkvlnKRefIdeal.nD Cert.MixDkvlnKRefIdeal.τ).loc Cert.MixDkvlnKRefIdeal.main_arg0) = m ((c.tc : Thread Cert.MixDkvlnKIdeal.nD Cert.MixDkvlnKIdeal.τ).loc Cert.MixDkvlnKIdeal.main_arg0)
      ∧ m' ((c.tc : Thread Cert.MixDkvlnKRefIdeal.nD Cert.MixDkvlnKRefIdeal.τ).loc Cert.MixDkvlnKRefIdeal.main_arg1) = m ((c.tc : Thread Cert.MixDkvlnKIdeal.nD Cert.MixDkvlnKIdeal.τ).loc Cert.MixDkvlnKIdeal.main_arg1)) →
    ∃ (v0 : (c : Dev Cert.MixDkvlnKIdeal.nD) → Buf (Elt Ideal) ((c.tc : Thread Cert.MixDkvlnKIdeal.nD Cert.MixDkvlnKIdeal.τ).loc Cert.MixDkvlnKIdeal.main_v0)),
      θ_run (Cert.MixDkvlnKIdeal.defs (F := Ideal)) (onTc (τ := Cert.MixDkvlnKIdeal.τ) (Cert.MixDkvlnKIdeal.main (F := Ideal))) ⟨m, fun _ => 0, g⟩ (fun r => ∀ c : Dev Cert.MixDkvlnKIdeal.nD,
          r.2.mem ((c.tc : Thread Cert.MixDkvlnKIdeal.nD Cert.MixDkvlnKIdeal.τ).loc Cert.MixDkvlnKIdeal.main_v0) = v0 c
          ∧ r.2.mem ((c.tc : Thread Cert.MixDkvlnKIdeal.nD Cert.MixDkvlnKIdeal.τ).loc Cert.MixDkvlnKIdeal.main_arg0) = m ((c.tc : Thread Cert.MixDkvlnKIdeal.nD Cert.MixDkvlnKIdeal.τ).loc Cert.MixDkvlnKIdeal.main_arg0)
          ∧ r.2.mem ((c.tc : Thread Cert.MixDkvlnKIdeal.nD Cert.MixDkvlnKIdeal.τ).loc Cert.MixDkvlnKIdeal.main_arg1) = m ((c.tc : Thread Cert.MixDkvlnKIdeal.nD Cert.MixDkvlnKIdeal.τ).loc Cert.MixDkvlnKIdeal.main_arg1))
      ∧ θ_run (Cert.MixDkvlnKRefIdeal.defs (F := Ideal)) (onTc (τ := Cert.MixDkvlnKRefIdeal.τ) (Cert.MixDkvlnKRefIdeal.main (F := Ideal))) ⟨m', fun _ => 0, g'⟩ (fun r => ∀ c : Dev Cert.MixDkvlnKRefIdeal.nD,
          r.2.mem ((c.tc : Thread Cert.MixDkvlnKRefIdeal.nD Cert.MixDkvlnKRefIdeal.τ).loc Cert.MixDkvlnKRefIdeal.main_v2) = v0 c
          ∧ r.2.mem ((c.tc : Thread Cert.MixDkvlnKRefIdeal.nD Cert.MixDkvlnKRefIdeal.τ).loc Cert.MixDkvlnKRefIdeal.main_arg0) = m' ((c.tc : Thread Cert.MixDkvlnKRefIdeal.nD Cert.MixDkvlnKRefIdeal.τ).loc Cert.MixDkvlnKRefIdeal.main_arg0)
          ∧ r.2.mem ((c.tc : Thread Cert.MixDkvlnKRefIdeal.nD Cert.MixDkvlnKRefIdeal.τ).loc Cert.MixDkvlnKRefIdeal.main_arg1) = m' ((c.tc : Thread Cert.MixDkvlnKRefIdeal.nD Cert.MixDkvlnKRefIdeal.τ).loc Cert.MixDkvlnKRefIdeal.main_arg1))

def preserves_MixDkvlnV_MixDkvlnVIdeal : Prop :=
  True

def algebraic_MixDkvlnVIdeal_MixDkvlnVRefIdeal [hMixDkvlnVIdeal : Cert.MixDkvlnVIdeal.Facts] [hMixDkvlnVRefIdeal : Cert.MixDkvlnVRefIdeal.Facts] : Prop :=
  ∀ (m : (ℓ : Loc Cert.MixDkvlnVIdeal.nD Cert.MixDkvlnVIdeal.τ Cert.MixDkvlnVIdeal.sig) → Buf (Elt Ideal) ℓ) (g : Dev Cert.MixDkvlnVIdeal.nD → PrngReg)
    (m' : (ℓ : Loc Cert.MixDkvlnVRefIdeal.nD Cert.MixDkvlnVRefIdeal.τ Cert.MixDkvlnVRefIdeal.sig) → Buf (Elt Ideal) ℓ) (g' : Dev Cert.MixDkvlnVRefIdeal.nD → PrngReg), Pre_MixDkvlnVIdeal m →
    (∀ c : Dev Cert.MixDkvlnVIdeal.nD,
      m' ((c.tc : Thread Cert.MixDkvlnVRefIdeal.nD Cert.MixDkvlnVRefIdeal.τ).loc Cert.MixDkvlnVRefIdeal.main_arg0) = m ((c.tc : Thread Cert.MixDkvlnVIdeal.nD Cert.MixDkvlnVIdeal.τ).loc Cert.MixDkvlnVIdeal.main_arg0)
      ∧ m' ((c.tc : Thread Cert.MixDkvlnVRefIdeal.nD Cert.MixDkvlnVRefIdeal.τ).loc Cert.MixDkvlnVRefIdeal.main_arg1) = m ((c.tc : Thread Cert.MixDkvlnVIdeal.nD Cert.MixDkvlnVIdeal.τ).loc Cert.MixDkvlnVIdeal.main_arg1)
      ∧ m' ((c.tc : Thread Cert.MixDkvlnVRefIdeal.nD Cert.MixDkvlnVRefIdeal.τ).loc Cert.MixDkvlnVRefIdeal.main_arg2) = m ((c.tc : Thread Cert.MixDkvlnVIdeal.nD Cert.MixDkvlnVIdeal.τ).loc Cert.MixDkvlnVIdeal.main_arg2)) →
    ∃ (v0 : (c : Dev Cert.MixDkvlnVIdeal.nD) → Buf (Elt Ideal) ((c.tc : Thread Cert.MixDkvlnVIdeal.nD Cert.MixDkvlnVIdeal.τ).loc Cert.MixDkvlnVIdeal.main_v0)),
      θ_run (Cert.MixDkvlnVIdeal.defs (F := Ideal)) (onTc (τ := Cert.MixDkvlnVIdeal.τ) (Cert.MixDkvlnVIdeal.main (F := Ideal))) ⟨m, fun _ => 0, g⟩ (fun r => ∀ c : Dev Cert.MixDkvlnVIdeal.nD,
          r.2.mem ((c.tc : Thread Cert.MixDkvlnVIdeal.nD Cert.MixDkvlnVIdeal.τ).loc Cert.MixDkvlnVIdeal.main_v0) = v0 c
          ∧ r.2.mem ((c.tc : Thread Cert.MixDkvlnVIdeal.nD Cert.MixDkvlnVIdeal.τ).loc Cert.MixDkvlnVIdeal.main_arg0) = m ((c.tc : Thread Cert.MixDkvlnVIdeal.nD Cert.MixDkvlnVIdeal.τ).loc Cert.MixDkvlnVIdeal.main_arg0)
          ∧ r.2.mem ((c.tc : Thread Cert.MixDkvlnVIdeal.nD Cert.MixDkvlnVIdeal.τ).loc Cert.MixDkvlnVIdeal.main_arg1) = m ((c.tc : Thread Cert.MixDkvlnVIdeal.nD Cert.MixDkvlnVIdeal.τ).loc Cert.MixDkvlnVIdeal.main_arg1)
          ∧ r.2.mem ((c.tc : Thread Cert.MixDkvlnVIdeal.nD Cert.MixDkvlnVIdeal.τ).loc Cert.MixDkvlnVIdeal.main_arg2) = m ((c.tc : Thread Cert.MixDkvlnVIdeal.nD Cert.MixDkvlnVIdeal.τ).loc Cert.MixDkvlnVIdeal.main_arg2))
      ∧ θ_run (Cert.MixDkvlnVRefIdeal.defs (F := Ideal)) (onTc (τ := Cert.MixDkvlnVRefIdeal.τ) (Cert.MixDkvlnVRefIdeal.main (F := Ideal))) ⟨m', fun _ => 0, g'⟩ (fun r => ∀ c : Dev Cert.MixDkvlnVRefIdeal.nD,
          r.2.mem ((c.tc : Thread Cert.MixDkvlnVRefIdeal.nD Cert.MixDkvlnVRefIdeal.τ).loc Cert.MixDkvlnVRefIdeal.main_v3) = v0 c
          ∧ r.2.mem ((c.tc : Thread Cert.MixDkvlnVRefIdeal.nD Cert.MixDkvlnVRefIdeal.τ).loc Cert.MixDkvlnVRefIdeal.main_arg0) = m' ((c.tc : Thread Cert.MixDkvlnVRefIdeal.nD Cert.MixDkvlnVRefIdeal.τ).loc Cert.MixDkvlnVRefIdeal.main_arg0)
          ∧ r.2.mem ((c.tc : Thread Cert.MixDkvlnVRefIdeal.nD Cert.MixDkvlnVRefIdeal.τ).loc Cert.MixDkvlnVRefIdeal.main_arg1) = m' ((c.tc : Thread Cert.MixDkvlnVRefIdeal.nD Cert.MixDkvlnVRefIdeal.τ).loc Cert.MixDkvlnVRefIdeal.main_arg1)
          ∧ r.2.mem ((c.tc : Thread Cert.MixDkvlnVRefIdeal.nD Cert.MixDkvlnVRefIdeal.τ).loc Cert.MixDkvlnVRefIdeal.main_arg2) = m' ((c.tc : Thread Cert.MixDkvlnVRefIdeal.nD Cert.MixDkvlnVRefIdeal.τ).loc Cert.MixDkvlnVRefIdeal.main_arg2))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m ((c.tc : Thread Cert.LossIdeal.nD Cert.LossIdeal.τ).loc Cert.LossIdeal.main_arg0) = Layout.block ⟨2, ![4096, 1024]⟩ ⟨2, ![32768, 1024]⟩ 0 8 c (m' (((0 : Dev Cert.LossRefIdeal.nD).tc : Thread Cert.LossRefIdeal.nD Cert.LossRefIdeal.τ).loc Cert.LossRefIdeal.main_arg0))
      ∧ m ((c.tc : Thread Cert.LossIdeal.nD Cert.LossIdeal.τ).loc Cert.LossIdeal.main_arg1) = Layout.block ⟨2, ![4096, 1024]⟩ ⟨2, ![32768, 1024]⟩ 0 8 c (m' (((0 : Dev Cert.LossRefIdeal.nD).tc : Thread Cert.LossRefIdeal.nD Cert.LossRefIdeal.τ).loc Cert.LossRefIdeal.main_arg1))) →
    ∃ (v0 : Buf (Elt Ideal) (((0 : Dev Cert.LossRefIdeal.nD).tc : Thread Cert.LossRefIdeal.nD Cert.LossRefIdeal.τ).loc Cert.LossRefIdeal.main_v8)) (v1 : Buf (Elt Ideal) (((0 : Dev Cert.LossRefIdeal.nD).tc : Thread Cert.LossRefIdeal.nD Cert.LossRefIdeal.τ).loc Cert.LossRefIdeal.main_v14)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v4) = v0
          ∧ r.2.mem ((c.tc : Thread Cert.LossIdeal.nD Cert.LossIdeal.τ).loc Cert.LossIdeal.main_v1_1) = Layout.block ⟨2, ![4096, 1024]⟩ ⟨2, ![32768, 1024]⟩ 0 8 c v1
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r =>
          r.2.mem (((0 : Dev Cert.LossRefIdeal.nD).tc : Thread Cert.LossRefIdeal.nD Cert.LossRefIdeal.τ).loc Cert.LossRefIdeal.main_v8) = v0
          ∧ r.2.mem (((0 : Dev Cert.LossRefIdeal.nD).tc : Thread Cert.LossRefIdeal.nD Cert.LossRefIdeal.τ).loc Cert.LossRefIdeal.main_v14) = v1
          ∧ r.2.mem (((0 : Dev Cert.LossRefIdeal.nD).tc : Thread Cert.LossRefIdeal.nD Cert.LossRefIdeal.τ).loc Cert.LossRefIdeal.main_arg0) = m' (((0 : Dev Cert.LossRefIdeal.nD).tc : Thread Cert.LossRefIdeal.nD Cert.LossRefIdeal.τ).loc Cert.LossRefIdeal.main_arg0)
          ∧ r.2.mem (((0 : Dev Cert.LossRefIdeal.nD).tc : Thread Cert.LossRefIdeal.nD Cert.LossRefIdeal.τ).loc Cert.LossRefIdeal.main_arg1) = m' (((0 : Dev Cert.LossRefIdeal.nD).tc : Thread Cert.LossRefIdeal.nD Cert.LossRefIdeal.τ).loc Cert.LossRefIdeal.main_arg1))

def bitexact_Gather_GatherRef [hGather : Cert.Gather.Facts] [hGatherRef : Cert.GatherRef.Facts] : Prop :=
  ∀ (m : (ℓ : Loc Cert.Gather.nD Cert.Gather.τ Cert.Gather.sig) → Buf (Elt Bits) ℓ) (g : Dev Cert.Gather.nD → PrngReg)
    (m' : (ℓ : Loc Cert.GatherRef.nD Cert.GatherRef.τ Cert.GatherRef.sig) → Buf (Elt Bits) ℓ) (g' : Dev Cert.GatherRef.nD → PrngReg), Pre_Gather m →
    (∀ c : Dev Cert.Gather.nD,
      m ((c.tc : Thread Cert.Gather.nD Cert.Gather.τ).loc Cert.Gather.main_arg0) = Layout.block ⟨2, ![5040, 1024]⟩ ⟨2, ![40320, 1024]⟩ 0 8 c (m' (((0 : Dev Cert.GatherRef.nD).tc : Thread Cert.GatherRef.nD Cert.GatherRef.τ).loc Cert.GatherRef.main_arg0))) →
    ∃ (v0 : Buf (Elt Bits) (((0 : Dev Cert.GatherRef.nD).tc : Thread Cert.GatherRef.nD Cert.GatherRef.τ).loc Cert.GatherRef.main_arg0)),
      θ_run (Cert.Gather.defs (F := Bits)) (onTc (τ := Cert.Gather.τ) (Cert.Gather.main (F := Bits))) ⟨m, fun _ => 0, g⟩ (fun r => ∀ c : Dev Cert.Gather.nD,
          r.2.mem ((c.tc : Thread Cert.Gather.nD Cert.Gather.τ).loc Cert.Gather.main_v1) = v0
          ∧ r.2.mem ((c.tc : Thread Cert.Gather.nD Cert.Gather.τ).loc Cert.Gather.main_arg0) = m ((c.tc : Thread Cert.Gather.nD Cert.Gather.τ).loc Cert.Gather.main_arg0))
      ∧ θ_run (Cert.GatherRef.defs (F := Bits)) (onTc (τ := Cert.GatherRef.τ) (Cert.GatherRef.main (F := Bits))) ⟨m', fun _ => 0, g'⟩ (fun r =>
          r.2.mem (((0 : Dev Cert.GatherRef.nD).tc : Thread Cert.GatherRef.nD Cert.GatherRef.τ).loc Cert.GatherRef.main_arg0) = v0
          ∧ r.2.mem (((0 : Dev Cert.GatherRef.nD).tc : Thread Cert.GatherRef.nD Cert.GatherRef.τ).loc Cert.GatherRef.main_arg0) = m' (((0 : Dev Cert.GatherRef.nD).tc : Thread Cert.GatherRef.nD Cert.GatherRef.τ).loc Cert.GatherRef.main_arg0))

def Claim : Prop :=
  ∃ (hGather : Cert.Gather.Facts) (hGatherIdeal : Cert.GatherIdeal.Facts) (hGatherRefIdeal : Cert.GatherRefIdeal.Facts) (hSibling : Cert.Sibling.Facts) (hSiblingIdeal : Cert.SiblingIdeal.Facts) (hSiblingRefIdeal : Cert.SiblingRefIdeal.Facts) (hChips : Cert.Chips.Facts) (hChipsIdeal : Cert.ChipsIdeal.Facts) (hChipsRefIdeal : Cert.ChipsRefIdeal.Facts) (hUpGate : Cert.UpGate.Facts) (hUpGateIdeal : Cert.UpGateIdeal.Facts) (hUpGateRefIdeal : Cert.UpGateRefIdeal.Facts) (hUpDown : Cert.UpDown.Facts) (hUpDownIdeal : Cert.UpDownIdeal.Facts) (hUpDownRefIdeal : Cert.UpDownRefIdeal.Facts) (hUpIn : Cert.UpIn.Facts) (hUpInIdeal : Cert.UpInIdeal.Facts) (hUpInRefIdeal : Cert.UpInRefIdeal.Facts) (hUpUq : Cert.UpUq.Facts) (hUpUqIdeal : Cert.UpUqIdeal.Facts) (hUpUqRefIdeal : Cert.UpUqRefIdeal.Facts) (hUpUkv : Cert.UpUkv.Facts) (hUpUkvIdeal : Cert.UpUkvIdeal.Facts) (hUpUkvRefIdeal : Cert.UpUkvRefIdeal.Facts) (hUpOut : Cert.UpOut.Facts) (hUpOutIdeal : Cert.UpOutIdeal.Facts) (hUpOutRefIdeal : Cert.UpOutRefIdeal.Facts) (hUpConv : Cert.UpConv.Facts) (hUpConvIdeal : Cert.UpConvIdeal.Facts) (hUpConvRefIdeal : Cert.UpConvRefIdeal.Facts) (hUpVectors : Cert.UpVectors.Facts) (hUpVectorsIdeal : Cert.UpVectorsIdeal.Facts) (hUpVectorsRefIdeal : Cert.UpVectorsRefIdeal.Facts) (hSmall : Cert.Small.Facts) (hSmallIdeal : Cert.SmallIdeal.Facts) (hSmallRefIdeal : Cert.SmallRefIdeal.Facts) (hNorm : Cert.Norm.Facts) (hNormIdeal : Cert.NormIdeal.Facts) (hNormRefIdeal : Cert.NormRefIdeal.Facts) (hFfnUp : Cert.FfnUp.Facts) (hFfnUpIdeal : Cert.FfnUpIdeal.Facts) (hFfnUpRefIdeal : Cert.FfnUpRefIdeal.Facts) (hGlu : Cert.Glu.Facts) (hGluIdeal : Cert.GluIdeal.Facts) (hGluRefIdeal : Cert.GluRefIdeal.Facts) (hFfnDown : Cert.FfnDown.Facts) (hFfnDownIdeal : Cert.FfnDownIdeal.Facts) (hFfnDownRefIdeal : Cert.FfnDownRefIdeal.Facts) (hFfnDz : Cert.FfnDz.Facts) (hFfnDzIdeal : Cert.FfnDzIdeal.Facts) (hFfnDzRefIdeal : Cert.FfnDzRefIdeal.Facts) (hFfnDwd : Cert.FfnDwd.Facts) (hFfnDwdIdeal : Cert.FfnDwdIdeal.Facts) (hFfnDwdRefIdeal : Cert.FfnDwdRefIdeal.Facts) (hGluBack : Cert.GluBack.Facts) (hGluBackIdeal : Cert.GluBackIdeal.Facts) (hGluBackRefIdeal : Cert.GluBackRefIdeal.Facts) (hFfnDwgu : Cert.FfnDwgu.Facts) (hFfnDwguIdeal : Cert.FfnDwguIdeal.Facts) (hFfnDwguRefIdeal : Cert.FfnDwguRefIdeal.Facts) (hFfnDh : Cert.FfnDh.Facts) (hFfnDhIdeal : Cert.FfnDhIdeal.Facts) (hFfnDhRefIdeal : Cert.FfnDhRefIdeal.Facts) (hNormIn : Cert.NormIn.Facts) (hNormInIdeal : Cert.NormInIdeal.Facts) (hNormInRefIdeal : Cert.NormInRefIdeal.Facts) (hNormOut : Cert.NormOut.Facts) (hNormOutIdeal : Cert.NormOutIdeal.Facts) (hNormOutRefIdeal : Cert.NormOutRefIdeal.Facts) (hMixIn : Cert.MixIn.Facts) (hMixInIdeal : Cert.MixInIdeal.Facts) (hMixInRefIdeal : Cert.MixInRefIdeal.Facts) (hMixQ : Cert.MixQ.Facts) (hMixQIdeal : Cert.MixQIdeal.Facts) (hMixQRefIdeal : Cert.MixQRefIdeal.Facts) (hMixK : Cert.MixK.Facts) (hMixKIdeal : Cert.MixKIdeal.Facts) (hMixKRefIdeal : Cert.MixKRefIdeal.Facts) (hMixV : Cert.MixV.Facts) (hMixVIdeal : Cert.MixVIdeal.Facts) (hMixVRefIdeal : Cert.MixVRefIdeal.Facts) (hMixAttn : Cert.MixAttn.Facts) (hMixAttnIdeal : Cert.MixAttnIdeal.Facts) (hMixAttnRefIdeal : Cert.MixAttnRefIdeal.Facts) (hMixConv : Cert.MixConv.Facts) (hMixConvIdeal : Cert.MixConvIdeal.Facts) (hMixConvRefIdeal : Cert.MixConvRefIdeal.Facts) (hMixDo : Cert.MixDo.Facts) (hMixDoIdeal : Cert.MixDoIdeal.Facts) (hMixDoRefIdeal : Cert.MixDoRefIdeal.Facts) (hMixDcv : Cert.MixDcv.Facts) (hMixDcvIdeal : Cert.MixDcvIdeal.Facts) (hMixDcvRefIdeal : Cert.MixDcvRefIdeal.Facts) (hMixDqln : Cert.MixDqln.Facts) (hMixDqlnIdeal : Cert.MixDqlnIdeal.Facts) (hMixDqlnRefIdeal : Cert.MixDqlnRefIdeal.Facts) (hMixDkvlnK : Cert.MixDkvlnK.Facts) (hMixDkvlnKIdeal : Cert.MixDkvlnKIdeal.Facts) (hMixDkvlnKRefIdeal : Cert.MixDkvlnKRefIdeal.Facts) (hMixDkvlnV : Cert.MixDkvlnV.Facts) (hMixDkvlnVIdeal : Cert.MixDkvlnVIdeal.Facts) (hMixDkvlnVRefIdeal : Cert.MixDkvlnVRefIdeal.Facts) (hLoss : Cert.Loss.Facts) (hLossIdeal : Cert.LossIdeal.Facts) (hLossRefIdeal : Cert.LossRefIdeal.Facts) (hGatherRef : Cert.GatherRef.Facts),
    quiescent_Gather (hGather := hGather)
    ∧ quiescent_GatherIdeal (hGatherIdeal := hGatherIdeal)
    ∧ quiescent_GatherRefIdeal (hGatherRefIdeal := hGatherRefIdeal)
    ∧ quiescent_Sibling (hSibling := hSibling)
    ∧ quiescent_SiblingIdeal (hSiblingIdeal := hSiblingIdeal)
    ∧ quiescent_SiblingRefIdeal (hSiblingRefIdeal := hSiblingRefIdeal)
    ∧ quiescent_Chips (hChips := hChips)
    ∧ quiescent_ChipsIdeal (hChipsIdeal := hChipsIdeal)
    ∧ quiescent_ChipsRefIdeal (hChipsRefIdeal := hChipsRefIdeal)
    ∧ quiescent_UpGate (hUpGate := hUpGate)
    ∧ quiescent_UpGateIdeal (hUpGateIdeal := hUpGateIdeal)
    ∧ quiescent_UpGateRefIdeal (hUpGateRefIdeal := hUpGateRefIdeal)
    ∧ quiescent_UpDown (hUpDown := hUpDown)
    ∧ quiescent_UpDownIdeal (hUpDownIdeal := hUpDownIdeal)
    ∧ quiescent_UpDownRefIdeal (hUpDownRefIdeal := hUpDownRefIdeal)
    ∧ quiescent_UpIn (hUpIn := hUpIn)
    ∧ quiescent_UpInIdeal (hUpInIdeal := hUpInIdeal)
    ∧ quiescent_UpInRefIdeal (hUpInRefIdeal := hUpInRefIdeal)
    ∧ quiescent_UpUq (hUpUq := hUpUq)
    ∧ quiescent_UpUqIdeal (hUpUqIdeal := hUpUqIdeal)
    ∧ quiescent_UpUqRefIdeal (hUpUqRefIdeal := hUpUqRefIdeal)
    ∧ quiescent_UpUkv (hUpUkv := hUpUkv)
    ∧ quiescent_UpUkvIdeal (hUpUkvIdeal := hUpUkvIdeal)
    ∧ quiescent_UpUkvRefIdeal (hUpUkvRefIdeal := hUpUkvRefIdeal)
    ∧ quiescent_UpOut (hUpOut := hUpOut)
    ∧ quiescent_UpOutIdeal (hUpOutIdeal := hUpOutIdeal)
    ∧ quiescent_UpOutRefIdeal (hUpOutRefIdeal := hUpOutRefIdeal)
    ∧ quiescent_UpConv (hUpConv := hUpConv)
    ∧ quiescent_UpConvIdeal (hUpConvIdeal := hUpConvIdeal)
    ∧ quiescent_UpConvRefIdeal (hUpConvRefIdeal := hUpConvRefIdeal)
    ∧ quiescent_UpVectors (hUpVectors := hUpVectors)
    ∧ quiescent_UpVectorsIdeal (hUpVectorsIdeal := hUpVectorsIdeal)
    ∧ quiescent_UpVectorsRefIdeal (hUpVectorsRefIdeal := hUpVectorsRefIdeal)
    ∧ quiescent_Small (hSmall := hSmall)
    ∧ quiescent_SmallIdeal (hSmallIdeal := hSmallIdeal)
    ∧ quiescent_SmallRefIdeal (hSmallRefIdeal := hSmallRefIdeal)
    ∧ quiescent_Norm (hNorm := hNorm)
    ∧ quiescent_NormIdeal (hNormIdeal := hNormIdeal)
    ∧ quiescent_NormRefIdeal (hNormRefIdeal := hNormRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_Glu (hGlu := hGlu)
    ∧ quiescent_GluIdeal (hGluIdeal := hGluIdeal)
    ∧ quiescent_GluRefIdeal (hGluRefIdeal := hGluRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_FfnDz (hFfnDz := hFfnDz)
    ∧ quiescent_FfnDzIdeal (hFfnDzIdeal := hFfnDzIdeal)
    ∧ quiescent_FfnDzRefIdeal (hFfnDzRefIdeal := hFfnDzRefIdeal)
    ∧ quiescent_FfnDwd (hFfnDwd := hFfnDwd)
    ∧ quiescent_FfnDwdIdeal (hFfnDwdIdeal := hFfnDwdIdeal)
    ∧ quiescent_FfnDwdRefIdeal (hFfnDwdRefIdeal := hFfnDwdRefIdeal)
    ∧ quiescent_GluBack (hGluBack := hGluBack)
    ∧ quiescent_GluBackIdeal (hGluBackIdeal := hGluBackIdeal)
    ∧ quiescent_GluBackRefIdeal (hGluBackRefIdeal := hGluBackRefIdeal)
    ∧ quiescent_FfnDwgu (hFfnDwgu := hFfnDwgu)
    ∧ quiescent_FfnDwguIdeal (hFfnDwguIdeal := hFfnDwguIdeal)
    ∧ quiescent_FfnDwguRefIdeal (hFfnDwguRefIdeal := hFfnDwguRefIdeal)
    ∧ quiescent_FfnDh (hFfnDh := hFfnDh)
    ∧ quiescent_FfnDhIdeal (hFfnDhIdeal := hFfnDhIdeal)
    ∧ quiescent_FfnDhRefIdeal (hFfnDhRefIdeal := hFfnDhRefIdeal)
    ∧ quiescent_NormIn (hNormIn := hNormIn)
    ∧ quiescent_NormInIdeal (hNormInIdeal := hNormInIdeal)
    ∧ quiescent_NormInRefIdeal (hNormInRefIdeal := hNormInRefIdeal)
    ∧ quiescent_NormOut (hNormOut := hNormOut)
    ∧ quiescent_NormOutIdeal (hNormOutIdeal := hNormOutIdeal)
    ∧ quiescent_NormOutRefIdeal (hNormOutRefIdeal := hNormOutRefIdeal)
    ∧ quiescent_MixIn (hMixIn := hMixIn)
    ∧ quiescent_MixInIdeal (hMixInIdeal := hMixInIdeal)
    ∧ quiescent_MixInRefIdeal (hMixInRefIdeal := hMixInRefIdeal)
    ∧ quiescent_MixQ (hMixQ := hMixQ)
    ∧ quiescent_MixQIdeal (hMixQIdeal := hMixQIdeal)
    ∧ quiescent_MixQRefIdeal (hMixQRefIdeal := hMixQRefIdeal)
    ∧ quiescent_MixK (hMixK := hMixK)
    ∧ quiescent_MixKIdeal (hMixKIdeal := hMixKIdeal)
    ∧ quiescent_MixKRefIdeal (hMixKRefIdeal := hMixKRefIdeal)
    ∧ quiescent_MixV (hMixV := hMixV)
    ∧ quiescent_MixVIdeal (hMixVIdeal := hMixVIdeal)
    ∧ quiescent_MixVRefIdeal (hMixVRefIdeal := hMixVRefIdeal)
    ∧ quiescent_MixAttn (hMixAttn := hMixAttn)
    ∧ quiescent_MixAttnIdeal (hMixAttnIdeal := hMixAttnIdeal)
    ∧ quiescent_MixAttnRefIdeal (hMixAttnRefIdeal := hMixAttnRefIdeal)
    ∧ quiescent_MixConv (hMixConv := hMixConv)
    ∧ quiescent_MixConvIdeal (hMixConvIdeal := hMixConvIdeal)
    ∧ quiescent_MixConvRefIdeal (hMixConvRefIdeal := hMixConvRefIdeal)
    ∧ quiescent_MixDo (hMixDo := hMixDo)
    ∧ quiescent_MixDoIdeal (hMixDoIdeal := hMixDoIdeal)
    ∧ quiescent_MixDoRefIdeal (hMixDoRefIdeal := hMixDoRefIdeal)
    ∧ quiescent_MixDcv (hMixDcv := hMixDcv)
    ∧ quiescent_MixDcvIdeal (hMixDcvIdeal := hMixDcvIdeal)
    ∧ quiescent_MixDcvRefIdeal (hMixDcvRefIdeal := hMixDcvRefIdeal)
    ∧ quiescent_MixDqln (hMixDqln := hMixDqln)
    ∧ quiescent_MixDqlnIdeal (hMixDqlnIdeal := hMixDqlnIdeal)
    ∧ quiescent_MixDqlnRefIdeal (hMixDqlnRefIdeal := hMixDqlnRefIdeal)
    ∧ quiescent_MixDkvlnK (hMixDkvlnK := hMixDkvlnK)
    ∧ quiescent_MixDkvlnKIdeal (hMixDkvlnKIdeal := hMixDkvlnKIdeal)
    ∧ quiescent_MixDkvlnKRefIdeal (hMixDkvlnKRefIdeal := hMixDkvlnKRefIdeal)
    ∧ quiescent_MixDkvlnV (hMixDkvlnV := hMixDkvlnV)
    ∧ quiescent_MixDkvlnVIdeal (hMixDkvlnVIdeal := hMixDkvlnVIdeal)
    ∧ quiescent_MixDkvlnVRefIdeal (hMixDkvlnVRefIdeal := hMixDkvlnVRefIdeal)
    ∧ quiescent_Loss (hLoss := hLoss)
    ∧ quiescent_LossIdeal (hLossIdeal := hLossIdeal)
    ∧ quiescent_LossRefIdeal (hLossRefIdeal := hLossRefIdeal)
    ∧ quiescent_GatherRef (hGatherRef := hGatherRef)
    ∧ preserves_Gather_GatherIdeal
    ∧ algebraic_GatherIdeal_GatherRefIdeal (hGatherIdeal := hGatherIdeal) (hGatherRefIdeal := hGatherRefIdeal)
    ∧ preserves_Sibling_SiblingIdeal
    ∧ algebraic_SiblingIdeal_SiblingRefIdeal (hSiblingIdeal := hSiblingIdeal) (hSiblingRefIdeal := hSiblingRefIdeal)
    ∧ preserves_Chips_ChipsIdeal
    ∧ algebraic_ChipsIdeal_ChipsRefIdeal (hChipsIdeal := hChipsIdeal) (hChipsRefIdeal := hChipsRefIdeal)
    ∧ preserves_UpGate_UpGateIdeal
    ∧ algebraic_UpGateIdeal_UpGateRefIdeal (hUpGateIdeal := hUpGateIdeal) (hUpGateRefIdeal := hUpGateRefIdeal)
    ∧ preserves_UpDown_UpDownIdeal
    ∧ algebraic_UpDownIdeal_UpDownRefIdeal (hUpDownIdeal := hUpDownIdeal) (hUpDownRefIdeal := hUpDownRefIdeal)
    ∧ preserves_UpIn_UpInIdeal
    ∧ algebraic_UpInIdeal_UpInRefIdeal (hUpInIdeal := hUpInIdeal) (hUpInRefIdeal := hUpInRefIdeal)
    ∧ preserves_UpUq_UpUqIdeal
    ∧ algebraic_UpUqIdeal_UpUqRefIdeal (hUpUqIdeal := hUpUqIdeal) (hUpUqRefIdeal := hUpUqRefIdeal)
    ∧ preserves_UpUkv_UpUkvIdeal
    ∧ algebraic_UpUkvIdeal_UpUkvRefIdeal (hUpUkvIdeal := hUpUkvIdeal) (hUpUkvRefIdeal := hUpUkvRefIdeal)
    ∧ preserves_UpOut_UpOutIdeal
    ∧ algebraic_UpOutIdeal_UpOutRefIdeal (hUpOutIdeal := hUpOutIdeal) (hUpOutRefIdeal := hUpOutRefIdeal)
    ∧ preserves_UpConv_UpConvIdeal
    ∧ algebraic_UpConvIdeal_UpConvRefIdeal (hUpConvIdeal := hUpConvIdeal) (hUpConvRefIdeal := hUpConvRefIdeal)
    ∧ preserves_UpVectors_UpVectorsIdeal
    ∧ algebraic_UpVectorsIdeal_UpVectorsRefIdeal (hUpVectorsIdeal := hUpVectorsIdeal) (hUpVectorsRefIdeal := hUpVectorsRefIdeal)
    ∧ preserves_Small_SmallIdeal
    ∧ algebraic_SmallIdeal_SmallRefIdeal (hSmallIdeal := hSmallIdeal) (hSmallRefIdeal := hSmallRefIdeal)
    ∧ preserves_Norm_NormIdeal
    ∧ algebraic_NormIdeal_NormRefIdeal (hNormIdeal := hNormIdeal) (hNormRefIdeal := hNormRefIdeal)
    ∧ preserves_FfnUp_FfnUpIdeal
    ∧ algebraic_FfnUpIdeal_FfnUpRefIdeal (hFfnUpIdeal := hFfnUpIdeal) (hFfnUpRefIdeal := hFfnUpRefIdeal)
    ∧ preserves_Glu_GluIdeal
    ∧ algebraic_GluIdeal_GluRefIdeal (hGluIdeal := hGluIdeal) (hGluRefIdeal := hGluRefIdeal)
    ∧ preserves_FfnDown_FfnDownIdeal
    ∧ algebraic_FfnDownIdeal_FfnDownRefIdeal (hFfnDownIdeal := hFfnDownIdeal) (hFfnDownRefIdeal := hFfnDownRefIdeal)
    ∧ preserves_FfnDz_FfnDzIdeal
    ∧ algebraic_FfnDzIdeal_FfnDzRefIdeal (hFfnDzIdeal := hFfnDzIdeal) (hFfnDzRefIdeal := hFfnDzRefIdeal)
    ∧ preserves_FfnDwd_FfnDwdIdeal
    ∧ algebraic_FfnDwdIdeal_FfnDwdRefIdeal (hFfnDwdIdeal := hFfnDwdIdeal) (hFfnDwdRefIdeal := hFfnDwdRefIdeal)
    ∧ preserves_GluBack_GluBackIdeal
    ∧ algebraic_GluBackIdeal_GluBackRefIdeal (hGluBackIdeal := hGluBackIdeal) (hGluBackRefIdeal := hGluBackRefIdeal)
    ∧ preserves_FfnDwgu_FfnDwguIdeal
    ∧ algebraic_FfnDwguIdeal_FfnDwguRefIdeal (hFfnDwguIdeal := hFfnDwguIdeal) (hFfnDwguRefIdeal := hFfnDwguRefIdeal)
    ∧ preserves_FfnDh_FfnDhIdeal
    ∧ algebraic_FfnDhIdeal_FfnDhRefIdeal (hFfnDhIdeal := hFfnDhIdeal) (hFfnDhRefIdeal := hFfnDhRefIdeal)
    ∧ preserves_NormIn_NormInIdeal
    ∧ algebraic_NormInIdeal_NormInRefIdeal (hNormInIdeal := hNormInIdeal) (hNormInRefIdeal := hNormInRefIdeal)
    ∧ preserves_NormOut_NormOutIdeal
    ∧ algebraic_NormOutIdeal_NormOutRefIdeal (hNormOutIdeal := hNormOutIdeal) (hNormOutRefIdeal := hNormOutRefIdeal)
    ∧ preserves_MixIn_MixInIdeal
    ∧ algebraic_MixInIdeal_MixInRefIdeal (hMixInIdeal := hMixInIdeal) (hMixInRefIdeal := hMixInRefIdeal)
    ∧ preserves_MixQ_MixQIdeal
    ∧ algebraic_MixQIdeal_MixQRefIdeal (hMixQIdeal := hMixQIdeal) (hMixQRefIdeal := hMixQRefIdeal)
    ∧ preserves_MixK_MixKIdeal
    ∧ algebraic_MixKIdeal_MixKRefIdeal (hMixKIdeal := hMixKIdeal) (hMixKRefIdeal := hMixKRefIdeal)
    ∧ preserves_MixV_MixVIdeal
    ∧ algebraic_MixVIdeal_MixVRefIdeal (hMixVIdeal := hMixVIdeal) (hMixVRefIdeal := hMixVRefIdeal)
    ∧ preserves_MixAttn_MixAttnIdeal
    ∧ algebraic_MixAttnIdeal_MixAttnRefIdeal (hMixAttnIdeal := hMixAttnIdeal) (hMixAttnRefIdeal := hMixAttnRefIdeal)
    ∧ preserves_MixConv_MixConvIdeal
    ∧ algebraic_MixConvIdeal_MixConvRefIdeal (hMixConvIdeal := hMixConvIdeal) (hMixConvRefIdeal := hMixConvRefIdeal)
    ∧ preserves_MixDo_MixDoIdeal
    ∧ algebraic_MixDoIdeal_MixDoRefIdeal (hMixDoIdeal := hMixDoIdeal) (hMixDoRefIdeal := hMixDoRefIdeal)
    ∧ preserves_MixDcv_MixDcvIdeal
    ∧ algebraic_MixDcvIdeal_MixDcvRefIdeal (hMixDcvIdeal := hMixDcvIdeal) (hMixDcvRefIdeal := hMixDcvRefIdeal)
    ∧ preserves_MixDqln_MixDqlnIdeal
    ∧ algebraic_MixDqlnIdeal_MixDqlnRefIdeal (hMixDqlnIdeal := hMixDqlnIdeal) (hMixDqlnRefIdeal := hMixDqlnRefIdeal)
    ∧ preserves_MixDkvlnK_MixDkvlnKIdeal
    ∧ algebraic_MixDkvlnKIdeal_MixDkvlnKRefIdeal (hMixDkvlnKIdeal := hMixDkvlnKIdeal) (hMixDkvlnKRefIdeal := hMixDkvlnKRefIdeal)
    ∧ preserves_MixDkvlnV_MixDkvlnVIdeal
    ∧ algebraic_MixDkvlnVIdeal_MixDkvlnVRefIdeal (hMixDkvlnVIdeal := hMixDkvlnVIdeal) (hMixDkvlnVRefIdeal := hMixDkvlnVRefIdeal)
    ∧ preserves_Loss_LossIdeal
    ∧ algebraic_LossIdeal_LossRefIdeal (hLossIdeal := hLossIdeal) (hLossRefIdeal := hLossRefIdeal)
    ∧ bitexact_Gather_GatherRef (hGather := hGather) (hGatherRef := hGatherRef)
-- ==== Gather.lean ====
abbrev S5040x1024 : Shape := ⟨2, ![5040, 1024]⟩
abbrev S40320x1024 : Shape := ⟨2, ![40320, 1024]⟩
abbrev S7 : Shape := ⟨1, ![7]⟩
abbrev S_ : Shape := ⟨0, ![]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S5040x1024, .bf16⟩
  | .hbm, ⟨1, _⟩ => ⟨S40320x1024, .bf16⟩
  | _, _ => ⟨S5040x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 2 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c5040_i32 : BitVec 32 := 5040#32
  let v18 : BitVec 32 := Scalar.muli v17 c5040_i32
  let c0_i32 : BitVec 32 := 0#32
  ![v18.toNat, 0]
def k0_dev1 (d0 : Dev nD) : Nat :=
  let c0_i32_25 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_24 : BitVec 32 := 4#32
  let v40 : BitVec 32 := Scalar.muli v2 c4_i32_24
  let v41 : BitVec 32 := Scalar.addi c0_i32_25 v40
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_26 : BitVec 32 := 2#32
  let v42 : BitVec 32 := Scalar.muli v5 c2_i32_26
  let v43 : BitVec 32 := Scalar.addi v41 v42
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_27 : BitVec 32 := 1#32
  let v44 : BitVec 32 := Scalar.muli v9 c1_i32_27
  let v45 : BitVec 32 := Scalar.addi v43 v44
  v45.toNat
def k0_dev2 (d0 : Dev nD) : Nat :=
  let c0_i32_32 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_31 : BitVec 32 := 4#32
  let v51 : BitVec 32 := Scalar.muli v10 c4_i32_31
  let v52 : BitVec 32 := Scalar.addi c0_i32_32 v51
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_33 : BitVec 32 := 2#32
  let v53 : BitVec 32 := Scalar.muli v5 c2_i32_33
  let v54 : BitVec 32 := Scalar.addi v52 v53
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_34 : BitVec 32 := 1#32
  let v55 : BitVec 32 := Scalar.muli v8 c1_i32_34
  let v56 : BitVec 32 := Scalar.addi v54 v55
  v56.toNat
def k0_dev3 (d0 : Dev nD) : Nat :=
  let c0_i32_39 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_38 : BitVec 32 := 4#32
  let v62 : BitVec 32 := Scalar.muli v2 c4_i32_38
  let v63 : BitVec 32 := Scalar.addi c0_i32_39 v62
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_40 : BitVec 32 := 2#32
  let v64 : BitVec 32 := Scalar.muli v11 c2_i32_40
  let v65 : BitVec 32 := Scalar.addi v63 v64
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_41 : BitVec 32 := 1#32
  let v66 : BitVec 32 := Scalar.muli v8 c1_i32_41
  let v67 : BitVec 32 := Scalar.addi v65 v66
  v67.toNat
def k0_dev4 (d0 : Dev nD) : Nat :=
  let c0_i32_45 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_44 : BitVec 32 := 4#32
  let v73 : BitVec 32 := Scalar.muli v12 c4_i32_44
  let v74 : BitVec 32 := Scalar.addi c0_i32_45 v73
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_46 : BitVec 32 := 2#32
  let v75 : BitVec 32 := Scalar.muli v13 c2_i32_46
  let v76 : BitVec 32 := Scalar.addi v74 v75
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v77 : BitVec 32 := Scalar.muli v8 c1_i32_47
  let v78 : BitVec 32 := Scalar.addi v76 v77
  v78.toNat
def k0_off2 (d0 : Dev nD) : Fin 2 → Nat :=
  let c4_i32_70 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v119 : BitVec 32 := Scalar.muli c4_i32_70 v10
  let c2_i32_71 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v120 : BitVec 32 := Scalar.muli c2_i32_71 v5
  let v121 : BitVec 32 := Scalar.addi v119 v120
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v122 : BitVec 32 := Scalar.addi v121 v8
  let c5040_i32_72 : BitVec 32 := 5040#32
  let v123 : BitVec 32 := Scalar.muli v122 c5040_i32_72
  let c0_i32_79 : BitVec 32 := 0#32
  ![v123.toNat, 0]
def k0_dev5 (d0 : Dev nD) : Nat :=
  let c0_i32_84 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_83 : BitVec 32 := 4#32
  let v134 : BitVec 32 := Scalar.muli v2 c4_i32_83
  let v135 : BitVec 32 := Scalar.addi c0_i32_84 v134
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_85 : BitVec 32 := 2#32
  let v136 : BitVec 32 := Scalar.muli v5 c2_i32_85
  let v137 : BitVec 32 := Scalar.addi v135 v136
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_86 : BitVec 32 := 1#32
  let v138 : BitVec 32 := Scalar.muli v9 c1_i32_86
  let v139 : BitVec 32 := Scalar.addi v137 v138
  v139.toNat
def k0_off3 (d0 : Dev nD) : Fin 2 → Nat :=
  let c4_i32_92 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v151 : BitVec 32 := Scalar.muli c4_i32_92 v2
  let c2_i32_93 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v152 : BitVec 32 := Scalar.muli c2_i32_93 v11
  let v153 : BitVec 32 := Scalar.addi v151 v152
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v154 : BitVec 32 := Scalar.addi v153 v8
  let c5040_i32_94 : BitVec 32 := 5040#32
  let v155 : BitVec 32 := Scalar.muli v154 c5040_i32_94
  let c0_i32_101 : BitVec 32 := 0#32
  ![v155.toNat, 0]
def k0_dev6 (d0 : Dev nD) : Nat :=
  let c0_i32_105 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_104 : BitVec 32 := 4#32
  let v166 : BitVec 32 := Scalar.muli v2 c4_i32_104
  let v167 : BitVec 32 := Scalar.addi c0_i32_105 v166
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_106 : BitVec 32 := 2#32
  let v168 : BitVec 32 := Scalar.muli v5 c2_i32_106
  let v169 : BitVec 32 := Scalar.addi v167 v168
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_107 : BitVec 32 := 1#32
  let v170 : BitVec 32 := Scalar.muli v9 c1_i32_107
  let v171 : BitVec 32 := Scalar.addi v169 v170
  v171.toNat
def k0_off4 (d0 : Dev nD) : Fin 2 → Nat :=
  let c4_i32_113 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v183 : BitVec 32 := Scalar.muli c4_i32_113 v12
  let c2_i32_114 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v184 : BitVec 32 := Scalar.muli c2_i32_114 v13
  let v185 : BitVec 32 := Scalar.addi v183 v184
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v186 : BitVec 32 := Scalar.addi v185 v8
  let c5040_i32_115 : BitVec 32 := 5040#32
  let v187 : BitVec 32 := Scalar.muli v186 c5040_i32_115
  let c0_i32_122 : BitVec 32 := 0#32
  ![v187.toNat, 0]
def k0_dev7 (d0 : Dev nD) : Nat :=
  let c0_i32_126 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_125 : BitVec 32 := 4#32
  let v198 : BitVec 32 := Scalar.muli v2 c4_i32_125
  let v199 : BitVec 32 := Scalar.addi c0_i32_126 v198
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_127 : BitVec 32 := 2#32
  let v200 : BitVec 32 := Scalar.muli v5 c2_i32_127
  let v201 : BitVec 32 := Scalar.addi v199 v200
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_128 : BitVec 32 := 1#32
  let v202 : BitVec 32 := Scalar.muli v9 c1_i32_128
  let v203 : BitVec 32 := Scalar.addi v201 v202
  v203.toNat
def k0_off5 (d0 : Dev nD) : Fin 2 → Nat :=
  let c4_i32_134 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v215 : BitVec 32 := Scalar.muli c4_i32_134 v2
  let c2_i32_135 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v216 : BitVec 32 := Scalar.muli c2_i32_135 v5
  let v217 : BitVec 32 := Scalar.addi v215 v216
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v218 : BitVec 32 := Scalar.addi v217 v9
  let c5040_i32_136 : BitVec 32 := 5040#32
  let v219 : BitVec 32 := Scalar.muli v218 c5040_i32_136
  let c0_i32_143 : BitVec 32 := 0#32
  ![v219.toNat, 0]
def k0_off6 (d0 : Dev nD) : Fin 2 → Nat :=
  let c4_i32_149 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v236 : BitVec 32 := Scalar.muli c4_i32_149 v10
  let c2_i32_150 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v237 : BitVec 32 := Scalar.muli c2_i32_150 v5
  let v238 : BitVec 32 := Scalar.addi v236 v237
  let c1_i32_145 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v230 : BitVec 32 := Scalar.subi c1_i32_145 v8
  let v239 : BitVec 32 := Scalar.addi v238 v230
  let c5040_i32_151 : BitVec 32 := 5040#32
  let v240 : BitVec 32 := Scalar.muli v239 c5040_i32_151
  let c0_i32_158 : BitVec 32 := 0#32
  ![v240.toNat, 0]
def k0_off7 (d0 : Dev nD) : Fin 2 → Nat :=
  let c4_i32_164 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v257 : BitVec 32 := Scalar.muli c4_i32_164 v2
  let c2_i32_165 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v258 : BitVec 32 := Scalar.muli c2_i32_165 v11
  let v259 : BitVec 32 := Scalar.addi v257 v258
  let c1_i32_160 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v251 : BitVec 32 := Scalar.subi c1_i32_160 v8
  let v260 : BitVec 32 := Scalar.addi v259 v251
  let c5040_i32_166 : BitVec 32 := 5040#32
  let v261 : BitVec 32 := Scalar.muli v260 c5040_i32_166
  let c0_i32_173 : BitVec 32 := 0#32
  ![v261.toNat, 0]
def k0_off8 (d0 : Dev nD) : Fin 2 → Nat :=
  let c4_i32_179 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v278 : BitVec 32 := Scalar.muli c4_i32_179 v12
  let c2_i32_180 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v279 : BitVec 32 := Scalar.muli c2_i32_180 v13
  let v280 : BitVec 32 := Scalar.addi v278 v279
  let c1_i32_175 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v272 : BitVec 32 := Scalar.subi c1_i32_175 v8
  let v281 : BitVec 32 := Scalar.addi v280 v272
  let c5040_i32_181 : BitVec 32 := 5040#32
  let v282 : BitVec 32 := Scalar.muli v281 c5040_i32_181
  let c0_i32_188 : BitVec 32 := 0#32
  ![v282.toNat, 0]
-- ==== Sibling.lean ====
abbrev S8x5040x1024 : Shape := ⟨3, ![8, 5040, 1024]⟩
abbrev S4x5040x1024 : Shape := ⟨3, ![4, 5040, 1024]⟩
abbrev S4 : Shape := ⟨1, ![4]⟩
abbrev S1 : Shape := ⟨1, ![1]⟩
abbrev S_ : Shape := ⟨0, ![]⟩
abbrev S1x5040x1024 : Shape := ⟨3, ![1, 5040, 1024]⟩
abbrev S5040x1024 : Shape := ⟨2, ![5040, 1024]⟩
abbrev S1x240x1024 : Shape := ⟨3, ![1, 240, 1024]⟩
abbrev S240x1024 : Shape := ⟨2, ![240, 1024]⟩

abbrev nBuf : Space → Nat
  | .hbm => 9
  | .vmem => 6
  | .smem => 1
  | _ => 0

abbrev bufTy : (tb : Table) → Fin (tcTables nBuf tb) → BufTy
  | .hbm, ⟨0, _⟩ => ⟨S8x5040x1024, .f32⟩
  | .hbm, ⟨1, _⟩ => ⟨S4x5040x1024, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S4x5040x1024, .f32⟩
  | .local _ .vmem, ⟨0, _⟩ => ⟨S1x240x1024, .f32⟩
  | .local _ .vmem, ⟨1, _⟩ => ⟨S1x240x1024, .f32⟩
  | .local _ .vmem, ⟨2, _⟩ => ⟨S1x240x1024, .f32⟩
  | .local _ .vmem, ⟨3, _⟩ => ⟨S1x240x1024, .f32⟩
  | .local _ .vmem, ⟨4, _⟩ => ⟨S1x240x1024, .f32⟩
  | .local _ .vmem, ⟨5, _⟩ => ⟨S1x240x1024, .f32⟩
  | .local _ .smem, ⟨0, _⟩ => ⟨S1, .i32⟩
  | _, _ => ⟨S8x5040x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_c : Ref sig .tc := ⟨.hbm, 2, rfl⟩
abbrev main_c_0 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v7 : Ref sig .tc := ⟨.hbm, 8, rfl⟩
abbrev main_v6 : Ref sig .tc := ⟨.smem, 0, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 8
abbrev τ : Topo := Topo.v7x

variable {F : FTy → Type} [FloatOps F]

abbrev grid0 : Pipeline.Grid := .none

def k0_off1 (d0 : Dev nD) (c1_i32_3 : BitVec 32) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c0_i32_16 : BitVec 32 := 0#32
  let c0_i32_17 : BitVec 32 := 0#32
  ![v9.toNat, 0, 0]
def k0_dev1 (d0 : Dev nD) : Nat :=
  let c0_i32_11 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_10 : BitVec 32 := 4#32
  let v17 : BitVec 32 := Scalar.muli v2 c4_i32_10
  let v18 : BitVec 32 := Scalar.addi c0_i32_11 v17
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_12 : BitVec 32 := 2#32
  let v19 : BitVec 32 := Scalar.muli v5 c2_i32_12
  let v20 : BitVec 32 := Scalar.addi v18 v19
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_13 : BitVec 32 := 1#32
  let v21 : BitVec 32 := Scalar.muli v10 c1_i32_13
  let v22 : BitVec 32 := Scalar.addi v20 v21
  v22.toNat
def k0_dev2 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v31 : BitVec 32 := Scalar.muli v2 c4_i32_21
  let v32 : BitVec 32 := Scalar.addi c0_i32_22 v31
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v33 : BitVec 32 := Scalar.muli v5 c2_i32_23
  let v34 : BitVec 32 := Scalar.addi v32 v33
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_5 v8
  let c1_i32_24 : BitVec 32 := 1#32
  let v35 : BitVec 32 := Scalar.muli v12 c1_i32_24
  let v36 : BitVec 32 := Scalar.addi v34 v35
  v36.toNat
def k0_dev3 (d0 : Dev nD) : Nat :=
  let c0_i32_33 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_32 : BitVec 32 := 4#32
  let v45 : BitVec 32 := Scalar.muli v2 c4_i32_32
  let v46 : BitVec 32 := Scalar.addi c0_i32_33 v45
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_34 : BitVec 32 := 2#32
  let v47 : BitVec 32 := Scalar.muli v5 c2_i32_34
  let v48 : BitVec 32 := Scalar.addi v46 v47
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_6 v8
  let c1_i32_35 : BitVec 32 := 1#32
  let v49 : BitVec 32 := Scalar.muli v14 c1_i32_35
  let v50 : BitVec 32 := Scalar.addi v48 v49
  v50.toNat
def k0_dev4 (d0 : Dev nD) : Nat :=
  let c0_i32_44 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_43 : BitVec 32 := 4#32
  let v59 : BitVec 32 := Scalar.muli v2 c4_i32_43
  let v60 : BitVec 32 := Scalar.addi c0_i32_44 v59
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_45 : BitVec 32 := 2#32
  let v61 : BitVec 32 := Scalar.muli v5 c2_i32_45
  let v62 : BitVec 32 := Scalar.addi v60 v61
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.subi c1_i32_7 v8
  let c1_i32_46 : BitVec 32 := 1#32
  let v63 : BitVec 32 := Scalar.muli v16 c1_i32_46
  let v64 : BitVec 32 := Scalar.addi v62 v63
  v64.toNat
abbrev grid1 : Pipeline.Grid := ⟨2, ![4, 21], ![false, false]⟩

abbrev pre1 : Pipeline.Prefetch sig := ⟨1, ![main_v6.idx], fun | 0 => main_v6.names | ⟨_ + 1, h⟩ => absurd h (Nat.not_lt.2 (Nat.le_add_left _ _)), fun | 0 => rfl | ⟨_ + 1, h⟩ => absurd h (Nat.not_lt.2 (Nat.le_add_left _ _))⟩

def cc1_transform_0 (inb_S1_S1_0 : ∀ a, (![0] : Fin 1 → Nat) a + S1.size a ≤ S1.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0 : Index := 0#32
  let v1 : BitVec 32 := pf.at 0 (Rect.unit (s := S1) ![0] S1.size inb_S1_S1_0) numel1_S1
  let v2 : BitVec 32 := Scalar.addi v0 v1
  let c0_i32 : BitVec 32 := 0#32
  let c0_i32_0 : BitVec 32 := 0#32
  ![v2.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x240x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x240x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x240x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== SiblingRefIdeal.lean ====
abbrev S64x5040x1024 : Shape := ⟨3, ![64, 5040, 1024]⟩
abbrev S4x2x8x5040x1024 : Shape := ⟨5, ![4, 2, 8, 5040, 1024]⟩
abbrev S_ : Shape := ⟨0, ![]⟩
abbrev S4x8x5040x1024 : Shape := ⟨4, ![4, 8, 5040, 1024]⟩
abbrev S4x4x2x5040x1024 : Shape := ⟨5, ![4, 4, 2, 5040, 1024]⟩
abbrev S4x2x4x5040x1024 : Shape := ⟨5, ![4, 2, 4, 5040, 1024]⟩
abbrev S32x5040x1024 : Shape := ⟨3, ![32, 5040, 1024]⟩

abbrev nBuf : Space → Nat
  | .hbm => 7
  | .vmem => 0
  | .smem => 0
  | _ => 0

abbrev bufTy : (tb : Table) → Fin (tcTables nBuf tb) → BufTy
  | .hbm, ⟨0, _⟩ => ⟨S64x5040x1024, .f32⟩
  | .hbm, ⟨1, _⟩ => ⟨S4x2x8x5040x1024, .f32⟩
  | .hbm, ⟨2, _⟩ => ⟨S_, .f32⟩
  | .hbm, ⟨3, _⟩ => ⟨S4x8x5040x1024, .f32⟩
  | .hbm, ⟨4, _⟩ => ⟨S4x4x2x5040x1024, .f32⟩
  | .hbm, ⟨5, _⟩ => ⟨S4x2x4x5040x1024, .f32⟩
  | .hbm, ⟨6, _⟩ => ⟨S32x5040x1024, .f32⟩
  | _, _ => ⟨S64x5040x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Chips.lean ====
abbrev S4x5040x1024 : Shape := ⟨3, ![4, 5040, 1024]⟩
abbrev S3x5040x1024 : Shape := ⟨3, ![3, 5040, 1024]⟩
abbrev S3 : Shape := ⟨1, ![3]⟩
abbrev S1 : Shape := ⟨1, ![1]⟩
abbrev S_ : Shape := ⟨0, ![]⟩
abbrev S1x5040x1024 : Shape := ⟨3, ![1, 5040, 1024]⟩
abbrev S5040x1024 : Shape := ⟨2, ![5040, 1024]⟩
abbrev S1x240x1024 : Shape := ⟨3, ![1, 240, 1024]⟩
abbrev S240x1024 : Shape := ⟨2, ![240, 1024]⟩

abbrev nBuf : Space → Nat
  | .hbm => 18
  | .vmem => 10
  | .smem => 1
  | _ => 0

abbrev bufTy : (tb : Table) → Fin (tcTables nBuf tb) → BufTy
  | .hbm, ⟨0, _⟩ => ⟨S4x5040x1024, .f32⟩
  | .hbm, ⟨1, _⟩ => ⟨S3x5040x1024, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S5040x1024, .f32⟩
  | .local _ .vmem, ⟨0, _⟩ => ⟨S1x240x1024, .f32⟩
  | .local _ .vmem, ⟨1, _⟩ => ⟨S1x240x1024, .f32⟩
  | .local _ .vmem, ⟨2, _⟩ => ⟨S1x240x1024, .f32⟩
  | .local _ .vmem, ⟨3, _⟩ => ⟨S1x240x1024, .f32⟩
  | .local _ .vmem, ⟨4, _⟩ => ⟨S1x240x1024, .f32⟩
  | .local _ .vmem, ⟨5, _⟩ => ⟨S1x240x1024, .f32⟩
  | .local _ .vmem, ⟨6, _⟩ => ⟨S1x240x1024, .f32⟩
  | .local _ .vmem, ⟨7, _⟩ => ⟨S1x240x1024, .f32⟩
  | .local _ .vmem, ⟨8, _⟩ => ⟨S240x1024, .f32⟩
  | .local _ .vmem, ⟨9, _⟩ => ⟨S240x1024, .f32⟩
  | .local _ .smem, ⟨0, _⟩ => ⟨S1, .i32⟩
  | _, _ => ⟨S4x5040x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_c : Ref sig .tc := ⟨.hbm, 2, rfl⟩
abbrev main_c_0 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c_1 : Ref sig .tc := ⟨.hbm, 8, rfl⟩
abbrev main_v6 : Ref sig .tc := ⟨.hbm, 9, rfl⟩
abbrev main_c_2 : Ref sig .tc := ⟨.hbm, 10, rfl⟩
abbrev main_c_3 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v13 : Ref sig .tc := ⟨.hbm, 17, rfl⟩
abbrev main_v12 : Ref sig .tc := ⟨.smem, 0, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg4_1 : Ref sig .tc := ⟨.vmem, 9, rfl⟩
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 8
abbrev τ : Topo := Topo.v7x

variable {F : FTy → Type} [FloatOps F]

abbrev grid0 : Pipeline.Grid := .none

def k0_off1 (d0 : Dev nD) : Fin 3 → Nat :=
  let c2_i32_7 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v13 : BitVec 32 := Scalar.muli c2_i32_7 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_18 : BitVec 32 := 0#32
  let c0_i32_19 : BitVec 32 := 0#32
  ![v14.toNat, 0, 0]
def k0_dev1 (d0 : Dev nD) : Nat :=
  let c0_i32_13 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_12 : BitVec 32 := 4#32
  let v19 : BitVec 32 := Scalar.muli v9 c4_i32_12
  let v20 : BitVec 32 := Scalar.addi c0_i32_13 v19
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_14 : BitVec 32 := 2#32
  let v21 : BitVec 32 := Scalar.muli v5 c2_i32_14
  let v22 : BitVec 32 := Scalar.addi v20 v21
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_15 : BitVec 32 := 1#32
  let v23 : BitVec 32 := Scalar.muli v8 c1_i32_15
  let v24 : BitVec 32 := Scalar.addi v22 v23
  v24.toNat
def k0_off2 (d0 : Dev nD) : Fin 3 → Nat :=
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.muli c2_i32_8 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v16 : BitVec 32 := Scalar.addi v15 v10
  let c0_i32_29 : BitVec 32 := 0#32
  let c0_i32_30 : BitVec 32 := 0#32
  ![v16.toNat, 0, 0]
def k0_dev2 (d0 : Dev nD) : Nat :=
  let c0_i32_24 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_23 : BitVec 32 := 4#32
  let v33 : BitVec 32 := Scalar.muli v2 c4_i32_23
  let v34 : BitVec 32 := Scalar.addi c0_i32_24 v33
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_25 : BitVec 32 := 2#32
  let v35 : BitVec 32 := Scalar.muli v10 c2_i32_25
  let v36 : BitVec 32 := Scalar.addi v34 v35
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_26 : BitVec 32 := 1#32
  let v37 : BitVec 32 := Scalar.muli v8 c1_i32_26
  let v38 : BitVec 32 := Scalar.addi v36 v37
  v38.toNat
def k0_off3 (d0 : Dev nD) : Fin 3 → Nat :=
  let c2_i32_9 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v17 : BitVec 32 := Scalar.muli c2_i32_9 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v18 : BitVec 32 := Scalar.addi v17 v12
  let c0_i32_40 : BitVec 32 := 0#32
  let c0_i32_41 : BitVec 32 := 0#32
  ![v18.toNat, 0, 0]
def k0_dev3 (d0 : Dev nD) : Nat :=
  let c0_i32_35 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_34 : BitVec 32 := 4#32
  let v47 : BitVec 32 := Scalar.muli v11 c4_i32_34
  let v48 : BitVec 32 := Scalar.addi c0_i32_35 v47
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_36 : BitVec 32 := 2#32
  let v49 : BitVec 32 := Scalar.muli v12 c2_i32_36
  let v50 : BitVec 32 := Scalar.addi v48 v49
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_37 : BitVec 32 := 1#32
  let v51 : BitVec 32 := Scalar.muli v8 c1_i32_37
  let v52 : BitVec 32 := Scalar.addi v50 v51
  v52.toNat
abbrev grid1 : Pipeline.Grid := ⟨1, ![21], ![false]⟩

abbrev pre1 : Pipeline.Prefetch sig := ⟨1, ![main_v12.idx], fun | 0 => main_v12.names | ⟨_ + 1, h⟩ => absurd h (Nat.not_lt.2 (Nat.le_add_left _ _)), fun | 0 => rfl | ⟨_ + 1, h⟩ => absurd h (Nat.not_lt.2 (Nat.le_add_left _ _))⟩

def cc1_transform_0 (inb_S1_S1_0 : ∀ a, (![0] : Fin 1 → Nat) a + S1.size a ≤ S1.size a) (numel1_S1 : S1.numel = 1) (pf : pre1.Contents (Elt F)) (i : grid1.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_3 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1x240x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x240x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x240x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x240x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S240x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ChipsRefIdeal.lean ====
abbrev S32x5040x1024 : Shape := ⟨3, ![32, 5040, 1024]⟩
abbrev S4x2x4x5040x1024 : Shape := ⟨5, ![4, 2, 4, 5040, 1024]⟩
abbrev S_ : Shape := ⟨0, ![]⟩
abbrev S2x4x5040x1024 : Shape := ⟨4, ![2, 4, 5040, 1024]⟩
abbrev S4x2x5040x1024 : Shape := ⟨4, ![4, 2, 5040, 1024]⟩
abbrev S40320x1024 : Shape := ⟨2, ![40320, 1024]⟩

abbrev nBuf : Space → Nat
  | .hbm => 6
  | .vmem => 0
  | .smem => 0
  | _ => 0

abbrev bufTy : (tb : Table) → Fin (tcTables nBuf tb) → BufTy
  | .hbm, ⟨0, _⟩ => ⟨S32x5040x1024, .f32⟩
  | .hbm, ⟨1, _⟩ => ⟨S4x2x4x5040x1024, .f32⟩
  | .hbm, ⟨2, _⟩ => ⟨S_, .f32⟩
  | .hbm, ⟨3, _⟩ => ⟨S2x4x5040x1024, .f32⟩
  | .hbm, ⟨4, _⟩ => ⟨S4x2x5040x1024, .f32⟩
  | .hbm, ⟨5, _⟩ => ⟨S40320x1024, .f32⟩
  | _, _ => ⟨S32x5040x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== UpGate.lean ====
abbrev S2048x352 : Shape := ⟨2, ![2048, 352]⟩
abbrev S256x352 : Shape := ⟨2, ![256, 352]⟩

abbrev nBuf : Space → Nat
  | .hbm => 7
  | .vmem => 14
  | .smem => 0
  | _ => 0

abbrev bufTy : (tb : Table) → Fin (tcTables nBuf tb) → BufTy
  | .hbm, ⟨0, _⟩ => ⟨S2048x352, .f32⟩
  | .hbm, ⟨1, _⟩ => ⟨S2048x352, .f32⟩
  | .hbm, ⟨2, _⟩ => ⟨S2048x352, .f32⟩
  | .hbm, ⟨3, _⟩ => ⟨S2048x352, .f32⟩
  | .hbm, ⟨4, _⟩ => ⟨S2048x352, .f32⟩
  | .hbm, ⟨5, _⟩ => ⟨S2048x352, .f32⟩
  | .hbm, ⟨6, _⟩ => ⟨S2048x352, .f32⟩
  | .local _ .vmem, ⟨0, _⟩ => ⟨S256x352, .f32⟩
  | .local _ .vmem, ⟨1, _⟩ => ⟨S256x352, .f32⟩
  | .local _ .vmem, ⟨2, _⟩ => ⟨S256x352, .f32⟩
  | .local _ .vmem, ⟨3, _⟩ => ⟨S256x352, .f32⟩
  | .local _ .vmem, ⟨4, _⟩ => ⟨S256x352, .f32⟩
  | .local _ .vmem, ⟨5, _⟩ => ⟨S256x352, .f32⟩
  | .local _ .vmem, ⟨6, _⟩ => ⟨S256x352, .f32⟩
  | .local _ .vmem, ⟨7, _⟩ => ⟨S256x352, .f32⟩
  | .local _ .vmem, ⟨8, _⟩ => ⟨S256x352, .f32⟩
  | .local _ .vmem, ⟨9, _⟩ => ⟨S256x352, .f32⟩
  | .local _ .vmem, ⟨10, _⟩ => ⟨S256x352, .f32⟩
  | .local _ .vmem, ⟨11, _⟩ => ⟨S256x352, .f32⟩
  | .local _ .vmem, ⟨12, _⟩ => ⟨S256x352, .f32⟩
  | .local _ .vmem, ⟨13, _⟩ => ⟨S256x352, .f32⟩
  | _, _ => ⟨S2048x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x352 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x352 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x352 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x352 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x352 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x352 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x352 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpGateIdeal.lean ====
abbrev S2048x352 : Shape := ⟨2, ![2048, 352]⟩
abbrev S256x352 : Shape := ⟨2, ![256, 352]⟩

abbrev nBuf : Space → Nat
  | .hbm => 7
  | .vmem => 14
  | .smem => 0
  | _ => 0

abbrev bufTy : (tb : Table) → Fin (tcTables nBuf tb) → BufTy
  | .hbm, ⟨0, _⟩ => ⟨S2048x352, .f32⟩
  | .hbm, ⟨1, _⟩ => ⟨S2048x352, .f32⟩
  | .hbm, ⟨2, _⟩ => ⟨S2048x352, .f32⟩
  | .hbm, ⟨3, _⟩ => ⟨S2048x352, .f32⟩
  | .hbm, ⟨4, _⟩ => ⟨S2048x352, .f32⟩
  | .hbm, ⟨5, _⟩ => ⟨S2048x352, .f32⟩
  | .hbm, ⟨6, _⟩ => ⟨S2048x352, .f32⟩
  | .local _ .vmem, ⟨0, _⟩ => ⟨S256x352, .f32⟩
  | .local _ .vmem, ⟨1, _⟩ => ⟨S256x352, .f32⟩
  | .local _ .vmem, ⟨2, _⟩ => ⟨S256x352, .f32⟩
  | .local _ .vmem, ⟨3, _⟩ => ⟨S256x352, .f32⟩
  | .local _ .vmem, ⟨4, _⟩ => ⟨S256x352, .f32⟩
  | .local _ .vmem, ⟨5, _⟩ => ⟨S256x352, .f32⟩
  | .local _ .vmem, ⟨6, _⟩ => ⟨S256x352, .f32⟩
  | .local _ .vmem, ⟨7, _⟩ => ⟨S256x352, .f32⟩
  | .local _ .vmem, ⟨8, _⟩ => ⟨S256x352, .f32⟩
  | .local _ .vmem, ⟨9, _⟩ => ⟨S256x352, .f32⟩
  | .local _ .vmem, ⟨10, _⟩ => ⟨S256x352, .f32⟩
  | .local _ .vmem, ⟨11, _⟩ => ⟨S256x352, .f32⟩
  | .local _ .vmem, ⟨12, _⟩ => ⟨S256x352, .f32⟩
  | .local _ .vmem, ⟨13, _⟩ => ⟨S256x352, .f32⟩
  | _, _ => ⟨S2048x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x352 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x352 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x352 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x352 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x352 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x352 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x352 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpGateRefIdeal.lean ====
abbrev S2048x352 : Shape := ⟨2, ![2048, 352]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x352, .f32⟩
  | .hbm, ⟨1, _⟩ => ⟨S2048x352, .f32⟩
  | .hbm, ⟨2, _⟩ => ⟨S2048x352, .f32⟩
  | .hbm, ⟨3, _⟩ => ⟨S2048x352, .f32⟩
  | .hbm, ⟨4, _⟩ => ⟨S_, .f32⟩
  | .hbm, ⟨5, _⟩ => ⟨S2048x352, .f32⟩
  | .hbm, ⟨6, _⟩ => ⟨S2048x352, .f32⟩
  | .hbm, ⟨7, _⟩ => ⟨S_, .f32⟩
  | .hbm, ⟨8, _⟩ => ⟨S2048x352, .f32⟩
  | .hbm, ⟨9, _⟩ => ⟨S2048x352, .f32⟩
  | .hbm, ⟨10, _⟩ => ⟨S2048x352, .f32⟩
  | .hbm, ⟨11, _⟩ => ⟨S_, .f32⟩
  | .hbm, ⟨12, _⟩ => ⟨S2048x352, .f32⟩
  | .hbm, ⟨13, _⟩ => ⟨S2048x352, .f32⟩
  | .hbm, ⟨14, _⟩ => ⟨S2048x352, .f32⟩
  | .hbm, ⟨15, _⟩ => ⟨S_, .f32⟩
  | .hbm, ⟨16, _⟩ => ⟨S2048x352, .f32⟩
  | .hbm, ⟨17, _⟩ => ⟨S2048x352, .f32⟩
  | .hbm, ⟨18, _⟩ => ⟨S2048x352, .f32⟩
  | .hbm, ⟨19, _⟩ => ⟨S_, .f32⟩
  | .hbm, ⟨20, _⟩ => ⟨S2048x352, .f32⟩
  | .hbm, ⟨21, _⟩ => ⟨S2048x352, .f32⟩
  | .hbm, ⟨22, _⟩ => ⟨S_, .f32⟩
  | .hbm, ⟨23, _⟩ => ⟨S2048x352, .f32⟩
  | .hbm, ⟨24, _⟩ => ⟨S2048x352, .f32⟩
  | .hbm, ⟨25, _⟩ => ⟨S2048x352, .f32⟩
  | .hbm, ⟨26, _⟩ => ⟨S_, .f32⟩
  | .hbm, ⟨27, _⟩ => ⟨S2048x352, .f32⟩
  | .hbm, ⟨28, _⟩ => ⟨S2048x352, .f32⟩
  | .hbm, ⟨29, _⟩ => ⟨S2048x352, .f32⟩
  | .hbm, ⟨30, _⟩ => ⟨S_, .f32⟩
  | .hbm, ⟨31, _⟩ => ⟨S2048x352, .f32⟩
  | .hbm, ⟨32, _⟩ => ⟨S2048x352, .f32⟩
  | .hbm, ⟨33, _⟩ => ⟨S2048x352, .f32⟩
  | .hbm, ⟨34, _⟩ => ⟨S_, .f32⟩
  | .hbm, ⟨35, _⟩ => ⟨S2048x352, .f32⟩
  | .hbm, ⟨36, _⟩ => ⟨S2048x352, .f32⟩
  | _, _ => ⟨S2048x352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UpDown.lean ====
abbrev S704x1024 : Shape := ⟨2, ![704, 1024]⟩
abbrev S176x1024 : Shape := ⟨2, ![176, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpDownIdeal.lean ====
abbrev S704x1024 : Shape := ⟨2, ![704, 1024]⟩
abbrev S176x1024 : Shape := ⟨2, ![176, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpDownRefIdeal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UpIn.lean ====
abbrev S2048x212 : Shape := ⟨2, ![2048, 212]⟩
abbrev S256x212 : Shape := ⟨2, ![256, 212]⟩

abbrev nBuf : Space → Nat
  | .hbm => 7
  | .vmem => 14
  | .smem => 0
  | _ => 0

abbrev bufTy : (tb : Table) → Fin (tcTables nBuf tb) → BufTy
  | .hbm, ⟨0, _⟩ => ⟨S2048x212, .f32⟩
  | .hbm, ⟨1, _⟩ => ⟨S2048x212, .f32⟩
  | .hbm, ⟨2, _⟩ => ⟨S2048x212, .f32⟩
  | .hbm, ⟨3, _⟩ => ⟨S2048x212, .f32⟩
  | .hbm, ⟨4, _⟩ => ⟨S2048x212, .f32⟩
  | .hbm, ⟨5, _⟩ => ⟨S2048x212, .f32⟩
  | .hbm, ⟨6, _⟩ => ⟨S2048x212, .f32⟩
  | .local _ .vmem, ⟨0, _⟩ => ⟨S256x212, .f32⟩
  | .local _ .vmem, ⟨1, _⟩ => ⟨S256x212, .f32⟩
  | .local _ .vmem, ⟨2, _⟩ => ⟨S256x212, .f32⟩
  | .local _ .vmem, ⟨3, _⟩ => ⟨S256x212, .f32⟩
  | .local _ .vmem, ⟨4, _⟩ => ⟨S256x212, .f32⟩
  | .local _ .vmem, ⟨5, _⟩ => ⟨S256x212, .f32⟩
  | .local _ .vmem, ⟨6, _⟩ => ⟨S256x212, .f32⟩
  | .local _ .vmem, ⟨7, _⟩ => ⟨S256x212, .f32⟩
  | .local _ .vmem, ⟨8, _⟩ => ⟨S256x212, .f32⟩
  | .local _ .vmem, ⟨9, _⟩ => ⟨S256x212, .f32⟩
  | .local _ .vmem, ⟨10, _⟩ => ⟨S256x212, .f32⟩
  | .local _ .vmem, ⟨11, _⟩ => ⟨S256x212, .f32⟩
  | .local _ .vmem, ⟨12, _⟩ => ⟨S256x212, .f32⟩
  | .local _ .vmem, ⟨13, _⟩ => ⟨S256x212, .f32⟩
  | _, _ => ⟨S2048x212, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x212 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x212 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x212 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x212 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x212 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x212 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x212 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpInIdeal.lean ====
abbrev S2048x212 : Shape := ⟨2, ![2048, 212]⟩
abbrev S256x212 : Shape := ⟨2, ![256, 212]⟩

abbrev nBuf : Space → Nat
  | .hbm => 7
  | .vmem => 14
  | .smem => 0
  | _ => 0

abbrev bufTy : (tb : Table) → Fin (tcTables nBuf tb) → BufTy
  | .hbm, ⟨0, _⟩ => ⟨S2048x212, .f32⟩
  | .hbm, ⟨1, _⟩ => ⟨S2048x212, .f32⟩
  | .hbm, ⟨2, _⟩ => ⟨S2048x212, .f32⟩
  | .hbm, ⟨3, _⟩ => ⟨S2048x212, .f32⟩
  | .hbm, ⟨4, _⟩ => ⟨S2048x212, .f32⟩
  | .hbm, ⟨5, _⟩ => ⟨S2048x212, .f32⟩
  | .hbm, ⟨6, _⟩ => ⟨S2048x212, .f32⟩
  | .local _ .vmem, ⟨0, _⟩ => ⟨S256x212, .f32⟩
  | .local _ .vmem, ⟨1, _⟩ => ⟨S256x212, .f32⟩
  | .local _ .vmem, ⟨2, _⟩ => ⟨S256x212, .f32⟩
  | .local _ .vmem, ⟨3, _⟩ => ⟨S256x212, .f32⟩
  | .local _ .vmem, ⟨4, _⟩ => ⟨S256x212, .f32⟩
  | .local _ .vmem, ⟨5, _⟩ => ⟨S256x212, .f32⟩
  | .local _ .vmem, ⟨6, _⟩ => ⟨S256x212, .f32⟩
  | .local _ .vmem, ⟨7, _⟩ => ⟨S256x212, .f32⟩
  | .local _ .vmem, ⟨8, _⟩ => ⟨S256x212, .f32⟩
  | .local _ .vmem, ⟨9, _⟩ => ⟨S256x212, .f32⟩
  | .local _ .vmem, ⟨10, _⟩ => ⟨S256x212, .f32⟩
  | .local _ .vmem, ⟨11, _⟩ => ⟨S256x212, .f32⟩
  | .local _ .vmem, ⟨12, _⟩ => ⟨S256x212, .f32⟩
  | .local _ .vmem, ⟨13, _⟩ => ⟨S256x212, .f32⟩
  | _, _ => ⟨S2048x212, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x212 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x212 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x212 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x212 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x212 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x212 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x212 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpInRefIdeal.lean ====
abbrev S2048x212 : Shape := ⟨2, ![2048, 212]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x212, .f32⟩
  | .hbm, ⟨1, _⟩ => ⟨S2048x212, .f32⟩
  | .hbm, ⟨2, _⟩ => ⟨S2048x212, .f32⟩
  | .hbm, ⟨3, _⟩ => ⟨S2048x212, .f32⟩
  | .hbm, ⟨4, _⟩ => ⟨S_, .f32⟩
  | .hbm, ⟨5, _⟩ => ⟨S2048x212, .f32⟩
  | .hbm, ⟨6, _⟩ => ⟨S2048x212, .f32⟩
  | .hbm, ⟨7, _⟩ => ⟨S_, .f32⟩
  | .hbm, ⟨8, _⟩ => ⟨S2048x212, .f32⟩
  | .hbm, ⟨9, _⟩ => ⟨S2048x212, .f32⟩
  | .hbm, ⟨10, _⟩ => ⟨S2048x212, .f32⟩
  | .hbm, ⟨11, _⟩ => ⟨S_, .f32⟩
  | .hbm, ⟨12, _⟩ => ⟨S2048x212, .f32⟩
  | .hbm, ⟨13, _⟩ => ⟨S2048x212, .f32⟩
  | .hbm, ⟨14, _⟩ => ⟨S2048x212, .f32⟩
  | .hbm, ⟨15, _⟩ => ⟨S_, .f32⟩
  | .hbm, ⟨16, _⟩ => ⟨S2048x212, .f32⟩
  | .hbm, ⟨17, _⟩ => ⟨S2048x212, .f32⟩
  | .hbm, ⟨18, _⟩ => ⟨S2048x212, .f32⟩
  | .hbm, ⟨19, _⟩ => ⟨S_, .f32⟩
  | .hbm, ⟨20, _⟩ => ⟨S2048x212, .f32⟩
  | .hbm, ⟨21, _⟩ => ⟨S2048x212, .f32⟩
  | .hbm, ⟨22, _⟩ => ⟨S_, .f32⟩
  | .hbm, ⟨23, _⟩ => ⟨S2048x212, .f32⟩
  | .hbm, ⟨24, _⟩ => ⟨S2048x212, .f32⟩
  | .hbm, ⟨25, _⟩ => ⟨S2048x212, .f32⟩
  | .hbm, ⟨26, _⟩ => ⟨S_, .f32⟩
  | .hbm, ⟨27, _⟩ => ⟨S2048x212, .f32⟩
  | .hbm, ⟨28, _⟩ => ⟨S2048x212, .f32⟩
  | .hbm, ⟨29, _⟩ => ⟨S2048x212, .f32⟩
  | .hbm, ⟨30, _⟩ => ⟨S_, .f32⟩
  | .hbm, ⟨31, _⟩ => ⟨S2048x212, .f32⟩
  | .hbm, ⟨32, _⟩ => ⟨S2048x212, .f32⟩
  | .hbm, ⟨33, _⟩ => ⟨S2048x212, .f32⟩
  | .hbm, ⟨34, _⟩ => ⟨S_, .f32⟩
  | .hbm, ⟨35, _⟩ => ⟨S2048x212, .f32⟩
  | .hbm, ⟨36, _⟩ => ⟨S2048x212, .f32⟩
  | _, _ => ⟨S2048x212, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UpUq.lean ====
abbrev S768x96 : Shape := ⟨2, ![768, 96]⟩
abbrev S256x96 : Shape := ⟨2, ![256, 96]⟩

abbrev nBuf : Space → Nat
  | .hbm => 7
  | .vmem => 14
  | .smem => 0
  | _ => 0

abbrev bufTy : (tb : Table) → Fin (tcTables nBuf tb) → BufTy
  | .hbm, ⟨0, _⟩ => ⟨S768x96, .f32⟩
  | .hbm, ⟨1, _⟩ => ⟨S768x96, .f32⟩
  | .hbm, ⟨2, _⟩ => ⟨S768x96, .f32⟩
  | .hbm, ⟨3, _⟩ => ⟨S768x96, .f32⟩
  | .hbm, ⟨4, _⟩ => ⟨S768x96, .f32⟩
  | .hbm, ⟨5, _⟩ => ⟨S768x96, .f32⟩
  | .hbm, ⟨6, _⟩ => ⟨S768x96, .f32⟩
  | .local _ .vmem, ⟨0, _⟩ => ⟨S256x96, .f32⟩
  | .local _ .vmem, ⟨1, _⟩ => ⟨S256x96, .f32⟩
  | .local _ .vmem, ⟨2, _⟩ => ⟨S256x96, .f32⟩
  | .local _ .vmem, ⟨3, _⟩ => ⟨S256x96, .f32⟩
  | .local _ .vmem, ⟨4, _⟩ => ⟨S256x96, .f32⟩
  | .local _ .vmem, ⟨5, _⟩ => ⟨S256x96, .f32⟩
  | .local _ .vmem, ⟨6, _⟩ => ⟨S256x96, .f32⟩
  | .local _ .vmem, ⟨7, _⟩ => ⟨S256x96, .f32⟩
  | .local _ .vmem, ⟨8, _⟩ => ⟨S256x96, .f32⟩
  | .local _ .vmem, ⟨9, _⟩ => ⟨S256x96, .f32⟩
  | .local _ .vmem, ⟨10, _⟩ => ⟨S256x96, .f32⟩
  | .local _ .vmem, ⟨11, _⟩ => ⟨S256x96, .f32⟩
  | .local _ .vmem, ⟨12, _⟩ => ⟨S256x96, .f32⟩
  | .local _ .vmem, ⟨13, _⟩ => ⟨S256x96, .f32⟩
  | _, _ => ⟨S768x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x96 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x96 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x96 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpUqIdeal.lean ====
abbrev S768x96 : Shape := ⟨2, ![768, 96]⟩
abbrev S256x96 : Shape := ⟨2, ![256, 96]⟩

abbrev nBuf : Space → Nat
  | .hbm => 7
  | .vmem => 14
  | .smem => 0
  | _ => 0

abbrev bufTy : (tb : Table) → Fin (tcTables nBuf tb) → BufTy
  | .hbm, ⟨0, _⟩ => ⟨S768x96, .f32⟩
  | .hbm, ⟨1, _⟩ => ⟨S768x96, .f32⟩
  | .hbm, ⟨2, _⟩ => ⟨S768x96, .f32⟩
  | .hbm, ⟨3, _⟩ => ⟨S768x96, .f32⟩
  | .hbm, ⟨4, _⟩ => ⟨S768x96, .f32⟩
  | .hbm, ⟨5, _⟩ => ⟨S768x96, .f32⟩
  | .hbm, ⟨6, _⟩ => ⟨S768x96, .f32⟩
  | .local _ .vmem, ⟨0, _⟩ => ⟨S256x96, .f32⟩
  | .local _ .vmem, ⟨1, _⟩ => ⟨S256x96, .f32⟩
  | .local _ .vmem, ⟨2, _⟩ => ⟨S256x96, .f32⟩
  | .local _ .vmem, ⟨3, _⟩ => ⟨S256x96, .f32⟩
  | .local _ .vmem, ⟨4, _⟩ => ⟨S256x96, .f32⟩
  | .local _ .vmem, ⟨5, _⟩ => ⟨S256x96, .f32⟩
  | .local _ .vmem, ⟨6, _⟩ => ⟨S256x96, .f32⟩
  | .local _ .vmem, ⟨7, _⟩ => ⟨S256x96, .f32⟩
  | .local _ .vmem, ⟨8, _⟩ => ⟨S256x96, .f32⟩
  | .local _ .vmem, ⟨9, _⟩ => ⟨S256x96, .f32⟩
  | .local _ .vmem, ⟨10, _⟩ => ⟨S256x96, .f32⟩
  | .local _ .vmem, ⟨11, _⟩ => ⟨S256x96, .f32⟩
  | .local _ .vmem, ⟨12, _⟩ => ⟨S256x96, .f32⟩
  | .local _ .vmem, ⟨13, _⟩ => ⟨S256x96, .f32⟩
  | _, _ => ⟨S768x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x96 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x96 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x96 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpUqRefIdeal.lean ====
abbrev S768x96 : Shape := ⟨2, ![768, 96]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S768x96, .f32⟩
  | .hbm, ⟨1, _⟩ => ⟨S768x96, .f32⟩
  | .hbm, ⟨2, _⟩ => ⟨S768x96, .f32⟩
  | .hbm, ⟨3, _⟩ => ⟨S768x96, .f32⟩
  | .hbm, ⟨4, _⟩ => ⟨S_, .f32⟩
  | .hbm, ⟨5, _⟩ => ⟨S768x96, .f32⟩
  | .hbm, ⟨6, _⟩ => ⟨S768x96, .f32⟩
  | .hbm, ⟨7, _⟩ => ⟨S_, .f32⟩
  | .hbm, ⟨8, _⟩ => ⟨S768x96, .f32⟩
  | .hbm, ⟨9, _⟩ => ⟨S768x96, .f32⟩
  | .hbm, ⟨10, _⟩ => ⟨S768x96, .f32⟩
  | .hbm, ⟨11, _⟩ => ⟨S_, .f32⟩
  | .hbm, ⟨12, _⟩ => ⟨S768x96, .f32⟩
  | .hbm, ⟨13, _⟩ => ⟨S768x96, .f32⟩
  | .hbm, ⟨14, _⟩ => ⟨S768x96, .f32⟩
  | .hbm, ⟨15, _⟩ => ⟨S_, .f32⟩
  | .hbm, ⟨16, _⟩ => ⟨S768x96, .f32⟩
  | .hbm, ⟨17, _⟩ => ⟨S768x96, .f32⟩
  | .hbm, ⟨18, _⟩ => ⟨S768x96, .f32⟩
  | .hbm, ⟨19, _⟩ => ⟨S_, .f32⟩
  | .hbm, ⟨20, _⟩ => ⟨S768x96, .f32⟩
  | .hbm, ⟨21, _⟩ => ⟨S768x96, .f32⟩
  | .hbm, ⟨22, _⟩ => ⟨S_, .f32⟩
  | .hbm, ⟨23, _⟩ => ⟨S768x96, .f32⟩
  | .hbm, ⟨24, _⟩ => ⟨S768x96, .f32⟩
  | .hbm, ⟨25, _⟩ => ⟨S768x96, .f32⟩
  | .hbm, ⟨26, _⟩ => ⟨S_, .f32⟩
  | .hbm, ⟨27, _⟩ => ⟨S768x96, .f32⟩
  | .hbm, ⟨28, _⟩ => ⟨S768x96, .f32⟩
  | .hbm, ⟨29, _⟩ => ⟨S768x96, .f32⟩
  | .hbm, ⟨30, _⟩ => ⟨S_, .f32⟩
  | .hbm, ⟨31, _⟩ => ⟨S768x96, .f32⟩
  | .hbm, ⟨32, _⟩ => ⟨S768x96, .f32⟩
  | .hbm, ⟨33, _⟩ => ⟨S768x96, .f32⟩
  | .hbm, ⟨34, _⟩ => ⟨S_, .f32⟩
  | .hbm, ⟨35, _⟩ => ⟨S768x96, .f32⟩
  | .hbm, ⟨36, _⟩ => ⟨S768x96, .f32⟩
  | _, _ => ⟨S768x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UpUkv.lean ====
abbrev S512x128 : Shape := ⟨2, ![512, 128]⟩
abbrev S256x128 : Shape := ⟨2, ![256, 128]⟩

abbrev nBuf : Space → Nat
  | .hbm => 7
  | .vmem => 14
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpUkvIdeal.lean ====
abbrev S512x128 : Shape := ⟨2, ![512, 128]⟩
abbrev S256x128 : Shape := ⟨2, ![256, 128]⟩

abbrev nBuf : Space → Nat
  | .hbm => 7
  | .vmem => 14
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpUkvRefIdeal.lean ====
abbrev S512x128 : Shape := ⟨2, ![512, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S_, .f32⟩
  | .hbm, ⟨5, _⟩ => ⟨S512x128, .f32⟩
  | .hbm, ⟨6, _⟩ => ⟨S512x128, .f32⟩
  | .hbm, ⟨7, _⟩ => ⟨S_, .f32⟩
  | .hbm, ⟨8, _⟩ => ⟨S512x128, .f32⟩
  | .hbm, ⟨9, _⟩ => ⟨S512x128, .f32⟩
  | .hbm, ⟨10, _⟩ => ⟨S512x128, .f32⟩
  | .hbm, ⟨11, _⟩ => ⟨S_, .f32⟩
  | .hbm, ⟨12, _⟩ => ⟨S512x128, .f32⟩
  | .hbm, ⟨13, _⟩ => ⟨S512x128, .f32⟩
  | .hbm, ⟨14, _⟩ => ⟨S512x128, .f32⟩
  | .hbm, ⟨15, _⟩ => ⟨S_, .f32⟩
  | .hbm, ⟨16, _⟩ => ⟨S512x128, .f32⟩
  | .hbm, ⟨17, _⟩ => ⟨S512x128, .f32⟩
  | .hbm, ⟨18, _⟩ => ⟨S512x128, .f32⟩
  | .hbm, ⟨19, _⟩ => ⟨S_, .f32⟩
  | .hbm, ⟨20, _⟩ => ⟨S512x128, .f32⟩
  | .hbm, ⟨21, _⟩ => ⟨S512x128, .f32⟩
  | .hbm, ⟨22, _⟩ => ⟨S_, .f32⟩
  | .hbm, ⟨23, _⟩ => ⟨S512x128, .f32⟩
  | .hbm, ⟨24, _⟩ => ⟨S512x128, .f32⟩
  | .hbm, ⟨25, _⟩ => ⟨S512x128, .f32⟩
  | .hbm, ⟨26, _⟩ => ⟨S_, .f32⟩
  | .hbm, ⟨27, _⟩ => ⟨S512x128, .f32⟩
  | .hbm, ⟨28, _⟩ => ⟨S512x128, .f32⟩
  | .hbm, ⟨29, _⟩ => ⟨S512x128, .f32⟩
  | .hbm, ⟨30, _⟩ => ⟨S_, .f32⟩
  | .hbm, ⟨31, _⟩ => ⟨S512x128, .f32⟩
  | .hbm, ⟨32, _⟩ => ⟨S512x128, .f32⟩
  | .hbm, ⟨33, _⟩ => ⟨S512x128, .f32⟩
  | .hbm, ⟨34, _⟩ => ⟨S_, .f32⟩
  | .hbm, ⟨35, _⟩ => ⟨S512x128, .f32⟩
  | .hbm, ⟨36, _⟩ => ⟨S512x128, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UpOut.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpOutIdeal.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpOutRefIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UpConv.lean ====
abbrev S62x64 : Shape := ⟨2, ![62, 64]⟩

abbrev nBuf : Space → Nat
  | .hbm => 7
  | .vmem => 7
  | .smem => 0
  | _ => 0

abbrev bufTy : (tb : Table) → Fin (tcTables nBuf tb) → BufTy
  | .hbm, ⟨0, _⟩ => ⟨S62x64, .f32⟩
  | .hbm, ⟨1, _⟩ => ⟨S62x64, .f32⟩
  | .hbm, ⟨2, _⟩ => ⟨S62x64, .f32⟩
  | .hbm, ⟨3, _⟩ => ⟨S62x64, .f32⟩
  | .hbm, ⟨4, _⟩ => ⟨S62x64, .f32⟩
  | .hbm, ⟨5, _⟩ => ⟨S62x64, .f32⟩
  | .hbm, ⟨6, _⟩ => ⟨S62x64, .f32⟩
  | .local _ .vmem, ⟨0, _⟩ => ⟨S62x64, .f32⟩
  | .local _ .vmem, ⟨1, _⟩ => ⟨S62x64, .f32⟩
  | .local _ .vmem, ⟨2, _⟩ => ⟨S62x64, .f32⟩
  | .local _ .vmem, ⟨3, _⟩ => ⟨S62x64, .f32⟩
  | .local _ .vmem, ⟨4, _⟩ => ⟨S62x64, .f32⟩
  | .local _ .vmem, ⟨5, _⟩ => ⟨S62x64, .f32⟩
  | .local _ .vmem, ⟨6, _⟩ => ⟨S62x64, .f32⟩
  | _, _ => ⟨S62x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S62x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S62x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S62x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S62x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S62x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S62x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S62x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpConvIdeal.lean ====
abbrev S62x64 : Shape := ⟨2, ![62, 64]⟩

abbrev nBuf : Space → Nat
  | .hbm => 7
  | .vmem => 7
  | .smem => 0
  | _ => 0

abbrev bufTy : (tb : Table) → Fin (tcTables nBuf tb) → BufTy
  | .hbm, ⟨0, _⟩ => ⟨S62x64, .f32⟩
  | .hbm, ⟨1, _⟩ => ⟨S62x64, .f32⟩
  | .hbm, ⟨2, _⟩ => ⟨S62x64, .f32⟩
  | .hbm, ⟨3, _⟩ => ⟨S62x64, .f32⟩
  | .hbm, ⟨4, _⟩ => ⟨S62x64, .f32⟩
  | .hbm, ⟨5, _⟩ => ⟨S62x64, .f32⟩
  | .hbm, ⟨6, _⟩ => ⟨S62x64, .f32⟩
  | .local _ .vmem, ⟨0, _⟩ => ⟨S62x64, .f32⟩
  | .local _ .vmem, ⟨1, _⟩ => ⟨S62x64, .f32⟩
  | .local _ .vmem, ⟨2, _⟩ => ⟨S62x64, .f32⟩
  | .local _ .vmem, ⟨3, _⟩ => ⟨S62x64, .f32⟩
  | .local _ .vmem, ⟨4, _⟩ => ⟨S62x64, .f32⟩
  | .local _ .vmem, ⟨5, _⟩ => ⟨S62x64, .f32⟩
  | .local _ .vmem, ⟨6, _⟩ => ⟨S62x64, .f32⟩
  | _, _ => ⟨S62x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S62x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S62x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S62x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S62x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S62x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S62x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S62x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpConvRefIdeal.lean ====
abbrev S62x64 : Shape := ⟨2, ![62, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S62x64, .f32⟩
  | .hbm, ⟨1, _⟩ => ⟨S62x64, .f32⟩
  | .hbm, ⟨2, _⟩ => ⟨S62x64, .f32⟩
  | .hbm, ⟨3, _⟩ => ⟨S62x64, .f32⟩
  | .hbm, ⟨4, _⟩ => ⟨S_, .f32⟩
  | .hbm, ⟨5, _⟩ => ⟨S62x64, .f32⟩
  | .hbm, ⟨6, _⟩ => ⟨S62x64, .f32⟩
  | .hbm, ⟨7, _⟩ => ⟨S_, .f32⟩
  | .hbm, ⟨8, _⟩ => ⟨S62x64, .f32⟩
  | .hbm, ⟨9, _⟩ => ⟨S62x64, .f32⟩
  | .hbm, ⟨10, _⟩ => ⟨S62x64, .f32⟩
  | .hbm, ⟨11, _⟩ => ⟨S_, .f32⟩
  | .hbm, ⟨12, _⟩ => ⟨S62x64, .f32⟩
  | .hbm, ⟨13, _⟩ => ⟨S62x64, .f32⟩
  | .hbm, ⟨14, _⟩ => ⟨S62x64, .f32⟩
  | .hbm, ⟨15, _⟩ => ⟨S_, .f32⟩
  | .hbm, ⟨16, _⟩ => ⟨S62x64, .f32⟩
  | .hbm, ⟨17, _⟩ => ⟨S62x64, .f32⟩
  | .hbm, ⟨18, _⟩ => ⟨S62x64, .f32⟩
  | .hbm, ⟨19, _⟩ => ⟨S_, .f32⟩
  | .hbm, ⟨20, _⟩ => ⟨S62x64, .f32⟩
  | .hbm, ⟨21, _⟩ => ⟨S62x64, .f32⟩
  | .hbm, ⟨22, _⟩ => ⟨S_, .f32⟩
  | .hbm, ⟨23, _⟩ => ⟨S62x64, .f32⟩
  | .hbm, ⟨24, _⟩ => ⟨S62x64, .f32⟩
  | .hbm, ⟨25, _⟩ => ⟨S62x64, .f32⟩
  | .hbm, ⟨26, _⟩ => ⟨S_, .f32⟩
  | .hbm, ⟨27, _⟩ => ⟨S62x64, .f32⟩
  | .hbm, ⟨28, _⟩ => ⟨S62x64, .f32⟩
  | .hbm, ⟨29, _⟩ => ⟨S62x64, .f32⟩
  | .hbm, ⟨30, _⟩ => ⟨S_, .f32⟩
  | .hbm, ⟨31, _⟩ => ⟨S62x64, .f32⟩
  | .hbm, ⟨32, _⟩ => ⟨S62x64, .f32⟩
  | .hbm, ⟨33, _⟩ => ⟨S62x64, .f32⟩
  | .hbm, ⟨34, _⟩ => ⟨S_, .f32⟩
  | .hbm, ⟨35, _⟩ => ⟨S62x64, .f32⟩
  | .hbm, ⟨36, _⟩ => ⟨S62x64, .f32⟩
  | _, _ => ⟨S62x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UpVectors.lean ====
abbrev S101x128 : Shape := ⟨2, ![101, 128]⟩

abbrev nBuf : Space → Nat
  | .hbm => 7
  | .vmem => 7
  | .smem => 0
  | _ => 0

abbrev bufTy : (tb : Table) → Fin (tcTables nBuf tb) → BufTy
  | .hbm, ⟨0, _⟩ => ⟨S101x128, .f32⟩
  | .hbm, ⟨1, _⟩ => ⟨S101x128, .f32⟩
  | .hbm, ⟨2, _⟩ => ⟨S101x128, .f32⟩
  | .hbm, ⟨3, _⟩ => ⟨S101x128, .f32⟩
  | .hbm, ⟨4, _⟩ => ⟨S101x128, .f32⟩
  | .hbm, ⟨5, _⟩ => ⟨S101x128, .f32⟩
  | .hbm, ⟨6, _⟩ => ⟨S101x128, .f32⟩
  | .local _ .vmem, ⟨0, _⟩ => ⟨S101x128, .f32⟩
  | .local _ .vmem, ⟨1, _⟩ => ⟨S101x128, .f32⟩
  | .local _ .vmem, ⟨2, _⟩ => ⟨S101x128, .f32⟩
  | .local _ .vmem, ⟨3, _⟩ => ⟨S101x128, .f32⟩
  | .local _ .vmem, ⟨4, _⟩ => ⟨S101x128, .f32⟩
  | .local _ .vmem, ⟨5, _⟩ => ⟨S101x128, .f32⟩
  | .local _ .vmem, ⟨6, _⟩ => ⟨S101x128, .f32⟩
  | _, _ => ⟨S101x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S101x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S101x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S101x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S101x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S101x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S101x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S101x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpVectorsRefIdeal.lean ====
abbrev S101x128 : Shape := ⟨2, ![101, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S101x128, .f32⟩
  | .hbm, ⟨1, _⟩ => ⟨S101x128, .f32⟩
  | .hbm, ⟨2, _⟩ => ⟨S101x128, .f32⟩
  | .hbm, ⟨3, _⟩ => ⟨S101x128, .f32⟩
  | .hbm, ⟨4, _⟩ => ⟨S_, .f32⟩
  | .hbm, ⟨5, _⟩ => ⟨S101x128, .f32⟩
  | .hbm, ⟨6, _⟩ => ⟨S101x128, .f32⟩
  | .hbm, ⟨7, _⟩ => ⟨S_, .f32⟩
  | .hbm, ⟨8, _⟩ => ⟨S101x128, .f32⟩
  | .hbm, ⟨9, _⟩ => ⟨S101x128, .f32⟩
  | .hbm, ⟨10, _⟩ => ⟨S101x128, .f32⟩
  | .hbm, ⟨11, _⟩ => ⟨S_, .f32⟩
  | .hbm, ⟨12, _⟩ => ⟨S101x128, .f32⟩
  | .hbm, ⟨13, _⟩ => ⟨S101x128, .f32⟩
  | .hbm, ⟨14, _⟩ => ⟨S101x128, .f32⟩
  | .hbm, ⟨15, _⟩ => ⟨S_, .f32⟩
  | .hbm, ⟨16, _⟩ => ⟨S101x128, .f32⟩
  | .hbm, ⟨17, _⟩ => ⟨S101x128, .f32⟩
  | .hbm, ⟨18, _⟩ => ⟨S101x128, .f32⟩
  | .hbm, ⟨19, _⟩ => ⟨S_, .f32⟩
  | .hbm, ⟨20, _⟩ => ⟨S101x128, .f32⟩
  | .hbm, ⟨21, _⟩ => ⟨S101x128, .f32⟩
  | .hbm, ⟨22, _⟩ => ⟨S_, .f32⟩
  | .hbm, ⟨23, _⟩ => ⟨S101x128, .f32⟩
  | .hbm, ⟨24, _⟩ => ⟨S101x128, .f32⟩
  | .hbm, ⟨25, _⟩ => ⟨S101x128, .f32⟩
  | .hbm, ⟨26, _⟩ => ⟨S_, .f32⟩
  | .hbm, ⟨27, _⟩ => ⟨S101x128, .f32⟩
  | .hbm, ⟨28, _⟩ => ⟨S101x128, .f32⟩
  | .hbm, ⟨29, _⟩ => ⟨S101x128, .f32⟩
  | .hbm, ⟨30, _⟩ => ⟨S_, .f32⟩
  | .hbm, ⟨31, _⟩ => ⟨S101x128, .f32⟩
  | .hbm, ⟨32, _⟩ => ⟨S101x128, .f32⟩
  | .hbm, ⟨33, _⟩ => ⟨S101x128, .f32⟩
  | .hbm, ⟨34, _⟩ => ⟨S_, .f32⟩
  | .hbm, ⟨35, _⟩ => ⟨S101x128, .f32⟩
  | .hbm, ⟨36, _⟩ => ⟨S101x128, .f32⟩
  | _, _ => ⟨S101x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Small.lean ====
abbrev S352x128 : Shape := ⟨2, ![352, 128]⟩
abbrev S176x128 : Shape := ⟨2, ![176, 128]⟩

abbrev nBuf : Space → Nat
  | .hbm => 9
  | .vmem => 18
  | .smem => 0
  | _ => 0

abbrev bufTy : (tb : Table) → Fin (tcTables nBuf tb) → BufTy
  | .hbm, ⟨0, _⟩ => ⟨S352x128, .f32⟩
  | .hbm, ⟨1, _⟩ => ⟨S352x128, .f32⟩
  | .hbm, ⟨2, _⟩ => ⟨S352x128, .f32⟩
  | .hbm, ⟨3, _⟩ => ⟨S352x128, .f32⟩
  | .hbm, ⟨4, _⟩ => ⟨S352x128, .f32⟩
  | .hbm, ⟨5, _⟩ => ⟨S352x128, .f32⟩
  | .hbm, ⟨6, _⟩ => ⟨S352x128, .f32⟩
  | .hbm, ⟨7, _⟩ => ⟨S352x128, .f32⟩
  | .hbm, ⟨8, _⟩ => ⟨S352x128, .f32⟩
  | .local _ .vmem, ⟨0, _⟩ => ⟨S176x128, .f32⟩
  | .local _ .vmem, ⟨1, _⟩ => ⟨S176x128, .f32⟩
  | .local _ .vmem, ⟨2, _⟩ => ⟨S176x128, .f32⟩
  | .local _ .vmem, ⟨3, _⟩ => ⟨S176x128, .f32⟩
  | .local _ .vmem, ⟨4, _⟩ => ⟨S176x128, .f32⟩
  | .local _ .vmem, ⟨5, _⟩ => ⟨S176x128, .f32⟩
  | .local _ .vmem, ⟨6, _⟩ => ⟨S176x128, .f32⟩
  | .local _ .vmem, ⟨7, _⟩ => ⟨S176x128, .f32⟩
  | .local _ .vmem, ⟨8, _⟩ => ⟨S176x128, .f32⟩
  | .local _ .vmem, ⟨9, _⟩ => ⟨S176x128, .f32⟩
  | .local _ .vmem, ⟨10, _⟩ => ⟨S176x128, .f32⟩
  | .local _ .vmem, ⟨11, _⟩ => ⟨S176x128, .f32⟩
  | .local _ .vmem, ⟨12, _⟩ => ⟨S176x128, .f32⟩
  | .local _ .vmem, ⟨13, _⟩ => ⟨S176x128, .f32⟩
  | .local _ .vmem, ⟨14, _⟩ => ⟨S176x128, .f32⟩
  | .local _ .vmem, ⟨15, _⟩ => ⟨S176x128, .f32⟩
  | .local _ .vmem, ⟨16, _⟩ => ⟨S176x128, .f32⟩
  | .local _ .vmem, ⟨17, _⟩ => ⟨S176x128, .f32⟩
  | _, _ => ⟨S352x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== SmallRefIdeal.lean ====
abbrev S352x128 : Shape := ⟨2, ![352, 128]⟩
abbrev S1x352x128 : Shape := ⟨3, ![1, 352, 128]⟩
abbrev S8x352x128 : Shape := ⟨3, ![8, 352, 128]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S352x128, .f32⟩
  | .hbm, ⟨1, _⟩ => ⟨S352x128, .f32⟩
  | .hbm, ⟨2, _⟩ => ⟨S352x128, .f32⟩
  | .hbm, ⟨3, _⟩ => ⟨S352x128, .f32⟩
  | .hbm, ⟨4, _⟩ => ⟨S352x128, .f32⟩
  | .hbm, ⟨5, _⟩ => ⟨S352x128, .f32⟩
  | .hbm, ⟨6, _⟩ => ⟨S352x128, .f32⟩
  | .hbm, ⟨7, _⟩ => ⟨S352x128, .f32⟩
  | .hbm, ⟨8, _⟩ => ⟨S1x352x128, .f32⟩
  | .hbm, ⟨9, _⟩ => ⟨S1x352x128, .f32⟩
  | .hbm, ⟨10, _⟩ => ⟨S1x352x128, .f32⟩
  | .hbm, ⟨11, _⟩ => ⟨S1x352x128, .f32⟩
  | .hbm, ⟨12, _⟩ => ⟨S1x352x128, .f32⟩
  | .hbm, ⟨13, _⟩ => ⟨S1x352x128, .f32⟩
  | .hbm, ⟨14, _⟩ => ⟨S1x352x128, .f32⟩
  | .hbm, ⟨15, _⟩ => ⟨S1x352x128, .f32⟩
  | .hbm, ⟨16, _⟩ => ⟨S8x352x128, .f32⟩
  | .hbm, ⟨17, _⟩ => ⟨S_, .f32⟩
  | .hbm, ⟨18, _⟩ => ⟨S352x128, .f32⟩
  | _, _ => ⟨S352x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩

abbrev nD : Nat := 1
abbrev τ : Topo := Topo.v7x

variable {F : FTy → Type} [FloatOps F]
-- ==== Norm.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== FfnUp.lean ====
abbrev S4096x1024 : Shape := ⟨2, ![4096, 1024]⟩
abbrev S1024x5632 : Shape := ⟨2, ![1024, 5632]⟩
abbrev S4096x5632 : Shape := ⟨2, ![4096, 5632]⟩
abbrev S512x1024 : Shape := ⟨2, ![512, 1024]⟩
abbrev S1024x1408 : Shape := ⟨2, ![1024, 1408]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x5632, .f32⟩
  | .local _ .vmem, ⟨0, _⟩ => ⟨S512x1024, .bf16⟩
  | .local _ .vmem, ⟨1, _⟩ => ⟨S512x1024, .bf16⟩
  | .local _ .vmem, ⟨2, _⟩ => ⟨S1024x1408, .bf16⟩
  | .local _ .vmem, ⟨3, _⟩ => ⟨S1024x1408, .bf16⟩
  | .local _ .vmem, ⟨4, _⟩ => ⟨S512x1408, .f32⟩
  | .local _ .vmem, ⟨5, _⟩ => ⟨S512x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnUpRefIdeal.lean ====
abbrev S4096x1024 : Shape := ⟨2, ![4096, 1024]⟩
abbrev S1024x5632 : Shape := ⟨2, ![1024, 5632]⟩
abbrev S4096x5632 : Shape := ⟨2, ![4096, 5632]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x1024, .f32⟩
  | .hbm, ⟨3, _⟩ => ⟨S1024x5632, .f32⟩
  | .hbm, ⟨4, _⟩ => ⟨S4096x5632, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Glu.lean ====
abbrev S4096x5632 : Shape := ⟨2, ![4096, 5632]⟩
abbrev S4096x2816 : Shape := ⟨2, ![4096, 2816]⟩
abbrev S512x1408 : Shape := ⟨2, ![512, 1408]⟩

abbrev nBuf : Space → Nat
  | .hbm => 2
  | .vmem => 6
  | .smem => 0
  | _ => 0

abbrev bufTy : (tb : Table) → Fin (tcTables nBuf tb) → BufTy
  | .hbm, ⟨0, _⟩ => ⟨S4096x5632, .f32⟩
  | .hbm, ⟨1, _⟩ => ⟨S4096x2816, .bf16⟩
  | .local _ .vmem, ⟨0, _⟩ => ⟨S512x1408, .f32⟩
  | .local _ .vmem, ⟨1, _⟩ => ⟨S512x1408, .f32⟩
  | .local _ .vmem, ⟨2, _⟩ => ⟨S512x1408, .f32⟩
  | .local _ .vmem, ⟨3, _⟩ => ⟨S512x1408, .f32⟩
  | .local _ .vmem, ⟨4, _⟩ => ⟨S512x1408, .bf16⟩
  | .local _ .vmem, ⟨5, _⟩ => ⟨S512x1408, .bf16⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GluRefIdeal.lean ====
abbrev S4096x5632 : Shape := ⟨2, ![4096, 5632]⟩
abbrev S4096x2816 : Shape := ⟨2, ![4096, 2816]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x2816, .f32⟩
  | .hbm, ⟨2, _⟩ => ⟨S4096x2816, .f32⟩
  | .hbm, ⟨3, _⟩ => ⟨S4096x2816, .f32⟩
  | .hbm, ⟨4, _⟩ => ⟨S4096x2816, .f32⟩
  | .hbm, ⟨5, _⟩ => ⟨S_, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x2816, .f32⟩
  | .hbm, ⟨10, _⟩ => ⟨S4096x2816, .f32⟩
  | .hbm, ⟨11, _⟩ => ⟨S4096x2816, .f32⟩
  | .hbm, ⟨12, _⟩ => ⟨S4096x2816, .f32⟩
  | .hbm, ⟨13, _⟩ => ⟨S4096x2816, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== FfnDown.lean ====
abbrev S4096x2816 : Shape := ⟨2, ![4096, 2816]⟩
abbrev S2816x1024 : Shape := ⟨2, ![2816, 1024]⟩
abbrev S4096x1024 : Shape := ⟨2, ![4096, 1024]⟩
abbrev S512x1408 : Shape := ⟨2, ![512, 1408]⟩
abbrev S1408x1024 : Shape := ⟨2, ![1408, 1024]⟩
abbrev S512x1024 : Shape := ⟨2, ![512, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .local _ .vmem, ⟨0, _⟩ => ⟨S512x1408, .bf16⟩
  | .local _ .vmem, ⟨1, _⟩ => ⟨S512x1408, .bf16⟩
  | .local _ .vmem, ⟨2, _⟩ => ⟨S1408x1024, .bf16⟩
  | .local _ .vmem, ⟨3, _⟩ => ⟨S1408x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnDownRefIdeal.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== FfnDz.lean ====
abbrev S4096x1024 : Shape := ⟨2, ![4096, 1024]⟩
abbrev S2816x1024 : Shape := ⟨2, ![2816, 1024]⟩
abbrev S4096x2816 : Shape := ⟨2, ![4096, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S4096x2816, .f32⟩
  | .local _ .vmem, ⟨0, _⟩ => ⟨S512x1024, .f32⟩
  | .local _ .vmem, ⟨1, _⟩ => ⟨S512x1024, .f32⟩
  | .local _ .vmem, ⟨2, _⟩ => ⟨S1408x1024, .bf16⟩
  | .local _ .vmem, ⟨3, _⟩ => ⟨S1408x1024, .bf16⟩
  | .local _ .vmem, ⟨4, _⟩ => ⟨S512x1408, .f32⟩
  | .local _ .vmem, ⟨5, _⟩ => ⟨S512x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDzRefIdeal.lean ====
abbrev S4096x1024 : Shape := ⟨2, ![4096, 1024]⟩
abbrev S2816x1024 : Shape := ⟨2, ![2816, 1024]⟩
abbrev S1024x2816 : Shape := ⟨2, ![1024, 2816]⟩
abbrev S4096x2816 : Shape := ⟨2, ![4096, 2816]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S2816x1024, .f32⟩
  | .hbm, ⟨3, _⟩ => ⟨S1024x2816, .f32⟩
  | .hbm, ⟨4, _⟩ => ⟨S4096x2816, .f32⟩
  | .hbm, ⟨5, _⟩ => ⟨S_, .f32⟩
  | .hbm, ⟨6, _⟩ => ⟨S4096x2816, .f32⟩
  | .hbm, ⟨7, _⟩ => ⟨S4096x2816, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FfnDwd.lean ====
abbrev S4096x2816 : Shape := ⟨2, ![4096, 2816]⟩
abbrev S4096x1024 : Shape := ⟨2, ![4096, 1024]⟩
abbrev S2816x1024 : Shape := ⟨2, ![2816, 1024]⟩
abbrev S1024x256 : Shape := ⟨2, ![1024, 256]⟩
abbrev S1024x1024 : Shape := ⟨2, ![1024, 1024]⟩
abbrev S256x1024 : Shape := ⟨2, ![256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S2816x1024, .f32⟩
  | .local _ .vmem, ⟨0, _⟩ => ⟨S1024x256, .bf16⟩
  | .local _ .vmem, ⟨1, _⟩ => ⟨S1024x256, .bf16⟩
  | .local _ .vmem, ⟨2, _⟩ => ⟨S1024x1024, .f32⟩
  | .local _ .vmem, ⟨3, _⟩ => ⟨S1024x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDwdRefIdeal.lean ====
abbrev S4096x2816 : Shape := ⟨2, ![4096, 2816]⟩
abbrev S4096x1024 : Shape := ⟨2, ![4096, 1024]⟩
abbrev S2816x4096 : Shape := ⟨2, ![2816, 4096]⟩
abbrev S2816x1024 : Shape := ⟨2, ![2816, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S4096x2816, .f32⟩
  | .hbm, ⟨3, _⟩ => ⟨S2816x4096, .f32⟩
  | .hbm, ⟨4, _⟩ => ⟨S2816x1024, .f32⟩
  | .hbm, ⟨5, _⟩ => ⟨S_, .f32⟩
  | .hbm, ⟨6, _⟩ => ⟨S2816x1024, .f32⟩
  | .hbm, ⟨7, _⟩ => ⟨S2816x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GluBack.lean ====
abbrev S4096x5632 : Shape := ⟨2, ![4096, 5632]⟩
abbrev S4096x2816 : Shape := ⟨2, ![4096, 2816]⟩
abbrev S512x1408 : Shape := ⟨2, ![512, 1408]⟩

abbrev nBuf : Space → Nat
  | .hbm => 3
  | .vmem => 8
  | .smem => 0
  | _ => 0

abbrev bufTy : (tb : Table) → Fin (tcTables nBuf tb) → BufTy
  | .hbm, ⟨0, _⟩ => ⟨S4096x5632, .f32⟩
  | .hbm, ⟨1, _⟩ => ⟨S4096x2816, .f32⟩
  | .hbm, ⟨2, _⟩ => ⟨S4096x5632, .bf16⟩
  | .local _ .vmem, ⟨0, _⟩ => ⟨S512x1408, .f32⟩
  | .local _ .vmem, ⟨1, _⟩ => ⟨S512x1408, .f32⟩
  | .local _ .vmem, ⟨2, _⟩ => ⟨S512x1408, .f32⟩
  | .local _ .vmem, ⟨3, _⟩ => ⟨S512x1408, .f32⟩
  | .local _ .vmem, ⟨4, _⟩ => ⟨S512x1408, .f32⟩
  | .local _ .vmem, ⟨5, _⟩ => ⟨S512x1408, .f32⟩
  | .local _ .vmem, ⟨6, _⟩ => ⟨S512x1408, .bf16⟩
  | .local _ .vmem, ⟨7, _⟩ => ⟨S512x1408, .bf16⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c2_i32 : BitVec 32 := 2#32
  let v3 : BitVec 1 := Scalar.cmpi .slt arg1 c2_i32
  let v4 : BitVec 32 := Scalar.extui v3
  let c0_i32 : BitVec 32 := 0#32
  let v5 : BitVec 1 := Scalar.cmpi .ne v4 c0_i32
  v5

def k0_cond2 (i : grid0.Coords) : BitVec 1 :=
  let arg1 : BitVec 32 := BitVec.ofNat 32 (i 1).val
  let c2_i32_3 : BitVec 32 := 2#32
  let v6 : BitVec 1 := Scalar.cmpi .sge arg1 c2_i32_3
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![arg0.toNat, v9.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.addi v9 c2_i32_3
  let c0_i32_4 : BitVec 32 := 0#32
  ![arg0.toNat, v10.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![arg0.toNat, v9.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GluBackRefIdeal.lean ====
abbrev S4096x5632 : Shape := ⟨2, ![4096, 5632]⟩
abbrev S4096x2816 : Shape := ⟨2, ![4096, 2816]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x2816, .f32⟩
  | .hbm, ⟨2, _⟩ => ⟨S4096x2816, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S_, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x5632, .f32⟩
  | .hbm, ⟨25, _⟩ => ⟨S4096x5632, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== FfnDwgu.lean ====
abbrev S4096x1024 : Shape := ⟨2, ![4096, 1024]⟩
abbrev S4096x5632 : Shape := ⟨2, ![4096, 5632]⟩
abbrev S1024x5632 : Shape := ⟨2, ![1024, 5632]⟩
abbrev S1024x512 : Shape := ⟨2, ![1024, 512]⟩
abbrev S1024x1408 : Shape := ⟨2, ![1024, 1408]⟩
abbrev S512x1408 : Shape := ⟨2, ![512, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S1024x5632, .f32⟩
  | .local _ .vmem, ⟨0, _⟩ => ⟨S1024x512, .bf16⟩
  | .local _ .vmem, ⟨1, _⟩ => ⟨S1024x512, .bf16⟩
  | .local _ .vmem, ⟨2, _⟩ => ⟨S1024x1408, .bf16⟩
  | .local _ .vmem, ⟨3, _⟩ => ⟨S1024x1408, .bf16⟩
  | .local _ .vmem, ⟨4, _⟩ => ⟨S512x1408, .f32⟩
  | .local _ .vmem, ⟨5, _⟩ => ⟨S512x1408, .f32⟩
  | .local _ .vmem, ⟨6, _⟩ => ⟨S512x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDwguRefIdeal.lean ====
abbrev S4096x1024 : Shape := ⟨2, ![4096, 1024]⟩
abbrev S4096x5632 : Shape := ⟨2, ![4096, 5632]⟩
abbrev S1024x4096 : Shape := ⟨2, ![1024, 4096]⟩
abbrev S1024x5632 : Shape := ⟨2, ![1024, 5632]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S4096x1024, .f32⟩
  | .hbm, ⟨3, _⟩ => ⟨S1024x4096, .f32⟩
  | .hbm, ⟨4, _⟩ => ⟨S4096x5632, .f32⟩
  | .hbm, ⟨5, _⟩ => ⟨S1024x5632, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== FfnDh.lean ====
abbrev S4096x5632 : Shape := ⟨2, ![4096, 5632]⟩
abbrev S1024x5632 : Shape := ⟨2, ![1024, 5632]⟩
abbrev S4096x1024 : Shape := ⟨2, ![4096, 1024]⟩
abbrev S512x1408 : Shape := ⟨2, ![512, 1408]⟩
abbrev S1024x1408 : Shape := ⟨2, ![1024, 1408]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S4096x1024, .f32⟩
  | .local _ .vmem, ⟨0, _⟩ => ⟨S512x1408, .bf16⟩
  | .local _ .vmem, ⟨1, _⟩ => ⟨S512x1408, .bf16⟩
  | .local _ .vmem, ⟨2, _⟩ => ⟨S1024x1408, .bf16⟩
  | .local _ .vmem, ⟨3, _⟩ => ⟨S1024x1408, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDhRefIdeal.lean ====
abbrev S4096x5632 : Shape := ⟨2, ![4096, 5632]⟩
abbrev S1024x5632 : Shape := ⟨2, ![1024, 5632]⟩
abbrev S5632x1024 : Shape := ⟨2, ![5632, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S4096x5632, .f32⟩
  | .hbm, ⟨3, _⟩ => ⟨S1024x5632, .f32⟩
  | .hbm, ⟨4, _⟩ => ⟨S5632x1024, .f32⟩
  | .hbm, ⟨5, _⟩ => ⟨S4096x1024, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== NormIn.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormInRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== NormOut.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormOutRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 17
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== MixIn.lean ====
abbrev S4096x1024 : Shape := ⟨2, ![4096, 1024]⟩
abbrev S1024x1792 : Shape := ⟨2, ![1024, 1792]⟩
abbrev S4096x1792 : Shape := ⟨2, ![4096, 1792]⟩
abbrev S512x1024 : Shape := ⟨2, ![512, 1024]⟩
abbrev S1024x896 : Shape := ⟨2, ![1024, 896]⟩
abbrev S512x896 : Shape := ⟨2, ![512, 896]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1792, .bf16⟩
  | .hbm, ⟨2, _⟩ => ⟨S4096x1792, .f32⟩
  | .local _ .vmem, ⟨0, _⟩ => ⟨S512x1024, .bf16⟩
  | .local _ .vmem, ⟨1, _⟩ => ⟨S512x1024, .bf16⟩
  | .local _ .vmem, ⟨2, _⟩ => ⟨S1024x896, .bf16⟩
  | .local _ .vmem, ⟨3, _⟩ => ⟨S1024x896, .bf16⟩
  | .local _ .vmem, ⟨4, _⟩ => ⟨S512x896, .f32⟩
  | .local _ .vmem, ⟨5, _⟩ => ⟨S512x896, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixInRefIdeal.lean ====
abbrev S4096x1024 : Shape := ⟨2, ![4096, 1024]⟩
abbrev S1024x1792 : Shape := ⟨2, ![1024, 1792]⟩
abbrev S4096x1792 : Shape := ⟨2, ![4096, 1792]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1792, .bf16⟩
  | .hbm, ⟨2, _⟩ => ⟨S4096x1024, .f32⟩
  | .hbm, ⟨3, _⟩ => ⟨S1024x1792, .f32⟩
  | .hbm, ⟨4, _⟩ => ⟨S4096x1792, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MixQ.lean ====
abbrev S4096x384 : Shape := ⟨2, ![4096, 384]⟩
abbrev S384x1024 : Shape := ⟨2, ![384, 1024]⟩
abbrev S4096x1024 : Shape := ⟨2, ![4096, 1024]⟩
abbrev S512x384 : Shape := ⟨2, ![512, 384]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x384, .bf16⟩
  | .hbm, ⟨1, _⟩ => ⟨S384x1024, .bf16⟩
  | .hbm, ⟨2, _⟩ => ⟨S4096x1024, .f32⟩
  | .local _ .vmem, ⟨0, _⟩ => ⟨S512x384, .bf16⟩
  | .local _ .vmem, ⟨1, _⟩ => ⟨S512x384, .bf16⟩
  | .local _ .vmem, ⟨2, _⟩ => ⟨S384x1024, .bf16⟩
  | .local _ .vmem, ⟨3, _⟩ => ⟨S512x1024, .f32⟩
  | .local _ .vmem, ⟨4, _⟩ => ⟨S512x1024, .f32⟩
  | _, _ => ⟨S4096x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S384x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixQRefIdeal.lean ====
abbrev S4096x384 : Shape := ⟨2, ![4096, 384]⟩
abbrev S384x1024 : Shape := ⟨2, ![384, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x384, .bf16⟩
  | .hbm, ⟨1, _⟩ => ⟨S384x1024, .bf16⟩
  | .hbm, ⟨2, _⟩ => ⟨S4096x384, .f32⟩
  | .hbm, ⟨3, _⟩ => ⟨S384x1024, .f32⟩
  | .hbm, ⟨4, _⟩ => ⟨S4096x1024, .f32⟩
  | _, _ => ⟨S4096x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MixK.lean ====
abbrev S4096x256 : Shape := ⟨2, ![4096, 256]⟩
abbrev S256x1024 : Shape := ⟨2, ![256, 1024]⟩
abbrev S4096x1024 : Shape := ⟨2, ![4096, 1024]⟩
abbrev S512x256 : Shape := ⟨2, ![512, 256]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x256, .bf16⟩
  | .hbm, ⟨1, _⟩ => ⟨S256x1024, .bf16⟩
  | .hbm, ⟨2, _⟩ => ⟨S4096x1024, .f32⟩
  | .local _ .vmem, ⟨0, _⟩ => ⟨S512x256, .bf16⟩
  | .local _ .vmem, ⟨1, _⟩ => ⟨S512x256, .bf16⟩
  | .local _ .vmem, ⟨2, _⟩ => ⟨S256x1024, .bf16⟩
  | .local _ .vmem, ⟨3, _⟩ => ⟨S512x1024, .f32⟩
  | .local _ .vmem, ⟨4, _⟩ => ⟨S512x1024, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixKRefIdeal.lean ====
abbrev S4096x256 : Shape := ⟨2, ![4096, 256]⟩
abbrev S256x1024 : Shape := ⟨2, ![256, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S256x1024, .bf16⟩
  | .hbm, ⟨2, _⟩ => ⟨S4096x256, .f32⟩
  | .hbm, ⟨3, _⟩ => ⟨S256x1024, .f32⟩
  | .hbm, ⟨4, _⟩ => ⟨S4096x1024, .f32⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MixV.lean ====
abbrev S4096x256 : Shape := ⟨2, ![4096, 256]⟩
abbrev S256x1024 : Shape := ⟨2, ![256, 1024]⟩
abbrev S4096x1024 : Shape := ⟨2, ![4096, 1024]⟩
abbrev S512x256 : Shape := ⟨2, ![512, 256]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x256, .bf16⟩
  | .hbm, ⟨1, _⟩ => ⟨S256x1024, .bf16⟩
  | .hbm, ⟨2, _⟩ => ⟨S4096x1024, .bf16⟩
  | .local _ .vmem, ⟨0, _⟩ => ⟨S512x256, .bf16⟩
  | .local _ .vmem, ⟨1, _⟩ => ⟨S512x256, .bf16⟩
  | .local _ .vmem, ⟨2, _⟩ => ⟨S256x1024, .bf16⟩
  | .local _ .vmem, ⟨3, _⟩ => ⟨S512x1024, .bf16⟩
  | .local _ .vmem, ⟨4, _⟩ => ⟨S512x1024, .bf16⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixVRefIdeal.lean ====
abbrev S4096x256 : Shape := ⟨2, ![4096, 256]⟩
abbrev S256x1024 : Shape := ⟨2, ![256, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S256x1024, .bf16⟩
  | .hbm, ⟨2, _⟩ => ⟨S4096x256, .f32⟩
  | .hbm, ⟨3, _⟩ => ⟨S256x1024, .f32⟩
  | .hbm, ⟨4, _⟩ => ⟨S4096x1024, .f32⟩
  | .hbm, ⟨5, _⟩ => ⟨S4096x1024, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MixAttn.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MixAttnRefIdeal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | .hbm, ⟨5, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== MixConv.lean ====
abbrev S4096x512 : Shape := ⟨2, ![4096, 512]⟩
abbrev S512x1024 : Shape := ⟨2, ![512, 1024]⟩
abbrev S4096x1024 : Shape := ⟨2, ![4096, 1024]⟩
abbrev S512x512 : Shape := ⟨2, ![512, 512]⟩

abbrev nBuf : Space → Nat
  | .hbm => 4
  | .vmem => 7
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x1024, .f32⟩
  | .hbm, ⟨3, _⟩ => ⟨S4096x1024, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MixConvRefIdeal.lean ====
abbrev S4096x512 : Shape := ⟨2, ![4096, 512]⟩
abbrev S512x1024 : Shape := ⟨2, ![512, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x1024, .f32⟩
  | .hbm, ⟨3, _⟩ => ⟨S4096x512, .f32⟩
  | .hbm, ⟨4, _⟩ => ⟨S512x1024, .f32⟩
  | .hbm, ⟨5, _⟩ => ⟨S4096x1024, .f32⟩
  | .hbm, ⟨6, _⟩ => ⟨S4096x1024, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MixDo.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixDoRefIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S1024x1024, .f32⟩
  | .hbm, ⟨3, _⟩ => ⟨S1024x1024, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MixDcv.lean ====
abbrev S4096x1024 : Shape := ⟨2, ![4096, 1024]⟩
abbrev S512x1024 : Shape := ⟨2, ![512, 1024]⟩
abbrev S4096x512 : Shape := ⟨2, ![4096, 512]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S512x1024, .bf16⟩
  | .hbm, ⟨2, _⟩ => ⟨S4096x512, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x512, .f32⟩
  | .local _ .vmem, ⟨4, _⟩ => ⟨S512x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixDcvRefIdeal.lean ====
abbrev S4096x1024 : Shape := ⟨2, ![4096, 1024]⟩
abbrev S512x1024 : Shape := ⟨2, ![512, 1024]⟩
abbrev S1024x512 : Shape := ⟨2, ![1024, 512]⟩
abbrev S4096x512 : Shape := ⟨2, ![4096, 512]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S512x1024, .bf16⟩
  | .hbm, ⟨2, _⟩ => ⟨S512x1024, .f32⟩
  | .hbm, ⟨3, _⟩ => ⟨S1024x512, .f32⟩
  | .hbm, ⟨4, _⟩ => ⟨S4096x512, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MixDqln.lean ====
abbrev S4096x1024 : Shape := ⟨2, ![4096, 1024]⟩
abbrev S384x1024 : Shape := ⟨2, ![384, 1024]⟩
abbrev S4096x384 : Shape := ⟨2, ![4096, 384]⟩
abbrev S512x1024 : Shape := ⟨2, ![512, 1024]⟩
abbrev S512x384 : Shape := ⟨2, ![512, 384]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S384x1024, .bf16⟩
  | .hbm, ⟨2, _⟩ => ⟨S4096x384, .f32⟩
  | .local _ .vmem, ⟨0, _⟩ => ⟨S512x1024, .f32⟩
  | .local _ .vmem, ⟨1, _⟩ => ⟨S512x1024, .f32⟩
  | .local _ .vmem, ⟨2, _⟩ => ⟨S384x1024, .bf16⟩
  | .local _ .vmem, ⟨3, _⟩ => ⟨S512x384, .f32⟩
  | .local _ .vmem, ⟨4, _⟩ => ⟨S512x384, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S384x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixDqlnRefIdeal.lean ====
abbrev S4096x1024 : Shape := ⟨2, ![4096, 1024]⟩
abbrev S384x1024 : Shape := ⟨2, ![384, 1024]⟩
abbrev S1024x384 : Shape := ⟨2, ![1024, 384]⟩
abbrev S4096x384 : Shape := ⟨2, ![4096, 384]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S384x1024, .bf16⟩
  | .hbm, ⟨2, _⟩ => ⟨S384x1024, .f32⟩
  | .hbm, ⟨3, _⟩ => ⟨S1024x384, .f32⟩
  | .hbm, ⟨4, _⟩ => ⟨S4096x384, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MixDkvlnK.lean ====
abbrev S4096x1024 : Shape := ⟨2, ![4096, 1024]⟩
abbrev S256x1024 : Shape := ⟨2, ![256, 1024]⟩
abbrev S4096x256 : Shape := ⟨2, ![4096, 256]⟩
abbrev S512x1024 : Shape := ⟨2, ![512, 1024]⟩
abbrev S512x256 : Shape := ⟨2, ![512, 256]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S256x1024, .bf16⟩
  | .hbm, ⟨2, _⟩ => ⟨S4096x256, .f32⟩
  | .local _ .vmem, ⟨0, _⟩ => ⟨S512x1024, .f32⟩
  | .local _ .vmem, ⟨1, _⟩ => ⟨S512x1024, .f32⟩
  | .local _ .vmem, ⟨2, _⟩ => ⟨S256x1024, .bf16⟩
  | .local _ .vmem, ⟨3, _⟩ => ⟨S512x256, .f32⟩
  | .local _ .vmem, ⟨4, _⟩ => ⟨S512x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixDkvlnKRefIdeal.lean ====
abbrev S4096x1024 : Shape := ⟨2, ![4096, 1024]⟩
abbrev S256x1024 : Shape := ⟨2, ![256, 1024]⟩
abbrev S1024x256 : Shape := ⟨2, ![1024, 256]⟩
abbrev S4096x256 : Shape := ⟨2, ![4096, 256]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S256x1024, .bf16⟩
  | .hbm, ⟨2, _⟩ => ⟨S256x1024, .f32⟩
  | .hbm, ⟨3, _⟩ => ⟨S1024x256, .f32⟩
  | .hbm, ⟨4, _⟩ => ⟨S4096x256, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MixDkvlnV.lean ====
abbrev S4096x1024 : Shape := ⟨2, ![4096, 1024]⟩
abbrev S256x1024 : Shape := ⟨2, ![256, 1024]⟩
abbrev S4096x256 : Shape := ⟨2, ![4096, 256]⟩
abbrev S512x1024 : Shape := ⟨2, ![512, 1024]⟩
abbrev S512x256 : Shape := ⟨2, ![512, 256]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S256x1024, .bf16⟩
  | .hbm, ⟨2, _⟩ => ⟨S4096x256, .f32⟩
  | .hbm, ⟨3, _⟩ => ⟨S4096x256, .f32⟩
  | .local _ .vmem, ⟨0, _⟩ => ⟨S512x1024, .f32⟩
  | .local _ .vmem, ⟨1, _⟩ => ⟨S512x1024, .f32⟩
  | .local _ .vmem, ⟨2, _⟩ => ⟨S256x1024, .bf16⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MixDkvlnVRefIdeal.lean ====
abbrev S4096x1024 : Shape := ⟨2, ![4096, 1024]⟩
abbrev S256x1024 : Shape := ⟨2, ![256, 1024]⟩
abbrev S4096x256 : Shape := ⟨2, ![4096, 256]⟩
abbrev S1024x256 : Shape := ⟨2, ![1024, 256]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S256x1024, .bf16⟩
  | .hbm, ⟨2, _⟩ => ⟨S4096x256, .f32⟩
  | .hbm, ⟨3, _⟩ => ⟨S256x1024, .f32⟩
  | .hbm, ⟨4, _⟩ => ⟨S1024x256, .f32⟩
  | .hbm, ⟨5, _⟩ => ⟨S4096x256, .f32⟩
  | .hbm, ⟨6, _⟩ => ⟨S4096x256, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Loss.lean ====
abbrev S4096x1024 : Shape := ⟨2, ![4096, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S_ : Shape := ⟨0, ![]⟩

abbrev nBuf : Space → Nat
  | .hbm => 15
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x128, .f32⟩
  | .hbm, ⟨3, _⟩ => ⟨S4096x1024, .f32⟩
  | .hbm, ⟨4, _⟩ => ⟨S1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x128, .f32⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => false
  | ⟨8, _⟩ => false
  | _ => false

abbrev sig : RefSig :=
  ofTc nBuf bufTy 1 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v4_s0 : Ref sig .tc := ⟨.hbm, 7, rfl⟩
abbrev main_v4_s1 : Ref sig .tc := ⟨.hbm, 8, rfl⟩
abbrev main_v4_s2 : Ref sig .tc := ⟨.hbm, 9, rfl⟩
abbrev main_v4_s3 : Ref sig .tc := ⟨.hbm, 10, rfl⟩
abbrev main_v4_s4 : Ref sig .tc := ⟨.hbm, 11, rfl⟩
abbrev main_v4_s5 : Ref sig .tc := ⟨.hbm, 12, rfl⟩
abbrev main_v4_s6 : Ref sig .tc := ⟨.hbm, 13, rfl⟩
abbrev main_v4_s7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev ar0_recv : DmaSem sig := 7
abbrev ar0_send : DmaSem sig := 8
abbrev ar0_barrier : Sem sig := 0

abbrev nD : Nat := 8
abbrev τ : Topo := Topo.v7x

variable {F : FTy → Type} [FloatOps F]

abbrev ar0_mem : Fin 1 × Fin 8 → Dev nD := fun q => (![![0, 1, 2, 3, 4, 5, 6, 7]] : Fin 1 → Fin 8 → Dev nD) q.1 q.2
abbrev ar0_pos : Dev nD → Fin 1 × Fin 8 := fun c => ((![0, 0, 0, 0, 0, 0, 0, 0] : Fin 8 → Fin 1) c, (![0, 1, 2, 3, 4, 5, 6, 7] : Fin 8 → Fin 8) c)
abbrev ar0_stage : Fin 8 → Ref sig .tc := fun | 0 => main_v4_s0 | 1 => main_v4_s1 | 2 => main_v4_s2 | 3 => main_v4_s3 | 4 => main_v4_s4 | 5 => main_v4_s5 | 6 => main_v4_s6 | 7 => main_v4_s7 | ⟨_ + 8, h⟩ => absurd h (Nat.not_lt.2 (Nat.le_add_left _ _))

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LossRefIdeal.lean ====
abbrev S32768x1024 : Shape := ⟨2, ![32768, 1024]⟩
abbrev S_ : Shape := ⟨0, ![]⟩
abbrev S32768 : Shape := ⟨1, ![32768]⟩

abbrev nBuf : Space → Nat
  | .hbm => 25
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x1024, .f32⟩
  | .hbm, ⟨3, _⟩ => ⟨S32768x1024, .f32⟩
  | .hbm, ⟨4, _⟩ => ⟨S_, .f32⟩
  | .hbm, ⟨5, _⟩ => ⟨S32768x1024, .f32⟩
  | .hbm, ⟨6, _⟩ => ⟨S32768x1024, .f32⟩
  | .hbm, ⟨7, _⟩ => ⟨S_, .f32⟩
  | .hbm, ⟨8, _⟩ => ⟨S32768, .f32⟩
  | .hbm, ⟨9, _⟩ => ⟨S_, .f32⟩
  | .hbm, ⟨10, _⟩ => ⟨S32768, .f32⟩
  | .hbm, ⟨11, _⟩ => ⟨S32768, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S32768, .f32⟩
  | .hbm, ⟨20, _⟩ => ⟨S_, .f32⟩
  | .hbm, ⟨21, _⟩ => ⟨S32768, .f32⟩
  | .hbm, ⟨22, _⟩ => ⟨S32768, .f32⟩
  | .hbm, ⟨23, _⟩ => ⟨S32768x1024, .f32⟩
  | .hbm, ⟨24, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== GatherRef.lean ====
abbrev S40320x1024 : Shape := ⟨2, ![40320, 1024]⟩

abbrev nBuf : Space → Nat
  | .hbm => 1
  | .vmem => 0
  | .smem => 0
  | _ => 0

abbrev bufTy : (tb : Table) → Fin (tcTables nBuf tb) → BufTy
  | .hbm, ⟨0, _⟩ => ⟨S40320x1024, .bf16⟩
  | _, _ => ⟨S40320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.GatherMem.lean ====
/-
# The gather's result array, piece by piece

The result of the gather is eight pieces of 5040 rows, piece `e` holding the block of device `e`. Each device writes its
own piece by a copy within the device; the other seven land from its peers. `full` is what the array ends holding: the
same function of the rows on every device. A copy of device `e`'s block, or of piece `e` of an array that already holds
`full` there, leaves `full` on piece `e`.
-/
module

public import proofs.«01_k».proof.Proof.Gen.GatherIdeal
public import proofs.«01_k».proof.Proof.Gen.GatherIdeal.Launch
public import Idealize.ShloMosaic.Lib.Ring
public import Idealize.ShloMosaic.Lib.ValueIdxCore
public import Idealize.ShloMosaic.Lib.Pipeline.Kit
public import Idealize.ShloMosaic.Lib.ShareLeaves
public import Idealize.ShloMosaic.Lib.Pipeline.ValueKit.Geometry

@[expose] public section

noncomputable section

namespace Cert.GatherProof

open Cert.GatherIdeal Cert.GatherIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

set_option Elab.async false

variable {F : FTy → Type} [FloatOps F]

/-- The devices' memory. -/
abbrev Mem (F : FTy → Type) [FloatOps F] : Type := (ℓ : Loc nD τ sig) → Buf (Elt F) ℓ

/-- Device `c`'s block. -/
abbrev xM : Memref sig .tc .hbm S5040x1024 .bf16 := Memref.whole main_arg0
/-- Rows `off …` of the result array. -/
abbrev oM (off : Fin S40320x1024.rank → ℕ) (inb : ∀ a, off a + S5040x1024.size a ≤ S40320x1024.size a) : Memref sig .tc .hbm S5040x1024 .bf16 :=
  (Memref.whole main_v1).slice (Rect.unit (s := S40320x1024) off S5040x1024.size inb) (fun _ => rfl)

/-- Piece `e` of the result array: the rows `5040 e …`. -/
def piece (e : Dev nD) : Finset (S40320x1024.Idx) := Finset.univ.filter fun i => (i 0).val / 5040 = e.val

theorem mem_piece {e : Dev nD} {i : S40320x1024.Idx} : i ∈ piece e ↔ (i 0).val / 5040 = e.val := by
  unfold piece; rw [Finset.mem_filter]; exact and_iff_right (Finset.mem_univ i)

theorem set_oM {off : Fin S40320x1024.rank → ℕ} {inb} {e : Dev nD} (h : off = ![5040 * e.val, 0]) : (oM off inb).view.set = piece e := by
  subst h
  ext i
  have h0 : i ∈ (oM ![5040 * e.val, 0] inb).view.set ↔ i ∈ (Rect.unit (s := S40320x1024) ![5040 * e.val, 0] S5040x1024.size inb).set :=
    ValueKit.mem_set_slice_whole_iff main_v1 _ i Iff.rfl
  rw [h0, mem_piece]
  refine Iff.trans Rect.mem_set_unit ?_
  rw [Fin.forall_fin_two]
  have h1 : (i 1).val < 1024 := (i 1).isLt
  show (5040 * e.val ≤ (i 0).val ∧ (i 0).val < 5040 * e.val + 5040) ∧ (0 ≤ (i 1).val ∧ (i 1).val < 0 + 1024) ↔ _
  omega

theorem piece_disjoint (e e' : Dev nD) (h : e ≠ e') : Disjoint (piece e) (piece e') :=
  Finset.disjoint_left.mpr fun i hi hi' => h (Fin.ext ((mem_piece.mp hi).symm.trans (mem_piece.mp hi')))

theorem piece_cover : Finset.univ.biUnion piece = Finset.univ := by
  ext i
  refine ⟨fun _ => Finset.mem_univ i, fun _ => Finset.mem_biUnion.mpr ⟨⟨(i 0).val / 5040, ?_⟩, Finset.mem_univ _, mem_piece.mpr rfl⟩⟩
  have h : (i 0).val < 40320 := (i 0).isLt
  show _ < 8
  omega

/-- The device whose block holds row `i`, -/
def home (i : S40320x1024.Idx) : Dev nD := ⟨(i 0).val / 5040, by have h : (i 0).val < 40320 := (i 0).isLt; show _ < 8; omega⟩
/-- and the element's index in that block. -/
def local' (i : S40320x1024.Idx) : S5040x1024.Idx := ValueIdx.ix2 ⟨(i 0).val % 5040, Nat.mod_lt _ (by decide)⟩ ⟨(i 1).val, (i 1).isLt⟩

/-- What the result array ends holding. -/
def full (m : Mem F) : S40320x1024.Idx → Elt F .bf16 := fun i => m ((home i : Thread nD τ).loc main_arg0) (local' i)

theorem full_emb (m : Mem F) {off inb} {e : Dev nD} (h : off = ![5040 * e.val, 0]) (j : S5040x1024.Idx) :
    full m ((oM off inb).view.emb j) = m ((e : Thread nD τ).loc main_arg0) j := by
  subst h
  have e0 : (((oM ![5040 * e.val, 0] inb).view.emb j) 0).val = 5040 * e.val + (j 0).val :=
    ValueKit.view_emb_slice_whole_unit_val main_v1 ![5040 * e.val, 0] S5040x1024.size inb j 0
  have e1 : (((oM ![5040 * e.val, 0] inb).view.emb j) 1).val = 0 + (j 1).val :=
    ValueKit.view_emb_slice_whole_unit_val main_v1 ![5040 * e.val, 0] S5040x1024.size inb j 1
  have hj : (j 0).val < 5040 := (j 0).isLt
  have hh : home ((oM ![5040 * e.val, 0] inb).view.emb j) = e := Fin.ext (by
    show (((oM ![5040 * e.val, 0] inb).view.emb j) 0).val / 5040 = e.val
    omega)
  have hl : local' ((oM ![5040 * e.val, 0] inb).view.emb j) = j := by
    funext a
    match a with
    | ⟨0, _⟩ => exact Fin.ext (by show (((oM ![5040 * e.val, 0] inb).view.emb j) 0).val % 5040 = (j 0).val; omega)
    | ⟨1, _⟩ => exact Fin.ext (by show (((oM ![5040 * e.val, 0] inb).view.emb j) 1).val = (j 1).val; omega)
  unfold full
  rw [hh, hl]

/-- What a copy reads of piece `e` of an array holding `full` there is the block of device `e`. -/
theorem read_full (m : Mem F) {off inb} {e : Dev nD} (h : off = ![5040 * e.val, 0]) :
    (oM off inb).view.read (Elt F) (full m) = m ((e : Thread nD τ).loc main_arg0) := by
  funext j
  rw [View.read_apply]
  exact full_emb m h j

variable {Name : Type} [DecidableEq Name] {U : Type} [URA U] {Lvl : Type}

/-- A copy of the block of device `e` onto piece `e` leaves `full` there. -/
theorem pts_land (m : Mem F) {off inb} {e : Dev nD} (h : off = ![5040 * e.val, 0]) (c : Dev nD) (q : PosShare TreeShare)
    (fd : Buf (Elt F) ((oM off inb).view.loc (c : Thread nD τ))) {w : S5040x1024.Idx → Elt F .bf16} (hw : w = m ((e : Thread nD τ).loc main_arg0)) :
    ((oM off inb).view.loc (c : Thread nD τ) ↦[(oM off inb).view.set]{q} ((oM off inb).view.write (Elt F) fd w Finset.univ)
        : sProp (MT nD τ sig Unit (Elt F) Name U Lvl))
      = ((c : Thread nD τ).loc main_v1 ↦[piece e]{q} full m) := by
  rw [← set_oM (inb := inb) h]
  refine pointsTo_congr fun i hi => ?_
  obtain ⟨j, -, rfl⟩ := Finset.mem_map.mp hi
  rw [View.write_emb_of_mem _ _ (Finset.mem_univ j), hw]
  exact (full_emb m h j).symm

/-- The result array is its eight pieces, numbered from any device by exclusive or. -/
theorem out_pieces (c : Dev nD) (q : PosShare TreeShare) (f : Buf (Elt F) ((c : Thread nD τ).loc main_v1)) (σ : Dev nD ≃ Dev nD) :
    ((c : Thread nD τ).loc main_v1 ↦{q} f : sProp (MT nD τ sig Unit (Elt F) Name U Lvl))
      = bigSep Finset.univ fun b : Dev nD => ((c : Thread nD τ).loc main_v1 ↦[piece (σ b)]{q} f) := by
  rw [Ring.pointsTo_blocks (ℓ := (c : Thread nD τ).loc main_v1) piece piece_disjoint piece_cover f]
  exact bigSep_univ_equiv σ _

end Cert.GatherProof

end
-- ==== Proof.Exchange.lean ====
/-
# One-round exchanges by direct copies

A device copies blocks straight into its peers' arrays. Every semaphore concerned is raised by ONE transfer only: the
semaphore a copy raises at its sender, the semaphore it raises at its receiver, or the semaphore of a copy within the
device. `Plan` lists these semaphores with the amount each is raised by, who raises it (`peer`, an involution; the
device itself for a sender's or a local semaphore), the order in which a device raises its peers' semaphores, and a level
of each, above the levels of the semaphores its sender waits on before. `Plan.sched` is the protocol: semaphore `k` of
device `c` hands its owner the payload `pay c k`. The rules below are the three steps of such a kernel at a plan (copy to
a peer, copy within, wait), and `Plan.fund`, `Plan.open_all`, `Plan.dues_of_launch` are its launch.
-/
module

public import Idealize.ShloMosaic.Lib.Rounds
public import Idealize.ShloMosaic.Lib.Pipeline.Launch
public import Idealize.ShloMosaic.Lib.Pipeline.Kit
public import Idealize.ShloMosaic.Lib.Tactic

@[expose] public section

noncomputable section

namespace Cert.Train

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

set_option Elab.async false

/-- The ghost algebra: the pipelines' rounds beside the exchange's. -/
abbrev UU (nD : Nat) (τ : Topo) (sig : RefSig) : Type := URounds (GSem nD τ sig) Unit × URounds (GSem nD τ sig) Unit

structure Plan (nD : Nat) (sig : RefSig) (n : Nat) where
  sem : Fin n → SemLoc sig
  inj : Function.Injective sem
  amt : Fin n → ℕ
  pos : ∀ k, 0 < amt k
  peer : Fin n → Dev nD → Dev nD
  peer_peer : ∀ k c, peer k (peer k c) = c
  order : List (Fin n)
  level : Fin n → ℕ

namespace Plan

variable {nD : Nat} {τ : Topo} {sig : RefSig} {Val : EltTy → Type} {n : Nat}

local notation "𝕄" => MT nD τ sig Unit Val ℕ (UU nD τ sig) ℕ

/-- The exchange's rounds in the ghost algebra. -/
abbrev ER : Emb (URounds (GSem nD τ sig) Unit) (MT nD τ sig Unit Val ℕ (UU nD τ sig) ℕ) := embR
/-- The pipelines' rounds in the ghost algebra. -/
abbrev EP : Emb (URounds (GSem nD τ sig) Unit) (MT nD τ sig Unit Val ℕ (UU nD τ sig) ℕ) := embL

variable (P : Plan nD sig n)

abbrev cell (c : Dev nD) (k : Fin n) : GSem nD τ sig := ((c : Thread nD τ), P.sem k)

theorem cell_inj : Function.Injective fun ck : Dev nD × Fin n => (P.cell ck.1 ck.2 : GSem nD τ sig) := by
  rintro ⟨c, k⟩ ⟨c', k'⟩ h
  have h1 : c = c' := congrArg (fun g : GSem nD τ sig => g.1.1) h
  have h2 : k = k' := P.inj (congrArg Prod.snd h)
  rw [h1, h2]

variable (pay : Dev nD → Fin n → sProp (MT nD τ sig Unit Val ℕ (UU nD τ sig) ℕ))

open Classical in
/-- Each semaphore of the plan has one duty, in round 0. -/
def sched : Rounds.Schedule (GSem nD τ sig) Unit 𝕄 where
  duties g r := if r = 0 ∧ g.1.2 = .tc ∧ g.2 ∈ Set.range P.sem then {()} else ∅
  unitless _ := False
  amount g _ _ := Function.extend P.sem P.amt (fun _ => 1) g.2
  payload g _ _ := Function.extend P.sem (pay g.1.1) (fun _ => iprop(emp)) g.2
  amount_pos g _ _ _ := by
    by_cases h : ∃ k, P.sem k = g.2
    · obtain ⟨k, hk⟩ := h
      rw [← hk, P.inj.extend_apply]; exact P.pos k
    · rw [Function.extend_apply' _ _ _ h]; exact Nat.one_pos

instance storable [hs : ∀ c k, BI.Storable (upEmb : UEmb _ 𝕄) (pay c k)] (g : GSem nD τ sig) (r : ℕ) (d : Unit) :
    BI.Storable (upEmb : UEmb _ 𝕄) ((P.sched pay).payload g r d) := by
  show BI.Storable upEmb (Function.extend P.sem (pay g.1.1) (fun _ => iprop(emp)) g.2)
  by_cases h : ∃ k, P.sem k = g.2
  · obtain ⟨k, hk⟩ := h
    rw [← hk, P.inj.extend_apply]; exact hs _ k
  · rw [Function.extend_apply' _ _ _ h]; infer_instance

theorem duties_cell (c : Dev nD) (k : Fin n) : (P.sched pay).duties (P.cell c k) 0 = {()} := by
  dsimp only [sched]; exact if_pos ⟨rfl, rfl, k, rfl⟩
theorem duties_later (g : GSem nD τ sig) : ∀ r, 1 ≤ r → (P.sched pay).duties g r = ∅ :=
  fun r hr => by dsimp only [sched]; exact if_neg fun h => by omega
theorem amount_cell (c : Dev nD) (k : Fin n) (u : Unit) : (P.sched pay).amount (P.cell c k) 0 u = P.amt k := by
  dsimp only [sched]; exact P.inj.extend_apply _ _ k
theorem payload_cell (c : Dev nD) (k : Fin n) (u : Unit) : (P.sched pay).payload (P.cell c k) 0 u = pay c k := by
  dsimp only [sched]; exact P.inj.extend_apply _ _ k
theorem expect_cell (c : Dev nD) (k : Fin n) : (P.sched pay).expect (P.cell c k) 0 = P.amt k := by
  unfold Schedule.expect Schedule.amountOf; rw [duties_cell, Finset.sum_singleton, amount_cell]
theorem rest_cell (c : Dev nD) (k : Fin n) :
    bigSep ((P.sched pay).duties (P.cell c k) 0 \ ∅) (fun u => (P.sched pay).payload (P.cell c k) 0 u) = pay c k := by
  rw [Finset.sdiff_empty, duties_cell, bigSep_singleton, payload_cell]

/-! ## What a device holds of the plan -/

/-- Semaphore `k` of device `c` runs the plan's round. -/
def known (c : Dev nD) (k : Fin n) : sProp 𝕄 := iprop((∃ κ : ℕ, cellInv ER (P.sched pay) κ (P.cell c k)) ∗ reached ER (P.cell c k) 0)

instance known_persistent (c : Dev nD) (k : Fin n) : BI.Persistent (P.known pay c k) := by unfold known; infer_instance

/-- Every semaphore of every device does. -/
def records : sProp 𝕄 := bigSep Finset.univ fun ck : Dev nD × Fin n => P.known pay ck.1 ck.2

instance records_persistent : BI.Persistent (P.records pay) := by unfold records; infer_instance

theorem records_at (c : Dev nD) (k : Fin n) : P.records pay ⊢ P.known pay c k :=
  (bigSep_elim (Finset.mem_univ (c, k)))

/-- The right of device `c` to raise the semaphore `k` of its peer (or its own). -/
def tok (c : Dev nD) (k : Fin n) : sProp 𝕄 := dutyTok ER (P.cell (P.peer k c) k) 0 ()
/-- Device `c` has not waited on its semaphore `k`. -/
def fresh (c : Dev nD) (k : Fin n) : sProp 𝕄 := atPos ER (P.cell c k) 0 ∅ 0
/-- What device `c` still owes while the semaphores `l` of its peers are to be raised. -/
def debt (c : Dev nD) : List (Fin n) → CellTallies nD τ sig Unit
  | [] => 0
  | k :: l => debt c l + tallyAt (P.cell (P.peer k c) k) () (P.amt k)
/-- Device `c` may wait for semaphore `k` once. -/
def due (c : Dev nD) (k : Fin n) : sProp 𝕄 := cred (tallyAt (P.cell c k) () (P.amt k))
/-- Device `c` owes its peers the semaphores `l`. -/
def owing (c : Dev nD) (l : List (Fin n)) : sProp 𝕄 := iprop(∃ W, owes (c : Thread nD τ) (P.debt c l) W)
/-- Semaphore `k` of device `c` is at zero, for good. -/
def zero (c : Dev nD) (k : Fin n) : sProp 𝕄 := semVal (P.cell c k) 0
/-- Device `c` may wait once for each of the semaphores `l`. -/
def dues (c : Dev nD) : List (Fin n) → sProp 𝕄
  | [] => iprop(emp)
  | k :: l => iprop(P.due c k ∗ dues c l)

/-! ## Levels -/

def L (g : GSem nD τ sig) : Finset Unit := if g.1.2 = .tc then {()} else ∅
def lv (g : GSem nD τ sig) (_ : Unit) : ℕ := Function.extend P.sem P.level (fun _ => 0) g.2

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Fin n) : P.lv (P.cell c k : GSem nD τ sig) () = P.level k := P.inj.extend_apply _ _ k

theorem debt_pos {c : Dev nD} {l : List (Fin n)} {g : GSem nD τ sig} {u : Unit} (h : 0 < P.debt c l g u) :
    ∃ k ∈ l, g = P.cell (P.peer k c) k := by
  induction l with
  | nil => exact absurd h (Nat.lt_irrefl 0)
  | cons k l ih =>
    rw [debt, Pi.add_apply, Finsupp.add_apply, tallyAt_apply] at h
    by_cases hg : g = P.cell (P.peer k c) k ∧ u = ()
    · exact ⟨k, List.mem_cons_self, hg.1⟩
    · rw [if_neg hg, Nat.add_zero] at h
      obtain ⟨k', hk', hg'⟩ := ih h
      exact ⟨k', List.mem_cons_of_mem k hk', hg'⟩

theorem mayWait (c : Dev nD) (k : Fin n) (l : List (Fin n)) (hl : ∀ k' ∈ l, P.level k < P.level k') :
    (levAts L P.lv : sProp 𝕄) ⊢ MayWait (c : Thread nD τ) (P.sem k) () (P.debt c l) :=
  MayOwe.of_cut (L := L) (lev := P.lv) (P.level k) (fun p hp => by rw [Finset.mem_singleton.mp hp, L_tc]; exact Finset.mem_singleton_self _)
    (fun g u hg => by obtain ⟨k', -, rfl⟩ := P.debt_pos hg; rw [L_tc]; exact Finset.mem_singleton_self _)
    (fun p hp => by rw [Finset.mem_singleton.mp hp]; exact (P.lv_cell c k).le)
    (fun g u hg => by obtain ⟨k', hk', rfl⟩ := P.debt_pos hg; rw [show P.lv _ u = P.level k' from P.lv_cell _ k']; exact hl k' hk')

/-! ## The three steps -/

section Steps

variable {Λ : Labels} {defs : Defs nD τ sig Val Λ} (𝒱 : Variants) (c : Dev nD) {α : Type} {Q : α → sProp (MT nD τ sig Unit Val ℕ (UU nD τ sig) ℕ)}
variable [∀ e, Nonempty (Val e)]

/-- A copy to the peer: the source comes back with the sender's semaphore `kS`, and the peer gets its payload with the
    semaphore `kR`, the next one the device owed. -/
theorem wp_send {sp sp' : Space} {s : Shape} {e : EltTy} (kS kR : Fin n) (l : List (Fin n)) (hself : P.peer kS c = c)
    {src : Memref sig .tc sp s e} {dst : Memref sig .tc sp' s e} {hsc : dst.view.ref.isScScratch = false}
    {hsrc : src.view.WordExact} {hdst : dst.view.WordExact} {hsem : DmaTarget.Typed sp (P.sem kR) (.remote ((P.peer kR c : Dev nD) : Thread nD τ) dst (P.sem kS) hsc)}
    {k : PUnit → Prog (TpuEff nD τ sig Val Λ .tc) α} {q : PosShare TreeShare}
    {fs : Buf Val (src.view.loc (c : Thread nD τ))} {fd : Buf Val (dst.view.loc ((P.peer kR c : Dev nD) : Thread nD τ))}
    (hS : dst.view.amount (P.sem kR) = P.amt kS) (hR : dst.view.amount (P.sem kR) = P.amt kR)
    (hr : τ.routes (c : Thread nD τ) ((P.peer kR c : Dev nD) : Thread nD τ) = true)
    (hpayS : (src.view.loc (c : Thread nD τ) ↦[src.view.set]{q} fs) ⊢ pay c kS)
    (hpayR : (dst.view.loc ((P.peer kR c : Dev nD) : Thread nD τ) ↦[dst.view.set]{fullShare} (dst.view.write Val fd (src.view.read Val fs) Finset.univ))
      ⊢ pay (P.peer kR c) kR) :
    iprop(P.records pay ∗ (src.view.loc (c : Thread nD τ) ↦[src.view.set]{q} fs)
        ∗ (dst.view.loc ((P.peer kR c : Dev nD) : Thread nD τ) ↦[dst.view.set]{fullShare} fd)
        ∗ P.owing c (kR :: l) ∗ P.tok c kS ∗ P.tok c kR)
      ⊢ iprop(((P.due c kS ∗ P.owing c l) -∗ wp frame (wpE defs 𝒱 (c : Thread nD τ) none) Set.univ (k ⟨⟩) Q)
          -∗ wp frame (wpE defs 𝒱 (c : Thread nD τ) none) Set.univ
              (.op (.enqueueDma src (.remote ((P.peer kR c : Dev nD) : Thread nD τ) dst (P.sem kS) hsc) (P.sem kR) hsrc hdst hsem) k) Q) := by
  unfold tok owing due
  rw [hself]
  iintro ⟨#Hr, Hsrc, Hdst, ⟨%W, HO⟩, HtS, HtR⟩ Hk
  ihave #HS := (P.records_at pay c kS) $$ Hr
  ihave #HR := (P.records_at pay (P.peer kR c) kR) $$ Hr
  unfold known
  icases HS with ⟨⟨%κ₁, #HIS⟩, #HrS⟩
  icases HR with ⟨⟨%κ₂, #HIR⟩, #HrR⟩
  iapply (Rounds.wp_send_pointsTo 𝒱 ER (P.sched pay) (c : Thread nD τ) none (κ₁ := κ₁) (κ₂ := κ₂)
    (r₁ := 0) (r₂ := 0) (d₁ := ()) (d₂ := ()) (fd := fd)
    (by rw [duties_cell]; exact Finset.mem_singleton_self _) (by rw [duties_cell]; exact Finset.mem_singleton_self _)
    () () (P.amt kR) hR ((P.amount_cell pay c kS ()).trans (hS.symm.trans hR)) (P.amount_cell pay (P.peer kR c) kR ()) (P.debt c l) rfl (W := W)
    (by rw [payload_cell]; exact hpayS)
    (by rw [payload_cell]; exact hpayR) (hr := hr)) $$ [Hsrc Hdst HO HtS HtR]
  · isplitr; · iexact HIS
    isplitr; · iexact HIR
    isplitl [Hsrc]; · iexact Hsrc
    isplitl [Hdst]; · iexact Hdst
    isplitl [HO]; · iexact HO
    isplitl [HtS]; · iexact HtS
    isplitr; · iexact HrS
    isplitl [HtR]; · iexact HtR
    iexact HrR
  iintro ⟨Hc, HO⟩
  iapply Hk
  isplitl [Hc]
  · rw [← hS, hR]; iexact Hc
  iexists W; iexact HO

/-- A copy within the device: destination and source come back with the semaphore `k₀`. -/
theorem wp_copy {sp sp' : Space} {s : Shape} {e : EltTy} (k₀ : Fin n) (hself : P.peer k₀ c = c)
    {src : Memref sig .tc sp s e} {dst : Memref sig .tc sp' s e}
    {hsrc : src.view.WordExact} {hdst : dst.view.WordExact} {hsem : DmaTarget.Typed (nD := nD) (τ := τ) sp (P.sem k₀) (DmaTarget.here (p := Proc.tc) dst)}
    {k : PUnit → Prog (TpuEff nD τ sig Val Λ .tc) α} {q : PosShare TreeShare}
    {fs : Buf Val (src.view.loc (c : Thread nD τ))} {fd : Buf Val (dst.view.loc (c : Thread nD τ))}
    (hN : dst.view.amount (P.sem k₀) = P.amt k₀)
    (hpay : iprop((dst.view.loc (c : Thread nD τ) ↦[dst.view.set]{fullShare} (dst.view.write Val fd (src.view.read Val fs) Finset.univ))
        ∗ (src.view.loc (c : Thread nD τ) ↦[src.view.set]{q} fs)) ⊢ pay c k₀) :
    iprop(P.records pay ∗ (src.view.loc (c : Thread nD τ) ↦[src.view.set]{q} fs)
        ∗ (dst.view.loc (c : Thread nD τ) ↦[dst.view.set]{fullShare} fd) ∗ P.tok c k₀)
      ⊢ iprop((P.due c k₀ -∗ wp frame (wpE defs 𝒱 (c : Thread nD τ) none) Set.univ (k ⟨⟩) Q)
          -∗ wp frame (wpE defs 𝒱 (c : Thread nD τ) none) Set.univ
              (.op (.enqueueDma src (.here dst) (P.sem k₀) hsrc hdst hsem) k) Q) := by
  unfold tok due
  rw [hself]
  iintro ⟨#Hr, Hsrc, Hdst, Ht⟩ Hk
  ihave #HS := (P.records_at pay c k₀) $$ Hr
  unfold known
  icases HS with ⟨⟨%κ, #HI⟩, #Hr0⟩
  iapply (Rounds.wp_copy_pointsTo 𝒱 ER (P.sched pay) (c : Thread nD τ) none (κ := κ) (r := 0) (d := ()) (fd := fd)
    (by rw [duties_cell]; exact Finset.mem_singleton_self _) () (P.amt k₀) hN (P.amount_cell pay c k₀ ())
    (by rw [payload_cell]; exact hpay)) $$ [Hsrc Hdst Ht]
  · isplitr; · iexact HI
    isplitl [Hsrc]; · iexact Hsrc
    isplitl [Hdst]; · iexact Hdst
    isplitl [Ht]; · iexact Ht
    iexact Hr0
  iexact Hk

/-- A wait, below everything still owed: the payload comes, and the semaphore is at zero for good. -/
theorem wp_wait {sp sp' : Space} {s s' : Shape} {e e' : EltTy} (k₀ : Fin n) (l : List (Fin n)) (hl : ∀ k' ∈ l, P.level k₀ < P.level k')
    {sem : DmaSem sig} (hsem : P.sem k₀ = .dma sem)
    {src : Memref sig .tc sp' s' e'} {κ' : Kind} {dst : Memref sig κ' sp s e} {hsrc : src.view.WordExact} {hdst : dst.view.WordExact}
    {k : PUnit → Prog (TpuEff nD τ sig Val Λ .tc) α}
    (hN : dst.view.dmaCredit = P.amt k₀) :
    iprop(P.records pay ∗ levAts L P.lv ∗ P.due c k₀ ∗ P.owing c l ∗ P.fresh c k₀)
      ⊢ iprop(((P.owing c l ∗ P.zero c k₀ ∗ pay c k₀) -∗ wp frame (wpE defs 𝒱 (c : Thread nD τ) none) Set.univ (k ⟨⟩) Q)
          -∗ wp frame (wpE defs 𝒱 (c : Thread nD τ) none) Set.univ (.op (.waitDma2 sem src dst hsrc hdst) k) Q) := by
  unfold due owing fresh zero
  iintro ⟨#Hr, #Hlev, Hc, ⟨%W, HO⟩, Hat⟩ Hk
  ihave #HS := (P.records_at pay c k₀) $$ Hr
  unfold known
  icases HS with ⟨⟨%κ, #HI⟩, -⟩
  iapply (Rounds.wp_wait_rest_token 𝒱 ER (P.sched pay) (c : Thread nD τ) none (κ := κ) (sm := P.sem k₀) (k' := P.amt k₀)
      (w := .waitDma2 sem src dst hsrc hdst)
      (fun K => by rw [hsem, ← hN]; exact wpE_waitDma2_eq 𝒱 (c : Thread nD τ) none Set.univ K)
      (Set.mem_univ _) () (O := P.debt c l) (W := W) (R := 0) (m := 0) (T := ∅)
      (by rw [Nat.zero_add]; exact (P.expect_cell pay c k₀).symm)) $$ [Hc HO Hat]
  · isplitr; · iexact HI
    isplitl [Hc]; · iexact Hc
    isplitl [HO]; · iexact HO
    isplitr; · iapply (P.mayWait c k₀ l hl); iexact Hlev
    iexact Hat
  iintro ⟨HO, Hat, -, Hpay⟩
  ihave Hp := (Entails.of_eq (P.rest_cell pay c k₀)) $$ Hpay
  iapply (fupd_wp frame (wpE defs 𝒱 (c : Thread nD τ) none) Set.univ _ _)
  imod (Rounds.cell_close ER (P.sched pay) (Set.mem_univ κ) (fun h => h) (R := 0 + 1) (P.duties_later pay (P.cell c k₀))) $$ [Hat] with Hz
  · isplitr; · iexact HI
    iexact Hat
  imodintro
  iapply Hk
  isplitl [HO]; · iexists _; iexact HO
  isplitl [Hz] <;> iassumption

end Steps

/-! ## The launch -/

/-- The plan's cells, and the rights to raise them, dealt by `peer`. -/
def cells : Finset (GSem nD τ sig) := Finset.univ.map ⟨fun ck : Dev nD × Fin n => P.cell ck.1 ck.2, P.cell_inj⟩
def toks : Finset (GSem nD τ sig × ℕ × Unit) :=
  Finset.univ.map ⟨fun ck : Dev nD × Fin n => (P.cell (P.peer ck.2 ck.1) ck.2, 0, ()), fun x y h => by
    have h' := P.cell_inj (τ := τ) (a₁ := (P.peer x.2 x.1, x.2)) (a₂ := (P.peer y.2 y.1, y.2)) (congrArg Prod.fst h)
    obtain ⟨c, k⟩ := x; obtain ⟨c', k'⟩ := y
    have hk : k = k' := congrArg Prod.snd h'
    subst hk
    have hc : P.peer k c = P.peer k c' := congrArg Prod.fst h'
    rw [← P.peer_peer k c, hc, P.peer_peer]⟩

/-- What device `c` is dealt of the ghost state. -/
def dealt (c : Dev nD) : sProp 𝕄 :=
  iprop((bigSep Finset.univ fun k : Fin n => roundState ER (P.sched pay) (P.cell c k) 0)
    ∗ (bigSep Finset.univ fun k : Fin n => reached ER (P.cell c k) 0)
    ∗ (bigSep Finset.univ fun k : Fin n => P.fresh c k) ∗ bigSep Finset.univ fun k : Fin n => P.tok c k)

theorem fund : BI.own (ER (initOf P.cells P.toks)) ⊢ (|==> bigSep Finset.univ (P.dealt pay) : sProp 𝕄) := by
  have hX (Φ : GSem nD τ sig → sProp 𝕄) : bigSep P.cells Φ = bigSep Finset.univ fun c : Dev nD => bigSep Finset.univ fun k : Fin n => Φ (P.cell c k) := by
    unfold cells; rw [bigSep_map, bigSep_univ_prod]; rfl
  have hT : bigSep P.toks (fun x => (dutyTok ER x.1 x.2.1 x.2.2 : sProp 𝕄)) = bigSep Finset.univ fun c : Dev nD => bigSep Finset.univ fun k : Fin n => P.tok c k := by
    unfold toks; rw [bigSep_map, bigSep_univ_prod]; rfl
  iintro HX
  imod (Rounds.fund ER (P.sched pay) P.cells P.toks) $$ HX with ⟨Hst, Hr, Hat, Htok⟩
  imodintro
  ihave Hst' := (Entails.of_eq (hX fun g => roundState ER (P.sched pay) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt; simp only [bigSep_sep']
  isplitl [Hst']; · iexact Hst'
  isplitl [Hr']; · iexact Hr'
  isplitl [Hat']; · iexact Hat'
  iexact Htok'

/-- With every semaphore of the plan at zero, the protocol is under way on every device. -/
theorem open_all [∀ c k, BI.Storable (upEmb : UEmb _ 𝕄) (pay c k)] :
    iprop((bigSep Finset.univ fun c : Dev nD => Pipeline.ownSems0 P.sem c) ∗ bigSep Finset.univ (P.dealt pay))
      ⊢ |={Set.univ}=> iprop(P.records pay ∗ (bigSep Finset.univ fun c : Dev nD => bigSep Finset.univ fun k : Fin n => P.fresh c k)
          ∗ bigSep Finset.univ fun c : Dev nD => bigSep Finset.univ fun k : Fin n => P.tok c k) := by
  unfold dealt records known Pipeline.ownSems0
  simp only [bigSep_sep']
  rw [← bigSep_univ_prod (fun ck : Dev nD × Fin n => (semVal (P.cell ck.1 ck.2) 0 : sProp 𝕄)),
    ← bigSep_univ_prod (fun ck : Dev nD × Fin n => (roundState ER (P.sched pay) (P.cell ck.1 ck.2) 0 : sProp 𝕄)),
    ← bigSep_univ_prod (fun ck : Dev nD × Fin n => (reached ER (P.cell ck.1 ck.2) 0 : sProp 𝕄))]
  iintro ⟨Hv, Hst, Hr, Hat, Htok⟩
  imod (show iprop((bigSep Finset.univ fun ck : Dev nD × Fin n => semVal (P.cell ck.1 ck.2) 0)
        ∗ bigSep Finset.univ fun ck : Dev nD × Fin n => roundState ER (P.sched pay) (P.cell ck.1 ck.2) 0)
      ⊢ (|={Set.univ}=> bigSep Finset.univ fun ck : Dev nD × Fin n => iprop(∃ κ : ℕ, cellInv ER (P.sched pay) κ (P.cell ck.1 ck.2)) : sProp 𝕄) from by
        rw [← bigSep_sep']
        exact (bigSep_mono fun ck _ => (Rounds.body_intro ER (P.sched pay) (P.cell ck.1 ck.2)).trans inv_alloc).trans (bigSep_fupd _ _)) $$ [Hv Hst] with Hinv
  · isplitl [Hv] <;> iassumption
  imodintro
  isplitl [Hinv Hr]
  · isplitl [Hinv] <;> iassumption
  isplitl [Hat] <;> iassumption

/-- What the launch credits device `c` with is its right to wait for what its peers owe it. -/
theorem dues_of_launch (c : Dev nD) (l : List (Fin n)) :
    (Pipeline.launchCred (fun d => P.debt d l) c : sProp 𝕄) ⊢ P.dues c l := by
  induction l with
  | nil => exact Entails.of_eq (Pipeline.launchCred_zero c)
  | cons k l ih =>
    have h := Pipeline.launchCred_add (Val := Val) (Name := ℕ) (U := UU nD τ sig) (Lvl := ℕ) (τ := τ) (fun d => P.debt d l)
      (fun d => tallyAt (P.cell (P.peer k d) k) () (P.amt k)) c
    refine (Entails.of_eq h).trans ?_
    refine (BI.sep_mono ih (Pipeline.launchCred_tallyAt (P.sem k) (P.peer k) (P.peer k) (P.peer_peer k) (P.peer_peer k) () (P.amt k) c)).trans ?_
    exact BI.sep_comm

/-- A persistent fact is given to every device. -/
theorem give_all {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

end Plan

end Cert.Train
-- ==== Proof.GatherRun.lean ====
/-
# The gather, on one device

`gather_matrices` on device `c`, written `c ⊕ b` for the device whose number differs from `c`'s in the bits of `b`. It
copies its block into its own result array, sends it to `c ⊕ 1`, `c ⊕ 4`, `c ⊕ 2`, `c ⊕ 6`, and passes each of the
blocks that land from the last three on to `c ⊕ 1`. Fifteen semaphores: 0 … 6 at the sender of each of the seven copies,
7 … 13 at their receiver, 14 for the copy within the device. Piece `c ⊕ b` of the array lands with the semaphore whose
`mask` is `b`.
-/
module

public import proofs.«01_k».proof.Proof.GatherMem
public import proofs.«01_k».proof.Proof.Exchange
public import proofs.«01_k».proof.Proof.Gen.GatherIdeal.Skeleton
public import proofs.«01_k».proof.Proof.Gen.GatherIdeal.Points

@[expose] public section

noncomputable section

namespace Cert.GatherProof

open Cert.GatherIdeal Cert.GatherIdeal.Gen Cert.Train
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

set_option Elab.async false

variable {F : FTy → Type} [FloatOps F]

local notation "𝕄" => MT nD τ sig Unit (Elt F) ℕ (UU nD τ sig) ℕ

/-! ## Who writes what where -/

/-- The device whose number differs from `c`'s in the bits of `b`. -/
def flip (b c : Dev nD) : Dev nD := ⟨(c.val ^^^ b.val) % 8, Nat.mod_lt _ (by decide)⟩

theorem flip_flip (b c : Dev nD) : flip b (flip b c) = c := by revert b c; decide
def flipEquiv (b : Dev nD) : Dev nD ≃ Dev nD := ⟨flip b, flip b, flip_flip b, flip_flip b⟩
/-- Exclusive or from the right. -/
def fromEquiv (c : Dev nD) : Dev nD ≃ Dev nD := ⟨fun b => flip b c, fun b => flip b c, fun b => by revert b c; decide, fun b => by revert b c; decide⟩

/-- Which piece of the receiver's array (counted from the receiver) lands with a semaphore; of the senders' semaphores
    4, 5 and 6, which piece was the source. -/
def mask : Fin 15 → Dev nD := ![0, 0, 0, 0, 4, 2, 6, 1, 4, 2, 6, 5, 3, 7, 0]
/-- Who raises a semaphore, counted from its owner. -/
def mate : Fin 15 → Dev nD := ![0, 0, 0, 0, 0, 0, 0, 1, 4, 2, 6, 1, 1, 1, 0]

def plan : Plan nD sig 15 where
  sem k := .dma (⟨k.val, k.isLt⟩ : Fin 15)
  inj := by decide
  amt _ := (xM : Memref sig .tc .hbm S5040x1024 .bf16).view.dmaCredit
  pos _ := View.dmaCredit_pos _ (by decide)
  peer k := flip (mate k)
  peer_peer k := flip_flip (mate k)
  order := [7, 8, 9, 10, 11, 12, 13]
  level k := if 11 ≤ k.val ∧ k.val ≤ 13 then 1 else 0

theorem self14 (c : Dev nD) : flip 0 c = c := by revert c; decide

/-! ## What the semaphores hand over -/

variable (m : Mem F)

/-- One of eight shares of device `c`'s block. -/
def xs (c : Dev nD) (i : Fin (2 ^ 3)) : sProp 𝕄 :=
  xM.view.loc (c : Thread nD τ) ↦[xM.view.set]{ShareLeaves.leaf 3 fullShare i} m ((c : Thread nD τ).loc main_arg0)
/-- Piece `e` of device `c`'s array, as the gather leaves it. -/
def got (c e : Dev nD) : sProp 𝕄 := (c : Thread nD τ).loc main_v1 ↦[piece e]{fullShare} full m
/-- Piece `e` of device `c`'s array, as it was. -/
def was (c e : Dev nD) : sProp 𝕄 := (c : Thread nD τ).loc main_v1 ↦[piece e]{fullShare} m ((c : Thread nD τ).loc main_v1)

def pay (c : Dev nD) (k : Fin 15) : sProp 𝕄 :=
  match k with
  | 0 => xs m c 0
  | 1 => xs m c 1
  | 2 => xs m c 2
  | 3 => xs m c 3
  | 14 => iprop(got m c (flip (mask 14) c) ∗ xs m c 4)
  | k => got m c (flip (mask k) c)

instance xs_storable (c : Dev nD) (i) : BI.Storable (upEmb : UEmb _ 𝕄) (xs m c i) := by unfold xs; infer_instance
instance got_storable (c e : Dev nD) : BI.Storable (upEmb : UEmb _ 𝕄) (got m c e) := by unfold got; infer_instance
instance pay_storable (c : Dev nD) (k : Fin 15) : BI.Storable (upEmb : UEmb _ 𝕄) (pay m c k) := by
  unfold pay
  split <;> infer_instance

/-! ## The printed offsets and devices -/

theorem off1_eq (c : Dev nD) : k0_off1 c = ![5040 * c.val, 0] := by rw [k0_off1_eq]; revert c; decide
theorem off2_eq (c : Dev nD) : k0_off2 c = ![5040 * (flip 4 c).val, 0] := by rw [k0_off2_eq]; revert c; decide
theorem off3_eq (c : Dev nD) : k0_off3 c = ![5040 * (flip 2 c).val, 0] := by rw [k0_off3_eq]; revert c; decide
theorem off4_eq (c : Dev nD) : k0_off4 c = ![5040 * (flip 6 c).val, 0] := by rw [k0_off4_eq]; revert c; decide
theorem dev1_eq (c : Dev nD) : (⟨k0_dev1 c, k0_dev1_lt c⟩ : Dev nD) = plan.peer 7 c := Fin.ext (by show k0_dev1 c = (flip 1 c).val; rw [k0_dev1_eq]; revert c; decide)
theorem dev2_eq (c : Dev nD) : (⟨k0_dev2 c, k0_dev2_lt c⟩ : Dev nD) = plan.peer 8 c := Fin.ext (by show k0_dev2 c = (flip 4 c).val; rw [k0_dev2_eq]; revert c; decide)
theorem dev3_eq (c : Dev nD) : (⟨k0_dev3 c, k0_dev3_lt c⟩ : Dev nD) = plan.peer 9 c := Fin.ext (by show k0_dev3 c = (flip 2 c).val; rw [k0_dev3_eq]; revert c; decide)
theorem dev4_eq (c : Dev nD) : (⟨k0_dev4 c, k0_dev4_lt c⟩ : Dev nD) = plan.peer 10 c := Fin.ext (by show k0_dev4 c = (flip 6 c).val; rw [k0_dev4_eq]; revert c; decide)
theorem dev5_eq (c : Dev nD) : (⟨k0_dev5 c, k0_dev5_lt c⟩ : Dev nD) = plan.peer 11 c := Fin.ext (by show k0_dev5 c = (flip 1 c).val; rw [k0_dev5_eq]; revert c; decide)
theorem dev6_eq (c : Dev nD) : (⟨k0_dev6 c, k0_dev6_lt c⟩ : Dev nD) = plan.peer 12 c := Fin.ext (by show k0_dev6 c = (flip 1 c).val; rw [k0_dev6_eq]; revert c; decide)
theorem dev7_eq (c : Dev nD) : (⟨k0_dev7 c, k0_dev7_lt c⟩ : Dev nD) = plan.peer 13 c := Fin.ext (by show k0_dev7 c = (flip 1 c).val; rw [k0_dev7_eq]; revert c; decide)

/-! ## The steps -/

section Steps

variable (𝒱 : Variants) (c : Dev nD) {α : Type} {Q : α → sProp (MT nD τ sig Unit (Elt F) ℕ (UU nD τ sig) ℕ)}

/-- The block is sent to the device that semaphore `kR` counts it from. -/
theorem send_x (kS kR : Fin 15) (l : List (Fin 15)) (i : Fin (2 ^ 3)) {D : Dev nD} (hD : D = plan.peer kR c) {off inb} (hoff : off = ![5040 * c.val, 0])
    (hself : plan.peer kS c = c) (hm : flip (mask kR) (plan.peer kR c) = c)
    (hpS : pay m c kS = xs m c i) (hpR : ∀ d, pay m d kR = got m d (flip (mask kR) d))
    {sS sR : DmaSem sig} (hsS : plan.sem kS = .dma sS) (hsR : plan.sem kR = .dma sR)
    {hsc : (oM off inb).view.ref.isScScratch = false}
    {hsrc : xM.view.WordExact} {hdst : (oM off inb).view.WordExact}
    {hsem : DmaTarget.Typed (nD := nD) (τ := τ) .hbm (.dma sR) (.remote (D : Thread nD τ) (oM off inb) (.dma sS) hsc)}
    {k : PUnit → Prog (TpuEff nD τ sig (Elt F) Λ₀ .tc) α} :
    iprop(plan.records (pay m) ∗ xs m c i ∗ was m (plan.peer kR c) c ∗ plan.owing c (kR :: l) ∗ plan.tok c kS ∗ plan.tok c kR)
      ⊢ iprop(((plan.due c kS ∗ plan.owing c l) -∗ wp frame (wpE (defs₀ (F := F)) 𝒱 (c : Thread nD τ) none) Set.univ (k ⟨⟩) Q)
          -∗ wp frame (wpE (defs₀ (F := F)) 𝒱 (c : Thread nD τ) none) Set.univ
              (.op (.enqueueDma xM (.remote (D : Thread nD τ) (oM off inb) (.dma sS) hsc) (.dma sR) hsrc hdst hsem) k) Q) := by
  subst hD
  have h := Plan.wp_send plan (pay m) (defs := defs₀ (F := F)) 𝒱 c (Q := Q) kS kR l hself (src := xM) (dst := oM off inb) (hsc := hsc) (hsrc := hsrc) (hdst := hdst)
    (hsem := by rw [hsR, hsS]; exact hsem) (k := k) (q := ShareLeaves.leaf 3 fullShare i)
    (fs := m ((c : Thread nD τ).loc main_arg0)) (fd := m ((plan.peer kR c : Thread nD τ).loc main_v1))
    rfl rfl (by routes) (Entails.of_eq hpS.symm)
    (by rw [hpR, hm]; exact Entails.of_eq (pts_land m hoff _ _ _ (View.read_whole main_arg0 _)))
  unfold was
  rw [← set_oM (inb := inb) hoff]
  simp only [hsR, hsS] at h
  exact h

/-- A piece that has landed is passed on. -/
theorem send_o (kS kR : Fin 15) (l : List (Fin 15)) {D : Dev nD} (hD : D = plan.peer kR c) (e : Dev nD) {off inb} (hoff : off = ![5040 * e.val, 0])
    (hself : plan.peer kS c = c) (hm : flip (mask kR) (plan.peer kR c) = e)
    (hpS : pay m c kS = got m c e) (hpR : ∀ d, pay m d kR = got m d (flip (mask kR) d))
    {sS sR : DmaSem sig} (hsS : plan.sem kS = .dma sS) (hsR : plan.sem kR = .dma sR)
    {hsc : (oM off inb).view.ref.isScScratch = false}
    {hsrc : (oM off inb).view.WordExact} {hdst : (oM off inb).view.WordExact}
    {hsem : DmaTarget.Typed (nD := nD) (τ := τ) .hbm (.dma sR) (.remote (D : Thread nD τ) (oM off inb) (.dma sS) hsc)}
    {k : PUnit → Prog (TpuEff nD τ sig (Elt F) Λ₀ .tc) α} :
    iprop(plan.records (pay m) ∗ got m c e ∗ was m (plan.peer kR c) e ∗ plan.owing c (kR :: l) ∗ plan.tok c kS ∗ plan.tok c kR)
      ⊢ iprop(((plan.due c kS ∗ plan.owing c l) -∗ wp frame (wpE (defs₀ (F := F)) 𝒱 (c : Thread nD τ) none) Set.univ (k ⟨⟩) Q)
          -∗ wp frame (wpE (defs₀ (F := F)) 𝒱 (c : Thread nD τ) none) Set.univ
              (.op (.enqueueDma (oM off inb) (.remote (D : Thread nD τ) (oM off inb) (.dma sS) hsc) (.dma sR) hsrc hdst hsem) k) Q) := by
  subst hD
  have h := Plan.wp_send plan (pay m) (defs := defs₀ (F := F)) 𝒱 c (Q := Q) kS kR l hself (src := oM off inb) (dst := oM off inb) (hsc := hsc) (hsrc := hsrc) (hdst := hdst)
    (hsem := by rw [hsR, hsS]; exact hsem) (k := k) (q := fullShare)
    (fs := full m) (fd := m ((plan.peer kR c : Thread nD τ).loc main_v1))
    rfl rfl (by routes) (by rw [hpS]; unfold got; rw [← set_oM (inb := inb) hoff])
    (by rw [hpR, hm]; exact Entails.of_eq (pts_land m hoff _ _ _ (read_full m hoff)))
  unfold was got
  rw [← set_oM (inb := inb) hoff]
  simp only [hsR, hsS] at h
  exact h

/-- The block is copied into the device's own array. -/
theorem copy_x {off inb} (hoff : off = ![5040 * c.val, 0]) {s₀ : DmaSem sig} (hs : plan.sem 14 = .dma s₀)
    {hsrc : xM.view.WordExact} {hdst : (oM off inb).view.WordExact}
    {hsem : DmaTarget.Typed (nD := nD) (τ := τ) .hbm (.dma s₀) (DmaTarget.here (p := Proc.tc) (oM off inb))}
    {k : PUnit → Prog (TpuEff nD τ sig (Elt F) Λ₀ .tc) α} :
    iprop(plan.records (pay m) ∗ xs m c 4 ∗ was m c c ∗ plan.tok c 14)
      ⊢ iprop((plan.due c 14 -∗ wp frame (wpE (defs₀ (F := F)) 𝒱 (c : Thread nD τ) none) Set.univ (k ⟨⟩) Q)
          -∗ wp frame (wpE (defs₀ (F := F)) 𝒱 (c : Thread nD τ) none) Set.univ
              (.op (.enqueueDma xM (DmaTarget.here (p := Proc.tc) (oM off inb)) (.dma s₀) hsrc hdst hsem) k) Q) := by
  have h := Plan.wp_copy plan (pay m) (defs := defs₀ (F := F)) 𝒱 c (Q := Q) 14 (self14 c) (src := xM) (dst := oM off inb) (hsrc := hsrc) (hdst := hdst)
    (hsem := by rw [hs]; exact hsem) (k := k) (q := ShareLeaves.leaf 3 fullShare 4)
    (fs := m ((c : Thread nD τ).loc main_arg0)) (fd := m ((c : Thread nD τ).loc main_v1))
    rfl (by
      have h0 : flip (mask 14) c = c := self14 c
      show _ ⊢ iprop(got m c (flip (mask 14) c) ∗ xs m c 4)
      rw [h0]
      exact BI.sep_mono (Entails.of_eq (pts_land m hoff _ _ _ (View.read_whole main_arg0 _))) (BI.Entails.refl _))
  unfold was
  rw [← set_oM (inb := inb) hoff]
  simp only [hs] at h
  exact h

end Steps

/-! ## The body -/

/-- The pieces a device is to write: its own, and one in each landing place at its peers. -/
def landings (c : Dev nD) : sProp 𝕄 :=
  iprop(was m c c ∗ was m (plan.peer 7 c) c ∗ was m (plan.peer 8 c) c ∗ was m (plan.peer 9 c) c ∗ was m (plan.peer 10 c) c
      ∗ was m (plan.peer 11 c) (flip 4 c) ∗ was m (plan.peer 12 c) (flip 2 c) ∗ was m (plan.peer 13 c) (flip 6 c))

/-- What a device starts from: its block in eight shares, its own piece, and of each peer's array the piece it is to
    write; the rights to raise and to wait. -/
def before (c : Dev nD) : sProp 𝕄 :=
  iprop((bigSep Finset.univ fun i => xs m c i)
    ∗ landings m c
    ∗ plan.records (pay m) ∗ levAts Plan.L plan.lv ∗ plan.dues c plan.order
    ∗ (bigSep Finset.univ fun k : Fin 15 => plan.fresh c k) ∗ bigSep Finset.univ fun k : Fin 15 => plan.tok c k)

/-- What it ends with: its block, the gathered array, its semaphores at zero. -/
def after (c : Dev nD) : sProp 𝕄 :=
  iprop((bigSep Finset.univ fun i => xs m c i) ∗ (bigSep Finset.univ fun b : Dev nD => got m c (flip b c))
    ∗ bigSep Finset.univ fun k : Fin 15 => plan.zero c k)

theorem fin15 (Φ : Fin 15 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ
theorem fin8 (Φ : Fin (2 ^ 3) → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem bigSep_fin_8 (Φ : Dev nD → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem across4 (c : Dev nD) : flip 5 (flip 1 c) = flip 4 c := by revert c; decide
theorem across2 (c : Dev nD) : flip 3 (flip 1 c) = flip 2 c := by revert c; decide
theorem across6 (c : Dev nD) : flip 7 (flip 1 c) = flip 6 c := by revert c; decide
theorem dues_eq (c : Dev nD) : (plan.dues c plan.order : sProp 𝕄)
    = iprop(plan.due c 7 ∗ plan.due c 8 ∗ plan.due c 9 ∗ plan.due c 10 ∗ plan.due c 11 ∗ plan.due c 12 ∗ plan.due c 13 ∗ emp) := rfl

set_option maxRecDepth 8000 in
theorem body (𝒱 : Variants) (c : Dev nD) :
    iprop(before m c ∗ plan.owing c plan.order) ⊢ wp frame (wpE (defs₀ (F := F)) 𝒱 (c : Thread nD τ) none) Set.univ
      (bodyAt0 (F := F) t0_0) fun _ => iprop(after m c ∗ plan.owing c []) := by
  unfold before after landings
  rw [fin8, fin15, fin15, fin15, dues_eq, bigSep_fin_8]
  iintro ⟨⟨⟨X0, X1, X2, X3, X4, X5, X6, X7⟩, ⟨W0, W1, W4, W2, W6, W5, W3, W7⟩, #Hr, #Hlev, ⟨D7, D8, D9, D10, D11, D12, D13, -⟩,
    ⟨A0, A1, A2, A3, A4, A5, A6, A7, A8, A9, A10, A11, A12, A13, A14⟩, ⟨T0, T1, T2, T3, T4, T5, T6, T7, T8, T9, T10, T11, T12, T13, T14⟩⟩, HO⟩
  unfold bodyAt0
  simp only [cc0_gather_matrices_eq_skeleton]
  unfold cc0_gather_matrices_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [Prog.lift, Prog.bind_op, Prog.bind_ret, Prog.pure_eq_ret, wp_deviceId]
  -- its own block, into its own array
  iapply (copy_x m 𝒱 c (off1_eq c) (s₀ := (14 : Fin 15)) rfl) $$ [X4 W0 T14]
  · isplitr; · iexact Hr
    isplitl [X4]; · iexact X4
    isplitl [W0]; · iexact W0
    iexact T14
  iintro D14
  -- its block, to four peers
  iapply (send_x m 𝒱 c 0 7 [8, 9, 10, 11, 12, 13] 0 (dev1_eq c) (off1_eq c) (self14 c) (flip_flip 1 c) rfl (fun _ => rfl) (sS := (0 : Fin 15)) (sR := (7 : Fin 15)) rfl rfl) $$ [X0 W1 HO T0 T7]
  · isplitr; · iexact Hr
    isplitl [X0]; · iexact X0
    isplitl [W1]; · iexact W1
    isplitl [HO]; · iexact HO
    isplitl [T0] <;> iassumption
  iintro ⟨D0, HO⟩
  iapply (send_x m 𝒱 c 1 8 [9, 10, 11, 12, 13] 1 (dev2_eq c) (off1_eq c) (self14 c) (flip_flip 4 c) rfl (fun _ => rfl) (sS := (1 : Fin 15)) (sR := (8 : Fin 15)) rfl rfl) $$ [X1 W4 HO T1 T8]
  · isplitr; · iexact Hr
    isplitl [X1]; · iexact X1
    isplitl [W4]; · iexact W4
    isplitl [HO]; · iexact HO
    isplitl [T1] <;> iassumption
  iintro ⟨D1, HO⟩
  iapply (send_x m 𝒱 c 2 9 [10, 11, 12, 13] 2 (dev3_eq c) (off1_eq c) (self14 c) (flip_flip 2 c) rfl (fun _ => rfl) (sS := (2 : Fin 15)) (sR := (9 : Fin 15)) rfl rfl) $$ [X2 W2 HO T2 T9]
  · isplitr; · iexact Hr
    isplitl [X2]; · iexact X2
    isplitl [W2]; · iexact W2
    isplitl [HO]; · iexact HO
    isplitl [T2] <;> iassumption
  iintro ⟨D2, HO⟩
  iapply (send_x m 𝒱 c 3 10 [11, 12, 13] 3 (dev4_eq c) (off1_eq c) (self14 c) (flip_flip 6 c) rfl (fun _ => rfl) (sS := (3 : Fin 15)) (sR := (10 : Fin 15)) rfl rfl) $$ [X3 W6 HO T3 T10]
  · isplitr; · iexact Hr
    isplitl [X3]; · iexact X3
    isplitl [W6]; · iexact W6
    isplitl [HO]; · iexact HO
    isplitl [T3] <;> iassumption
  iintro ⟨D3, HO⟩
  -- what lands from three of them, passed on
  iapply (Plan.wp_wait plan (pay m) 𝒱 c 8 [11, 12, 13] (by decide) (sem := (8 : Fin 15)) rfl rfl) $$ [D8 HO A8]
  · isplitr; · iexact Hr
    isplitr; · iexact Hlev
    isplitl [D8]; · iexact D8
    isplitl [HO] <;> iassumption
  iintro ⟨HO, Z8, P⟩
  ihave G4 := (Entails.of_eq (show pay m c 8 = got m c (flip 4 c) from rfl)) $$ P
  iapply (send_o m 𝒱 c 4 11 [12, 13] (dev5_eq c) (flip 4 c) (off2_eq c) (self14 c) (across4 c) rfl (fun _ => rfl) (sS := (4 : Fin 15)) (sR := (11 : Fin 15)) rfl rfl) $$ [G4 W5 HO T4 T11]
  · isplitr; · iexact Hr
    isplitl [G4]; · iexact G4
    isplitl [W5]; · iexact W5
    isplitl [HO]; · iexact HO
    isplitl [T4] <;> iassumption
  iintro ⟨D4, HO⟩
  iapply (Plan.wp_wait plan (pay m) 𝒱 c 9 [12, 13] (by decide) (sem := (9 : Fin 15)) rfl rfl) $$ [D9 HO A9]
  · isplitr; · iexact Hr
    isplitr; · iexact Hlev
    isplitl [D9]; · iexact D9
    isplitl [HO] <;> iassumption
  iintro ⟨HO, Z9, P⟩
  ihave G2 := (Entails.of_eq (show pay m c 9 = got m c (flip 2 c) from rfl)) $$ P
  iapply (send_o m 𝒱 c 5 12 [13] (dev6_eq c) (flip 2 c) (off3_eq c) (self14 c) (across2 c) rfl (fun _ => rfl) (sS := (5 : Fin 15)) (sR := (12 : Fin 15)) rfl rfl) $$ [G2 W3 HO T5 T12]
  · isplitr; · iexact Hr
    isplitl [G2]; · iexact G2
    isplitl [W3]; · iexact W3
    isplitl [HO]; · iexact HO
    isplitl [T5] <;> iassumption
  iintro ⟨D5, HO⟩
  iapply (Plan.wp_wait plan (pay m) 𝒱 c 10 [13] (by decide) (sem := (10 : Fin 15)) rfl rfl) $$ [D10 HO A10]
  · isplitr; · iexact Hr
    isplitr; · iexact Hlev
    isplitl [D10]; · iexact D10
    isplitl [HO] <;> iassumption
  iintro ⟨HO, Z10, P⟩
  ihave G6 := (Entails.of_eq (show pay m c 10 = got m c (flip 6 c) from rfl)) $$ P
  iapply (send_o m 𝒱 c 6 13 [] (dev7_eq c) (flip 6 c) (off4_eq c) (self14 c) (across6 c) rfl (fun _ => rfl) (sS := (6 : Fin 15)) (sR := (13 : Fin 15)) rfl rfl) $$ [G6 W7 HO T6 T13]
  · isplitr; · iexact Hr
    isplitl [G6]; · iexact G6
    isplitl [W7]; · iexact W7
    isplitl [HO]; · iexact HO
    isplitl [T6] <;> iassumption
  iintro ⟨D6, HO⟩
  -- the other landings, and the sources
  iapply (Plan.wp_wait plan (pay m) 𝒱 c 7 [] (by decide) (sem := (7 : Fin 15)) rfl rfl) $$ [D7 HO A7]
  · isplitr; · iexact Hr
    isplitr; · iexact Hlev
    isplitl [D7]; · iexact D7
    isplitl [HO] <;> iassumption
  iintro ⟨HO, Z7, P⟩
  ihave G1 := (Entails.of_eq (show pay m c 7 = got m c (flip 1 c) from rfl)) $$ P
  iapply (Plan.wp_wait plan (pay m) 𝒱 c 11 [] (by decide) (sem := (11 : Fin 15)) rfl rfl) $$ [D11 HO A11]
  · isplitr; · iexact Hr
    isplitr; · iexact Hlev
    isplitl [D11]; · iexact D11
    isplitl [HO] <;> iassumption
  iintro ⟨HO, Z11, P⟩
  ihave G5 := (Entails.of_eq (show pay m c 11 = got m c (flip 5 c) from rfl)) $$ P
  iapply (Plan.wp_wait plan (pay m) 𝒱 c 12 [] (by decide) (sem := (12 : Fin 15)) rfl rfl) $$ [D12 HO A12]
  · isplitr; · iexact Hr
    isplitr; · iexact Hlev
    isplitl [D12]; · iexact D12
    isplitl [HO] <;> iassumption
  iintro ⟨HO, Z12, P⟩
  ihave G3 := (Entails.of_eq (show pay m c 12 = got m c (flip 3 c) from rfl)) $$ P
  iapply (Plan.wp_wait plan (pay m) 𝒱 c 13 [] (by decide) (sem := (13 : Fin 15)) rfl rfl) $$ [D13 HO A13]
  · isplitr; · iexact Hr
    isplitr; · iexact Hlev
    isplitl [D13]; · iexact D13
    isplitl [HO] <;> iassumption
  iintro ⟨HO, Z13, P⟩
  ihave G7 := (Entails.of_eq (show pay m c 13 = got m c (flip 7 c) from rfl)) $$ P
  iapply (Plan.wp_wait plan (pay m) 𝒱 c 0 [] (by decide) (sem := (0 : Fin 15)) rfl rfl) $$ [D0 HO A0]
  · isplitr; · iexact Hr
    isplitr; · iexact Hlev
    isplitl [D0]; · iexact D0
    isplitl [HO] <;> iassumption
  iintro ⟨HO, Z0, P⟩
  ihave X0 := (Entails.of_eq (show pay m c 0 = xs m c 0 from rfl)) $$ P
  iapply (Plan.wp_wait plan (pay m) 𝒱 c 1 [] (by decide) (sem := (1 : Fin 15)) rfl rfl) $$ [D1 HO A1]
  · isplitr; · iexact Hr
    isplitr; · iexact Hlev
    isplitl [D1]; · iexact D1
    isplitl [HO] <;> iassumption
  iintro ⟨HO, Z1, P⟩
  ihave X1 := (Entails.of_eq (show pay m c 1 = xs m c 1 from rfl)) $$ P
  iapply (Plan.wp_wait plan (pay m) 𝒱 c 2 [] (by decide) (sem := (2 : Fin 15)) rfl rfl) $$ [D2 HO A2]
  · isplitr; · iexact Hr
    isplitr; · iexact Hlev
    isplitl [D2]; · iexact D2
    isplitl [HO] <;> iassumption
  iintro ⟨HO, Z2, P⟩
  ihave X2 := (Entails.of_eq (show pay m c 2 = xs m c 2 from rfl)) $$ P
  iapply (Plan.wp_wait plan (pay m) 𝒱 c 3 [] (by decide) (sem := (3 : Fin 15)) rfl rfl) $$ [D3 HO A3]
  · isplitr; · iexact Hr
    isplitr; · iexact Hlev
    isplitl [D3]; · iexact D3
    isplitl [HO] <;> iassumption
  iintro ⟨HO, Z3, P⟩
  ihave X3 := (Entails.of_eq (show pay m c 3 = xs m c 3 from rfl)) $$ P
  iapply (Plan.wp_wait plan (pay m) 𝒱 c 4 [] (by decide) (sem := (4 : Fin 15)) rfl rfl) $$ [D4 HO A4]
  · isplitr; · iexact Hr
    isplitr; · iexact Hlev
    isplitl [D4]; · iexact D4
    isplitl [HO] <;> iassumption
  iintro ⟨HO, Z4, P⟩
  ihave G4 := (Entails.of_eq (show pay m c 4 = got m c (flip 4 c) from rfl)) $$ P
  iapply (Plan.wp_wait plan (pay m) 𝒱 c 5 [] (by decide) (sem := (5 : Fin 15)) rfl rfl) $$ [D5 HO A5]
  · isplitr; · iexact Hr
    isplitr; · iexact Hlev
    isplitl [D5]; · iexact D5
    isplitl [HO] <;> iassumption
  iintro ⟨HO, Z5, P⟩
  ihave G2 := (Entails.of_eq (show pay m c 5 = got m c (flip 2 c) from rfl)) $$ P
  iapply (Plan.wp_wait plan (pay m) 𝒱 c 6 [] (by decide) (sem := (6 : Fin 15)) rfl rfl) $$ [D6 HO A6]
  · isplitr; · iexact Hr
    isplitr; · iexact Hlev
    isplitl [D6]; · iexact D6
    isplitl [HO] <;> iassumption
  iintro ⟨HO, Z6, P⟩
  ihave G6 := (Entails.of_eq (show pay m c 6 = got m c (flip 6 c) from rfl)) $$ P
  iapply (Plan.wp_wait plan (pay m) 𝒱 c 14 [] (by decide) (sem := (14 : Fin 15)) rfl rfl) $$ [D14 HO A14]
  · isplitr; · iexact Hr
    isplitr; · iexact Hlev
    isplitl [D14]; · iexact D14
    isplitl [HO] <;> iassumption
  iintro ⟨HO, Z14, P⟩
  ihave GX := (Entails.of_eq (show pay m c 14 = iprop(got m c (flip 0 c) ∗ xs m c 4) from rfl)) $$ P
  icases GX with ⟨G0, X4⟩
  rw [wp_ret]
  imodintro
  isplitr [HO]
  · isplitl [X0 X1 X2 X3 X4 X5 X6 X7]
    · isplitl [X0]; · iexact X0
      isplitl [X1]; · iexact X1
      isplitl [X2]; · iexact X2
      isplitl [X3]; · iexact X3
      isplitl [X4]; · iexact X4
      isplitl [X5]; · iexact X5
      isplitl [X6] <;> iassumption
    isplitl [G0 G1 G2 G3 G4 G5 G6 G7]
    · isplitl [G0]; · iexact G0
      isplitl [G1]; · iexact G1
      isplitl [G2]; · iexact G2
      isplitl [G3]; · iexact G3
      isplitl [G4]; · iexact G4
      isplitl [G5]; · iexact G5
      isplitl [G6] <;> iassumption
    · isplitl [Z0]; · iexact Z0
      isplitl [Z1]; · iexact Z1
      isplitl [Z2]; · iexact Z2
      isplitl [Z3]; · iexact Z3
      isplitl [Z4]; · iexact Z4
      isplitl [Z5]; · iexact Z5
      isplitl [Z6]; · iexact Z6
      isplitl [Z7]; · iexact Z7
      isplitl [Z8]; · iexact Z8
      isplitl [Z9]; · iexact Z9
      isplitl [Z10]; · iexact Z10
      isplitl [Z11]; · iexact Z11
      isplitl [Z12]; · iexact Z12
      isplitl [Z13] <;> iassumption
  · iexact HO

end Cert.GatherProof

end
-- ==== Proof.TalkFirst.lean ====
/-
# Launching a program whose first kernel call talks

The programs of this directory begin with a kernel call that copies blocks straight into the peers' result arrays. A
device may do so before the peer has reached the call, so the sender must hold the peer's landing blocks, and the
peer's semaphores must already be under their invariants, when the machine starts. The launch proved here makes both
possible: one global step turns the own semaphores of the first call AND the arrays of all devices, at once, into what
each device's thread starts from. The rest of @main runs as a list of segments.
-/
module

public import Idealize.ShloMosaic.Lib.Pipeline.Regions
public import Idealize.ShloMosaic.Lib.Pipeline.Launch
public import Idealize.ShloMosaic.Lib.Pipeline.Kit
public import Idealize.ShloMosaic.Lib.Tactic

@[expose] public section

noncomputable section

namespace Cert.Train

open Idealize.ShloMosaic
open Idealize.SL
open Idealize.SL.BI (sProp bigSep bigSep_sep' bigSep_mono bigSep_congr bigSep_univ_prod)
open scoped Idealize.SL.BI
open Idealize.SL.BI.BIBase Idealize.SL.BI.Laws Idealize.SL.Sem Idealize.SL.ProofMode
open Idealize.SL.RA
open TcCoe
open Idealize.ShloMosaic.Rounds Idealize.ShloMosaic.Pipeline Idealize.ShloMosaic.Pipeline.PerCore

set_option Elab.async false

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

variable {Λ₀ : Idealize.SL.Sem.Labels} {P : Type} [Fintype P]

variable (pcs : P → PCfg sig Λ₀ Val) (a : Dev nD → (p : P) → (pcs p).Adm)
  (pdats : (p : P) → (c : Dev nD) → Dat τ Val Ix Name U Lvl (pinD pcs a c p) c) (ι : Ix)
  (phinj : Function.Injective (PerCore.cellOf (nD := nD) (pinD pcs a)))
  (EP : Emb (URounds (GSem nD τ sig) Unit) (MT nD τ sig Ix Val Name U Lvl))
  (defs₀ : Defs nD τ sig Val Λ₀) (𝒱₀ : Variants)
  (L : GSem nD τ sig → Finset Ix) (lv : GSem nD τ sig → Ix → Lvl) [Preorder Lvl]

local notation "𝔻" => Pipeline.defs pcs defs₀
local notation "𝕍" => Variants.lift 𝒱₀

/-- The first call `p` as the launch sees it. It is a region of @main, except that its own semaphores do not pass
    through the region's entry: whoever makes the entry state `pre` has had them since the start. -/
structure FirstCall (p : P) where
  win : WinFacts₀ (pcs p).spec
  block_pos : ∀ w : Fin (pcs p).W, 0 < ((pcs p).spec w).block.numel
  stage_whole : ∀ (w : Fin (pcs p).W) (s : Fin ((pcs p).spec w).nbuf), (((pcs p).spec w).stage s).IsWhole
  K : Type
  [fK : Fintype K]
  osem : K → SemLoc sig
  ho : OwnSemFacts (pcs p).spec osem
  hbody : ∀ c, BodyObligationLoose (pdats p c) defs₀ 𝒱₀ ι Set.univ
  hwaits : ∀ c, (levAts L lv : sProp 𝕄) ⊢ PerCore.cellsWaits (pinD pcs a) pdats ι p c
  pre : Dev nD → sProp 𝕄
  post : Dev nD → sProp 𝕄
  X : Dev nD → sProp 𝕄
  Y : Dev nD → sProp 𝕄
  Z : Dev nD → sProp 𝕄
  hentry : ∀ c, iprop(pre c ∗ levAts L lv)
    ⊢ |={Set.univ}=> iprop((pdats p c).arrays ((pdats p c).arrAt · 0) ∗ prefHeld (pcs p).pre c (fun _ => fullShare) (a c p).1
        ∗ (pdats p c).owesAt ι 0 ∗ X c ∗ Z c)
  hin : ∀ c, iprop(X c ∗ prefHeld (pcs p).pre c (fun _ => fullShare) (a c p).1 ∗ scopedRest (pcs p).spec c) ⊢ (pdats p c).Φ 0
  hout : ∀ c, (pdats p c).Φ (Fin.last (pinD pcs a c p).N) ⊢ iprop(Y c ∗ ownSems0 osem c ∗ scopedRest (pcs p).spec c)
  hexit : ∀ c, iprop((pdats p c).arrays ((pdats p c).arrAt · (pinD pcs a c p).N) ∗ (pdats p c).owesAt ι (Fin.last (pinD pcs a c p).N) ∗ Y c ∗ Z c)
    ⊢ |={Set.univ}=> post c

attribute [instance] FirstCall.fK

variable {pcs a pdats ι defs₀ 𝒱₀ L lv}

/-- The region boundary of device `c` less the first call's own semaphores. -/
def FirstCall.start {p : P} (R : FirstCall pcs a pdats ι defs₀ 𝒱₀ L lv p) (c : Dev nD) : sProp 𝕄 :=
  iprop(scopedBufs (c.tc : Thread nD τ) ∗ cellsSems0 (pinD pcs a) p c ∗ idleSems0 (pinD pcs a) phinj p (fun _ => R.ho) c
    ∗ opIdle (c.tc : Thread nD τ))

theorem FirstCall.boundary_split {p : P} (R : FirstCall pcs a pdats ι defs₀ 𝒱₀ L lv p) (c : Dev nD) :
    (boundary (c.tc : Thread nD τ) : sProp 𝕄) ⊢ iprop(R.start phinj c ∗ ownSems0 R.osem c) := by
  unfold boundary FirstCall.start
  rw [scopedSems0_split (pinD pcs a) phinj p (fun _ => R.win) (fun _ => R.ho) c]
  iintro ⟨Hbufs, ⟨⟨Hcells, Hown⟩, Hidle⟩, Hop⟩
  isplitr [Hown]
  · isplitl [Hbufs]; · iexact Hbufs
    isplitl [Hcells]; · iexact Hcells
    isplitl [Hidle] <;> iassumption
  · iexact Hown

/-- The first call runs, from the boundary less its own semaphores and the entry state, to the whole boundary and the
    exit state. -/
theorem FirstCall.wp [∀ e, Nonempty (Val e)] [Infinite Name] [EP.LandsIn (upEmb : UEmb _ 𝕄)]
    {p : P} (R : FirstCall pcs a pdats ι defs₀ 𝒱₀ L lv p) (c : Dev nD)
    {α : Type} (k : PUnit → Prog (TpuEff nD τ sig Val (Sig Λ₀ P fun p => (pcs p).Adm) .tc) α) (Q : α → sProp 𝕄) :
    iprop((iprop(boundary (c.tc : Thread nD τ) ∗ R.post c) -∗ Idealize.SL.Sem.wp frame (wpE 𝔻 𝕍 (c.tc : Thread nD τ) none) Set.univ (k ⟨⟩) Q)
        ∗ R.start phinj c ∗ R.pre c ∗ levAts L lv
        ∗ cellsGhost (pinD pcs a) EP p c ∗ toksInit (pinD pcs a) EP p c)
      ⊢ Idealize.SL.Sem.wp frame (wpE 𝔻 𝕍 (c.tc : Thread nD τ) none) Set.univ (.op (.customCall (entry p) ()) k) Q := by
  have hbufs := scopedBufs_split (pinD pcs a) p c R.win.stage_scoped R.win.stage_inj R.stage_whole (nD := nD) (τ := τ) (Ix := Ix) (Val := Val)
    (Name := Name) (U := U) (Lvl := Lvl)
  have hsems := scopedSems0_split (pinD pcs a) phinj p (fun _ => R.win) (fun _ => R.ho) (Ix := Ix) (Val := Val) (Name := Name) (U := U) (Lvl := Lvl) c
  have hout' : iprop((pdats p c).Φ (Fin.last (pinD pcs a c p).N) ∗ cellsSems0 (pinD pcs a) p c ∗ Dat.staging (pinD pcs a c p) c
        ∗ iprop(idleSems0 (pinD pcs a) phinj p (fun _ => R.ho) c))
      ⊢ iprop(R.Y c ∗ scopedSems0 (c.tc : Thread nD τ) ∗ scopedBufs (c.tc : Thread nD τ)) := by
    rw [hsems, hbufs]
    iintro ⟨HΦ, Hcells, Hst, Hidle⟩
    ihave H := (R.hout c) $$ HΦ
    icases H with ⟨HY, Hown, Hrest⟩
    isplitl [HY]; · iexact HY
    isplitl [Hcells Hown Hidle]
    · isplitl [Hcells Hown]; · isplitl [Hcells] <;> iassumption
      iexact Hidle
    · isplitl [Hst] <;> iassumption
  unfold FirstCall.start
  iintro ⟨Hk, ⟨Hb, Hcells, Hidle, Hop⟩, Hpre, #Hlev, Hg, Ht⟩
  ihave Hw := (R.hwaits c) $$ Hlev
  iapply (fupd_wp frame (wpE 𝔻 𝕍 (c.tc : Thread nD τ) none) Set.univ _ _)
  imod (PerCore.cellsInit_alloc (pinD pcs a) pdats EP phinj p c) $$ [Hcells Hg] with ⟨%κ, -, Hinit⟩
  · isplitl [Hcells] <;> iassumption
  imod (R.hentry c) $$ [Hpre] with ⟨Harr, Hpf, Howes, HX, HZ⟩
  · isplitl [Hpre]; · iexact Hpre
    iexact Hlev
  imodintro
  iapply (PerCore.wp_customCall_entry_frame pcs a pdats ι EP κ phinj p defs₀ 𝒱₀ (fun _ => fullShare) c Set.univ (fun _ _ => Set.mem_univ _)
      (R.hbody c) R.block_pos none (fun u h => nomatch h) (X := R.X c) (Y := R.Y c) (R := scopedRest (pcs p).spec c)
      (I := iprop(idleSems0 (pinD pcs a) phinj p (fun _ => R.ho) c))
      (Entails.of_eq hbufs) (R.hin c) hout' (k := k) (Q := Q)) $$ [Harr Howes Hw Hinit Ht Hpf HX Hidle Hb]
  · isplitl [Harr Howes Hw Hinit Ht]
    · unfold Idealize.ShloMosaic.Pipeline.PerCore.EntryPre
      isplitl [Harr]; · iexact Harr
      isplitl [Howes]; · iexact Howes
      isplitl [Hw]; · iexact Hw
      isplitl [Hinit] <;> iassumption
    isplitl [Hpf]; · iexact Hpf
    isplitl [HX]; · iexact HX
    isplitl [Hidle] <;> iassumption
  iintro ⟨Hpost, HY, Hss, Hsb⟩
  unfold Idealize.ShloMosaic.Pipeline.PerCore.EntryPost
  icases Hpost with ⟨Harr, Howes⟩
  iapply (fupd_wp frame (wpE 𝔻 𝕍 (c.tc : Thread nD τ) none) Set.univ _ _)
  imod (R.hexit c) $$ [Harr Howes HY HZ] with Hp
  · isplitl [Harr]; · iexact Harr
    isplitl [Howes]; · iexact Howes
    isplitl [HY] <;> iassumption
  imodintro
  iapply Hk
  isplitr [Hp]
  · unfold boundary
    isplitl [Hsb]; · iexact Hsb
    isplitl [Hss] <;> iassumption
  · iexact Hp

/-- The levels of all cells are assigned at once: SparseCore threads have none. -/
theorem levels_assign (hL : ∀ g : GSem nD τ sig, g.1.2 ≠ .tc → L g = ∅) :
    (bigSep Finset.univ fun c : Dev nD => levels0 (Ix := Ix) (Val := Val) (Name := Name) (U := U) (Lvl := Lvl) (τ := τ) (sig := sig) c)
      ⊢ (|==> levAts L lv : sProp 𝕄) := by
  refine (bigSep_mono fun c _ => lev_assign_cells (c.tc : Thread nD τ) L lv).trans <| (BI.bigSep_bupd _ _).trans <| BI.bupd_mono ?_
  have hnone (d : Dev nD) : (bigSep (Finset.univ.erase Proc.tc) fun q => (coreLevAts ((d, q) : Thread nD τ) L lv : sProp 𝕄)) = BI.emp := by
    rw [bigSep_congr (Ψ := fun _ : Proc τ => (BI.emp : sProp 𝕄)), BI.bigSep_emp_const]
    intro q hq
    unfold coreLevAts
    rw [bigSep_congr (Ψ := fun _ : SemLoc sig => (BI.emp : sProp 𝕄)), BI.bigSep_emp_const]
    intro sm _
    rw [hL (((d, q) : Thread nD τ), sm) (Finset.ne_of_mem_erase hq), BI.bigSep_empty]
  rw [show (levAts L lv : sProp 𝕄) = bigSep Finset.univ fun c : Thread nD τ => coreLevAts c L lv
      from (bigSep_univ_prod fun g : GSem nD τ sig => bigSep (L g) fun i => levAt g i (lv g i)),
    bigSep_threads (fun c : Thread nD τ => coreLevAts c L lv),
    bigSep_congr (Φ := fun d : Dev nD => bigSep (Finset.univ.erase Proc.tc) fun q => (coreLevAts ((d, q) : Thread nD τ) L lv : sProp 𝕄))
      (Ψ := fun _ => (BI.emp : sProp 𝕄)) (fun d _ => hnone d), BI.bigSep_emp_const, bigSep_sep']
  have hdrop (A B : sProp 𝕄) : iprop(A ∗ B) ⊢ iprop(B ∗ emp) := by
    iintro ⟨-, H⟩
    isplitl [H]; · iexact H
    iempintro
  exact hdrop _ _

/-- The launch: @main is the call `p` and then the segments `segs`. From every device's own semaphores at zero, its
    arrays, its launch credit and what it owes, TOGETHER, the global step `hinit` makes every device's entry state.
    At the end each device's last state is read (`hfin`), and every scoped counter is zero. -/
theorem launch_talk_first [DecidableEq P] [∀ e, Nonempty (Val e)] [Infinite Name] [EP.LandsIn (upEmb : UEmb _ 𝕄)]
    {p : P} (R : FirstCall pcs a pdats ι defs₀ 𝒱₀ L lv p)
    (m : (ℓ : Loc nD τ sig) → Buf Val ℓ) (g : Dev nD → PrngReg)
    (main : Dev nD → Prog (TpuEff nD τ sig Val (Sig Λ₀ P fun p => (pcs p).Adm) .tc) PUnit)
    (segs : Dev nD → List (PerCore.Seg pcs a pdats ι defs₀ 𝒱₀ L lv))
    (hmain : ∀ c, main c = .op (.customCall (entry p) ()) fun _ => PerCore.Seg.run (segs c))
    (hnd : ∀ c, (PerCore.Seg.pipes (segs c)).Nodup) (hnot : ∀ c, p ∉ PerCore.Seg.pipes (segs c))
    (O₀ : Dev nD → CellTallies nD τ sig Ix) (hL : ∀ g : GSem nD τ sig, g.1.2 ≠ .tc → L g = ∅)
    (G : Dev nD → sProp 𝕄) (u₀ : U)
    (hu₀ : (ownU u₀ : sProp 𝕄)
      ⊢ |={Set.univ}=> iprop(BI.own (EP (initOf (PerCore.cells (pinD pcs a) phinj) (PerCore.launchToks (pinD pcs a) phinj))) ∗ bigSep Finset.univ G))
    (hinit : iprop((bigSep Finset.univ fun c : Dev nD => iprop(ownSems0 R.osem c ∗ unscopedBufs c (fun b => m ((c.tc : Thread nD τ).loc b))
          ∗ unscopedSems0 c ∗ owes (c.tc : Thread nD τ) (O₀ c) ∅ ∗ launchCred O₀ c ∗ prngReg c (g c) ∗ G c)) ∗ levAts L lv)
      ⊢ |={Set.univ}=> bigSep Finset.univ R.pre)
    (Tₙ : Dev nD → sProp 𝕄)
    (hch : ∀ c, PerCore.Seg.ChainsAt c R.post (segs c) fun c => iprop(Tₙ c ∗ ∃ W, owes (c.tc : Thread nD τ) (0 : CellTallies nD τ sig Ix) W))
    (QY : Dev nD → MemSt nD τ sig Val → Prop)
    (hfin : ∀ c (s' : Phys nD τ sig Val), iprop(Tₙ c ∗ SI s') ⊢ |={Set.univ}=> iprop(⌜QY c s'.mem⌝ ∗ SI s'))
    {Q : PUnit × MemSt nD τ sig Val → Prop} (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run 𝔻 (onTc main) ⟨m, fun _ => 0, g⟩ Q := by
  classical
  let first : Dev nD → sProp 𝕄 := fun c => iprop(R.start phinj c ∗ R.pre c ∗ levAts L lv ∗ PerCore.ghostOn pcs a EP Finset.univ c)
  let last : Dev nD → sProp 𝕄 := fun c => iprop(Tₙ c ∗ boundary (c.tc : Thread nD τ))
  refine (θ_run 𝔻 _ _).mono (Q := fun r => (∀ c : Dev nD, QY c r.2 ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu 𝔻 _ _ _
    (reflect_intro_fupd_tc_sems (X := Unit) 𝕍 (owing O₀) 0 (noBookings fun _ => le_rfl) (owing_of_ne O₀) u₀ (fun _ => first) (fun _ => last)
      (fun _ => iprop(emp)) Set.univ ?_ (fun _ c => ?_) fun _ => ?_))
  · have hcore (c : Dev nD) :
        coreInit (Ix := Ix) (Name := Name) (U := U) (Lvl := Lvl) (owing O₀) 0 (⟨m, fun _ => 0, g⟩ : MemSt nD τ sig Val) (c.tc : Thread nD τ)
          ⊢ iprop(R.start phinj c ∗ levels0 c ∗ ownSems0 R.osem c ∗ unscopedBufs c (fun b => m ((c.tc : Thread nD τ).loc b))
              ∗ unscopedSems0 c ∗ owes (c.tc : Thread nD τ) (O₀ c) ∅ ∗ launchCred O₀ c ∗ prngReg c (g c)) :=
      (coreInit_boundary_owing O₀ m g c).trans (by
        iintro ⟨Hb, Hub, Hus, HO, Hlv, Hpr, Hcr⟩
        ihave H := (R.boundary_split phinj c) $$ Hb
        icases H with ⟨H1, Hos⟩
        isplitl [H1]; · iexact H1
        isplitl [Hlv]; · iexact Hlv
        isplitl [Hos]; · iexact Hos
        isplitl [Hub]; · iexact Hub
        isplitl [Hus]; · iexact Hus
        isplitl [HO]; · iexact HO
        isplitl [Hcr] <;> iassumption)
    have hcores : (bigSep Finset.univ fun d : Dev nD =>
          coreInit (Ix := Ix) (Name := Name) (U := U) (Lvl := Lvl) (owing O₀) 0 (⟨m, fun _ => 0, g⟩ : MemSt nD τ sig Val) (d.tc : Thread nD τ))
        ⊢ iprop((bigSep Finset.univ fun c : Dev nD => R.start phinj c)
            ∗ (bigSep Finset.univ fun c : Dev nD => levels0 (Ix := Ix) (Val := Val) (Name := Name) (U := U) (Lvl := Lvl) (τ := τ) (sig := sig) c)
            ∗ bigSep Finset.univ fun c : Dev nD => iprop(ownSems0 R.osem c ∗ unscopedBufs c (fun b => m ((c.tc : Thread nD τ).loc b))
              ∗ unscopedSems0 c ∗ owes (c.tc : Thread nD τ) (O₀ c) ∅ ∗ launchCred O₀ c ∗ prngReg c (g c)) : sProp 𝕄) := by
      refine (bigSep_mono fun c _ => hcore c).trans ?_
      rw [bigSep_sep', bigSep_sep']
      exact BI.Entails.refl _
    have hjoin : iprop((bigSep Finset.univ fun c : Dev nD => iprop(ownSems0 R.osem c ∗ unscopedBufs c (fun b => m ((c.tc : Thread nD τ).loc b))
            ∗ unscopedSems0 c ∗ owes (c.tc : Thread nD τ) (O₀ c) ∅ ∗ launchCred O₀ c ∗ prngReg c (g c))) ∗ bigSep Finset.univ G)
        ⊢ (bigSep Finset.univ fun c : Dev nD => iprop(ownSems0 R.osem c ∗ unscopedBufs c (fun b => m ((c.tc : Thread nD τ).loc b))
            ∗ unscopedSems0 c ∗ owes (c.tc : Thread nD τ) (O₀ c) ∅ ∗ launchCred O₀ c ∗ prngReg c (g c) ∗ G c) : sProp 𝕄) := by
      rw [← bigSep_sep']
      have hassoc (A B C D E F H : sProp 𝕄) : iprop((A ∗ B ∗ C ∗ D ∗ E ∗ F) ∗ H) ⊢ iprop(A ∗ B ∗ C ∗ D ∗ E ∗ F ∗ H) := by
        iintro ⟨⟨H1, H2, H3, H4, H5, H6⟩, HG⟩
        isplitl [H1]; · iexact H1
        isplitl [H2]; · iexact H2
        isplitl [H3]; · iexact H3
        isplitl [H4]; · iexact H4
        isplitl [H5]; · iexact H5
        isplitl [H6] <;> iassumption
      exact bigSep_mono fun c _ => hassoc _ _ _ _ _ _ _
    have hghost : iprop((bigSep Finset.univ fun c : Dev nD => bigSep Finset.univ fun p => cellsGhost (pinD pcs a) EP p c)
          ∗ (bigSep Finset.univ fun c : Dev nD => bigSep Finset.univ fun p => (toksInit (pinD pcs a) EP p c : sProp 𝕄)))
        ⊢ bigSep Finset.univ fun c : Dev nD => PerCore.ghostOn pcs a EP Finset.univ c := by
      rw [← bigSep_sep']
      refine bigSep_mono fun c _ => ?_
      unfold PerCore.ghostOn
      rw [bigSep_sep']
      exact BI.Entails.refl _
    iintro ⟨Hcores, Hu⟩
    ihave Hc := hcores $$ Hcores
    icases Hc with ⟨Hstart, Hlv, Hh⟩
    imod (levels_assign (L := L) (lv := lv) hL) $$ Hlv with #Hla
    imod hu₀ $$ Hu with ⟨HP, HG⟩
    imod (PerCore.fund_ghost (pinD pcs a) EP phinj) $$ HP with ⟨Hg, Ht⟩
    imod hinit $$ [Hh HG] with HT
    · isplitr [Hla]
      · iapply hjoin
        isplitl [Hh] <;> iassumption
      · iexact Hla
    imodintro
    iexists ()
    isplitr []
    · simp only [first, bigSep_sep']
      isplitl [Hstart]; · iexact Hstart
      isplitl [HT]; · iexact HT
      isplitr; · iapply (BI.bigSep_intro_persistent (S := Finset.univ) fun (c : Dev nD) _ => (BI.Entails.refl (levAts L lv : sProp 𝕄))); iexact Hla
      iapply hghost
      isplitl [Hg] <;> iassumption
    · iempintro
  · simp only [first]
    rw [hmain c, PerCore.ghostOn_erase pcs a EP (Finset.mem_univ p)]
    iintro ⟨Hstart, Hpre, #Hla, ⟨Hg, Ht⟩, Hrest⟩
    iapply (R.wp phinj EP c)
    isplitr [Hstart Hpre Hg Ht]
    · iintro ⟨Hbd, Hpost⟩
      iapply (PerCore.wp_segs pcs a pdats ι phinj EP defs₀ 𝒱₀ L lv c (segs c) (Finset.univ.erase p) R.post _ (hnd c)
        (fun q hq => Finset.mem_erase.mpr ⟨fun h => hnot c (h ▸ hq), Finset.mem_univ q⟩) (hch c))
      isplitr [Hbd Hpost Hrest]
      · iintro ⟨Hbd', HT, HW⟩
        unfold post; simp only [liftTc_tc, last]
        isplitl [HT Hbd']
        · isplitl [HT]; · iexact HT
          iexact Hbd'
        iexact HW
      · isplitl [Hbd]; · iexact Hbd
        isplitl [Hpost]; · iexact Hpost
        isplitr; · iexact Hla
        iexact Hrest
    · isplitl [Hstart]; · iexact Hstart
      isplitl [Hpre]; · iexact Hpre
      isplitr; · iexact Hla
      isplitl [Hg] <;> iassumption
  · iintro ⟨H, -, Hsc⟩ %s' HSI
    ihave %hsc := (scSems_read_zero m g s') $$ [Hsc HSI]
    · isplitl [Hsc] <;> iassumption
    imod (posts_fupd Finset.univ (fun c s' => boundary_read c s' (hfin c s')) s') $$ [H HSI] with %h
    · isplitl [H] <;> iassumption
    imodintro
    ipureintro
    exact ⟨fun c => h c (Finset.mem_univ c), hsc⟩

end Cert.Train
-- ==== Proof.GatherLaunch.lean ====
/-
# The gather, on all devices

The launch deals every device's result array out piece by piece to the devices that write the pieces, and the devices
run. At the end each holds its block unchanged and the gathered array, and every semaphore is at zero.
-/
module

public import proofs.«01_k».proof.Proof.GatherRun
public import proofs.«01_k».proof.Proof.TalkFirst
public import proofs.«01_k».proof.Gather
public import proofs.«01_k».proof.Proof.Gen.Gather

@[expose] public section

noncomputable section

namespace Cert.GatherProof

open Cert.GatherIdeal Cert.GatherIdeal.Gen Cert.Train
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

set_option Elab.async false

variable {F : FTy → Type} [FloatOps F]

local notation "𝕄" => MT nD τ sig Unit (Elt F) ℕ (UU nD τ sig) ℕ

variable (m : Mem F)

/-! ## The call as a region -/

/-- No call of this program has a table. -/
def adm : Dev nD → (p : Fin 1) → (pcfgs (F := F) p).Adm := fun _ p => (cfgs p).toPCfg_adm

def dats (p : Fin 1) (c : Dev nD) : Dat τ (Elt F) Unit ℕ (UU nD τ sig) ℕ (pinD (pcfgs (F := F)) adm c p) c where
  A w := w.elim0
  after w := w.elim0
  Φ t := match t with
    | ⟨0, _⟩ => before m c
    | ⟨_ + 1, _⟩ => after m c
  q w := w.elim0
  owed t := match t with
    | ⟨0, _⟩ => plan.debt c plan.order
    | ⟨_ + 1, _⟩ => 0

theorem no_windows (Φ : Fin 0 → sProp 𝕄) : (BI.emp : sProp 𝕄) ⊢ bigSep Finset.univ Φ :=
  Entails.of_eq (by rw [Finset.univ_eq_empty, bigSep_empty])

theorem body_obligation (c : Dev nD) : BodyObligationLoose (dats m 0 c) (defs₀ (F := F)) Variants.none () Set.univ := fun t => by
  have ht : t = t0_0 := fin_N0 t
  subst ht
  show iprop(before m c ∗ owesWithin c (plan.debt c plan.order) _ ∗ _)
    ⊢ wp frame (wpE (defs₀ (F := F)) Variants.none (c : Thread nD τ) none) Set.univ (bodyAt0 (F := F) t0_0) fun _ =>
      iprop(after m c ∗ owesWithin c 0 _ ∗ _)
  have h := body m Variants.none c
  unfold Plan.owing at h
  iintro ⟨Hb, ⟨%W, -, Ho⟩, -⟩
  iapply (wp_mono frame (wpE (defs₀ (F := F)) Variants.none (c : Thread nD τ) none) Set.univ (Q := fun _ => iprop(after m c ∗ ∃ W, owes (c : Thread nD τ) (plan.debt c []) W)) fun _ => ?_)
  rotate_left
  · iapply h
    isplitl [Hb]; · iexact Hb
    iexists W; iexact Ho
  · iintro ⟨Ha, ⟨%W', Ho⟩⟩
    isplitl [Ha]; · iexact Ha
    isplitl [Ho]
    · iexists W'
      isplitr; · ipureintro; exact fun _ _ => Or.inl trivial
      iexact Ho
    iapply (no_windows (F := F) _); iempintro

/-! ## Dealing the arrays -/

/-- What each device holds of the peers' arrays, dealt from what each device holds of its own. -/
theorem deal :
    (bigSep Finset.univ fun c : Dev nD => (c : Thread nD τ).loc main_v1 ↦{fullShare} m ((c : Thread nD τ).loc main_v1) : sProp 𝕄)
      ⊢ bigSep Finset.univ fun c : Dev nD => landings m c := by
  have h (c : Dev nD) : ((c : Thread nD τ).loc main_v1 ↦{fullShare} m ((c : Thread nD τ).loc main_v1) : sProp 𝕄)
      = iprop(was m c (flip 0 c) ∗ was m c (flip 1 c) ∗ was m c (flip 2 c) ∗ was m c (flip 3 c) ∗ was m c (flip 4 c) ∗ was m c (flip 5 c)
        ∗ was m c (flip 6 c) ∗ was m c (flip 7 c)) := by
    rw [out_pieces c fullShare _ (fromEquiv c), bigSep_fin_8]; rfl
  have e (b : Dev nD) (k : Fin 15) (f : Dev nD → Dev nD) (hf : ∀ c, flip b (plan.peer k c) = f c) :
      (bigSep Finset.univ fun c : Dev nD => was m c (flip b c)) = bigSep Finset.univ fun c : Dev nD => was m (plan.peer k c) (f c) := by
    rw [bigSep_univ_equiv (flipEquiv (mate k)) (fun c : Dev nD => was m c (flip b c))]
    exact bigSep_congr fun c _ => congrArg (was m (plan.peer k c)) (hf c)
  rw [bigSep_congr (s := Finset.univ) (fun (c : Dev nD) _ => h c)]
  unfold landings
  simp only [bigSep_sep']
  rw [e 1 7 (fun c => c) (flip_flip 1), e 4 8 (fun c => c) (flip_flip 4), e 2 9 (fun c => c) (flip_flip 2), e 6 10 (fun c => c) (flip_flip 6),
    e 5 11 (flip 4) across4, e 3 12 (flip 2) across2, e 7 13 (flip 6) across6, bigSep_congr (s := Finset.univ) (fun (c : Dev nD) _ => congrArg (was m c) (self14 c))]
  iintro ⟨H0, H1, H2, H3, H4, H5, H6, H7⟩
  isplitl [H0]; · iexact H0
  isplitl [H1]; · iexact H1
  isplitl [H4]; · iexact H4
  isplitl [H2]; · iexact H2
  isplitl [H6]; · iexact H6
  isplitl [H5]; · iexact H5
  isplitl [H3]; · iexact H3
  iexact H7

/-- The arrays of @main. -/
theorem arrays_eq (c : Dev nD) (V : (b : Ref sig .tc) → Buf (Elt F) ((c : Thread nD τ).loc b)) :
    (unscopedBufs c V : sProp 𝕄)
      = iprop(((c : Thread nD τ).loc main_arg0 ↦{fullShare} V main_arg0) ∗ ((c : Thread nD τ).loc main_v1 ↦{fullShare} V main_v1)) :=
  bigSep_eq_bigSepL_of_eq [main_arg0, main_v1] (by decide) (by decide) _

/-- A block is its eight shares. -/
theorem shares_eq (c : Dev nD) :
    ((c : Thread nD τ).loc main_arg0 ↦{fullShare} m ((c : Thread nD τ).loc main_arg0) : sProp 𝕄) = bigSep Finset.univ fun i => xs m c i := by
  rw [ShareLeaves.pointsTo_leaves Finset.univ _ 3 fullShare]
  unfold xs
  rw [View.set_whole]

theorem pre_all :
    iprop((bigSep Finset.univ fun c : Dev nD => iprop(ownSems0 plan.sem c ∗ unscopedBufs c (fun b => m ((c : Thread nD τ).loc b)) ∗ unscopedSems0 c
        ∗ owes (c : Thread nD τ) (plan.debt c plan.order) ∅ ∗ launchCred (fun d => plan.debt d plan.order) c ∗ (∃ g, prngReg c g) ∗ plan.dealt (pay m) c))
      ∗ levAts Plan.L plan.lv)
      ⊢ (|={Set.univ}=> bigSep Finset.univ fun c : Dev nD => iprop(before m c ∗ plan.owing c plan.order) : sProp 𝕄) := by
  have hdue : (bigSep Finset.univ fun c : Dev nD => launchCred (fun d => plan.debt d plan.order) c : sProp 𝕄)
      ⊢ bigSep Finset.univ fun c : Dev nD => plan.dues c plan.order := bigSep_mono fun c _ => plan.dues_of_launch c plan.order
  simp only [arrays_eq, shares_eq, bigSep_sep']
  iintro ⟨⟨Hs, ⟨Hx, Ho⟩, -, HO, Hc, -, Hd⟩, #Hlev⟩
  imod (plan.open_all (pay m)) $$ [Hs Hd] with ⟨#Hr, Hf, Ht⟩
  · isplitl [Hs] <;> iassumption
  ihave Hw := (deal m) $$ Ho
  ihave Hdue := hdue $$ Hc
  imodintro
  iapply (Entails.of_eq (bigSep_sep' Finset.univ (fun c : Dev nD => before m c) (fun c : Dev nD => (plan.owing c plan.order : sProp 𝕄))))
  iapply (Plan.give_all (R := iprop(plan.records (pay m) ∗ levAts Plan.L plan.lv))
    (Φ := fun c : Dev nD => iprop((bigSep Finset.univ fun i => xs m c i)
      ∗ landings m c
      ∗ plan.dues c plan.order ∗ (bigSep Finset.univ fun k : Fin 15 => plan.fresh c k) ∗ (bigSep Finset.univ fun k : Fin 15 => plan.tok c k)
      ∗ owes (c : Thread nD τ) (plan.debt c plan.order) ∅)) fun c _ => ?_)
  rotate_left
  · isplitr
    · isplitr; · iexact Hr
      iexact Hlev
    rw [bigSep_sep', bigSep_sep', bigSep_sep', bigSep_sep', bigSep_sep']
    isplitl [Hx]; · iexact Hx
    isplitl [Hw]; · iexact Hw
    isplitl [Hdue]; · iexact Hdue
    isplitl [Hf]; · iexact Hf
    isplitl [Ht] <;> iassumption
  · unfold before Plan.owing
    iintro ⟨⟨#Hr, #Hlev⟩, Hx, Hw, Hdue, Hf, Ht, HO⟩
    isplitr [HO]
    · isplitl [Hx]; · iexact Hx
      isplitl [Hw]; · iexact Hw
      isplitr; · iexact Hr
      isplitr; · iexact Hlev
      isplitl [Hdue]; · iexact Hdue
      isplitl [Hf] <;> iassumption
    · iexists ∅; iexact HO

/-! ## The launch -/

theorem own_facts : OwnSemFacts cfg0.spec plan.sem := ⟨by decide, plan.inj, fun _ w => w.elim0⟩

/-- The call takes its block and its place in the protocol in, and gives the block and the gathered array back. -/
def first : FirstCall (pcfgs (F := F)) adm (dats m) () defs₀ Variants.none Plan.L plan.lv 0 where
  win := winFacts0.to₀
  block_pos := block_pos0
  stage_whole := stage_whole0
  K := Fin 15
  osem := plan.sem
  ho := own_facts
  hbody c := body_obligation m c
  hwaits c := show _ ⊢ bigSep _ _ from (show _ ⊢ (BI.emp : sProp 𝕄) from by iintro -; iempintro).trans (no_windows (F := F) _)
  pre c := iprop(before m c ∗ plan.owing c plan.order)
  post c := iprop(((bigSep Finset.univ fun i => xs m c i) ∗ bigSep Finset.univ fun b : Dev nD => got m c (flip b c))
    ∗ ∃ W, owes (c : Thread nD τ) (0 : CellTallies nD τ sig Unit) W)
  X c := before m c
  Y c := iprop((bigSep Finset.univ fun i => xs m c i) ∗ bigSep Finset.univ fun b : Dev nD => got m c (flip b c))
  Z _ := iprop(emp)
  hentry c := by
    unfold Plan.owing
    iintro ⟨⟨Hb, ⟨%W, Ho⟩⟩, -⟩
    imodintro
    isplitr; · iapply (show (BI.emp : sProp 𝕄) ⊢ (dats m 0 c).arrays ((dats m 0 c).arrAt · 0) from no_windows (F := F) _); iempintro
    isplitr; · iapply (show (BI.emp : sProp 𝕄) ⊢ prefHeld (pcfgs (F := F) 0).pre c (fun _ => fullShare) (adm (F := F) c 0).1 from no_windows (F := F) _); iempintro
    isplitl [Ho]
    · iexists W
      isplitr; · ipureintro; exact fun _ _ => Or.inl trivial
      iexact Ho
    isplitl [Hb]; · iexact Hb
    iempintro
  hin c := by
    show iprop(before m c ∗ _ ∗ _) ⊢ before m c
    iintro ⟨H, -, -⟩
    iexact H
  hout c := by
    show after m c ⊢ _
    unfold after
    iintro ⟨Hx, Hg, Hz⟩
    isplitl [Hx Hg]
    · isplitl [Hx] <;> iassumption
    isplitl [Hz]; · iapply (show (bigSep Finset.univ fun k : Fin 15 => plan.zero c k : sProp 𝕄) ⊢ ownSems0 plan.sem c from BI.Entails.refl _); iexact Hz
    iapply (Entails.of_eq (scopedRest0_eq c).symm)
    iempintro
  hexit c := by
    iintro ⟨-, ⟨%W, -, Ho⟩, HY, -⟩
    imodintro
    isplitl [HY]; · iexact HY
    iexists W; iexact Ho

/-- What every device holds at the end. -/
def Done (c : Dev nD) (s : MemSt nD τ sig (Elt F)) : Prop :=
  s.mem ((c : Thread nD τ).loc main_arg0) = m ((c : Thread nD τ).loc main_arg0) ∧ s.mem ((c : Thread nD τ).loc main_v1) = full m

/-- Every weakly fair run of the gather ends, with each device's block as it was, the gathered array in each device's
    result, and every semaphore at zero. -/
theorem run_main (g : Dev nD → PrngReg) :
    θ_run (defs (F := F)) (onTc (τ := τ) main) ⟨m, fun _ => 0, g⟩ (fun r => (∀ c, Done m c r.2) ∧ r.2.sem = fun _ => 0) := by
  have hinj : Function.Injective (PerCore.cellOf (nD := nD) (τ := τ) (pinD (pcfgs (F := F)) adm)) := fun x => x.2.2.1.elim0
  refine launch_talk_first (pcs := pcfgs (F := F)) (a := adm) (pdats := dats m) (ι := ()) hinj Plan.EP (first m) m g main (fun _ => [])
    (fun _ => rfl) (fun _ => by simp [PerCore.Seg.pipes]) (fun _ => by simp [PerCore.Seg.pipes]) (fun c => plan.debt c plan.order) Plan.L_of_ne
    (plan.dealt (pay m)) (initOf (PerCore.cells (pinD (pcfgs (F := F)) adm) hinj) (PerCore.launchToks (pinD (pcfgs (F := F)) adm) hinj), initOf plan.cells plan.toks)
    ?_ ?_ (fun c => (first m).Y c) ?_ (Done m) ?_ ?_
  · iintro H
    ihave H' := (ownU_pair _ _) $$ H
    icases H' with ⟨Ha, Hb⟩
    imod (plan.fund (pay m)) $$ Hb with Hd
    imodintro
    isplitl [Ha] <;> iassumption
  · have hreg1 (c : Dev nD) : iprop(ownSems0 plan.sem c ∗ unscopedBufs c (fun b => m ((c : Thread nD τ).loc b)) ∗ unscopedSems0 c
          ∗ owes (c : Thread nD τ) (plan.debt c plan.order) ∅ ∗ launchCred (fun d => plan.debt d plan.order) c ∗ prngReg c (g c) ∗ plan.dealt (pay m) c)
        ⊢ (iprop(ownSems0 plan.sem c ∗ unscopedBufs c (fun b => m ((c : Thread nD τ).loc b)) ∗ unscopedSems0 c
          ∗ owes (c : Thread nD τ) (plan.debt c plan.order) ∅ ∗ launchCred (fun d => plan.debt d plan.order) c ∗ (∃ g, prngReg c g) ∗ plan.dealt (pay m) c) : sProp 𝕄) := by
      iintro ⟨H1, H2, H3, H4, H5, H6, H7⟩
      isplitl [H1]; · iexact H1
      isplitl [H2]; · iexact H2
      isplitl [H3]; · iexact H3
      isplitl [H4]; · iexact H4
      isplitl [H5]; · iexact H5
      isplitl [H6]; · iexists (g c); iexact H6
      iexact H7
    refine (BI.sep_mono (bigSep_mono fun c _ => hreg1 c) (BI.Entails.refl _)).trans (pre_all m)
  · exact fun c => BI.Entails.refl _
  · intro c s'
    show iprop(((bigSep Finset.univ fun i => xs m c i) ∗ bigSep Finset.univ fun b : Dev nD => got m c (flip b c)) ∗ SI s') ⊢ _
    rw [← shares_eq]
    have hgot : (bigSep Finset.univ fun b : Dev nD => (got m c (flip b c) : sProp 𝕄)) = ((c : Thread nD τ).loc main_v1 ↦{fullShare} full m) :=
      (out_pieces c fullShare (full m) (fromEquiv c)).symm
    rw [hgot]
    iintro ⟨⟨Hx, Hg⟩, HSI⟩
    icombine HSI Hx gives %hx
    icombine HSI Hg gives %hg
    imodintro
    isplitr
    · ipureintro
      exact ⟨Buf.eq_of_forall_mem_univ hx, Buf.eq_of_forall_mem_univ hg⟩
    · iexact HSI
  · exact fun s h hs => ⟨h, sem_eq_zero_of_scoped (by decide) hs⟩

end Cert.GatherProof

end
-- ==== Proof.GatherClaims.lean ====
/-
# What is claimed of the gather

The reference gives its argument back: the gathered array is the whole array whose blocks the devices hold.
-/
module

public import proofs.«01_k».proof.Defs
public import proofs.«01_k».proof.Proof.GatherLaunch
public import proofs.«01_k».proof.Proof.Gen.GatherRef
public import proofs.«01_k».proof.Proof.Gen.GatherRefIdeal
public import Idealize.ShloMosaic.Lib.LayoutAt
public import Idealize.ShloMosaic.Lib.StableHlo.Run
public import Idealize.ShloMosaic.Lib.Quiescent

@[expose] public section

noncomputable section

namespace Cert.GatherProof

open Idealize.ShloMosaic
open Idealize.ShloMosaic.TcCoe
open Idealize.SL.Sem

set_option Elab.async false

variable {F : FTy → Type} [FloatOps F]

/-- Gathered, the blocks of `X` are `X`. -/
theorem full_of_blocks (m : Mem F) (X : GatherIdeal.S40320x1024.Idx → Elt F .bf16)
    (h : ∀ c : Dev GatherIdeal.nD, m ((c : Thread GatherIdeal.nD GatherIdeal.τ).loc GatherIdeal.main_arg0)
      = Layout.block ⟨2, ![5040, 1024]⟩ ⟨2, ![40320, 1024]⟩ 0 8 c X) : full m = X := by
  funext i
  unfold full
  rw [h (home i)]
  have h0 : (i 0).val < 40320 := (i 0).isLt
  refine congrArg X (funext fun a => Fin.ext ?_)
  match a with
  | ⟨0, _⟩ => show (i 0).val / 5040 * 5040 + (i 0).val % 5040 = (i 0).val; omega
  | ⟨1, _⟩ => rfl

/-- The reference runs and changes nothing. -/
theorem run_reference (m : (ℓ : Loc GatherRefIdeal.nD GatherRefIdeal.τ GatherRefIdeal.sig) → Buf (Elt F) ℓ) (g : Dev GatherRefIdeal.nD → PrngReg) :
    θ_run (GatherRefIdeal.defs (F := F)) (onTc (τ := GatherRefIdeal.τ) GatherRefIdeal.main) ⟨m, fun _ => 0, g⟩
      (fun r => ∀ c : Dev GatherRefIdeal.nD, r.2.mem ((c : Thread GatherRefIdeal.nD GatherRefIdeal.τ).loc GatherRefIdeal.main_arg0)
        = m ((c : Thread GatherRefIdeal.nD GatherRefIdeal.τ).loc GatherRefIdeal.main_arg0)) :=
  (θ_run (GatherRefIdeal.defs (F := F)) _ _).mono (fun _ h c => h c GatherRefIdeal.main_arg0)
    (StableHlo.run_seq (by decide) (by decide) GatherRefIdeal.defs GatherRefIdeal.main (fun _ => []) (fun _ => rfl) (fun _ => trivial) m g)

/-- Over the float formats' bits, the gather ends with its arguments unchanged and every semaphore at zero. -/
theorem frame_kernel : Cert.quiescent_Gather := fun m g _ =>
  (θ_run (GatherIdeal.defs (F := Bits)) _ _).mono (fun _ h => ⟨fun c => (h.1 c).1, h.2⟩) (run_main (F := Bits) m g)

/-- So it does over the extended reals. -/
theorem frame_ideal : Cert.quiescent_GatherIdeal := fun m g _ =>
  (θ_run (GatherIdeal.defs (F := Ideal)) _ _).mono (fun _ h => ⟨fun c => (h.1 c).1, h.2⟩) (run_main (F := Ideal) m g)

/-- The reference ends likewise. -/
theorem frame_reference : Cert.quiescent_GatherRef := fun m g _ =>
  (θ_run (GatherRefIdeal.defs (F := Bits)) _ _).mono (fun r h => ⟨h, sem_eq_zero_of_no_sems (by decide) r.2⟩) (run_reference (F := Bits) m g)

/-- And over the extended reals. -/
theorem frame_reference_ideal : Cert.quiescent_GatherRefIdeal := fun m g _ =>
  (θ_run (GatherRefIdeal.defs (F := Ideal)) _ _).mono (fun r h => ⟨h, sem_eq_zero_of_no_sems (by decide) r.2⟩) (run_reference (F := Ideal) m g)

/-- Over the extended reals, every device ends with the reference's result; -/
theorem value_ideal : Cert.algebraic_GatherIdeal_GatherRefIdeal := fun m g m' g' _ h =>
  ⟨_, (θ_run (GatherIdeal.defs (F := Ideal)) _ _).mono (fun _ hr c => ⟨(hr.1 c).2.trans (full_of_blocks m _ h), (hr.1 c).1⟩) (run_main (F := Ideal) m g),
    (θ_run (GatherRefIdeal.defs (F := Ideal)) _ _).mono (fun _ hr => ⟨hr 0, hr 0⟩) (run_reference (F := Ideal) m' g')⟩

/-- bit for bit, too. -/
theorem value_bits : Cert.bitexact_Gather_GatherRef := fun m g m' g' _ h =>
  ⟨_, (θ_run (GatherIdeal.defs (F := Bits)) _ _).mono (fun _ hr c => ⟨(hr.1 c).2.trans (full_of_blocks m _ h), (hr.1 c).1⟩) (run_main (F := Bits) m g),
    (θ_run (GatherRefIdeal.defs (F := Bits)) _ _).mono (fun _ hr => ⟨hr 0, hr 0⟩) (run_reference (F := Bits) m' g')⟩

end Cert.GatherProof

end
-- ==== Proof.Blocks.lean ====
/-
# One block of a stack of blocks

The exchanged arrays are stacks of blocks of 5040 rows. A copy names block `k` of a stack by slicing the leading axis at
`k` and dropping it. Such a view puts row `r`, column `l` of the block at place `(k, r, l)` of the stack, and its elements
are those whose leading index is `k`.
-/
module

public import Idealize.ShloMosaic.Lib.ValueIdxCore
public import Idealize.ShloMosaic.Lib.Pipeline.ValueKit.Geometry

@[expose] public section

noncomputable section

namespace Cert.Train

open Idealize.ShloMosaic

set_option Elab.async false

/-- A stack of `n` blocks, one block with the leading axis, and a block. -/
abbrev stack (n : ℕ) : Shape := ⟨3, ![n, 5040, 1024]⟩
abbrev single : Shape := ⟨3, ![1, 5040, 1024]⟩
abbrev block : Shape := ⟨2, ![5040, 1024]⟩

variable {n : ℕ}

/-- Place `(k, r, l)` of a stack. -/
def place (k : Fin n) (y : block.Idx) : (stack n).Idx := ValueIdx.ix3 k ⟨(y 0).val, (y 0).isLt⟩ ⟨(y 1).val, (y 1).isLt⟩
/-- The place in its block of an element of a stack. -/
def within (i : (stack n).Idx) : block.Idx := ValueIdx.ix2 ⟨(i 1).val, (i 1).isLt⟩ ⟨(i 2).val, (i 2).isLt⟩
/-- Which block it is in. -/
def which (i : (stack n).Idx) : Fin n := ⟨(i 0).val, (i 0).isLt⟩

theorem place_within (i : (stack n).Idx) : place (which i) (within i) = i := by
  funext a
  match a with
  | ⟨0, _⟩ => rfl
  | ⟨1, _⟩ => rfl
  | ⟨2, _⟩ => rfl
theorem within_place (k : Fin n) (y : block.Idx) : within (place k y) = y := by
  funext a
  match a with
  | ⟨0, _⟩ => rfl
  | ⟨1, _⟩ => rfl
theorem which_place (k : Fin n) (y : block.Idx) : which (place k y) = k := rfl

/-- The elements of block `k`. -/
def elems (n : ℕ) (k : Fin n) : Finset ((stack n).Idx) := Finset.univ.filter fun i => which i = k

theorem mem_elems {k : Fin n} {i : (stack n).Idx} : i ∈ elems n k ↔ which i = k := by
  unfold elems; rw [Finset.mem_filter]; exact and_iff_right (Finset.mem_univ i)
theorem elems_disjoint (k k' : Fin n) (h : k ≠ k') : Disjoint (elems n k) (elems n k') :=
  Finset.disjoint_left.mpr fun _ hi hi' => h ((mem_elems.mp hi).symm.trans (mem_elems.mp hi'))
theorem elems_cover : Finset.univ.biUnion (elems n) = Finset.univ := by
  ext i
  exact ⟨fun _ => Finset.mem_univ i, fun _ => Finset.mem_biUnion.mpr ⟨which i, Finset.mem_univ _, mem_elems.mpr rfl⟩⟩

/-- Block `k` of a stack, as the copies name it. -/
abbrev slot {sig : RefSig} {sp : Space} (M : Memref sig .tc sp (stack n) .f32) (off : Fin (stack n).rank → ℕ)
    (inb : ∀ a, off a + single.size a ≤ (stack n).size a) (hq : single.Squeezes block) : Memref sig .tc sp block .f32 :=
  (M.slice (Rect.unit (s := stack n) off single.size inb) (fun _ => rfl)).squeeze block hq

theorem slot_emb {sig : RefSig} {sp : Space} (M : Memref sig .tc sp (stack n) .f32) {off inb hq} {k : Fin n} (h : off = ![k.val, 0, 0]) (y : block.Idx) :
    (slot M off inb hq).view.emb y = M.view.emb (place k y) := by
  subst h
  have h1 : (slot M ![k.val, 0, 0] inb hq).view.emb y
      = M.view.emb ((Rect.unit (s := stack n) ![k.val, 0, 0] single.size inb).emb (Shape.reshapeEquiv hq.numel_eq y)) := rfl
  rw [h1, Shape.reshapeEquiv_cons_one]
  congr 1
  funext a
  apply Fin.ext
  rw [Rect.emb_apply]
  match a with
  | ⟨0, _⟩ => show k.val + 1 * 0 = k.val; omega
  | ⟨1, _⟩ => show 0 + 1 * (y 0).val = (y 0).val; omega
  | ⟨2, _⟩ => show 0 + 1 * (y 1).val = (y 1).val; omega

theorem slot_set {sig : RefSig} {sp : Space} (M : Memref sig .tc sp (stack n) .f32) {off inb hq} {k : Fin n} (h : off = ![k.val, 0, 0]) :
    (slot M off inb hq).view.set = (elems n k).map M.view.emb := by
  ext i
  unfold View.set
  rw [Finset.mem_map, Finset.mem_map]
  constructor
  · rintro ⟨y, -, rfl⟩
    exact ⟨place k y, mem_elems.mpr rfl, (slot_emb M h y).symm⟩
  · rintro ⟨j, hj, rfl⟩
    refine ⟨within j, Finset.mem_univ _, ?_⟩
    rw [slot_emb M h, ← mem_elems.mp hj, place_within]

end Cert.Train

end
-- ==== Proof.SiblingMem.lean ====
/-
# The exchange between siblings, block by block

A device holds eight blocks of gradients and has room for four. The blocks with the parity of its sibling (`sent`) go to
the sibling, which puts them into its four places; those with its own parity (`kept`) stay. `swapped` is what a device's
four places end holding.
-/
module

public import proofs.«01_k».proof.Proof.Gen.SiblingIdeal
public import proofs.«01_k».proof.Proof.Gen.SiblingIdeal.Launch
public import proofs.«01_k».proof.Proof.Blocks
public import Idealize.ShloMosaic.Lib.Ring
public import Idealize.ShloMosaic.Lib.Pipeline.Kit

@[expose] public section

noncomputable section

namespace Cert.SiblingProof

open Cert.SiblingIdeal Cert.SiblingIdeal.Gen Cert.Train
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

set_option Elab.async false

variable {F : FTy → Type} [FloatOps F]

/-- The devices' memory. -/
abbrev Mem (F : FTy → Type) [FloatOps F] : Type := (ℓ : Loc nD τ sig) → Buf (Elt F) ℓ

/-- The other device of the chip. -/
def sib (c : Dev nD) : Dev nD := ⟨(c.val ^^^ 1) % 8, Nat.mod_lt _ (by decide)⟩
theorem sib_sib (c : Dev nD) : sib (sib c) = c := by revert c; decide
def sibEquiv : Dev nD ≃ Dev nD := ⟨sib, sib, sib_sib, sib_sib⟩

/-- The blocks that device `c` sends, -/
def sent (c : Dev nD) (j : Fin 4) : Fin 8 := ⟨(2 * j.val + 1) - c.val % 2, by omega⟩
/-- and those that it keeps. -/
def kept (c : Dev nD) (j : Fin 4) : Fin 8 := ⟨2 * j.val + c.val % 2, by omega⟩

theorem kept_sib (c : Dev nD) (j : Fin 4) : kept (sib c) j = sent c j := by revert c j; decide

/-- All eight: first those it sends, then those it keeps. -/
def both (c : Dev nD) : Fin 8 ≃ Fin 8 where
  toFun i := if h : i.val < 4 then sent c ⟨i.val, h⟩ else kept c ⟨i.val - 4, by omega⟩
  invFun e := if e.val % 2 = c.val % 2 then ⟨4 + e.val / 2, by omega⟩ else ⟨e.val / 2, by omega⟩
  left_inv i := by revert c i; decide
  right_inv e := by revert c e; decide

/-- Device `c`'s blocks, and its places. -/
abbrev gM : Memref sig .tc .hbm (stack 8) .f32 := Memref.whole main_arg0
abbrev oM : Memref sig .tc .hbm (stack 4) .f32 := Memref.whole main_v1

theorem set_g {off inb hq} {e : Fin 8} (h : off = ![e.val, 0, 0]) : (slot gM off inb hq).view.set = elems 8 e :=
  (slot_set gM h).trans (by ext i; rw [Finset.mem_map]; exact ⟨fun ⟨_, hj, h⟩ => h ▸ hj, fun hi => ⟨i, hi, rfl⟩⟩)
theorem set_o {off inb hq} {j : Fin 4} (h : off = ![j.val, 0, 0]) : (slot oM off inb hq).view.set = elems 4 j :=
  (slot_set oM h).trans (by ext i; rw [Finset.mem_map]; exact ⟨fun ⟨_, hj, h⟩ => h ▸ hj, fun hi => ⟨i, hi, rfl⟩⟩)

/-- What device `c`'s places end holding: its sibling's blocks of `c`'s parity. -/
def swapped (m : Mem F) (c : Dev nD) : (stack 4).Idx → Elt F .f32 := fun i =>
  m ((sib c : Thread nD τ).loc main_arg0) (place (kept c (which i)) (within i))

variable {Name : Type} [DecidableEq Name] {U : Type} [URA U] {Lvl : Type}

/-- A copy of a block that device `c` sends, onto the sibling's place for it, leaves `swapped` there. -/
theorem pts_land (m : Mem F) {off inb hq offg inbg} (c : Dev nD) {d : Dev nD} (hd : d = sib c) {j : Fin 4} (h : off = ![j.val, 0, 0]) (hg : offg = ![(sent c j).val, 0, 0])
    (q : PosShare TreeShare) (fd : Buf (Elt F) ((slot oM off inb hq).view.loc (d : Thread nD τ))) :
    ((slot oM off inb hq).view.loc (d : Thread nD τ) ↦[(slot oM off inb hq).view.set]{q}
        ((slot oM off inb hq).view.write (Elt F) fd ((slot gM offg inbg hq).view.read (Elt F) (m ((c : Thread nD τ).loc main_arg0))) Finset.univ)
        : sProp (MT nD τ sig Unit (Elt F) Name U Lvl))
      = ((d : Thread nD τ).loc main_v1 ↦[elems 4 j]{q} swapped m d) := by
  subst hd
  rw [← set_o (inb := inb) (hq := hq) h]
  refine pointsTo_congr fun i hi => ?_
  obtain ⟨y, -, rfl⟩ := Finset.mem_map.mp hi
  rw [View.write_emb_of_mem _ _ (Finset.mem_univ y), View.read_apply]
  rw [slot_emb gM hg, slot_emb oM h]
  show m ((c : Thread nD τ).loc main_arg0) (place (sent c j) y)
    = m ((sib (sib c) : Thread nD τ).loc main_arg0) (place (kept (sib c) (which (place j y))) (within (place j y)))
  rw [which_place, within_place, kept_sib, sib_sib]

/-- The eight blocks. -/
theorem g_blocks (c : Dev nD) (q : PosShare TreeShare) (f : Buf (Elt F) ((c : Thread nD τ).loc main_arg0)) :
    ((c : Thread nD τ).loc main_arg0 ↦{q} f : sProp (MT nD τ sig Unit (Elt F) Name U Lvl))
      = bigSep Finset.univ fun i : Fin 8 => ((c : Thread nD τ).loc main_arg0 ↦[elems 8 (both c i)]{q} f) := by
  rw [Ring.pointsTo_blocks (ℓ := (c : Thread nD τ).loc main_arg0) (elems 8) elems_disjoint elems_cover f]
  exact bigSep_univ_equiv (both c) _

/-- The four places. -/
theorem o_blocks (c : Dev nD) (q : PosShare TreeShare) (f : Buf (Elt F) ((c : Thread nD τ).loc main_v1)) :
    ((c : Thread nD τ).loc main_v1 ↦{q} f : sProp (MT nD τ sig Unit (Elt F) Name U Lvl))
      = bigSep Finset.univ fun j : Fin 4 => ((c : Thread nD τ).loc main_v1 ↦[elems 4 j]{q} f) :=
  Ring.pointsTo_blocks (ℓ := (c : Thread nD τ).loc main_v1) (elems 4) elems_disjoint elems_cover f

end Cert.SiblingProof

end
-- ==== Proof.TableRegion.lean ====
/-
# A call whose index maps read a table that differs from device to device

The second call of each program adds blocks; which of a device's own blocks take part is read from a table of one word
that the host fills with the device's place in the mesh. This is the region of such a call: entered with every array of
@main held, the table among them, and left with the same arrays, the windows' at what the call wrote.
-/
module

public import Idealize.ShloMosaic.Lib.Pipeline.Regions
public import Idealize.ShloMosaic.Lib.Pipeline.RegionArraysTS
public import Idealize.ShloMosaic.Lib.Pipeline.Launch
public import Idealize.ShloMosaic.Lib.Pipeline.Kit
public import Idealize.ShloMosaic.Lib.Tactic

@[expose] public section

noncomputable section

namespace Cert.Train

open Idealize.ShloMosaic
open Idealize.SL
open Idealize.SL.BI (sProp bigSep bigSep_map bigSep_congr)
open scoped Idealize.SL.BI
open Idealize.SL.BI.BIBase Idealize.SL.BI.Laws Idealize.SL.Sem Idealize.SL.ProofMode
open Idealize.SL.RA
open TcCoe
open Idealize.ShloMosaic.Pipeline

set_option Elab.async false

variable {nD : Nat} {τ : Topo} {sig : RefSig} {Val : EltTy → Type}
variable {Ix : Type} [DecidableEq Ix] {Name : Type} [DecidableEq Name] {U : Type} [URA U] {Lvl : Type} [Preorder Lvl]

local notation "𝕄" => MT nD τ sig Ix Val Name U Lvl

variable {Λ₀ : Idealize.SL.Sem.Labels} {P : Type} [Fintype P]

variable (pcs : P → PCfg sig Λ₀ Val) (a : Dev nD → (p : P) → (pcs p).Adm)
  (pdats : (p : P) → (c : Dev nD) → Dat τ Val Ix Name U Lvl (pinD pcs a c p) c) (ι : Ix)
  (defs₀ : Defs nD τ sig Val Λ₀) (𝒱₀ : Variants)
  (L : GSem nD τ sig → Finset Ix) (lv : GSem nD τ sig → Ix → Lvl)

/-- The arrays of a call's windows, whole, as held buffers. -/
theorem windows_held (p : P) (win : WinFacts (pcs p).spec) (whole : ∀ w, ((pcs p).spec w).arr.IsWhole) (c : Dev nD)
    (hshare : ∀ w, (pdats p c).share w = fullShare)
    (G : (w : Fin (pinD pcs a c p).W) → Buf Val (((pinD pcs a c p).win w).arr.view.loc (c.tc : Thread nD τ))) (W : Valuation τ sig Val)
    (hG : ∀ w, G w = W (Proc.devRef .tc (arrRef (pinD pcs a c p).spec w))) :
    ((pdats p c).arrays G : sProp 𝕄) = StableHlo.held (c.tc : Thread nD τ) (arrRefs (pcs p).spec) W := by
  rw [PerCore.arrays_eq (pinD pcs a) pdats p c whole hshare G]
  unfold StableHlo.held arrRefs
  have e : Finset.univ.image (arrRef (pcs p).spec) = Finset.univ.map ⟨arrRef (pcs p).spec, win.arr_inj⟩ := (Finset.map_eq_image ⟨arrRef (pcs p).spec, win.arr_inj⟩ Finset.univ).symm
  rw [bigSep_map, e, bigSep_map]
  exact bigSep_congr fun w _ => by rw [hG]; rfl

/-- The region of a call with tables that owes nothing and has no other memory of its own. -/
def tableRegion (p : P) (win : WinFacts (pcs p).spec) (prf : PreFacts (pcs p).spec (pcs p).pre)
    (block_pos : ∀ w : Fin (pcs p).W, 0 < ((pcs p).spec w).block.numel) (whole : ∀ w, ((pcs p).spec w).arr.IsWhole)
    (stage_whole : ∀ (w : Fin (pcs p).W) (s : Fin ((pcs p).spec w).nbuf), (((pcs p).spec w).stage s).IsWhole)
    (hbody : ∀ c, BodyObligationLoose (pdats p c) defs₀ 𝒱₀ ι Set.univ)
    (howed : ∀ c t, (pdats p c).owed t = 0) (hrec : ∀ c, (pdats p c).recorded 0 = Set.univ)
    (hshare : ∀ c w, (pdats p c).share w = fullShare)
    (hscoped : ∀ c, (scopedRest (pcs p).spec c : sProp 𝕄) = BI.emp)
    (hΦ : ∀ c t, (pdats p c).Φ t = prefHeld (pcs p).pre c (fun _ => fullShare) (a c p).1)
    (W : Dev nD → Valuation τ sig Val)
    (hW : ∀ c w, (pdats p c).arrAt w 0 = W c (Proc.devRef .tc (arrRef (pinD pcs a c p).spec w)))
    (hT : ∀ c k, (a c p).1 k = W c (Proc.devRef .tc ((pcs p).pre.ref k))) :
    PerCore.RegionSeg pcs a pdats ι defs₀ 𝒱₀ L lv p where
  win := win.to₀
  block_pos := block_pos
  stage_whole := stage_whole
  K := PEmpty
  osem k := k.elim
  ho := OwnSemFacts.none _
  hbody := hbody
  hwaits c := (show _ ⊢ (BI.emp : sProp 𝕄) from by iintro -; iempintro).trans (PerCore.cellsWaits_of_owed_zero (pinD pcs a) pdats ι p c (howed c))
  pre c := iprop(StableHlo.held (c.tc : Thread nD τ) (ucRefs τ sig) (W c) ∗ ∃ Wd, owes (c : Thread nD τ) 0 Wd)
  post c := iprop(StableHlo.held (c.tc : Thread nD τ) (ucRefs τ sig) (afterRegion (pdats p c) (W c)) ∗ ∃ Wd, owes (c : Thread nD τ) 0 Wd)
  X _ := BI.emp
  Y c := prefHeld (pcs p).pre c (fun _ => fullShare) (a c p).1
  Z c := StableHlo.held (c.tc : Thread nD τ) ((ucRefs τ sig \ arrRefs (pcs p).spec) \ tblRefs (pcs p).pre) (W c)
  hentry c := by
    rw [ownSems0_none, windows_held pcs a pdats p win whole c (hshare c) ((pdats p c).arrAt · 0) (W c) (hW c),
      prefHeld_held (pcs p).pre prf.inj c (a c p).1 (W c) (hT c),
      StableHlo.held_sub_split (c.tc : Thread nD τ) (arrRefs_sub_ucRefs (pcs p).spec win.arr_unscoped) (W c),
      StableHlo.held_sub_split (c.tc : Thread nD τ) (tblRefs_sub_ucRefs_sdiff (pcs p).spec (pcs p).pre prf.unscoped prf.disj) (W c)]
    iintro ⟨⟨⟨Ha, Ht, Hu⟩, ⟨%Wd, HO⟩⟩, -, -⟩
    imodintro
    isplitl [Ha]; · iexact Ha
    isplitl [Ht]; · iexact Ht
    isplitl [HO]
    · unfold Dat.owesAt owesWithin Dat.bound
      rw [howed c 0, hrec c]
      iexists Wd; isplitr; · ipureintro; exact fun _ _ => Or.inl trivial
      iexact HO
    isplitr; · iempintro
    iexact Hu
  hin c := by
    rw [hΦ, hscoped]
    iintro ⟨-, Ht, -⟩
    iexact Ht
  hout c := by
    rw [hΦ, hscoped, ownSems0_none]
    iintro Ht
    isplitl [Ht]; · iexact Ht
    isplitr <;> iempintro
  hexit c := by
    rw [windows_held pcs a pdats p win whole c (hshare c) ((pdats p c).arrAt · (pinD pcs a c p).N) (afterRegion (pdats p c) (W c))
        (fun w => (afterRegion_arr (pdats p c) (W c) win.arr_inj w).symm),
      prefHeld_held (pcs p).pre prf.inj c (a c p).1 (afterRegion (pdats p c) (W c))
        (fun k => (hT c k).trans (afterRegion_of_not_arr (pdats p c) (W c) (prf.disj k)).symm),
      StableHlo.held_sub_split (c.tc : Thread nD τ) (arrRefs_sub_ucRefs (pcs p).spec win.arr_unscoped) (afterRegion (pdats p c) (W c)),
      StableHlo.held_sub_split (c.tc : Thread nD τ) (tblRefs_sub_ucRefs_sdiff (pcs p).spec (pcs p).pre prf.unscoped prf.disj) (afterRegion (pdats p c) (W c)),
      StableHlo.held_congr (c.tc : Thread nD τ) (S := (ucRefs τ sig \ arrRefs (pcs p).spec) \ tblRefs (pcs p).pre) (V := afterRegion (pdats p c) (W c)) (V' := W c)
        (fun b hb => afterRegion_off (pdats p c) (W c) (ucRefs τ sig) b (Finset.mem_sdiff.mp hb).1)]
    iintro ⟨Ha, HO, Ht, Hu⟩
    imodintro
    isplitl [Ha Ht Hu]
    · isplitl [Ha]; · iexact Ha
      isplitl [Ht]; · iexact Ht
      iexact Hu
    unfold Dat.owesAt owesWithin
    rw [howed c (Fin.last _)]
    icases HO with ⟨%Wd, -, HO⟩; iexists Wd; iexact HO

end Cert.Train

end
-- ==== Proof.Whole.lean ====
/-
# Loads and stores of every element

The adding calls load whole tiles and store whole tiles.
-/
module

public import Idealize.ShloMosaic.Lib.Pipeline.Kit
public import Idealize.ShloMosaic.Lib.Pipeline.ValueKit.Geometry
public import Idealize.ShloMosaic.Lib.Tactic

@[expose] public section

noncomputable section

namespace Cert.Train

open Idealize.ShloMosaic

set_option Elab.async false

variable {κ : Kind} {sp : Space} {s : Shape} {e : EltTy} {Val : EltTy → Type}

/-- A store at every element, read back. -/
theorem whole_store (v : View sig κ sp s e) (f : v.ty.Contents Val) {off : Fin s.rank → ℕ} (h : ∀ a, off a = 0)
    (inb : ∀ a, off a + s.size a ≤ s.size a) (x : s.Idx → Val e) :
    v.read Val (v.writes Val f [⟨Rect.unit off s.size inb, x⟩]) = x := by
  funext y
  have he : (Rect.unit off s.size inb).emb y = y := funext fun a => Fin.ext (by rw [ValueKit.rect_emb_unit_val, h a, Nat.zero_add])
  exact (congrArg _ he.symm).trans (View.read_writes_cons_emb (v := v) (f := f) (Rect.unit off s.size inb) x [] y)

/-- A load of every element. -/
theorem whole_load (v : View sig κ sp s e) {off : Fin s.rank → ℕ} (h : ∀ a, off a = 0)
    (inb : ∀ a, off a + s.size a ≤ s.size a) (f : v.ty.Contents Val) :
    v.readAt Val (Rect.unit off s.size inb).toLoadRect f = v.read Val f := by
  funext y
  have he : (Rect.unit off s.size inb).emb y = y := funext fun a => Fin.ext (by rw [ValueKit.rect_emb_unit_val, h a, Nat.zero_add])
  exact congrArg (v.read Val f) he

end Cert.Train

end
-- ==== Proof.SiblingAdd.lean ====
/-
# The addition

The second call adds, tile by tile, the blocks that the device kept and the blocks that it was sent. Which block is kept
depends on the device: its parity is in a table that the call reads first. Here is that table, what each window names at
each step, and the addition of one tile.
-/
module

public import proofs.«01_k».proof.Proof.SiblingMem
public import proofs.«01_k».proof.Proof.TableRegion
public import proofs.«01_k».proof.Proof.Whole
public import proofs.«01_k».proof.Proof.Gen.SiblingIdeal.Skeleton
public import proofs.«01_k».proof.Proof.Gen.SiblingIdeal.Regions
public import Idealize.ShloMosaic.Lib.Tactic

@[expose] public section

noncomputable section

namespace Cert.SiblingProof

open Cert.SiblingIdeal Cert.SiblingIdeal.Gen Cert.Train
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline

set_option Elab.async false

variable {F : FTy → Type} [FloatOps F]
variable {U : Type} [URA U]

abbrev Tile : Shape := S1x240x1024

section Whole
variable {κ : Kind} {sp : Space} {s : Shape} {e : EltTy} {Val : EltTy → Type}

/-- Two loads, and a store of what is made of them. -/
theorem whole_pass {κ' κ'' : Kind} {sp' sp'' : Space} (v0 : View sig κ sp s e) (v1 : View sig κ' sp' s e) (v2 : View sig κ'' sp'' s e)
    {off : Fin s.rank → ℕ} (h : ∀ a, off a = 0) (inb : ∀ a, off a + s.size a ≤ s.size a) (f0 : v0.ty.Contents Val) (f1 : v1.ty.Contents Val) (f2 : v2.ty.Contents Val)
    (pay : (s.Idx → Val e) → (s.Idx → Val e) → s.Idx → Val e) :
    v2.read Val (v2.writes Val f2 [⟨Rect.unit off s.size inb, pay (v0.readAt Val (Rect.unit off s.size inb).toLoadRect f0) (v1.readAt Val (Rect.unit off s.size inb).toLoadRect f1)⟩])
      = pay (v0.read Val f0) (v1.read Val f1) :=
  (whole_store v2 f2 h inb _).trans (congrArg₂ pay (whole_load v0 h inb f0) (whole_load v1 h inb f1))

end Whole

/-- One tile's addition. -/
noncomputable def addRun (c : Dev nD) (i : grid1.Coords) (T : Memref sig .tc .smem S1 .i32) (hT : T.IsWhole)
    (M0 : Memref sig .tc .vmem Tile .f32) (h0 : M0.IsWhole) (M1 : Memref sig .tc .vmem Tile .f32) (h1 : M1.IsWhole)
    (M2 : Memref sig .tc .vmem Tile .f32) (h2 : M2.IsWhole)
    (f0 : Buf (Elt F) (M0.view.loc (c : Thread nD τ))) (f1 : Buf (Elt F) (M1.view.loc (c : Thread nD τ))) :
    { W : Buf (Elt F) (M2.view.loc (c : Thread nD τ)) // ∀ (f2 : Buf (Elt F) (M2.view.loc (c : Thread nD τ))) (E : Set ℕ) (Q : PUnit → sProp (MT nD τ sig Unit (Elt F) ℕ U ℕ)),
        iprop((M0.view.loc (c : Thread nD τ) ↦{fullShare} f0) ∗ (M1.view.loc (c : Thread nD τ) ↦{fullShare} f1) ∗ (M2.view.loc (c : Thread nD τ) ↦{fullShare} f2)
          ∗ (iprop((M0.view.loc (c : Thread nD τ) ↦{fullShare} f0) ∗ (M1.view.loc (c : Thread nD τ) ↦{fullShare} f1) ∗ (M2.view.loc (c : Thread nD τ) ↦{fullShare} W)) -∗ Q ⟨⟩))
        ⊢ wp frame (wpE (defs₀ (F := F)) Variants.none c none) E (cc1_grads_add_sibling_skel i T hT M0 h0 M1 h1 M2 h2) Q } := by
  refine ⟨?_, fun f2 E Q => ?run⟩
  case run =>
    iintro ⟨H0, H1, H2, Hk⟩
    sl_exec!
    sl_step
    iapply Hk
    isplitl [H0]; · iexact H0
    isplitl [H1]; · iexact H1
    iexact H2

theorem addRun_read (c : Dev nD) (i : grid1.Coords) (T : Memref sig .tc .smem S1 .i32) (hT : T.IsWhole)
    (M0 : Memref sig .tc .vmem Tile .f32) (h0 : M0.IsWhole) (M1 : Memref sig .tc .vmem Tile .f32) (h1 : M1.IsWhole)
    (M2 : Memref sig .tc .vmem Tile .f32) (h2 : M2.IsWhole)
    (f0 : Buf (Elt F) (M0.view.loc (c : Thread nD τ))) (f1 : Buf (Elt F) (M1.view.loc (c : Thread nD τ))) :
    M2.view.read (Elt F) (addRun (U := U) c i T hT M0 h0 M1 h1 M2 h2 f0 f1).1 = k1_pay1 (M0.view.read (Elt F) f0) (M1.view.read (Elt F) f1) := by
  unfold addRun
  dsimp only
  unfold addRun.sl.H2_1
  have hz : ∀ a, (![0, 0, 0] : Fin Tile.rank → ℕ) a = 0 := by decide
  exact whole_pass (Val := Elt F) M0.view M1.view M2.view hz inb_S1x240x1024_S1x240x1024_0_0_0 f0 f1 M2.view.junk k1_pay1

/-- The same, in terms of what the three tiles read. -/
theorem add_tile (c : Dev nD) (i : grid1.Coords) (T : Memref sig .tc .smem S1 .i32) (hT : T.IsWhole)
    (M0 : Memref sig .tc .vmem Tile .f32) (h0 : M0.IsWhole) (M1 : Memref sig .tc .vmem Tile .f32) (h1 : M1.IsWhole)
    (M2 : Memref sig .tc .vmem Tile .f32) (h2 : M2.IsWhole) (x0 x1 x2 : Tile.Idx → Elt F .f32)
    (Q : PUnit → sProp (MT nD τ sig Unit (Elt F) ℕ U ℕ)) :
    iprop(owns (c : Thread nD τ) M0 fullShare x0 ∗ owns (c : Thread nD τ) M1 fullShare x1 ∗ owns (c : Thread nD τ) M2 fullShare x2
        ∗ (iprop(owns (c : Thread nD τ) M0 fullShare x0 ∗ owns (c : Thread nD τ) M1 fullShare x1 ∗ owns (c : Thread nD τ) M2 fullShare (k1_pay1 x0 x1)) -∗ Q ⟨⟩))
      ⊢ wp frame (wpE (defs₀ (F := F)) Variants.none c none) Set.univ (cc1_grads_add_sibling i T hT M0 h0 M1 h1 M2 h2) Q := by
  rw [cc1_grads_add_sibling_eq_skeleton]
  simp only [owns, h0.set_eq_univ, h1.set_eq_univ, h2.set_eq_univ]
  iintro ⟨⟨%f0, %e0, H0⟩, ⟨%f1, %e1, H1⟩, ⟨%f2, -, H2⟩, Hk⟩
  subst e0 e1
  iapply ((addRun (U := U) c i T hT M0 h0 M1 h1 M2 h2 f0 f1).2 f2 Set.univ Q)
  isplitl [H0]; · iexact H0
  isplitl [H1]; · iexact H1
  isplitl [H2]; · iexact H2
  iintro ⟨H0, H1, H2⟩
  iapply Hk
  isplitl [H0]
  · iexists f0; isplitr; · ipureintro; rfl
    iexact H0
  isplitl [H1]
  · iexists f1; isplitr; · ipureintro; rfl
    iexact H1
  iexists _; isplitr; swap; · iexact H2
  ipureintro; exact addRun_read c i T hT M0 h0 M1 h1 M2 h2 f0 f1

/-! ## The table, and the blocks -/

/-- Device `c`'s table: its parity. -/
def tbl (c : Dev nD) : pre1.Contents (Elt F) := fun k => match k with
  | ⟨0, _⟩ => fun _ => BitVec.ofNat 32 (c.val % 2)

theorem tbl_word : ∀ (c : Fin 8) (i : Fin 4), (2#32 * BitVec.ofNat 32 i.val + BitVec.ofNat 32 (c.val % 2)).toNat = 2 * i.val + c.val % 2 := by decide

/-- Tile `(j, t)` of the sum is tile `t` of the block that device `c` keeps. -/
theorem ix_own (c : Dev nD) (i : grid1.Coords) :
    cc1_transform_0 (F := F) inb_S1_S1_0 numel1_S1 (tbl c) i = ![(kept c (i 0)).val, (i 1).val, 0] := by
  have h : cc1_transform_0 (F := F) inb_S1_S1_0 numel1_S1 (tbl c) i
    = ![(2#32 * BitVec.ofNat 32 (i 0).val + BitVec.ofNat 32 (c.val % 2)).toNat, (BitVec.ofNat 32 (i 1).val).toNat, 0] := rfl
  rw [h]
  have h1 : (BitVec.ofNat 32 (i 1).val).toNat = (i 1).val := by
    rw [BitVec.toNat_ofNat]; exact Nat.mod_eq_of_lt (lt_trans (i 1).isLt (by decide))
  rw [h1, tbl_word c (i 0)]
  rfl

theorem ix_sum (i : grid1.Coords) : cc1_transform_1 i = ![(i 0).val, (i 1).val, 0] := by
  have h : cc1_transform_1 i = ![(BitVec.ofNat 32 (i 0).val).toNat, (BitVec.ofNat 32 (i 1).val).toNat, 0] := rfl
  rw [h, BitVec.toNat_ofNat, BitVec.toNat_ofNat, Nat.mod_eq_of_lt (lt_trans (i 0).isLt (by decide)), Nat.mod_eq_of_lt (lt_trans (i 1).isLt (by decide))]

theorem tbl_ok (c : Dev nD) : ok1 (F := F) (tbl c) := by
  intro i
  refine ⟨?_, .inl rfl⟩
  rw [ix_own]
  intro a
  have h0 := (kept c (i 0)).isLt
  have h1 : (i 1).val < 21 := (i 1).isLt
  match a with
  | ⟨0, _⟩ => show ((kept c (i 0)).val + 1) * 1 ≤ 8; omega
  | ⟨1, _⟩ => show ((i 1).val + 1) * 240 ≤ 5040; omega
  | ⟨2, _⟩ => show (0 + 1) * 1024 ≤ 1024; omega

/-- The tables of both calls: the exchange has none. -/
def adm (c : Dev nD) (p : Fin 2) : (pcfgs (F := F) p).Adm := match p with
  | ⟨0, _⟩ => cfg0.toPCfg_adm
  | ⟨1, _⟩ => ⟨tbl c, tbl_ok c⟩

/-- The adding call, at device `c`'s table. -/
abbrev addCfg (c : Dev nD) : Cfg sig Λ₀ := cfg1 (F := F) ⟨tbl c, tbl_ok c⟩

variable (V : Dev nD → Valuation τ sig (Elt F))

/-- The tile of window `w` at point `t`, of the arrays as the call finds them. -/
abbrev tile (c : Dev nD) (w : Fin 3) (t : Fin grid1.N) : ((addCfg (F := F) c).win w).block.Idx → Elt F ((addCfg (F := F) c).win w).elt :=
  (((addCfg (F := F) c).win w).blk t).view.read (Elt F) (V c (Proc.devRef .tc (arrRef spec1 w)))

/-- What the adding call does to memory: it leaves the sums in the result's tiles. -/
def addDat (c : Dev nD) : Dat τ (Elt F) Unit ℕ U ℕ (addCfg (F := F) c) c where
  A w := V c (Proc.devRef .tc (arrRef spec1 w))
  after w t := match w with
    | ⟨0, _⟩ => tile V c 0 t
    | ⟨1, _⟩ => tile V c 1 t
    | ⟨2, _⟩ => k1_pay1 (tile V c 0 t) (tile V c 1 t)
  Φ _ := prefHeld pre1 c (fun _ => fullShare) (tbl c)
  q _ := fullShare
  owed _ := 0

theorem before_own (c : Dev nD) (t d) : (addDat (U := U) V c).before 0 t d = tile V c 0 t :=
  (addDat (U := U) V c).before_in_eq_fetched 0 rfl (fun _ => rfl) (fun _ _ _ => rfl) (fun _ => rfl) t d

theorem before_got (c : Dev nD) (t d) : (addDat (U := U) V c).before 1 t d = tile V c 1 t :=
  (addDat (U := U) V c).before_in_eq_fetched 1 rfl (fun _ => rfl) (fun _ _ _ => rfl) (fun _ => rfl) t d

theorem add_obligation (c : Dev nD) : BodyObligation (addDat (U := U) V c) (defs₀ (F := F)) Variants.none () Set.univ := fun t => by
  rw [bigSep_W1, bigSep_W1]
  show iprop((addDat (U := U) V c).Φ t.castSucc ∗ (addDat (U := U) V c).owesAt () t.castSucc
      ∗ (∃ d, owns (c : Thread nD τ) (((addCfg (F := F) c).win 0).stage ((addCfg (F := F) c).slots t 0)) fullShare ((addDat (U := U) V c).before 0 t d))
      ∗ (∃ d, owns (c : Thread nD τ) (((addCfg (F := F) c).win 1).stage ((addCfg (F := F) c).slots t 1)) fullShare ((addDat (U := U) V c).before 1 t d))
      ∗ (∃ d, owns (c : Thread nD τ) (((addCfg (F := F) c).win 2).stage ((addCfg (F := F) c).slots t 2)) fullShare ((addDat (U := U) V c).before 2 t d)))
    ⊢ wp frame (wpE (defs₀ (F := F)) Variants.none c none) Set.univ
        (cc1_grads_add_sibling (F := F) (grid1.coords t) (Memref.whole main_v6) (Memref.isWhole_whole _)
          (spec1_0.stage ((addCfg (F := F) c).slots t 0)) (hstage1_0 (((addCfg (F := F) c).slots t 0).cast nbuf1_0))
          (spec1_1.stage ((addCfg (F := F) c).slots t 1)) (hstage1_1 (((addCfg (F := F) c).slots t 1).cast nbuf1_1))
          (spec1_2.stage ((addCfg (F := F) c).slots t 2)) (hstage1_2 (((addCfg (F := F) c).slots t 2).cast nbuf1_2)))
        fun _ => iprop((addDat (U := U) V c).Φ t.castSucc ∗ (addDat (U := U) V c).owesAt () t.castSucc
          ∗ owns (c : Thread nD τ) (spec1_0.stage ((addCfg (F := F) c).slots t 0)) fullShare (tile V c 0 t)
          ∗ owns (c : Thread nD τ) (spec1_1.stage ((addCfg (F := F) c).slots t 1)) fullShare (tile V c 1 t)
          ∗ owns (c : Thread nD τ) (spec1_2.stage ((addCfg (F := F) c).slots t 2)) fullShare (k1_pay1 (tile V c 0 t) (tile V c 1 t)))
  iintro ⟨HΦ, Ho, ⟨%d0, H0⟩, ⟨%d1, H1⟩, ⟨%d2, H2⟩⟩
  rw [before_own, before_got]
  iapply (add_tile (U := U) c (grid1.coords t) _ _ _ _ _ _ _ _ (tile V c 0 t) (tile V c 1 t) ((addDat (U := U) V c).before 2 t d2))
  isplitl [H0]; · iexact H0
  isplitl [H1]; · iexact H1
  isplitl [H2]; · iexact H2
  iintro ⟨H0, H1, H2⟩
  isplitl [HΦ]; · iexact HΦ
  isplitl [Ho]; · iexact Ho
  isplitl [H0]; · iexact H0
  isplitl [H1]; · iexact H1
  iexact H2

end Cert.SiblingProof

end
-- ==== Proof.SiblingSum.lean ====
/-
# What the addition leaves

Every tile of the sums is written once, so the result array ends holding, block by block, the sum of the block that the
device kept and the block that it was sent.
-/
module

public import proofs.«01_k».proof.Proof.SiblingAdd
public import Idealize.ShloMosaic.PureOps.Ideal

@[expose] public section

noncomputable section

namespace Cert.SiblingProof

open Cert.SiblingIdeal Cert.SiblingIdeal.Gen Cert.Train
open Idealize.ShloMosaic
open Idealize.ShloMosaic.TcCoe Idealize.ShloMosaic.Tactic
open Idealize.SL Idealize.SL.RA Idealize.SL.BI
open Idealize.ShloMosaic.Pipeline

set_option Elab.async false

variable {F : FTy → Type} [FloatOps F]
variable {U : Type} [URA U]

/-- The four blocks that device `c` keeps, of its eight. -/
def own4 (c : Dev nD) (x : (stack 8).Idx → Elt F .f32) : (stack 4).Idx → Elt F .f32 := fun i => x (place (kept c (which i)) (within i))

/-- A tile of the sums is the sum of the tiles. -/
theorem pay_eq (x y : Tile.Idx → Elt F .f32) : k1_pay1 x y = addf (s := Tile) x y := by
  show shapeCast Tile (addf (shapeCast S240x1024 x shapeCasts_S1x240x1024_S240x1024) (shapeCast S240x1024 y shapeCasts_S1x240x1024_S240x1024)) shapeCasts_S240x1024_S1x240x1024 = _
  have h : shapeCast Tile (addf (shapeCast S240x1024 x shapeCasts_S1x240x1024_S240x1024) (shapeCast S240x1024 y shapeCasts_S1x240x1024_S240x1024)) shapeCasts_S240x1024_S1x240x1024
    = addf (s := Tile) (shapeCast Tile (shapeCast S240x1024 x shapeCasts_S1x240x1024_S240x1024) shapeCasts_S240x1024_S1x240x1024)
      (shapeCast Tile (shapeCast S240x1024 y shapeCasts_S1x240x1024_S240x1024) shapeCasts_S240x1024_S1x240x1024) := rfl
  rw [h, shapeCast_shapeCast, shapeCast_shapeCast]

/-- The result's window, which no table has a part in: its tiles cover the result. -/
theorem covers (c : Dev nD) : ((addCfg (F := F) c).win 2).Covers := by
  have h : ((addCfg (F := Ideal) 0).win 2).Covers := by decide +kernel
  exact h

variable (V : Dev nD → Valuation τ sig (Elt F))

theorem at_own (c : Dev nD) (t : Fin grid1.N) (y : Tile.Idx) (a : Fin 3) :
    ((((addCfg (F := F) c).win 0).blk t).view.emb y a : ℕ) = (![(kept c (grid1.coords t 0)).val, (grid1.coords t 1).val, 0] : Fin 3 → ℕ) a * Tile.size a + (y a).val :=
  (((addCfg (F := F) c).win 0).rect_emb_val t y a rfl).trans
    (congrArg (fun f : Fin 3 → ℕ => f a * Tile.size a + (y a).val) (ix_own (F := F) c (grid1.coords t)))
theorem at_got (c : Dev nD) (t : Fin grid1.N) (y : Tile.Idx) (a : Fin 3) :
    ((((addCfg (F := F) c).win 1).blk t).view.emb y a : ℕ) = (![(grid1.coords t 0).val, (grid1.coords t 1).val, 0] : Fin 3 → ℕ) a * Tile.size a + (y a).val :=
  (((addCfg (F := F) c).win 1).rect_emb_val t y a rfl).trans
    (congrArg (fun f : Fin 3 → ℕ => f a * Tile.size a + (y a).val) (ix_sum (grid1.coords t)))
theorem at_sum (c : Dev nD) (t : Fin grid1.N) (y : Tile.Idx) (a : Fin 3) :
    ((((addCfg (F := F) c).win 2).blk t).view.emb y a : ℕ) = (![(grid1.coords t 0).val, (grid1.coords t 1).val, 0] : Fin 3 → ℕ) a * Tile.size a + (y a).val :=
  (((addCfg (F := F) c).win 2).rect_emb_val t y a rfl).trans
    (congrArg (fun f : Fin 3 → ℕ => f a * Tile.size a + (y a).val) (ix_sum (grid1.coords t)))

/-- A tile of the blocks that the device keeps lies where the same tile of the sums does, -/
theorem emb_own (c : Dev nD) (t : Fin grid1.N) (y : Tile.Idx) (i : (stack 4).Idx) (hi : (((addCfg (F := F) c).win 2).blk t).view.emb y = i) :
    (((addCfg (F := F) c).win 0).blk t).view.emb y = place (kept c (which i)) (within i) := by
  subst hi
  have hy : (y 0).val = 0 := by have h : (y 0).val < 1 := (y 0).isLt; omega
  have hw : which ((((addCfg (F := F) c).win 2).blk t).view.emb y) = grid1.coords t 0 := by
    apply Fin.ext
    refine (at_sum c t y 0).trans ?_
    show (grid1.coords t 0).val * 1 + (y 0).val = _
    rw [hy]; omega
  rw [hw]
  funext a
  apply Fin.ext
  refine (at_own c t y a).trans ?_
  match a with
  | ⟨0, _⟩ => show (kept c (grid1.coords t 0)).val * 1 + (y 0).val = (kept c (grid1.coords t 0)).val; rw [hy]; omega
  | ⟨1, _⟩ => exact (at_sum c t y 1).symm
  | ⟨2, _⟩ => exact (at_sum c t y 2).symm
/-- and so does a tile of the blocks it was sent. -/
theorem emb_got (c : Dev nD) (t : Fin grid1.N) (y : Tile.Idx) :
    (((addCfg (F := F) c).win 1).blk t).view.emb y = (((addCfg (F := F) c).win 2).blk t).view.emb y := by
  funext a
  apply Fin.ext
  exact (at_got c t y a).trans (at_sum c t y a).symm

/-- The result array after the call. -/
theorem sums (c : Dev nD) :
    (addDat (U := U) V c).arrAt 2 (addCfg (F := F) c).N
      = addf (s := stack 4) (own4 c (V c (Proc.devRef .tc main_arg0))) (V c (Proc.devRef .tc main_v1)) := by
  refine (addDat (U := U) V c).arrAt_eq_of_covers 2 _ (covers c) (fun t _ y => ?_)
  show k1_pay1 (tile V c 0 t) (tile V c 1 t) y = _
  rw [pay_eq]
  show FloatOps.addf (V c (Proc.devRef .tc main_arg0) ((((addCfg (F := F) c).win 0).blk t).view.emb y)) (V c (Proc.devRef .tc main_v1) ((((addCfg (F := F) c).win 1).blk t).view.emb y)) = _
  rw [emb_own c t y _ rfl, emb_got c t y]
  rfl

end Cert.SiblingProof

end
-- ==== Proof.SiblingHost.lean ====
/-
# Between the exchange and the addition

After the exchange a device's four places hold what its sibling sent. The host then computes the device's parity from its
number and puts it into the table; nothing else changes.
-/
module

public import proofs.«01_k».proof.Proof.SiblingSum

@[expose] public section

noncomputable section

namespace Cert.SiblingProof

open Cert.SiblingIdeal Cert.SiblingIdeal.Gen Cert.Train
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline

set_option Elab.async false

variable {F : FTy → Type} [FloatOps F]

variable (m : Mem F)

/-- Device `c`'s arrays at the start, -/
abbrev start (c : Dev nD) : Valuation τ sig (Elt F) := fun b => m (c, b)
/-- after the exchange, -/
def swap (c : Dev nD) : Valuation τ sig (Elt F) := Function.update (start m c) (Proc.devRef .tc main_v1) (swapped m c)
/-- and when the table is filled. -/
def ready (c : Dev nD) : Valuation τ sig (Elt F) := StableHlo.after (hostOps1 c) (swap m c)

theorem swap_v1 (c : Dev nD) : swap m c (Proc.devRef .tc main_v1) = swapped m c := Function.update_self ..
theorem swap_of (c : Dev nD) {b : DevRef τ sig} (h : b ≠ Proc.devRef .tc main_v1) : swap m c b = start m c b := Function.update_of_ne h ..
theorem ready_of (c : Dev nD) (r : Ref sig .tc) (h : r ∉ hostOps1_W) : ready m c r = swap m c r :=
  StableHlo.after_of_writes_sub (hostOps1 c) _ (hostOps1_writes c) h

theorem ready_arg0 (c : Dev nD) : ready m c (Proc.devRef .tc main_arg0) = m ((c : Thread nD τ).loc main_arg0) :=
  (ready_of m c main_arg0 (by decide)).trans (swap_of m c (by decide))
theorem ready_v1 (c : Dev nD) : ready m c (Proc.devRef .tc main_v1) = swapped m c :=
  (ready_of m c main_v1 (by decide)).trans (swap_v1 m c)

theorem parity_word : ∀ c : Dev nD, Scalar.remui (Scalar.divui (Dev.word c) 1#32) 2#32 = BitVec.ofNat 32 (c.val % 2) := by decide

/-- The table is the device's parity. -/
theorem ready_v6 (c : Dev nD) : ready m c (Proc.devRef .tc main_v6) = tbl (F := F) c 0 := by
  show ready m c (Proc.devRef .tc main_v6) = fun _ => BitVec.ofNat 32 (c.val % 2)
  rw [← parity_word]
  rfl

/-- What the addition is to leave: the sum of the blocks kept and the blocks sent. -/
def total (c : Dev nD) : (stack 4).Idx → Elt F .f32 := addf (s := stack 4) (own4 c (m ((c : Thread nD τ).loc main_arg0))) (swapped m c)

/-- A device's block array and its places, apart from its other arrays. -/
abbrev two : Finset (DevRef τ sig) := {Proc.devRef .tc main_arg0, Proc.devRef .tc main_v1}

theorem two_sub : two ⊆ ucRefs τ sig := by decide

variable {Name : Type} [DecidableEq Name] {U : Type} [URA U] {Lvl : Type}

theorem two_held (c : Dev nD) (V : Valuation τ sig (Elt F)) :
    (StableHlo.held (c : Thread nD τ) two V : sProp (MT nD τ sig Unit (Elt F) Name U Lvl))
      = iprop(((c : Thread nD τ).loc main_arg0 ↦{fullShare} V (Proc.devRef .tc main_arg0)) ∗ ((c : Thread nD τ).loc main_v1 ↦{fullShare} V (Proc.devRef .tc main_v1))) :=
  bigSep_eq_bigSepL_of_eq [Proc.devRef .tc main_arg0, Proc.devRef .tc main_v1] (by decide) (by decide) _

/-- All arrays: the two, and the others. -/
theorem held_two (c : Dev nD) (V : Valuation τ sig (Elt F)) :
    (StableHlo.held (c : Thread nD τ) (ucRefs τ sig) V : sProp (MT nD τ sig Unit (Elt F) Name U Lvl))
      = iprop((((c : Thread nD τ).loc main_arg0 ↦{fullShare} V (Proc.devRef .tc main_arg0)) ∗ ((c : Thread nD τ).loc main_v1 ↦{fullShare} V (Proc.devRef .tc main_v1)))
        ∗ StableHlo.held (c : Thread nD τ) (ucRefs τ sig \ two) V) := by
  rw [StableHlo.held_sub_split (c : Thread nD τ) two_sub V, two_held]

theorem others_eq (c : Dev nD) :
    (StableHlo.held (c : Thread nD τ) (ucRefs τ sig \ two) (swap m c) : sProp (MT nD τ sig Unit (Elt F) Name U Lvl))
      = StableHlo.held (c : Thread nD τ) (ucRefs τ sig \ two) (start m c) :=
  StableHlo.held_congr (c : Thread nD τ) fun b hb => swap_of m c fun h => (Finset.mem_sdiff.mp hb).2 (by rw [h]; decide)

end Cert.SiblingProof

end
-- ==== Proof.SiblingRun.lean ====
/-
# The exchange between siblings, on one device

`grads_to_sibling` on device `c`: four blocks go to the sibling, then the sibling's four land, then the sources are free
again. Eight semaphores: 0 … 3 at the sender of each copy, 4 … 7 at its receiver.
-/
module

public import proofs.«01_k».proof.Proof.SiblingMem
public import proofs.«01_k».proof.Proof.Exchange
public import proofs.«01_k».proof.Proof.Gen.SiblingIdeal.Skeleton
public import proofs.«01_k».proof.Proof.Gen.SiblingIdeal.Points

@[expose] public section

noncomputable section

namespace Cert.SiblingProof

open Cert.SiblingIdeal Cert.SiblingIdeal.Gen Cert.Train
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

set_option Elab.async false

variable {F : FTy → Type} [FloatOps F]

local notation "𝕄" => MT nD τ sig Unit (Elt F) ℕ (UU nD τ sig) ℕ

/-- A copy raises the sibling's semaphores 4 … 7 and the device's own 0 … 3. -/
def peer (k : Fin 8) : Dev nD → Dev nD := if k.val < 4 then id else sib

def plan : Plan nD sig 8 where
  sem k := .dma (⟨k.val, by omega⟩ : Fin 14)
  inj := by decide
  amt _ := (slot oM ![0, 0, 0] inb_S4x5040x1024_S1x5040x1024_0_0_0 squeezes_S1x5040x1024_S5040x1024).view.dmaCredit
  pos _ := View.dmaCredit_pos _ (by decide)
  peer := peer
  peer_peer k c := by revert k c; decide
  order := [4, 5, 6, 7]
  level _ := 0

variable (m : Mem F)

/-! ## What the semaphores hand over -/

/-- Block `e` of device `c`. -/
def own (c : Dev nD) (e : Fin 8) : sProp 𝕄 := (c : Thread nD τ).loc main_arg0 ↦[elems 8 e]{fullShare} m ((c : Thread nD τ).loc main_arg0)
/-- Place `j` of device `c`, as the exchange leaves it. -/
def got (c : Dev nD) (j : Fin 4) : sProp 𝕄 := (c : Thread nD τ).loc main_v1 ↦[elems 4 j]{fullShare} swapped m c
/-- Place `j` of device `c`, as it was. -/
def was (c : Dev nD) (j : Fin 4) : sProp 𝕄 := (c : Thread nD τ).loc main_v1 ↦[elems 4 j]{fullShare} m ((c : Thread nD τ).loc main_v1)

def pay (c : Dev nD) (k : Fin 8) : sProp 𝕄 :=
  match k with
  | 4 => got m c 0
  | 5 => got m c 1
  | 6 => got m c 2
  | 7 => got m c 3
  | k => own m c (both c k)

instance own_storable (c : Dev nD) (e) : BI.Storable (upEmb : UEmb _ 𝕄) (own m c e) := by unfold own; infer_instance
instance got_storable (c : Dev nD) (j) : BI.Storable (upEmb : UEmb _ 𝕄) (got m c j) := by unfold got; infer_instance
instance pay_storable (c : Dev nD) (k : Fin 8) : BI.Storable (upEmb : UEmb _ 𝕄) (pay m c k) := by
  unfold pay
  split <;> infer_instance

/-! ## The printed devices -/

theorem dev1_eq (c : Dev nD) : (⟨k0_dev1 c, k0_dev1_lt c⟩ : Dev nD) = sib c := Fin.ext (by show k0_dev1 c = (sib c).val; rw [k0_dev1_eq]; revert c; decide)
theorem dev2_eq (c : Dev nD) : (⟨k0_dev2 c, k0_dev2_lt c⟩ : Dev nD) = sib c := Fin.ext (by show k0_dev2 c = (sib c).val; rw [k0_dev2_eq]; revert c; decide)
theorem dev3_eq (c : Dev nD) : (⟨k0_dev3 c, k0_dev3_lt c⟩ : Dev nD) = sib c := Fin.ext (by show k0_dev3 c = (sib c).val; rw [k0_dev3_eq]; revert c; decide)
theorem dev4_eq (c : Dev nD) : (⟨k0_dev4 c, k0_dev4_lt c⟩ : Dev nD) = sib c := Fin.ext (by show k0_dev4 c = (sib c).val; rw [k0_dev4_eq]; revert c; decide)

/-! ## The step -/

/-- Block `sent c j` goes to the sibling's place `j`. -/
theorem send (𝒱 : Variants) (c : Dev nD) {α : Type} {Q : α → sProp (MT nD τ sig Unit (Elt F) ℕ (UU nD τ sig) ℕ)}
    (j : Fin 4) (kS kR : Fin 8) (l : List (Fin 8)) {D : Dev nD} (hD : D = sib c)
    (hkR : peer kR = sib) (hkS : peer kS c = c)
    {off inb offg inbg hq} (h : off = ![j.val, 0, 0]) (hg : offg = ![(sent c j).val, 0, 0])
    (hpS : pay m c kS = own m c (sent c j)) (hpR : ∀ d, pay m d kR = got m d j)
    {sS sR : DmaSem sig} (hsS : plan.sem kS = .dma sS) (hsR : plan.sem kR = .dma sR)
    {hsc : (slot oM off inb hq).view.ref.isScScratch = false}
    {hsrc : (slot gM offg inbg hq).view.WordExact} {hdst : (slot oM off inb hq).view.WordExact}
    {hsem : DmaTarget.Typed (nD := nD) (τ := τ) .hbm (.dma sR) (.remote (D : Thread nD τ) (slot oM off inb hq) (.dma sS) hsc)}
    {k : PUnit → Prog (TpuEff nD τ sig (Elt F) Λ₀ .tc) α} :
    iprop(plan.records (pay m) ∗ own m c (sent c j) ∗ was m (sib c) j ∗ plan.owing c (kR :: l) ∗ plan.tok c kS ∗ plan.tok c kR)
      ⊢ iprop(((plan.due c kS ∗ plan.owing c l) -∗ wp frame (wpE (defs₀ (F := F)) 𝒱 (c : Thread nD τ) none) Set.univ (k ⟨⟩) Q)
          -∗ wp frame (wpE (defs₀ (F := F)) 𝒱 (c : Thread nD τ) none) Set.univ
              (.op (.enqueueDma (slot gM offg inbg hq) (.remote (D : Thread nD τ) (slot oM off inb hq) (.dma sS) hsc) (.dma sR) hsrc hdst hsem) k) Q) := by
  have hp : plan.peer kR c = sib c := congrFun hkR c
  rw [← hp] at hD
  subst hD
  have h0 := Plan.wp_send plan (pay m) (defs := defs₀ (F := F)) 𝒱 c (Q := Q) kS kR l hkS (src := slot gM offg inbg hq) (dst := slot oM off inb hq) (hsc := hsc)
    (hsrc := hsrc) (hdst := hdst) (hsem := by rw [hsR, hsS]; exact hsem) (k := k) (q := fullShare)
    (fs := m ((c : Thread nD τ).loc main_arg0)) (fd := m ((plan.peer kR c : Thread nD τ).loc main_v1))
    rfl rfl (by routes) (by rw [hpS, set_g hg]; exact BI.Entails.refl _)
    (by rw [hpR]; exact Entails.of_eq (pts_land m c hp h hg _ _))
  unfold own was
  rw [← set_o (inb := inb) (hq := hq) h, ← set_g (inb := inbg) (hq := hq) hg, ← hp]
  simp only [hsR, hsS] at h0
  exact h0

/-! ## The body -/

/-- The sibling's places, which a device is to write. -/
def landings (c : Dev nD) : sProp 𝕄 := iprop(was m (sib c) 0 ∗ was m (sib c) 1 ∗ was m (sib c) 2 ∗ was m (sib c) 3)

/-- What a device starts from. -/
def before (c : Dev nD) : sProp 𝕄 :=
  iprop((bigSep Finset.univ fun i : Fin 8 => own m c (both c i))
    ∗ landings m c
    ∗ plan.records (pay m) ∗ levAts Plan.L plan.lv ∗ plan.dues c plan.order
    ∗ (bigSep Finset.univ fun k : Fin 8 => plan.fresh c k) ∗ bigSep Finset.univ fun k : Fin 8 => plan.tok c k)

/-- What it ends with: its blocks, its places filled, its semaphores at zero. -/
def after (c : Dev nD) : sProp 𝕄 :=
  iprop((bigSep Finset.univ fun i : Fin 8 => own m c (both c i)) ∗ (bigSep Finset.univ fun j : Fin 4 => got m c j)
    ∗ bigSep Finset.univ fun k : Fin 8 => plan.zero c k)

theorem fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem dues_eq (c : Dev nD) : (plan.dues c plan.order : sProp 𝕄) = iprop(plan.due c 4 ∗ plan.due c 5 ∗ plan.due c 6 ∗ plan.due c 7 ∗ emp) := rfl

set_option maxRecDepth 8000 in
theorem body (𝒱 : Variants) (c : Dev nD) :
    iprop(before m c ∗ plan.owing c plan.order) ⊢ wp frame (wpE (defs₀ (F := F)) 𝒱 (c : Thread nD τ) none) Set.univ
      (bodyAt0 (F := F) t0_0) fun _ => iprop(after m c ∗ plan.owing c []) := by
  unfold before after landings
  rw [fin8, fin8, fin8, fin4, fin8, dues_eq]
  iintro ⟨⟨⟨X0, X1, X2, X3, X4, X5, X6, X7⟩, ⟨W0, W1, W2, W3⟩, #Hr, #Hlev, ⟨D4, D5, D6, D7, -⟩,
    ⟨A0, A1, A2, A3, A4, A5, A6, A7⟩, ⟨T0, T1, T2, T3, T4, T5, T6, T7⟩⟩, HO⟩
  unfold bodyAt0
  simp only [cc0_grads_to_sibling_eq_skeleton]
  unfold cc0_grads_to_sibling_skel
  simp only [k0_part1_eq_skeleton, k0_part2_eq_skeleton, k0_part3_eq_skeleton, k0_part4_eq_skeleton]
  unfold k0_part1_skel k0_part2_skel k0_part3_skel k0_part4_skel
  simp only [Prog.lift, Prog.bind_op, Prog.bind_ret, Prog.pure_eq_ret, wp_deviceId]
  -- four blocks, to the sibling
  iapply (send m 𝒱 c 0 0 4 [5, 6, 7] (dev1_eq c) rfl rfl rfl (k0_off1_eq c 0) rfl (fun _ => rfl) (sS := (0 : Fin 14)) (sR := (4 : Fin 14)) rfl rfl) $$ [X0 W0 HO T0 T4]
  · isplitr; · iexact Hr
    isplitl [X0]; · iexact X0
    isplitl [W0]; · iexact W0
    isplitl [HO]; · iexact HO
    isplitl [T0] <;> iassumption
  iintro ⟨D0, HO⟩
  iapply (send m 𝒱 c 1 1 5 [6, 7] (dev2_eq c) rfl rfl rfl (k0_off1_eq c 1) rfl (fun _ => rfl) (sS := (1 : Fin 14)) (sR := (5 : Fin 14)) rfl rfl) $$ [X1 W1 HO T1 T5]
  · isplitr; · iexact Hr
    isplitl [X1]; · iexact X1
    isplitl [W1]; · iexact W1
    isplitl [HO]; · iexact HO
    isplitl [T1] <;> iassumption
  iintro ⟨D1, HO⟩
  iapply (send m 𝒱 c 2 2 6 [7] (dev3_eq c) rfl rfl rfl (k0_off1_eq c 2) rfl (fun _ => rfl) (sS := (2 : Fin 14)) (sR := (6 : Fin 14)) rfl rfl) $$ [X2 W2 HO T2 T6]
  · isplitr; · iexact Hr
    isplitl [X2]; · iexact X2
    isplitl [W2]; · iexact W2
    isplitl [HO]; · iexact HO
    isplitl [T2] <;> iassumption
  iintro ⟨D2, HO⟩
  iapply (send m 𝒱 c 3 3 7 [] (dev4_eq c) rfl rfl rfl (k0_off1_eq c 3) rfl (fun _ => rfl) (sS := (3 : Fin 14)) (sR := (7 : Fin 14)) rfl rfl) $$ [X3 W3 HO T3 T7]
  · isplitr; · iexact Hr
    isplitl [X3]; · iexact X3
    isplitl [W3]; · iexact W3
    isplitl [HO]; · iexact HO
    isplitl [T3] <;> iassumption
  iintro ⟨D3, HO⟩
  -- the sibling's four, and the sources
  iapply (Plan.wp_wait plan (pay m) 𝒱 c 4 [] (by decide) (sem := (4 : Fin 14)) rfl rfl) $$ [D4 HO A4]
  · isplitr; · iexact Hr
    isplitr; · iexact Hlev
    isplitl [D4]; · iexact D4
    isplitl [HO] <;> iassumption
  iintro ⟨HO, Z4, P⟩
  ihave G0 := (Entails.of_eq (show pay m c 4 = got m c 0 from rfl)) $$ P
  iapply (Plan.wp_wait plan (pay m) 𝒱 c 5 [] (by decide) (sem := (5 : Fin 14)) rfl rfl) $$ [D5 HO A5]
  · isplitr; · iexact Hr
    isplitr; · iexact Hlev
    isplitl [D5]; · iexact D5
    isplitl [HO] <;> iassumption
  iintro ⟨HO, Z5, P⟩
  ihave G1 := (Entails.of_eq (show pay m c 5 = got m c 1 from rfl)) $$ P
  iapply (Plan.wp_wait plan (pay m) 𝒱 c 6 [] (by decide) (sem := (6 : Fin 14)) rfl rfl) $$ [D6 HO A6]
  · isplitr; · iexact Hr
    isplitr; · iexact Hlev
    isplitl [D6]; · iexact D6
    isplitl [HO] <;> iassumption
  iintro ⟨HO, Z6, P⟩
  ihave G2 := (Entails.of_eq (show pay m c 6 = got m c 2 from rfl)) $$ P
  iapply (Plan.wp_wait plan (pay m) 𝒱 c 7 [] (by decide) (sem := (7 : Fin 14)) rfl rfl) $$ [D7 HO A7]
  · isplitr; · iexact Hr
    isplitr; · iexact Hlev
    isplitl [D7]; · iexact D7
    isplitl [HO] <;> iassumption
  iintro ⟨HO, Z7, P⟩
  ihave G3 := (Entails.of_eq (show pay m c 7 = got m c 3 from rfl)) $$ P
  iapply (Plan.wp_wait plan (pay m) 𝒱 c 0 [] (by decide) (sem := (0 : Fin 14)) rfl rfl) $$ [D0 HO A0]
  · isplitr; · iexact Hr
    isplitr; · iexact Hlev
    isplitl [D0]; · iexact D0
    isplitl [HO] <;> iassumption
  iintro ⟨HO, Z0, P⟩
  ihave X0 := (Entails.of_eq (show pay m c 0 = own m c (both c 0) from rfl)) $$ P
  iapply (Plan.wp_wait plan (pay m) 𝒱 c 1 [] (by decide) (sem := (1 : Fin 14)) rfl rfl) $$ [D1 HO A1]
  · isplitr; · iexact Hr
    isplitr; · iexact Hlev
    isplitl [D1]; · iexact D1
    isplitl [HO] <;> iassumption
  iintro ⟨HO, Z1, P⟩
  ihave X1 := (Entails.of_eq (show pay m c 1 = own m c (both c 1) from rfl)) $$ P
  iapply (Plan.wp_wait plan (pay m) 𝒱 c 2 [] (by decide) (sem := (2 : Fin 14)) rfl rfl) $$ [D2 HO A2]
  · isplitr; · iexact Hr
    isplitr; · iexact Hlev
    isplitl [D2]; · iexact D2
    isplitl [HO] <;> iassumption
  iintro ⟨HO, Z2, P⟩
  ihave X2 := (Entails.of_eq (show pay m c 2 = own m c (both c 2) from rfl)) $$ P
  iapply (Plan.wp_wait plan (pay m) 𝒱 c 3 [] (by decide) (sem := (3 : Fin 14)) rfl rfl) $$ [D3 HO A3]
  · isplitr; · iexact Hr
    isplitr; · iexact Hlev
    isplitl [D3]; · iexact D3
    isplitl [HO] <;> iassumption
  iintro ⟨HO, Z3, P⟩
  ihave X3 := (Entails.of_eq (show pay m c 3 = own m c (both c 3) from rfl)) $$ P
  rw [wp_ret]
  imodintro
  isplitr [HO]
  · isplitl [X0 X1 X2 X3 X4 X5 X6 X7]
    · isplitl [X0]; · iexact X0
      isplitl [X1]; · iexact X1
      isplitl [X2]; · iexact X2
      isplitl [X3]; · iexact X3
      isplitl [X4]; · iexact X4
      isplitl [X5]; · iexact X5
      isplitl [X6] <;> iassumption
    isplitl [G0 G1 G2 G3]
    · isplitl [G0]; · iexact G0
      isplitl [G1]; · iexact G1
      isplitl [G2] <;> iassumption
    isplitl [Z0]; · iexact Z0
    isplitl [Z1]; · iexact Z1
    isplitl [Z2]; · iexact Z2
    isplitl [Z3]; · iexact Z3
    isplitl [Z4]; · iexact Z4
    isplitl [Z5]; · iexact Z5
    isplitl [Z6] <;> iassumption
  · iexact HO

end Cert.SiblingProof

end
-- ==== Proof.SiblingLaunch.lean ====
/-
# The exchange between siblings and the addition, on all devices

The launch hands each device's four places to its sibling, which is to write them, and the devices run: first the exchange,
then, on each device alone, the addition. At the end each device holds its blocks unchanged and the four sums, and every
semaphore is at zero.
-/
module

public import proofs.«01_k».proof.Proof.SiblingHost
public import proofs.«01_k».proof.Proof.SiblingRun
public import proofs.«01_k».proof.Proof.TalkFirst
public import proofs.«01_k».proof.Sibling
public import proofs.«01_k».proof.Proof.Gen.Sibling

@[expose] public section

noncomputable section

namespace Cert.SiblingProof

open Cert.SiblingIdeal Cert.SiblingIdeal.Gen Cert.Train
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

set_option Elab.async false

variable {F : FTy → Type} [FloatOps F]

local notation "𝕄" => MT nD τ sig Unit (Elt F) ℕ (UU nD τ sig) ℕ

variable (m : Mem F)

/-! ## The exchange as a call -/

/-- The staging buffers of the addition, which the exchange leaves alone. -/
abbrev unused (c : Dev nD) : sProp 𝕄 := scopedRest cfg0.spec c

def swapDat (c : Dev nD) : Dat τ (Elt F) Unit ℕ (UU nD τ sig) ℕ cfg0 c where
  A w := w.elim0
  after w := w.elim0
  Φ t := match t with
    | ⟨0, _⟩ => iprop(before m c ∗ unused c)
    | ⟨_ + 1, _⟩ => iprop(after m c ∗ unused c)
  q w := w.elim0
  owed t := match t with
    | ⟨0, _⟩ => plan.debt c plan.order
    | ⟨_ + 1, _⟩ => 0

def dats (p : Fin 2) (c : Dev nD) : Dat τ (Elt F) Unit ℕ (UU nD τ sig) ℕ (pinD (pcfgs (F := F)) adm c p) c := match p with
  | ⟨0, _⟩ => swapDat m c
  | ⟨1, _⟩ => addDat (ready m) c

theorem no_windows (Φ : Fin 0 → sProp 𝕄) : (BI.emp : sProp 𝕄) ⊢ bigSep Finset.univ Φ :=
  Entails.of_eq (by rw [Finset.univ_eq_empty, bigSep_empty])

theorem swap_obligation (c : Dev nD) : BodyObligationLoose (swapDat m c) (defs₀ (F := F)) Variants.none () Set.univ := fun t => by
  have ht : t = t0_0 := fin_N0 t
  subst ht
  show iprop((before m c ∗ unused c) ∗ owesWithin c (plan.debt c plan.order) _ ∗ _)
    ⊢ wp frame (wpE (defs₀ (F := F)) Variants.none (c : Thread nD τ) none) Set.univ (bodyAt0 (F := F) t0_0) fun _ =>
      iprop((after m c ∗ unused c) ∗ owesWithin c 0 _ ∗ _)
  have h := body m Variants.none c
  unfold Plan.owing at h
  iintro ⟨⟨Hb, Hu⟩, ⟨%W, -, Ho⟩, -⟩
  iapply (wp_wand_r frame (wpE (defs₀ (F := F)) Variants.none (c : Thread nD τ) none) Set.univ (Q := fun _ => iprop(after m c ∗ ∃ W, owes (c : Thread nD τ) (plan.debt c []) W)))
  isplitl [Hb Ho]
  · iapply h
    isplitl [Hb]; · iexact Hb
    iexists W; iexact Ho
  · iintro %_ ⟨Ha, ⟨%W', Ho⟩⟩
    isplitl [Ha Hu]
    · isplitl [Ha] <;> iassumption
    isplitl [Ho]
    · iexists W'
      isplitr; · ipureintro; exact fun _ _ => Or.inl trivial
      iexact Ho
    iapply (no_windows (F := F) _); iempintro

/-! ## Dealing the places -/

/-- Every device's places go to its sibling. -/
theorem deal :
    (bigSep Finset.univ fun c : Dev nD => (c : Thread nD τ).loc main_v1 ↦{fullShare} m ((c : Thread nD τ).loc main_v1) : sProp 𝕄)
      ⊢ bigSep Finset.univ fun c : Dev nD => landings m c := by
  have h (c : Dev nD) : ((c : Thread nD τ).loc main_v1 ↦{fullShare} m ((c : Thread nD τ).loc main_v1) : sProp 𝕄)
      = iprop(was m c 0 ∗ was m c 1 ∗ was m c 2 ∗ was m c 3) := by rw [o_blocks, fin4]; rfl
  rw [bigSep_congr (s := Finset.univ) (fun (c : Dev nD) _ => h c)]
  exact Entails.of_eq (bigSep_univ_equiv sibEquiv _)

/-- A device's blocks are its eight blocks. -/
theorem blocks_eq (c : Dev nD) :
    ((c : Thread nD τ).loc main_arg0 ↦{fullShare} m ((c : Thread nD τ).loc main_arg0) : sProp 𝕄) = bigSep Finset.univ fun i : Fin 8 => own m c (both c i) :=
  g_blocks c fullShare _

theorem places_eq (c : Dev nD) :
    ((c : Thread nD τ).loc main_v1 ↦{fullShare} swapped m c : sProp 𝕄) = bigSep Finset.univ fun j : Fin 4 => got m c j :=
  o_blocks c fullShare _

/-- The arrays that the exchange leaves alone. -/
abbrev others (c : Dev nD) : sProp 𝕄 := StableHlo.held (c : Thread nD τ) (ucRefs τ sig \ two) (start m c)

theorem arrays_at_start (c : Dev nD) :
    (unscopedBufs c (fun b => m ((c : Thread nD τ).loc b)) : sProp 𝕄)
      = iprop(((bigSep Finset.univ fun i : Fin 8 => own m c (both c i)) ∗ ((c : Thread nD τ).loc main_v1 ↦{fullShare} m ((c : Thread nD τ).loc main_v1))) ∗ others m c) := by
  rw [← blocks_eq]
  exact (Pipeline.unscopedBufs_held (Ix := Unit) (Name := ℕ) (U := UU nD τ sig) (Lvl := ℕ) c (start m c)).trans (held_two c (start m c))

theorem pre_all :
    iprop((bigSep Finset.univ fun c : Dev nD => iprop(ownSems0 plan.sem c ∗ unscopedBufs c (fun b => m ((c : Thread nD τ).loc b)) ∗ unscopedSems0 c
        ∗ owes (c : Thread nD τ) (plan.debt c plan.order) ∅ ∗ launchCred (fun d => plan.debt d plan.order) c ∗ (∃ g, prngReg c g) ∗ plan.dealt (pay m) c))
      ∗ levAts Plan.L plan.lv)
      ⊢ (|={Set.univ}=> bigSep Finset.univ fun c : Dev nD => iprop((before m c ∗ plan.owing c plan.order) ∗ others m c) : sProp 𝕄) := by
  have hdue : (bigSep Finset.univ fun c : Dev nD => launchCred (fun d => plan.debt d plan.order) c : sProp 𝕄)
      ⊢ bigSep Finset.univ fun c : Dev nD => plan.dues c plan.order := bigSep_mono fun c _ => plan.dues_of_launch c plan.order
  simp only [arrays_at_start, bigSep_sep']
  iintro ⟨⟨Hs, ⟨⟨Hx, Ho⟩, Hu⟩, -, HO, Hc, -, Hd⟩, #Hlev⟩
  imod (plan.open_all (pay m)) $$ [Hs Hd] with ⟨#Hr, Hf, Ht⟩
  · isplitl [Hs] <;> iassumption
  ihave Hw := (deal m) $$ Ho
  ihave Hdue := hdue $$ Hc
  imodintro
  isplitr [Hu]
  · iapply (Entails.of_eq (bigSep_sep' Finset.univ (fun c : Dev nD => before m c) (fun c : Dev nD => (plan.owing c plan.order : sProp 𝕄))))
    iapply (Plan.give_all (R := iprop(plan.records (pay m) ∗ levAts Plan.L plan.lv))
      (Φ := fun c : Dev nD => iprop((bigSep Finset.univ fun i : Fin 8 => own m c (both c i))
        ∗ landings m c
        ∗ plan.dues c plan.order ∗ (bigSep Finset.univ fun k : Fin 8 => plan.fresh c k) ∗ (bigSep Finset.univ fun k : Fin 8 => plan.tok c k)
        ∗ owes (c : Thread nD τ) (plan.debt c plan.order) ∅)) fun c _ => ?_)
    rotate_left
    · isplitr
      · isplitr; · iexact Hr
        iexact Hlev
      rw [bigSep_sep', bigSep_sep', bigSep_sep', bigSep_sep', bigSep_sep']
      isplitl [Hx]; · iexact Hx
      isplitl [Hw]; · iexact Hw
      isplitl [Hdue]; · iexact Hdue
      isplitl [Hf]; · iexact Hf
      isplitl [Ht] <;> iassumption
    · unfold before Plan.owing
      iintro ⟨⟨#Hr, #Hlev⟩, Hx, Hw, Hdue, Hf, Ht, HO⟩
      isplitr [HO]
      · isplitl [Hx]; · iexact Hx
        isplitl [Hw]; · iexact Hw
        isplitr; · iexact Hr
        isplitr; · iexact Hlev
        isplitl [Hdue]; · iexact Hdue
        isplitl [Hf] <;> iassumption
      · iexists ∅; iexact HO
  · iexact Hu

/-! ## The two calls -/

theorem own_facts : OwnSemFacts cfg0.spec plan.sem := ⟨by decide, plan.inj, fun _ w => w.elim0⟩

/-- The exchange: in with a device's blocks, its place in the protocol and its other arrays; out with all arrays, the
    places filled. -/
def first : FirstCall (pcfgs (F := F)) adm (dats m) () defs₀ Variants.none Plan.L plan.lv 0 where
  win := winFacts0.to₀
  block_pos := block_pos0
  stage_whole := stage_whole0
  K := Fin 8
  osem := plan.sem
  ho := own_facts
  hbody c := swap_obligation m c
  hwaits c := show _ ⊢ bigSep _ _ from (show _ ⊢ (BI.emp : sProp 𝕄) from by iintro -; iempintro).trans (no_windows (F := F) _)
  pre c := iprop((before m c ∗ plan.owing c plan.order) ∗ others m c)
  post c := iprop(StableHlo.held (c : Thread nD τ) (ucRefs τ sig) (swap m c) ∗ ∃ W, owes (c : Thread nD τ) (0 : CellTallies nD τ sig Unit) W)
  X c := before m c
  Y c := iprop((bigSep Finset.univ fun i : Fin 8 => own m c (both c i)) ∗ bigSep Finset.univ fun j : Fin 4 => got m c j)
  Z c := others m c
  hentry c := by
    unfold Plan.owing
    iintro ⟨⟨⟨Hb, ⟨%W, Ho⟩⟩, Hu⟩, -⟩
    imodintro
    isplitr; · iapply (show (BI.emp : sProp 𝕄) ⊢ (dats m 0 c).arrays ((dats m 0 c).arrAt · 0) from no_windows (F := F) _); iempintro
    isplitr; · iapply (show (BI.emp : sProp 𝕄) ⊢ prefHeld (pcfgs (F := F) 0).pre c (fun _ => fullShare) (adm (F := F) c 0).1 from no_windows (F := F) _); iempintro
    isplitl [Ho]
    · iexists W
      isplitr; · ipureintro; exact fun _ _ => Or.inl trivial
      iexact Ho
    isplitl [Hb]; · iexact Hb
    iexact Hu
  hin c := by
    show iprop(before m c ∗ _ ∗ unused c) ⊢ iprop(before m c ∗ unused c)
    iintro ⟨H, -, Hu⟩
    isplitl [H] <;> iassumption
  hout c := by
    show iprop(after m c ∗ unused c) ⊢ _
    unfold after
    iintro ⟨⟨Hx, Hg, Hz⟩, Hu⟩
    isplitl [Hx Hg]
    · isplitl [Hx] <;> iassumption
    isplitl [Hz]; · iapply (show (bigSep Finset.univ fun k : Fin 8 => plan.zero c k : sProp 𝕄) ⊢ ownSems0 plan.sem c from BI.Entails.refl _); iexact Hz
    iexact Hu
  hexit c := by
    rw [held_two c (swap m c), others_eq, swap_v1, swap_of m c (show Proc.devRef .tc main_arg0 ≠ Proc.devRef .tc main_v1 from by decide),
      show start m c (Proc.devRef .tc main_arg0) = m ((c : Thread nD τ).loc main_arg0) from rfl, blocks_eq, places_eq]
    iintro ⟨-, ⟨%W, -, Ho⟩, HY, Hu⟩
    imodintro
    isplitl [HY Hu]
    · isplitl [HY]; · iexact HY
      iexact Hu
    iexists W; iexact Ho

/-- The addition. -/
def second : PerCore.RegionSeg (pcfgs (F := F)) adm (dats m) () defs₀ Variants.none Plan.L plan.lv 1 :=
  tableRegion (pcfgs (F := F)) adm (dats m) () defs₀ Variants.none Plan.L plan.lv 1 winFacts1 preFacts1 block_pos1 arr_whole1 stage_whole1
    (fun c => (add_obligation (ready m) c).loose) (fun _ _ => rfl) (fun _ => rfl)
    (fun c w => (addDat (U := UU nD τ sig) (ready m) c).share_full (fun _ => rfl) w)
    (fun c => scopedRest1_eq c) (fun _ _ => rfl) (ready m) (fun _ _ => rfl)
    (fun c k => match k with | ⟨0, _⟩ => (ready_v6 m c).symm)

/-- The host's part between them. -/
def middle (c : Dev nD) : HostSeg (Name := ℕ) (U := UU nD τ sig) (pcfgs (F := F)) defs₀ Variants.none Plan.L plan.lv :=
  HostSeg.ofOps _ _ _ _ _ (ucRefs τ sig) (hostOps1 c)
    (fun op h => sub_ucRefs op ((List.forall_iff_forall_mem.mp (hostOps1_sub c)) op h))
    (fun op h => (List.forall_iff_forall_mem.mp (hostOps1_fresh c)) op h) (swap m)
    (fun c => iprop(∃ W, owes (c : Thread nD τ) (0 : CellTallies nD τ sig Unit) W))

abbrev rest (c : Dev nD) : List (PerCore.Seg (pcfgs (F := F)) adm (dats m) () defs₀ Variants.none Plan.L plan.lv) := [.host (middle m c), .region (second m)]

/-- A device's arrays at the end. -/
def finish (c : Dev nD) : Valuation τ sig (Elt F) := afterRegion (dats m 1 c) (ready m c)

theorem finish_arg0 (c : Dev nD) : finish m c (Proc.devRef .tc main_arg0) = m ((c : Thread nD τ).loc main_arg0) :=
  (afterRegion_arr (dats m 1 c) (ready m c) winFacts1.arr_inj 0).trans (((addDat (U := UU nD τ sig) (ready m) c).arrAt_in 0 rfl _).trans (ready_arg0 m c))
theorem finish_v7 (c : Dev nD) : finish m c (Proc.devRef .tc main_v7) = total m c :=
  (afterRegion_arr (dats m 1 c) (ready m c) winFacts1.arr_inj 2).trans ((sums (U := UU nD τ sig) (ready m) c).trans (by rw [ready_arg0, ready_v1]; rfl))

/-- What every device holds at the end. -/
def Done (c : Dev nD) (s : MemSt nD τ sig (Elt F)) : Prop :=
  s.mem ((c : Thread nD τ).loc main_arg0) = m ((c : Thread nD τ).loc main_arg0) ∧ s.mem ((c : Thread nD τ).loc main_v7) = total m c

theorem cells_apart : Function.Injective (PerCore.cellOf (nD := nD) (τ := τ) (pinD (pcfgs (F := F)) adm)) :=
  PerCore.cellOf_injective _
    (fun _ p => match p with
      | ⟨0, _⟩ => show SpecSemsDistinct cfg0.spec from by decide
      | ⟨1, _⟩ => show SpecSemsDistinct spec1 from by decide)
    (fun _ p p' => match p, p' with
      | ⟨0, _⟩, ⟨0, _⟩ => fun h => absurd rfl h
      | ⟨1, _⟩, ⟨1, _⟩ => fun h => absurd rfl h
      | ⟨0, _⟩, ⟨1, _⟩ => fun _ => show SpecSemsDisjoint cfg0.spec spec1 from by decide
      | ⟨1, _⟩, ⟨0, _⟩ => fun _ => show SpecSemsDisjoint spec1 cfg0.spec from by decide)

theorem main_eq (c : Dev nD) : main (F := F) c = .op (.customCall (entry 0) ()) fun _ => PerCore.Seg.run (rest m c) := by
  rw [main_chain c, PerCore.Seg.run_eq_chain]
  rfl

/-- Every weakly fair run of the exchange and the addition ends, with each device's blocks as they were, the sums in its
    result, and every semaphore at zero. -/
theorem run_main (g : Dev nD → PrngReg) :
    θ_run (defs (F := F)) (onTc (τ := τ) main) ⟨m, fun _ => 0, g⟩ (fun r => (∀ c, Done m c r.2) ∧ r.2.sem = fun _ => 0) := by
  refine launch_talk_first (pcs := pcfgs (F := F)) (a := adm) (pdats := dats m) (ι := ()) cells_apart Plan.EP (first m) m g main (rest m)
    (main_eq m) (fun _ => show ([1] : List (Fin 2)).Nodup from by decide) (fun _ => show (0 : Fin 2) ∉ ([1] : List (Fin 2)) from by decide) (fun c => plan.debt c plan.order) Plan.L_of_ne
    (plan.dealt (pay m)) (initOf (PerCore.cells (pinD (pcfgs (F := F)) adm) cells_apart) (PerCore.launchToks (pinD (pcfgs (F := F)) adm) cells_apart), initOf plan.cells plan.toks)
    ?_ ?_ (fun c => StableHlo.held (c : Thread nD τ) (ucRefs τ sig) (finish m c)) ?_ (Done m) ?_ ?_
  · iintro H
    ihave H' := (ownU_pair _ _) $$ H
    icases H' with ⟨Ha, Hb⟩
    imod (plan.fund (pay m)) $$ Hb with Hd
    imodintro
    isplitl [Ha] <;> iassumption
  · have hreg1 (c : Dev nD) : iprop(ownSems0 plan.sem c ∗ unscopedBufs c (fun b => m ((c : Thread nD τ).loc b)) ∗ unscopedSems0 c
          ∗ owes (c : Thread nD τ) (plan.debt c plan.order) ∅ ∗ launchCred (fun d => plan.debt d plan.order) c ∗ prngReg c (g c) ∗ plan.dealt (pay m) c)
        ⊢ (iprop(ownSems0 plan.sem c ∗ unscopedBufs c (fun b => m ((c : Thread nD τ).loc b)) ∗ unscopedSems0 c
          ∗ owes (c : Thread nD τ) (plan.debt c plan.order) ∅ ∗ launchCred (fun d => plan.debt d plan.order) c ∗ (∃ g, prngReg c g) ∗ plan.dealt (pay m) c) : sProp 𝕄) := by
      iintro ⟨H1, H2, H3, H4, H5, H6, H7⟩
      isplitl [H1]; · iexact H1
      isplitl [H2]; · iexact H2
      isplitl [H3]; · iexact H3
      isplitl [H4]; · iexact H4
      isplitl [H5]; · iexact H5
      isplitl [H6]; · iexists (g c); iexact H6
      iexact H7
    refine (BI.sep_mono (bigSep_mono fun c _ => hreg1 c) (BI.Entails.refl _)).trans (pre_all m)
  · exact fun c => ⟨BI.Entails.refl _, BI.Entails.refl _, BI.Entails.refl _⟩
  · intro c s'
    unfold StableHlo.held
    iintro ⟨Hh, HSI⟩
    ihave Hr := (pointsTo_read_all (ucRefs τ sig) (fun b => ((c : Thread nD τ).1, b)) (finish m c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (finish_arg0 m c),
        (h (Proc.devRef .tc main_v7) (Finset.mem_filter.mpr ⟨StableHlo.devRef_mem_tcRefs main_v7, by decide⟩)).trans (finish_v7 m c)⟩
    · iexact HSI
  · exact fun s h hs => ⟨h, sem_eq_zero_of_scoped (by decide) hs⟩

end Cert.SiblingProof

end
-- ==== Proof.SiblingKernel.lean ====
/-
# The kernel over the float formats' bits

The kernel and its idealization are the same text, printed twice. Here they are matched piece by piece: the calls'
configurations, the bodies, the order of the calls; then the idealization's run is the kernel's.
-/
module

public import proofs.«01_k».proof.Proof.Gen.Sibling
public import Idealize.ShloMosaic.PureOps.BitExact
public import proofs.«01_k».proof.Proof.SiblingLaunch

@[expose] public section

noncomputable section

namespace Cert.SiblingProof

open Idealize.ShloMosaic
open Idealize.ShloMosaic.TcCoe
open Idealize.SL.Sem

set_option Elab.async false

/-- The calls' configurations agree, -/
theorem pcfgs_eq : Sibling.pcfgs (F := Bits) = SiblingIdeal.pcfgs (F := Bits) := rfl

/-- and the calls' bodies, -/
theorem defs₀_eq : Sibling.defs₀ (F := Bits) = SiblingIdeal.defs₀ (F := Bits) := by
  unfold Sibling.defs₀ SiblingIdeal.defs₀
  refine congrArg Defs.onTc (funext fun l => funext fun a => ?_)
  match l, a with
  | 0, (t, s) => rfl
  | 1, (t, s) => rfl

/-- The calls in their order, for any configurations of them. -/
abbrev steps (pcs : Fin 2 → Pipeline.PCfg SiblingIdeal.sig SiblingIdeal.Λ₀ (Elt Bits)) (c : Dev SiblingIdeal.nD) :
    Prog (TpuEff SiblingIdeal.nD SiblingIdeal.τ SiblingIdeal.sig (Elt Bits) (Pipeline.Sig SiblingIdeal.Λ₀ (Fin 2) fun p => (pcs p).Adm) .tc) PUnit :=
  Pipeline.chain [Prog.lift (.customCall (Pipeline.entry 0) ()), StableHlo.seq (SiblingIdeal.Gen.hostOps1 c), Prog.lift (.customCall (Pipeline.entry 1) ())]

/-- and the order of the calls. -/
theorem main_kernel (c : Dev Sibling.nD) : Sibling.main (F := Bits) c = steps (Sibling.pcfgs (F := Bits)) c := by
  unfold Sibling.main
  rfl

open SiblingIdeal in
/-- Equal configurations and bodies run alike. -/
theorem run_congr {pcs pcs' : Fin 2 → Pipeline.PCfg sig Λ₀ (Elt Bits)} (h : pcs = pcs') {d d' : Defs nD τ sig (Elt Bits) Λ₀} (hd : d = d')
    (s) (Q) (H : θ_run (Pipeline.defs pcs d) (onTc (τ := τ) (steps pcs)) s Q) : θ_run (Pipeline.defs pcs' d') (onTc (τ := τ) (steps pcs')) s Q := by
  subst h; subst hd; exact H

/-- Every run of the kernel ends as the idealization's does. -/
theorem run_kernel (m : Mem Bits) (g : Dev SiblingIdeal.nD → PrngReg) :
    θ_run (Sibling.defs (F := Bits)) (onTc (τ := Sibling.τ) Sibling.main) ⟨m, fun _ => 0, g⟩ (fun r => (∀ c, Done m c r.2) ∧ r.2.sem = fun _ => 0) := by
  unfold Sibling.defs
  rw [show Sibling.main (F := Bits) = steps (Sibling.pcfgs (F := Bits)) from funext main_kernel]
  refine run_congr pcfgs_eq.symm defs₀_eq.symm _ _ ?_
  have h := run_main m g
  rw [show SiblingIdeal.main (F := Bits) = steps (SiblingIdeal.pcfgs (F := Bits)) from funext SiblingIdeal.Gen.main_chain] at h
  exact h

end Cert.SiblingProof

end
-- ==== Proof.SiblingValue.lean ====
/-
# The reference's sums, element by element

The reference adds, for each chip, the eight blocks of its two devices, and deals the sums out by parity. At place
`(q, r, l)` of its result that is the sum of two elements of its argument; in the devices' terms, of the device's own kept
block and the block its sibling sent.
-/
module

public import proofs.«01_k».proof.Proof.SiblingHost
public import proofs.«01_k».proof.Proof.Gen.SiblingRefIdeal
public import Idealize.ShloMosaic.Lib.LayoutAt
public import Idealize.ShloMosaic.Lib.Pipeline.Value
public import Idealize.ShloMosaic.Lib.Pointwise.Reduce

@[expose] public section

noncomputable section

namespace Cert.SiblingProof

open Cert.Train
open Idealize.ShloMosaic
open Idealize.ShloMosaic.TcCoe

set_option Elab.async false

/-- What the reference computes of its argument. -/
def summed (X : (stack 64).Idx → Elt Ideal .f32) : (stack 32).Idx → Elt Ideal .f32 :=
  open Cert.SiblingRefIdeal Cert.SiblingRefIdeal.Gen in
  shapeCast S32x5040x1024 (transpose S4x2x4x5040x1024 [0, 2, 1, 3, 4] (shapeCast S4x4x2x5040x1024 (Host.reduceAdd (F := Ideal) (φ := .f32) (shapeCast S4x2x8x5040x1024 X shapeCasts_S64x5040x1024_S4x2x8x5040x1024) (constant S_ .f32 0x00000000#32) reducesTo_S4x2x8x5040x1024_S4x8x5040x1024_d1 h_S_) shapeCasts_S4x8x5040x1024_S4x4x2x5040x1024) transposes_S4x4x2x5040x1024_S4x2x4x5040x1024_0_2_1_3_4) shapeCasts_S4x2x4x5040x1024_S32x5040x1024

/-- The block of the chip's device `k` that goes into block `q` of the result. -/
def term (q : Fin 32) (k : Fin 2) : Fin 64 := ⟨16 * (q.val / 8) + 8 * k.val + (2 * (q.val % 4) + q.val / 4 % 2), by omega⟩

theorem summed_apply (X : (stack 64).Idx → Elt Ideal .f32) (i : (stack 32).Idx) :
    summed X i = (X (place (term (which i) 0) (within i)) + X (place (term (which i) 1) (within i)) : EReal) := by
  have h0 : (i 0).val < 32 := (i 0).isLt
  have h1 : (i 1).val < 5040 := (i 1).isLt
  have h2 : (i 2).val < 1024 := (i 2).isLt
  unfold summed
  refine (shapeCast_apply _ _ i (ValueIdx.ix5 ⟨(i 0).val / 8, by omega⟩ ⟨(i 0).val / 4 % 2, by omega⟩ ⟨(i 0).val % 4, by omega⟩ ⟨(i 1).val, h1⟩ ⟨(i 2).val, h2⟩) ?_).trans ?_
  · rw [Shape.rowMajor_val_five, Shape.rowMajor_val_three]
    show ((((i 0).val / 8 * 2 + (i 0).val / 4 % 2) * 4 + (i 0).val % 4) * 5040 + (i 1).val) * 1024 + (i 2).val = ((i 0).val * 5040 + (i 1).val) * 1024 + (i 2).val
    omega
  refine (transpose_apply _ _ _ _ (ValueIdx.ix5 ⟨(i 0).val / 8, by omega⟩ ⟨(i 0).val % 4, by omega⟩ ⟨(i 0).val / 4 % 2, by omega⟩ ⟨(i 1).val, h1⟩ ⟨(i 2).val, h2⟩)
    fun b => match b with | ⟨0, _⟩ => rfl | ⟨1, _⟩ => rfl | ⟨2, _⟩ => rfl | ⟨3, _⟩ => rfl | ⟨4, _⟩ => rfl).trans ?_
  refine (shapeCast_apply _ _ _ (ValueIdx.ix4 ⟨(i 0).val / 8, by omega⟩ ⟨2 * ((i 0).val % 4) + (i 0).val / 4 % 2, by omega⟩ ⟨(i 1).val, h1⟩ ⟨(i 2).val, h2⟩) ?_).trans ?_
  · rw [Shape.rowMajor_val_five, Shape.rowMajor_val_four]
    show (((i 0).val / 8 * 8 + (2 * ((i 0).val % 4) + (i 0).val / 4 % 2)) * 5040 + (i 1).val) * 1024 + (i 2).val
      = ((((i 0).val / 8 * 4 + (i 0).val % 4) * 2 + (i 0).val / 4 % 2) * 5040 + (i 1).val) * 1024 + (i 2).val
    omega
  have hs (k : Fin 2) : shapeCast SiblingRefIdeal.S4x2x8x5040x1024 X SiblingRefIdeal.Gen.shapeCasts_S64x5040x1024_S4x2x8x5040x1024
      (ValueIdx.ix5 ⟨(i 0).val / 8, by omega⟩ k ⟨2 * ((i 0).val % 4) + (i 0).val / 4 % 2, by omega⟩ ⟨(i 1).val, h1⟩ ⟨(i 2).val, h2⟩)
        = X (place (term (which i) k) (within i)) := by
    refine shapeCast_apply _ _ _ _ ?_
    rw [Shape.rowMajor_val_five, Shape.rowMajor_val_three]
    show ((16 * ((i 0).val / 8) + 8 * k.val + (2 * ((i 0).val % 4) + (i 0).val / 4 % 2)) * 5040 + (i 1).val) * 1024 + (i 2).val
      = ((((i 0).val / 8 * 2 + k.val) * 8 + (2 * ((i 0).val % 4) + (i 0).val / 4 % 2)) * 5040 + (i 1).val) * 1024 + (i 2).val
    omega
  rw [Host.reduceAdd_apply, Ideal.hostReduceAdd_def, Ideal.hostReduceAdd_r5_a1, Fin.sum_univ_two]
  rw [show constant (F := Ideal) SiblingRefIdeal.S_ .f32 0x00000000#32 (Shape.Idx.first SiblingRefIdeal.Gen.h_S_) = (0 : EReal) from Ideal.ofBits_zero_f32, zero_add]
  exact congrArg₂ (fun a b : EReal => a + b) (hs 0) (hs 1)

/-- An element of a device's blocks is one of the whole argument. -/
theorem whole_at (m : Mem Ideal) (X : (stack 64).Idx → Elt Ideal .f32) (c : Dev SiblingIdeal.nD)
    (h : m ((c : Thread SiblingIdeal.nD SiblingIdeal.τ).loc SiblingIdeal.main_arg0) = Layout.block ⟨3, ![8, 5040, 1024]⟩ ⟨3, ![64, 5040, 1024]⟩ 0 8 c X)
    (e : Fin 8) (y : block.Idx) : m ((c : Thread SiblingIdeal.nD SiblingIdeal.τ).loc SiblingIdeal.main_arg0) (place e y) = X (place ⟨c.val * 8 + e.val, by have : c.val < 8 := c.isLt; omega⟩ y) := by
  rw [h]
  refine congrArg X (funext fun a => Fin.ext ?_)
  match a with
  | ⟨0, _⟩ => rfl
  | ⟨1, _⟩ => rfl
  | ⟨2, _⟩ => rfl

theorem sib_val : ∀ c : Dev SiblingIdeal.nD, (sib c).val = c.val / 2 * 2 + (1 - c.val % 2) := by decide

/-- The devices' sums are the blocks of the reference's. -/
theorem total_eq (m : Mem Ideal) (X : (stack 64).Idx → Elt Ideal .f32)
    (h : ∀ c : Dev SiblingIdeal.nD, m ((c : Thread SiblingIdeal.nD SiblingIdeal.τ).loc SiblingIdeal.main_arg0) = Layout.block ⟨3, ![8, 5040, 1024]⟩ ⟨3, ![64, 5040, 1024]⟩ 0 8 c X)
    (c : Dev SiblingIdeal.nD) : total m c = Layout.block ⟨3, ![4, 5040, 1024]⟩ ⟨3, ![32, 5040, 1024]⟩ 0 8 c (summed X) := by
  funext i
  have hc : c.val < 8 := c.isLt
  have h0 : (i 0).val < 4 := (i 0).isLt
  have hl : total m c i = (show EReal from m ((c : Thread SiblingIdeal.nD SiblingIdeal.τ).loc SiblingIdeal.main_arg0) (place (kept c (which i)) (within i)))
      + (show EReal from m ((sib c : Thread SiblingIdeal.nD SiblingIdeal.τ).loc SiblingIdeal.main_arg0) (place (kept c (which i)) (within i))) := rfl
  have hr : (Layout.block ⟨3, ![4, 5040, 1024]⟩ ⟨3, ![32, 5040, 1024]⟩ 0 8 c (summed X)) i = summed X (place ⟨c.val * 4 + (i 0).val, by omega⟩ (within i)) := by
    refine congrArg (summed X) (funext fun a => Fin.ext ?_)
    match a with
    | ⟨0, _⟩ => rfl
    | ⟨1, _⟩ => rfl
    | ⟨2, _⟩ => rfl
  rw [hl, hr, summed_apply]
  dsimp only
  rw [which_place, within_place, whole_at m X c (h c), whole_at m X (sib c) (h (sib c))]
  have hsib := sib_val c
  rcases Nat.mod_two_eq_zero_or_one c.val with hp | hp
  · refine congrArg₂ (fun a b : EReal => a + b) (congrArg (fun e => X (place e (within i))) (Fin.ext ?_)) (congrArg (fun e => X (place e (within i))) (Fin.ext ?_))
    · show c.val * 8 + (2 * (i 0).val + c.val % 2) = 16 * ((c.val * 4 + (i 0).val) / 8) + 8 * 0 + (2 * ((c.val * 4 + (i 0).val) % 4) + (c.val * 4 + (i 0).val) / 4 % 2)
      omega
    · show (sib c).val * 8 + (2 * (i 0).val + c.val % 2) = 16 * ((c.val * 4 + (i 0).val) / 8) + 8 * 1 + (2 * ((c.val * 4 + (i 0).val) % 4) + (c.val * 4 + (i 0).val) / 4 % 2)
      omega
  · rw [add_comm (X (place (term _ 0) _) : EReal)]
    refine congrArg₂ (fun a b : EReal => a + b) (congrArg (fun e => X (place e (within i))) (Fin.ext ?_)) (congrArg (fun e => X (place e (within i))) (Fin.ext ?_))
    · show c.val * 8 + (2 * (i 0).val + c.val % 2) = 16 * ((c.val * 4 + (i 0).val) / 8) + 8 * 1 + (2 * ((c.val * 4 + (i 0).val) % 4) + (c.val * 4 + (i 0).val) / 4 % 2)
      omega
    · show (sib c).val * 8 + (2 * (i 0).val + c.val % 2) = 16 * ((c.val * 4 + (i 0).val) / 8) + 8 * 0 + (2 * ((c.val * 4 + (i 0).val) % 4) + (c.val * 4 + (i 0).val) / 4 % 2)
      omega

end Cert.SiblingProof

end
-- ==== Proof.SiblingClaims.lean ====
/-
# What is claimed of the exchange between siblings

Every run of the kernel ends, its argument unchanged and every semaphore at zero; its result is the reference's.
-/
module

public import proofs.«01_k».proof.Defs
public import proofs.«01_k».proof.Proof.SiblingKernel
public import proofs.«01_k».proof.Proof.SiblingValue
public import proofs.«01_k».proof.Proof.Gen.SiblingRefIdeal.Run
public import Idealize.ShloMosaic.Lib.Quiescent

@[expose] public section

noncomputable section

namespace Cert.SiblingProof

open Idealize.ShloMosaic
open Idealize.ShloMosaic.TcCoe
open Idealize.SL.Sem

set_option Elab.async false

/-- Over the float formats' bits, the exchange and the addition end with their argument unchanged and every semaphore at zero. -/
theorem frame_kernel : Cert.quiescent_Sibling := fun m g _ =>
  (θ_run (Sibling.defs (F := Bits)) _ _).mono (fun _ h => ⟨fun c => (h.1 c).1, h.2⟩) (run_kernel m g)

/-- So they do over the extended reals. -/
theorem frame_ideal : Cert.quiescent_SiblingIdeal := fun m g _ =>
  (θ_run (SiblingIdeal.defs (F := Ideal)) _ _).mono (fun _ h => ⟨fun c => (h.1 c).1, h.2⟩) (run_main (F := Ideal) m g)

/-- The reference ends likewise. -/
theorem frame_reference_ideal : Cert.quiescent_SiblingRefIdeal := fun m g _ =>
  (θ_run (SiblingRefIdeal.defs (F := Ideal)) _ _).mono (fun r h => ⟨fun c => (h c).2, sem_eq_zero_of_no_sems (by decide) r.2⟩)
    (SiblingRefIdeal.Value.run (F := Ideal) m g)

/-- Over the extended reals, every device ends with its blocks of the reference's result. -/
theorem value_ideal : Cert.algebraic_SiblingIdeal_SiblingRefIdeal := fun m g m' g' _ h =>
  ⟨summed (m' (((0 : Dev SiblingRefIdeal.nD).tc : Thread SiblingRefIdeal.nD SiblingRefIdeal.τ).loc SiblingRefIdeal.main_arg0)),
    (θ_run (SiblingIdeal.defs (F := Ideal)) _ _).mono (fun _ hr c => ⟨(hr.1 c).2.trans (total_eq m _ h c), (hr.1 c).1⟩) (run_main (F := Ideal) m g),
    (θ_run (SiblingRefIdeal.defs (F := Ideal)) _ _).mono (fun _ hr => hr 0) (SiblingRefIdeal.Value.run (F := Ideal) m' g')⟩

end Cert.SiblingProof

end
-- ==== Proof.ChipsMem.lean ====
/-
# The exchange between chips, block by block

A device holds four blocks of gradients, one for each chip, and has room for three. The block of each other chip (`sent`)
goes to that chip's device of the same core; the block of its own chip stays. `swapped` is what a device's three places
end holding: the three other chips' blocks for its chip.
-/
module

public import proofs.«01_k».proof.Proof.Gen.ChipsIdeal
public import proofs.«01_k».proof.Proof.Gen.ChipsIdeal.Launch
public import proofs.«01_k».proof.Proof.Blocks
public import Idealize.ShloMosaic.Lib.Ring
public import Idealize.ShloMosaic.Lib.Pipeline.Kit

@[expose] public section

noncomputable section

namespace Cert.ChipsProof

open Cert.ChipsIdeal Cert.ChipsIdeal.Gen Cert.Train
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

set_option Elab.async false

variable {F : FTy → Type} [FloatOps F]

/-- The devices' memory. -/
abbrev Mem (F : FTy → Type) [FloatOps F] : Type := (ℓ : Loc nD τ sig) → Buf (Elt F) ℓ

/-- A device's three partners: across x, across y, across both. -/
def mask : Fin 3 → ℕ
  | ⟨0, _⟩ => 4
  | ⟨1, _⟩ => 2
  | _ => 6
def across (j : Fin 3) (c : Dev nD) : Dev nD := ⟨(c.val ^^^ mask j) % 8, Nat.mod_lt _ (by decide)⟩
theorem across_across (j : Fin 3) (c : Dev nD) : across j (across j c) = c := by revert j c; decide
def acrossEquiv (j : Fin 3) : Dev nD ≃ Dev nD := ⟨across j, across j, across_across j, across_across j⟩

/-- A device's chip, -/
def chip (c : Dev nD) : Fin 4 := ⟨c.val / 2, by have h : c.val < 8 := c.isLt; omega⟩
/-- and the block that it sends to its partner `j`: that of the partner's chip. -/
def sent (c : Dev nD) (j : Fin 3) : Fin 4 := chip (across j c)

/-- All four blocks: first those it sends, then its own. -/
def all4 (c : Dev nD) : Fin 4 ≃ Fin 4 where
  toFun i := if h : i.val < 3 then sent c ⟨i.val, h⟩ else chip c
  invFun e := if e = sent c 0 then 0 else if e = sent c 1 then 1 else if e = sent c 2 then 2 else 3
  left_inv i := by revert c i; decide
  right_inv e := by revert c e; decide

/-- Device `c`'s blocks, and its places. -/
abbrev gM : Memref sig .tc .hbm (stack 4) .f32 := Memref.whole main_arg0
abbrev oM : Memref sig .tc .hbm (stack 3) .f32 := Memref.whole main_v1

theorem set_g {off inb hq} {e : Fin 4} (h : off = ![e.val, 0, 0]) : (slot gM off inb hq).view.set = elems 4 e :=
  (slot_set gM h).trans (by ext i; rw [Finset.mem_map]; exact ⟨fun ⟨_, hj, h⟩ => h ▸ hj, fun hi => ⟨i, hi, rfl⟩⟩)
theorem set_o {off inb hq} {j : Fin 3} (h : off = ![j.val, 0, 0]) : (slot oM off inb hq).view.set = elems 3 j :=
  (slot_set oM h).trans (by ext i; rw [Finset.mem_map]; exact ⟨fun ⟨_, hj, h⟩ => h ▸ hj, fun hi => ⟨i, hi, rfl⟩⟩)

/-- What device `c`'s places end holding: its partners' blocks for its chip. -/
def swapped (m : Mem F) (c : Dev nD) : (stack 3).Idx → Elt F .f32 := fun i =>
  m ((across (which i) c : Thread nD τ).loc main_arg0) (place (chip c) (within i))

variable {Name : Type} [DecidableEq Name] {U : Type} [URA U] {Lvl : Type}

/-- A copy of a block that device `c` sends to its partner `j`, onto the partner's place `j`, leaves `swapped` there. -/
theorem pts_land (m : Mem F) {off inb hq offg inbg} (c : Dev nD) {d : Dev nD} {j : Fin 3} (hd : d = across j c) (h : off = ![j.val, 0, 0]) (hg : offg = ![(sent c j).val, 0, 0])
    (q : PosShare TreeShare) (fd : Buf (Elt F) ((slot oM off inb hq).view.loc (d : Thread nD τ))) :
    ((slot oM off inb hq).view.loc (d : Thread nD τ) ↦[(slot oM off inb hq).view.set]{q}
        ((slot oM off inb hq).view.write (Elt F) fd ((slot gM offg inbg hq).view.read (Elt F) (m ((c : Thread nD τ).loc main_arg0))) Finset.univ)
        : sProp (MT nD τ sig Unit (Elt F) Name U Lvl))
      = ((d : Thread nD τ).loc main_v1 ↦[elems 3 j]{q} swapped m d) := by
  subst hd
  rw [← set_o (inb := inb) (hq := hq) h]
  refine pointsTo_congr fun i hi => ?_
  obtain ⟨y, -, rfl⟩ := Finset.mem_map.mp hi
  rw [View.write_emb_of_mem _ _ (Finset.mem_univ y), View.read_apply]
  rw [slot_emb gM hg, slot_emb oM h]
  show m ((c : Thread nD τ).loc main_arg0) (place (sent c j) y)
    = m ((across (which (place j y)) (across j c) : Thread nD τ).loc main_arg0) (place (chip (across j c)) (within (place j y)))
  rw [which_place, within_place, across_across]
  rfl

/-- The four blocks. -/
theorem g_blocks (c : Dev nD) (q : PosShare TreeShare) (f : Buf (Elt F) ((c : Thread nD τ).loc main_arg0)) :
    ((c : Thread nD τ).loc main_arg0 ↦{q} f : sProp (MT nD τ sig Unit (Elt F) Name U Lvl))
      = bigSep Finset.univ fun i : Fin 4 => ((c : Thread nD τ).loc main_arg0 ↦[elems 4 (all4 c i)]{q} f) := by
  rw [Ring.pointsTo_blocks (ℓ := (c : Thread nD τ).loc main_arg0) (elems 4) elems_disjoint elems_cover f]
  exact bigSep_univ_equiv (all4 c) _

/-- The three places. -/
theorem o_blocks (c : Dev nD) (q : PosShare TreeShare) (f : Buf (Elt F) ((c : Thread nD τ).loc main_v1)) :
    ((c : Thread nD τ).loc main_v1 ↦{q} f : sProp (MT nD τ sig Unit (Elt F) Name U Lvl))
      = bigSep Finset.univ fun j : Fin 3 => ((c : Thread nD τ).loc main_v1 ↦[elems 3 j]{q} f) :=
  Ring.pointsTo_blocks (ℓ := (c : Thread nD τ).loc main_v1) (elems 3) elems_disjoint elems_cover f

end Cert.ChipsProof

end
-- ==== Proof.SharedRegion.lean ====
/-
# A call with a table, several of whose windows read one array

The call that adds the chips' blocks reads three places of one array through three windows. Such a call holds the array in
shares, one for each window on it. This is its region, entered with every array of @main held at `W`, the table among them,
and left with the same arrays held at `W'`.
-/
module

public import proofs.«01_k».proof.Proof.TableRegion

@[expose] public section

noncomputable section

namespace Cert.Train

open Idealize.ShloMosaic
open Idealize.SL
open Idealize.SL.BI (sProp bigSep bigSep_map bigSep_congr)
open scoped Idealize.SL.BI
open Idealize.SL.BI.BIBase Idealize.SL.BI.Laws Idealize.SL.Sem Idealize.SL.ProofMode
open Idealize.SL.RA
open TcCoe
open Idealize.ShloMosaic.Pipeline

set_option Elab.async false

variable {nD : Nat} {τ : Topo} {sig : RefSig} {Val : EltTy → Type}
variable {Ix : Type} [DecidableEq Ix] {Name : Type} [DecidableEq Name] {U : Type} [URA U] {Lvl : Type} [Preorder Lvl]

local notation "𝕄" => MT nD τ sig Ix Val Name U Lvl

variable {Λ₀ : Idealize.SL.Sem.Labels} {P : Type} [Fintype P]

variable (pcs : P → PCfg sig Λ₀ Val) (a : Dev nD → (p : P) → (pcs p).Adm)
  (pdats : (p : P) → (c : Dev nD) → Dat τ Val Ix Name U Lvl (pinD pcs a c p) c) (ι : Ix)
  (defs₀ : Defs nD τ sig Val Λ₀) (𝒱₀ : Variants)
  (L : GSem nD τ sig → Finset Ix) (lv : GSem nD τ sig → Ix → Lvl)

/-- The windows' shares of their arrays, put together: the arrays as held buffers, each once. -/
theorem shares_held (p : P) (shared : SharedIn (pcs p).spec) (whole : ∀ w, ((pcs p).spec w).arr.IsWhole) (c : Dev nD)
    (hq : ∀ w, ((pcs p).spec w).isOut = false → (pdats p c).q w = shareOf (pcs p).spec w)
    (G : (w : Fin (pinD pcs a c p).W) → Buf Val (((pinD pcs a c p).win w).arr.view.loc (c.tc : Thread nD τ))) (W : Valuation τ sig Val)
    (hG : ∀ w, G w = W (Proc.devRef .tc (arrRef (pinD pcs a c p).spec w))) :
    ((pdats p c).arrays G : sProp 𝕄) = StableHlo.held (c.tc : Thread nD τ) (arrRefs (pcs p).spec) W := by
  rw [← (pdats p c).arrBufs_eq_arrays shared whole hq (fun b => W (Proc.devRef .tc b)) G hG]
  unfold StableHlo.held arrRefs arrBufs
  rw [bigSep_map]
  rfl

/-- The region of such a call that owes nothing and has no other memory of its own. -/
def sharedRegion (p : P) (win : WinFacts₀ (pcs p).spec) (shared : SharedIn (pcs p).spec) (prf : PreFacts (pcs p).spec (pcs p).pre)
    (block_pos : ∀ w : Fin (pcs p).W, 0 < ((pcs p).spec w).block.numel) (whole : ∀ w, ((pcs p).spec w).arr.IsWhole)
    (stage_whole : ∀ (w : Fin (pcs p).W) (s : Fin ((pcs p).spec w).nbuf), (((pcs p).spec w).stage s).IsWhole)
    (hbody : ∀ c, BodyObligationLoose (pdats p c) defs₀ 𝒱₀ ι Set.univ)
    (howed : ∀ c t, (pdats p c).owed t = 0) (hrec : ∀ c, (pdats p c).recorded 0 = Set.univ)
    (hq : ∀ c w, ((pcs p).spec w).isOut = false → (pdats p c).q w = shareOf (pcs p).spec w)
    (hscoped : ∀ c, (scopedRest (pcs p).spec c : sProp 𝕄) = BI.emp)
    (hΦ : ∀ c t, (pdats p c).Φ t = prefHeld (pcs p).pre c (fun _ => fullShare) (a c p).1)
    (W W' : Dev nD → Valuation τ sig Val)
    (hW : ∀ c w, (pdats p c).arrAt w 0 = W c (Proc.devRef .tc (arrRef (pinD pcs a c p).spec w)))
    (hW' : ∀ c w, (pdats p c).arrAt w (pinD pcs a c p).N = W' c (Proc.devRef .tc (arrRef (pinD pcs a c p).spec w)))
    (hoff : ∀ c, ∀ b ∉ arrRefs (τ := τ) (pcs p).spec, W' c b = W c b)
    (hT : ∀ c k, (a c p).1 k = W c (Proc.devRef .tc ((pcs p).pre.ref k))) :
    PerCore.RegionSeg pcs a pdats ι defs₀ 𝒱₀ L lv p where
  win := win
  block_pos := block_pos
  stage_whole := stage_whole
  K := PEmpty
  osem k := k.elim
  ho := OwnSemFacts.none _
  hbody := hbody
  hwaits c := (show _ ⊢ (BI.emp : sProp 𝕄) from by iintro -; iempintro).trans (PerCore.cellsWaits_of_owed_zero (pinD pcs a) pdats ι p c (howed c))
  pre c := iprop(StableHlo.held (c.tc : Thread nD τ) (ucRefs τ sig) (W c) ∗ ∃ Wd, owes (c : Thread nD τ) 0 Wd)
  post c := iprop(StableHlo.held (c.tc : Thread nD τ) (ucRefs τ sig) (W' c) ∗ ∃ Wd, owes (c : Thread nD τ) 0 Wd)
  X _ := BI.emp
  Y c := prefHeld (pcs p).pre c (fun _ => fullShare) (a c p).1
  Z c := StableHlo.held (c.tc : Thread nD τ) ((ucRefs τ sig \ arrRefs (pcs p).spec) \ tblRefs (pcs p).pre) (W c)
  hentry c := by
    rw [ownSems0_none, shares_held pcs a pdats p shared whole c (hq c) ((pdats p c).arrAt · 0) (W c) (hW c),
      prefHeld_held (pcs p).pre prf.inj c (a c p).1 (W c) (hT c),
      StableHlo.held_sub_split (c.tc : Thread nD τ) (arrRefs_sub_ucRefs (pcs p).spec win.arr_unscoped) (W c),
      StableHlo.held_sub_split (c.tc : Thread nD τ) (tblRefs_sub_ucRefs_sdiff (pcs p).spec (pcs p).pre prf.unscoped prf.disj) (W c)]
    iintro ⟨⟨⟨Ha, Ht, Hu⟩, ⟨%Wd, HO⟩⟩, -, -⟩
    imodintro
    isplitl [Ha]; · iexact Ha
    isplitl [Ht]; · iexact Ht
    isplitl [HO]
    · unfold Dat.owesAt owesWithin Dat.bound
      rw [howed c 0, hrec c]
      iexists Wd; isplitr; · ipureintro; exact fun _ _ => Or.inl trivial
      iexact HO
    isplitr; · iempintro
    iexact Hu
  hin c := by
    rw [hΦ, hscoped]
    iintro ⟨-, Ht, -⟩
    iexact Ht
  hout c := by
    rw [hΦ, hscoped, ownSems0_none]
    iintro Ht
    isplitl [Ht]; · iexact Ht
    isplitr <;> iempintro
  hexit c := by
    have htbl : ∀ k, Proc.devRef (τ := τ) .tc ((pcs p).pre.ref k) ∉ arrRefs (τ := τ) (pcs p).spec := fun k h => by
      obtain ⟨w, hw, e⟩ := Finset.mem_map.mp h
      obtain ⟨v, -, rfl⟩ := Finset.mem_image.mp hw
      exact prf.disj k v (Proc.devRef_injective _ e).symm
    rw [shares_held pcs a pdats p shared whole c (hq c) ((pdats p c).arrAt · (pinD pcs a c p).N) (W' c) (hW' c),
      prefHeld_held (pcs p).pre prf.inj c (a c p).1 (W' c) (fun k => (hT c k).trans (hoff c _ (htbl k)).symm),
      StableHlo.held_sub_split (c.tc : Thread nD τ) (arrRefs_sub_ucRefs (pcs p).spec win.arr_unscoped) (W' c),
      StableHlo.held_sub_split (c.tc : Thread nD τ) (tblRefs_sub_ucRefs_sdiff (pcs p).spec (pcs p).pre prf.unscoped prf.disj) (W' c),
      StableHlo.held_congr (c.tc : Thread nD τ) (S := (ucRefs τ sig \ arrRefs (pcs p).spec) \ tblRefs (pcs p).pre) (V := W' c) (V' := W c)
        (fun b hb => hoff c b (Finset.mem_sdiff.mp (Finset.mem_sdiff.mp hb).1).2)]
    iintro ⟨Ha, HO, Ht, Hu⟩
    imodintro
    isplitl [Ha Ht Hu]
    · isplitl [Ha]; · iexact Ha
      isplitl [Ht]; · iexact Ht
      iexact Hu
    unfold Dat.owesAt owesWithin
    rw [howed c (Fin.last _)]
    icases HO with ⟨%Wd, -, HO⟩; iexists Wd; iexact HO

end Cert.Train

end
-- ==== Proof.ChipsAdd.lean ====
/-
# The addition of the chips' blocks

The second call adds, tile by tile, the device's own block and the three blocks it was sent. Which of its blocks is its own
depends on the device: its chip is in a table that the call reads first. Here is that table, what each window names at each
step, and the addition of one tile. The three blocks that were sent are places of one array, which the call therefore
holds in three shares.
-/
module

public import proofs.«01_k».proof.Proof.ChipsMem
public import proofs.«01_k».proof.Proof.SharedRegion
public import proofs.«01_k».proof.Proof.Whole
public import proofs.«01_k».proof.Proof.Gen.ChipsIdeal.Skeleton
public import proofs.«01_k».proof.Proof.Gen.ChipsIdeal.Regions
public import Idealize.ShloMosaic.Lib.Tactic

@[expose] public section

noncomputable section

namespace Cert.ChipsProof

open Cert.ChipsIdeal Cert.ChipsIdeal.Gen Cert.Train
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline

set_option Elab.async false

variable {F : FTy → Type} [FloatOps F]
variable {U : Type} [URA U]

/-- A tile of a block in a stack, and a tile of a block. -/
abbrev Tile : Shape := S1x240x1024
abbrev Flat : Shape := S240x1024

/-- Four loads, and a store of what is made of them. -/
theorem four_in_one_out {κ0 κ1 κ2 κ3 κ4 : Kind} {sp0 sp1 sp2 sp3 sp4 : Space} {s s' : Shape} {e : EltTy} {Val : EltTy → Type}
    (v0 : View sig κ0 sp0 s e) (v1 : View sig κ1 sp1 s e) (v2 : View sig κ2 sp2 s e) (v3 : View sig κ3 sp3 s e) (v4 : View sig κ4 sp4 s' e)
    {off : Fin s.rank → ℕ} (h : ∀ a, off a = 0) (inb : ∀ a, off a + s.size a ≤ s.size a)
    {off' : Fin s'.rank → ℕ} (h' : ∀ a, off' a = 0) (inb' : ∀ a, off' a + s'.size a ≤ s'.size a)
    (f0 : v0.ty.Contents Val) (f1 : v1.ty.Contents Val) (f2 : v2.ty.Contents Val) (f3 : v3.ty.Contents Val) (f4 : v4.ty.Contents Val)
    (pay : (s.Idx → Val e) → (s.Idx → Val e) → (s.Idx → Val e) → (s.Idx → Val e) → s'.Idx → Val e) :
    v4.read Val (v4.writes Val f4 [⟨Rect.unit off' s'.size inb', pay (v0.readAt Val (Rect.unit off s.size inb).toLoadRect f0) (v1.readAt Val (Rect.unit off s.size inb).toLoadRect f1)
        (v2.readAt Val (Rect.unit off s.size inb).toLoadRect f2) (v3.readAt Val (Rect.unit off s.size inb).toLoadRect f3)⟩])
      = pay (v0.read Val f0) (v1.read Val f1) (v2.read Val f2) (v3.read Val f3) := by
  refine (whole_store v4 f4 h' inb' _).trans ?_
  rw [show v0.readAt Val (Rect.unit off s.size inb).toLoadRect f0 = v0.read Val f0 from whole_load v0 h inb f0,
    show v1.readAt Val (Rect.unit off s.size inb).toLoadRect f1 = v1.read Val f1 from whole_load v1 h inb f1,
    show v2.readAt Val (Rect.unit off s.size inb).toLoadRect f2 = v2.read Val f2 from whole_load v2 h inb f2,
    show v3.readAt Val (Rect.unit off s.size inb).toLoadRect f3 = v3.read Val f3 from whole_load v3 h inb f3]

/-- One tile's addition. -/
noncomputable def addRun (c : Dev nD) (i : grid1.Coords) (T : Memref sig .tc .smem S1 .i32) (hT : T.IsWhole)
    (M0 : Memref sig .tc .vmem Tile .f32) (h0 : M0.IsWhole) (M1 : Memref sig .tc .vmem Tile .f32) (h1 : M1.IsWhole)
    (M2 : Memref sig .tc .vmem Tile .f32) (h2 : M2.IsWhole) (M3 : Memref sig .tc .vmem Tile .f32) (h3 : M3.IsWhole)
    (M4 : Memref sig .tc .vmem Flat .f32) (h4 : M4.IsWhole)
    (f0 : Buf (Elt F) (M0.view.loc (c : Thread nD τ)))
    (f1 : Buf (Elt F) (M1.view.loc (c : Thread nD τ)))
    (f2 : Buf (Elt F) (M2.view.loc (c : Thread nD τ)))
    (f3 : Buf (Elt F) (M3.view.loc (c : Thread nD τ))) :
    { W : Buf (Elt F) (M4.view.loc (c : Thread nD τ)) // ∀ (f4 : Buf (Elt F) (M4.view.loc (c : Thread nD τ))) (E : Set ℕ) (Q : PUnit → sProp (MT nD τ sig Unit (Elt F) ℕ U ℕ)),
        iprop((M0.view.loc (c : Thread nD τ) ↦{fullShare} f0) ∗ (M1.view.loc (c : Thread nD τ) ↦{fullShare} f1) ∗ (M2.view.loc (c : Thread nD τ) ↦{fullShare} f2) ∗ (M3.view.loc (c : Thread nD τ) ↦{fullShare} f3) ∗ (M4.view.loc (c : Thread nD τ) ↦{fullShare} f4)
          ∗ (iprop((M0.view.loc (c : Thread nD τ) ↦{fullShare} f0) ∗ (M1.view.loc (c : Thread nD τ) ↦{fullShare} f1) ∗ (M2.view.loc (c : Thread nD τ) ↦{fullShare} f2) ∗ (M3.view.loc (c : Thread nD τ) ↦{fullShare} f3) ∗ (M4.view.loc (c : Thread nD τ) ↦{fullShare} W)) -∗ Q ⟨⟩))
        ⊢ wp frame (wpE (defs₀ (F := F)) Variants.none c none) E (cc1_grads_sum_chips_skel i T hT M0 h0 M1 h1 M2 h2 M3 h3 M4 h4) Q } := by
  refine ⟨?_, fun f4 E Q => ?run⟩
  case run =>
    iintro ⟨H0, H1, H2, H3, H4, Hk⟩
    sl_exec!
    sl_step
    iapply Hk
    isplitl [H0]; · iexact H0
    isplitl [H1]; · iexact H1
    isplitl [H2]; · iexact H2
    isplitl [H3]; · iexact H3
    iexact H4

theorem addRun_read (c : Dev nD) (i : grid1.Coords) (T : Memref sig .tc .smem S1 .i32) (hT : T.IsWhole)
    (M0 : Memref sig .tc .vmem Tile .f32) (h0 : M0.IsWhole) (M1 : Memref sig .tc .vmem Tile .f32) (h1 : M1.IsWhole)
    (M2 : Memref sig .tc .vmem Tile .f32) (h2 : M2.IsWhole) (M3 : Memref sig .tc .vmem Tile .f32) (h3 : M3.IsWhole)
    (M4 : Memref sig .tc .vmem Flat .f32) (h4 : M4.IsWhole)
    (f0 : Buf (Elt F) (M0.view.loc (c : Thread nD τ)))
    (f1 : Buf (Elt F) (M1.view.loc (c : Thread nD τ)))
    (f2 : Buf (Elt F) (M2.view.loc (c : Thread nD τ)))
    (f3 : Buf (Elt F) (M3.view.loc (c : Thread nD τ))) :
    M4.view.read (Elt F) (addRun (U := U) c i T hT M0 h0 M1 h1 M2 h2 M3 h3 M4 h4 f0 f1 f2 f3).1 = k1_pay1 (M0.view.read (Elt F) f0) (M1.view.read (Elt F) f1) (M2.view.read (Elt F) f2) (M3.view.read (Elt F) f3) := by
  unfold addRun
  dsimp only
  unfold addRun.sl.H4_1
  have hz : ∀ a, (![0, 0, 0] : Fin Tile.rank → ℕ) a = 0 := by decide
  have hz' : ∀ a, (![0, 0] : Fin Flat.rank → ℕ) a = 0 := by decide
  exact four_in_one_out (Val := Elt F) M0.view M1.view M2.view M3.view M4.view hz inb_S1x240x1024_S1x240x1024_0_0_0 hz' inb_S240x1024_S240x1024_0_0 f0 f1 f2 f3 M4.view.junk k1_pay1

/-- The same, in terms of what the tiles read. -/
theorem add_tile (c : Dev nD) (i : grid1.Coords) (T : Memref sig .tc .smem S1 .i32) (hT : T.IsWhole)
    (M0 : Memref sig .tc .vmem Tile .f32) (h0 : M0.IsWhole) (M1 : Memref sig .tc .vmem Tile .f32) (h1 : M1.IsWhole)
    (M2 : Memref sig .tc .vmem Tile .f32) (h2 : M2.IsWhole) (M3 : Memref sig .tc .vmem Tile .f32) (h3 : M3.IsWhole)
    (M4 : Memref sig .tc .vmem Flat .f32) (h4 : M4.IsWhole) (x0 x1 x2 x3 : Tile.Idx → Elt F .f32) (x4 : Flat.Idx → Elt F .f32)
    (Q : PUnit → sProp (MT nD τ sig Unit (Elt F) ℕ U ℕ)) :
    iprop(owns (c : Thread nD τ) M0 fullShare x0 ∗ owns (c : Thread nD τ) M1 fullShare x1 ∗ owns (c : Thread nD τ) M2 fullShare x2 ∗ owns (c : Thread nD τ) M3 fullShare x3 ∗ owns (c : Thread nD τ) M4 fullShare x4
        ∗ (iprop(owns (c : Thread nD τ) M0 fullShare x0 ∗ owns (c : Thread nD τ) M1 fullShare x1 ∗ owns (c : Thread nD τ) M2 fullShare x2 ∗ owns (c : Thread nD τ) M3 fullShare x3 ∗ owns (c : Thread nD τ) M4 fullShare (k1_pay1 x0 x1 x2 x3)) -∗ Q ⟨⟩))
      ⊢ wp frame (wpE (defs₀ (F := F)) Variants.none c none) Set.univ (cc1_grads_sum_chips i T hT M0 h0 M1 h1 M2 h2 M3 h3 M4 h4) Q := by
  rw [cc1_grads_sum_chips_eq_skeleton]
  simp only [owns, h0.set_eq_univ, h1.set_eq_univ, h2.set_eq_univ, h3.set_eq_univ, h4.set_eq_univ]
  iintro ⟨⟨%f0, %e0, H0⟩, ⟨%f1, %e1, H1⟩, ⟨%f2, %e2, H2⟩, ⟨%f3, %e3, H3⟩, ⟨%f4, -, H4⟩, Hk⟩
  subst e0 e1 e2 e3
  iapply ((addRun (U := U) c i T hT M0 h0 M1 h1 M2 h2 M3 h3 M4 h4 f0 f1 f2 f3).2 f4 Set.univ Q)
  isplitl [H0]; · iexact H0
  isplitl [H1]; · iexact H1
  isplitl [H2]; · iexact H2
  isplitl [H3]; · iexact H3
  isplitl [H4]; · iexact H4
  iintro ⟨H0, H1, H2, H3, H4⟩
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr; swap; · iexact H4
  ipureintro; exact addRun_read c i T hT M0 h0 M1 h1 M2 h2 M3 h3 M4 h4 f0 f1 f2 f3

/-! ## The table, and the blocks -/

/-- Device `c`'s table: its chip. -/
def tbl (c : Dev nD) : pre1.Contents (Elt F) := fun k => match k with
  | ⟨0, _⟩ => fun _ => BitVec.ofNat 32 (c.val / 2)

theorem tbl_word : ∀ c : Fin 8, (BitVec.ofNat 32 (c.val / 2)).toNat = c.val / 2 := by decide

theorem step_word (i : grid1.Coords) : (BitVec.ofNat 32 (i 0).val).toNat = (i 0).val := by
  rw [BitVec.toNat_ofNat]; exact Nat.mod_eq_of_lt (lt_trans (i 0).isLt (by decide))

/-- Tile `t` of the sum takes tile `t` of the device's own block, -/
theorem ix_own (c : Dev nD) (i : grid1.Coords) :
    cc1_transform_0 (F := F) inb_S1_S1_0 numel1_S1 (tbl c) i = ![(chip c).val, (i 0).val, 0] := by
  have h : cc1_transform_0 (F := F) inb_S1_S1_0 numel1_S1 (tbl c) i
    = ![(BitVec.ofNat 32 (c.val / 2)).toNat, (BitVec.ofNat 32 (i 0).val).toNat, 0] := rfl
  rw [h, step_word, tbl_word c]
  rfl
/-- tile `t` of each place, -/
theorem ix_got0 (i : grid1.Coords) : cc1_transform_1 i = ![0, (i 0).val, 0] := by
  have h : cc1_transform_1 i = ![0, (BitVec.ofNat 32 (i 0).val).toNat, 0] := rfl
  rw [h, step_word]
theorem ix_got1 (i : grid1.Coords) : cc1_transform_2 i = ![1, (i 0).val, 0] := by
  have h : cc1_transform_2 i = ![1, (BitVec.ofNat 32 (i 0).val).toNat, 0] := rfl
  rw [h, step_word]
theorem ix_got2 (i : grid1.Coords) : cc1_transform_3 i = ![2, (i 0).val, 0] := by
  have h : cc1_transform_3 i = ![2, (BitVec.ofNat 32 (i 0).val).toNat, 0] := rfl
  rw [h, step_word]
/-- and is tile `t` of the result. -/
theorem ix_sum (i : grid1.Coords) : cc1_transform_4 i = ![(i 0).val, 0] := by
  have h : cc1_transform_4 i = ![(BitVec.ofNat 32 (i 0).val).toNat, 0] := rfl
  rw [h, step_word]

theorem tbl_ok (c : Dev nD) : ok1 (F := F) (tbl c) := by
  intro i
  refine ⟨?_, .inl rfl⟩
  rw [ix_own]
  intro a
  have h0 := (chip c).isLt
  have h1 : (i 0).val < 21 := (i 0).isLt
  match a with
  | ⟨0, _⟩ => show ((chip c).val + 1) * 1 ≤ 4; omega
  | ⟨1, _⟩ => show ((i 0).val + 1) * 240 ≤ 5040; omega
  | ⟨2, _⟩ => show (0 + 1) * 1024 ≤ 1024; omega

/-- The tables of both calls: the exchange has none. -/
def adm (c : Dev nD) (p : Fin 2) : (pcfgs (F := F) p).Adm := match p with
  | ⟨0, _⟩ => cfg0.toPCfg_adm
  | ⟨1, _⟩ => ⟨tbl c, tbl_ok c⟩

/-- The adding call, at device `c`'s table. -/
abbrev addCfg (c : Dev nD) : Cfg sig Λ₀ := cfg1 (F := F) ⟨tbl c, tbl_ok c⟩

variable (V : Dev nD → Valuation τ sig (Elt F))

/-- The tile of window `w` at point `t`, of the arrays as the call finds them. -/
abbrev tile (c : Dev nD) (w : Fin 5) (t : Fin grid1.N) : ((addCfg (F := F) c).win w).block.Idx → Elt F ((addCfg (F := F) c).win w).elt :=
  (((addCfg (F := F) c).win w).blk t).view.read (Elt F) (V c (Proc.devRef .tc (arrRef spec1 w)))

/-- What the adding call does to memory: it leaves the sums in the result's tiles. -/
def addDat (c : Dev nD) : Dat τ (Elt F) Unit ℕ U ℕ (addCfg (F := F) c) c where
  A w := V c (Proc.devRef .tc (arrRef spec1 w))
  after w t := match w with
    | ⟨0, _⟩ => tile V c 0 t
    | ⟨1, _⟩ => tile V c 1 t
    | ⟨2, _⟩ => tile V c 2 t
    | ⟨3, _⟩ => tile V c 3 t
    | ⟨4, _⟩ => k1_pay1 (tile V c 0 t) (tile V c 1 t) (tile V c 2 t) (tile V c 3 t)
  Φ _ := prefHeld pre1 c (fun _ => fullShare) (tbl c)
  q w := shareOf spec1 w
  owed _ := 0

theorem before_0 (c : Dev nD) (t d) : (addDat (U := U) V c).before 0 t d = tile V c 0 t :=
  (addDat (U := U) V c).before_in_eq_fetched 0 rfl (fun _ => rfl) (fun _ _ _ => rfl) (fun _ => rfl) t d
theorem before_1 (c : Dev nD) (t d) : (addDat (U := U) V c).before 1 t d = tile V c 1 t :=
  (addDat (U := U) V c).before_in_eq_fetched 1 rfl (fun _ => rfl) (fun _ _ _ => rfl) (fun _ => rfl) t d
theorem before_2 (c : Dev nD) (t d) : (addDat (U := U) V c).before 2 t d = tile V c 2 t :=
  (addDat (U := U) V c).before_in_eq_fetched 2 rfl (fun _ => rfl) (fun _ _ _ => rfl) (fun _ => rfl) t d
theorem before_3 (c : Dev nD) (t d) : (addDat (U := U) V c).before 3 t d = tile V c 3 t :=
  (addDat (U := U) V c).before_in_eq_fetched 3 rfl (fun _ => rfl) (fun _ _ _ => rfl) (fun _ => rfl) t d

theorem add_obligation (c : Dev nD) : BodyObligation (addDat (U := U) V c) (defs₀ (F := F)) Variants.none () Set.univ := fun t => by
  rw [bigSep_W1, bigSep_W1]
  show iprop((addDat (U := U) V c).Φ t.castSucc ∗ (addDat (U := U) V c).owesAt () t.castSucc
      ∗ (∃ d, owns (c : Thread nD τ) (((addCfg (F := F) c).win 0).stage ((addCfg (F := F) c).slots t 0)) fullShare ((addDat (U := U) V c).before 0 t d))
      ∗ (∃ d, owns (c : Thread nD τ) (((addCfg (F := F) c).win 1).stage ((addCfg (F := F) c).slots t 1)) fullShare ((addDat (U := U) V c).before 1 t d))
      ∗ (∃ d, owns (c : Thread nD τ) (((addCfg (F := F) c).win 2).stage ((addCfg (F := F) c).slots t 2)) fullShare ((addDat (U := U) V c).before 2 t d))
      ∗ (∃ d, owns (c : Thread nD τ) (((addCfg (F := F) c).win 3).stage ((addCfg (F := F) c).slots t 3)) fullShare ((addDat (U := U) V c).before 3 t d))
      ∗ (∃ d, owns (c : Thread nD τ) (((addCfg (F := F) c).win 4).stage ((addCfg (F := F) c).slots t 4)) fullShare ((addDat (U := U) V c).before 4 t d)))
    ⊢ wp frame (wpE (defs₀ (F := F)) Variants.none c none) Set.univ
        (cc1_grads_sum_chips (F := F) (grid1.coords t) (Memref.whole main_v12) (Memref.isWhole_whole _)
          (spec1_0.stage ((addCfg (F := F) c).slots t 0)) (hstage1_0 (((addCfg (F := F) c).slots t 0).cast nbuf1_0))
          (spec1_1.stage ((addCfg (F := F) c).slots t 1)) (hstage1_1 (((addCfg (F := F) c).slots t 1).cast nbuf1_1))
          (spec1_2.stage ((addCfg (F := F) c).slots t 2)) (hstage1_2 (((addCfg (F := F) c).slots t 2).cast nbuf1_2))
          (spec1_3.stage ((addCfg (F := F) c).slots t 3)) (hstage1_3 (((addCfg (F := F) c).slots t 3).cast nbuf1_3))
          (spec1_4.stage ((addCfg (F := F) c).slots t 4)) (hstage1_4 (((addCfg (F := F) c).slots t 4).cast nbuf1_4)))
        fun _ => iprop((addDat (U := U) V c).Φ t.castSucc ∗ (addDat (U := U) V c).owesAt () t.castSucc
          ∗ owns (c : Thread nD τ) (spec1_0.stage ((addCfg (F := F) c).slots t 0)) fullShare (tile V c 0 t)
          ∗ owns (c : Thread nD τ) (spec1_1.stage ((addCfg (F := F) c).slots t 1)) fullShare (tile V c 1 t)
          ∗ owns (c : Thread nD τ) (spec1_2.stage ((addCfg (F := F) c).slots t 2)) fullShare (tile V c 2 t)
          ∗ owns (c : Thread nD τ) (spec1_3.stage ((addCfg (F := F) c).slots t 3)) fullShare (tile V c 3 t)
          ∗ owns (c : Thread nD τ) (spec1_4.stage ((addCfg (F := F) c).slots t 4)) fullShare (k1_pay1 (tile V c 0 t) (tile V c 1 t) (tile V c 2 t) (tile V c 3 t)))
  iintro ⟨HΦ, Ho, ⟨%d0, H0⟩, ⟨%d1, H1⟩, ⟨%d2, H2⟩, ⟨%d3, H3⟩, ⟨%d4, H4⟩⟩
  rw [before_0, before_1, before_2, before_3]
  iapply (add_tile (U := U) c (grid1.coords t) _ _ _ _ _ _ _ _ _ _ _ _ (tile V c 0 t) (tile V c 1 t) (tile V c 2 t) (tile V c 3 t) ((addDat (U := U) V c).before 4 t d4))
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

end Cert.ChipsProof

end
-- ==== Proof.ChipsSum.lean ====
/-
# What the addition of the chips' blocks leaves

Every tile of the sum is written once, so the result array ends holding, at every row and column, the device's own block
and the three blocks it was sent, added in the order of the places.
-/
module

public import proofs.«01_k».proof.Proof.ChipsAdd
public import Idealize.ShloMosaic.PureOps.Ideal

@[expose] public section

noncomputable section

namespace Cert.ChipsProof

open Cert.ChipsIdeal Cert.ChipsIdeal.Gen Cert.Train
open Idealize.ShloMosaic
open Idealize.ShloMosaic.TcCoe Idealize.ShloMosaic.Tactic
open Idealize.SL Idealize.SL.RA Idealize.SL.BI
open Idealize.ShloMosaic.Pipeline

set_option Elab.async false

variable {F : FTy → Type} [FloatOps F]
variable {U : Type} [URA U]

/-- Block `k` of a stack. -/
abbrev blockOf {n : ℕ} (k : Fin n) (x : (stack n).Idx → Elt F .f32) : block.Idx → Elt F .f32 := fun y => x (place k y)

/-- The four blocks added, in the kernel's order. -/
def sum4 (a b c d : block.Idx → Elt F .f32) : block.Idx → Elt F .f32 := addf (s := block) (addf (s := block) (addf (s := block) a b) c) d

/-- A tile's row and column, in a stack's tile. -/
def deep (y : Flat.Idx) : Tile.Idx := Fin.cons ⟨0, Nat.one_pos⟩ y

theorem flat_at (x : Tile.Idx → Elt F .f32) (y : Flat.Idx) : shapeCast S240x1024 x shapeCasts_S1x240x1024_S240x1024 y = x (deep y) :=
  congrArg x (Shape.reshapeEquiv_cons_one (d := ![240, 1024]) shapeCasts_S1x240x1024_S240x1024 y)

/-- A tile of the sum is the sum of the tiles. -/
theorem pay_at (x0 x1 x2 x3 : Tile.Idx → Elt F .f32) (y : Flat.Idx) :
    k1_pay1 x0 x1 x2 x3 y
      = FloatOps.addf (φ := .f32) (FloatOps.addf (φ := .f32) (FloatOps.addf (φ := .f32) (x0 (deep y)) (x1 (deep y))) (x2 (deep y))) (x3 (deep y)) := by
  rw [← flat_at x0, ← flat_at x1, ← flat_at x2, ← flat_at x3]
  rfl

/-- The result's window, which no table has a part in: its tiles cover the result. -/
theorem covers (c : Dev nD) : ((addCfg (F := F) c).win 4).Covers := by
  have h : ((addCfg (F := Ideal) 0).win 4).Covers := by decide +kernel
  exact h

variable (V : Dev nD → Valuation τ sig (Elt F))

theorem at_own (c : Dev nD) (t : Fin grid1.N) (y : Tile.Idx) (a : Fin 3) :
    ((((addCfg (F := F) c).win 0).blk t).view.emb y a : ℕ) = (![(chip c).val, (grid1.coords t 0).val, 0] : Fin 3 → ℕ) a * Tile.size a + (y a).val :=
  (((addCfg (F := F) c).win 0).rect_emb_val t y a rfl).trans
    (congrArg (fun f : Fin 3 → ℕ => f a * Tile.size a + (y a).val) (ix_own (F := F) c (grid1.coords t)))
theorem at_got0 (c : Dev nD) (t : Fin grid1.N) (y : Tile.Idx) (a : Fin 3) :
    ((((addCfg (F := F) c).win 1).blk t).view.emb y a : ℕ) = (![0, (grid1.coords t 0).val, 0] : Fin 3 → ℕ) a * Tile.size a + (y a).val :=
  (((addCfg (F := F) c).win 1).rect_emb_val t y a rfl).trans
    (congrArg (fun f : Fin 3 → ℕ => f a * Tile.size a + (y a).val) (ix_got0 (grid1.coords t)))
theorem at_got1 (c : Dev nD) (t : Fin grid1.N) (y : Tile.Idx) (a : Fin 3) :
    ((((addCfg (F := F) c).win 2).blk t).view.emb y a : ℕ) = (![1, (grid1.coords t 0).val, 0] : Fin 3 → ℕ) a * Tile.size a + (y a).val :=
  (((addCfg (F := F) c).win 2).rect_emb_val t y a rfl).trans
    (congrArg (fun f : Fin 3 → ℕ => f a * Tile.size a + (y a).val) (ix_got1 (grid1.coords t)))
theorem at_got2 (c : Dev nD) (t : Fin grid1.N) (y : Tile.Idx) (a : Fin 3) :
    ((((addCfg (F := F) c).win 3).blk t).view.emb y a : ℕ) = (![2, (grid1.coords t 0).val, 0] : Fin 3 → ℕ) a * Tile.size a + (y a).val :=
  (((addCfg (F := F) c).win 3).rect_emb_val t y a rfl).trans
    (congrArg (fun f : Fin 3 → ℕ => f a * Tile.size a + (y a).val) (ix_got2 (grid1.coords t)))
theorem at_sum (c : Dev nD) (t : Fin grid1.N) (y : Flat.Idx) (a : Fin 2) :
    ((((addCfg (F := F) c).win 4).blk t).view.emb y a : ℕ) = (![(grid1.coords t 0).val, 0] : Fin 2 → ℕ) a * Flat.size a + (y a).val :=
  (((addCfg (F := F) c).win 4).rect_emb_val t y a rfl).trans
    (congrArg (fun f : Fin 2 → ℕ => f a * Flat.size a + (y a).val) (ix_sum (grid1.coords t)))

/-- A tile of the device's own block lies where the same tile of the sum does, -/
theorem emb_own (c : Dev nD) (t : Fin grid1.N) (y : Flat.Idx) :
    (((addCfg (F := F) c).win 0).blk t).view.emb (deep y) = place (chip c) ((((addCfg (F := F) c).win 4).blk t).view.emb y) := by
  funext a
  apply Fin.ext
  refine (at_own c t (deep y) a).trans ?_
  match a with
  | ⟨0, _⟩ => show (chip c).val * 1 + 0 = (chip c).val; omega
  | ⟨1, _⟩ => exact (at_sum c t y 0).symm
  | ⟨2, _⟩ => exact (at_sum c t y 1).symm
/-- and so does a tile of each place. -/
theorem emb_got0 (c : Dev nD) (t : Fin grid1.N) (y : Flat.Idx) :
    (((addCfg (F := F) c).win 1).blk t).view.emb (deep y) = place (0 : Fin 3) ((((addCfg (F := F) c).win 4).blk t).view.emb y) := by
  funext a
  apply Fin.ext
  refine (at_got0 c t (deep y) a).trans ?_
  match a with
  | ⟨0, _⟩ => rfl
  | ⟨1, _⟩ => exact (at_sum c t y 0).symm
  | ⟨2, _⟩ => exact (at_sum c t y 1).symm
theorem emb_got1 (c : Dev nD) (t : Fin grid1.N) (y : Flat.Idx) :
    (((addCfg (F := F) c).win 2).blk t).view.emb (deep y) = place (1 : Fin 3) ((((addCfg (F := F) c).win 4).blk t).view.emb y) := by
  funext a
  apply Fin.ext
  refine (at_got1 c t (deep y) a).trans ?_
  match a with
  | ⟨0, _⟩ => rfl
  | ⟨1, _⟩ => exact (at_sum c t y 0).symm
  | ⟨2, _⟩ => exact (at_sum c t y 1).symm
theorem emb_got2 (c : Dev nD) (t : Fin grid1.N) (y : Flat.Idx) :
    (((addCfg (F := F) c).win 3).blk t).view.emb (deep y) = place (2 : Fin 3) ((((addCfg (F := F) c).win 4).blk t).view.emb y) := by
  funext a
  apply Fin.ext
  refine (at_got2 c t (deep y) a).trans ?_
  match a with
  | ⟨0, _⟩ => rfl
  | ⟨1, _⟩ => exact (at_sum c t y 0).symm
  | ⟨2, _⟩ => exact (at_sum c t y 1).symm

/-- The result array after the call. -/
theorem sums (c : Dev nD) :
    (addDat (U := U) V c).arrAt 4 (addCfg (F := F) c).N
      = sum4 (blockOf (chip c) (V c (Proc.devRef .tc main_arg0))) (blockOf (0 : Fin 3) (V c (Proc.devRef .tc main_v1))) (blockOf (1 : Fin 3) (V c (Proc.devRef .tc main_v1))) (blockOf (2 : Fin 3) (V c (Proc.devRef .tc main_v1))) := by
  refine (addDat (U := U) V c).arrAt_eq_of_covers 4 _ (covers c) (fun t _ y => ?_)
  show k1_pay1 (tile V c 0 t) (tile V c 1 t) (tile V c 2 t) (tile V c 3 t) y = _
  refine (pay_at _ _ _ _ y).trans ?_
  show FloatOps.addf (φ := .f32) (FloatOps.addf (φ := .f32) (FloatOps.addf (φ := .f32)
      (V c (Proc.devRef .tc main_arg0) ((((addCfg (F := F) c).win 0).blk t).view.emb (deep y)))
      (V c (Proc.devRef .tc main_v1) ((((addCfg (F := F) c).win 1).blk t).view.emb (deep y))))
      (V c (Proc.devRef .tc main_v1) ((((addCfg (F := F) c).win 2).blk t).view.emb (deep y))))
      (V c (Proc.devRef .tc main_v1) ((((addCfg (F := F) c).win 3).blk t).view.emb (deep y))) = _
  rw [emb_own c t y, emb_got0 c t y, emb_got1 c t y, emb_got2 c t y]
  rfl

end Cert.ChipsProof

end
-- ==== Proof.ChipsHost.lean ====
/-
# Between the chips' exchange and the addition

After the exchange a device's three places hold what its partners sent. The host then computes the device's chip from its
number and puts it into the table; nothing else changes. The addition then fills the result.
-/
module

public import proofs.«01_k».proof.Proof.ChipsSum

@[expose] public section

noncomputable section

namespace Cert.ChipsProof

open Cert.ChipsIdeal Cert.ChipsIdeal.Gen Cert.Train
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline

set_option Elab.async false

variable {F : FTy → Type} [FloatOps F]

variable (m : Mem F)

/-- Device `c`'s arrays at the start, -/
abbrev start (c : Dev nD) : Valuation τ sig (Elt F) := fun b => m (c, b)
/-- after the exchange, -/
def swap (c : Dev nD) : Valuation τ sig (Elt F) := Function.update (start m c) (Proc.devRef .tc main_v1) (swapped m c)
/-- and when the table is filled. -/
def ready (c : Dev nD) : Valuation τ sig (Elt F) := StableHlo.after (hostOps1 c) (swap m c)

theorem swap_v1 (c : Dev nD) : swap m c (Proc.devRef .tc main_v1) = swapped m c := Function.update_self ..
theorem swap_of (c : Dev nD) {b : DevRef τ sig} (h : b ≠ Proc.devRef .tc main_v1) : swap m c b = start m c b := Function.update_of_ne h ..
theorem ready_of (c : Dev nD) (r : Ref sig .tc) (h : r ∉ hostOps1_W) : ready m c r = swap m c r :=
  StableHlo.after_of_writes_sub (hostOps1 c) _ (hostOps1_writes c) h

theorem ready_arg0 (c : Dev nD) : ready m c (Proc.devRef .tc main_arg0) = m ((c : Thread nD τ).loc main_arg0) :=
  (ready_of m c main_arg0 (by decide)).trans (swap_of m c (by decide))
theorem ready_v1 (c : Dev nD) : ready m c (Proc.devRef .tc main_v1) = swapped m c :=
  (ready_of m c main_v1 (by decide)).trans (swap_v1 m c)

/-- The host makes a device's chip from its place on the two outer axes. -/
theorem chip_word : ∀ c : Dev nD,
    2#32 * Scalar.remui (Scalar.divui (Dev.word c) 4#32) 2#32 + Scalar.remui (Scalar.divui (Dev.word c) 2#32) 2#32 = BitVec.ofNat 32 (c.val / 2) := by decide

/-- The table is the device's chip. -/
theorem ready_v12 (c : Dev nD) : ready m c (Proc.devRef .tc main_v12) = tbl (F := F) c 0 := by
  show ready m c (Proc.devRef .tc main_v12) = fun _ => BitVec.ofNat 32 (c.val / 2)
  rw [← chip_word]
  rfl

/-- What the addition is to leave: the sum of the device's own block and the blocks sent. -/
def total (c : Dev nD) : block.Idx → Elt F .f32 :=
  sum4 (blockOf (chip c) (m ((c : Thread nD τ).loc main_arg0))) (blockOf (0 : Fin 3) (swapped m c)) (blockOf (1 : Fin 3) (swapped m c)) (blockOf (2 : Fin 3) (swapped m c))

/-- Device `c`'s arrays at the end. -/
def finish (c : Dev nD) : Valuation τ sig (Elt F) := Function.update (ready m c) (Proc.devRef .tc main_v13) (total m c)

theorem finish_v13 (c : Dev nD) : finish m c (Proc.devRef .tc main_v13) = total m c := Function.update_self ..
theorem finish_of (c : Dev nD) {b : DevRef τ sig} (h : b ≠ Proc.devRef .tc main_v13) : finish m c b = ready m c b := Function.update_of_ne h ..
theorem finish_arg0 (c : Dev nD) : finish m c (Proc.devRef .tc main_arg0) = m ((c : Thread nD τ).loc main_arg0) :=
  (finish_of m c (by decide)).trans (ready_arg0 m c)

/-- A device's block array and its places, apart from its other arrays. -/
abbrev two : Finset (DevRef τ sig) := {Proc.devRef .tc main_arg0, Proc.devRef .tc main_v1}

theorem two_sub : two ⊆ ucRefs τ sig := by decide

variable {Name : Type} [DecidableEq Name] {U : Type} [URA U] {Lvl : Type}

theorem two_held (c : Dev nD) (V : Valuation τ sig (Elt F)) :
    (StableHlo.held (c : Thread nD τ) two V : sProp (MT nD τ sig Unit (Elt F) Name U Lvl))
      = iprop(((c : Thread nD τ).loc main_arg0 ↦{fullShare} V (Proc.devRef .tc main_arg0)) ∗ ((c : Thread nD τ).loc main_v1 ↦{fullShare} V (Proc.devRef .tc main_v1))) :=
  bigSep_eq_bigSepL_of_eq [Proc.devRef .tc main_arg0, Proc.devRef .tc main_v1] (by decide) (by decide) _

/-- All arrays: the two, and the others. -/
theorem held_two (c : Dev nD) (V : Valuation τ sig (Elt F)) :
    (StableHlo.held (c : Thread nD τ) (ucRefs τ sig) V : sProp (MT nD τ sig Unit (Elt F) Name U Lvl))
      = iprop((((c : Thread nD τ).loc main_arg0 ↦{fullShare} V (Proc.devRef .tc main_arg0)) ∗ ((c : Thread nD τ).loc main_v1 ↦{fullShare} V (Proc.devRef .tc main_v1)))
        ∗ StableHlo.held (c : Thread nD τ) (ucRefs τ sig \ two) V) := by
  rw [StableHlo.held_sub_split (c : Thread nD τ) two_sub V, two_held]

theorem others_eq (c : Dev nD) :
    (StableHlo.held (c : Thread nD τ) (ucRefs τ sig \ two) (swap m c) : sProp (MT nD τ sig Unit (Elt F) Name U Lvl))
      = StableHlo.held (c : Thread nD τ) (ucRefs τ sig \ two) (start m c) :=
  StableHlo.held_congr (c : Thread nD τ) fun b hb => swap_of m c fun h => (Finset.mem_sdiff.mp hb).2 (by rw [h]; decide)

end Cert.ChipsProof

end
-- ==== Proof.ChipsRun.lean ====
/-
# The exchange between chips, on one device

`grads_to_chips` on device `c`: three blocks go to the three partners, then the partners' blocks land, then the sources are
free again. Six semaphores: 0 … 2 at the sender of each copy, 3 … 5 at its receiver.
-/
module

public import proofs.«01_k».proof.Proof.ChipsMem
public import proofs.«01_k».proof.Proof.Exchange
public import proofs.«01_k».proof.Proof.Gen.ChipsIdeal.Skeleton
public import proofs.«01_k».proof.Proof.Gen.ChipsIdeal.Points

@[expose] public section

noncomputable section

namespace Cert.ChipsProof

open Cert.ChipsIdeal Cert.ChipsIdeal.Gen Cert.Train
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

set_option Elab.async false

variable {F : FTy → Type} [FloatOps F]

local notation "𝕄" => MT nD τ sig Unit (Elt F) ℕ (UU nD τ sig) ℕ

/-- A copy raises a partner's semaphore 3 … 5 and the device's own 0 … 2. -/
def peer (k : Fin 6) : Dev nD → Dev nD := if h : k.val < 3 then id else across ⟨k.val - 3, by omega⟩

def plan : Plan nD sig 6 where
  sem k := .dma (⟨k.val, by omega⟩ : Fin 16)
  inj := by decide
  amt _ := (slot oM ![0, 0, 0] inb_S3x5040x1024_S1x5040x1024_0_0_0 squeezes_S1x5040x1024_S5040x1024).view.dmaCredit
  pos _ := View.dmaCredit_pos _ (by decide)
  peer := peer
  peer_peer k c := by revert k c; decide
  order := [3, 4, 5]
  level _ := 0

variable (m : Mem F)

/-! ## What the semaphores hand over -/

/-- Block `e` of device `c`. -/
def own (c : Dev nD) (e : Fin 4) : sProp 𝕄 := (c : Thread nD τ).loc main_arg0 ↦[elems 4 e]{fullShare} m ((c : Thread nD τ).loc main_arg0)
/-- Place `j` of device `c`, as the exchange leaves it. -/
def got (c : Dev nD) (j : Fin 3) : sProp 𝕄 := (c : Thread nD τ).loc main_v1 ↦[elems 3 j]{fullShare} swapped m c
/-- Place `j` of device `c`, as it was. -/
def was (c : Dev nD) (j : Fin 3) : sProp 𝕄 := (c : Thread nD τ).loc main_v1 ↦[elems 3 j]{fullShare} m ((c : Thread nD τ).loc main_v1)

def pay (c : Dev nD) (k : Fin 6) : sProp 𝕄 :=
  match k with
  | 0 => own m c (sent c 0)
  | 1 => own m c (sent c 1)
  | 2 => own m c (sent c 2)
  | 3 => got m c 0
  | 4 => got m c 1
  | _ => got m c 2

instance own_storable (c : Dev nD) (e) : BI.Storable (upEmb : UEmb _ 𝕄) (own m c e) := by unfold own; infer_instance
instance got_storable (c : Dev nD) (j) : BI.Storable (upEmb : UEmb _ 𝕄) (got m c j) := by unfold got; infer_instance
instance pay_storable (c : Dev nD) (k : Fin 6) : BI.Storable (upEmb : UEmb _ 𝕄) (pay m c k) := by
  unfold pay
  split <;> infer_instance

/-! ## The printed devices and blocks -/

theorem dev1_eq (c : Dev nD) : (⟨k0_dev1 c, k0_dev1_lt c⟩ : Dev nD) = across 0 c := Fin.ext (by show k0_dev1 c = (across 0 c).val; rw [k0_dev1_eq]; revert c; decide)
theorem dev2_eq (c : Dev nD) : (⟨k0_dev2 c, k0_dev2_lt c⟩ : Dev nD) = across 1 c := Fin.ext (by show k0_dev2 c = (across 1 c).val; rw [k0_dev2_eq]; revert c; decide)
theorem dev3_eq (c : Dev nD) : (⟨k0_dev3 c, k0_dev3_lt c⟩ : Dev nD) = across 2 c := Fin.ext (by show k0_dev3 c = (across 2 c).val; rw [k0_dev3_eq]; revert c; decide)
theorem off1_eq (c : Dev nD) : k0_off1 c = ![(sent c 0).val, 0, 0] := by rw [k0_off1_eq]; revert c; decide
theorem off2_eq (c : Dev nD) : k0_off2 c = ![(sent c 1).val, 0, 0] := by rw [k0_off2_eq]; revert c; decide
theorem off3_eq (c : Dev nD) : k0_off3 c = ![(sent c 2).val, 0, 0] := by rw [k0_off3_eq]; revert c; decide

/-! ## The step -/

/-- Block `sent c j` goes to the partner's place `j`. -/
theorem send (𝒱 : Variants) (c : Dev nD) {α : Type} {Q : α → sProp (MT nD τ sig Unit (Elt F) ℕ (UU nD τ sig) ℕ)}
    (j : Fin 3) (kS kR : Fin 6) (l : List (Fin 6)) {D : Dev nD} (hD : D = across j c)
    (hkR : peer kR = across j) (hkS : peer kS c = c)
    {off inb offg inbg hq} (h : off = ![j.val, 0, 0]) (hg : offg = ![(sent c j).val, 0, 0])
    (hpS : pay m c kS = own m c (sent c j)) (hpR : ∀ d, pay m d kR = got m d j)
    {sS sR : DmaSem sig} (hsS : plan.sem kS = .dma sS) (hsR : plan.sem kR = .dma sR)
    {hsc : (slot oM off inb hq).view.ref.isScScratch = false}
    {hsrc : (slot gM offg inbg hq).view.WordExact} {hdst : (slot oM off inb hq).view.WordExact}
    {hsem : DmaTarget.Typed (nD := nD) (τ := τ) .hbm (.dma sR) (.remote (D : Thread nD τ) (slot oM off inb hq) (.dma sS) hsc)}
    {k : PUnit → Prog (TpuEff nD τ sig (Elt F) Λ₀ .tc) α} :
    iprop(plan.records (pay m) ∗ own m c (sent c j) ∗ was m (across j c) j ∗ plan.owing c (kR :: l) ∗ plan.tok c kS ∗ plan.tok c kR)
      ⊢ iprop(((plan.due c kS ∗ plan.owing c l) -∗ wp frame (wpE (defs₀ (F := F)) 𝒱 (c : Thread nD τ) none) Set.univ (k ⟨⟩) Q)
          -∗ wp frame (wpE (defs₀ (F := F)) 𝒱 (c : Thread nD τ) none) Set.univ
              (.op (.enqueueDma (slot gM offg inbg hq) (.remote (D : Thread nD τ) (slot oM off inb hq) (.dma sS) hsc) (.dma sR) hsrc hdst hsem) k) Q) := by
  have hp : plan.peer kR c = across j c := congrFun hkR c
  rw [← hp] at hD
  subst hD
  have h0 := Plan.wp_send plan (pay m) (defs := defs₀ (F := F)) 𝒱 c (Q := Q) kS kR l hkS (src := slot gM offg inbg hq) (dst := slot oM off inb hq) (hsc := hsc)
    (hsrc := hsrc) (hdst := hdst) (hsem := by rw [hsR, hsS]; exact hsem) (k := k) (q := fullShare)
    (fs := m ((c : Thread nD τ).loc main_arg0)) (fd := m ((plan.peer kR c : Thread nD τ).loc main_v1))
    rfl rfl (by routes) (by rw [hpS, set_g hg]; exact BI.Entails.refl _)
    (by rw [hpR]; exact Entails.of_eq (pts_land m c hp h hg _ _))
  unfold own was
  rw [← set_o (inb := inb) (hq := hq) h, ← set_g (inb := inbg) (hq := hq) hg, ← hp]
  simp only [hsR, hsS] at h0
  exact h0

/-! ## The body -/

/-- The partners' places, which a device is to write. -/
def landings (c : Dev nD) : sProp 𝕄 := iprop(was m (across 0 c) 0 ∗ was m (across 1 c) 1 ∗ was m (across 2 c) 2)

/-- What a device starts from. -/
def before (c : Dev nD) : sProp 𝕄 :=
  iprop((bigSep Finset.univ fun i : Fin 4 => own m c (all4 c i))
    ∗ landings m c
    ∗ plan.records (pay m) ∗ levAts Plan.L plan.lv ∗ plan.dues c plan.order
    ∗ (bigSep Finset.univ fun k : Fin 6 => plan.fresh c k) ∗ bigSep Finset.univ fun k : Fin 6 => plan.tok c k)

/-- What it ends with: its blocks, its places filled, its semaphores at zero. -/
def after (c : Dev nD) : sProp 𝕄 :=
  iprop((bigSep Finset.univ fun i : Fin 4 => own m c (all4 c i)) ∗ (bigSep Finset.univ fun j : Fin 3 => got m c j)
    ∗ bigSep Finset.univ fun k : Fin 6 => plan.zero c k)

theorem fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
theorem fin3 (Φ : Fin 3 → sProp 𝕄) : bigSep Finset.univ Φ = iprop(Φ 0 ∗ Φ 1 ∗ Φ 2) :=
  bigSep_univ_eq_bigSepL [0, 1, 2] (by decide) (by decide) Φ
theorem fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem own4_eq (c : Dev nD) : (bigSep Finset.univ fun i : Fin 4 => own m c (all4 c i) : sProp 𝕄)
    = iprop(own m c (sent c 0) ∗ own m c (sent c 1) ∗ own m c (sent c 2) ∗ own m c (chip c)) := by rw [fin4]; rfl
theorem dues_eq (c : Dev nD) : (plan.dues c plan.order : sProp 𝕄) = iprop(plan.due c 3 ∗ plan.due c 4 ∗ plan.due c 5 ∗ emp) := rfl

set_option maxRecDepth 8000 in
theorem body (𝒱 : Variants) (c : Dev nD) :
    iprop(before m c ∗ plan.owing c plan.order) ⊢ wp frame (wpE (defs₀ (F := F)) 𝒱 (c : Thread nD τ) none) Set.univ
      (bodyAt0 (F := F) t0_0) fun _ => iprop(after m c ∗ plan.owing c []) := by
  unfold before after landings
  rw [own4_eq, fin6, fin6, fin6, fin3, dues_eq]
  iintro ⟨⟨⟨X0, X1, X2, X3⟩, ⟨W0, W1, W2⟩, #Hr, #Hlev, ⟨D3, D4, D5, -⟩,
    ⟨A0, A1, A2, A3, A4, A5⟩, ⟨T0, T1, T2, T3, T4, T5⟩⟩, HO⟩
  unfold bodyAt0
  simp only [cc0_grads_to_chips_eq_skeleton]
  unfold cc0_grads_to_chips_skel
  simp only [k0_part1_eq_skeleton, k0_part2_eq_skeleton, k0_part3_eq_skeleton]
  unfold k0_part1_skel k0_part2_skel k0_part3_skel
  simp only [Prog.lift, Prog.bind_op, Prog.bind_ret, Prog.pure_eq_ret, wp_deviceId]
  -- three blocks, to the partners
  iapply (send m 𝒱 c 0 0 3 [4, 5] (dev1_eq c) rfl rfl rfl (off1_eq c) rfl (fun _ => rfl) (sS := (0 : Fin 16)) (sR := (3 : Fin 16)) rfl rfl) $$ [X0 W0 HO T0 T3]
  · isplitr; · iexact Hr
    isplitl [X0]; · iexact X0
    isplitl [W0]; · iexact W0
    isplitl [HO]; · iexact HO
    isplitl [T0] <;> iassumption
  iintro ⟨D0, HO⟩
  iapply (send m 𝒱 c 1 1 4 [5] (dev2_eq c) rfl rfl rfl (off2_eq c) rfl (fun _ => rfl) (sS := (1 : Fin 16)) (sR := (4 : Fin 16)) rfl rfl) $$ [X1 W1 HO T1 T4]
  · isplitr; · iexact Hr
    isplitl [X1]; · iexact X1
    isplitl [W1]; · iexact W1
    isplitl [HO]; · iexact HO
    isplitl [T1] <;> iassumption
  iintro ⟨D1, HO⟩
  iapply (send m 𝒱 c 2 2 5 [] (dev3_eq c) rfl rfl rfl (off3_eq c) rfl (fun _ => rfl) (sS := (2 : Fin 16)) (sR := (5 : Fin 16)) rfl rfl) $$ [X2 W2 HO T2 T5]
  · isplitr; · iexact Hr
    isplitl [X2]; · iexact X2
    isplitl [W2]; · iexact W2
    isplitl [HO]; · iexact HO
    isplitl [T2] <;> iassumption
  iintro ⟨D2, HO⟩
  -- the partners' three, and the sources
  iapply (Plan.wp_wait plan (pay m) 𝒱 c 3 [] (by decide) (sem := (3 : Fin 16)) rfl rfl) $$ [D3 HO A3]
  · isplitr; · iexact Hr
    isplitr; · iexact Hlev
    isplitl [D3]; · iexact D3
    isplitl [HO] <;> iassumption
  iintro ⟨HO, Z3, P⟩
  ihave G0 := (Entails.of_eq (show pay m c 3 = got m c 0 from rfl)) $$ P
  iapply (Plan.wp_wait plan (pay m) 𝒱 c 4 [] (by decide) (sem := (4 : Fin 16)) rfl rfl) $$ [D4 HO A4]
  · isplitr; · iexact Hr
    isplitr; · iexact Hlev
    isplitl [D4]; · iexact D4
    isplitl [HO] <;> iassumption
  iintro ⟨HO, Z4, P⟩
  ihave G1 := (Entails.of_eq (show pay m c 4 = got m c 1 from rfl)) $$ P
  iapply (Plan.wp_wait plan (pay m) 𝒱 c 5 [] (by decide) (sem := (5 : Fin 16)) rfl rfl) $$ [D5 HO A5]
  · isplitr; · iexact Hr
    isplitr; · iexact Hlev
    isplitl [D5]; · iexact D5
    isplitl [HO] <;> iassumption
  iintro ⟨HO, Z5, P⟩
  ihave G2 := (Entails.of_eq (show pay m c 5 = got m c 2 from rfl)) $$ P
  iapply (Plan.wp_wait plan (pay m) 𝒱 c 0 [] (by decide) (sem := (0 : Fin 16)) rfl rfl) $$ [D0 HO A0]
  · isplitr; · iexact Hr
    isplitr; · iexact Hlev
    isplitl [D0]; · iexact D0
    isplitl [HO] <;> iassumption
  iintro ⟨HO, Z0, P⟩
  ihave X0 := (Entails.of_eq (show pay m c 0 = own m c (sent c 0) from rfl)) $$ P
  iapply (Plan.wp_wait plan (pay m) 𝒱 c 1 [] (by decide) (sem := (1 : Fin 16)) rfl rfl) $$ [D1 HO A1]
  · isplitr; · iexact Hr
    isplitr; · iexact Hlev
    isplitl [D1]; · iexact D1
    isplitl [HO] <;> iassumption
  iintro ⟨HO, Z1, P⟩
  ihave X1 := (Entails.of_eq (show pay m c 1 = own m c (sent c 1) from rfl)) $$ P
  iapply (Plan.wp_wait plan (pay m) 𝒱 c 2 [] (by decide) (sem := (2 : Fin 16)) rfl rfl) $$ [D2 HO A2]
  · isplitr; · iexact Hr
    isplitr; · iexact Hlev
    isplitl [D2]; · iexact D2
    isplitl [HO] <;> iassumption
  iintro ⟨HO, Z2, P⟩
  ihave X2 := (Entails.of_eq (show pay m c 2 = own m c (sent c 2) from rfl)) $$ P
  rw [wp_ret]
  imodintro
  isplitr [HO]
  · isplitl [X0 X1 X2 X3]
    · isplitl [X0]; · iexact X0
      isplitl [X1]; · iexact X1
      isplitl [X2] <;> iassumption
    isplitl [G0 G1 G2]
    · isplitl [G0]; · iexact G0
      isplitl [G1] <;> iassumption
    isplitl [Z0]; · iexact Z0
    isplitl [Z1]; · iexact Z1
    isplitl [Z2]; · iexact Z2
    isplitl [Z3]; · iexact Z3
    isplitl [Z4] <;> iassumption
  · iexact HO

end Cert.ChipsProof

end
-- ==== Proof.ChipsLaunch.lean ====
/-
# The exchange between chips and the addition, on all devices

The launch hands each of a device's three places to the partner that is to write it, and the devices run: first the
exchange, then, on each device alone, the addition. At the end each device holds its blocks unchanged and the sum for its
chip, and every semaphore is at zero.
-/
module

public import proofs.«01_k».proof.Proof.ChipsHost
public import proofs.«01_k».proof.Proof.ChipsRun
public import proofs.«01_k».proof.Proof.TalkFirst
public import proofs.«01_k».proof.Chips
public import proofs.«01_k».proof.Proof.Gen.Chips

@[expose] public section

noncomputable section

namespace Cert.ChipsProof

open Cert.ChipsIdeal Cert.ChipsIdeal.Gen Cert.Train
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

set_option Elab.async false

variable {F : FTy → Type} [FloatOps F]

local notation "𝕄" => MT nD τ sig Unit (Elt F) ℕ (UU nD τ sig) ℕ

variable (m : Mem F)

/-! ## The exchange as a call -/

/-- The staging buffers of the addition, which the exchange leaves alone. -/
abbrev unused (c : Dev nD) : sProp 𝕄 := scopedRest cfg0.spec c

def swapDat (c : Dev nD) : Dat τ (Elt F) Unit ℕ (UU nD τ sig) ℕ cfg0 c where
  A w := w.elim0
  after w := w.elim0
  Φ t := match t with
    | ⟨0, _⟩ => iprop(before m c ∗ unused c)
    | ⟨_ + 1, _⟩ => iprop(after m c ∗ unused c)
  q w := w.elim0
  owed t := match t with
    | ⟨0, _⟩ => plan.debt c plan.order
    | ⟨_ + 1, _⟩ => 0

def dats (p : Fin 2) (c : Dev nD) : Dat τ (Elt F) Unit ℕ (UU nD τ sig) ℕ (pinD (pcfgs (F := F)) adm c p) c := match p with
  | ⟨0, _⟩ => swapDat m c
  | ⟨1, _⟩ => addDat (ready m) c

theorem no_windows (Φ : Fin 0 → sProp 𝕄) : (BI.emp : sProp 𝕄) ⊢ bigSep Finset.univ Φ :=
  Entails.of_eq (by rw [Finset.univ_eq_empty, bigSep_empty])

theorem swap_obligation (c : Dev nD) : BodyObligationLoose (swapDat m c) (defs₀ (F := F)) Variants.none () Set.univ := fun t => by
  have ht : t = t0_0 := fin_N0 t
  subst ht
  show iprop((before m c ∗ unused c) ∗ owesWithin c (plan.debt c plan.order) _ ∗ _)
    ⊢ wp frame (wpE (defs₀ (F := F)) Variants.none (c : Thread nD τ) none) Set.univ (bodyAt0 (F := F) t0_0) fun _ =>
      iprop((after m c ∗ unused c) ∗ owesWithin c 0 _ ∗ _)
  have h := body m Variants.none c
  unfold Plan.owing at h
  iintro ⟨⟨Hb, Hu⟩, ⟨%W, -, Ho⟩, -⟩
  iapply (wp_wand_r frame (wpE (defs₀ (F := F)) Variants.none (c : Thread nD τ) none) Set.univ (Q := fun _ => iprop(after m c ∗ ∃ W, owes (c : Thread nD τ) (plan.debt c []) W)))
  isplitl [Hb Ho]
  · iapply h
    isplitl [Hb]; · iexact Hb
    iexists W; iexact Ho
  · iintro %_ ⟨Ha, ⟨%W', Ho⟩⟩
    isplitl [Ha Hu]
    · isplitl [Ha] <;> iassumption
    isplitl [Ho]
    · iexists W'
      isplitr; · ipureintro; exact fun _ _ => Or.inl trivial
      iexact Ho
    iapply (no_windows (F := F) _); iempintro

/-! ## Dealing the places -/

/-- Every device's place `j` goes to its partner `j`. -/
theorem deal :
    (bigSep Finset.univ fun c : Dev nD => (c : Thread nD τ).loc main_v1 ↦{fullShare} m ((c : Thread nD τ).loc main_v1) : sProp 𝕄)
      ⊢ bigSep Finset.univ fun c : Dev nD => landings m c := by
  have h (c : Dev nD) : ((c : Thread nD τ).loc main_v1 ↦{fullShare} m ((c : Thread nD τ).loc main_v1) : sProp 𝕄)
      = iprop(was m c 0 ∗ was m c 1 ∗ was m c 2) := by rw [o_blocks, fin3]; rfl
  have e (j : Fin 3) : (bigSep Finset.univ fun c : Dev nD => was m c j : sProp 𝕄) = bigSep Finset.univ fun c : Dev nD => was m (across j c) j :=
    bigSep_univ_equiv (acrossEquiv j) _
  unfold landings
  rw [bigSep_congr (s := Finset.univ) (fun (c : Dev nD) _ => h c), bigSep_sep', bigSep_sep', bigSep_sep', bigSep_sep', e 0, e 1, e 2]

/-- A device's blocks are its four blocks. -/
theorem blocks_eq (c : Dev nD) :
    ((c : Thread nD τ).loc main_arg0 ↦{fullShare} m ((c : Thread nD τ).loc main_arg0) : sProp 𝕄) = bigSep Finset.univ fun i : Fin 4 => own m c (all4 c i) :=
  g_blocks c fullShare _

theorem places_eq (c : Dev nD) :
    ((c : Thread nD τ).loc main_v1 ↦{fullShare} swapped m c : sProp 𝕄) = bigSep Finset.univ fun j : Fin 3 => got m c j :=
  o_blocks c fullShare _

/-- The arrays that the exchange leaves alone. -/
abbrev others (c : Dev nD) : sProp 𝕄 := StableHlo.held (c : Thread nD τ) (ucRefs τ sig \ two) (start m c)

theorem arrays_at_start (c : Dev nD) :
    (unscopedBufs c (fun b => m ((c : Thread nD τ).loc b)) : sProp 𝕄)
      = iprop(((bigSep Finset.univ fun i : Fin 4 => own m c (all4 c i)) ∗ ((c : Thread nD τ).loc main_v1 ↦{fullShare} m ((c : Thread nD τ).loc main_v1))) ∗ others m c) := by
  rw [← blocks_eq]
  exact (Pipeline.unscopedBufs_held (Ix := Unit) (Name := ℕ) (U := UU nD τ sig) (Lvl := ℕ) c (start m c)).trans (held_two c (start m c))

theorem pre_all :
    iprop((bigSep Finset.univ fun c : Dev nD => iprop(ownSems0 plan.sem c ∗ unscopedBufs c (fun b => m ((c : Thread nD τ).loc b)) ∗ unscopedSems0 c
        ∗ owes (c : Thread nD τ) (plan.debt c plan.order) ∅ ∗ launchCred (fun d => plan.debt d plan.order) c ∗ (∃ g, prngReg c g) ∗ plan.dealt (pay m) c))
      ∗ levAts Plan.L plan.lv)
      ⊢ (|={Set.univ}=> bigSep Finset.univ fun c : Dev nD => iprop((before m c ∗ plan.owing c plan.order) ∗ others m c) : sProp 𝕄) := by
  have hdue : (bigSep Finset.univ fun c : Dev nD => launchCred (fun d => plan.debt d plan.order) c : sProp 𝕄)
      ⊢ bigSep Finset.univ fun c : Dev nD => plan.dues c plan.order := bigSep_mono fun c _ => plan.dues_of_launch c plan.order
  simp only [arrays_at_start, bigSep_sep']
  iintro ⟨⟨Hs, ⟨⟨Hx, Ho⟩, Hu⟩, -, HO, Hc, -, Hd⟩, #Hlev⟩
  imod (plan.open_all (pay m)) $$ [Hs Hd] with ⟨#Hr, Hf, Ht⟩
  · isplitl [Hs] <;> iassumption
  ihave Hw := (deal m) $$ Ho
  ihave Hdue := hdue $$ Hc
  imodintro
  isplitr [Hu]
  · iapply (Entails.of_eq (bigSep_sep' Finset.univ (fun c : Dev nD => before m c) (fun c : Dev nD => (plan.owing c plan.order : sProp 𝕄))))
    iapply (Plan.give_all (R := iprop(plan.records (pay m) ∗ levAts Plan.L plan.lv))
      (Φ := fun c : Dev nD => iprop((bigSep Finset.univ fun i : Fin 4 => own m c (all4 c i))
        ∗ landings m c
        ∗ plan.dues c plan.order ∗ (bigSep Finset.univ fun k : Fin 6 => plan.fresh c k) ∗ (bigSep Finset.univ fun k : Fin 6 => plan.tok c k)
        ∗ owes (c : Thread nD τ) (plan.debt c plan.order) ∅)) fun c _ => ?_)
    rotate_left
    · isplitr
      · isplitr; · iexact Hr
        iexact Hlev
      rw [bigSep_sep', bigSep_sep', bigSep_sep', bigSep_sep', bigSep_sep']
      isplitl [Hx]; · iexact Hx
      isplitl [Hw]; · iexact Hw
      isplitl [Hdue]; · iexact Hdue
      isplitl [Hf]; · iexact Hf
      isplitl [Ht] <;> iassumption
    · unfold before Plan.owing
      iintro ⟨⟨#Hr, #Hlev⟩, Hx, Hw, Hdue, Hf, Ht, HO⟩
      isplitr [HO]
      · isplitl [Hx]; · iexact Hx
        isplitl [Hw]; · iexact Hw
        isplitr; · iexact Hr
        isplitr; · iexact Hlev
        isplitl [Hdue]; · iexact Hdue
        isplitl [Hf] <;> iassumption
      · iexists ∅; iexact HO
  · iexact Hu

/-! ## The two calls -/

theorem own_facts : OwnSemFacts cfg0.spec plan.sem := ⟨by decide, plan.inj, fun _ w => w.elim0⟩

/-- The exchange: in with a device's blocks, its place in the protocol and its other arrays; out with all arrays, the
    places filled. -/
def first : FirstCall (pcfgs (F := F)) adm (dats m) () defs₀ Variants.none Plan.L plan.lv 0 where
  win := winFacts0.to₀
  block_pos := block_pos0
  stage_whole := stage_whole0
  K := Fin 6
  osem := plan.sem
  ho := own_facts
  hbody c := swap_obligation m c
  hwaits c := show _ ⊢ bigSep _ _ from (show _ ⊢ (BI.emp : sProp 𝕄) from by iintro -; iempintro).trans (no_windows (F := F) _)
  pre c := iprop((before m c ∗ plan.owing c plan.order) ∗ others m c)
  post c := iprop(StableHlo.held (c : Thread nD τ) (ucRefs τ sig) (swap m c) ∗ ∃ W, owes (c : Thread nD τ) (0 : CellTallies nD τ sig Unit) W)
  X c := before m c
  Y c := iprop((bigSep Finset.univ fun i : Fin 4 => own m c (all4 c i)) ∗ bigSep Finset.univ fun j : Fin 3 => got m c j)
  Z c := others m c
  hentry c := by
    unfold Plan.owing
    iintro ⟨⟨⟨Hb, ⟨%W, Ho⟩⟩, Hu⟩, -⟩
    imodintro
    isplitr; · iapply (show (BI.emp : sProp 𝕄) ⊢ (dats m 0 c).arrays ((dats m 0 c).arrAt · 0) from no_windows (F := F) _); iempintro
    isplitr; · iapply (show (BI.emp : sProp 𝕄) ⊢ prefHeld (pcfgs (F := F) 0).pre c (fun _ => fullShare) (adm (F := F) c 0).1 from no_windows (F := F) _); iempintro
    isplitl [Ho]
    · iexists W
      isplitr; · ipureintro; exact fun _ _ => Or.inl trivial
      iexact Ho
    isplitl [Hb]; · iexact Hb
    iexact Hu
  hin c := by
    show iprop(before m c ∗ _ ∗ unused c) ⊢ iprop(before m c ∗ unused c)
    iintro ⟨H, -, Hu⟩
    isplitl [H] <;> iassumption
  hout c := by
    show iprop(after m c ∗ unused c) ⊢ _
    unfold after
    iintro ⟨⟨Hx, Hg, Hz⟩, Hu⟩
    isplitl [Hx Hg]
    · isplitl [Hx] <;> iassumption
    isplitl [Hz]; · iapply (show (bigSep Finset.univ fun k : Fin 6 => plan.zero c k : sProp 𝕄) ⊢ ownSems0 plan.sem c from BI.Entails.refl _); iexact Hz
    iexact Hu
  hexit c := by
    rw [held_two c (swap m c), others_eq, swap_v1, swap_of m c (show Proc.devRef .tc main_arg0 ≠ Proc.devRef .tc main_v1 from by decide),
      show start m c (Proc.devRef .tc main_arg0) = m ((c : Thread nD τ).loc main_arg0) from rfl, blocks_eq, places_eq]
    iintro ⟨-, ⟨%W, -, Ho⟩, HY, Hu⟩
    imodintro
    isplitl [HY Hu]
    · isplitl [HY]; · iexact HY
      iexact Hu
    iexists W; iexact Ho

/-- What the addition's windows end with is what its arrays end with. -/
theorem arrays_at_end (c : Dev nD) (w : Fin 5) :
    (addDat (U := UU nD τ sig) (ready m) c).arrAt w (addCfg (F := F) c).N = finish m c (Proc.devRef .tc (arrRef spec1 w)) := by
  match w with
  | ⟨0, _⟩ => exact ((addDat (U := UU nD τ sig) (ready m) c).arrAt_in 0 rfl _).trans (finish_of m c (show Proc.devRef .tc main_arg0 ≠ Proc.devRef .tc main_v13 by decide)).symm
  | ⟨1, _⟩ => exact ((addDat (U := UU nD τ sig) (ready m) c).arrAt_in 1 rfl _).trans (finish_of m c (show Proc.devRef .tc main_v1 ≠ Proc.devRef .tc main_v13 by decide)).symm
  | ⟨2, _⟩ => exact ((addDat (U := UU nD τ sig) (ready m) c).arrAt_in 2 rfl _).trans (finish_of m c (show Proc.devRef .tc main_v1 ≠ Proc.devRef .tc main_v13 by decide)).symm
  | ⟨3, _⟩ => exact ((addDat (U := UU nD τ sig) (ready m) c).arrAt_in 3 rfl _).trans (finish_of m c (show Proc.devRef .tc main_v1 ≠ Proc.devRef .tc main_v13 by decide)).symm
  | ⟨4, _⟩ => exact (sums (U := UU nD τ sig) (ready m) c).trans ((by rw [ready_arg0, ready_v1]; rfl : _ = total m c).trans (finish_v13 m c).symm)

theorem elsewhere (c : Dev nD) (b : DevRef τ sig) (h : b ∉ arrRefs (τ := τ) spec1) : finish m c b = ready m c b :=
  finish_of m c fun e => h (by rw [e]; decide)

/-- The addition. -/
def second : PerCore.RegionSeg (pcfgs (F := F)) adm (dats m) () defs₀ Variants.none Plan.L plan.lv 1 :=
  sharedRegion (pcfgs (F := F)) adm (dats m) () defs₀ Variants.none Plan.L plan.lv 1 winFacts₀1 sharedIn1 preFacts1 block_pos1 arr_whole1 stage_whole1
    (fun c => (add_obligation (ready m) c).loose) (fun _ _ => rfl) (fun _ => rfl)
    (fun _ _ _ => rfl)
    (fun c => scopedRest1_eq c) (fun _ _ => rfl) (ready m) (finish m) (fun _ _ => rfl) (arrays_at_end m) (elsewhere m)
    (fun c k => match k with | ⟨0, _⟩ => (ready_v12 m c).symm)

/-- The host's part between them. -/
def middle (c : Dev nD) : HostSeg (Name := ℕ) (U := UU nD τ sig) (pcfgs (F := F)) defs₀ Variants.none Plan.L plan.lv :=
  HostSeg.ofOps _ _ _ _ _ (ucRefs τ sig) (hostOps1 c)
    (fun op h => sub_ucRefs op ((List.forall_iff_forall_mem.mp (hostOps1_sub c)) op h))
    (fun op h => (List.forall_iff_forall_mem.mp (hostOps1_fresh c)) op h) (swap m)
    (fun c => iprop(∃ W, owes (c : Thread nD τ) (0 : CellTallies nD τ sig Unit) W))

abbrev rest (c : Dev nD) : List (PerCore.Seg (pcfgs (F := F)) adm (dats m) () defs₀ Variants.none Plan.L plan.lv) := [.host (middle m c), .region (second m)]

/-- What every device holds at the end. -/
def Done (c : Dev nD) (s : MemSt nD τ sig (Elt F)) : Prop :=
  s.mem ((c : Thread nD τ).loc main_arg0) = m ((c : Thread nD τ).loc main_arg0) ∧ s.mem ((c : Thread nD τ).loc main_v13) = total m c

theorem cells_apart : Function.Injective (PerCore.cellOf (nD := nD) (τ := τ) (pinD (pcfgs (F := F)) adm)) :=
  PerCore.cellOf_injective _
    (fun _ p => match p with
      | ⟨0, _⟩ => show SpecSemsDistinct cfg0.spec from by decide
      | ⟨1, _⟩ => show SpecSemsDistinct spec1 from by decide)
    (fun _ p p' => match p, p' with
      | ⟨0, _⟩, ⟨0, _⟩ => fun h => absurd rfl h
      | ⟨1, _⟩, ⟨1, _⟩ => fun h => absurd rfl h
      | ⟨0, _⟩, ⟨1, _⟩ => fun _ => show SpecSemsDisjoint cfg0.spec spec1 from by decide
      | ⟨1, _⟩, ⟨0, _⟩ => fun _ => show SpecSemsDisjoint spec1 cfg0.spec from by decide)

theorem main_eq (c : Dev nD) : main (F := F) c = .op (.customCall (entry 0) ()) fun _ => PerCore.Seg.run (rest m c) := by
  rw [main_chain c, PerCore.Seg.run_eq_chain]
  rfl

/-- Every weakly fair run of the exchange and the addition ends, with each device's blocks as they were, the sum in its
    result, and every semaphore at zero. -/
theorem run_main (g : Dev nD → PrngReg) :
    θ_run (defs (F := F)) (onTc (τ := τ) main) ⟨m, fun _ => 0, g⟩ (fun r => (∀ c, Done m c r.2) ∧ r.2.sem = fun _ => 0) := by
  refine launch_talk_first (pcs := pcfgs (F := F)) (a := adm) (pdats := dats m) (ι := ()) cells_apart Plan.EP (first m) m g main (rest m)
    (main_eq m) (fun _ => show ([1] : List (Fin 2)).Nodup from by decide) (fun _ => show (0 : Fin 2) ∉ ([1] : List (Fin 2)) from by decide) (fun c => plan.debt c plan.order) Plan.L_of_ne
    (plan.dealt (pay m)) (initOf (PerCore.cells (pinD (pcfgs (F := F)) adm) cells_apart) (PerCore.launchToks (pinD (pcfgs (F := F)) adm) cells_apart), initOf plan.cells plan.toks)
    ?_ ?_ (fun c => StableHlo.held (c : Thread nD τ) (ucRefs τ sig) (finish m c)) ?_ (Done m) ?_ ?_
  · iintro H
    ihave H' := (ownU_pair _ _) $$ H
    icases H' with ⟨Ha, Hb⟩
    imod (plan.fund (pay m)) $$ Hb with Hd
    imodintro
    isplitl [Ha] <;> iassumption
  · have hreg1 (c : Dev nD) : iprop(ownSems0 plan.sem c ∗ unscopedBufs c (fun b => m ((c : Thread nD τ).loc b)) ∗ unscopedSems0 c
          ∗ owes (c : Thread nD τ) (plan.debt c plan.order) ∅ ∗ launchCred (fun d => plan.debt d plan.order) c ∗ prngReg c (g c) ∗ plan.dealt (pay m) c)
        ⊢ (iprop(ownSems0 plan.sem c ∗ unscopedBufs c (fun b => m ((c : Thread nD τ).loc b)) ∗ unscopedSems0 c
          ∗ owes (c : Thread nD τ) (plan.debt c plan.order) ∅ ∗ launchCred (fun d => plan.debt d plan.order) c ∗ (∃ g, prngReg c g) ∗ plan.dealt (pay m) c) : sProp 𝕄) := by
      iintro ⟨H1, H2, H3, H4, H5, H6, H7⟩
      isplitl [H1]; · iexact H1
      isplitl [H2]; · iexact H2
      isplitl [H3]; · iexact H3
      isplitl [H4]; · iexact H4
      isplitl [H5]; · iexact H5
      isplitl [H6]; · iexists (g c); iexact H6
      iexact H7
    refine (BI.sep_mono (bigSep_mono fun c _ => hreg1 c) (BI.Entails.refl _)).trans (pre_all m)
  · exact fun c => ⟨BI.Entails.refl _, BI.Entails.refl _, BI.Entails.refl _⟩
  · intro c s'
    unfold StableHlo.held
    iintro ⟨Hh, HSI⟩
    ihave Hr := (pointsTo_read_all (ucRefs τ sig) (fun b => ((c : Thread nD τ).1, b)) (finish m c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (finish_arg0 m c),
        (h (Proc.devRef .tc main_v13) (Finset.mem_filter.mpr ⟨StableHlo.devRef_mem_tcRefs main_v13, by decide⟩)).trans (finish_v13 m c)⟩
    · iexact HSI
  · exact fun s h hs => ⟨h, sem_eq_zero_of_scoped (by decide) hs⟩

end Cert.ChipsProof

end
-- ==== Proof.ChipsKernel.lean ====
/-
# The kernel over the float formats' bits

The kernel and its idealization are the same text, printed twice. Here they are matched piece by piece: the calls'
configurations, the bodies, the order of the calls; then the idealization's run is the kernel's.
-/
module

public import proofs.«01_k».proof.Proof.Gen.Chips
public import Idealize.ShloMosaic.PureOps.BitExact
public import proofs.«01_k».proof.Proof.ChipsLaunch

@[expose] public section

noncomputable section

namespace Cert.ChipsProof

open Idealize.ShloMosaic
open Idealize.ShloMosaic.TcCoe
open Idealize.SL.Sem

set_option Elab.async false

/-- The calls' configurations agree, -/
theorem pcfgs_eq : Chips.pcfgs (F := Bits) = ChipsIdeal.pcfgs (F := Bits) := rfl

/-- and the calls' bodies, -/
theorem defs₀_eq : Chips.defs₀ (F := Bits) = ChipsIdeal.defs₀ (F := Bits) := by
  unfold Chips.defs₀ ChipsIdeal.defs₀
  refine congrArg Defs.onTc (funext fun l => funext fun a => ?_)
  match l, a with
  | 0, (t, s) => rfl
  | 1, (t, s) => rfl

/-- The calls in their order, for any configurations of them. -/
abbrev steps (pcs : Fin 2 → Pipeline.PCfg ChipsIdeal.sig ChipsIdeal.Λ₀ (Elt Bits)) (c : Dev ChipsIdeal.nD) :
    Prog (TpuEff ChipsIdeal.nD ChipsIdeal.τ ChipsIdeal.sig (Elt Bits) (Pipeline.Sig ChipsIdeal.Λ₀ (Fin 2) fun p => (pcs p).Adm) .tc) PUnit :=
  Pipeline.chain [Prog.lift (.customCall (Pipeline.entry 0) ()), StableHlo.seq (ChipsIdeal.Gen.hostOps1 c), Prog.lift (.customCall (Pipeline.entry 1) ())]

/-- and the order of the calls. -/
theorem main_kernel (c : Dev Chips.nD) : Chips.main (F := Bits) c = steps (Chips.pcfgs (F := Bits)) c := by
  unfold steps
  rewrite [Pipeline.chain_cons, StableHlo.chain_seq_cons, Pipeline.chain_cons]
  chain_rfl

open ChipsIdeal in
/-- Equal configurations and bodies run alike. -/
theorem run_congr {pcs pcs' : Fin 2 → Pipeline.PCfg sig Λ₀ (Elt Bits)} (h : pcs = pcs') {d d' : Defs nD τ sig (Elt Bits) Λ₀} (hd : d = d')
    (s) (Q) (H : θ_run (Pipeline.defs pcs d) (onTc (τ := τ) (steps pcs)) s Q) : θ_run (Pipeline.defs pcs' d') (onTc (τ := τ) (steps pcs')) s Q := by
  subst h; subst hd; exact H

/-- Every run of the kernel ends as the idealization's does. -/
theorem run_kernel (m : Mem Bits) (g : Dev ChipsIdeal.nD → PrngReg) :
    θ_run (Chips.defs (F := Bits)) (onTc (τ := Chips.τ) Chips.main) ⟨m, fun _ => 0, g⟩ (fun r => (∀ c, Done m c r.2) ∧ r.2.sem = fun _ => 0) := by
  unfold Chips.defs
  rw [show Chips.main (F := Bits) = steps (Chips.pcfgs (F := Bits)) from funext main_kernel]
  refine run_congr pcfgs_eq.symm defs₀_eq.symm _ _ ?_
  have h := run_main m g
  rw [show ChipsIdeal.main (F := Bits) = steps (ChipsIdeal.pcfgs (F := Bits)) from funext ChipsIdeal.Gen.main_chain] at h
  exact h

end Cert.ChipsProof

end
-- ==== Proof.ChipsValue.lean ====
/-
# The reference's sum over the chips, element by element

The reference adds, for each core of a chip, the blocks of the four chips. At row and column `(q · 5040 + r, l)` of its
result that is a sum of four elements of its argument; in the devices' terms, of the device's own block and of the blocks
its three partners sent, in another order. Addition of extended reals is commutative and associative.
-/
module

public import proofs.«01_k».proof.Proof.ChipsHost
public import proofs.«01_k».proof.Proof.Gen.ChipsRefIdeal
public import Idealize.ShloMosaic.Lib.LayoutAt
public import Idealize.ShloMosaic.Lib.Pipeline.Value
public import Idealize.ShloMosaic.Lib.Pointwise.Reduce

@[expose] public section

noncomputable section

namespace Cert.ChipsProof

open Cert.Train
open Idealize.ShloMosaic
open Idealize.ShloMosaic.TcCoe

set_option Elab.async false

/-- The result's rows, for all devices. -/
abbrev rows : Shape := ⟨2, ![40320, 1024]⟩

/-- What the reference computes of its argument. -/
def summed (X : (stack 32).Idx → Elt Ideal .f32) : rows.Idx → Elt Ideal .f32 :=
  open Cert.ChipsRefIdeal Cert.ChipsRefIdeal.Gen in
  shapeCast S40320x1024 (transpose S4x2x5040x1024 [1, 0, 2, 3] (Host.reduceAdd (F := Ideal) (φ := .f32) (shapeCast S4x2x4x5040x1024 X shapeCasts_S32x5040x1024_S4x2x4x5040x1024) (constant S_ .f32 0x00000000#32) reducesTo_S4x2x4x5040x1024_S2x4x5040x1024_d0 h_S_) transposes_S2x4x5040x1024_S4x2x5040x1024_1_0_2_3) shapeCasts_S4x2x5040x1024_S40320x1024

/-- The block of chip `k` that goes into device `q`'s rows. -/
def term (q : Fin 8) (k : Fin 4) : Fin 32 := ⟨8 * k.val + 4 * (q.val % 2) + q.val / 2, by omega⟩

/-- Whose rows a row of the result is among, and its row and column there. -/
def owner (i : rows.Idx) : Fin 8 := ⟨(i 0).val / 5040, by have h : (i 0).val < 40320 := (i 0).isLt; omega⟩
def spot (i : rows.Idx) : block.Idx := ValueIdx.ix2 ⟨(i 0).val % 5040, Nat.mod_lt _ (by decide)⟩ ⟨(i 1).val, (i 1).isLt⟩

theorem summed_apply (X : (stack 32).Idx → Elt Ideal .f32) (i : rows.Idx) :
    summed X i = (X (place (term (owner i) 0) (spot i)) + X (place (term (owner i) 1) (spot i)) + X (place (term (owner i) 2) (spot i)) + X (place (term (owner i) 3) (spot i)) : EReal) := by
  have h0 : (i 0).val < 40320 := (i 0).isLt
  have h1 : (i 1).val < 1024 := (i 1).isLt
  unfold summed
  refine (shapeCast_apply _ _ i (ValueIdx.ix4 ⟨(i 0).val / 10080, by omega⟩ ⟨(i 0).val / 5040 % 2, by omega⟩ ⟨(i 0).val % 5040, by omega⟩ ⟨(i 1).val, h1⟩) ?_).trans ?_
  · rw [Shape.rowMajor_val_four, Shape.rowMajor_val_two]
    show (((i 0).val / 10080 * 2 + (i 0).val / 5040 % 2) * 5040 + (i 0).val % 5040) * 1024 + (i 1).val = (i 0).val * 1024 + (i 1).val
    omega
  refine (transpose_apply _ _ _ _ (ValueIdx.ix4 ⟨(i 0).val / 5040 % 2, by omega⟩ ⟨(i 0).val / 10080, by omega⟩ ⟨(i 0).val % 5040, by omega⟩ ⟨(i 1).val, h1⟩)
    fun b => match b with | ⟨0, _⟩ => rfl | ⟨1, _⟩ => rfl | ⟨2, _⟩ => rfl | ⟨3, _⟩ => rfl).trans ?_
  have hs (k : Fin 4) : shapeCast ChipsRefIdeal.S4x2x4x5040x1024 X ChipsRefIdeal.Gen.shapeCasts_S32x5040x1024_S4x2x4x5040x1024
      (ValueIdx.ix5 k ⟨(i 0).val / 5040 % 2, by omega⟩ ⟨(i 0).val / 10080, by omega⟩ ⟨(i 0).val % 5040, by omega⟩ ⟨(i 1).val, h1⟩)
        = X (place (term (owner i) k) (spot i)) := by
    refine shapeCast_apply _ _ _ _ ?_
    rw [Shape.rowMajor_val_five, Shape.rowMajor_val_three]
    show ((8 * k.val + 4 * ((i 0).val / 5040 % 2) + (i 0).val / 5040 / 2) * 5040 + (i 0).val % 5040) * 1024 + (i 1).val
      = (((k.val * 2 + (i 0).val / 5040 % 2) * 4 + (i 0).val / 10080) * 5040 + (i 0).val % 5040) * 1024 + (i 1).val
    omega
  rw [Host.reduceAdd_apply, Ideal.hostReduceAdd_def, Ideal.hostReduceAdd_r5_a0, Fin.sum_univ_four]
  rw [show constant (F := Ideal) ChipsRefIdeal.S_ .f32 0x00000000#32 (Shape.Idx.first ChipsRefIdeal.Gen.h_S_) = (0 : EReal) from Ideal.ofBits_zero_f32, zero_add]
  exact congrArg₂ (fun a b : EReal => a + b) (congrArg₂ (fun a b : EReal => a + b) (congrArg₂ (fun a b : EReal => a + b) (hs 0) (hs 1)) (hs 2)) (hs 3)

/-- An element of a device's blocks is one of the whole argument. -/
theorem whole_at (m : Mem Ideal) (X : (stack 32).Idx → Elt Ideal .f32) (c : Dev ChipsIdeal.nD)
    (h : m ((c : Thread ChipsIdeal.nD ChipsIdeal.τ).loc ChipsIdeal.main_arg0) = Layout.block ⟨3, ![4, 5040, 1024]⟩ ⟨3, ![32, 5040, 1024]⟩ 0 8 c X)
    (e : Fin 4) (y : block.Idx) : m ((c : Thread ChipsIdeal.nD ChipsIdeal.τ).loc ChipsIdeal.main_arg0) (place e y) = X (place ⟨c.val * 4 + e.val, by have : c.val < 8 := c.isLt; omega⟩ y) := by
  rw [h]
  refine congrArg X (funext fun a => Fin.ext ?_)
  match a with
  | ⟨0, _⟩ => rfl
  | ⟨1, _⟩ => rfl
  | ⟨2, _⟩ => rfl

/-- The four chips, from any of them: its own, and those across. -/
theorem four_chips (E : Fin 4 → EReal) (c : Dev ChipsIdeal.nD) :
    E (chip c) + E (chip (across 0 c)) + E (chip (across 1 c)) + E (chip (across 2 c)) = E 0 + E 1 + E 2 + E 3 := by
  have h : (∑ i : Fin 4, E (all4 c i)) = ∑ i : Fin 4, E i := Equiv.sum_comp (all4 c) E
  rw [Fin.sum_univ_four, Fin.sum_univ_four] at h
  rw [← h]
  show _ = E (chip (across 0 c)) + E (chip (across 1 c)) + E (chip (across 2 c)) + E (chip c)
  rw [add_comm _ (E (chip c)), ← add_assoc, ← add_assoc]

theorem term_own : ∀ c : Dev ChipsIdeal.nD, c.val * 4 + (chip c).val = (term c (chip c)).val := by decide
theorem term_got : ∀ (c : Dev ChipsIdeal.nD) (j : Fin 3), (across j c).val * 4 + (chip c).val = (term c (chip (across j c))).val := by decide

/-- The devices' sums are the rows of the reference's. -/
theorem total_eq (m : Mem Ideal) (X : (stack 32).Idx → Elt Ideal .f32)
    (h : ∀ c : Dev ChipsIdeal.nD, m ((c : Thread ChipsIdeal.nD ChipsIdeal.τ).loc ChipsIdeal.main_arg0) = Layout.block ⟨3, ![4, 5040, 1024]⟩ ⟨3, ![32, 5040, 1024]⟩ 0 8 c X)
    (c : Dev ChipsIdeal.nD) : total m c = Layout.block ⟨2, ![5040, 1024]⟩ ⟨2, ![40320, 1024]⟩ 0 8 c (summed X) := by
  funext y
  have hc : c.val < 8 := c.isLt
  have h0 : (y 0).val < 5040 := (y 0).isLt
  let E : Fin 4 → EReal := fun k => X (place (term c k) y)
  have hown : m ((c : Thread ChipsIdeal.nD ChipsIdeal.τ).loc ChipsIdeal.main_arg0) (place (chip c) y) = E (chip c) :=
    (whole_at m X c (h c) (chip c) y).trans (congrArg (fun e => X (place e y)) (Fin.ext (term_own c)))
  have hgot (j : Fin 3) : swapped m c (place j y) = E (chip (across j c)) := by
    show m ((across (which (place j y)) c : Thread ChipsIdeal.nD ChipsIdeal.τ).loc ChipsIdeal.main_arg0) (place (chip c) (within (place j y))) = _
    rw [which_place, within_place]
    exact (whole_at m X (across j c) (h (across j c)) (chip c) y).trans (congrArg (fun e => X (place e y)) (Fin.ext (term_got c j)))
  have hl : total m c y = (show EReal from m ((c : Thread ChipsIdeal.nD ChipsIdeal.τ).loc ChipsIdeal.main_arg0) (place (chip c) y)) + (show EReal from swapped m c (place 0 y))
      + (show EReal from swapped m c (place 1 y)) + (show EReal from swapped m c (place 2 y)) := rfl
  have hr : (Layout.block ⟨2, ![5040, 1024]⟩ ⟨2, ![40320, 1024]⟩ 0 8 c (summed X)) y
      = summed X (ValueIdx.ix2 ⟨c.val * 5040 + (y 0).val, by omega⟩ ⟨(y 1).val, (y 1).isLt⟩) := by
    refine congrArg (summed X) (funext fun a => Fin.ext ?_)
    match a with
    | ⟨0, _⟩ => rfl
    | ⟨1, _⟩ => rfl
  rw [hl, hr, summed_apply]
  dsimp only
  rw [hown, hgot 0, hgot 1, hgot 2, four_chips E c]
  have ho : owner (ValueIdx.ix2 ⟨c.val * 5040 + (y 0).val, by omega⟩ ⟨(y 1).val, (y 1).isLt⟩) = c := Fin.ext (by
    show (c.val * 5040 + (y 0).val) / 5040 = c.val
    omega)
  have hp : spot (ValueIdx.ix2 ⟨c.val * 5040 + (y 0).val, by omega⟩ ⟨(y 1).val, (y 1).isLt⟩) = y := by
    funext a
    apply Fin.ext
    match a with
    | ⟨0, _⟩ => show (c.val * 5040 + (y 0).val) % 5040 = (y 0).val; omega
    | ⟨1, _⟩ => rfl
  rw [ho, hp]

end Cert.ChipsProof

end
-- ==== Proof.ChipsClaims.lean ====
/-
# What is claimed of the exchange between chips

Every run of the kernel ends, its argument unchanged and every semaphore at zero; its result is the reference's.
-/
module

public import proofs.«01_k».proof.Defs
public import proofs.«01_k».proof.Proof.ChipsKernel
public import proofs.«01_k».proof.Proof.ChipsValue
public import proofs.«01_k».proof.Proof.Gen.ChipsRefIdeal.Run
public import Idealize.ShloMosaic.Lib.Quiescent

@[expose] public section

noncomputable section

namespace Cert.ChipsProof

open Idealize.ShloMosaic
open Idealize.ShloMosaic.TcCoe
open Idealize.SL.Sem

set_option Elab.async false

/-- Over the float formats' bits, the exchange and the addition end with their argument unchanged and every semaphore at zero. -/
theorem frame_kernel : Cert.quiescent_Chips := fun m g _ =>
  (θ_run (Chips.defs (F := Bits)) _ _).mono (fun _ h => ⟨fun c => (h.1 c).1, h.2⟩) (run_kernel m g)

/-- So they do over the extended reals. -/
theorem frame_ideal : Cert.quiescent_ChipsIdeal := fun m g _ =>
  (θ_run (ChipsIdeal.defs (F := Ideal)) _ _).mono (fun _ h => ⟨fun c => (h.1 c).1, h.2⟩) (run_main (F := Ideal) m g)

/-- The reference ends likewise. -/
theorem frame_reference_ideal : Cert.quiescent_ChipsRefIdeal := fun m g _ =>
  (θ_run (ChipsRefIdeal.defs (F := Ideal)) _ _).mono (fun r h => ⟨fun c => (h c).2, sem_eq_zero_of_no_sems (by decide) r.2⟩)
    (ChipsRefIdeal.Value.run (F := Ideal) m g)

/-- Over the extended reals, every device ends with its rows of the reference's result. -/
theorem value_ideal : Cert.algebraic_ChipsIdeal_ChipsRefIdeal := fun m g m' g' _ h =>
  ⟨summed (m' (((0 : Dev ChipsRefIdeal.nD).tc : Thread ChipsRefIdeal.nD ChipsRefIdeal.τ).loc ChipsRefIdeal.main_arg0)),
    (θ_run (ChipsIdeal.defs (F := Ideal)) _ _).mono (fun _ hr c => ⟨(hr.1 c).2.trans (total_eq m _ h c), (hr.1 c).1⟩) (run_main (F := Ideal) m g),
    (θ_run (ChipsRefIdeal.defs (F := Ideal)) _ _).mono (fun _ hr => hr 0) (ChipsRefIdeal.Value.run (F := Ideal) m' g')⟩

end Cert.ChipsProof

end
-- ==== Proof.Adam.lean ====
/-
# One step of AdamW, entry by entry

`Cert.Train.moment1`, `moment2` and `delta` are the step's three results, of arrays of any shape; the three theorems say that the same
formulas with every constant first spread over the whole array, and with the host's quotient and square root, are these over the extended
reals.
-/
module

public import Idealize.ShloMosaic.PureOps.Ideal
public import Idealize.ShloMosaic.PureOps.Vector
public import Idealize.ShloMosaic.Lib.Pointwise.ElementwiseCore

@[expose] public section

noncomputable section

namespace Cert.Train

open Idealize.ShloMosaic

variable {F : FTy → Type} [FloatOps F] {s : Shape}

/-- The running mean of the gradient. -/
abbrev moment1 (g m : s.Idx → Elt F .f32) : s.Idx → Elt F .f32 := fun i =>
  FloatOps.addf (FloatOps.mulf (Scalar.ofBits .f32 0x3F666666#32) (m i)) (FloatOps.mulf (Scalar.ofBits .f32 0x3DCCCCCD#32) (g i))

/-- The running mean of its square. -/
abbrev moment2 (g v : s.Idx → Elt F .f32) : s.Idx → Elt F .f32 := fun i =>
  FloatOps.addf (FloatOps.mulf (Scalar.ofBits .f32 0x3F7FBE77#32) (v i))
    (FloatOps.mulf (Scalar.ofBits .f32 0x3A83126F#32) (FloatOps.mulf (g i) (g i)))

/-- What is added to the weight: the corrected mean over the root of the corrected square, and the decay. -/
abbrev delta (g m v w : s.Idx → Elt F .f32) : s.Idx → Elt F .f32 := fun i =>
  FloatOps.mulf (Scalar.ofBits .f32 0xBA83126F#32)
    (FloatOps.addf
      (FloatOps.divf (FloatOps.divf (moment1 g m i) (Scalar.ofBits .f32 0x3F26BD02#32))
        (FloatOps.addf (FloatOps.sqrt (FloatOps.divf (moment2 g v i) (Scalar.ofBits .f32 0x3C231ACC#32))) (Scalar.ofBits .f32 0x322BCC77#32)))
      (FloatOps.mulf (Scalar.ofBits .f32 0x3C23D70A#32) (w i)))

/-- A constant spread over an array of shape `s`. -/
abbrev spread (h : (⟨0, ![]⟩ : Shape).BroadcastsInDim s (![] : Fin 0 → Fin s.rank)) (b : BitVec 32) : FVec F s .f32 :=
  broadcastInDim s ![] h (constant ⟨0, ![]⟩ .f32 b)

variable (h : (⟨0, ![]⟩ : Shape).BroadcastsInDim s (![] : Fin 0 → Fin s.rank))

/-- The first moment in whole-array operations, over any float values. -/
theorem host_moment1 (g m : FVec F s .f32) :
    addf (mulf (spread h 0x3F666666#32) m) (mulf (spread h 0x3DCCCCCD#32) g) = moment1 g m := rfl

/-- The second moment in whole-array operations, over any float values. -/
theorem host_moment2 (g v : FVec F s .f32) :
    addf (mulf (spread h 0x3F7FBE77#32) v) (mulf (spread h 0x3A83126F#32) (mulf g g)) = moment2 g v := rfl

/-- The change of the weights in whole-array operations, over the extended reals. -/
theorem host_delta (g m v w : FVec Ideal s .f32) :
    mulf (spread h 0xBA83126F#32)
        (addf (Host.divf (Host.divf (addf (mulf (spread h 0x3F666666#32) m) (mulf (spread h 0x3DCCCCCD#32) g)) (spread h 0x3F26BD02#32))
            (addf (Host.sqrt (Host.divf (addf (mulf (spread h 0x3F7FBE77#32) v) (mulf (spread h 0x3A83126F#32) (mulf g g)))
              (spread h 0x3C231ACC#32))) (spread h 0x322BCC77#32)))
          (mulf (spread h 0x3C23D70A#32) w)) = delta (F := Ideal) g m v w := rfl

/-- Three results that whole-array operations take of arguments equal to `w`, `g`, `m`, `v` are the step's results of those; what else
holds goes through. -/
theorem same_step {w g m v w' g' m' v' d p q : FVec Ideal s .f32} {rest : Prop} (args : w' = w ∧ g' = g ∧ m' = m ∧ v' = v)
    (results : d = mulf (spread h 0xBA83126F#32)
        (addf (Host.divf (Host.divf (addf (mulf (spread h 0x3F666666#32) m') (mulf (spread h 0x3DCCCCCD#32) g')) (spread h 0x3F26BD02#32))
            (addf (Host.sqrt (Host.divf (addf (mulf (spread h 0x3F7FBE77#32) v') (mulf (spread h 0x3A83126F#32) (mulf g' g')))
              (spread h 0x3C231ACC#32))) (spread h 0x322BCC77#32)))
          (mulf (spread h 0x3C23D70A#32) w'))
      ∧ p = addf (mulf (spread h 0x3F666666#32) m') (mulf (spread h 0x3DCCCCCD#32) g')
      ∧ q = addf (mulf (spread h 0x3F7FBE77#32) v') (mulf (spread h 0x3A83126F#32) (mulf g' g')) ∧ rest) :
    d = delta (F := Ideal) g m v w ∧ p = moment1 (F := Ideal) g m ∧ q = moment2 (F := Ideal) g v ∧ rest := by
  obtain ⟨rfl, rfl, rfl, rfl⟩ := args
  exact ⟨results.1.trans (host_delta h _ _ _ _), results.2.1.trans (host_moment1 h _ _), results.2.2.1.trans (host_moment2 h _ _),
    results.2.2.2⟩

end Cert.Train

end
-- ==== Proof.UpdateClaims.lean ====
/-
# What is claimed of the AdamW step

The step is one call per shape of weight. Of each: over the float formats' bits and over the extended reals its four arguments end unchanged
and every semaphore at zero, the reference likewise, and over the extended reals its three results are the reference's.
-/
module

public import proofs.«01_k».proof.Defs
public import proofs.«01_k».proof.Proof.Adam
public import proofs.«01_k».proof.Proof.Gen.UpGate.Frame
public import proofs.«01_k».proof.Proof.Gen.UpGateIdeal.Value
public import proofs.«01_k».proof.Proof.Gen.UpGateRefIdeal.Run
public import proofs.«01_k».proof.Proof.Gen.UpDown.Frame
public import proofs.«01_k».proof.Proof.Gen.UpDownIdeal.Value
public import proofs.«01_k».proof.Proof.Gen.UpDownRefIdeal.Run
public import proofs.«01_k».proof.Proof.Gen.UpIn.Frame
public import proofs.«01_k».proof.Proof.Gen.UpInIdeal.Value
public import proofs.«01_k».proof.Proof.Gen.UpInRefIdeal.Run
public import proofs.«01_k».proof.Proof.Gen.UpUq.Frame
public import proofs.«01_k».proof.Proof.Gen.UpUqIdeal.Value
public import proofs.«01_k».proof.Proof.Gen.UpUqRefIdeal.Run
public import proofs.«01_k».proof.Proof.Gen.UpUkv.Frame
public import proofs.«01_k».proof.Proof.Gen.UpUkvIdeal.Value
public import proofs.«01_k».proof.Proof.Gen.UpUkvRefIdeal.Run
public import proofs.«01_k».proof.Proof.Gen.UpOut.Frame
public import proofs.«01_k».proof.Proof.Gen.UpOutIdeal.Value
public import proofs.«01_k».proof.Proof.Gen.UpOutRefIdeal.Run
public import proofs.«01_k».proof.Proof.Gen.UpConv.Frame
public import proofs.«01_k».proof.Proof.Gen.UpConvIdeal.Value
public import proofs.«01_k».proof.Proof.Gen.UpConvRefIdeal.Run
public import proofs.«01_k».proof.Proof.Gen.UpVectors.Frame
public import proofs.«01_k».proof.Proof.Gen.UpVectorsIdeal.Value
public import proofs.«01_k».proof.Proof.Gen.UpVectorsRefIdeal.Run
public import Idealize.ShloMosaic.Lib.Quiescent

@[expose] public section

noncomputable section

namespace Cert.UpdateProof

open Idealize.ShloMosaic Idealize.SL.Sem

/-! ## A feed-forward layer's gate or up weight: 2048 rows of 352 -/

theorem gate_kernel : Cert.quiescent_UpGate := fun m g _ => UpGate.Gen.frame m g

theorem gate_ideal : Cert.quiescent_UpGateIdeal := fun m g _ => UpGateIdeal.Gen.frame m g

theorem gate_reference : Cert.quiescent_UpGateRefIdeal := fun m g _ =>
  (θ_run UpGateRefIdeal.defs _ _).mono (fun r h => ⟨fun c => (h c).2.2.2, sem_eq_zero_of_no_sems (by decide) r.2⟩)
    (UpGateRefIdeal.Value.run (F := Ideal) m g)

theorem gate_value : Cert.algebraic_UpGateIdeal_UpGateRefIdeal := fun m g m' g' _ h =>
  ⟨_, _, _, UpGateIdeal.Value.run (F := Ideal) m g,
    (θ_run UpGateRefIdeal.defs _ _).mono (fun _ hr c => Train.same_step _ (h c) (hr c)) (UpGateRefIdeal.Value.run (F := Ideal) m' g')⟩

/-! ## A feed-forward layer's down weight: 704 rows of 1024 -/

theorem down_kernel : Cert.quiescent_UpDown := fun m g _ => UpDown.Gen.frame m g

theorem down_ideal : Cert.quiescent_UpDownIdeal := fun m g _ => UpDownIdeal.Gen.frame m g

theorem down_reference : Cert.quiescent_UpDownRefIdeal := fun m g _ =>
  (θ_run UpDownRefIdeal.defs _ _).mono (fun r h => ⟨fun c => (h c).2.2.2, sem_eq_zero_of_no_sems (by decide) r.2⟩)
    (UpDownRefIdeal.Value.run (F := Ideal) m g)

theorem down_value : Cert.algebraic_UpDownIdeal_UpDownRefIdeal := fun m g m' g' _ h =>
  ⟨_, _, _, UpDownIdeal.Value.run (F := Ideal) m g,
    (θ_run UpDownRefIdeal.defs _ _).mono (fun _ hr c => Train.same_step _ (h c) (hr c)) (UpDownRefIdeal.Value.run (F := Ideal) m' g')⟩

/-! ## The input weight of attention: 2048 rows of 212 -/

theorem in_kernel : Cert.quiescent_UpIn := fun m g _ => UpIn.Gen.frame m g

theorem in_ideal : Cert.quiescent_UpInIdeal := fun m g _ => UpInIdeal.Gen.frame m g

theorem in_reference : Cert.quiescent_UpInRefIdeal := fun m g _ =>
  (θ_run UpInRefIdeal.defs _ _).mono (fun r h => ⟨fun c => (h c).2.2.2, sem_eq_zero_of_no_sems (by decide) r.2⟩)
    (UpInRefIdeal.Value.run (F := Ideal) m g)

theorem in_value : Cert.algebraic_UpInIdeal_UpInRefIdeal := fun m g m' g' _ h =>
  ⟨_, _, _, UpInIdeal.Value.run (F := Ideal) m g,
    (θ_run UpInRefIdeal.defs _ _).mono (fun _ hr c => Train.same_step _ (h c) (hr c)) (UpInRefIdeal.Value.run (F := Ideal) m' g')⟩

/-! ## The query weight of attention: 768 rows of 96 -/

theorem uq_kernel : Cert.quiescent_UpUq := fun m g _ => UpUq.Gen.frame m g

theorem uq_ideal : Cert.quiescent_UpUqIdeal := fun m g _ => UpUqIdeal.Gen.frame m g

theorem uq_reference : Cert.quiescent_UpUqRefIdeal := fun m g _ =>
  (θ_run UpUqRefIdeal.defs _ _).mono (fun r h => ⟨fun c => (h c).2.2.2, sem_eq_zero_of_no_sems (by decide) r.2⟩)
    (UpUqRefIdeal.Value.run (F := Ideal) m g)

theorem uq_value : Cert.algebraic_UpUqIdeal_UpUqRefIdeal := fun m g m' g' _ h =>
  ⟨_, _, _, UpUqIdeal.Value.run (F := Ideal) m g,
    (θ_run UpUqRefIdeal.defs _ _).mono (fun _ hr c => Train.same_step _ (h c) (hr c)) (UpUqRefIdeal.Value.run (F := Ideal) m' g')⟩

/-! ## The key and value weight of attention: 512 rows of 128 -/

theorem ukv_kernel : Cert.quiescent_UpUkv := fun m g _ => UpUkv.Gen.frame m g

theorem ukv_ideal : Cert.quiescent_UpUkvIdeal := fun m g _ => UpUkvIdeal.Gen.frame m g

theorem ukv_reference : Cert.quiescent_UpUkvRefIdeal := fun m g _ =>
  (θ_run UpUkvRefIdeal.defs _ _).mono (fun r h => ⟨fun c => (h c).2.2.2, sem_eq_zero_of_no_sems (by decide) r.2⟩)
    (UpUkvRefIdeal.Value.run (F := Ideal) m g)

theorem ukv_value : Cert.algebraic_UpUkvIdeal_UpUkvRefIdeal := fun m g m' g' _ h =>
  ⟨_, _, _, UpUkvIdeal.Value.run (F := Ideal) m g,
    (θ_run UpUkvRefIdeal.defs _ _).mono (fun _ hr c => Train.same_step _ (h c) (hr c)) (UpUkvRefIdeal.Value.run (F := Ideal) m' g')⟩

/-! ## The output weight of attention: 256 rows of 1024 -/

theorem out_kernel : Cert.quiescent_UpOut := fun m g _ => UpOut.Gen.frame m g

theorem out_ideal : Cert.quiescent_UpOutIdeal := fun m g _ => UpOutIdeal.Gen.frame m g

theorem out_reference : Cert.quiescent_UpOutRefIdeal := fun m g _ =>
  (θ_run UpOutRefIdeal.defs _ _).mono (fun r h => ⟨fun c => (h c).2.2.2, sem_eq_zero_of_no_sems (by decide) r.2⟩)
    (UpOutRefIdeal.Value.run (F := Ideal) m g)

theorem out_value : Cert.algebraic_UpOutIdeal_UpOutRefIdeal := fun m g m' g' _ h =>
  ⟨_, _, _, UpOutIdeal.Value.run (F := Ideal) m g,
    (θ_run UpOutRefIdeal.defs _ _).mono (fun _ hr c => Train.same_step _ (h c) (hr c)) (UpOutRefIdeal.Value.run (F := Ideal) m' g')⟩

/-! ## The convolution's weight: 62 rows of 64 -/

theorem conv_kernel : Cert.quiescent_UpConv := fun m g _ => UpConv.Gen.frame m g

theorem conv_ideal : Cert.quiescent_UpConvIdeal := fun m g _ => UpConvIdeal.Gen.frame m g

theorem conv_reference : Cert.quiescent_UpConvRefIdeal := fun m g _ =>
  (θ_run UpConvRefIdeal.defs _ _).mono (fun r h => ⟨fun c => (h c).2.2.2, sem_eq_zero_of_no_sems (by decide) r.2⟩)
    (UpConvRefIdeal.Value.run (F := Ideal) m g)

theorem conv_value : Cert.algebraic_UpConvIdeal_UpConvRefIdeal := fun m g m' g' _ h =>
  ⟨_, _, _, UpConvIdeal.Value.run (F := Ideal) m g,
    (θ_run UpConvRefIdeal.defs _ _).mono (fun _ hr c => Train.same_step _ (h c) (hr c)) (UpConvRefIdeal.Value.run (F := Ideal) m' g')⟩

/-! ## The vectors, packed: 101 rows of 128 -/

theorem vectors_kernel : Cert.quiescent_UpVectors := fun m g _ => UpVectors.Gen.frame m g

theorem vectors_ideal : Cert.quiescent_UpVectorsIdeal := fun m g _ => UpVectorsIdeal.Gen.frame m g

theorem vectors_reference : Cert.quiescent_UpVectorsRefIdeal := fun m g _ =>
  (θ_run UpVectorsRefIdeal.defs _ _).mono (fun r h => ⟨fun c => (h c).2.2.2, sem_eq_zero_of_no_sems (by decide) r.2⟩)
    (UpVectorsRefIdeal.Value.run (F := Ideal) m g)

theorem vectors_value : Cert.algebraic_UpVectorsIdeal_UpVectorsRefIdeal := fun m g m' g' _ h =>
  ⟨_, _, _, UpVectorsIdeal.Value.run (F := Ideal) m g,
    (θ_run UpVectorsRefIdeal.defs _ _).mono (fun _ hr c => Train.same_step _ (h c) (hr c)) (UpVectorsRefIdeal.Value.run (F := Ideal) m' g')⟩

end Cert.UpdateProof

end
-- ==== Proof.SmallClaims.lean ====
/-
# What is claimed of the sum of the eight devices' small gradients

Over the float formats' bits and over the extended reals the eight arguments end unchanged and every semaphore at zero, the reference
likewise, and over the extended reals the result is the reference's: the eight arrays stacked and summed over the stack.
-/
module

public import proofs.«01_k».proof.Defs
public import proofs.«01_k».proof.Proof.Gen.Small.Frame
public import proofs.«01_k».proof.Proof.Gen.SmallIdeal.Value
public import proofs.«01_k».proof.Proof.Gen.SmallRefIdeal.Run
public import Idealize.ShloMosaic.Lib.Pointwise.Reduce
public import Idealize.ShloMosaic.Lib.Pointwise.SelectCore
public import Idealize.ShloMosaic.Lib.LayoutAt
public import Idealize.ShloMosaic.Lib.Quiescent

@[expose] public section

noncomputable section

namespace Cert.SmallProof

open Idealize.ShloMosaic Idealize.SL.Sem

/-- The packed gradients of one device. -/
abbrev Rows : Type := (⟨2, ![352, 128]⟩ : Shape).Idx → Elt Ideal .f32

section
open Cert.SmallRefIdeal Cert.SmallRefIdeal.Gen

/-- An array as a stack of one. -/
abbrev one (a : Rows) : (⟨S1x352x128, .f32⟩ : BufTy).Contents (Elt Ideal) := broadcastInDim S1x352x128 ![1, 2] bcast_S352x128_S1x352x128_1_2 a

/-- The eight arrays stacked. -/
abbrev stacked (a b c d e f g h : Rows) : (⟨S8x352x128, .f32⟩ : BufTy).Contents (Elt Ideal) :=
  concatenate S8x352x128 0 [⟨S1x352x128, one a⟩, ⟨S1x352x128, one b⟩, ⟨S1x352x128, one c⟩, ⟨S1x352x128, one d⟩, ⟨S1x352x128, one e⟩,
    ⟨S1x352x128, one f⟩, ⟨S1x352x128, one g⟩, ⟨S1x352x128, one h⟩]
    concatenates_S1x352x128_S1x352x128_S1x352x128_S1x352x128_S1x352x128_S1x352x128_S1x352x128_S1x352x128_S8x352x128_d0

/-- Row and column `i` of array `k` of the stack. -/
theorem stacked_at (p : Fin 8 → Rows) (k : Fin 8) (i : S352x128.Idx) :
    stacked (p 0) (p 1) (p 2) (p 3) (p 4) (p 5) (p 6) (p 7) (ValueIdx.ix3 k ⟨(i 0).val, (i 0).isLt⟩ ⟨(i 1).val, (i 1).isLt⟩) = p k i := by
  refine (concatenate_ofFn_unit_apply' (t := S8x352x128) 0 (fun n : Fin 8 => one (p n))
    concatenates_S1x352x128_S1x352x128_S1x352x128_S1x352x128_S1x352x128_S1x352x128_S1x352x128_S1x352x128_S8x352x128_d0 rfl _).trans ?_
  refine congrArg (p k) (funext fun a => Fin.ext ?_)
  match a with
  | ⟨0, _⟩ => rfl
  | ⟨1, _⟩ => rfl

/-- The stack summed over its first axis is the eight arrays added up. -/
theorem sum_stacked (a b c d e f g h : Rows) :
    Host.reduceAdd (F := Ideal) (φ := .f32) (stacked a b c d e f g h) (constant S_ .f32 0x00000000#32) reducesTo_S8x352x128_S352x128_d0 h_S_
      = SmallIdeal.Value.G8 (F := Ideal) a b c d e f g h := by
  funext i
  let p : Fin 8 → Rows := ![a, b, c, d, e, f, g, h]
  rw [Host.reduceAdd_apply, Ideal.hostReduceAdd_def, Ideal.hostReduceAdd_r3_a0]
  rw [show constant (F := Ideal) S_ .f32 0x00000000#32 (Shape.Idx.first h_S_) = (0 : EReal) from Ideal.ofBits_zero_f32, zero_add]
  refine (Finset.sum_congr rfl fun k _ => (stacked_at p k i : _)).trans ?_
  rw [Fin.sum_univ_eight]
  rfl

end

theorem frame_kernel : Cert.quiescent_Small := fun m g _ => Small.Gen.frame m g

theorem frame_ideal : Cert.quiescent_SmallIdeal := fun m g _ => SmallIdeal.Gen.frame m g

theorem frame_reference_ideal : Cert.quiescent_SmallRefIdeal := fun m g _ =>
  (θ_run SmallRefIdeal.defs _ _).mono (fun r h => ⟨fun c => (h c).2, sem_eq_zero_of_no_sems (by decide) r.2⟩)
    (SmallRefIdeal.Value.run (F := Ideal) m g)

theorem value_ideal : Cert.algebraic_SmallIdeal_SmallRefIdeal := fun m g m' g' _ h =>
  ⟨_, SmallIdeal.Value.run (F := Ideal) m g,
    (θ_run SmallRefIdeal.defs _ _).mono (fun _ hr c => by
      obtain ⟨h0, h1, h2, h3, h4, h5, h6, h7⟩ := h c
      obtain ⟨d, rest⟩ := hr c
      rw [h0, h1, h2, h3, h4, h5, h6, h7] at d
      exact ⟨d.trans (sum_stacked _ _ _ _ _ _ _ _), rest⟩) (SmallRefIdeal.Value.run (F := Ideal) m' g')⟩

end Cert.SmallProof

end
-- ==== Proof.LossNumbers.lean ====
/-
# The numbers of the loss

The reference divides each row's sum of squares by 1024, adds up the rows and halves; the kernel multiplies each row's sum by
2^-11 and adds the rows in groups. Squares are not negative, and extended reals that are not negative may be added up before
they are multiplied or after. The gradients differ by the order of the factors only.
-/
module

public import Idealize.ShloMosaic.PureOps.Ideal

@[expose] public section

noncomputable section

namespace Cert.LossProof

open Idealize.ShloMosaic

set_option Elab.async false

/-! ## The constants -/

theorem const_half : Ideal.ofBits .f32 0x3F000000#32 = ((1 / 2 : ℝ) : EReal) := by
  simp [Ideal.ofBits, Ideal.ieee]; rw [← EReal.coe_mul]; norm_num
theorem const_one : Ideal.ofBits .f32 0x3F800000#32 = ((1 : ℝ) : EReal) := by
  simp [Ideal.ofBits, Ideal.ieee]; rw [← EReal.coe_mul]; norm_num
theorem const_two : Ideal.ofBits .f32 0x40000000#32 = ((2 : ℝ) : EReal) := by
  simp [Ideal.ofBits, Ideal.ieee]; rw [← EReal.coe_mul]; norm_num
theorem const_width : Ideal.ofBits .f32 0x44800000#32 = ((1024 : ℝ) : EReal) := by
  simp [Ideal.ofBits, Ideal.ieee]; rw [← EReal.coe_mul]; norm_num
theorem const_row : Ideal.ofBits .f32 0x3A000000#32 = ((1 / 2048 : ℝ) : EReal) := by
  simp [Ideal.ofBits, Ideal.ieee]; rw [← EReal.coe_mul]; norm_num
theorem const_slope : Ideal.ofBits .f32 0x3A800000#32 = ((1 / 1024 : ℝ) : EReal) := by
  simp [Ideal.ofBits, Ideal.ieee]; rw [← EReal.coe_mul]; norm_num

/-- Division by the width. -/
theorem div_width (x : EReal) : Ideal.div x (Ideal.ofBits .f32 0x44800000#32) = x * ((1 / 1024 : ℝ) : EReal) := by
  rw [const_width]
  unfold Ideal.div
  rw [if_neg (by exact_mod_cast (by norm_num : (1024 : ℝ) ≠ 0)), ← EReal.coe_inv, one_div]

/-- Half of a row's mean is its sum times 2^-11. -/
theorem half_mean (x : EReal) :
    Ideal.ofBits .f32 0x3F000000#32 * Ideal.div x (Ideal.ofBits .f32 0x44800000#32) = x * Ideal.ofBits .f32 0x3A000000#32 := by
  rw [div_width, const_half, const_row, mul_comm, mul_assoc, ← EReal.coe_mul]
  norm_num

/-- The gradient's factors, in the reference's order and in the kernel's. -/
theorem slope_factors (e : EReal) :
    Ideal.div (Ideal.ofBits .f32 0x3F000000#32 * Ideal.ofBits .f32 0x3F800000#32) (Ideal.ofBits .f32 0x44800000#32)
        * (Ideal.ofBits .f32 0x40000000#32 * e) = e * Ideal.ofBits .f32 0x3A800000#32 := by
  rw [div_width, const_half, const_one, const_two, const_slope, ← mul_assoc, ← EReal.coe_mul, ← EReal.coe_mul, ← EReal.coe_mul, mul_comm]
  norm_num

/-! ## Sums -/

theorem square_nonneg (x : EReal) : 0 ≤ x * x := by
  rcases le_total 0 x with h | h
  · exact mul_nonneg h h
  · rw [← neg_mul_neg]
    have : 0 ≤ -x := EReal.neg_nonneg.mpr h
    exact mul_nonneg this this

/-- A factor of every term is a factor of the sum, when no term is negative. -/
theorem sum_factor {ι : Type*} (s : Finset ι) (f : ι → EReal) (hf : ∀ i, 0 ≤ f i) (a : EReal) : ∑ i ∈ s, f i * a = (∑ i ∈ s, f i) * a := by
  classical
  induction s using Finset.induction_on with
  | empty => simp
  | insert i s hi ih =>
    rw [Finset.sum_insert hi, Finset.sum_insert hi, ih, EReal.right_distrib_of_nonneg (hf i) (Finset.sum_nonneg fun j _ => hf j)]

/-- A sum in groups of `n` is the whole sum. -/
theorem sum_groups {M : Type*} [AddCommMonoid M] (m n : ℕ) (f : ℕ → M) :
    ∑ a : Fin m, ∑ b : Fin n, f (a.val * n + b.val) = ∑ r : Fin (m * n), f r.val := by
  rw [← Fintype.sum_prod_type' (fun (a : Fin m) (b : Fin n) => f (a.val * n + b.val)), ← Equiv.sum_comp finProdFinEquiv]
  refine Finset.sum_congr rfl fun p _ => congrArg f ?_
  rw [finProdFinEquiv_apply_val, mul_comm, add_comm]

/-- Eight devices, eight steps, 512 rows. -/
theorem sum_rows {M : Type*} [AddCommMonoid M] (f : ℕ → M) :
    ∑ c : Fin 8, ∑ t : Fin 8, ∑ i : Fin 512, f (c.val * 4096 + (t.val * 512 + i.val)) = ∑ r : Fin 32768, f r.val := by
  have h (c : Fin 8) : ∑ t : Fin 8, ∑ i : Fin 512, f (c.val * 4096 + (t.val * 512 + i.val)) = ∑ r : Fin 4096, f (c.val * 4096 + r.val) :=
    sum_groups 8 512 fun r => f (c.val * 4096 + r)
  rw [Finset.sum_congr rfl fun c _ => h c]
  exact sum_groups 8 4096 f

/-- Half the sum of the means of rows, as the reference and as the kernel has it. -/
theorem half_means (S : ℕ → EReal) (hS : ∀ r, 0 ≤ S r) :
    Ideal.ofBits .f32 0x3F000000#32 * ∑ r : Fin 32768, Ideal.div (S r.val) (Ideal.ofBits .f32 0x44800000#32)
      = ∑ c : Fin 8, ∑ t : Fin 8, ∑ i : Fin 512, S (c.val * 4096 + (t.val * 512 + i.val)) * Ideal.ofBits .f32 0x3A000000#32 := by
  rw [sum_rows fun r => S r * Ideal.ofBits .f32 0x3A000000#32, sum_factor _ (fun r : Fin 32768 => S r.val) (fun r => hS r.val), ← half_mean]
  refine congrArg (Ideal.ofBits .f32 0x3F000000#32 * ·) ?_
  rw [div_width, ← sum_factor _ (fun r : Fin 32768 => S r.val) (fun r => hS r.val)]
  exact Finset.sum_congr rfl fun r _ => div_width _

end Cert.LossProof

end
-- ==== Proof.NormNumbers.lean ====
/-
# The numbers of the normalisation's gradient

A row of the layer's input `x` is divided by the square root of its mean square, a small number added. Take that mean `v`, the
inverse root `r`, the incoming gradient times the weight `d`, and the row's sum `s` of `x` times `d`. The kernel's gradient is
`r * (d - (x * r) * (the mean of d * (x * r)))`. The reference's comes in three parts: `d * r` from the product, and twice
`x` times a half of `- s * r / v / 1024` from the mean square. When `v` is finite it is positive, so `r` is a positive number,
multiplies sums, and `r / v` is its cube. When `v` is infinite `r` is zero and so are all these terms.
-/
module

public import proofs.«01_k».proof.Proof.LossNumbers

@[expose] public section

noncomputable section

namespace Cert.NormProof

open Idealize.ShloMosaic
open Cert.LossProof (div_width)

set_option Elab.async false

/-! ## The constants -/

/-- The small number. -/
theorem const_small : ∃ e : ℝ, 0 < e ∧ Ideal.ofBits .f32 0x358637BD#32 = (e : EReal) := by
  refine ⟨(8796093 : ℝ) * (2 : ℝ) ^ (-43 : ℤ), by positivity, ?_⟩
  simp [Ideal.ofBits, Ideal.ieee]

theorem const_minus_half : Ideal.ofBits .f32 0xBF000000#32 = ((-(1 / 2) : ℝ) : EReal) := by
  simp [Ideal.ofBits, Ideal.ieee]; rw [← EReal.coe_mul]; norm_num

/-! ## Sums -/

/-- A factor that is a number and not negative multiplies a sum term by term. -/
theorem sum_real_factor {ι : Type*} (s : Finset ι) (f : ι → EReal) (r : ℝ) (hr : 0 ≤ r) : ∑ i ∈ s, f i * (r : EReal) = (∑ i ∈ s, f i) * (r : EReal) := by
  classical
  induction s using Finset.induction_on with
  | empty => simp
  | insert i s hi ih =>
    rw [Finset.sum_insert hi, Finset.sum_insert hi, ih, EReal.right_distrib_of_nonneg_of_ne_top (by exact_mod_cast hr) (EReal.coe_ne_top r)]

/-- Two halves of a negative make the whole. -/
theorem two_halves (z : EReal) : z * ((-(1 / 2) : ℝ) : EReal) + z * ((-(1 / 2) : ℝ) : EReal) = -z := by
  induction z with
  | bot =>
    rw [EReal.bot_mul_coe_of_neg (by norm_num)]; rfl
  | top =>
    rw [EReal.top_mul_coe_of_neg (by norm_num)]; rfl
  | coe z =>
    rw [← EReal.coe_mul, ← EReal.coe_add, ← EReal.coe_neg]
    exact congrArg _ (by ring)

/-! ## A row -/

/-- The mean square with the small number added. -/
def spread (q : EReal) : EReal := Ideal.div q (Ideal.ofBits .f32 0x44800000#32) + Ideal.ofBits .f32 0x358637BD#32
/-- The inverse root. -/
def scale (q : EReal) : EReal := Ideal.rsqrt (spread q)

/-- A mean square is infinite or a positive number. -/
theorem spread_cases (q : EReal) (hq : 0 ≤ q) : spread q = ⊤ ∨ ∃ v : ℝ, 0 < v ∧ spread q = (v : EReal) := by
  obtain ⟨e, he, h⟩ := const_small
  unfold spread
  rw [div_width, h]
  induction q with
  | bot => exact absurd hq (by simp)
  | top => left; rw [EReal.top_mul_coe_of_pos (by norm_num)]; rfl
  | coe q =>
    right
    refine ⟨q * (1 / 1024) + e, ?_, ?_⟩
    · have : 0 ≤ q := by exact_mod_cast hq
      positivity
    · rw [EReal.coe_add, EReal.coe_mul]

/-- The kernel's element of the gradient, -/
def kernelAt (q : EReal) (x d : Fin 1024 → EReal) (x₀ d₀ y : EReal) : EReal :=
  y + scale q * (d₀ - x₀ * scale q * Ideal.div (∑ k : Fin 1024, d k * (x k * scale q)) (Ideal.ofBits .f32 0x44800000#32))
/-- half of the part of the reference's that comes from the mean square, -/
def fromMean (q s : EReal) : EReal :=
  Ideal.div (s * (Ideal.ofBits .f32 0xBF000000#32 * Ideal.div (scale q) (spread q))) (Ideal.ofBits .f32 0x44800000#32)
/-- and the reference's. -/
def referenceAt (q : EReal) (x d : Fin 1024 → EReal) (x₀ d₀ y : EReal) : EReal :=
  y + d₀ * scale q + x₀ * fromMean q (∑ k : Fin 1024, x k * d k) + fromMean q (∑ k : Fin 1024, x k * d k) * x₀

/-- They are equal. -/
theorem row_eq (q : EReal) (hq : 0 ≤ q) (x d : Fin 1024 → EReal) (x₀ d₀ y : EReal) : kernelAt q x d x₀ d₀ y = referenceAt q x d x₀ d₀ y := by
  unfold kernelAt referenceAt fromMean
  rcases spread_cases q hq with h | ⟨v, hv, h⟩
  · have hr : scale q = 0 := by unfold scale; rw [h]; rfl
    have hd : Ideal.div (scale q) (spread q) = 0 := by
      rw [hr, h]; unfold Ideal.div; rw [if_neg (by simp), zero_mul]
    rw [hd, hr, div_width, div_width]
    simp
  · obtain ⟨r, hr0, hr, hrv⟩ : ∃ r : ℝ, 0 < r ∧ scale q = (r : EReal) ∧ r * r * v = 1 := by
      refine ⟨(Real.sqrt v)⁻¹, inv_pos.mpr (Real.sqrt_pos.mpr hv), ?_, ?_⟩
      · unfold scale; rw [h, Ideal.rsqrt_coe, if_neg (by linarith), if_neg (by linarith)]
      · rw [← mul_inv, Real.mul_self_sqrt hv.le, inv_mul_cancel₀ hv.ne']
    have hd : Ideal.div (scale q) (spread q) = ((r * r * r : ℝ) : EReal) := by
      rw [hr, h]; unfold Ideal.div
      rw [if_neg (by exact_mod_cast hv.ne'), ← EReal.coe_inv, ← EReal.coe_mul]
      refine congrArg _ ?_
      rw [← eq_inv_of_mul_eq_one_left hrv]; ring
    rw [hd, hr, div_width, div_width, const_minus_half]
    have hs : ∑ k : Fin 1024, d k * (x k * (r : EReal)) = (∑ k : Fin 1024, x k * d k) * (r : EReal) := by
      rw [← sum_real_factor _ _ r hr0.le]
      exact Finset.sum_congr rfl fun k _ => by rw [← mul_assoc, mul_comm (d k)]
    rw [hs]
    generalize ∑ k : Fin 1024, x k * d k = s
    have hk : (r : EReal) * (d₀ - x₀ * r * (s * r * ((1 / 1024 : ℝ) : EReal)))
        = d₀ * r + -(x₀ * s * ((r * r * r * (1 / 1024) : ℝ) : EReal)) := by
      rw [sub_eq_add_neg, mul_comm, EReal.right_distrib_of_nonneg_of_ne_top (by exact_mod_cast hr0.le) (EReal.coe_ne_top r), EReal.neg_mul]
      refine congrArg (d₀ * (r : EReal) + -·) ?_
      simp only [EReal.coe_mul]
      ac_rfl
    have hz : x₀ * (s * (((-(1 / 2) : ℝ) : EReal) * ((r * r * r : ℝ) : EReal)) * ((1 / 1024 : ℝ) : EReal))
        = x₀ * s * ((r * r * r * (1 / 1024) : ℝ) : EReal) * ((-(1 / 2) : ℝ) : EReal) := by
      simp only [EReal.coe_mul]
      ac_rfl
    rw [hk, mul_comm (s * _ * _) x₀, hz, add_assoc (y + d₀ * (r : EReal)), two_halves, add_assoc]

end Cert.NormProof

end
-- ==== Proof.NormReference.lean ====
/-
# The reference's gradients of the normalisation, element by element

The reference differentiates the normalisation: the product gives one part of the gradient of `x`, and the mean square, in which
`x` is a factor twice, gives two equal parts.
-/
module

public import proofs.«01_k».proof.Proof.NormNumbers
public import proofs.«01_k».proof.Proof.Gen.NormRefIdeal
public import Idealize.ShloMosaic.Lib.LayoutAt
public import Idealize.ShloMosaic.Lib.ValueIdxCore
public import Idealize.ShloMosaic.Lib.Pipeline.Value
public import Idealize.ShloMosaic.Lib.Pointwise.Reduce

@[expose] public section

noncomputable section

namespace Cert.NormProof.Reference

open Cert.NormRefIdeal Cert.NormRefIdeal.Gen
open Idealize.ShloMosaic
open Cert.NormProof

set_option Elab.async false

variable (x dh dy : S4096x1024.Idx → Elt Ideal .f32) (g : S1x1024.Idx → Elt Ideal .f32)

/-- The rows' mean squares with the small number added, -/
def spreads : S4096x1.Idx → Elt Ideal .f32 :=
  addf (F := Ideal) (φ := .f32) (Host.divf (broadcastInDim S4096x1 ![0] bcast_S4096_S4096x1_0 (Host.reduceAdd (mulf x x) (constant S_ .f32 0x00000000#32) reducesTo_S4096x1024_S4096_d1 h_S_))
    (broadcastInDim S4096x1 ![] bcast_S_S4096x1 (constant S_ .f32 0x44800000#32))) (broadcastInDim S4096x1 ![] bcast_S_S4096x1 (constant S_ .f32 0x358637BD#32))
/-- their inverse roots, -/
def scales : S4096x1.Idx → Elt Ideal .f32 := Host.rsqrt (F := Ideal) (φ := .f32) (spreads x)
/-- the incoming gradient times the weight, -/
def weighted : S4096x1024.Idx → Elt Ideal .f32 :=
  mulf (F := Ideal) (φ := .f32) dh (broadcastInDim S4096x1024 ![0, 1] bcast_S1x1024_S4096x1024_0_1 g)
/-- what comes from the mean squares, -/
def fromMeans : S4096x1024.Idx → Elt Ideal .f32 :=
  broadcastInDim S4096x1024 ![0] bcast_S4096_S4096x1024_0 (Host.reduceAdd (F := Ideal) (φ := .f32) (Host.divf (mulf (shapeCast S4096x1 (Host.reduceAdd (mulf x (weighted dh g)) (constant S_ .f32 0x00000000#32) reducesTo_S4096x1024_S4096_d1 h_S_) shapeCasts_S4096_S4096x1)
    (mulf (broadcastInDim S4096x1 ![] bcast_S_S4096x1 (constant S_ .f32 0xBF000000#32)) (Host.divf (scales x) (spreads x))))
    (broadcastInDim S4096x1 ![] bcast_S_S4096x1 (constant S_ .f32 0x44800000#32))) (constant S_ .f32 0x00000000#32) reducesTo_S4096x1_S4096_d1 h_S_)
/-- the gradient of `x`, -/
def gradX : S4096x1024.Idx → Elt Ideal .f32 :=
  addf (F := Ideal) (φ := .f32) (addf (addf dy (mulf (weighted dh g) (broadcastInDim S4096x1024 ![0, 1] bcast_S4096x1_S4096x1024_0_1 (scales x)))) (mulf x (fromMeans x dh g))) (mulf (fromMeans x dh g) x)
/-- and the weight's. -/
def gradWeight : S1x1024.Idx → Elt Ideal .f32 :=
  shapeCast S1x1024 (Host.reduceAdd (F := Ideal) (φ := .f32) (mulf (mulf x (broadcastInDim S4096x1024 ![0, 1] bcast_S4096x1_S4096x1024_0_1 (scales x))) dh) (constant S_ .f32 0x00000000#32) reducesTo_S4096x1024_S1024_d0 h_S_) shapeCasts_S1024_S1x1024

theorem zero_first : constant (F := Ideal) S_ .f32 0x00000000#32 (Shape.Idx.first h_S_) = (0 : EReal) := Ideal.ofBits_zero_f32

/-- The sum of a row's squares. -/
def squares (r : Fin 4096) : EReal := ∑ k : Fin 1024, (show EReal from x (ValueIdx.ix2 r k)) * (show EReal from x (ValueIdx.ix2 r k))

theorem squares_nonneg (r : Fin 4096) : 0 ≤ squares x r := Finset.sum_nonneg fun _ _ => Cert.LossProof.square_nonneg _

theorem spreads_at (r : Fin 4096) (j : Fin 1) : spreads x (ValueIdx.ix2 r j) = spread (squares x r) := by
  unfold spreads spread
  refine congrArg (fun q : EReal => Ideal.div q (Ideal.ofBits .f32 0x44800000#32) + Ideal.ofBits .f32 0x358637BD#32) ?_
  refine (broadcastInDim_apply _ _ _ _ (ix1 r) fun a => match a with | ⟨0, _⟩ => rfl).trans ?_
  rw [Host.reduceAdd_apply, Ideal.hostReduceAdd_def, Ideal.hostReduceAdd_r2_a1, zero_first, zero_add]
  rfl

theorem scales_at (r : Fin 4096) (j : Fin 1) : scales x (ValueIdx.ix2 r j) = scale (squares x r) :=
  congrArg Ideal.rsqrt (spreads_at x r j)

theorem scales_along (i : S4096x1024.Idx) :
    broadcastInDim S4096x1024 ![0, 1] bcast_S4096x1_S4096x1024_0_1 (scales x) i = scale (squares x ⟨(i 0).val, (i 0).isLt⟩) :=
  (broadcastInDim_apply _ _ _ _ (ValueIdx.ix2 ⟨(i 0).val, (i 0).isLt⟩ 0) fun a => match a with | ⟨0, _⟩ => rfl | ⟨1, _⟩ => rfl).trans (scales_at x _ _)

theorem weighted_at (i : S4096x1024.Idx) :
    weighted dh g i = (show EReal from dh i) * (show EReal from g (ValueIdx.ix2 0 ⟨(i 1).val, (i 1).isLt⟩)) :=
  congrArg (fun a : EReal => (show EReal from dh i) * a)
    (broadcastInDim_apply _ _ _ _ (ValueIdx.ix2 0 ⟨(i 1).val, (i 1).isLt⟩) fun a => match a with | ⟨0, _⟩ => rfl | ⟨1, _⟩ => rfl)

theorem fromMeans_at (i : S4096x1024.Idx) :
    fromMeans x dh g i = fromMean (squares x ⟨(i 0).val, (i 0).isLt⟩) (∑ k : Fin 1024, (show EReal from x (ValueIdx.ix2 ⟨(i 0).val, (i 0).isLt⟩ k))
      * ((show EReal from dh (ValueIdx.ix2 ⟨(i 0).val, (i 0).isLt⟩ k)) * (show EReal from g (ValueIdx.ix2 0 k)))) := by
  unfold fromMeans
  refine (broadcastInDim_apply _ _ _ _ (ix1 (⟨(i 0).val, (i 0).isLt⟩ : Fin 4096)) fun a => match a with | ⟨0, _⟩ => rfl).trans ?_
  rw [Host.reduceAdd_apply, Ideal.hostReduceAdd_def, Ideal.hostReduceAdd_r2_a1, zero_first, zero_add]
  refine (Fin.sum_univ_one _).trans ?_
  show Ideal.div ((show EReal from shapeCast S4096x1 _ shapeCasts_S4096_S4096x1 (ValueIdx.ix2 (⟨(i 0).val, (i 0).isLt⟩ : Fin 4096) (0 : Fin 1)))
    * (Ideal.ofBits .f32 0xBF000000#32 * Ideal.div (show EReal from scales x (ValueIdx.ix2 (⟨(i 0).val, (i 0).isLt⟩ : Fin 4096) (0 : Fin 1)))
      (show EReal from spreads x (ValueIdx.ix2 (⟨(i 0).val, (i 0).isLt⟩ : Fin 4096) (0 : Fin 1))))) (Ideal.ofBits .f32 0x44800000#32) = _
  dsimp only
  rw [scales_at, spreads_at]
  unfold fromMean
  refine congrArg (fun s : EReal => Ideal.div (s * (Ideal.ofBits .f32 0xBF000000#32 * Ideal.div (scale (squares x ⟨(i 0).val, (i 0).isLt⟩)) (spread (squares x ⟨(i 0).val, (i 0).isLt⟩))))
    (Ideal.ofBits .f32 0x44800000#32)) ?_
  refine (shapeCast_apply _ _ _ (ix1 (⟨(i 0).val, (i 0).isLt⟩ : Fin 4096)) ?_).trans ?_
  · rw [Shape.rowMajor_val_one, Shape.rowMajor_val_two]
    show (i 0).val = (i 0).val * 1 + 0
    omega
  rw [Host.reduceAdd_apply, Ideal.hostReduceAdd_def, Ideal.hostReduceAdd_r2_a1, zero_first, zero_add]
  refine Finset.sum_congr rfl fun k _ => ?_
  exact congrArg (fun a : EReal => (show EReal from x (ValueIdx.ix2 ⟨(i 0).val, (i 0).isLt⟩ k)) * a) (weighted_at dh g _)

/-- An element of the gradient of `x`, -/
theorem gradX_at (i : S4096x1024.Idx) :
    gradX x dh dy g i = referenceAt (squares x ⟨(i 0).val, (i 0).isLt⟩)
      (fun k => x (ValueIdx.ix2 ⟨(i 0).val, (i 0).isLt⟩ k)) (fun k => (show EReal from dh (ValueIdx.ix2 ⟨(i 0).val, (i 0).isLt⟩ k)) * (show EReal from g (ValueIdx.ix2 0 k)))
      (x i) ((show EReal from dh i) * (show EReal from g (ValueIdx.ix2 0 ⟨(i 1).val, (i 1).isLt⟩))) (dy i) := by
  show (show EReal from dy i) + (show EReal from weighted dh g i) * (show EReal from broadcastInDim S4096x1024 ![0, 1] bcast_S4096x1_S4096x1024_0_1 (scales x) i)
    + (show EReal from x i) * (show EReal from fromMeans x dh g i) + (show EReal from fromMeans x dh g i) * (show EReal from x i) = _
  dsimp only
  rw [weighted_at, scales_along, fromMeans_at]
  rfl

/-- and of the weight's. -/
theorem gradWeight_at (j : S1x1024.Idx) :
    gradWeight x dh j = ∑ r : Fin 4096, (show EReal from x (ValueIdx.ix2 r (⟨(j 1).val, (j 1).isLt⟩ : Fin 1024))) * scale (squares x r)
      * (show EReal from dh (ValueIdx.ix2 r (⟨(j 1).val, (j 1).isLt⟩ : Fin 1024))) := by
  unfold gradWeight
  refine (shapeCast_apply _ _ j (ix1 (⟨(j 1).val, (j 1).isLt⟩ : Fin 1024)) ?_).trans ?_
  · rw [Shape.rowMajor_val_one, Shape.rowMajor_val_two]
    show (j 1).val = (j 0).val * 1024 + (j 1).val
    have h : (j 0).val < 1 := (j 0).isLt
    omega
  rw [Host.reduceAdd_apply, Ideal.hostReduceAdd_def, Ideal.hostReduceAdd_r2_a0, zero_first, zero_add]
  refine Finset.sum_congr rfl fun r _ => ?_
  exact congrArg (fun a : EReal => (show EReal from x (ValueIdx.ix2 r (⟨(j 1).val, (j 1).isLt⟩ : Fin 1024))) * a
    * (show EReal from dh (ValueIdx.ix2 r (⟨(j 1).val, (j 1).isLt⟩ : Fin 1024)))) (scales_along x _)

end Cert.NormProof.Reference

end
-- ==== Proof.NormTile.lean ====
/-
# What the normalisation's gradient leaves

The call takes 512 rows at a time. Of each it writes the rows of the gradient of `x`, and it adds the rows' part of the weight's
gradient to a row that the first step sets to zero. Here is what each step leaves, and what the arrays hold at the end.
-/
module

public import proofs.«01_k».proof.Proof.Whole
public import proofs.«01_k».proof.Proof.Gen.NormIdeal.Value
public import Idealize.ShloMosaic.Lib.ValueIdxCore
public import Idealize.ShloMosaic.Lib.Pipeline.ValueKit.Geometry

@[expose] public section

noncomputable section

namespace Cert.NormProof

open Cert.NormIdeal Cert.NormIdeal.Gen Cert.Train
open Idealize.ShloMosaic Idealize.ShloMosaic.TcCoe
open Idealize.ShloMosaic.Pipeline

set_option Elab.async false

variable {F : FTy → Type} [FloatOps F]

/-- A step's rows, a row, and all the rows. -/
abbrev Rows : Shape := S512x1024
abbrev Row : Shape := S1x1024
abbrev All : Shape := S4096x1024

theorem zeros : ∀ a : Fin 2, (![0, 0] : Fin 2 → ℕ) a = 0 := by decide

/-- A store at every element, whatever was stored before, read back. -/
theorem last_store (v : View sig .tc .vmem Row .f32) (f : v.ty.Contents (Elt F)) (x : Row.Idx → Elt F .f32) (L : List (View.Piece (Elt F) Row .f32)) :
    v.read (Elt F) (v.writes (Elt F) f (⟨Rect.unit (s := Row) ![0, 0] Row.size inb_S1x1024_S1x1024_0_0, x⟩ :: L)) = x := by
  funext y
  have he : (Rect.unit (s := Row) ![0, 0] Row.size inb_S1x1024_S1x1024_0_0).emb y = y :=
    funext fun a => Fin.ext (by rw [ValueKit.rect_emb_unit_val, zeros a, Nat.zero_add])
  exact (congrArg _ he.symm).trans (View.read_writes_cons_emb (v := v) (f := f) (Rect.unit (s := Row) ![0, 0] Row.size inb_S1x1024_S1x1024_0_0) x L y)

/-! ## One step -/

section
variable (c : Dev nD) (i : grid0.Coords)
  (M1 : Memref sig .tc .vmem Rows .f32) (h1 : M1.IsWhole) (M2 : Memref sig .tc .vmem Row .f32) (h2 : M2.IsWhole)
  (M3 : Memref sig .tc .vmem Rows .f32) (h3 : M3.IsWhole) (M4 : Memref sig .tc .vmem Rows .f32) (h4 : M4.IsWhole)
  (M5 : Memref sig .tc .vmem Rows .f32) (h5 : M5.IsWhole) (M6 : Memref sig .tc .vmem Row .f32) (h6 : M6.IsWhole)
  (x : Rows.Idx → Elt F .f32) (g : Row.Idx → Elt F .f32) (dh dy : Rows.Idx → Elt F .f32)

/-- A load of a whole buffer that holds `v`. -/
theorem load_rows (M : Memref sig .tc .vmem Rows .f32) (h : M.IsWhole) (v : Rows.Idx → Elt F .f32) :
    M.view.readAt (Elt F) (Rect.unit (s := Rows) ![0, 0] Rows.size inb_S512x1024_S512x1024_0_0).toLoadRect (h.unread v) = v :=
  (whole_load M.view zeros _ _).trans (h.read_unread v)
theorem load_row (M : Memref sig .tc .vmem Row .f32) (h : M.IsWhole) (v : Row.Idx → Elt F .f32) :
    M.view.readAt (Elt F) (Rect.unit (s := Row) ![0, 0] Row.size inb_S1x1024_S1x1024_0_0).toLoadRect (h.unread v) = v :=
  (whole_load M.view zeros _ _).trans (h.read_unread v)

/-- Every step leaves its rows of the gradient of `x`, -/
theorem rows_first (hc) : out0_A_4 c i M1 h1 M2 h2 M3 h3 M4 h4 M5 h5 M6 h6 hc x g dh dy = k0_pay3 x dh g dy := by
  unfold out0_A_4
  refine (whole_store VO0_4 _ zeros inb_S512x1024_S512x1024_0_0 _).trans ?_
  rw [load_rows M1 h1 x, load_rows M3 h3 dh, load_row M2 h2 g, load_rows M4 h4 dy]
theorem rows_later (hc) (w : Row.Idx → Elt F .f32) : out0_B_4 c i M1 h1 M2 h2 M3 h3 M4 h4 M5 h5 M6 h6 hc x g dh dy w = k0_pay3 x dh g dy := by
  unfold out0_B_4
  refine (whole_store VO0_4 _ zeros inb_S512x1024_S512x1024_0_0 _).trans ?_
  rw [load_rows M1 h1 x, load_rows M3 h3 dh, load_row M2 h2 g, load_rows M4 h4 dy]
/-- and its part added to the row: to zeros, the first, and a later one to what the step before left. -/
theorem row_first (hc) : out0_A_5 c i M1 h1 M2 h2 M3 h3 M4 h4 M5 h5 M6 h6 hc x g dh dy = k0_pay5 x dh k0_pay4 := by
  unfold out0_A_5
  refine (last_store VO0_5 _ _ _).trans ?_
  unfold kernelRun0_A.sl.r kernelRun0_A.sl.v31 kernelRun0_A.sl.H5_1
  rw [load_rows M1 h1 x, load_rows M3 h3 dh]
  have hz : (![0, 0] : Fin Row.rank → ℕ) = fun _ => 0 := funext zeros
  rw [View.readCov_unit_zero (Val := Elt F) (S := Row) M6.view hz]
theorem row_later (hc) (w : Row.Idx → Elt F .f32) : out0_B_5 c i M1 h1 M2 h2 M3 h3 M4 h4 M5 h5 M6 h6 hc x g dh dy w = k0_pay5 x dh w := by
  unfold out0_B_5
  refine (last_store VO0_5 _ _ _).trans ?_
  unfold kernelRun0_B.sl.r
  rw [load_rows M1 h1 x, load_rows M3 h3 dh, load_row M6 h6 w]

end

/-! ## The arrays -/

theorem step_word (i : grid0.Coords) : (BitVec.ofNat 32 (i 0).val).toNat = (i 0).val := by
  rw [BitVec.toNat_ofNat]; exact Nat.mod_eq_of_lt (lt_trans (i 0).isLt (by decide))

theorem point (t : Fin grid0.N) : (grid0.coords t 0).val = t.val := by
  have ht : t.val < 8 := Nat.lt_of_lt_of_eq t.isLt N_0
  have e : (grid0.coords t 0).val = t.val / 1 % 8 := Pipeline.Grid.coords_val t 0 (by decide) rfl
  rw [e]; omega

/-- Where row `y` of step `t` lies. -/
def spot (t : Fin grid0.N) (y : Rows.Idx) : All.Idx :=
  ValueIdx.ix2 ⟨t.val * 512 + (y 0).val, by
    have h : t.val < 8 := Nat.lt_of_lt_of_eq t.isLt N_0
    have h0 : (y 0).val < 512 := (y 0).isLt
    omega⟩ ⟨(y 1).val, (y 1).isLt⟩

theorem step_index (t : Fin grid0.N) : (![(BitVec.ofNat 32 (grid0.coords t 0).val).toNat, (0#32).toNat] : Fin 2 → ℕ) = ![t.val, 0] := by
  rw [step_word, point]; rfl

/-- A window of 512 rows at a time places its rows so. -/
theorem spot_of (t : Fin grid0.N) (y : Rows.Idx) (z : All.Idx)
    (h : ∀ a : Fin 2, (z a).val = (![(BitVec.ofNat 32 (grid0.coords t 0).val).toNat, (0#32).toNat] : Fin 2 → ℕ) a * Rows.size a + (y a).val) : z = spot t y := by
  funext a
  refine Fin.ext ((h a).trans ((congrArg (fun f : Fin 2 → ℕ => f a * Rows.size a + (y a).val) (step_index t)).trans ?_))
  match a with
  | ⟨0, _⟩ => rfl
  | ⟨1, _⟩ => show 0 * 1024 + (y 1).val = (y 1).val; omega

theorem emb_0 (t : Fin grid0.N) (y : Rows.Idx) : ((cfg0.win 0).blk t).view.emb y = spot t y :=
  spot_of t y _ fun a => (cfg0.win 0).rect_emb_val t y a rfl
theorem emb_2 (t : Fin grid0.N) (y : Rows.Idx) : ((cfg0.win 2).blk t).view.emb y = spot t y :=
  spot_of t y _ fun a => (cfg0.win 2).rect_emb_val t y a rfl
theorem emb_3 (t : Fin grid0.N) (y : Rows.Idx) : ((cfg0.win 3).blk t).view.emb y = spot t y :=
  spot_of t y _ fun a => (cfg0.win 3).rect_emb_val t y a rfl
theorem emb_4 (t : Fin grid0.N) (y : Rows.Idx) : ((cfg0.win 4).blk t).view.emb y = spot t y :=
  spot_of t y _ fun a => (cfg0.win 4).rect_emb_val t y a rfl

/-- A window of one row is that row. -/
theorem row_of (y z : Row.Idx) (h : ∀ a : Fin 2, (z a).val = 0 * Row.size a + (y a).val) : z = y :=
  funext fun a => Fin.ext ((h a).trans (by rw [Nat.zero_mul, Nat.zero_add]))

theorem emb_1 (t : Fin grid0.N) (y : Row.Idx) : ((cfg0.win 1).blk t).view.emb y = y :=
  row_of y _ fun a => ((cfg0.win 1).rect_emb_val t y a rfl).trans (by match a with | ⟨0, _⟩ => rfl | ⟨1, _⟩ => rfl)
theorem emb_5 (t : Fin grid0.N) (y : Row.Idx) : ((cfg0.win 5).blk t).view.emb y = y :=
  row_of y _ fun a => ((cfg0.win 5).rect_emb_val t y a rfl).trans (by match a with | ⟨0, _⟩ => rfl | ⟨1, _⟩ => rfl)

theorem covers_4 : (cfg0.win 4).Covers := by decide +kernel
theorem covers_5 : (cfg0.win 5).Covers := by decide +kernel

variable (m : (ℓ : Loc nD τ sig) → Buf (Elt F) ℓ) (c : Dev nD)

/-- The rows that step `t` takes of an array of all the rows. -/
def part (X : All.Idx → Elt F .f32) (t : Fin grid0.N) : Rows.Idx → Elt F .f32 := fun y => X (spot t y)

theorem block_0 (t : Fin grid0.N) : iblk m c 0 t = part (m ((c : Thread nD τ).loc main_arg0)) t := funext fun y => congrArg (m ((c : Thread nD τ).loc main_arg0)) (emb_0 t y)
theorem block_1 (t : Fin grid0.N) : iblk m c 1 t = m ((c : Thread nD τ).loc main_arg1) := funext fun y => congrArg (m ((c : Thread nD τ).loc main_arg1)) (emb_1 t y)
theorem block_2 (t : Fin grid0.N) : iblk m c 2 t = part (m ((c : Thread nD τ).loc main_arg2)) t := funext fun y => congrArg (m ((c : Thread nD τ).loc main_arg2)) (emb_2 t y)
theorem block_3 (t : Fin grid0.N) : iblk m c 3 t = part (m ((c : Thread nD τ).loc main_arg3)) t := funext fun y => congrArg (m ((c : Thread nD τ).loc main_arg3)) (emb_3 t y)

/-- The rows that step `t` makes, -/
def rowsOf (x : All.Idx → Elt F .f32) (g : Row.Idx → Elt F .f32) (dh dy : All.Idx → Elt F .f32) (t : Fin grid0.N) : Rows.Idx → Elt F .f32 :=
  k0_pay3 (part x t) (part dh t) g (part dy t)
/-- and the weight's row after step `n`. -/
def rowAfter (x dh : All.Idx → Elt F .f32) : (n : ℕ) → n < grid0.N → Row.Idx → Elt F .f32
  | 0, h => k0_pay5 (part x ⟨0, h⟩) (part dh ⟨0, h⟩) k0_pay4
  | n + 1, h => k0_pay5 (part x ⟨n + 1, h⟩) (part dh ⟨n + 1, h⟩) (rowAfter x dh n (Nat.lt_of_succ_lt h))

theorem outs_rows (t : Fin cfg0.N) :
    (outsAt0 m c t.val t.isLt).1 = rowsOf (m ((c : Thread nD τ).loc main_arg0)) (m ((c : Thread nD τ).loc main_arg1)) (m ((c : Thread nD τ).loc main_arg2)) (m ((c : Thread nD τ).loc main_arg3)) t := by
  unfold rowsOf
  rw [← block_0, ← block_1 m c t, ← block_2, ← block_3]
  by_cases h : t.val % 8 = 0
  · rw [outsAt0_A m c t h]
    dsimp only
    rw [rows_first]
  · rw [outsAt0_B m c t h]
    dsimp only
    rw [rows_later]

theorem outs_row : ∀ (n : ℕ) (h : n < cfg0.N), (outsAt0 m c n h).2 = rowAfter (m ((c : Thread nD τ).loc main_arg0)) (m ((c : Thread nD τ).loc main_arg2)) n h
  | 0, h => by
    unfold rowAfter
    rw [← block_0, ← block_2]
    rw [outsAt0_A m c ⟨0, h⟩ rfl]
    dsimp only
    rw [row_first]
  | n + 1, h => by
    have h8 : n + 1 < 8 := Nat.lt_of_lt_of_eq h N_0
    unfold rowAfter
    rw [← outs_row n (Nat.lt_of_succ_lt h), ← block_0, ← block_2]
    rw [outsAt0_B m c ⟨n + 1, h⟩ (by show ¬(n + 1) % 8 = 0; omega)]
    dsimp only
    rw [row_later]
    rfl

/-- An array each of whose steps' rows are the steps' is the gradient of `x` that the call leaves. -/
theorem all_rows (X : All.Idx → Elt F .f32)
    (h : ∀ (t : Fin grid0.N) (y : Rows.Idx), rowsOf (m ((c : Thread nD τ).loc main_arg0)) (m ((c : Thread nD τ).loc main_arg1)) (m ((c : Thread nD τ).loc main_arg2)) (m ((c : Thread nD τ).loc main_arg3)) t y = X (spot t y)) :
    (dats m 0 c).arrAt 4 cfg0.N = X := by
  refine (dats m 0 c).arrAt_eq_of_covers 4 _ covers_4 fun t _ y => ?_
  show (dats m 0 c).after 4 t y = X (((cfg0.win 4).blk t).view.emb y)
  rw [after0_4, outs_rows m c t, emb_4]
  exact h t y

/-- The weight's gradient is the row after the last step. -/
theorem last_row : (dats m 0 c).arrAt 5 cfg0.N = rowAfter (m ((c : Thread nD τ).loc main_arg0)) (m ((c : Thread nD τ).loc main_arg2)) 7 (by rw [N_0]; decide) := by
  refine (dats m 0 c).arrAt_eq_of_covers 5 _ covers_5 fun t hf y => ?_
  have h : t.val < 8 := Nat.lt_of_lt_of_eq t.isLt N_0
  have h7 : t.val % 8 = 7 := (flush0_5 t).mp hf
  obtain rfl : t = ⟨7, by rw [N_0]; decide⟩ := Fin.ext (by show t.val = 7; omega)
  show (dats m 0 c).after 5 _ y = rowAfter _ _ 7 _ (((cfg0.win 5).blk _).view.emb y)
  rw [after0_5, outs_row, emb_5]

end Cert.NormProof

end
-- ==== Proof.NormValue.lean ====
/-
# The kernel's gradients are the reference's

An element of the gradient of `x` depends on its row alone, and there the kernel and the reference agree. The weight's gradient
is a sum over all the rows, which the kernel takes in groups of 512.
-/
module

public import proofs.«01_k».proof.Proof.NormReference
public import proofs.«01_k».proof.Proof.NormTile
public import Idealize.ShloMosaic.Lib.Pointwise.Reduce

@[expose] public section

noncomputable section

namespace Cert.NormProof

open Cert.NormIdeal Cert.NormIdeal.Gen
open Idealize.ShloMosaic Idealize.ShloMosaic.TcCoe

set_option Elab.async false

/-! ## A step of the kernel -/

section
variable (x dh dy : Rows.Idx → Elt Ideal .f32) (g : Row.Idx → Elt Ideal .f32)

/-- The sum of a row's squares, -/
def tileSquares (i : Fin 512) : EReal := ∑ k : Fin 1024, (show EReal from x (ValueIdx.ix2 i k)) * (show EReal from x (ValueIdx.ix2 i k))

/-- a number per row, as a column of them, -/
theorem column_at (v : S512.Idx → Elt Ideal .f32) (i : Fin 512) (j : Fin 1) :
    shapeCast S512x1 v shapeCasts_S512_S512x1 (ValueIdx.ix2 i j) = v (ix1 i) := by
  refine shapeCast_apply _ _ _ (ix1 i) ?_
  rw [Shape.rowMajor_val_one, Shape.rowMajor_val_two]
  show i.val = i.val * 1 + j.val
  have := j.isLt
  omega

/-- and along the rows. -/
theorem along_at (v : S512x1.Idx → Elt Ideal .f32) (y : Rows.Idx) :
    broadcastTo Rows v broadcasts_S512x1_S512x1024 y = v (ValueIdx.ix2 ⟨(y 0).val, (y 0).isLt⟩ 0) :=
  broadcastTo_apply _ _ y _ fun a => match a with | ⟨0, _⟩ => rfl | ⟨1, _⟩ => rfl

theorem scale_at (i : Fin 512) (j : Fin 1) : k0_pay1 (F := Ideal) x (ValueIdx.ix2 i j) = scale (tileSquares x i) := by
  unfold k0_pay1 scale spread
  dsimp only
  refine congrArg (fun q : EReal => Ideal.rsqrt (Ideal.div q (Ideal.ofBits .f32 0x44800000#32) + Ideal.ofBits .f32 0x358637BD#32)) ?_
  refine (column_at _ i j).trans ?_
  refine (multiReduction_add_apply _ _ _ _ _ _).trans ?_
  rw [Ideal.reduceAdd_def, Ideal.reduceAdd_r2_a1]
  rfl

theorem scaled_at (y : Rows.Idx) : k0_pay2 (F := Ideal) x y = (show EReal from x y) * scale (tileSquares x ⟨(y 0).val, (y 0).isLt⟩) := by
  unfold k0_pay2
  refine congrArg (fun a : EReal => (show EReal from x y) * a) ?_
  exact (along_at _ y).trans (scale_at x _ _)

theorem weight_at (y : Rows.Idx) : broadcastTo Rows g broadcasts_S1x1024_S512x1024 y = g (ValueIdx.ix2 0 ⟨(y 1).val, (y 1).isLt⟩) :=
  broadcastTo_apply _ _ y _ fun a => match a with | ⟨0, _⟩ => rfl | ⟨1, _⟩ => rfl

/-- An element of a step's rows. -/
theorem rows_at (y : Rows.Idx) :
    k0_pay3 (F := Ideal) x dh g dy y = kernelAt (tileSquares x ⟨(y 0).val, (y 0).isLt⟩)
      (fun k => x (ValueIdx.ix2 ⟨(y 0).val, (y 0).isLt⟩ k)) (fun k => (show EReal from dh (ValueIdx.ix2 ⟨(y 0).val, (y 0).isLt⟩ k)) * (show EReal from g (ValueIdx.ix2 0 k)))
      (x y) ((show EReal from dh y) * (show EReal from g (ValueIdx.ix2 0 ⟨(y 1).val, (y 1).isLt⟩))) (dy y) := by
  unfold k0_pay3 kernelAt
  dsimp only
  show (show EReal from dy y) + (show EReal from broadcastTo Rows (k0_pay1 (F := Ideal) x) broadcasts_S512x1_S512x1024 y)
    * ((show EReal from dh y) * (show EReal from broadcastTo Rows g broadcasts_S1x1024_S512x1024 y)
      - (show EReal from k0_pay2 (F := Ideal) x y) * (show EReal from broadcastTo Rows _ broadcasts_S512x1_S512x1024 y)) = _
  dsimp only
  rw [along_at, along_at, weight_at, scaled_at, scale_at]
  refine congrArg (fun q : EReal => (show EReal from dy y) + scale (tileSquares x ⟨(y 0).val, (y 0).isLt⟩)
    * ((show EReal from dh y) * (show EReal from g (ValueIdx.ix2 0 ⟨(y 1).val, (y 1).isLt⟩))
      - (show EReal from x y) * scale (tileSquares x ⟨(y 0).val, (y 0).isLt⟩) * Ideal.div q (Ideal.ofBits .f32 0x44800000#32))) ?_
  refine (column_at _ _ _).trans ?_
  refine (multiReduction_add_apply _ _ _ _ _ _).trans ?_
  rw [Ideal.reduceAdd_def, Ideal.reduceAdd_r2_a1]
  refine Finset.sum_congr rfl fun k _ => ?_
  refine congrArg₂ (fun a b : EReal => a * b) ?_ (scaled_at x _)
  exact congrArg (fun a : EReal => (show EReal from dh (ValueIdx.ix2 ⟨(y 0).val, (y 0).isLt⟩ k)) * a) (weight_at g _)

/-- What a step adds to the weight's row. -/
theorem row_at (w : Row.Idx → Elt Ideal .f32) (j : Row.Idx) :
    k0_pay5 (F := Ideal) x dh w j = (show EReal from w j) + ∑ i : Fin 512, (show EReal from dh (ValueIdx.ix2 i (⟨(j 1).val, (j 1).isLt⟩ : Fin 1024)))
      * ((show EReal from x (ValueIdx.ix2 i (⟨(j 1).val, (j 1).isLt⟩ : Fin 1024))) * scale (tileSquares x i)) := by
  unfold k0_pay5
  dsimp only
  rw [shapeCast_self]
  refine congrArg (fun a : EReal => (show EReal from w j) + a) ?_
  refine (shapeCast_apply _ _ j (ix1 (⟨(j 1).val, (j 1).isLt⟩ : Fin 1024)) ?_).trans ?_
  · rw [Shape.rowMajor_val_one, Shape.rowMajor_val_two]
    show (j 1).val = (j 0).val * 1024 + (j 1).val
    have h : (j 0).val < 1 := (j 0).isLt
    omega
  refine (multiReduction_add_apply _ _ _ _ _ _).trans ?_
  rw [Ideal.reduceAdd_def, Ideal.reduceAdd_r2_a0]
  refine Finset.sum_congr rfl fun i _ => ?_
  exact congrArg (fun a : EReal => (show EReal from dh (ValueIdx.ix2 i (⟨(j 1).val, (j 1).isLt⟩ : Fin 1024))) * a) (scaled_at x _)

end

/-! ## All the steps -/

section
variable (x dh dy : All.Idx → Elt Ideal .f32) (g : Row.Idx → Elt Ideal .f32)

/-- Row `i` of step `t`. -/
def line (t : Fin grid0.N) (i : Fin 512) : Fin 4096 := ⟨t.val * 512 + i.val, by
  have h : t.val < 8 := Nat.lt_of_lt_of_eq t.isLt N_0
  have h0 : i.val < 512 := i.isLt
  omega⟩

theorem tile_squares (t : Fin grid0.N) (i : Fin 512) : tileSquares (part x t) i = Reference.squares x (line t i) := rfl

/-- A step's rows are the reference's. -/
theorem rows_eq (t : Fin grid0.N) (y : Rows.Idx) : rowsOf x g dh dy t y = Reference.gradX x dh dy g (spot t y) := by
  unfold rowsOf
  rw [rows_at, tile_squares, row_eq _ (Reference.squares_nonneg x _), Reference.gradX_at]
  rfl

/-- What row `r` adds to element `k` of the weight's gradient. -/
def piece (k : Fin 1024) (r : ℕ) : EReal :=
  if h : r < 4096 then (show EReal from x (ValueIdx.ix2 ⟨r, h⟩ k)) * scale (Reference.squares x ⟨r, h⟩) * (show EReal from dh (ValueIdx.ix2 ⟨r, h⟩ k)) else 0

theorem piece_at (k : Fin 1024) (r : Fin 4096) : piece x dh k r.val
    = (show EReal from x (ValueIdx.ix2 r k)) * scale (Reference.squares x r) * (show EReal from dh (ValueIdx.ix2 r k)) := dif_pos r.isLt

theorem step_adds (t : Fin grid0.N) (w : Row.Idx → Elt Ideal .f32) (j : Row.Idx) :
    k0_pay5 (F := Ideal) (part x t) (part dh t) w j = (show EReal from w j) + ∑ i : Fin 512, piece x dh (⟨(j 1).val, (j 1).isLt⟩ : Fin 1024) (t.val * 512 + i.val) := by
  rw [row_at]
  refine congrArg (fun a : EReal => (show EReal from w j) + a) (Finset.sum_congr rfl fun i _ => ?_)
  refine Eq.trans ?_ (piece_at x dh _ (line t i)).symm
  rw [tile_squares, mul_comm]
  rfl

theorem row_sums (j : Row.Idx) : ∀ (n : ℕ) (h : n < grid0.N),
    rowAfter x dh n h j = ∑ t : Fin (n + 1), ∑ i : Fin 512, piece x dh (⟨(j 1).val, (j 1).isLt⟩ : Fin 1024) (t.val * 512 + i.val)
  | 0, h => by
    refine (step_adds x dh ⟨0, h⟩ (k0_pay4 (F := Ideal)) j).trans ?_
    rw [show (show EReal from k0_pay4 (F := Ideal) j) = 0 from Ideal.ofBits_zero_f32, zero_add, Fin.sum_univ_one]
    rfl
  | n + 1, h => by
    refine (step_adds x dh ⟨n + 1, h⟩ _ j).trans ?_
    dsimp only
    rw [row_sums j n, Fin.sum_univ_castSucc (n := n + 1)]
    rfl

/-- The row after the last step is the reference's. -/
theorem row_total (h : 7 < grid0.N) : rowAfter x dh 7 h = Reference.gradWeight x dh := by
  funext j
  rw [row_sums, Reference.gradWeight_at]
  refine (Cert.LossProof.sum_groups 8 512 (piece x dh (⟨(j 1).val, (j 1).isLt⟩ : Fin 1024))).trans ?_
  exact Finset.sum_congr rfl fun r _ => piece_at x dh _ r

end

end Cert.NormProof

end
-- ==== Proof.NormClaims.lean ====
/-
# What is claimed of the gradient of `x`

The last call of the backward pass takes the first layer's input, the norm's weight and two incoming gradients, on one device, to
the gradient of the input. Over the float formats' bits and over the extended reals its four arguments end unchanged and every
semaphore at zero, the reference likewise, and over the extended reals both its results are the reference's.
-/
module

public import proofs.«01_k».proof.Defs
public import proofs.«01_k».proof.Proof.NormValue
public import proofs.«01_k».proof.Proof.Gen.Norm.Frame
public import proofs.«01_k».proof.Proof.Gen.NormRefIdeal.Run
public import Idealize.ShloMosaic.Lib.Quiescent

@[expose] public section

noncomputable section

namespace Cert.NormProof

open Idealize.ShloMosaic Idealize.SL.Sem

theorem frame_kernel : Cert.quiescent_Norm := fun m g _ => Norm.Gen.frame m g

theorem frame_ideal : Cert.quiescent_NormIdeal := fun m g _ => NormIdeal.Gen.frame m g

theorem frame_reference_ideal : Cert.quiescent_NormRefIdeal := fun m g _ =>
  (θ_run NormRefIdeal.defs _ _).mono (fun r h => ⟨fun c => (h c).2.2, sem_eq_zero_of_no_sems (by decide) r.2⟩)
    (NormRefIdeal.Value.run (F := Ideal) m g)

theorem value_ideal : Cert.algebraic_NormIdeal_NormRefIdeal := fun m g m' g' _ h =>
  ⟨_, _, NormIdeal.Value.run_blocks (F := Ideal) m g,
    (θ_run NormRefIdeal.defs _ _).mono (fun _ hr c => by
      obtain ⟨h0, h1, h2, h3⟩ := h c
      obtain ⟨dx, dg, rest⟩ := hr c
      rw [h0, h1, h2, h3] at dx
      rw [h0, h2] at dg
      refine ⟨dx.trans ?_, dg.trans ?_, rest⟩
      · exact (all_rows m c _ fun t y => rows_eq _ _ _ _ t y).symm
      · exact ((last_row m c).trans (row_total _ _ _)).symm) (NormRefIdeal.Value.run (F := Ideal) m' g')⟩

end Cert.NormProof

end
-- ==== Proof.Products.lean ====
/-
# Products taken a tile at a time

A call of the feed-forward layer takes a product of two matrices a tile at a time: a tile of the result gathers, step by step, the
products of the tiles it runs over. Here are the sum over those steps, the one sum that it is, and the entry of a matrix at two
numbers, which spares every formula its bounds.
-/
module

public import proofs.«01_k».proof.Proof.Whole
public import proofs.«01_k».proof.Proof.LossNumbers
public import Idealize.ShloMosaic.Lib.Pointwise
public import Idealize.ShloMosaic.Lib.ValueIdx

@[expose] public section

noncomputable section

namespace Cert.Train

open Idealize.ShloMosaic
open scoped BigOperators

set_option Elab.async false

/-! ## Whole tiles -/

section
variable {κ : Kind} {sp : Space} {s : Shape} {e : EltTy} {Val : EltTy → Type}

/-- A store at every element, whatever was stored before, read back. -/
theorem store_over (v : View sig κ sp s e) (f : v.ty.Contents Val) {off : Fin s.rank → ℕ} (h : ∀ a, off a = 0)
    (inb : ∀ a, off a + s.size a ≤ s.size a) (x : s.Idx → Val e) (L : List (View.Piece Val s e)) :
    v.read Val (v.writes Val f (⟨Rect.unit off s.size inb, x⟩ :: L)) = x := by
  funext y
  have he : (Rect.unit off s.size inb).emb y = y := funext fun a => Fin.ext (by rw [ValueKit.rect_emb_unit_val, h a, Nat.zero_add])
  exact (congrArg _ he.symm).trans (View.read_writes_cons_emb (v := v) (f := f) (Rect.unit off s.size inb) x L y)

/-- A load of a whole buffer that holds `x`. -/
theorem load_held (M : Memref sig κ sp s e) (hM : M.IsWhole) {off : Fin s.rank → ℕ} (h : ∀ a, off a = 0)
    (inb : ∀ a, off a + s.size a ≤ s.size a) (x : s.Idx → Val e) :
    M.view.readAt Val (Rect.unit off s.size inb).toLoadRect (hM.unread x) = x :=
  (whole_load M.view h inb _).trans (hM.read_unread x)

end

/-! ## Entries and sums -/

/-- An entry of a tile lies at the tile's number times its size, and its own number. -/
theorem lies {G : Pipeline.Grid} {w : Pipeline.Window sig G} (t : Fin G.N) (y : (w.xblock (G.coords t)).Idx) (a : Fin w.shape.rank) {n : ℕ}
    (hk : w.kind = .blocked) (h : w.index t a = n) : ((w.rect t).emb y a : ℕ) = n * w.size a + y a :=
  (w.rect_emb_val t y a hk).trans (by rw [h])

/-- The entry of a matrix at two numbers, and zero outside the matrix. -/
def entry {a b : ℕ} (X : (⟨2, ![a, b]⟩ : Shape).Idx → EReal) (i j : ℕ) : EReal :=
  if h : i < a ∧ j < b then X (ix2 ⟨i, h.1⟩ ⟨j, h.2⟩) else 0

/-- Reading at an index is reading at its two numbers. -/
theorem read_entry {a b : ℕ} (X : (⟨2, ![a, b]⟩ : Shape).Idx → EReal) (z : (⟨2, ![a, b]⟩ : Shape).Idx) {i j : ℕ}
    (h0 : (z 0).val = i) (h1 : (z 1).val = j) : X z = entry X i j := by
  subst h0 h1
  have b0 : (z 0).val < a := (z 0).isLt
  have b1 : (z 1).val < b := (z 1).isLt
  unfold entry
  rw [dif_pos ⟨b0, b1⟩]
  refine congrArg X (funext fun k => ?_)
  match k with
  | ⟨0, _⟩ => rfl
  | ⟨1, _⟩ => rfl

/-- What is set at the first step of every `k` and added to at the others is, `j` steps after a first one, the sum of the parts. -/
theorem partial_sums {ι : Type} {N k : ℕ} (f p : (n : ℕ) → n < N → ι → EReal)
    (first : ∀ n h, n % k = 0 → f n h = p n h)
    (later : ∀ n h (h' : n + 1 < N), ¬(n + 1) % k = 0 → f (n + 1) h' = fun i => f n h i + p (n + 1) h' i)
    (q : ℕ) (i : ι) : ∀ (j : ℕ) (_ : j < k) (h : q * k + j < N),
      f (q * k + j) h i = ∑ s : Fin (j + 1), p (q * k + s.val) (lt_of_le_of_lt (Nat.add_le_add_left (Nat.le_of_lt_succ s.isLt) _) h) i
  | 0, _, h => by
    rw [first _ h (by rw [Nat.add_zero, Nat.mul_mod_left])]
    simp
  | j + 1, hj, h => by
    rw [Fin.sum_univ_castSucc]
    have e := later (q * k + j) (Nat.lt_of_succ_lt h) h (by
      rw [Nat.add_assoc, Nat.mul_add_mod_self_right, Nat.mod_eq_of_lt hj]; exact Nat.succ_ne_zero j)
    refine (congrFun e i).trans ?_
    rw [partial_sums f p first later q i j (Nat.lt_of_succ_lt hj) (Nat.lt_of_succ_lt h)]
    rfl

/-- The three products: over the rows of both, over the columns of both, and a row by a column. -/
def overRows {K a b : ℕ} (A : (⟨2, ![K, a]⟩ : Shape).Idx → EReal) (B : (⟨2, ![K, b]⟩ : Shape).Idx → EReal) (i j : ℕ) : EReal :=
  ∑ r : Fin K, entry A r.val i * entry B r.val j
def overColumns {K a b : ℕ} (A : (⟨2, ![a, K]⟩ : Shape).Idx → EReal) (B : (⟨2, ![b, K]⟩ : Shape).Idx → EReal) (i j : ℕ) : EReal :=
  ∑ r : Fin K, entry A i r.val * entry B j r.val
def rowByColumn {K a b : ℕ} (A : (⟨2, ![a, K]⟩ : Shape).Idx → EReal) (B : (⟨2, ![K, b]⟩ : Shape).Idx → EReal) (i j : ℕ) : EReal :=
  ∑ r : Fin K, entry A i r.val * entry B r.val j

/-- An index of a matrix is its two numbers. -/
theorem index_eq {a b : ℕ} {u v : (⟨2, ![a, b]⟩ : Shape).Idx} (h0 : u 0 = v 0) (h1 : u 1 = v 1) : u = v :=
  funext fun k => match k with
  | ⟨0, _⟩ => h0
  | ⟨1, _⟩ => h1

/-- A product over one axis onto zero, the operands' indices named. -/
theorem product_at {sl sr so : Shape} (d : DotDims sl sr so) {a : Fin sl.rank} (hc : d.lhsContracting = [a]) {K : ℕ} (hK : sl.size a = K)
    (x : sl.Idx → EReal) (y : sr.Idx → EReal) (acc : so.Idx → EReal) (z : so.Idx) (L : Fin K → sl.Idx) (R : Fin K → sr.Idx)
    (hL : ∀ k, Shape.Idx.norm (d.lhsIdx z (d.contrIdx₁ hc hK k)) = L k) (hR : ∀ k, Shape.Idx.norm (d.rhsIdx z (d.contrIdx₁ hc hK k)) = R k)
    (h0 : acc z = 0) : Ideal.matmul d x y acc z = ∑ k : Fin K, x (L k) * y (R k) := by
  rw [Ideal.matmul_apply₁_of d hc hK x y acc z L R hL hR, h0, zero_add]

/-- `k + 1` steps of `b` terms each make the sum of all the terms. -/
theorem tile_total {ι : Type} {N k b : ℕ} (f p : (n : ℕ) → n < N → ι → EReal)
    (first : ∀ n h, n % (k + 1) = 0 → f n h = p n h)
    (later : ∀ n h (h' : n + 1 < N), ¬(n + 1) % (k + 1) = 0 → f (n + 1) h' = fun i => f n h i + p (n + 1) h' i)
    (q : ℕ) (i : ι) (h : q * (k + 1) + k < N) (g : ℕ → EReal)
    (hp : ∀ (s : ℕ) (_ : s < k + 1) (h' : q * (k + 1) + s < N), p (q * (k + 1) + s) h' i = ∑ r : Fin b, g (s * b + r.val)) :
    f (q * (k + 1) + k) h i = ∑ r : Fin ((k + 1) * b), g r.val :=
  (partial_sums f p first later q i k (Nat.lt_succ_self k) h).trans
    ((Finset.sum_congr rfl fun s _ => hp s.val s.isLt _).trans (Cert.LossProof.sum_groups (k + 1) b g))

end Cert.Train

end
-- ==== Proof.FfnUpTile.lean ====
/-
# The layer's first product

`h wgu`, a tile of 512 by 1408 at a time. A tile runs over the whole of 1024 columns at once.
-/
module

public import proofs.«01_k».proof.Proof.Products
public import proofs.«01_k».proof.Proof.Gen.FfnUpIdeal.Value

@[expose] public section

noncomputable section

namespace Cert.FfnUpProof

open Cert.FfnUpIdeal Cert.FfnUpIdeal.Gen Cert.Train
open Idealize.ShloMosaic Idealize.ShloMosaic.TcCoe
open Idealize.ShloMosaic.Pipeline

set_option Elab.async false

theorem zeros : (![0, 0] : Fin 2 → ℕ) = fun _ => 0 := by decide

theorem index_0 : ∀ t : Fin grid0.N, win0_0.index t = ![t.val / 4, 0] := by decide +kernel
theorem index_1 : ∀ t : Fin grid0.N, win0_1.index t = ![0, t.val % 4] := by decide +kernel
theorem index_2 : ∀ t : Fin grid0.N, win0_2.index t = ![t.val / 4, t.val % 4] := by decide +kernel
theorem covers : (cfg0.win 2).Covers := by decide +kernel

variable (m : (ℓ : Loc nD τ sig) → Buf (Elt Ideal) ℓ) (c : Dev nD)

theorem block_0 (t : Fin grid0.N) (y : S512x1024.Idx) :
    iblk m c 0 t y = entry (m ((c : Thread nD τ).loc main_arg0)) (t.val / 4 * 512 + (y 0).val) (0 * 1024 + (y 1).val) :=
  read_entry (a := 4096) (b := 1024) _ (((cfg0.win 0).blk t).view.emb y) (lies (w := win0_0) t y 0 rfl (congrFun (index_0 t) 0)) (lies (w := win0_0) t y 1 rfl (congrFun (index_0 t) 1))
theorem block_1 (t : Fin grid0.N) (y : S1024x1408.Idx) :
    iblk m c 1 t y = entry (m ((c : Thread nD τ).loc main_arg1)) (0 * 1024 + (y 0).val) (t.val % 4 * 1408 + (y 1).val) :=
  read_entry (a := 1024) (b := 5632) _ (((cfg0.win 1).blk t).view.emb y) (lies (w := win0_1) t y 0 rfl (congrFun (index_1 t) 0)) (lies (w := win0_1) t y 1 rfl (congrFun (index_1 t) 1))

/-- A tile's product, at an index. -/
theorem tile_at (x : S512x1024.Idx → EReal) (y : S1024x1408.Idx → EReal) (z : S512x1408.Idx) :
    out0_2 (F := Ideal) x y z = ∑ k : Fin 1024, x (ix2 (z 0) k) * y (ix2 k (z 1)) := by
  unfold out0_2
  rw [View.canon_unit_zero zeros, View.ld_unit_zero (S := S512x1024) zeros, View.ld_unit_zero (S := S1024x1408) zeros]
  unfold k0_pay1
  exact product_at dot_S512x1024_S1024x1408_S512x1408_1_0_0_1_n_n rfl rfl x y _ z (fun k => ix2 (z 0) k) (fun k => ix2 k (z 1))
    (fun _ => index_eq rfl rfl) (fun _ => index_eq rfl rfl) Ideal.ofBits_zero_f32

/-- An array that is the product is what the call leaves. -/
theorem left (X : S4096x5632.Idx → EReal)
    (h : ∀ z : S4096x5632.Idx, X z = rowByColumn (K := 1024) (m ((c : Thread nD τ).loc main_arg0)) (m ((c : Thread nD τ).loc main_arg1)) (z 0).val (z 1).val) :
    (dats m 0 c).arrAt 2 cfg0.N = X := by
  refine (dats m 0 c).arrAt_eq_of_covers 2 _ covers fun t _ y => ?_
  show (dats m 0 c).after 2 t y = X (((cfg0.win 2).blk t).view.emb y)
  rw [h, after0_2]
  have e0 : ((((cfg0.win 2).blk t).view.emb y) 0).val = t.val / 4 * 512 + (y 0).val := lies (w := win0_2) _ y 0 rfl (congrFun (index_2 _) 0)
  have e1 : ((((cfg0.win 2).blk t).view.emb y) 1).val = t.val % 4 * 1408 + (y 1).val := lies (w := win0_2) _ y 1 rfl (congrFun (index_2 _) 1)
  rw [e0, e1]
  refine (tile_at _ _ y).trans (Finset.sum_congr rfl fun k _ => ?_)
  rw [block_0, block_1]
  have ek (n : ℕ) : 0 * 1024 + n = n := by omega
  exact congrArg₂ (· * ·) (congrArg (entry _ _) (ek k.val)) (congrArg (fun n => entry _ n _) (ek k.val))

end Cert.FfnUpProof

end
-- ==== Proof.FfnDownTile.lean ====
/-
# The layer's second product

`x + z wd / 2` over the 2816 columns of `z`, a tile of 512 rows at a time: each tile takes two steps of 1408 columns, kept in a
scratch buffer that the first sets and the second adds to; the second then writes half of it, added to the tile of `x`.
-/
module

public import proofs.«01_k».proof.Proof.Products
public import proofs.«01_k».proof.Proof.Gen.FfnDownIdeal.Value

@[expose] public section

noncomputable section

namespace Cert.FfnDownProof

open Cert.FfnDownIdeal Cert.FfnDownIdeal.Gen Cert.Train
open Idealize.ShloMosaic Idealize.ShloMosaic.TcCoe
open Idealize.ShloMosaic.Pipeline

set_option Elab.async false

theorem zeros : ∀ a : Fin 2, (![0, 0] : Fin 2 → ℕ) a = 0 := by decide

/-! ## One step -/

section
variable {F : FTy → Type} [FloatOps F] (c : Dev nD) (i : grid0.Coords)
  (M3 : Memref sig .tc .vmem S512x1408 .bf16) (h3 : M3.IsWhole) (M4 : Memref sig .tc .vmem S1408x1024 .bf16) (h4 : M4.IsWhole)
  (M5 : Memref sig .tc .vmem S512x1024 .f32) (h5 : M5.IsWhole) (M6 : Memref sig .tc .vmem S512x1024 .f32) (h6 : M6.IsWhole)
  (M7 : Memref sig .tc .vmem S512x1024 .f32) (h7 : M7.IsWhole)
  (x : S512x1408.Idx → Elt F .bf16) (y : S1408x1024.Idx → Elt F .bf16) (r w : S512x1024.Idx → Elt F .f32)

theorem kept_first (a b d) : sout0_A_0 c i M3 h3 M4 h4 M5 h5 M6 h6 M7 h7 a b d x y r = k0_pay2 x y := by
  unfold sout0_A_0
  refine (store_over VS0_0 _ zeros inb_S512x1024_S512x1024_0_0 _ _).trans ?_
  rw [load_held M3 h3 zeros _ x, load_held M4 h4 zeros _ y]
theorem kept_last (a b d) : sout0_B_0 c i M3 h3 M4 h4 M5 h5 M6 h6 M7 h7 a b d x y r w = k0_pay3 x y w := by
  unfold sout0_B_0
  refine (store_over VS0_0 _ zeros inb_S512x1024_S512x1024_0_0 _ _).trans ?_
  rw [load_held M3 h3 zeros _ x, load_held M4 h4 zeros _ y, load_held M7 h7 zeros _ w]
theorem made_last (a b d) : out0_B_3 c i M3 h3 M4 h4 M5 h5 M6 h6 M7 h7 a b d x y r w = k0_pay4 (k0_pay3 x y w) r := by
  unfold out0_B_3
  refine (store_over VO0_3 _ zeros inb_S512x1024_S512x1024_0_0 _ _).trans ?_
  unfold kernelRun0_B.sl.v12 kernelRun0_B.sl.HS0_1
  have hz : (![0, 0] : Fin S512x1024.rank → ℕ) = fun _ => 0 := funext zeros
  rw [View.readCov_unit_zero (Val := Elt F) (S := S512x1024) M7.view hz]
  rw [load_held M3 h3 zeros _ x, load_held M4 h4 zeros _ y, load_held M5 h5 zeros _ r, load_held M7 h7 zeros _ w]

end

/-! ## The tiles -/

theorem index_0 : ∀ t : Fin grid0.N, win0_0.index t = ![t.val / 2, t.val % 2] := by decide +kernel
theorem index_1 : ∀ t : Fin grid0.N, win0_1.index t = ![t.val % 2, 0] := by decide +kernel
theorem index_2 : ∀ t : Fin grid0.N, win0_2.index t = ![t.val / 2, 0] := by decide +kernel
theorem index_3 : ∀ t : Fin grid0.N, win0_3.index t = ![t.val / 2, 0] := by decide +kernel
theorem covers : (cfg0.win 3).Covers := by decide +kernel

variable (m : (ℓ : Loc nD τ sig) → Buf (Elt Ideal) ℓ) (c : Dev nD)

theorem block_0 (t : Fin grid0.N) (y : S512x1408.Idx) :
    iblk m c 0 t y = entry (m ((c : Thread nD τ).loc main_arg0)) (t.val / 2 * 512 + (y 0).val) (t.val % 2 * 1408 + (y 1).val) :=
  read_entry (a := 4096) (b := 2816) _ (((cfg0.win 0).blk t).view.emb y) (lies (w := win0_0) t y 0 rfl (congrFun (index_0 t) 0)) (lies (w := win0_0) t y 1 rfl (congrFun (index_0 t) 1))
theorem block_1 (t : Fin grid0.N) (y : S1408x1024.Idx) :
    iblk m c 1 t y = entry (m ((c : Thread nD τ).loc main_arg1)) (t.val % 2 * 1408 + (y 0).val) (0 * 1024 + (y 1).val) :=
  read_entry (a := 2816) (b := 1024) _ (((cfg0.win 1).blk t).view.emb y) (lies (w := win0_1) t y 0 rfl (congrFun (index_1 t) 0)) (lies (w := win0_1) t y 1 rfl (congrFun (index_1 t) 1))
theorem block_2 (t : Fin grid0.N) (y : S512x1024.Idx) :
    iblk m c 2 t y = entry (m ((c : Thread nD τ).loc main_arg2)) (t.val / 2 * 512 + (y 0).val) (0 * 1024 + (y 1).val) :=
  read_entry (a := 4096) (b := 1024) _ (((cfg0.win 2).blk t).view.emb y) (lies (w := win0_2) t y 0 rfl (congrFun (index_2 t) 0)) (lies (w := win0_2) t y 1 rfl (congrFun (index_2 t) 1))

/-- A product of two tiles, at an index. -/
theorem part_at (x : S512x1408.Idx → EReal) (y : S1408x1024.Idx → EReal) (z : S512x1024.Idx) :
    k0_pay1 (F := Ideal) x y z = ∑ k : Fin 1408, x (ix2 (z 0) k) * y (ix2 k (z 1)) := by
  unfold k0_pay1
  exact product_at dot_S512x1408_S1408x1024_S512x1024_1_0_0_1_n_n rfl rfl x y _ z (fun k => ix2 (z 0) k) (fun k => ix2 k (z 1))
    (fun _ => index_eq rfl rfl) (fun _ => index_eq rfl rfl) Ideal.ofBits_zero_f32

/-- What step `n` adds. -/
def part (n : ℕ) (h : n < grid0.N) : S512x1024.Idx → EReal := k0_pay1 (F := Ideal) (iblk m c 0 ⟨n, h⟩) (iblk m c 1 ⟨n, h⟩)

theorem first (n : ℕ) (h : n < grid0.N) (h0 : n % 2 = 0) : (outsAt0 m c n h).2 = part m c n h := by
  rw [outsAt0_A m c ⟨n, h⟩ h0 (by show ¬n % 2 = 1; omega) (by show ¬n % 2 = 1; omega)]
  dsimp only
  rw [kept_first]
  unfold k0_pay2 part
  exact shapeCast_self _ _

theorem later (n : ℕ) (h : n < grid0.N) (h' : n + 1 < grid0.N) (h0 : ¬(n + 1) % 2 = 0) :
    (outsAt0 m c (n + 1) h').2 = fun i => (outsAt0 m c n h).2 i + part m c (n + 1) h' i := by
  have e : k0_pay3 (F := Ideal) (iblk m c 0 ⟨n + 1, h'⟩) (iblk m c 1 ⟨n + 1, h'⟩) (outsAt0 m c n h).2 = fun i => (outsAt0 m c n h).2 i + part m c (n + 1) h' i := by
    unfold k0_pay3 part
    exact shapeCast_self _ _
  rw [← e]
  rw [outsAt0_B m c ⟨n + 1, h'⟩ h0 (by show (n + 1) % 2 = 1; omega) (by show (n + 1) % 2 = 1; omega)]
  dsimp only
  rw [kept_last]
  rfl

/-- The second step of a tile leaves half of what is kept, added to the tile of `x`. -/
theorem last (t : Fin grid0.N) (h1 : t.val % 2 = 1) : (outsAt0 m c t.val t.isLt).1 = k0_pay4 (outsAt0 m c t.val t.isLt).2 (iblk m c 2 t) := by
  rw [outsAt0_B m c t (by omega) h1 h1]
  dsimp only
  rw [kept_last, made_last]

/-- Once a tile has had its two steps, the whole product is kept. -/
theorem kept_total (q : ℕ) (h : q * 2 + 1 < grid0.N) (y : S512x1024.Idx) :
    (outsAt0 m c (q * 2 + 1) h).2 y
      = rowByColumn (K := 2816) (m ((c : Thread nD τ).loc main_arg0)) (m ((c : Thread nD τ).loc main_arg1)) (q * 512 + (y 0).val) (0 * 1024 + (y 1).val) := by
  refine tile_total (b := 1408) (fun n h => (outsAt0 m c n h).2) (part m c) (first m c) (later m c) q y h
    (fun r => entry (m ((c : Thread nD τ).loc main_arg0)) (q * 512 + (y 0).val) r * entry (m ((c : Thread nD τ).loc main_arg1)) r (0 * 1024 + (y 1).val)) fun s hs h' => ?_
  have em : (q * 2 + s) % 2 = s := by omega
  have ed : (q * 2 + s) / 2 = q := by omega
  refine (part_at _ _ y).trans (Finset.sum_congr rfl fun k _ => ?_)
  rw [block_0, block_1]
  dsimp only
  rw [em, ed]
  rfl

/-- An array that is `x` and half the product is what the call leaves. -/
theorem left (X : S4096x1024.Idx → EReal)
    (h : ∀ z : S4096x1024.Idx, X z = entry (m ((c : Thread nD τ).loc main_arg2)) (z 0).val (z 1).val
      + Ideal.ofBits .f32 0x3F000000#32 * rowByColumn (K := 2816) (m ((c : Thread nD τ).loc main_arg0)) (m ((c : Thread nD τ).loc main_arg1)) (z 0).val (z 1).val) :
    (dats m 0 c).arrAt 3 cfg0.N = X := by
  refine (dats m 0 c).arrAt_eq_of_covers 3 _ covers fun t hf y => ?_
  have h1 : t.val % 2 = 1 := (flush0_3 t).mp hf
  obtain ⟨q, hq⟩ : ∃ q, t.val = q * 2 + 1 := ⟨t.val / 2, by omega⟩
  have hq' : q * 2 + 1 < grid0.N := hq ▸ t.isLt
  obtain rfl : t = ⟨q * 2 + 1, hq'⟩ := Fin.ext hq
  show (dats m 0 c).after 3 _ y = X (((cfg0.win 3).blk _).view.emb y)
  rw [h, after0_3, last m c _ h1]
  have e0 : ((((cfg0.win 3).blk ⟨q * 2 + 1, hq'⟩).view.emb y) 0).val = (q * 2 + 1) / 2 * 512 + (y 0).val := lies (w := win0_3) _ y 0 rfl (congrFun (index_3 _) 0)
  have e1 : ((((cfg0.win 3).blk ⟨q * 2 + 1, hq'⟩).view.emb y) 1).val = 0 * 1024 + (y 1).val := lies (w := win0_3) _ y 1 rfl (congrFun (index_3 _) 1)
  have e2 := block_2 m c ⟨q * 2 + 1, hq'⟩ y
  rw [e0, e1]
  rw [show (q * 2 + 1) / 2 = q by omega] at e2 ⊢
  rw [← kept_total m c q hq' y, ← e2]
  exact congrArg (fun v : EReal => (show EReal from iblk m c 2 ⟨q * 2 + 1, hq'⟩ y) + v) (mul_comm (G := EReal) _ _)

end Cert.FfnDownProof

end
-- ==== Proof.FfnDzTile.lean ====
/-
# The gradient of what is gated

Half of `dy wdᵀ`, a tile of 512 by 1408 at a time. A tile runs over the whole of 1024 columns at once.
-/
module

public import proofs.«01_k».proof.Proof.Products
public import proofs.«01_k».proof.Proof.Gen.FfnDzIdeal.Value

@[expose] public section

noncomputable section

namespace Cert.FfnDzProof

open Cert.FfnDzIdeal Cert.FfnDzIdeal.Gen Cert.Train
open Idealize.ShloMosaic Idealize.ShloMosaic.TcCoe
open Idealize.ShloMosaic.Pipeline

set_option Elab.async false

theorem zeros : (![0, 0] : Fin 2 → ℕ) = fun _ => 0 := by decide

theorem index_0 : ∀ t : Fin grid0.N, win0_0.index t = ![t.val / 2, 0] := by decide +kernel
theorem index_1 : ∀ t : Fin grid0.N, win0_1.index t = ![t.val % 2, 0] := by decide +kernel
theorem index_2 : ∀ t : Fin grid0.N, win0_2.index t = ![t.val / 2, t.val % 2] := by decide +kernel
theorem covers : (cfg0.win 2).Covers := by decide +kernel

variable (m : (ℓ : Loc nD τ sig) → Buf (Elt Ideal) ℓ) (c : Dev nD)

theorem block_0 (t : Fin grid0.N) (y : S512x1024.Idx) :
    iblk m c 0 t y = entry (m ((c : Thread nD τ).loc main_arg0)) (t.val / 2 * 512 + (y 0).val) (0 * 1024 + (y 1).val) :=
  read_entry (a := 4096) (b := 1024) _ (((cfg0.win 0).blk t).view.emb y) (lies (w := win0_0) t y 0 rfl (congrFun (index_0 t) 0)) (lies (w := win0_0) t y 1 rfl (congrFun (index_0 t) 1))
theorem block_1 (t : Fin grid0.N) (y : S1408x1024.Idx) :
    iblk m c 1 t y = entry (m ((c : Thread nD τ).loc main_arg1)) (t.val % 2 * 1408 + (y 0).val) (0 * 1024 + (y 1).val) :=
  read_entry (a := 2816) (b := 1024) _ (((cfg0.win 1).blk t).view.emb y) (lies (w := win0_1) t y 0 rfl (congrFun (index_1 t) 0)) (lies (w := win0_1) t y 1 rfl (congrFun (index_1 t) 1))

/-- Half a tile's product, at an index. -/
theorem tile_at (x : S512x1024.Idx → EReal) (y : S1408x1024.Idx → EReal) (z : S512x1408.Idx) :
    out0_2 (F := Ideal) x y z = (∑ k : Fin 1024, x (ix2 (z 0) k) * y (ix2 (z 1) k)) * Ideal.ofBits .f32 0x3F000000#32 := by
  unfold out0_2
  rw [View.canon_unit_zero zeros, View.ld_unit_zero (S := S512x1024) zeros, View.ld_unit_zero (S := S1408x1024) zeros]
  unfold k0_pay1
  exact congrArg (· * Ideal.ofBits .f32 0x3F000000#32) (product_at dot_S512x1024_S1408x1024_S512x1408_1_1_0_0_n_n rfl rfl x y _ z (fun k => ix2 (z 0) k) (fun k => ix2 (z 1) k)
    (fun _ => index_eq rfl rfl) (fun _ => index_eq rfl rfl) Ideal.ofBits_zero_f32)

/-- An array that is half the product is what the call leaves. -/
theorem left (X : S4096x2816.Idx → EReal)
    (h : ∀ z : S4096x2816.Idx, X z = Ideal.ofBits .f32 0x3F000000#32 * overColumns (K := 1024) (m ((c : Thread nD τ).loc main_arg0)) (m ((c : Thread nD τ).loc main_arg1)) (z 0).val (z 1).val) :
    (dats m 0 c).arrAt 2 cfg0.N = X := by
  refine (dats m 0 c).arrAt_eq_of_covers 2 _ covers fun t _ y => ?_
  show (dats m 0 c).after 2 t y = X (((cfg0.win 2).blk t).view.emb y)
  rw [h, after0_2]
  have e0 : ((((cfg0.win 2).blk t).view.emb y) 0).val = t.val / 2 * 512 + (y 0).val := lies (w := win0_2) _ y 0 rfl (congrFun (index_2 _) 0)
  have e1 : ((((cfg0.win 2).blk t).view.emb y) 1).val = t.val % 2 * 1408 + (y 1).val := lies (w := win0_2) _ y 1 rfl (congrFun (index_2 _) 1)
  rw [e0, e1]
  refine (tile_at _ _ y).trans ((mul_comm (G := EReal) _ _).trans (congrArg (Ideal.ofBits .f32 0x3F000000#32 * ·) (Finset.sum_congr rfl fun k _ => ?_)))
  rw [block_0, block_1]
  have ek (n : ℕ) : 0 * 1024 + n = n := by omega
  exact congrArg₂ (· * ·) (congrArg (entry _ _) (ek k.val)) (congrArg (entry _ _) (ek k.val))

end Cert.FfnDzProof

end
-- ==== Proof.FfnDwdTile.lean ====
/-
# The gradient of the layer's second matrix

Half of `zᵀ dy` over the device's 4096 rows, a tile of 256 rows at a time: each tile takes four steps of 1024 rows, kept in a scratch
buffer that the first of the four sets and the others add to; the last writes half of it out.
-/
module

public import proofs.«01_k».proof.Proof.Products
public import proofs.«01_k».proof.Proof.Gen.FfnDwdIdeal.Value

@[expose] public section

noncomputable section

namespace Cert.FfnDwdProof

open Cert.FfnDwdIdeal Cert.FfnDwdIdeal.Gen Cert.Train
open Idealize.ShloMosaic Idealize.ShloMosaic.TcCoe
open Idealize.ShloMosaic.Pipeline

set_option Elab.async false

theorem zeros : ∀ a : Fin 2, (![0, 0] : Fin 2 → ℕ) a = 0 := by decide

section
variable {F : FTy → Type} [FloatOps F] (c : Dev nD) (i : grid0.Coords)
  (M3 : Memref sig .tc .vmem S1024x256 .bf16) (h3 : M3.IsWhole) (M4 : Memref sig .tc .vmem S1024x1024 .f32) (h4 : M4.IsWhole)
  (M5 : Memref sig .tc .vmem S256x1024 .f32) (h5 : M5.IsWhole) (M6 : Memref sig .tc .vmem S256x1024 .f32) (h6 : M6.IsWhole)
  (x : S1024x256.Idx → Elt F .bf16) (y : S1024x1024.Idx → Elt F .f32) (w : S256x1024.Idx → Elt F .f32)

/-! ## One step -/

theorem kept_first (a b d) : sout0_A_0 c i M3 h3 M4 h4 M5 h5 M6 h6 a b d x y = k0_pay2 x y := by
  unfold sout0_A_0
  refine (store_over VS0_0 _ zeros inb_S256x1024_S256x1024_0_0 _ _).trans ?_
  rw [load_held M3 h3 zeros _ x, load_held M4 h4 zeros _ y]
theorem kept_later (a b d) : sout0_B_0 c i M3 h3 M4 h4 M5 h5 M6 h6 a b d x y w = k0_pay3 x y w := by
  unfold sout0_B_0
  refine (store_over VS0_0 _ zeros inb_S256x1024_S256x1024_0_0 _ _).trans ?_
  rw [load_held M3 h3 zeros _ x, load_held M4 h4 zeros _ y, load_held M6 h6 zeros _ w]
theorem kept_last (a b d) : sout0_C_0 c i M3 h3 M4 h4 M5 h5 M6 h6 a b d x y w = k0_pay3 x y w := by
  unfold sout0_C_0
  refine (store_over VS0_0 _ zeros inb_S256x1024_S256x1024_0_0 _ _).trans ?_
  rw [load_held M3 h3 zeros _ x, load_held M4 h4 zeros _ y, load_held M6 h6 zeros _ w]
theorem made_last (a b d) : out0_C_2 c i M3 h3 M4 h4 M5 h5 M6 h6 a b d x y w = k0_pay4 (k0_pay3 x y w) := by
  unfold out0_C_2
  refine (store_over VO0_2 _ zeros inb_S256x1024_S256x1024_0_0 _ _).trans ?_
  unfold kernelRun0_C.sl.v13 kernelRun0_C.sl.HS0_1
  have hz : (![0, 0] : Fin S256x1024.rank → ℕ) = fun _ => 0 := funext zeros
  rw [View.readCov_unit_zero (Val := Elt F) (S := S256x1024) M6.view hz]
  rw [load_held M3 h3 zeros _ x, load_held M4 h4 zeros _ y, load_held M6 h6 zeros _ w]

end

/-! ## The tiles -/

theorem index_0 : ∀ t : Fin grid0.N, win0_0.index t = ![t.val % 4, t.val / 4] := by decide +kernel
theorem index_1 : ∀ t : Fin grid0.N, win0_1.index t = ![t.val % 4, 0] := by decide +kernel
theorem index_2 : ∀ t : Fin grid0.N, win0_2.index t = ![t.val / 4, 0] := by decide +kernel
theorem covers : (cfg0.win 2).Covers := by decide +kernel

variable (m : (ℓ : Loc nD τ sig) → Buf (Elt Ideal) ℓ) (c : Dev nD)

theorem block_0 (t : Fin grid0.N) (y : S1024x256.Idx) :
    iblk m c 0 t y = entry (m ((c : Thread nD τ).loc main_arg0)) (t.val % 4 * 1024 + (y 0).val) (t.val / 4 * 256 + (y 1).val) :=
  read_entry (a := 4096) (b := 2816) _ (((cfg0.win 0).blk t).view.emb y) (lies (w := win0_0) t y 0 rfl (congrFun (index_0 t) 0)) (lies (w := win0_0) t y 1 rfl (congrFun (index_0 t) 1))
theorem block_1 (t : Fin grid0.N) (y : S1024x1024.Idx) :
    iblk m c 1 t y = entry (m ((c : Thread nD τ).loc main_arg1)) (t.val % 4 * 1024 + (y 0).val) (0 * 1024 + (y 1).val) :=
  read_entry (a := 4096) (b := 1024) _ (((cfg0.win 1).blk t).view.emb y) (lies (w := win0_1) t y 0 rfl (congrFun (index_1 t) 0)) (lies (w := win0_1) t y 1 rfl (congrFun (index_1 t) 1))

/-- A product of two tiles, at an index. -/
theorem part_at (x : S1024x256.Idx → EReal) (y : S1024x1024.Idx → EReal) (z : S256x1024.Idx) :
    k0_pay1 (F := Ideal) x y z = ∑ k : Fin 1024, x (ix2 k (z 0)) * y (ix2 k (z 1)) := by
  unfold k0_pay1
  exact product_at dot_S1024x256_S1024x1024_S256x1024_0_0_1_1_n_n rfl rfl x y _ z (fun k => ix2 k (z 0)) (fun k => ix2 k (z 1))
    (fun _ => index_eq rfl rfl) (fun _ => index_eq rfl rfl) Ideal.ofBits_zero_f32

/-- What step `t` adds. -/
def part (n : ℕ) (h : n < grid0.N) : S256x1024.Idx → EReal := k0_pay1 (F := Ideal) (iblk m c 0 ⟨n, h⟩) (iblk m c 1 ⟨n, h⟩)

theorem first (n : ℕ) (h : n < grid0.N) (h0 : n % 4 = 0) : (outsAt0 m c n h).2 = part m c n h := by
  rw [outsAt0_A m c ⟨n, h⟩ h0 (by show ¬1 ≤ n % 4; omega) (by show ¬n % 4 = 3; omega)]
  dsimp only
  rw [kept_first]
  unfold k0_pay2 part
  exact shapeCast_self _ _

theorem later (n : ℕ) (h : n < grid0.N) (h' : n + 1 < grid0.N) (h0 : ¬(n + 1) % 4 = 0) :
    (outsAt0 m c (n + 1) h').2 = fun i => (outsAt0 m c n h).2 i + part m c (n + 1) h' i := by
  have e : k0_pay3 (F := Ideal) (iblk m c 0 ⟨n + 1, h'⟩) (iblk m c 1 ⟨n + 1, h'⟩) (outsAt0 m c n h).2 = fun i => (outsAt0 m c n h).2 i + part m c (n + 1) h' i := by
    unfold k0_pay3 part
    exact shapeCast_self _ _
  rw [← e]
  by_cases h3 : (n + 1) % 4 = 3
  · rw [outsAt0_C m c ⟨n + 1, h'⟩ h0 (by show 1 ≤ (n + 1) % 4; omega) h3]
    dsimp only
    rw [kept_last]
    rfl
  · rw [outsAt0_B m c ⟨n + 1, h'⟩ h0 (by show 1 ≤ (n + 1) % 4; omega) h3]
    dsimp only
    rw [kept_later]
    rfl

/-- The last step of a tile leaves half of what is kept. -/
theorem last (t : Fin grid0.N) (h3 : t.val % 4 = 3) : (outsAt0 m c t.val t.isLt).1 = k0_pay4 (outsAt0 m c t.val t.isLt).2 := by
  rw [outsAt0_C m c t (by omega) (by omega) h3]
  dsimp only
  rw [kept_last, made_last]

/-- Once a tile has had its four steps, the whole product is kept. -/
theorem kept_total (q : ℕ) (h : q * 4 + 3 < grid0.N) (y : S256x1024.Idx) :
    (outsAt0 m c (q * 4 + 3) h).2 y = overRows (K := 4096) (m ((c : Thread nD τ).loc main_arg0)) (m ((c : Thread nD τ).loc main_arg1)) (q * 256 + (y 0).val) (0 * 1024 + (y 1).val) := by
  refine tile_total (b := 1024) (fun n h => (outsAt0 m c n h).2) (part m c) (first m c) (later m c) q y h
    (fun r => entry (m ((c : Thread nD τ).loc main_arg0)) r (q * 256 + (y 0).val) * entry (m ((c : Thread nD τ).loc main_arg1)) r (0 * 1024 + (y 1).val)) fun s hs h' => ?_
  have em : (q * 4 + s) % 4 = s := by omega
  have ed : (q * 4 + s) / 4 = q := by omega
  refine (part_at _ _ y).trans (Finset.sum_congr rfl fun k _ => ?_)
  rw [block_0, block_1]
  dsimp only
  rw [em, ed]
  rfl

/-- An array that is half the product is what the call leaves. -/
theorem left (X : S2816x1024.Idx → EReal)
    (h : ∀ z : S2816x1024.Idx, X z = Ideal.ofBits .f32 0x3F000000#32 * overRows (K := 4096) (m ((c : Thread nD τ).loc main_arg0)) (m ((c : Thread nD τ).loc main_arg1)) (z 0).val (z 1).val) :
    (dats m 0 c).arrAt 2 cfg0.N = X := by
  refine (dats m 0 c).arrAt_eq_of_covers 2 _ covers fun t hf y => ?_
  have h3 : t.val % 4 = 3 := (flush0_2 t).mp hf
  obtain ⟨q, hq⟩ : ∃ q, t.val = q * 4 + 3 := ⟨t.val / 4, by omega⟩
  have hq' : q * 4 + 3 < grid0.N := hq ▸ t.isLt
  obtain rfl : t = ⟨q * 4 + 3, hq'⟩ := Fin.ext hq
  show (dats m 0 c).after 2 _ y = X (((cfg0.win 2).blk _).view.emb y)
  rw [h, after0_2, last m c _ h3]
  have e0 : ((((cfg0.win 2).blk ⟨q * 4 + 3, hq'⟩).view.emb y) 0).val = (q * 4 + 3) / 4 * 256 + (y 0).val := lies (w := win0_2) _ y 0 rfl (congrFun (index_2 _) 0)
  have e1 : ((((cfg0.win 2).blk ⟨q * 4 + 3, hq'⟩).view.emb y) 1).val = 0 * 1024 + (y 1).val := lies (w := win0_2) _ y 1 rfl (congrFun (index_2 _) 1)
  rw [e0, e1, show (q * 4 + 3) / 4 = q by omega, ← kept_total m c q hq' y]
  exact mul_comm (G := EReal) _ _

end Cert.FfnDwdProof

end
-- ==== Proof.FfnDwguTile.lean ====
/-
# The gradient of the layer's first matrix

`hᵀ dab` over the device's 4096 rows, a tile of 512 by 1408 at a time: each tile takes four steps of 1024 rows, kept in a scratch
buffer that the first of the four sets and the others add to; the last writes it out.
-/
module

public import proofs.«01_k».proof.Proof.Products
public import proofs.«01_k».proof.Proof.Gen.FfnDwguIdeal.Value

@[expose] public section

noncomputable section

namespace Cert.FfnDwguProof

open Cert.FfnDwguIdeal Cert.FfnDwguIdeal.Gen Cert.Train
open Idealize.ShloMosaic Idealize.ShloMosaic.TcCoe
open Idealize.ShloMosaic.Pipeline

set_option Elab.async false

theorem zeros : ∀ a : Fin 2, (![0, 0] : Fin 2 → ℕ) a = 0 := by decide

/-! ## One step -/

section
variable {F : FTy → Type} [FloatOps F] (c : Dev nD) (i : grid0.Coords)
  (M3 : Memref sig .tc .vmem S1024x512 .bf16) (h3 : M3.IsWhole) (M4 : Memref sig .tc .vmem S1024x1408 .bf16) (h4 : M4.IsWhole)
  (M5 : Memref sig .tc .vmem S512x1408 .f32) (h5 : M5.IsWhole) (M6 : Memref sig .tc .vmem S512x1408 .f32) (h6 : M6.IsWhole)
  (x : S1024x512.Idx → Elt F .bf16) (y : S1024x1408.Idx → Elt F .bf16) (w : S512x1408.Idx → Elt F .f32)

theorem kept_first (a b d) : sout0_A_0 c i M3 h3 M4 h4 M5 h5 M6 h6 a b d x y = k0_pay2 x y := by
  unfold sout0_A_0
  refine (store_over VS0_0 _ zeros inb_S512x1408_S512x1408_0_0 _ _).trans ?_
  rw [load_held M3 h3 zeros _ x, load_held M4 h4 zeros _ y]
theorem kept_later (a b d) : sout0_B_0 c i M3 h3 M4 h4 M5 h5 M6 h6 a b d x y w = k0_pay3 x y w := by
  unfold sout0_B_0
  refine (store_over VS0_0 _ zeros inb_S512x1408_S512x1408_0_0 _ _).trans ?_
  rw [load_held M3 h3 zeros _ x, load_held M4 h4 zeros _ y, load_held M6 h6 zeros _ w]
theorem kept_last (a b d) : sout0_C_0 c i M3 h3 M4 h4 M5 h5 M6 h6 a b d x y w = k0_pay3 x y w := by
  unfold sout0_C_0
  refine (store_over VS0_0 _ zeros inb_S512x1408_S512x1408_0_0 _ _).trans ?_
  rw [load_held M3 h3 zeros _ x, load_held M4 h4 zeros _ y, load_held M6 h6 zeros _ w]
theorem made_last (a b d) : out0_C_2 c i M3 h3 M4 h4 M5 h5 M6 h6 a b d x y w = k0_pay3 x y w := by
  unfold out0_C_2
  refine (store_over VO0_2 _ zeros inb_S512x1408_S512x1408_0_0 _ _).trans ?_
  unfold kernelRun0_C.sl.v12 kernelRun0_C.sl.HS0_1
  have hz : (![0, 0] : Fin S512x1408.rank → ℕ) = fun _ => 0 := funext zeros
  rw [View.readCov_unit_zero (Val := Elt F) (S := S512x1408) M6.view hz]
  rw [load_held M3 h3 zeros _ x, load_held M4 h4 zeros _ y, load_held M6 h6 zeros _ w]

end

/-! ## The tiles -/

theorem index_0 : ∀ t : Fin grid0.N, win0_0.index t = ![t.val % 4, t.val / 4 / 4] := by decide +kernel
theorem index_1 : ∀ t : Fin grid0.N, win0_1.index t = ![t.val % 4, t.val / 4 % 4] := by decide +kernel
theorem index_2 : ∀ t : Fin grid0.N, win0_2.index t = ![t.val / 4 / 4, t.val / 4 % 4] := by decide +kernel
theorem covers : (cfg0.win 2).Covers := by decide +kernel

variable (m : (ℓ : Loc nD τ sig) → Buf (Elt Ideal) ℓ) (c : Dev nD)

theorem block_0 (t : Fin grid0.N) (y : S1024x512.Idx) :
    iblk m c 0 t y = entry (m ((c : Thread nD τ).loc main_arg0)) (t.val % 4 * 1024 + (y 0).val) (t.val / 4 / 4 * 512 + (y 1).val) :=
  read_entry (a := 4096) (b := 1024) _ (((cfg0.win 0).blk t).view.emb y) (lies (w := win0_0) t y 0 rfl (congrFun (index_0 t) 0)) (lies (w := win0_0) t y 1 rfl (congrFun (index_0 t) 1))
theorem block_1 (t : Fin grid0.N) (y : S1024x1408.Idx) :
    iblk m c 1 t y = entry (m ((c : Thread nD τ).loc main_arg1)) (t.val % 4 * 1024 + (y 0).val) (t.val / 4 % 4 * 1408 + (y 1).val) :=
  read_entry (a := 4096) (b := 5632) _ (((cfg0.win 1).blk t).view.emb y) (lies (w := win0_1) t y 0 rfl (congrFun (index_1 t) 0)) (lies (w := win0_1) t y 1 rfl (congrFun (index_1 t) 1))

/-- A product of two tiles, at an index. -/
theorem part_at (x : S1024x512.Idx → EReal) (y : S1024x1408.Idx → EReal) (z : S512x1408.Idx) :
    k0_pay1 (F := Ideal) x y z = ∑ k : Fin 1024, x (ix2 k (z 0)) * y (ix2 k (z 1)) := by
  unfold k0_pay1
  exact product_at dot_S1024x512_S1024x1408_S512x1408_0_0_1_1_n_n rfl rfl x y _ z (fun k => ix2 k (z 0)) (fun k => ix2 k (z 1))
    (fun _ => index_eq rfl rfl) (fun _ => index_eq rfl rfl) Ideal.ofBits_zero_f32

/-- What step `n` adds. -/
def part (n : ℕ) (h : n < grid0.N) : S512x1408.Idx → EReal := k0_pay1 (F := Ideal) (iblk m c 0 ⟨n, h⟩) (iblk m c 1 ⟨n, h⟩)

theorem first (n : ℕ) (h : n < grid0.N) (h0 : n % 4 = 0) : (outsAt0 m c n h).2 = part m c n h := by
  rw [outsAt0_A m c ⟨n, h⟩ h0 (by show ¬1 ≤ n % 4; omega) (by show ¬n % 4 = 3; omega)]
  dsimp only
  rw [kept_first]
  unfold k0_pay2 part
  exact shapeCast_self _ _

theorem later (n : ℕ) (h : n < grid0.N) (h' : n + 1 < grid0.N) (h0 : ¬(n + 1) % 4 = 0) :
    (outsAt0 m c (n + 1) h').2 = fun i => (outsAt0 m c n h).2 i + part m c (n + 1) h' i := by
  have e : k0_pay3 (F := Ideal) (iblk m c 0 ⟨n + 1, h'⟩) (iblk m c 1 ⟨n + 1, h'⟩) (outsAt0 m c n h).2 = fun i => (outsAt0 m c n h).2 i + part m c (n + 1) h' i := by
    unfold k0_pay3 part
    exact shapeCast_self _ _
  rw [← e]
  by_cases h3 : (n + 1) % 4 = 3
  · rw [outsAt0_C m c ⟨n + 1, h'⟩ h0 (by show 1 ≤ (n + 1) % 4; omega) h3]
    dsimp only
    rw [kept_last]
    rfl
  · rw [outsAt0_B m c ⟨n + 1, h'⟩ h0 (by show 1 ≤ (n + 1) % 4; omega) h3]
    dsimp only
    rw [kept_later]
    rfl

/-- The last step of a tile leaves what is kept. -/
theorem last (t : Fin grid0.N) (h3 : t.val % 4 = 3) : (outsAt0 m c t.val t.isLt).1 = (outsAt0 m c t.val t.isLt).2 := by
  rw [outsAt0_C m c t (by omega) (by omega) h3]
  dsimp only
  rw [kept_last, made_last]

/-- Once a tile has had its four steps, the whole product is kept. -/
theorem kept_total (q : ℕ) (h : q * 4 + 3 < grid0.N) (y : S512x1408.Idx) :
    (outsAt0 m c (q * 4 + 3) h).2 y
      = overRows (K := 4096) (m ((c : Thread nD τ).loc main_arg0)) (m ((c : Thread nD τ).loc main_arg1)) (q / 4 * 512 + (y 0).val) (q % 4 * 1408 + (y 1).val) := by
  refine tile_total (b := 1024) (fun n h => (outsAt0 m c n h).2) (part m c) (first m c) (later m c) q y h
    (fun r => entry (m ((c : Thread nD τ).loc main_arg0)) r (q / 4 * 512 + (y 0).val) * entry (m ((c : Thread nD τ).loc main_arg1)) r (q % 4 * 1408 + (y 1).val)) fun s hs h' => ?_
  have em : (q * 4 + s) % 4 = s := by omega
  have ed : (q * 4 + s) / 4 = q := by omega
  refine (part_at _ _ y).trans (Finset.sum_congr rfl fun k _ => ?_)
  rw [block_0, block_1]
  dsimp only
  rw [em, ed]
  rfl

/-- An array that is the product is what the call leaves. -/
theorem left (X : S1024x5632.Idx → EReal)
    (h : ∀ z : S1024x5632.Idx, X z = overRows (K := 4096) (m ((c : Thread nD τ).loc main_arg0)) (m ((c : Thread nD τ).loc main_arg1)) (z 0).val (z 1).val) :
    (dats m 0 c).arrAt 2 cfg0.N = X := by
  refine (dats m 0 c).arrAt_eq_of_covers 2 _ covers fun t hf y => ?_
  have h3 : t.val % 4 = 3 := (flush0_2 t).mp hf
  obtain ⟨q, hq⟩ : ∃ q, t.val = q * 4 + 3 := ⟨t.val / 4, by omega⟩
  have hq' : q * 4 + 3 < grid0.N := hq ▸ t.isLt
  obtain rfl : t = ⟨q * 4 + 3, hq'⟩ := Fin.ext hq
  show (dats m 0 c).after 2 _ y = X (((cfg0.win 2).blk _).view.emb y)
  rw [h, after0_2, last m c _ h3]
  have e0 : ((((cfg0.win 2).blk ⟨q * 4 + 3, hq'⟩).view.emb y) 0).val = (q * 4 + 3) / 4 / 4 * 512 + (y 0).val := lies (w := win0_2) _ y 0 rfl (congrFun (index_2 _) 0)
  have e1 : ((((cfg0.win 2).blk ⟨q * 4 + 3, hq'⟩).view.emb y) 1).val = (q * 4 + 3) / 4 % 4 * 1408 + (y 1).val := lies (w := win0_2) _ y 1 rfl (congrFun (index_2 _) 1)
  rw [e0, e1, show (q * 4 + 3) / 4 = q by omega]
  exact kept_total m c q hq' y

end Cert.FfnDwguProof

end
-- ==== Proof.FfnDhTile.lean ====
/-
# The gradient of the layer's input

`dab wguᵀ` over the 5632 columns, a tile of 512 rows at a time: each tile takes four steps of 1408 columns, kept in a scratch buffer
that the first of the four sets and the others add to; the last writes it out.
-/
module

public import proofs.«01_k».proof.Proof.Products
public import proofs.«01_k».proof.Proof.Gen.FfnDhIdeal.Value

@[expose] public section

noncomputable section

namespace Cert.FfnDhProof

open Cert.FfnDhIdeal Cert.FfnDhIdeal.Gen Cert.Train
open Idealize.ShloMosaic Idealize.ShloMosaic.TcCoe
open Idealize.ShloMosaic.Pipeline

set_option Elab.async false

theorem zeros : ∀ a : Fin 2, (![0, 0] : Fin 2 → ℕ) a = 0 := by decide

/-! ## One step -/

section
variable {F : FTy → Type} [FloatOps F] (c : Dev nD) (i : grid0.Coords)
  (M3 : Memref sig .tc .vmem S512x1408 .bf16) (h3 : M3.IsWhole) (M4 : Memref sig .tc .vmem S1024x1408 .bf16) (h4 : M4.IsWhole)
  (M5 : Memref sig .tc .vmem S512x1024 .f32) (h5 : M5.IsWhole) (M6 : Memref sig .tc .vmem S512x1024 .f32) (h6 : M6.IsWhole)
  (x : S512x1408.Idx → Elt F .bf16) (y : S1024x1408.Idx → Elt F .bf16) (w : S512x1024.Idx → Elt F .f32)

theorem kept_first (a b d) : sout0_A_0 c i M3 h3 M4 h4 M5 h5 M6 h6 a b d x y = k0_pay2 x y := by
  unfold sout0_A_0
  refine (store_over VS0_0 _ zeros inb_S512x1024_S512x1024_0_0 _ _).trans ?_
  rw [load_held M3 h3 zeros _ x, load_held M4 h4 zeros _ y]
theorem kept_later (a b d) : sout0_B_0 c i M3 h3 M4 h4 M5 h5 M6 h6 a b d x y w = k0_pay3 x y w := by
  unfold sout0_B_0
  refine (store_over VS0_0 _ zeros inb_S512x1024_S512x1024_0_0 _ _).trans ?_
  rw [load_held M3 h3 zeros _ x, load_held M4 h4 zeros _ y, load_held M6 h6 zeros _ w]
theorem kept_last (a b d) : sout0_C_0 c i M3 h3 M4 h4 M5 h5 M6 h6 a b d x y w = k0_pay3 x y w := by
  unfold sout0_C_0
  refine (store_over VS0_0 _ zeros inb_S512x1024_S512x1024_0_0 _ _).trans ?_
  rw [load_held M3 h3 zeros _ x, load_held M4 h4 zeros _ y, load_held M6 h6 zeros _ w]
theorem made_last (a b d) : out0_C_2 c i M3 h3 M4 h4 M5 h5 M6 h6 a b d x y w = k0_pay3 x y w := by
  unfold out0_C_2
  refine (store_over VO0_2 _ zeros inb_S512x1024_S512x1024_0_0 _ _).trans ?_
  unfold kernelRun0_C.sl.v12 kernelRun0_C.sl.HS0_1
  have hz : (![0, 0] : Fin S512x1024.rank → ℕ) = fun _ => 0 := funext zeros
  rw [View.readCov_unit_zero (Val := Elt F) (S := S512x1024) M6.view hz]
  rw [load_held M3 h3 zeros _ x, load_held M4 h4 zeros _ y, load_held M6 h6 zeros _ w]

end

/-! ## The tiles -/

theorem index_0 : ∀ t : Fin grid0.N, win0_0.index t = ![t.val / 4, t.val % 4] := by decide +kernel
theorem index_1 : ∀ t : Fin grid0.N, win0_1.index t = ![0, t.val % 4] := by decide +kernel
theorem index_2 : ∀ t : Fin grid0.N, win0_2.index t = ![t.val / 4, 0] := by decide +kernel
theorem covers : (cfg0.win 2).Covers := by decide +kernel

variable (m : (ℓ : Loc nD τ sig) → Buf (Elt Ideal) ℓ) (c : Dev nD)

theorem block_0 (t : Fin grid0.N) (y : S512x1408.Idx) :
    iblk m c 0 t y = entry (m ((c : Thread nD τ).loc main_arg0)) (t.val / 4 * 512 + (y 0).val) (t.val % 4 * 1408 + (y 1).val) :=
  read_entry (a := 4096) (b := 5632) _ (((cfg0.win 0).blk t).view.emb y) (lies (w := win0_0) t y 0 rfl (congrFun (index_0 t) 0)) (lies (w := win0_0) t y 1 rfl (congrFun (index_0 t) 1))
theorem block_1 (t : Fin grid0.N) (y : S1024x1408.Idx) :
    iblk m c 1 t y = entry (m ((c : Thread nD τ).loc main_arg1)) (0 * 1024 + (y 0).val) (t.val % 4 * 1408 + (y 1).val) :=
  read_entry (a := 1024) (b := 5632) _ (((cfg0.win 1).blk t).view.emb y) (lies (w := win0_1) t y 0 rfl (congrFun (index_1 t) 0)) (lies (w := win0_1) t y 1 rfl (congrFun (index_1 t) 1))

/-- A product of two tiles, at an index. -/
theorem part_at (x : S512x1408.Idx → EReal) (y : S1024x1408.Idx → EReal) (z : S512x1024.Idx) :
    k0_pay1 (F := Ideal) x y z = ∑ k : Fin 1408, x (ix2 (z 0) k) * y (ix2 (z 1) k) := by
  unfold k0_pay1
  exact product_at dot_S512x1408_S1024x1408_S512x1024_1_1_0_0_n_n rfl rfl x y _ z (fun k => ix2 (z 0) k) (fun k => ix2 (z 1) k)
    (fun _ => index_eq rfl rfl) (fun _ => index_eq rfl rfl) Ideal.ofBits_zero_f32

/-- What step `n` adds. -/
def part (n : ℕ) (h : n < grid0.N) : S512x1024.Idx → EReal := k0_pay1 (F := Ideal) (iblk m c 0 ⟨n, h⟩) (iblk m c 1 ⟨n, h⟩)

theorem first (n : ℕ) (h : n < grid0.N) (h0 : n % 4 = 0) : (outsAt0 m c n h).2 = part m c n h := by
  rw [outsAt0_A m c ⟨n, h⟩ h0 (by show ¬1 ≤ n % 4; omega) (by show ¬n % 4 = 3; omega)]
  dsimp only
  rw [kept_first]
  unfold k0_pay2 part
  exact shapeCast_self _ _

theorem later (n : ℕ) (h : n < grid0.N) (h' : n + 1 < grid0.N) (h0 : ¬(n + 1) % 4 = 0) :
    (outsAt0 m c (n + 1) h').2 = fun i => (outsAt0 m c n h).2 i + part m c (n + 1) h' i := by
  have e : k0_pay3 (F := Ideal) (iblk m c 0 ⟨n + 1, h'⟩) (iblk m c 1 ⟨n + 1, h'⟩) (outsAt0 m c n h).2 = fun i => (outsAt0 m c n h).2 i + part m c (n + 1) h' i := by
    unfold k0_pay3 part
    exact shapeCast_self _ _
  rw [← e]
  by_cases h3 : (n + 1) % 4 = 3
  · rw [outsAt0_C m c ⟨n + 1, h'⟩ h0 (by show 1 ≤ (n + 1) % 4; omega) h3]
    dsimp only
    rw [kept_last]
    rfl
  · rw [outsAt0_B m c ⟨n + 1, h'⟩ h0 (by show 1 ≤ (n + 1) % 4; omega) h3]
    dsimp only
    rw [kept_later]
    rfl

/-- The last step of a tile leaves what is kept. -/
theorem last (t : Fin grid0.N) (h3 : t.val % 4 = 3) : (outsAt0 m c t.val t.isLt).1 = (outsAt0 m c t.val t.isLt).2 := by
  rw [outsAt0_C m c t (by omega) (by omega) h3]
  dsimp only
  rw [kept_last, made_last]

/-- Once a tile has had its four steps, the whole product is kept. -/
theorem kept_total (q : ℕ) (h : q * 4 + 3 < grid0.N) (y : S512x1024.Idx) :
    (outsAt0 m c (q * 4 + 3) h).2 y
      = overColumns (K := 5632) (m ((c : Thread nD τ).loc main_arg0)) (m ((c : Thread nD τ).loc main_arg1)) (q * 512 + (y 0).val) (0 * 1024 + (y 1).val) := by
  refine tile_total (b := 1408) (fun n h => (outsAt0 m c n h).2) (part m c) (first m c) (later m c) q y h
    (fun r => entry (m ((c : Thread nD τ).loc main_arg0)) (q * 512 + (y 0).val) r * entry (m ((c : Thread nD τ).loc main_arg1)) (0 * 1024 + (y 1).val) r) fun s hs h' => ?_
  have em : (q * 4 + s) % 4 = s := by omega
  have ed : (q * 4 + s) / 4 = q := by omega
  refine (part_at _ _ y).trans (Finset.sum_congr rfl fun k _ => ?_)
  rw [block_0, block_1]
  dsimp only
  rw [em, ed]
  rfl

/-- An array that is the product is what the call leaves. -/
theorem left (X : S4096x1024.Idx → EReal)
    (h : ∀ z : S4096x1024.Idx, X z = overColumns (K := 5632) (m ((c : Thread nD τ).loc main_arg0)) (m ((c : Thread nD τ).loc main_arg1)) (z 0).val (z 1).val) :
    (dats m 0 c).arrAt 2 cfg0.N = X := by
  refine (dats m 0 c).arrAt_eq_of_covers 2 _ covers fun t hf y => ?_
  have h3 : t.val % 4 = 3 := (flush0_2 t).mp hf
  obtain ⟨q, hq⟩ : ∃ q, t.val = q * 4 + 3 := ⟨t.val / 4, by omega⟩
  have hq' : q * 4 + 3 < grid0.N := hq ▸ t.isLt
  obtain rfl : t = ⟨q * 4 + 3, hq'⟩ := Fin.ext hq
  show (dats m 0 c).after 2 _ y = X (((cfg0.win 2).blk _).view.emb y)
  rw [h, after0_2, last m c _ h3]
  have e0 : ((((cfg0.win 2).blk ⟨q * 4 + 3, hq'⟩).view.emb y) 0).val = (q * 4 + 3) / 4 * 512 + (y 0).val := lies (w := win0_2) _ y 0 rfl (congrFun (index_2 _) 0)
  have e1 : ((((cfg0.win 2).blk ⟨q * 4 + 3, hq'⟩).view.emb y) 1).val = 0 * 1024 + (y 1).val := lies (w := win0_2) _ y 1 rfl (congrFun (index_2 _) 1)
  rw [e0, e1, show (q * 4 + 3) / 4 = q by omega]
  exact kept_total m c q hq' y

end Cert.FfnDhProof

end
-- ==== Proof.GluNumbers.lean ====
/-
# The gate

What is gated is `a s b` with `s` the sigmoid of `a`. Here are, at one entry, what the layer makes of `a` and `b`, and what it makes
of an incoming gradient: the gradient of `a` and that of `b`.
-/
module

public import proofs.«01_k».proof.Proof.Products

@[expose] public section

noncomputable section

namespace Cert.Train

open Idealize.ShloMosaic

set_option Elab.async false

/-- The number one, as a constant of the format. -/
abbrev unity : EReal := Ideal.ofBits .f32 0x3F800000#32

/-- The sigmoid spelt by its parts is the sigmoid. -/
theorem sigmoid (a : EReal) : Ideal.div unity (unity + Ideal.exp (-a)) = Ideal.logistic a := by
  unfold unity
  rw [Cert.LossProof.const_one, EReal.coe_one]
  rfl

/-- What is gated, -/
def gated (a b : EReal) : EReal := a * Ideal.logistic a * b
/-- the gradient of `a`, -/
def gateBack (a b d : EReal) : EReal := d * b * (Ideal.logistic a * (unity + a * (unity - Ideal.logistic a)))
/-- and that of `b`. -/
def upBack (a d : EReal) : EReal := d * (a * Ideal.logistic a)

/-- The left half of both matrices side by side is `a`, and the right half `b`. -/
def bothBack {n : ℕ} (A : (⟨2, ![n, 5632]⟩ : Shape).Idx → EReal) (D : (⟨2, ![n, 2816]⟩ : Shape).Idx → EReal) (i j : ℕ) : EReal :=
  if j < 2816 then gateBack (entry A i j) (entry A i (2816 + j)) (entry D i j) else upBack (entry A i (j - 2816)) (entry D i (j - 2816))

end Cert.Train

end
-- ==== Proof.GluBackTile.lean ====
/-
# The gradient of the gate

Tiles of 512 by 1408. A tile in the left half of the result takes the tiles of `a`, of `b` and of the incoming gradient to the gradient
of `a`; one in the right half takes those of `a` and of the incoming gradient to the gradient of `b`.
-/
module

public import proofs.«01_k».proof.Proof.GluNumbers
public import proofs.«01_k».proof.Proof.Gen.GluBackIdeal.Value

@[expose] public section

noncomputable section

namespace Cert.GluBackProof

open Cert.GluBackIdeal Cert.GluBackIdeal.Gen Cert.Train
open Idealize.ShloMosaic Idealize.ShloMosaic.TcCoe
open Idealize.ShloMosaic.Pipeline

set_option Elab.async false

theorem zeros : ∀ a : Fin 2, (![0, 0] : Fin 2 → ℕ) a = 0 := by decide

/-! ## One step -/

section
variable {F : FTy → Type} [FloatOps F] (c : Dev nD) (i : grid0.Coords)
  (M2 : Memref sig .tc .vmem S512x1408 .f32) (h2 : M2.IsWhole) (M3 : Memref sig .tc .vmem S512x1408 .f32) (h3 : M3.IsWhole)
  (M4 : Memref sig .tc .vmem S512x1408 .f32) (h4 : M4.IsWhole) (M5 : Memref sig .tc .vmem S512x1408 .bf16) (h5 : M5.IsWhole)
  (a b d : S512x1408.Idx → Elt F .f32)

theorem made_left (p q) : out0_A_3 c i M2 h2 M3 h3 M4 h4 M5 h5 p q a b d = k0_pay2 a d b := by
  unfold out0_A_3
  refine (store_over VO0_3 _ zeros inb_S512x1408_S512x1408_0_0 _ _).trans ?_
  rw [load_held M2 h2 zeros _ a, load_held M4 h4 zeros _ d, load_held M3 h3 zeros _ b]
theorem made_right (p q) : out0_B_3 c i M2 h2 M3 h3 M4 h4 M5 h5 p q a b d = k0_pay3 a d := by
  unfold out0_B_3
  refine (store_over VO0_3 _ zeros inb_S512x1408_S512x1408_0_0 _ _).trans ?_
  rw [load_held M2 h2 zeros _ a, load_held M4 h4 zeros _ d]

end

theorem left_at (a b d : S512x1408.Idx → EReal) (y : S512x1408.Idx) : k0_pay2 (F := Ideal) a d b y = gateBack (a y) (b y) (d y) := rfl
theorem right_at (a d : S512x1408.Idx → EReal) (y : S512x1408.Idx) : k0_pay3 (F := Ideal) a d y = upBack (a y) (d y) := rfl

/-! ## The tiles -/

theorem index_0 : ∀ t : Fin grid0.N, win0_0.index t = ![t.val / 4, t.val % 4 % 2] := by decide +kernel
theorem index_1 : ∀ t : Fin grid0.N, win0_1.index t = ![t.val / 4, t.val % 4 % 2 + 2] := by decide +kernel
theorem index_2 : ∀ t : Fin grid0.N, win0_2.index t = ![t.val / 4, t.val % 4 % 2] := by decide +kernel
theorem index_3 : ∀ t : Fin grid0.N, win0_3.index t = ![t.val / 4, t.val % 4] := by decide +kernel
theorem covers : (cfg0.win 3).Covers := by decide +kernel

variable (m : (ℓ : Loc nD τ sig) → Buf (Elt Ideal) ℓ) (c : Dev nD)

theorem block_0 (t : Fin grid0.N) (y : S512x1408.Idx) :
    iblk m c 0 t y = entry (m ((c : Thread nD τ).loc main_arg0)) (t.val / 4 * 512 + (y 0).val) (t.val % 4 % 2 * 1408 + (y 1).val) :=
  read_entry (a := 4096) (b := 5632) _ (((cfg0.win 0).blk t).view.emb y) (lies (w := win0_0) t y 0 rfl (congrFun (index_0 t) 0)) (lies (w := win0_0) t y 1 rfl (congrFun (index_0 t) 1))
theorem block_1 (t : Fin grid0.N) (y : S512x1408.Idx) :
    iblk m c 1 t y = entry (m ((c : Thread nD τ).loc main_arg0)) (t.val / 4 * 512 + (y 0).val) ((t.val % 4 % 2 + 2) * 1408 + (y 1).val) :=
  read_entry (a := 4096) (b := 5632) _ (((cfg0.win 1).blk t).view.emb y) (lies (w := win0_1) t y 0 rfl (congrFun (index_1 t) 0)) (lies (w := win0_1) t y 1 rfl (congrFun (index_1 t) 1))
theorem block_2 (t : Fin grid0.N) (y : S512x1408.Idx) :
    iblk m c 2 t y = entry (m ((c : Thread nD τ).loc main_arg1)) (t.val / 4 * 512 + (y 0).val) (t.val % 4 % 2 * 1408 + (y 1).val) :=
  read_entry (a := 4096) (b := 2816) _ (((cfg0.win 2).blk t).view.emb y) (lies (w := win0_2) t y 0 rfl (congrFun (index_2 t) 0)) (lies (w := win0_2) t y 1 rfl (congrFun (index_2 t) 1))

/-- What a step writes, at an index. -/
theorem step_at (t : Fin grid0.N) (y : S512x1408.Idx) :
    outsAt0 m c t.val t.isLt y = bothBack (n := 4096) (m ((c : Thread nD τ).loc main_arg0)) (m ((c : Thread nD τ).loc main_arg1)) (t.val / 4 * 512 + (y 0).val) (t.val % 4 * 1408 + (y 1).val) := by
  have hy : (y 1).val < 1408 := (y 1).isLt
  unfold bothBack
  by_cases h : t.val % 4 ≤ 1
  · rw [outsAt0_A m c t h (by omega), made_left, if_pos (by omega)]
    refine (left_at _ _ _ y).trans ?_
    rw [block_0, block_1, block_2, show t.val % 4 % 2 = t.val % 4 by omega, show (t.val % 4 + 2) * 1408 + (y 1).val = 2816 + (t.val % 4 * 1408 + (y 1).val) by omega]
  · rw [outsAt0_B m c t h (by omega), made_right, if_neg (by omega)]
    refine (right_at _ _ y).trans ?_
    rw [block_0, block_2, show t.val % 4 % 2 * 1408 + (y 1).val = t.val % 4 * 1408 + (y 1).val - 2816 by omega]

/-- An array that holds both gradients is what the call leaves. -/
theorem left (X : S4096x5632.Idx → EReal)
    (h : ∀ z : S4096x5632.Idx, X z = bothBack (n := 4096) (m ((c : Thread nD τ).loc main_arg0)) (m ((c : Thread nD τ).loc main_arg1)) (z 0).val (z 1).val) :
    (dats m 0 c).arrAt 3 cfg0.N = X := by
  refine (dats m 0 c).arrAt_eq_of_covers 3 _ covers fun t _ y => ?_
  show (dats m 0 c).after 3 t y = X (((cfg0.win 3).blk t).view.emb y)
  rw [h, after0_3]
  have e0 : ((((cfg0.win 3).blk t).view.emb y) 0).val = t.val / 4 * 512 + (y 0).val := lies (w := win0_3) _ y 0 rfl (congrFun (index_3 _) 0)
  have e1 : ((((cfg0.win 3).blk t).view.emb y) 1).val = t.val % 4 * 1408 + (y 1).val := lies (w := win0_3) _ y 1 rfl (congrFun (index_3 _) 1)
  rw [e0, e1]
  exact step_at m c t y

end Cert.GluBackProof

end
-- ==== Proof.FfnClaims.lean ====
/-
# What is claimed of the feed-forward layer

The layer and its gradient are eight calls: the product with the first matrix, the gate, the product with the second matrix onto what
entered; and of the gradient, the one of what is gated, the one of the second matrix, the gate's, the one of the first matrix, and the
one of what was normalized. Of each: over the float formats' bits and over the extended reals its arguments end unchanged and every
semaphore at zero, the reference likewise, and over the extended reals its result is the reference's.
-/
module

public import proofs.«01_k».proof.Defs
public import proofs.«01_k».proof.Proof.FfnUpTile
public import proofs.«01_k».proof.Proof.FfnDownTile
public import proofs.«01_k».proof.Proof.FfnDzTile
public import proofs.«01_k».proof.Proof.FfnDwdTile
public import proofs.«01_k».proof.Proof.FfnDwguTile
public import proofs.«01_k».proof.Proof.FfnDhTile
public import proofs.«01_k».proof.Proof.GluBackTile
public import proofs.«01_k».proof.Proof.Gen.GluIdeal.Value
public import proofs.«01_k».proof.Proof.Gen.FfnUp.Frame
public import proofs.«01_k».proof.Proof.Gen.FfnUpRefIdeal.Run
public import proofs.«01_k».proof.Proof.Gen.Glu.Frame
public import proofs.«01_k».proof.Proof.Gen.GluRefIdeal.Run
public import proofs.«01_k».proof.Proof.Gen.FfnDown.Frame
public import proofs.«01_k».proof.Proof.Gen.FfnDownRefIdeal.Run
public import proofs.«01_k».proof.Proof.Gen.FfnDz.Frame
public import proofs.«01_k».proof.Proof.Gen.FfnDzRefIdeal.Run
public import proofs.«01_k».proof.Proof.Gen.FfnDwd.Frame
public import proofs.«01_k».proof.Proof.Gen.FfnDwdRefIdeal.Run
public import proofs.«01_k».proof.Proof.Gen.GluBack.Frame
public import proofs.«01_k».proof.Proof.Gen.GluBackRefIdeal.Run
public import proofs.«01_k».proof.Proof.Gen.FfnDwgu.Frame
public import proofs.«01_k».proof.Proof.Gen.FfnDwguRefIdeal.Run
public import proofs.«01_k».proof.Proof.Gen.FfnDh.Frame
public import proofs.«01_k».proof.Proof.Gen.FfnDhRefIdeal.Run
public import Idealize.ShloMosaic.Lib.Quiescent

@[expose] public section

noncomputable section

namespace Cert.FfnProof

open Idealize.ShloMosaic Idealize.SL.Sem Cert.Train

set_option Elab.async false

/-- Two sums of products of entries agree term by term. -/
theorem terms {K a b c d : ℕ} (A : (⟨2, ![a, b]⟩ : Shape).Idx → EReal) (B : (⟨2, ![c, d]⟩ : Shape).Idx → EReal)
    (u : Fin K → (⟨2, ![a, b]⟩ : Shape).Idx) (v : Fin K → (⟨2, ![c, d]⟩ : Shape).Idx) :
    ∑ k : Fin K, A (u k) * B (v k) = ∑ k : Fin K, entry A (u k 0).val (u k 1).val * entry B (v k 0).val (v k 1).val :=
  Finset.sum_congr rfl fun k _ => congr (congrArg (· * ·) (read_entry A _ rfl rfl)) (read_entry B _ rfl rfl)

/-! ## The first matrix -/

theorem up_kernel : Cert.quiescent_FfnUp := fun m g _ => FfnUp.Gen.frame m g

theorem up_ideal : Cert.quiescent_FfnUpIdeal := fun m g _ => FfnUpIdeal.Gen.frame m g

theorem up_reference : Cert.quiescent_FfnUpRefIdeal := fun m g _ =>
  (θ_run FfnUpRefIdeal.defs _ _).mono (fun r h => ⟨fun c => (h c).2, sem_eq_zero_of_no_sems (by decide) r.2⟩)
    (FfnUpRefIdeal.Value.run (F := Ideal) m g)

open Cert.FfnUpRefIdeal in
theorem up_at (A : S4096x1024.Idx → EReal) (B : S1024x5632.Idx → EReal) (z : S4096x5632.Idx) :
    Host.dotGeneral (F := Ideal) (φ₁ := .f32) (φ₂ := .f32) dot_S4096x1024_S1024x5632_S4096x5632_1_0_0_1_n_n none A B z = rowByColumn A B (z 0).val (z 1).val :=
  (product_at dot_S4096x1024_S1024x5632_S4096x5632_1_0_0_1_n_n rfl rfl A B (fun _ => 0) z (fun k => ix2 (z 0) k) (fun k => ix2 k (z 1))
    (fun _ => index_eq rfl rfl) (fun _ => index_eq rfl rfl) rfl).trans (terms A B _ _)

theorem up_value : Cert.algebraic_FfnUpIdeal_FfnUpRefIdeal := fun m g m' g' _ h =>
  ⟨_, FfnUpIdeal.Value.run_blocks (F := Ideal) m g,
    (θ_run FfnUpRefIdeal.defs _ _).mono (fun _ hr c => by
      obtain ⟨h0, h1⟩ := h c
      obtain ⟨d, rest⟩ := hr c
      rw [h0, h1] at d
      exact ⟨d.trans (FfnUpProof.left m c _ fun z => up_at _ _ z).symm, rest⟩) (FfnUpRefIdeal.Value.run (F := Ideal) m' g')⟩

/-! ## The gate -/

theorem gate_kernel : Cert.quiescent_Glu := fun m g _ => Glu.Gen.frame m g

theorem gate_ideal : Cert.quiescent_GluIdeal := fun m g _ => GluIdeal.Gen.frame m g

theorem gate_reference : Cert.quiescent_GluRefIdeal := fun m g _ =>
  (θ_run GluRefIdeal.defs _ _).mono (fun r h => ⟨fun c => (h c).2, sem_eq_zero_of_no_sems (by decide) r.2⟩)
    (GluRefIdeal.Value.run (F := Ideal) m g)

/-- The left half of a matrix, at an index, -/
theorem left_half (A : (⟨2, ![4096, 5632]⟩ : Shape).Idx → EReal) (h : (⟨2, ![4096, 5632]⟩ : Shape).Slices ![0, 0] ⟨2, ![4096, 2816]⟩) (z : (⟨2, ![4096, 2816]⟩ : Shape).Idx) :
    extractStridedSlice ⟨2, ![4096, 2816]⟩ ![0, 0] A h z = entry A (z 0).val (z 1).val :=
  read_entry A _ (Nat.zero_add _) (Nat.zero_add _)
/-- and the right half. -/
theorem right_half (A : (⟨2, ![4096, 5632]⟩ : Shape).Idx → EReal) (h : (⟨2, ![4096, 5632]⟩ : Shape).Slices ![0, 2816] ⟨2, ![4096, 2816]⟩) (z : (⟨2, ![4096, 2816]⟩ : Shape).Idx) :
    extractStridedSlice ⟨2, ![4096, 2816]⟩ ![0, 2816] A h z = entry A (z 0).val (2816 + (z 1).val) :=
  read_entry A _ (Nat.zero_add _) rfl

open Cert.GluIdeal.Value in
/-- What the gate's call leaves, at an index. -/
theorem gate_at (A : (⟨2, ![4096, 5632]⟩ : Shape).Idx → EReal) (z : (⟨2, ![4096, 2816]⟩ : Shape).Idx) :
    G2 (F := Ideal) A A z = gated (entry A (z 0).val (z 1).val) (entry A (z 0).val (2816 + (z 1).val)) :=
  congrArg₂ gated (read_entry A (inIdx2_0 z) rfl rfl) (read_entry A (inIdx2_1 z) rfl (Nat.add_comm _ _))

/-- The reference's two halves, at an index. -/
theorem gate_halves (A : (⟨2, ![4096, 5632]⟩ : Shape).Idx → EReal) (p : (⟨2, ![4096, 5632]⟩ : Shape).Slices ![0, 0] ⟨2, ![4096, 2816]⟩)
    (q : (⟨2, ![4096, 5632]⟩ : Shape).Slices ![0, 2816] ⟨2, ![4096, 2816]⟩) (z : (⟨2, ![4096, 2816]⟩ : Shape).Idx) :
    gated (extractStridedSlice ⟨2, ![4096, 2816]⟩ ![0, 0] A p z) (extractStridedSlice ⟨2, ![4096, 2816]⟩ ![0, 2816] A q z)
      = gated (entry A (z 0).val (z 1).val) (entry A (z 0).val (2816 + (z 1).val)) :=
  congrArg₂ gated (left_half A p z) (right_half A q z)

theorem gate_value : Cert.algebraic_GluIdeal_GluRefIdeal := fun m g m' g' _ h =>
  ⟨_, GluIdeal.Value.run (F := Ideal) m g,
    (θ_run GluRefIdeal.defs _ _).mono (fun _ hr c => by
      obtain ⟨d, rest⟩ := hr c
      rw [h c] at d
      refine ⟨d.trans (funext fun z => ?_), rest⟩
      refine Eq.trans ?_ (gate_at _ z).symm
      refine Eq.trans ?_ (gate_halves _ Cert.GluRefIdeal.Gen.slices_S4096x5632_S4096x2816_0_0 Cert.GluRefIdeal.Gen.slices_S4096x5632_S4096x2816_0_2816 z)
      unfold gated
      rw [← sigmoid]
      rfl) (GluRefIdeal.Value.run (F := Ideal) m' g')⟩

/-! ## The second matrix -/

theorem down_kernel : Cert.quiescent_FfnDown := fun m g _ => FfnDown.Gen.frame m g

theorem down_ideal : Cert.quiescent_FfnDownIdeal := fun m g _ => FfnDownIdeal.Gen.frame m g

theorem down_reference : Cert.quiescent_FfnDownRefIdeal := fun m g _ =>
  (θ_run FfnDownRefIdeal.defs _ _).mono (fun r h => ⟨fun c => (h c).2, sem_eq_zero_of_no_sems (by decide) r.2⟩)
    (FfnDownRefIdeal.Value.run (F := Ideal) m g)

open Cert.FfnDownRefIdeal in
theorem down_at (A : S4096x2816.Idx → EReal) (B : S2816x1024.Idx → EReal) (z : S4096x1024.Idx) :
    Host.dotGeneral (F := Ideal) (φ₁ := .f32) (φ₂ := .f32) dot_S4096x2816_S2816x1024_S4096x1024_1_0_0_1_n_n none A B z = rowByColumn A B (z 0).val (z 1).val :=
  (product_at dot_S4096x2816_S2816x1024_S4096x1024_1_0_0_1_n_n rfl rfl A B (fun _ => 0) z (fun k => ix2 (z 0) k) (fun k => ix2 k (z 1))
    (fun _ => index_eq rfl rfl) (fun _ => index_eq rfl rfl) rfl).trans (terms A B _ _)

theorem down_value : Cert.algebraic_FfnDownIdeal_FfnDownRefIdeal := fun m g m' g' _ h =>
  ⟨_, FfnDownIdeal.Value.run_blocks (F := Ideal) m g,
    (θ_run FfnDownRefIdeal.defs _ _).mono (fun _ hr c => by
      obtain ⟨h0, h1, h2⟩ := h c
      obtain ⟨d, rest⟩ := hr c
      rw [h0, h1, h2] at d
      exact ⟨d.trans (FfnDownProof.left m c _ fun z => congrArg₂ (fun x y => x + Ideal.ofBits .f32 0x3F000000#32 * y) (read_entry _ z rfl rfl) (down_at _ _ z)).symm, rest⟩) (FfnDownRefIdeal.Value.run (F := Ideal) m' g')⟩

/-! ## The gradient of what is gated -/

theorem dz_kernel : Cert.quiescent_FfnDz := fun m g _ => FfnDz.Gen.frame m g

theorem dz_ideal : Cert.quiescent_FfnDzIdeal := fun m g _ => FfnDzIdeal.Gen.frame m g

theorem dz_reference : Cert.quiescent_FfnDzRefIdeal := fun m g _ =>
  (θ_run FfnDzRefIdeal.defs _ _).mono (fun r h => ⟨fun c => (h c).2, sem_eq_zero_of_no_sems (by decide) r.2⟩)
    (FfnDzRefIdeal.Value.run (F := Ideal) m g)

/-- A transposed matrix, at an index. -/
theorem turned {a b : ℕ} (A : (⟨2, ![a, b]⟩ : Shape).Idx → EReal) (h : (⟨2, ![a, b]⟩ : Shape).Transposes [1, 0] ⟨2, ![b, a]⟩) (z : (⟨2, ![b, a]⟩ : Shape).Idx) :
    transpose ⟨2, ![b, a]⟩ [1, 0] A h z = entry A (z 1).val (z 0).val :=
  read_entry A _ rfl rfl

open Cert.FfnDzRefIdeal in
theorem dz_at (A : S4096x1024.Idx → EReal) (B : S2816x1024.Idx → EReal) (h : S2816x1024.Transposes [1, 0] S1024x2816) (z : S4096x2816.Idx) :
    Host.dotGeneral (F := Ideal) (φ₁ := .f32) (φ₂ := .f32) dot_S4096x1024_S1024x2816_S4096x2816_1_0_0_1_n_n none A (transpose S1024x2816 [1, 0] B h) z
      = overColumns A B (z 0).val (z 1).val :=
  (product_at dot_S4096x1024_S1024x2816_S4096x2816_1_0_0_1_n_n rfl rfl A (transpose S1024x2816 [1, 0] B h) (fun _ => 0) z (fun k => ix2 (z 0) k) (fun k => ix2 k (z 1))
    (fun _ => index_eq rfl rfl) (fun _ => index_eq rfl rfl) rfl).trans
      (Finset.sum_congr rfl fun _ _ => congr (congrArg (· * ·) (read_entry A _ rfl rfl)) (turned B h _))

theorem dz_value : Cert.algebraic_FfnDzIdeal_FfnDzRefIdeal := fun m g m' g' _ h =>
  ⟨_, FfnDzIdeal.Value.run_blocks (F := Ideal) m g,
    (θ_run FfnDzRefIdeal.defs _ _).mono (fun _ hr c => by
      obtain ⟨h0, h1⟩ := h c
      obtain ⟨d, rest⟩ := hr c
      rw [h0, h1] at d
      exact ⟨d.trans (FfnDzProof.left m c _ fun z => congrArg (Ideal.ofBits .f32 0x3F000000#32 * ·) (dz_at _ _ _ z)).symm, rest⟩) (FfnDzRefIdeal.Value.run (F := Ideal) m' g')⟩

/-! ## The gradient of the second matrix -/

theorem dwd_kernel : Cert.quiescent_FfnDwd := fun m g _ => FfnDwd.Gen.frame m g

theorem dwd_ideal : Cert.quiescent_FfnDwdIdeal := fun m g _ => FfnDwdIdeal.Gen.frame m g

theorem dwd_reference : Cert.quiescent_FfnDwdRefIdeal := fun m g _ =>
  (θ_run FfnDwdRefIdeal.defs _ _).mono (fun r h => ⟨fun c => (h c).2, sem_eq_zero_of_no_sems (by decide) r.2⟩)
    (FfnDwdRefIdeal.Value.run (F := Ideal) m g)

open Cert.FfnDwdRefIdeal in
theorem dwd_at (A : S4096x2816.Idx → EReal) (B : S4096x1024.Idx → EReal) (h : S4096x2816.Transposes [1, 0] S2816x4096) (z : S2816x1024.Idx) :
    Host.dotGeneral (F := Ideal) (φ₁ := .f32) (φ₂ := .f32) dot_S2816x4096_S4096x1024_S2816x1024_1_0_0_1_n_n none (transpose S2816x4096 [1, 0] A h) B z
      = overRows A B (z 0).val (z 1).val :=
  (product_at dot_S2816x4096_S4096x1024_S2816x1024_1_0_0_1_n_n rfl rfl (transpose S2816x4096 [1, 0] A h) B (fun _ => 0) z (fun k => ix2 (z 0) k) (fun k => ix2 k (z 1))
    (fun _ => index_eq rfl rfl) (fun _ => index_eq rfl rfl) rfl).trans
      (Finset.sum_congr rfl fun _ _ => congr (congrArg (· * ·) (turned A h _)) (read_entry B _ rfl rfl))

theorem dwd_value : Cert.algebraic_FfnDwdIdeal_FfnDwdRefIdeal := fun m g m' g' _ h =>
  ⟨_, FfnDwdIdeal.Value.run_blocks (F := Ideal) m g,
    (θ_run FfnDwdRefIdeal.defs _ _).mono (fun _ hr c => by
      obtain ⟨h0, h1⟩ := h c
      obtain ⟨d, rest⟩ := hr c
      rw [h0, h1] at d
      exact ⟨d.trans (FfnDwdProof.left m c _ fun z => congrArg (Ideal.ofBits .f32 0x3F000000#32 * ·) (dwd_at _ _ _ z)).symm, rest⟩) (FfnDwdRefIdeal.Value.run (F := Ideal) m' g')⟩

/-! ## The gradient of the gate -/

theorem back_kernel : Cert.quiescent_GluBack := fun m g _ => GluBack.Gen.frame m g

theorem back_ideal : Cert.quiescent_GluBackIdeal := fun m g _ => GluBackIdeal.Gen.frame m g

theorem back_reference : Cert.quiescent_GluBackRefIdeal := fun m g _ =>
  (θ_run GluBackRefIdeal.defs _ _).mono (fun r h => ⟨fun c => (h c).2, sem_eq_zero_of_no_sems (by decide) r.2⟩)
    (GluBackRefIdeal.Value.run (F := Ideal) m g)

/-- Two matrices side by side, at an index. -/
theorem beside (L R : (⟨2, ![4096, 2816]⟩ : Shape).Idx → EReal) (h : Shape.Concatenates [⟨2, ![4096, 2816]⟩, ⟨2, ![4096, 2816]⟩] ⟨2, ![4096, 5632]⟩ 1) (z : (⟨2, ![4096, 5632]⟩ : Shape).Idx) :
    concatenate ⟨2, ![4096, 5632]⟩ 1 [⟨⟨2, ![4096, 2816]⟩, L⟩, ⟨⟨2, ![4096, 2816]⟩, R⟩] h z
      = if h : (z 1).val < 2816 then L (ix2 (z 0) ⟨(z 1).val, h⟩) else R (ix2 (z 0) ⟨(z 1).val - 2816, by have : (z 1).val < 5632 := (z 1).isLt; omega⟩) := by
  by_cases hz : (z 1).val < 2816
  · rw [dif_pos hz]
    refine concatenate_pair_apply_left 1 L R h z rfl _ fun b => ?_
    match b with
    | ⟨0, _⟩ => rfl
    | ⟨1, _⟩ => rfl
  · rw [dif_neg hz]
    refine concatenate_pair_apply_right 1 L R h z rfl rfl _ (fun b hb => ?_) (Nat.sub_add_cancel (not_lt.mp hz))
    match b with
    | ⟨0, _⟩ => rfl
    | ⟨1, _⟩ => exact absurd rfl hb

/-- Two halves that hold the two gradients make the whole, which the rounding keeps. -/
theorem back_whole (A : (⟨2, ![4096, 5632]⟩ : Shape).Idx → EReal) (D L R : (⟨2, ![4096, 2816]⟩ : Shape).Idx → EReal)
    (h : Shape.Concatenates [⟨2, ![4096, 2816]⟩, ⟨2, ![4096, 2816]⟩] ⟨2, ![4096, 5632]⟩ 1) (b : FTy.bf16.bits < FTy.f32.bits)
    (hL : ∀ y, L y = gateBack (entry A (y 0).val (y 1).val) (entry A (y 0).val (2816 + (y 1).val)) (entry D (y 0).val (y 1).val))
    (hR : ∀ y, R y = upBack (entry A (y 0).val (y 1).val) (entry D (y 0).val (y 1).val)) (z : (⟨2, ![4096, 5632]⟩ : Shape).Idx) :
    truncf (F := Ideal) (φ := .f32) .bf16 (concatenate ⟨2, ![4096, 5632]⟩ 1 [⟨⟨2, ![4096, 2816]⟩, L⟩, ⟨⟨2, ![4096, 2816]⟩, R⟩] h) b z = bothBack A D (z 0).val (z 1).val := by
  refine (beside L R h z).trans ?_
  unfold bothBack
  by_cases hz : (z 1).val < 2816
  · rw [dif_pos hz, if_pos hz]
    exact hL _
  · rw [dif_neg hz, if_neg hz]
    exact hR _

section
variable (A : (⟨2, ![4096, 5632]⟩ : Shape).Idx → EReal) (D : (⟨2, ![4096, 2816]⟩ : Shape).Idx → EReal)
  (p : (⟨2, ![4096, 5632]⟩ : Shape).Slices ![0, 0] ⟨2, ![4096, 2816]⟩) (q : (⟨2, ![4096, 5632]⟩ : Shape).Slices ![0, 2816] ⟨2, ![4096, 2816]⟩)
  (y : (⟨2, ![4096, 2816]⟩ : Shape).Idx)

/-- The reference's left half, at an index, -/
theorem back_left : gateBack (extractStridedSlice ⟨2, ![4096, 2816]⟩ ![0, 0] A p y) (extractStridedSlice ⟨2, ![4096, 2816]⟩ ![0, 2816] A q y) (D y)
    = gateBack (entry A (y 0).val (y 1).val) (entry A (y 0).val (2816 + (y 1).val)) (entry D (y 0).val (y 1).val) := by
  rw [left_half, right_half, read_entry D y rfl rfl]
/-- and its right half. -/
theorem back_right : upBack (extractStridedSlice ⟨2, ![4096, 2816]⟩ ![0, 0] A p y) (D y) = upBack (entry A (y 0).val (y 1).val) (entry D (y 0).val (y 1).val) := by
  rw [left_half, read_entry D y rfl rfl]

end

theorem back_value : Cert.algebraic_GluBackIdeal_GluBackRefIdeal := fun m g m' g' _ h =>
  ⟨_, GluBackIdeal.Value.run_blocks (F := Ideal) m g,
    (θ_run GluBackRefIdeal.defs _ _).mono (fun _ hr c => by
      obtain ⟨h0, h1⟩ := h c
      obtain ⟨d, rest⟩ := hr c
      rw [h0, h1] at d
      refine ⟨d.trans (GluBackProof.left m c _ (back_whole _ _ _ _ _ _ (fun y => ?_) (fun y => ?_))).symm, rest⟩
      · refine Eq.trans ?_ (back_left _ _ Cert.GluBackRefIdeal.Gen.slices_S4096x5632_S4096x2816_0_0 Cert.GluBackRefIdeal.Gen.slices_S4096x5632_S4096x2816_0_2816 y)
        unfold gateBack
        rw [← sigmoid]
        rfl
      · refine Eq.trans ?_ (back_right _ _ Cert.GluBackRefIdeal.Gen.slices_S4096x5632_S4096x2816_0_0 y)
        unfold upBack
        rw [← sigmoid]
        rfl) (GluBackRefIdeal.Value.run (F := Ideal) m' g')⟩

/-! ## The gradient of the first matrix -/

theorem dwgu_kernel : Cert.quiescent_FfnDwgu := fun m g _ => FfnDwgu.Gen.frame m g

theorem dwgu_ideal : Cert.quiescent_FfnDwguIdeal := fun m g _ => FfnDwguIdeal.Gen.frame m g

theorem dwgu_reference : Cert.quiescent_FfnDwguRefIdeal := fun m g _ =>
  (θ_run FfnDwguRefIdeal.defs _ _).mono (fun r h => ⟨fun c => (h c).2, sem_eq_zero_of_no_sems (by decide) r.2⟩)
    (FfnDwguRefIdeal.Value.run (F := Ideal) m g)

open Cert.FfnDwguRefIdeal in
theorem dwgu_at (A : S4096x1024.Idx → EReal) (B : S4096x5632.Idx → EReal) (h : S4096x1024.Transposes [1, 0] S1024x4096) (z : S1024x5632.Idx) :
    Host.dotGeneral (F := Ideal) (φ₁ := .f32) (φ₂ := .f32) dot_S1024x4096_S4096x5632_S1024x5632_1_0_0_1_n_n none (transpose S1024x4096 [1, 0] A h) B z
      = overRows A B (z 0).val (z 1).val :=
  (product_at dot_S1024x4096_S4096x5632_S1024x5632_1_0_0_1_n_n rfl rfl (transpose S1024x4096 [1, 0] A h) B (fun _ => 0) z (fun k => ix2 (z 0) k) (fun k => ix2 k (z 1))
    (fun _ => index_eq rfl rfl) (fun _ => index_eq rfl rfl) rfl).trans
      (Finset.sum_congr rfl fun _ _ => congr (congrArg (· * ·) (turned A h _)) (read_entry B _ rfl rfl))

theorem dwgu_value : Cert.algebraic_FfnDwguIdeal_FfnDwguRefIdeal := fun m g m' g' _ h =>
  ⟨_, FfnDwguIdeal.Value.run_blocks (F := Ideal) m g,
    (θ_run FfnDwguRefIdeal.defs _ _).mono (fun _ hr c => by
      obtain ⟨h0, h1⟩ := h c
      obtain ⟨d, rest⟩ := hr c
      rw [h0, h1] at d
      exact ⟨d.trans (FfnDwguProof.left m c _ fun z => dwgu_at _ _ _ z).symm, rest⟩) (FfnDwguRefIdeal.Value.run (F := Ideal) m' g')⟩

/-! ## The gradient of what was normalized -/

theorem dh_kernel : Cert.quiescent_FfnDh := fun m g _ => FfnDh.Gen.frame m g

theorem dh_ideal : Cert.quiescent_FfnDhIdeal := fun m g _ => FfnDhIdeal.Gen.frame m g

theorem dh_reference : Cert.quiescent_FfnDhRefIdeal := fun m g _ =>
  (θ_run FfnDhRefIdeal.defs _ _).mono (fun r h => ⟨fun c => (h c).2, sem_eq_zero_of_no_sems (by decide) r.2⟩)
    (FfnDhRefIdeal.Value.run (F := Ideal) m g)

open Cert.FfnDhRefIdeal in
theorem dh_at (A : S4096x5632.Idx → EReal) (B : S1024x5632.Idx → EReal) (h : S1024x5632.Transposes [1, 0] S5632x1024) (z : S4096x1024.Idx) :
    Host.dotGeneral (F := Ideal) (φ₁ := .f32) (φ₂ := .f32) dot_S4096x5632_S5632x1024_S4096x1024_1_0_0_1_n_n none A (transpose S5632x1024 [1, 0] B h) z
      = overColumns A B (z 0).val (z 1).val :=
  (product_at dot_S4096x5632_S5632x1024_S4096x1024_1_0_0_1_n_n rfl rfl A (transpose S5632x1024 [1, 0] B h) (fun _ => 0) z (fun k => ix2 (z 0) k) (fun k => ix2 k (z 1))
    (fun _ => index_eq rfl rfl) (fun _ => index_eq rfl rfl) rfl).trans
      (Finset.sum_congr rfl fun _ _ => congr (congrArg (· * ·) (read_entry A _ rfl rfl)) (turned B h _))

theorem dh_value : Cert.algebraic_FfnDhIdeal_FfnDhRefIdeal := fun m g m' g' _ h =>
  ⟨_, FfnDhIdeal.Value.run_blocks (F := Ideal) m g,
    (θ_run FfnDhRefIdeal.defs _ _).mono (fun _ hr c => by
      obtain ⟨h0, h1⟩ := h c
      obtain ⟨d, rest⟩ := hr c
      rw [h0, h1] at d
      exact ⟨d.trans (FfnDhProof.left m c _ fun z => dh_at _ _ _ z).symm, rest⟩) (FfnDhRefIdeal.Value.run (F := Ideal) m' g')⟩

end Cert.FfnProof

end
-- ==== Proof.ForwardNorm.lean ====
/-
# The normalisation itself

Two calls normalise 512 rows at a time: each row times the inverse root of its mean square, times the weight. One leaves bf16 and one
f32, which over the extended reals is the same.
-/
module

public import proofs.«01_k».proof.Proof.NormValue
public import proofs.«01_k».proof.Proof.Products
public import proofs.«01_k».proof.Proof.Gen.NormInIdeal.Value
public import proofs.«01_k».proof.Proof.Gen.NormOutIdeal.Value

@[expose] public section

noncomputable section

namespace Cert.Train

open Idealize.ShloMosaic
open Cert.NormProof

set_option Elab.async false

/-- A normalised entry. -/
def normed (A : (⟨2, ![4096, 1024]⟩ : Shape).Idx → EReal) (G : (⟨2, ![1, 1024]⟩ : Shape).Idx → EReal) (i j : ℕ) : EReal :=
  entry A i j * scale (∑ k : Fin 1024, entry A i k.val * entry A i k.val) * entry G 0 j

/-- What a step makes of its rows `x` and the weight `g`, at an index. -/
theorem step_normed (A : (⟨2, ![4096, 1024]⟩ : Shape).Idx → EReal) (G : (⟨2, ![1, 1024]⟩ : Shape).Idx → EReal)
    (x : (⟨2, ![512, 1024]⟩ : Shape).Idx → EReal) (g : (⟨2, ![1, 1024]⟩ : Shape).Idx → EReal) (i : ℕ)
    (hx : ∀ u, x u = entry A (i + (u 0).val) (0 * 1024 + (u 1).val)) (hg : ∀ u, g u = entry G (0 * 1 + (u 0).val) (0 * 1024 + (u 1).val))
    (y : (⟨2, ![512, 1024]⟩ : Shape).Idx) :
    x y * scale (tileSquares x ⟨(y 0).val, (y 0).isLt⟩) * g (ValueIdx.ix2 0 ⟨(y 1).val, (y 1).isLt⟩) = normed A G (i + (y 0).val) (0 * 1024 + (y 1).val) := by
  have e (k : ℕ) : 0 * 1024 + k = k := by omega
  have s : tileSquares x ⟨(y 0).val, (y 0).isLt⟩ = ∑ k : Fin 1024, entry A (i + (y 0).val) k.val * entry A (i + (y 0).val) k.val :=
    Finset.sum_congr rfl fun k _ => by
      have h : x (ValueIdx.ix2 ⟨(y 0).val, (y 0).isLt⟩ k) = entry A (i + (y 0).val) k.val := (hx _).trans (congrArg (entry A _) (e k.val))
      exact congrArg₂ (· * ·) h h
  unfold normed
  rw [s, hx y, hg]
  rfl

/-- The reference, at an index. -/
theorem reference_normed (A : (⟨2, ![4096, 1024]⟩ : Shape).Idx → EReal) (G : (⟨2, ![1, 1024]⟩ : Shape).Idx → EReal)
    (b : (⟨2, ![4096, 1]⟩ : Shape).BroadcastsInDim ⟨2, ![4096, 1024]⟩ ![0, 1]) (q : (⟨2, ![1, 1024]⟩ : Shape).BroadcastsInDim ⟨2, ![4096, 1024]⟩ ![0, 1]) (z : (⟨2, ![4096, 1024]⟩ : Shape).Idx) :
    A z * broadcastInDim ⟨2, ![4096, 1024]⟩ ![0, 1] b (Reference.scales A) z * broadcastInDim ⟨2, ![4096, 1024]⟩ ![0, 1] q G z = normed A G (z 0).val (z 1).val := by
  have s : Reference.squares A ⟨(z 0).val, (z 0).isLt⟩ = ∑ k : Fin 1024, entry A (z 0).val k.val * entry A (z 0).val k.val :=
    Finset.sum_congr rfl fun k _ => by
      have h : A (ValueIdx.ix2 ⟨(z 0).val, (z 0).isLt⟩ k) = entry A (z 0).val k.val := read_entry A _ rfl rfl
      exact congrArg₂ (· * ·) h h
  unfold normed
  rw [← s]
  refine congrArg₂ (· * ·) (congrArg₂ (· * ·) (read_entry A z rfl rfl) (Reference.scales_along A z)) ?_
  exact (broadcastInDim_apply _ _ _ _ (ValueIdx.ix2 0 ⟨(z 1).val, (z 1).isLt⟩) fun a => match a with | ⟨0, _⟩ => rfl | ⟨1, _⟩ => rfl).trans (read_entry G _ rfl rfl)

end Cert.Train

/-! ## The first, which leaves bf16 -/

namespace Cert.NormInProof

open Cert.NormInIdeal Cert.NormInIdeal.Gen Cert.Train
open Idealize.ShloMosaic Idealize.ShloMosaic.TcCoe
open Idealize.ShloMosaic.Pipeline

theorem zeros : (![0, 0] : Fin 2 → ℕ) = fun _ => 0 := by decide
theorem index_0 : ∀ t : Fin grid0.N, win0_0.index t = ![t.val, 0] := by decide +kernel
theorem index_1 : ∀ t : Fin grid0.N, win0_1.index t = ![0, 0] := by decide +kernel
theorem index_2 : ∀ t : Fin grid0.N, win0_2.index t = ![t.val, 0] := by decide +kernel
theorem covers : (cfg0.win 2).Covers := by decide +kernel

theorem tile_at (x : S512x1024.Idx → EReal) (g : S1x1024.Idx → EReal) (y : S512x1024.Idx) :
    out0_2 (F := Ideal) x g y = x y * NormProof.scale (NormProof.tileSquares x ⟨(y 0).val, (y 0).isLt⟩) * g (ValueIdx.ix2 0 ⟨(y 1).val, (y 1).isLt⟩) := by
  unfold out0_2
  rw [View.canon_unit_zero zeros, View.ld_unit_zero (S := S512x1024) zeros, View.ld_unit_zero (S := S1x1024) zeros]
  exact congrArg₂ (· * ·) (NormProof.scaled_at x y) (NormProof.weight_at g y)

variable (m : (ℓ : Loc nD τ sig) → Buf (Elt Ideal) ℓ) (c : Dev nD)

theorem block_0 (t : Fin grid0.N) (y : S512x1024.Idx) :
    iblk m c 0 t y = entry (m ((c : Thread nD τ).loc main_arg0)) (t.val * 512 + (y 0).val) (0 * 1024 + (y 1).val) :=
  read_entry (a := 4096) (b := 1024) _ (((cfg0.win 0).blk t).view.emb y) (lies (w := win0_0) t y 0 rfl (congrFun (index_0 t) 0)) (lies (w := win0_0) t y 1 rfl (congrFun (index_0 t) 1))
theorem block_1 (t : Fin grid0.N) (y : S1x1024.Idx) :
    iblk m c 1 t y = entry (m ((c : Thread nD τ).loc main_arg1)) (0 * 1 + (y 0).val) (0 * 1024 + (y 1).val) :=
  read_entry (a := 1) (b := 1024) _ (((cfg0.win 1).blk t).view.emb y) (lies (w := win0_1) t y 0 rfl (congrFun (index_1 t) 0)) (lies (w := win0_1) t y 1 rfl (congrFun (index_1 t) 1))

/-- An array of the normalised rows is what the call leaves. -/
theorem left (X : S4096x1024.Idx → EReal)
    (h : ∀ z : S4096x1024.Idx, X z = normed (m ((c : Thread nD τ).loc main_arg0)) (m ((c : Thread nD τ).loc main_arg1)) (z 0).val (z 1).val) :
    (dats m 0 c).arrAt 2 cfg0.N = X := by
  refine (dats m 0 c).arrAt_eq_of_covers 2 _ covers fun t _ y => ?_
  show (dats m 0 c).after 2 t y = X (((cfg0.win 2).blk t).view.emb y)
  rw [h, after0_2]
  have e0 : ((((cfg0.win 2).blk t).view.emb y) 0).val = t.val * 512 + (y 0).val := lies (w := win0_2) _ y 0 rfl (congrFun (index_2 _) 0)
  have e1 : ((((cfg0.win 2).blk t).view.emb y) 1).val = 0 * 1024 + (y 1).val := lies (w := win0_2) _ y 1 rfl (congrFun (index_2 _) 1)
  rw [e0, e1]
  exact (tile_at _ _ y).trans (step_normed _ _ _ _ _ (block_0 m c t) (block_1 m c t) y)

end Cert.NormInProof

/-! ## The second, which leaves f32 -/

namespace Cert.NormOutProof

open Cert.NormOutIdeal Cert.NormOutIdeal.Gen Cert.Train
open Idealize.ShloMosaic Idealize.ShloMosaic.TcCoe
open Idealize.ShloMosaic.Pipeline

theorem index_0 : ∀ t : Fin grid0.N, win0_0.index t = ![t.val, 0] := by decide +kernel
theorem index_1 : ∀ t : Fin grid0.N, win0_1.index t = ![0, 0] := by decide +kernel
theorem index_2 : ∀ t : Fin grid0.N, win0_2.index t = ![t.val, 0] := by decide +kernel
theorem covers : (cfg0.win 2).Covers := by decide +kernel

/-- A step makes the same entries as the first call's. -/
theorem tile_at (x : S512x1024.Idx → EReal) (g : S1x1024.Idx → EReal) (y : S512x1024.Idx) :
    out0_2 (F := Ideal) x g y = x y * NormProof.scale (NormProof.tileSquares x ⟨(y 0).val, (y 0).isLt⟩) * g (ValueIdx.ix2 0 ⟨(y 1).val, (y 1).isLt⟩) := by
  unfold out0_2
  rw [View.canon_unit_zero NormInProof.zeros, View.ld_unit_zero (S := S512x1024) NormInProof.zeros, View.ld_unit_zero (S := S1x1024) NormInProof.zeros]
  exact congrArg₂ (· * ·) (NormProof.scaled_at x y) (NormProof.weight_at g y)

variable (m : (ℓ : Loc nD τ sig) → Buf (Elt Ideal) ℓ) (c : Dev nD)

theorem block_0 (t : Fin grid0.N) (y : S512x1024.Idx) :
    iblk m c 0 t y = entry (m ((c : Thread nD τ).loc main_arg0)) (t.val * 512 + (y 0).val) (0 * 1024 + (y 1).val) :=
  read_entry (a := 4096) (b := 1024) _ (((cfg0.win 0).blk t).view.emb y) (lies (w := win0_0) t y 0 rfl (congrFun (index_0 t) 0)) (lies (w := win0_0) t y 1 rfl (congrFun (index_0 t) 1))
theorem block_1 (t : Fin grid0.N) (y : S1x1024.Idx) :
    iblk m c 1 t y = entry (m ((c : Thread nD τ).loc main_arg1)) (0 * 1 + (y 0).val) (0 * 1024 + (y 1).val) :=
  read_entry (a := 1) (b := 1024) _ (((cfg0.win 1).blk t).view.emb y) (lies (w := win0_1) t y 0 rfl (congrFun (index_1 t) 0)) (lies (w := win0_1) t y 1 rfl (congrFun (index_1 t) 1))

theorem left (X : S4096x1024.Idx → EReal)
    (h : ∀ z : S4096x1024.Idx, X z = normed (m ((c : Thread nD τ).loc main_arg0)) (m ((c : Thread nD τ).loc main_arg1)) (z 0).val (z 1).val) :
    (dats m 0 c).arrAt 2 cfg0.N = X := by
  refine (dats m 0 c).arrAt_eq_of_covers 2 _ covers fun t _ y => ?_
  show (dats m 0 c).after 2 t y = X (((cfg0.win 2).blk t).view.emb y)
  rw [h, after0_2]
  have e0 : ((((cfg0.win 2).blk t).view.emb y) 0).val = t.val * 512 + (y 0).val := lies (w := win0_2) _ y 0 rfl (congrFun (index_2 _) 0)
  have e1 : ((((cfg0.win 2).blk t).view.emb y) 1).val = 0 * 1024 + (y 1).val := lies (w := win0_2) _ y 1 rfl (congrFun (index_2 _) 1)
  rw [e0, e1]
  exact (tile_at _ _ y).trans (step_normed _ _ _ _ _ (block_0 m c t) (block_1 m c t) y)

end Cert.NormOutProof

end
-- ==== Proof.MixTiles.lean ====
/-
# The mixer's products forward

Six products, each a tile of 512 rows at a time over all the summed columns at once: of what enters, to the projections; of the
latents, to queries, keys and values; and of the two parts, back onto what entered.
-/
module

public import proofs.«01_k».proof.Proof.Products
public import proofs.«01_k».proof.Proof.Gen.MixInIdeal.Value
public import proofs.«01_k».proof.Proof.Gen.MixQIdeal.Value
public import proofs.«01_k».proof.Proof.Gen.MixKIdeal.Value
public import proofs.«01_k».proof.Proof.Gen.MixVIdeal.Value
public import proofs.«01_k».proof.Proof.Gen.MixAttnIdeal.Value
public import proofs.«01_k».proof.Proof.Gen.MixConvIdeal.Value

@[expose] public section

noncomputable section

namespace Cert.Train

open Idealize.ShloMosaic

set_option Elab.async false

theorem corner : (![0, 0] : Fin 2 → ℕ) = fun _ => 0 := by decide

/-- The product of a tile's rows and columns is an entry of the whole product. -/
theorem whole_product {K a b tm tn : ℕ} (A : (⟨2, ![a, K]⟩ : Shape).Idx → EReal) (B : (⟨2, ![K, b]⟩ : Shape).Idx → EReal)
    (x : (⟨2, ![tm, K]⟩ : Shape).Idx → EReal) (y : (⟨2, ![K, tn]⟩ : Shape).Idx → EReal) (i j : ℕ)
    (hx : ∀ u, x u = entry A (i + (u 0).val) (0 * K + (u 1).val)) (hy : ∀ u, y u = entry B (0 * K + (u 0).val) (j + (u 1).val))
    (z : (⟨2, ![tm, tn]⟩ : Shape).Idx) :
    ∑ k : Fin K, x (ix2 (z 0) k) * y (ix2 k (z 1)) = rowByColumn A B (i + (z 0).val) (j + (z 1).val) := by
  refine Finset.sum_congr rfl fun k _ => ?_
  have e (n : ℕ) : 0 * K + n = n := by omega
  rw [hx, hy]
  exact congrArg₂ (· * ·) (congrArg (entry A _) (e k.val)) (congrArg (fun n => entry B n _) (e k.val))

end Cert.Train

/-! ## The projections -/

namespace Cert.MixInProof

open Cert.MixInIdeal Cert.MixInIdeal.Gen Cert.Train
open Idealize.ShloMosaic Idealize.ShloMosaic.TcCoe
open Idealize.ShloMosaic.Pipeline

theorem index_0 : ∀ t : Fin grid0.N, win0_0.index t = ![t.val / 2, 0] := by decide +kernel
theorem index_1 : ∀ t : Fin grid0.N, win0_1.index t = ![0, t.val % 2] := by decide +kernel
theorem index_2 : ∀ t : Fin grid0.N, win0_2.index t = ![t.val / 2, t.val % 2] := by decide +kernel
theorem covers : (cfg0.win 2).Covers := by decide +kernel

theorem tile_at (x : S512x1024.Idx → EReal) (y : S1024x896.Idx → EReal) (z : S512x896.Idx) :
    out0_2 (F := Ideal) x y z = ∑ k : Fin 1024, x (ix2 (z 0) k) * y (ix2 k (z 1)) := by
  unfold out0_2
  rw [View.canon_unit_zero corner, View.ld_unit_zero (S := S512x1024) corner, View.ld_unit_zero (S := S1024x896) corner]
  unfold k0_pay1
  exact product_at dot_S512x1024_S1024x896_S512x896_1_0_0_1_n_n rfl rfl x y _ z (fun k => ix2 (z 0) k) (fun k => ix2 k (z 1))
    (fun _ => index_eq rfl rfl) (fun _ => index_eq rfl rfl) Ideal.ofBits_zero_f32

variable (m : (ℓ : Loc nD τ sig) → Buf (Elt Ideal) ℓ) (c : Dev nD)

theorem block_0 (t : Fin grid0.N) (y : S512x1024.Idx) :
    iblk m c 0 t y = entry (m ((c : Thread nD τ).loc main_arg0)) (t.val / 2 * 512 + (y 0).val) (0 * 1024 + (y 1).val) :=
  read_entry (a := 4096) (b := 1024) _ (((cfg0.win 0).blk t).view.emb y) (lies (w := win0_0) t y 0 rfl (congrFun (index_0 t) 0)) (lies (w := win0_0) t y 1 rfl (congrFun (index_0 t) 1))
theorem block_1 (t : Fin grid0.N) (y : S1024x896.Idx) :
    iblk m c 1 t y = entry (m ((c : Thread nD τ).loc main_arg1)) (0 * 1024 + (y 0).val) (t.val % 2 * 896 + (y 1).val) :=
  read_entry (a := 1024) (b := 1792) _ (((cfg0.win 1).blk t).view.emb y) (lies (w := win0_1) t y 0 rfl (congrFun (index_1 t) 0)) (lies (w := win0_1) t y 1 rfl (congrFun (index_1 t) 1))

/-- An array that is the product is what the call leaves. -/
theorem left (X : S4096x1792.Idx → EReal)
    (h : ∀ z : S4096x1792.Idx, X z = rowByColumn (K := 1024) (m ((c : Thread nD τ).loc main_arg0)) (m ((c : Thread nD τ).loc main_arg1)) (z 0).val (z 1).val) :
    (dats m 0 c).arrAt 2 cfg0.N = X := by
  refine (dats m 0 c).arrAt_eq_of_covers 2 _ covers fun t _ y => ?_
  show (dats m 0 c).after 2 t y = X (((cfg0.win 2).blk t).view.emb y)
  rw [h, after0_2]
  have e0 : ((((cfg0.win 2).blk t).view.emb y) 0).val = t.val / 2 * 512 + (y 0).val := lies (w := win0_2) _ y 0 rfl (congrFun (index_2 _) 0)
  have e1 : ((((cfg0.win 2).blk t).view.emb y) 1).val = t.val % 2 * 896 + (y 1).val := lies (w := win0_2) _ y 1 rfl (congrFun (index_2 _) 1)
  rw [e0, e1]
  exact (tile_at _ _ y).trans (whole_product _ _ _ _ _ _ (block_0 m c t) (block_1 m c t) y)

end Cert.MixInProof

/-! ## The queries -/

namespace Cert.MixQProof

open Cert.MixQIdeal Cert.MixQIdeal.Gen Cert.Train
open Idealize.ShloMosaic Idealize.ShloMosaic.TcCoe
open Idealize.ShloMosaic.Pipeline

theorem index_0 : ∀ t : Fin grid0.N, win0_0.index t = ![t.val, 0] := by decide +kernel
theorem index_1 : ∀ t : Fin grid0.N, win0_1.index t = ![0, 0] := by decide +kernel
theorem index_2 : ∀ t : Fin grid0.N, win0_2.index t = ![t.val, 0] := by decide +kernel
theorem covers : (cfg0.win 2).Covers := by decide +kernel

theorem tile_at (x : S512x384.Idx → EReal) (y : S384x1024.Idx → EReal) (z : S512x1024.Idx) :
    out0_2 (F := Ideal) x y z = ∑ k : Fin 384, x (ix2 (z 0) k) * y (ix2 k (z 1)) := by
  unfold out0_2
  rw [View.canon_unit_zero corner, View.ld_unit_zero (S := S512x384) corner, View.ld_unit_zero (S := S384x1024) corner]
  unfold k0_pay1
  exact product_at dot_S512x384_S384x1024_S512x1024_1_0_0_1_n_n rfl rfl x y _ z (fun k => ix2 (z 0) k) (fun k => ix2 k (z 1))
    (fun _ => index_eq rfl rfl) (fun _ => index_eq rfl rfl) Ideal.ofBits_zero_f32

variable (m : (ℓ : Loc nD τ sig) → Buf (Elt Ideal) ℓ) (c : Dev nD)

theorem block_0 (t : Fin grid0.N) (y : S512x384.Idx) :
    iblk m c 0 t y = entry (m ((c : Thread nD τ).loc main_arg0)) (t.val * 512 + (y 0).val) (0 * 384 + (y 1).val) :=
  read_entry (a := 4096) (b := 384) _ (((cfg0.win 0).blk t).view.emb y) (lies (w := win0_0) t y 0 rfl (congrFun (index_0 t) 0)) (lies (w := win0_0) t y 1 rfl (congrFun (index_0 t) 1))
theorem block_1 (t : Fin grid0.N) (y : S384x1024.Idx) :
    iblk m c 1 t y = entry (m ((c : Thread nD τ).loc main_arg1)) (0 * 384 + (y 0).val) (0 * 1024 + (y 1).val) :=
  read_entry (a := 384) (b := 1024) _ (((cfg0.win 1).blk t).view.emb y) (lies (w := win0_1) t y 0 rfl (congrFun (index_1 t) 0)) (lies (w := win0_1) t y 1 rfl (congrFun (index_1 t) 1))

theorem left (X : S4096x1024.Idx → EReal)
    (h : ∀ z : S4096x1024.Idx, X z = rowByColumn (K := 384) (m ((c : Thread nD τ).loc main_arg0)) (m ((c : Thread nD τ).loc main_arg1)) (z 0).val (z 1).val) :
    (dats m 0 c).arrAt 2 cfg0.N = X := by
  refine (dats m 0 c).arrAt_eq_of_covers 2 _ covers fun t _ y => ?_
  show (dats m 0 c).after 2 t y = X (((cfg0.win 2).blk t).view.emb y)
  rw [h, after0_2]
  have e0 : ((((cfg0.win 2).blk t).view.emb y) 0).val = t.val * 512 + (y 0).val := lies (w := win0_2) _ y 0 rfl (congrFun (index_2 _) 0)
  have e1 : ((((cfg0.win 2).blk t).view.emb y) 1).val = 0 * 1024 + (y 1).val := lies (w := win0_2) _ y 1 rfl (congrFun (index_2 _) 1)
  rw [e0, e1]
  exact (tile_at _ _ y).trans (whole_product _ _ _ _ _ _ (block_0 m c t) (block_1 m c t) y)

end Cert.MixQProof

/-! ## The keys -/

namespace Cert.MixKProof

open Cert.MixKIdeal Cert.MixKIdeal.Gen Cert.Train
open Idealize.ShloMosaic Idealize.ShloMosaic.TcCoe
open Idealize.ShloMosaic.Pipeline

theorem index_0 : ∀ t : Fin grid0.N, win0_0.index t = ![t.val, 0] := by decide +kernel
theorem index_1 : ∀ t : Fin grid0.N, win0_1.index t = ![0, 0] := by decide +kernel
theorem index_2 : ∀ t : Fin grid0.N, win0_2.index t = ![t.val, 0] := by decide +kernel
theorem covers : (cfg0.win 2).Covers := by decide +kernel

theorem tile_at (x : S512x256.Idx → EReal) (y : S256x1024.Idx → EReal) (z : S512x1024.Idx) :
    out0_2 (F := Ideal) x y z = ∑ k : Fin 256, x (ix2 (z 0) k) * y (ix2 k (z 1)) := by
  unfold out0_2
  rw [View.canon_unit_zero corner, View.ld_unit_zero (S := S512x256) corner, View.ld_unit_zero (S := S256x1024) corner]
  unfold k0_pay1
  exact product_at dot_S512x256_S256x1024_S512x1024_1_0_0_1_n_n rfl rfl x y _ z (fun k => ix2 (z 0) k) (fun k => ix2 k (z 1))
    (fun _ => index_eq rfl rfl) (fun _ => index_eq rfl rfl) Ideal.ofBits_zero_f32

variable (m : (ℓ : Loc nD τ sig) → Buf (Elt Ideal) ℓ) (c : Dev nD)

theorem block_0 (t : Fin grid0.N) (y : S512x256.Idx) :
    iblk m c 0 t y = entry (m ((c : Thread nD τ).loc main_arg0)) (t.val * 512 + (y 0).val) (0 * 256 + (y 1).val) :=
  read_entry (a := 4096) (b := 256) _ (((cfg0.win 0).blk t).view.emb y) (lies (w := win0_0) t y 0 rfl (congrFun (index_0 t) 0)) (lies (w := win0_0) t y 1 rfl (congrFun (index_0 t) 1))
theorem block_1 (t : Fin grid0.N) (y : S256x1024.Idx) :
    iblk m c 1 t y = entry (m ((c : Thread nD τ).loc main_arg1)) (0 * 256 + (y 0).val) (0 * 1024 + (y 1).val) :=
  read_entry (a := 256) (b := 1024) _ (((cfg0.win 1).blk t).view.emb y) (lies (w := win0_1) t y 0 rfl (congrFun (index_1 t) 0)) (lies (w := win0_1) t y 1 rfl (congrFun (index_1 t) 1))

theorem left (X : S4096x1024.Idx → EReal)
    (h : ∀ z : S4096x1024.Idx, X z = rowByColumn (K := 256) (m ((c : Thread nD τ).loc main_arg0)) (m ((c : Thread nD τ).loc main_arg1)) (z 0).val (z 1).val) :
    (dats m 0 c).arrAt 2 cfg0.N = X := by
  refine (dats m 0 c).arrAt_eq_of_covers 2 _ covers fun t _ y => ?_
  show (dats m 0 c).after 2 t y = X (((cfg0.win 2).blk t).view.emb y)
  rw [h, after0_2]
  have e0 : ((((cfg0.win 2).blk t).view.emb y) 0).val = t.val * 512 + (y 0).val := lies (w := win0_2) _ y 0 rfl (congrFun (index_2 _) 0)
  have e1 : ((((cfg0.win 2).blk t).view.emb y) 1).val = 0 * 1024 + (y 1).val := lies (w := win0_2) _ y 1 rfl (congrFun (index_2 _) 1)
  rw [e0, e1]
  exact (tile_at _ _ y).trans (whole_product _ _ _ _ _ _ (block_0 m c t) (block_1 m c t) y)

end Cert.MixKProof

/-! ## The values, left in bf16 -/

namespace Cert.MixVProof

open Cert.MixVIdeal Cert.MixVIdeal.Gen Cert.Train
open Idealize.ShloMosaic Idealize.ShloMosaic.TcCoe
open Idealize.ShloMosaic.Pipeline

theorem index_0 : ∀ t : Fin grid0.N, win0_0.index t = ![t.val, 0] := by decide +kernel
theorem index_1 : ∀ t : Fin grid0.N, win0_1.index t = ![0, 0] := by decide +kernel
theorem index_2 : ∀ t : Fin grid0.N, win0_2.index t = ![t.val, 0] := by decide +kernel
theorem covers : (cfg0.win 2).Covers := by decide +kernel

theorem tile_at (x : S512x256.Idx → EReal) (y : S256x1024.Idx → EReal) (z : S512x1024.Idx) :
    out0_2 (F := Ideal) x y z = ∑ k : Fin 256, x (ix2 (z 0) k) * y (ix2 k (z 1)) := by
  unfold out0_2
  rw [View.canon_unit_zero corner, View.ld_unit_zero (S := S512x256) corner, View.ld_unit_zero (S := S256x1024) corner]
  unfold k0_pay1
  exact product_at dot_S512x256_S256x1024_S512x1024_1_0_0_1_n_n rfl rfl x y (fun _ => Ideal.ofBits .f32 0x00000000#32) z (fun k => ix2 (z 0) k) (fun k => ix2 k (z 1))
    (fun _ => index_eq rfl rfl) (fun _ => index_eq rfl rfl) Ideal.ofBits_zero_f32

variable (m : (ℓ : Loc nD τ sig) → Buf (Elt Ideal) ℓ) (c : Dev nD)

theorem block_0 (t : Fin grid0.N) (y : S512x256.Idx) :
    iblk m c 0 t y = entry (m ((c : Thread nD τ).loc main_arg0)) (t.val * 512 + (y 0).val) (0 * 256 + (y 1).val) :=
  read_entry (a := 4096) (b := 256) _ (((cfg0.win 0).blk t).view.emb y) (lies (w := win0_0) t y 0 rfl (congrFun (index_0 t) 0)) (lies (w := win0_0) t y 1 rfl (congrFun (index_0 t) 1))
theorem block_1 (t : Fin grid0.N) (y : S256x1024.Idx) :
    iblk m c 1 t y = entry (m ((c : Thread nD τ).loc main_arg1)) (0 * 256 + (y 0).val) (0 * 1024 + (y 1).val) :=
  read_entry (a := 256) (b := 1024) _ (((cfg0.win 1).blk t).view.emb y) (lies (w := win0_1) t y 0 rfl (congrFun (index_1 t) 0)) (lies (w := win0_1) t y 1 rfl (congrFun (index_1 t) 1))

theorem left (X : S4096x1024.Idx → EReal)
    (h : ∀ z : S4096x1024.Idx, X z = rowByColumn (K := 256) (m ((c : Thread nD τ).loc main_arg0)) (m ((c : Thread nD τ).loc main_arg1)) (z 0).val (z 1).val) :
    (dats m 0 c).arrAt 2 cfg0.N = X := by
  refine (dats m 0 c).arrAt_eq_of_covers 2 _ covers fun t _ y => ?_
  show (dats m 0 c).after 2 t y = X (((cfg0.win 2).blk t).view.emb y)
  rw [h, after0_2]
  have e0 : ((((cfg0.win 2).blk t).view.emb y) 0).val = t.val * 512 + (y 0).val := lies (w := win0_2) _ y 0 rfl (congrFun (index_2 _) 0)
  have e1 : ((((cfg0.win 2).blk t).view.emb y) 1).val = 0 * 1024 + (y 1).val := lies (w := win0_2) _ y 1 rfl (congrFun (index_2 _) 1)
  rw [e0, e1]
  exact (tile_at _ _ y).trans (whole_product _ _ _ _ _ _ (block_0 m c t) (block_1 m c t) y)

end Cert.MixVProof

/-! ## The attention's part, onto what entered -/

namespace Cert.MixAttnProof

open Cert.MixAttnIdeal Cert.MixAttnIdeal.Gen Cert.Train
open Idealize.ShloMosaic Idealize.ShloMosaic.TcCoe
open Idealize.ShloMosaic.Pipeline

theorem index_0 : ∀ t : Fin grid0.N, win0_0.index t = ![t.val, 0] := by decide +kernel
theorem index_1 : ∀ t : Fin grid0.N, win0_1.index t = ![0, 0] := by decide +kernel
theorem index_2 : ∀ t : Fin grid0.N, win0_2.index t = ![t.val, 0] := by decide +kernel
theorem index_3 : ∀ t : Fin grid0.N, win0_3.index t = ![t.val, 0] := by decide +kernel
theorem covers : (cfg0.win 3).Covers := by decide +kernel

theorem tile_at (x : S512x1024.Idx → EReal) (y : S1024x1024.Idx → EReal) (r : S512x1024.Idx → EReal) (z : S512x1024.Idx) :
    out0_3 (F := Ideal) x y r z = r z + ∑ k : Fin 1024, x (ix2 (z 0) k) * y (ix2 k (z 1)) := by
  unfold out0_3
  rw [View.canon_unit_zero corner, View.ld_unit_zero (S := S512x1024) corner, View.ld_unit_zero (S := S1024x1024) corner, View.ld_unit_zero (S := S512x1024) corner]
  unfold k0_pay1
  exact congrArg (r z + ·) (product_at dot_S512x1024_S1024x1024_S512x1024_1_0_0_1_n_n rfl rfl x y _ z (fun k => ix2 (z 0) k) (fun k => ix2 k (z 1))
    (fun _ => index_eq rfl rfl) (fun _ => index_eq rfl rfl) Ideal.ofBits_zero_f32)

variable (m : (ℓ : Loc nD τ sig) → Buf (Elt Ideal) ℓ) (c : Dev nD)

theorem block_0 (t : Fin grid0.N) (y : S512x1024.Idx) :
    iblk m c 0 t y = entry (m ((c : Thread nD τ).loc main_arg0)) (t.val * 512 + (y 0).val) (0 * 1024 + (y 1).val) :=
  read_entry (a := 4096) (b := 1024) _ (((cfg0.win 0).blk t).view.emb y) (lies (w := win0_0) t y 0 rfl (congrFun (index_0 t) 0)) (lies (w := win0_0) t y 1 rfl (congrFun (index_0 t) 1))
theorem block_1 (t : Fin grid0.N) (y : S1024x1024.Idx) :
    iblk m c 1 t y = entry (m ((c : Thread nD τ).loc main_arg1)) (0 * 1024 + (y 0).val) (0 * 1024 + (y 1).val) :=
  read_entry (a := 1024) (b := 1024) _ (((cfg0.win 1).blk t).view.emb y) (lies (w := win0_1) t y 0 rfl (congrFun (index_1 t) 0)) (lies (w := win0_1) t y 1 rfl (congrFun (index_1 t) 1))
theorem block_2 (t : Fin grid0.N) (y : S512x1024.Idx) :
    iblk m c 2 t y = entry (m ((c : Thread nD τ).loc main_arg2)) (t.val * 512 + (y 0).val) (0 * 1024 + (y 1).val) :=
  read_entry (a := 4096) (b := 1024) _ (((cfg0.win 2).blk t).view.emb y) (lies (w := win0_2) t y 0 rfl (congrFun (index_2 t) 0)) (lies (w := win0_2) t y 1 rfl (congrFun (index_2 t) 1))

/-- An array that is the product added to the third argument is what the call leaves. -/
theorem left (X : S4096x1024.Idx → EReal)
    (h : ∀ z : S4096x1024.Idx, X z = entry (m ((c : Thread nD τ).loc main_arg2)) (z 0).val (z 1).val
      + rowByColumn (K := 1024) (m ((c : Thread nD τ).loc main_arg0)) (m ((c : Thread nD τ).loc main_arg1)) (z 0).val (z 1).val) :
    (dats m 0 c).arrAt 3 cfg0.N = X := by
  refine (dats m 0 c).arrAt_eq_of_covers 3 _ covers fun t _ y => ?_
  show (dats m 0 c).after 3 t y = X (((cfg0.win 3).blk t).view.emb y)
  rw [h, after0_3]
  have e0 : ((((cfg0.win 3).blk t).view.emb y) 0).val = t.val * 512 + (y 0).val := lies (w := win0_3) _ y 0 rfl (congrFun (index_3 _) 0)
  have e1 : ((((cfg0.win 3).blk t).view.emb y) 1).val = 0 * 1024 + (y 1).val := lies (w := win0_3) _ y 1 rfl (congrFun (index_3 _) 1)
  rw [e0, e1]
  exact (tile_at _ _ _ y).trans (congrArg₂ (· + ·) (block_2 m c t y) (whole_product _ _ _ _ _ _ (block_0 m c t) (block_1 m c t) y))

end Cert.MixAttnProof

/-! ## The convolution's part, onto that -/

namespace Cert.MixConvProof

open Cert.MixConvIdeal Cert.MixConvIdeal.Gen Cert.Train
open Idealize.ShloMosaic Idealize.ShloMosaic.TcCoe
open Idealize.ShloMosaic.Pipeline

theorem index_0 : ∀ t : Fin grid0.N, win0_0.index t = ![t.val, 0] := by decide +kernel
theorem index_1 : ∀ t : Fin grid0.N, win0_1.index t = ![0, 0] := by decide +kernel
theorem index_2 : ∀ t : Fin grid0.N, win0_2.index t = ![t.val, 0] := by decide +kernel
theorem index_3 : ∀ t : Fin grid0.N, win0_3.index t = ![t.val, 0] := by decide +kernel
theorem covers : (cfg0.win 3).Covers := by decide +kernel

theorem tile_at (x : S512x512.Idx → EReal) (y : S512x1024.Idx → EReal) (r : S512x1024.Idx → EReal) (z : S512x1024.Idx) :
    out0_3 (F := Ideal) x y r z = r z + ∑ k : Fin 512, x (ix2 (z 0) k) * y (ix2 k (z 1)) := by
  unfold out0_3
  rw [View.canon_unit_zero corner, View.ld_unit_zero (S := S512x512) corner, View.ld_unit_zero (S := S512x1024) corner, View.ld_unit_zero (S := S512x1024) corner]
  unfold k0_pay1
  exact congrArg (r z + ·) (product_at dot_S512x512_S512x1024_S512x1024_1_0_0_1_n_n rfl rfl x y _ z (fun k => ix2 (z 0) k) (fun k => ix2 k (z 1))
    (fun _ => index_eq rfl rfl) (fun _ => index_eq rfl rfl) Ideal.ofBits_zero_f32)

variable (m : (ℓ : Loc nD τ sig) → Buf (Elt Ideal) ℓ) (c : Dev nD)

theorem block_0 (t : Fin grid0.N) (y : S512x512.Idx) :
    iblk m c 0 t y = entry (m ((c : Thread nD τ).loc main_arg0)) (t.val * 512 + (y 0).val) (0 * 512 + (y 1).val) :=
  read_entry (a := 4096) (b := 512) _ (((cfg0.win 0).blk t).view.emb y) (lies (w := win0_0) t y 0 rfl (congrFun (index_0 t) 0)) (lies (w := win0_0) t y 1 rfl (congrFun (index_0 t) 1))
theorem block_1 (t : Fin grid0.N) (y : S512x1024.Idx) :
    iblk m c 1 t y = entry (m ((c : Thread nD τ).loc main_arg1)) (0 * 512 + (y 0).val) (0 * 1024 + (y 1).val) :=
  read_entry (a := 512) (b := 1024) _ (((cfg0.win 1).blk t).view.emb y) (lies (w := win0_1) t y 0 rfl (congrFun (index_1 t) 0)) (lies (w := win0_1) t y 1 rfl (congrFun (index_1 t) 1))
theorem block_2 (t : Fin grid0.N) (y : S512x1024.Idx) :
    iblk m c 2 t y = entry (m ((c : Thread nD τ).loc main_arg2)) (t.val * 512 + (y 0).val) (0 * 1024 + (y 1).val) :=
  read_entry (a := 4096) (b := 1024) _ (((cfg0.win 2).blk t).view.emb y) (lies (w := win0_2) t y 0 rfl (congrFun (index_2 t) 0)) (lies (w := win0_2) t y 1 rfl (congrFun (index_2 t) 1))

theorem left (X : S4096x1024.Idx → EReal)
    (h : ∀ z : S4096x1024.Idx, X z = entry (m ((c : Thread nD τ).loc main_arg2)) (z 0).val (z 1).val
      + rowByColumn (K := 512) (m ((c : Thread nD τ).loc main_arg0)) (m ((c : Thread nD τ).loc main_arg1)) (z 0).val (z 1).val) :
    (dats m 0 c).arrAt 3 cfg0.N = X := by
  refine (dats m 0 c).arrAt_eq_of_covers 3 _ covers fun t _ y => ?_
  show (dats m 0 c).after 3 t y = X (((cfg0.win 3).blk t).view.emb y)
  rw [h, after0_3]
  have e0 : ((((cfg0.win 3).blk t).view.emb y) 0).val = t.val * 512 + (y 0).val := lies (w := win0_3) _ y 0 rfl (congrFun (index_3 _) 0)
  have e1 : ((((cfg0.win 3).blk t).view.emb y) 1).val = 0 * 1024 + (y 1).val := lies (w := win0_3) _ y 1 rfl (congrFun (index_3 _) 1)
  rw [e0, e1]
  exact (tile_at _ _ _ y).trans (congrArg₂ (· + ·) (block_2 m c t y) (whole_product _ _ _ _ _ _ (block_0 m c t) (block_1 m c t) y))

end Cert.MixConvProof

end
-- ==== Proof.ForwardClaims.lean ====
/-
# What is claimed of the normalisations and the mixer's products forward

Eight calls: the normalisation before a layer and the one at the end; the mixer's projections, queries, keys and values; and its two
parts, added onto what entered. Of each: over the float formats' bits and over the extended reals its arguments end unchanged and every
semaphore at zero, the reference likewise, and over the extended reals its result is the reference's.
-/
module

public import proofs.«01_k».proof.Defs
public import proofs.«01_k».proof.Proof.ForwardNorm
public import proofs.«01_k».proof.Proof.MixTiles
public import proofs.«01_k».proof.Proof.FfnClaims
public import proofs.«01_k».proof.Proof.Gen.NormIn.Frame
public import proofs.«01_k».proof.Proof.Gen.NormInRefIdeal.Run
public import proofs.«01_k».proof.Proof.Gen.NormOut.Frame
public import proofs.«01_k».proof.Proof.Gen.NormOutRefIdeal.Run
public import proofs.«01_k».proof.Proof.Gen.MixIn.Frame
public import proofs.«01_k».proof.Proof.Gen.MixInRefIdeal.Run
public import proofs.«01_k».proof.Proof.Gen.MixQ.Frame
public import proofs.«01_k».proof.Proof.Gen.MixQRefIdeal.Run
public import proofs.«01_k».proof.Proof.Gen.MixK.Frame
public import proofs.«01_k».proof.Proof.Gen.MixKRefIdeal.Run
public import proofs.«01_k».proof.Proof.Gen.MixV.Frame
public import proofs.«01_k».proof.Proof.Gen.MixVRefIdeal.Run
public import proofs.«01_k».proof.Proof.Gen.MixAttn.Frame
public import proofs.«01_k».proof.Proof.Gen.MixAttnRefIdeal.Run
public import proofs.«01_k».proof.Proof.Gen.MixConv.Frame
public import proofs.«01_k».proof.Proof.Gen.MixConvRefIdeal.Run
public import Idealize.ShloMosaic.Lib.Quiescent

@[expose] public section

noncomputable section

namespace Cert.ForwardProof

open Idealize.ShloMosaic Idealize.SL.Sem Cert.Train
open Cert.FfnProof (terms)

set_option Elab.async false

/-! ## The normalisation before a layer, which leaves bf16 -/

theorem normIn_kernel : Cert.quiescent_NormIn := fun m g _ => NormIn.Gen.frame m g

theorem normIn_ideal : Cert.quiescent_NormInIdeal := fun m g _ => NormInIdeal.Gen.frame m g

theorem normIn_reference : Cert.quiescent_NormInRefIdeal := fun m g _ =>
  (θ_run NormInRefIdeal.defs _ _).mono (fun r h => ⟨fun c => (h c).2, sem_eq_zero_of_no_sems (by decide) r.2⟩)
    (NormInRefIdeal.Value.run (F := Ideal) m g)

theorem normIn_value : Cert.algebraic_NormInIdeal_NormInRefIdeal := fun m g m' g' _ h =>
  ⟨_, NormInIdeal.Value.run_blocks (F := Ideal) m g,
    (θ_run NormInRefIdeal.defs _ _).mono (fun _ hr c => by
      obtain ⟨h0, h1⟩ := h c
      obtain ⟨d, rest⟩ := hr c
      rw [h0, h1] at d
      exact ⟨d.trans (NormInProof.left m c _ fun z => reference_normed _ _ Cert.NormInRefIdeal.Gen.bcast_S4096x1_S4096x1024_0_1 Cert.NormInRefIdeal.Gen.bcast_S1x1024_S4096x1024_0_1 z).symm, rest⟩) (NormInRefIdeal.Value.run (F := Ideal) m' g')⟩

/-! ## The normalisation at the end, which leaves f32 -/

theorem normOut_kernel : Cert.quiescent_NormOut := fun m g _ => NormOut.Gen.frame m g

theorem normOut_ideal : Cert.quiescent_NormOutIdeal := fun m g _ => NormOutIdeal.Gen.frame m g

theorem normOut_reference : Cert.quiescent_NormOutRefIdeal := fun m g _ =>
  (θ_run NormOutRefIdeal.defs _ _).mono (fun r h => ⟨fun c => (h c).2, sem_eq_zero_of_no_sems (by decide) r.2⟩)
    (NormOutRefIdeal.Value.run (F := Ideal) m g)

theorem normOut_value : Cert.algebraic_NormOutIdeal_NormOutRefIdeal := fun m g m' g' _ h =>
  ⟨_, NormOutIdeal.Value.run_blocks (F := Ideal) m g,
    (θ_run NormOutRefIdeal.defs _ _).mono (fun _ hr c => by
      obtain ⟨h0, h1⟩ := h c
      obtain ⟨d, rest⟩ := hr c
      rw [h0, h1] at d
      exact ⟨d.trans (NormOutProof.left m c _ fun z => reference_normed _ _ Cert.NormOutRefIdeal.Gen.bcast_S4096x1_S4096x1024_0_1 Cert.NormOutRefIdeal.Gen.bcast_S1x1024_S4096x1024_0_1 z).symm, rest⟩) (NormOutRefIdeal.Value.run (F := Ideal) m' g')⟩

/-! ## The projections -/

theorem in_kernel : Cert.quiescent_MixIn := fun m g _ => MixIn.Gen.frame m g

theorem in_ideal : Cert.quiescent_MixInIdeal := fun m g _ => MixInIdeal.Gen.frame m g

theorem in_reference : Cert.quiescent_MixInRefIdeal := fun m g _ =>
  (θ_run MixInRefIdeal.defs _ _).mono (fun r h => ⟨fun c => (h c).2, sem_eq_zero_of_no_sems (by decide) r.2⟩)
    (MixInRefIdeal.Value.run (F := Ideal) m g)

open Cert.MixInRefIdeal in
theorem in_at (A : S4096x1024.Idx → EReal) (B : S1024x1792.Idx → EReal) (z : S4096x1792.Idx) :
    Host.dotGeneral (F := Ideal) (φ₁ := .f32) (φ₂ := .f32) dot_S4096x1024_S1024x1792_S4096x1792_1_0_0_1_n_n none A B z = rowByColumn A B (z 0).val (z 1).val :=
  (product_at dot_S4096x1024_S1024x1792_S4096x1792_1_0_0_1_n_n rfl rfl A B (fun _ => 0) z (fun k => ix2 (z 0) k) (fun k => ix2 k (z 1))
    (fun _ => index_eq rfl rfl) (fun _ => index_eq rfl rfl) rfl).trans (terms A B _ _)

theorem in_value : Cert.algebraic_MixInIdeal_MixInRefIdeal := fun m g m' g' _ h =>
  ⟨_, MixInIdeal.Value.run_blocks (F := Ideal) m g,
    (θ_run MixInRefIdeal.defs _ _).mono (fun _ hr c => by
      obtain ⟨h0, h1⟩ := h c
      obtain ⟨d, rest⟩ := hr c
      rw [h0, h1] at d
      exact ⟨d.trans (MixInProof.left m c _ fun z => in_at _ _ z).symm, rest⟩) (MixInRefIdeal.Value.run (F := Ideal) m' g')⟩

/-! ## The queries -/

theorem q_kernel : Cert.quiescent_MixQ := fun m g _ => MixQ.Gen.frame m g

theorem q_ideal : Cert.quiescent_MixQIdeal := fun m g _ => MixQIdeal.Gen.frame m g

theorem q_reference : Cert.quiescent_MixQRefIdeal := fun m g _ =>
  (θ_run MixQRefIdeal.defs _ _).mono (fun r h => ⟨fun c => (h c).2, sem_eq_zero_of_no_sems (by decide) r.2⟩)
    (MixQRefIdeal.Value.run (F := Ideal) m g)

open Cert.MixQRefIdeal in
theorem q_at (A : S4096x384.Idx → EReal) (B : S384x1024.Idx → EReal) (z : S4096x1024.Idx) :
    Host.dotGeneral (F := Ideal) (φ₁ := .f32) (φ₂ := .f32) dot_S4096x384_S384x1024_S4096x1024_1_0_0_1_n_n none A B z = rowByColumn A B (z 0).val (z 1).val :=
  (product_at dot_S4096x384_S384x1024_S4096x1024_1_0_0_1_n_n rfl rfl A B (fun _ => 0) z (fun k => ix2 (z 0) k) (fun k => ix2 k (z 1))
    (fun _ => index_eq rfl rfl) (fun _ => index_eq rfl rfl) rfl).trans (terms A B _ _)

theorem q_value : Cert.algebraic_MixQIdeal_MixQRefIdeal := fun m g m' g' _ h =>
  ⟨_, MixQIdeal.Value.run_blocks (F := Ideal) m g,
    (θ_run MixQRefIdeal.defs _ _).mono (fun _ hr c => by
      obtain ⟨h0, h1⟩ := h c
      obtain ⟨d, rest⟩ := hr c
      rw [h0, h1] at d
      exact ⟨d.trans (MixQProof.left m c _ fun z => q_at _ _ z).symm, rest⟩) (MixQRefIdeal.Value.run (F := Ideal) m' g')⟩

/-! ## The keys -/

theorem k_kernel : Cert.quiescent_MixK := fun m g _ => MixK.Gen.frame m g

theorem k_ideal : Cert.quiescent_MixKIdeal := fun m g _ => MixKIdeal.Gen.frame m g

theorem k_reference : Cert.quiescent_MixKRefIdeal := fun m g _ =>
  (θ_run MixKRefIdeal.defs _ _).mono (fun r h => ⟨fun c => (h c).2, sem_eq_zero_of_no_sems (by decide) r.2⟩)
    (MixKRefIdeal.Value.run (F := Ideal) m g)

open Cert.MixKRefIdeal in
theorem k_at (A : S4096x256.Idx → EReal) (B : S256x1024.Idx → EReal) (z : S4096x1024.Idx) :
    Host.dotGeneral (F := Ideal) (φ₁ := .f32) (φ₂ := .f32) dot_S4096x256_S256x1024_S4096x1024_1_0_0_1_n_n none A B z = rowByColumn A B (z 0).val (z 1).val :=
  (product_at dot_S4096x256_S256x1024_S4096x1024_1_0_0_1_n_n rfl rfl A B (fun _ => 0) z (fun k => ix2 (z 0) k) (fun k => ix2 k (z 1))
    (fun _ => index_eq rfl rfl) (fun _ => index_eq rfl rfl) rfl).trans (terms A B _ _)

theorem k_value : Cert.algebraic_MixKIdeal_MixKRefIdeal := fun m g m' g' _ h =>
  ⟨_, MixKIdeal.Value.run_blocks (F := Ideal) m g,
    (θ_run MixKRefIdeal.defs _ _).mono (fun _ hr c => by
      obtain ⟨h0, h1⟩ := h c
      obtain ⟨d, rest⟩ := hr c
      rw [h0, h1] at d
      exact ⟨d.trans (MixKProof.left m c _ fun z => k_at _ _ z).symm, rest⟩) (MixKRefIdeal.Value.run (F := Ideal) m' g')⟩

/-! ## The values -/

theorem v_kernel : Cert.quiescent_MixV := fun m g _ => MixV.Gen.frame m g

theorem v_ideal : Cert.quiescent_MixVIdeal := fun m g _ => MixVIdeal.Gen.frame m g

theorem v_reference : Cert.quiescent_MixVRefIdeal := fun m g _ =>
  (θ_run MixVRefIdeal.defs _ _).mono (fun r h => ⟨fun c => (h c).2, sem_eq_zero_of_no_sems (by decide) r.2⟩)
    (MixVRefIdeal.Value.run (F := Ideal) m g)

/-- The product is the keys' with other arguments. -/
theorem v_value : Cert.algebraic_MixVIdeal_MixVRefIdeal := fun m g m' g' _ h =>
  ⟨_, MixVIdeal.Value.run_blocks (F := Ideal) m g,
    (θ_run MixVRefIdeal.defs _ _).mono (fun _ hr c => by
      obtain ⟨h0, h1⟩ := h c
      obtain ⟨d, rest⟩ := hr c
      rw [h0, h1] at d
      exact ⟨d.trans (MixVProof.left m c _ fun z => k_at _ _ z).symm, rest⟩) (MixVRefIdeal.Value.run (F := Ideal) m' g')⟩

/-! ## The attention's part -/

theorem attn_kernel : Cert.quiescent_MixAttn := fun m g _ => MixAttn.Gen.frame m g

theorem attn_ideal : Cert.quiescent_MixAttnIdeal := fun m g _ => MixAttnIdeal.Gen.frame m g

theorem attn_reference : Cert.quiescent_MixAttnRefIdeal := fun m g _ =>
  (θ_run MixAttnRefIdeal.defs _ _).mono (fun r h => ⟨fun c => (h c).2, sem_eq_zero_of_no_sems (by decide) r.2⟩)
    (MixAttnRefIdeal.Value.run (F := Ideal) m g)

open Cert.MixAttnRefIdeal in
theorem attn_at (A : S4096x1024.Idx → EReal) (B : S1024x1024.Idx → EReal) (z : S4096x1024.Idx) :
    Host.dotGeneral (F := Ideal) (φ₁ := .f32) (φ₂ := .f32) dot_S4096x1024_S1024x1024_S4096x1024_1_0_0_1_n_n none A B z = rowByColumn A B (z 0).val (z 1).val :=
  (product_at dot_S4096x1024_S1024x1024_S4096x1024_1_0_0_1_n_n rfl rfl A B (fun _ => 0) z (fun k => ix2 (z 0) k) (fun k => ix2 k (z 1))
    (fun _ => index_eq rfl rfl) (fun _ => index_eq rfl rfl) rfl).trans (terms A B _ _)

theorem attn_value : Cert.algebraic_MixAttnIdeal_MixAttnRefIdeal := fun m g m' g' _ h =>
  ⟨_, MixAttnIdeal.Value.run_blocks (F := Ideal) m g,
    (θ_run MixAttnRefIdeal.defs _ _).mono (fun _ hr c => by
      obtain ⟨h0, h1, h2⟩ := h c
      obtain ⟨d, rest⟩ := hr c
      rw [h0, h1, h2] at d
      exact ⟨d.trans (MixAttnProof.left m c _ fun z => congrArg₂ (· + ·) (read_entry _ z rfl rfl) (attn_at _ _ z)).symm, rest⟩) (MixAttnRefIdeal.Value.run (F := Ideal) m' g')⟩

/-! ## The convolution's part -/

theorem conv_kernel : Cert.quiescent_MixConv := fun m g _ => MixConv.Gen.frame m g

theorem conv_ideal : Cert.quiescent_MixConvIdeal := fun m g _ => MixConvIdeal.Gen.frame m g

theorem conv_reference : Cert.quiescent_MixConvRefIdeal := fun m g _ =>
  (θ_run MixConvRefIdeal.defs _ _).mono (fun r h => ⟨fun c => (h c).2, sem_eq_zero_of_no_sems (by decide) r.2⟩)
    (MixConvRefIdeal.Value.run (F := Ideal) m g)

open Cert.MixConvRefIdeal in
theorem conv_at (A : S4096x512.Idx → EReal) (B : S512x1024.Idx → EReal) (z : S4096x1024.Idx) :
    Host.dotGeneral (F := Ideal) (φ₁ := .f32) (φ₂ := .f32) dot_S4096x512_S512x1024_S4096x1024_1_0_0_1_n_n none A B z = rowByColumn A B (z 0).val (z 1).val :=
  (product_at dot_S4096x512_S512x1024_S4096x1024_1_0_0_1_n_n rfl rfl A B (fun _ => 0) z (fun k => ix2 (z 0) k) (fun k => ix2 k (z 1))
    (fun _ => index_eq rfl rfl) (fun _ => index_eq rfl rfl) rfl).trans (terms A B _ _)

theorem conv_value : Cert.algebraic_MixConvIdeal_MixConvRefIdeal := fun m g m' g' _ h =>
  ⟨_, MixConvIdeal.Value.run_blocks (F := Ideal) m g,
    (θ_run MixConvRefIdeal.defs _ _).mono (fun _ hr c => by
      obtain ⟨h0, h1, h2⟩ := h c
      obtain ⟨d, rest⟩ := hr c
      rw [h0, h1, h2] at d
      exact ⟨d.trans (MixConvProof.left m c _ fun z => congrArg₂ (· + ·) (read_entry _ z rfl rfl) (conv_at _ _ z)).symm, rest⟩) (MixConvRefIdeal.Value.run (F := Ideal) m' g')⟩

end Cert.ForwardProof

end
-- ==== Proof.MixBackTiles.lean ====
/-
# The mixer's gradients of what was multiplied

Five products by a transposed matrix: of the layer's gradient, to the attention's part and the convolution's; and of the queries', keys'
and values' gradients, to the latents. Each is a tile of 512 rows at a time over all of 1024 summed columns at once.
-/
module

public import proofs.«01_k».proof.Proof.MixTiles
public import proofs.«01_k».proof.Proof.Gen.MixDoIdeal.Value
public import proofs.«01_k».proof.Proof.Gen.MixDcvIdeal.Value
public import proofs.«01_k».proof.Proof.Gen.MixDqlnIdeal.Value
public import proofs.«01_k».proof.Proof.Gen.MixDkvlnKIdeal.Value
public import proofs.«01_k».proof.Proof.Gen.MixDkvlnVIdeal.Value

@[expose] public section

noncomputable section

namespace Cert.Train

open Idealize.ShloMosaic

set_option Elab.async false

/-- The product of a tile's rows and rows is an entry of the whole product. -/
theorem whole_turned {K a b tm tn : ℕ} (A : (⟨2, ![a, K]⟩ : Shape).Idx → EReal) (B : (⟨2, ![b, K]⟩ : Shape).Idx → EReal)
    (x : (⟨2, ![tm, K]⟩ : Shape).Idx → EReal) (y : (⟨2, ![tn, K]⟩ : Shape).Idx → EReal) (i j : ℕ)
    (hx : ∀ u, x u = entry A (i + (u 0).val) (0 * K + (u 1).val)) (hy : ∀ u, y u = entry B (j + (u 0).val) (0 * K + (u 1).val))
    (z : (⟨2, ![tm, tn]⟩ : Shape).Idx) :
    ∑ k : Fin K, x (ix2 (z 0) k) * y (ix2 (z 1) k) = overColumns A B (i + (z 0).val) (j + (z 1).val) := by
  refine Finset.sum_congr rfl fun k _ => ?_
  have e (n : ℕ) : 0 * K + n = n := by omega
  rw [hx, hy]
  exact congrArg₂ (· * ·) (congrArg (entry A _) (e k.val)) (congrArg (entry B _) (e k.val))

end Cert.Train

/-! ## To the attention's part -/

namespace Cert.MixDoProof

open Cert.MixDoIdeal Cert.MixDoIdeal.Gen Cert.Train
open Idealize.ShloMosaic Idealize.ShloMosaic.TcCoe
open Idealize.ShloMosaic.Pipeline

theorem index_0 : ∀ t : Fin grid0.N, win0_0.index t = ![t.val, 0] := by decide +kernel
theorem index_1 : ∀ t : Fin grid0.N, win0_1.index t = ![0, 0] := by decide +kernel
theorem index_2 : ∀ t : Fin grid0.N, win0_2.index t = ![t.val, 0] := by decide +kernel
theorem covers : (cfg0.win 2).Covers := by decide +kernel

theorem tile_at (x : S512x1024.Idx → EReal) (y : S1024x1024.Idx → EReal) (z : S512x1024.Idx) :
    out0_2 (F := Ideal) x y z = ∑ k : Fin 1024, x (ix2 (z 0) k) * y (ix2 (z 1) k) := by
  unfold out0_2
  rw [View.canon_unit_zero corner, View.ld_unit_zero (S := S512x1024) corner, View.ld_unit_zero (S := S1024x1024) corner]
  unfold k0_pay1
  exact product_at dot_S512x1024_S1024x1024_S512x1024_1_1_0_0_n_n rfl rfl x y _ z (fun k => ix2 (z 0) k) (fun k => ix2 (z 1) k)
    (fun _ => index_eq rfl rfl) (fun _ => index_eq rfl rfl) Ideal.ofBits_zero_f32

variable (m : (ℓ : Loc nD τ sig) → Buf (Elt Ideal) ℓ) (c : Dev nD)

theorem block_0 (t : Fin grid0.N) (y : S512x1024.Idx) :
    iblk m c 0 t y = entry (m ((c : Thread nD τ).loc main_arg0)) (t.val * 512 + (y 0).val) (0 * 1024 + (y 1).val) :=
  read_entry (a := 4096) (b := 1024) _ (((cfg0.win 0).blk t).view.emb y) (lies (w := win0_0) t y 0 rfl (congrFun (index_0 t) 0)) (lies (w := win0_0) t y 1 rfl (congrFun (index_0 t) 1))
theorem block_1 (t : Fin grid0.N) (y : S1024x1024.Idx) :
    iblk m c 1 t y = entry (m ((c : Thread nD τ).loc main_arg1)) (0 * 1024 + (y 0).val) (0 * 1024 + (y 1).val) :=
  read_entry (a := 1024) (b := 1024) _ (((cfg0.win 1).blk t).view.emb y) (lies (w := win0_1) t y 0 rfl (congrFun (index_1 t) 0)) (lies (w := win0_1) t y 1 rfl (congrFun (index_1 t) 1))

/-- An array that is the product is what the call leaves. -/
theorem left (X : S4096x1024.Idx → EReal)
    (h : ∀ z : S4096x1024.Idx, X z = overColumns (K := 1024) (m ((c : Thread nD τ).loc main_arg0)) (m ((c : Thread nD τ).loc main_arg1)) (z 0).val (z 1).val) :
    (dats m 0 c).arrAt 2 cfg0.N = X := by
  refine (dats m 0 c).arrAt_eq_of_covers 2 _ covers fun t _ y => ?_
  show (dats m 0 c).after 2 t y = X (((cfg0.win 2).blk t).view.emb y)
  rw [h, after0_2]
  have e0 : ((((cfg0.win 2).blk t).view.emb y) 0).val = t.val * 512 + (y 0).val := lies (w := win0_2) _ y 0 rfl (congrFun (index_2 _) 0)
  have e1 : ((((cfg0.win 2).blk t).view.emb y) 1).val = 0 * 1024 + (y 1).val := lies (w := win0_2) _ y 1 rfl (congrFun (index_2 _) 1)
  rw [e0, e1]
  exact (tile_at _ _ y).trans (whole_turned _ _ _ _ _ _ (block_0 m c t) (block_1 m c t) y)

end Cert.MixDoProof

/-! ## To the convolution's part -/

namespace Cert.MixDcvProof

open Cert.MixDcvIdeal Cert.MixDcvIdeal.Gen Cert.Train
open Idealize.ShloMosaic Idealize.ShloMosaic.TcCoe
open Idealize.ShloMosaic.Pipeline

theorem index_0 : ∀ t : Fin grid0.N, win0_0.index t = ![t.val, 0] := by decide +kernel
theorem index_1 : ∀ t : Fin grid0.N, win0_1.index t = ![0, 0] := by decide +kernel
theorem index_2 : ∀ t : Fin grid0.N, win0_2.index t = ![t.val, 0] := by decide +kernel
theorem covers : (cfg0.win 2).Covers := by decide +kernel

theorem tile_at (x : S512x1024.Idx → EReal) (y : S512x1024.Idx → EReal) (z : S512x512.Idx) :
    out0_2 (F := Ideal) x y z = ∑ k : Fin 1024, x (ix2 (z 0) k) * y (ix2 (z 1) k) := by
  unfold out0_2
  rw [View.canon_unit_zero corner, View.ld_unit_zero (S := S512x1024) corner, View.ld_unit_zero (S := S512x1024) corner]
  unfold k0_pay1
  exact product_at dot_S512x1024_S512x1024_S512x512_1_1_0_0_n_n rfl rfl x y _ z (fun k => ix2 (z 0) k) (fun k => ix2 (z 1) k)
    (fun _ => index_eq rfl rfl) (fun _ => index_eq rfl rfl) Ideal.ofBits_zero_f32

variable (m : (ℓ : Loc nD τ sig) → Buf (Elt Ideal) ℓ) (c : Dev nD)

theorem block_0 (t : Fin grid0.N) (y : S512x1024.Idx) :
    iblk m c 0 t y = entry (m ((c : Thread nD τ).loc main_arg0)) (t.val * 512 + (y 0).val) (0 * 1024 + (y 1).val) :=
  read_entry (a := 4096) (b := 1024) _ (((cfg0.win 0).blk t).view.emb y) (lies (w := win0_0) t y 0 rfl (congrFun (index_0 t) 0)) (lies (w := win0_0) t y 1 rfl (congrFun (index_0 t) 1))
theorem block_1 (t : Fin grid0.N) (y : S512x1024.Idx) :
    iblk m c 1 t y = entry (m ((c : Thread nD τ).loc main_arg1)) (0 * 512 + (y 0).val) (0 * 1024 + (y 1).val) :=
  read_entry (a := 512) (b := 1024) _ (((cfg0.win 1).blk t).view.emb y) (lies (w := win0_1) t y 0 rfl (congrFun (index_1 t) 0)) (lies (w := win0_1) t y 1 rfl (congrFun (index_1 t) 1))

theorem left (X : S4096x512.Idx → EReal)
    (h : ∀ z : S4096x512.Idx, X z = overColumns (K := 1024) (m ((c : Thread nD τ).loc main_arg0)) (m ((c : Thread nD τ).loc main_arg1)) (z 0).val (z 1).val) :
    (dats m 0 c).arrAt 2 cfg0.N = X := by
  refine (dats m 0 c).arrAt_eq_of_covers 2 _ covers fun t _ y => ?_
  show (dats m 0 c).after 2 t y = X (((cfg0.win 2).blk t).view.emb y)
  rw [h, after0_2]
  have e0 : ((((cfg0.win 2).blk t).view.emb y) 0).val = t.val * 512 + (y 0).val := lies (w := win0_2) _ y 0 rfl (congrFun (index_2 _) 0)
  have e1 : ((((cfg0.win 2).blk t).view.emb y) 1).val = 0 * 512 + (y 1).val := lies (w := win0_2) _ y 1 rfl (congrFun (index_2 _) 1)
  rw [e0, e1]
  exact (tile_at _ _ y).trans (whole_turned _ _ _ _ _ _ (block_0 m c t) (block_1 m c t) y)

end Cert.MixDcvProof

/-! ## From the queries' gradient -/

namespace Cert.MixDqlnProof

open Cert.MixDqlnIdeal Cert.MixDqlnIdeal.Gen Cert.Train
open Idealize.ShloMosaic Idealize.ShloMosaic.TcCoe
open Idealize.ShloMosaic.Pipeline

theorem index_0 : ∀ t : Fin grid0.N, win0_0.index t = ![t.val, 0] := by decide +kernel
theorem index_1 : ∀ t : Fin grid0.N, win0_1.index t = ![0, 0] := by decide +kernel
theorem index_2 : ∀ t : Fin grid0.N, win0_2.index t = ![t.val, 0] := by decide +kernel
theorem covers : (cfg0.win 2).Covers := by decide +kernel

theorem tile_at (x : S512x1024.Idx → EReal) (y : S384x1024.Idx → EReal) (z : S512x384.Idx) :
    out0_2 (F := Ideal) x y z = ∑ k : Fin 1024, x (ix2 (z 0) k) * y (ix2 (z 1) k) := by
  unfold out0_2
  rw [View.canon_unit_zero corner, View.ld_unit_zero (S := S512x1024) corner, View.ld_unit_zero (S := S384x1024) corner]
  unfold k0_pay1
  exact product_at dot_S512x1024_S384x1024_S512x384_1_1_0_0_n_n rfl rfl x y _ z (fun k => ix2 (z 0) k) (fun k => ix2 (z 1) k)
    (fun _ => index_eq rfl rfl) (fun _ => index_eq rfl rfl) Ideal.ofBits_zero_f32

variable (m : (ℓ : Loc nD τ sig) → Buf (Elt Ideal) ℓ) (c : Dev nD)

theorem block_0 (t : Fin grid0.N) (y : S512x1024.Idx) :
    iblk m c 0 t y = entry (m ((c : Thread nD τ).loc main_arg0)) (t.val * 512 + (y 0).val) (0 * 1024 + (y 1).val) :=
  read_entry (a := 4096) (b := 1024) _ (((cfg0.win 0).blk t).view.emb y) (lies (w := win0_0) t y 0 rfl (congrFun (index_0 t) 0)) (lies (w := win0_0) t y 1 rfl (congrFun (index_0 t) 1))
theorem block_1 (t : Fin grid0.N) (y : S384x1024.Idx) :
    iblk m c 1 t y = entry (m ((c : Thread nD τ).loc main_arg1)) (0 * 384 + (y 0).val) (0 * 1024 + (y 1).val) :=
  read_entry (a := 384) (b := 1024) _ (((cfg0.win 1).blk t).view.emb y) (lies (w := win0_1) t y 0 rfl (congrFun (index_1 t) 0)) (lies (w := win0_1) t y 1 rfl (congrFun (index_1 t) 1))

theorem left (X : S4096x384.Idx → EReal)
    (h : ∀ z : S4096x384.Idx, X z = overColumns (K := 1024) (m ((c : Thread nD τ).loc main_arg0)) (m ((c : Thread nD τ).loc main_arg1)) (z 0).val (z 1).val) :
    (dats m 0 c).arrAt 2 cfg0.N = X := by
  refine (dats m 0 c).arrAt_eq_of_covers 2 _ covers fun t _ y => ?_
  show (dats m 0 c).after 2 t y = X (((cfg0.win 2).blk t).view.emb y)
  rw [h, after0_2]
  have e0 : ((((cfg0.win 2).blk t).view.emb y) 0).val = t.val * 512 + (y 0).val := lies (w := win0_2) _ y 0 rfl (congrFun (index_2 _) 0)
  have e1 : ((((cfg0.win 2).blk t).view.emb y) 1).val = 0 * 384 + (y 1).val := lies (w := win0_2) _ y 1 rfl (congrFun (index_2 _) 1)
  rw [e0, e1]
  exact (tile_at _ _ y).trans (whole_turned _ _ _ _ _ _ (block_0 m c t) (block_1 m c t) y)

end Cert.MixDqlnProof

/-! ## From the keys' gradient -/

namespace Cert.MixDkvlnKProof

open Cert.MixDkvlnKIdeal Cert.MixDkvlnKIdeal.Gen Cert.Train
open Idealize.ShloMosaic Idealize.ShloMosaic.TcCoe
open Idealize.ShloMosaic.Pipeline

theorem index_0 : ∀ t : Fin grid0.N, win0_0.index t = ![t.val, 0] := by decide +kernel
theorem index_1 : ∀ t : Fin grid0.N, win0_1.index t = ![0, 0] := by decide +kernel
theorem index_2 : ∀ t : Fin grid0.N, win0_2.index t = ![t.val, 0] := by decide +kernel
theorem covers : (cfg0.win 2).Covers := by decide +kernel

theorem tile_at (x : S512x1024.Idx → EReal) (y : S256x1024.Idx → EReal) (z : S512x256.Idx) :
    out0_2 (F := Ideal) x y z = ∑ k : Fin 1024, x (ix2 (z 0) k) * y (ix2 (z 1) k) := by
  unfold out0_2
  rw [View.canon_unit_zero corner, View.ld_unit_zero (S := S512x1024) corner, View.ld_unit_zero (S := S256x1024) corner]
  unfold k0_pay1
  exact product_at dot_S512x1024_S256x1024_S512x256_1_1_0_0_n_n rfl rfl x y _ z (fun k => ix2 (z 0) k) (fun k => ix2 (z 1) k)
    (fun _ => index_eq rfl rfl) (fun _ => index_eq rfl rfl) Ideal.ofBits_zero_f32

variable (m : (ℓ : Loc nD τ sig) → Buf (Elt Ideal) ℓ) (c : Dev nD)

theorem block_0 (t : Fin grid0.N) (y : S512x1024.Idx) :
    iblk m c 0 t y = entry (m ((c : Thread nD τ).loc main_arg0)) (t.val * 512 + (y 0).val) (0 * 1024 + (y 1).val) :=
  read_entry (a := 4096) (b := 1024) _ (((cfg0.win 0).blk t).view.emb y) (lies (w := win0_0) t y 0 rfl (congrFun (index_0 t) 0)) (lies (w := win0_0) t y 1 rfl (congrFun (index_0 t) 1))
theorem block_1 (t : Fin grid0.N) (y : S256x1024.Idx) :
    iblk m c 1 t y = entry (m ((c : Thread nD τ).loc main_arg1)) (0 * 256 + (y 0).val) (0 * 1024 + (y 1).val) :=
  read_entry (a := 256) (b := 1024) _ (((cfg0.win 1).blk t).view.emb y) (lies (w := win0_1) t y 0 rfl (congrFun (index_1 t) 0)) (lies (w := win0_1) t y 1 rfl (congrFun (index_1 t) 1))

theorem left (X : S4096x256.Idx → EReal)
    (h : ∀ z : S4096x256.Idx, X z = overColumns (K := 1024) (m ((c : Thread nD τ).loc main_arg0)) (m ((c : Thread nD τ).loc main_arg1)) (z 0).val (z 1).val) :
    (dats m 0 c).arrAt 2 cfg0.N = X := by
  refine (dats m 0 c).arrAt_eq_of_covers 2 _ covers fun t _ y => ?_
  show (dats m 0 c).after 2 t y = X (((cfg0.win 2).blk t).view.emb y)
  rw [h, after0_2]
  have e0 : ((((cfg0.win 2).blk t).view.emb y) 0).val = t.val * 512 + (y 0).val := lies (w := win0_2) _ y 0 rfl (congrFun (index_2 _) 0)
  have e1 : ((((cfg0.win 2).blk t).view.emb y) 1).val = 0 * 256 + (y 1).val := lies (w := win0_2) _ y 1 rfl (congrFun (index_2 _) 1)
  rw [e0, e1]
  exact (tile_at _ _ y).trans (whole_turned _ _ _ _ _ _ (block_0 m c t) (block_1 m c t) y)

end Cert.MixDkvlnKProof

/-! ## From the values' gradient, onto that -/

namespace Cert.MixDkvlnVProof

open Cert.MixDkvlnVIdeal Cert.MixDkvlnVIdeal.Gen Cert.Train
open Idealize.ShloMosaic Idealize.ShloMosaic.TcCoe
open Idealize.ShloMosaic.Pipeline

theorem index_0 : ∀ t : Fin grid0.N, win0_0.index t = ![t.val, 0] := by decide +kernel
theorem index_1 : ∀ t : Fin grid0.N, win0_1.index t = ![0, 0] := by decide +kernel
theorem index_2 : ∀ t : Fin grid0.N, win0_2.index t = ![t.val, 0] := by decide +kernel
theorem index_3 : ∀ t : Fin grid0.N, win0_3.index t = ![t.val, 0] := by decide +kernel
theorem covers : (cfg0.win 3).Covers := by decide +kernel

theorem tile_at (x : S512x1024.Idx → EReal) (y : S256x1024.Idx → EReal) (r : S512x256.Idx → EReal) (z : S512x256.Idx) :
    out0_3 (F := Ideal) x y r z = r z + ∑ k : Fin 1024, x (ix2 (z 0) k) * y (ix2 (z 1) k) := by
  unfold out0_3
  rw [View.canon_unit_zero corner, View.ld_unit_zero (S := S512x1024) corner, View.ld_unit_zero (S := S256x1024) corner, View.ld_unit_zero (S := S512x256) corner]
  unfold k0_pay1
  exact congrArg (r z + ·) (product_at dot_S512x1024_S256x1024_S512x256_1_1_0_0_n_n rfl rfl x y _ z (fun k => ix2 (z 0) k) (fun k => ix2 (z 1) k)
    (fun _ => index_eq rfl rfl) (fun _ => index_eq rfl rfl) Ideal.ofBits_zero_f32)

variable (m : (ℓ : Loc nD τ sig) → Buf (Elt Ideal) ℓ) (c : Dev nD)

theorem block_0 (t : Fin grid0.N) (y : S512x1024.Idx) :
    iblk m c 0 t y = entry (m ((c : Thread nD τ).loc main_arg0)) (t.val * 512 + (y 0).val) (0 * 1024 + (y 1).val) :=
  read_entry (a := 4096) (b := 1024) _ (((cfg0.win 0).blk t).view.emb y) (lies (w := win0_0) t y 0 rfl (congrFun (index_0 t) 0)) (lies (w := win0_0) t y 1 rfl (congrFun (index_0 t) 1))
theorem block_1 (t : Fin grid0.N) (y : S256x1024.Idx) :
    iblk m c 1 t y = entry (m ((c : Thread nD τ).loc main_arg1)) (0 * 256 + (y 0).val) (0 * 1024 + (y 1).val) :=
  read_entry (a := 256) (b := 1024) _ (((cfg0.win 1).blk t).view.emb y) (lies (w := win0_1) t y 0 rfl (congrFun (index_1 t) 0)) (lies (w := win0_1) t y 1 rfl (congrFun (index_1 t) 1))
theorem block_2 (t : Fin grid0.N) (y : S512x256.Idx) :
    iblk m c 2 t y = entry (m ((c : Thread nD τ).loc main_arg2)) (t.val * 512 + (y 0).val) (0 * 256 + (y 1).val) :=
  read_entry (a := 4096) (b := 256) _ (((cfg0.win 2).blk t).view.emb y) (lies (w := win0_2) t y 0 rfl (congrFun (index_2 t) 0)) (lies (w := win0_2) t y 1 rfl (congrFun (index_2 t) 1))

/-- An array that is the product added to the third argument is what the call leaves. -/
theorem left (X : S4096x256.Idx → EReal)
    (h : ∀ z : S4096x256.Idx, X z = entry (m ((c : Thread nD τ).loc main_arg2)) (z 0).val (z 1).val
      + overColumns (K := 1024) (m ((c : Thread nD τ).loc main_arg0)) (m ((c : Thread nD τ).loc main_arg1)) (z 0).val (z 1).val) :
    (dats m 0 c).arrAt 3 cfg0.N = X := by
  refine (dats m 0 c).arrAt_eq_of_covers 3 _ covers fun t _ y => ?_
  show (dats m 0 c).after 3 t y = X (((cfg0.win 3).blk t).view.emb y)
  rw [h, after0_3]
  have e0 : ((((cfg0.win 3).blk t).view.emb y) 0).val = t.val * 512 + (y 0).val := lies (w := win0_3) _ y 0 rfl (congrFun (index_3 _) 0)
  have e1 : ((((cfg0.win 3).blk t).view.emb y) 1).val = 0 * 256 + (y 1).val := lies (w := win0_3) _ y 1 rfl (congrFun (index_3 _) 1)
  rw [e0, e1]
  exact (tile_at _ _ _ y).trans (congrArg₂ (· + ·) (block_2 m c t y) (whole_turned _ _ _ _ _ _ (block_0 m c t) (block_1 m c t) y))

end Cert.MixDkvlnVProof

end
-- ==== Proof.MixBackClaims.lean ====
/-
# What is claimed of the mixer's gradients of what was multiplied

Five calls: the gradients of the attention's part and of the convolution's, and those of the latents, from the queries', the keys' and
the values'. Of each: over the float formats' bits and over the extended reals its arguments end unchanged and every semaphore at zero,
the reference likewise, and over the extended reals its result is the reference's.
-/
module

public import proofs.«01_k».proof.Defs
public import proofs.«01_k».proof.Proof.MixBackTiles
public import proofs.«01_k».proof.Proof.FfnClaims
public import proofs.«01_k».proof.Proof.Gen.MixDo.Frame
public import proofs.«01_k».proof.Proof.Gen.MixDoRefIdeal.Run
public import proofs.«01_k».proof.Proof.Gen.MixDcv.Frame
public import proofs.«01_k».proof.Proof.Gen.MixDcvRefIdeal.Run
public import proofs.«01_k».proof.Proof.Gen.MixDqln.Frame
public import proofs.«01_k».proof.Proof.Gen.MixDqlnRefIdeal.Run
public import proofs.«01_k».proof.Proof.Gen.MixDkvlnK.Frame
public import proofs.«01_k».proof.Proof.Gen.MixDkvlnKRefIdeal.Run
public import proofs.«01_k».proof.Proof.Gen.MixDkvlnV.Frame
public import proofs.«01_k».proof.Proof.Gen.MixDkvlnVRefIdeal.Run
public import Idealize.ShloMosaic.Lib.Quiescent

@[expose] public section

noncomputable section

namespace Cert.MixBackProof

open Idealize.ShloMosaic Idealize.SL.Sem Cert.Train
open Cert.FfnProof (turned)

set_option Elab.async false

/-- The terms of a product by a transposed matrix. -/
theorem turned_terms {K a b : ℕ} (A : (⟨2, ![a, K]⟩ : Shape).Idx → EReal) (B : (⟨2, ![b, K]⟩ : Shape).Idx → EReal)
    (h : (⟨2, ![b, K]⟩ : Shape).Transposes [1, 0] ⟨2, ![K, b]⟩) (z : (⟨2, ![a, b]⟩ : Shape).Idx) :
    ∑ k : Fin K, A (ix2 (z 0) k) * transpose ⟨2, ![K, b]⟩ [1, 0] B h (ix2 k (z 1)) = overColumns A B (z 0).val (z 1).val :=
  Finset.sum_congr rfl fun _ _ => congr (congrArg (· * ·) (read_entry A _ rfl rfl)) (turned B h _)

/-! ## To the attention's part -/

theorem do_kernel : Cert.quiescent_MixDo := fun m g _ => MixDo.Gen.frame m g

theorem do_ideal : Cert.quiescent_MixDoIdeal := fun m g _ => MixDoIdeal.Gen.frame m g

theorem do_reference : Cert.quiescent_MixDoRefIdeal := fun m g _ =>
  (θ_run MixDoRefIdeal.defs _ _).mono (fun r h => ⟨fun c => (h c).2, sem_eq_zero_of_no_sems (by decide) r.2⟩)
    (MixDoRefIdeal.Value.run (F := Ideal) m g)

open Cert.MixDoRefIdeal in
theorem do_at (A : S4096x1024.Idx → EReal) (B : S1024x1024.Idx → EReal) (h : S1024x1024.Transposes [1, 0] S1024x1024) (z : S4096x1024.Idx) :
    Host.dotGeneral (F := Ideal) (φ₁ := .f32) (φ₂ := .f32) dot_S4096x1024_S1024x1024_S4096x1024_1_0_0_1_n_n none A (transpose S1024x1024 [1, 0] B h) z
      = overColumns A B (z 0).val (z 1).val :=
  (product_at dot_S4096x1024_S1024x1024_S4096x1024_1_0_0_1_n_n rfl rfl A (transpose S1024x1024 [1, 0] B h) (fun _ => 0) z (fun k => ix2 (z 0) k) (fun k => ix2 k (z 1))
    (fun _ => index_eq rfl rfl) (fun _ => index_eq rfl rfl) rfl).trans (turned_terms A B h z)

theorem do_value : Cert.algebraic_MixDoIdeal_MixDoRefIdeal := fun m g m' g' _ h =>
  ⟨_, MixDoIdeal.Value.run_blocks (F := Ideal) m g,
    (θ_run MixDoRefIdeal.defs _ _).mono (fun _ hr c => by
      obtain ⟨h0, h1⟩ := h c
      obtain ⟨d, rest⟩ := hr c
      rw [h0, h1] at d
      exact ⟨d.trans (MixDoProof.left m c _ fun z => do_at _ _ _ z).symm, rest⟩) (MixDoRefIdeal.Value.run (F := Ideal) m' g')⟩

/-! ## To the convolution's part -/

theorem dcv_kernel : Cert.quiescent_MixDcv := fun m g _ => MixDcv.Gen.frame m g

theorem dcv_ideal : Cert.quiescent_MixDcvIdeal := fun m g _ => MixDcvIdeal.Gen.frame m g

theorem dcv_reference : Cert.quiescent_MixDcvRefIdeal := fun m g _ =>
  (θ_run MixDcvRefIdeal.defs _ _).mono (fun r h => ⟨fun c => (h c).2, sem_eq_zero_of_no_sems (by decide) r.2⟩)
    (MixDcvRefIdeal.Value.run (F := Ideal) m g)

open Cert.MixDcvRefIdeal in
theorem dcv_at (A : S4096x1024.Idx → EReal) (B : S512x1024.Idx → EReal) (h : S512x1024.Transposes [1, 0] S1024x512) (z : S4096x512.Idx) :
    Host.dotGeneral (F := Ideal) (φ₁ := .f32) (φ₂ := .f32) dot_S4096x1024_S1024x512_S4096x512_1_0_0_1_n_n none A (transpose S1024x512 [1, 0] B h) z
      = overColumns A B (z 0).val (z 1).val :=
  (product_at dot_S4096x1024_S1024x512_S4096x512_1_0_0_1_n_n rfl rfl A (transpose S1024x512 [1, 0] B h) (fun _ => 0) z (fun k => ix2 (z 0) k) (fun k => ix2 k (z 1))
    (fun _ => index_eq rfl rfl) (fun _ => index_eq rfl rfl) rfl).trans (turned_terms A B h z)

theorem dcv_value : Cert.algebraic_MixDcvIdeal_MixDcvRefIdeal := fun m g m' g' _ h =>
  ⟨_, MixDcvIdeal.Value.run_blocks (F := Ideal) m g,
    (θ_run MixDcvRefIdeal.defs _ _).mono (fun _ hr c => by
      obtain ⟨h0, h1⟩ := h c
      obtain ⟨d, rest⟩ := hr c
      rw [h0, h1] at d
      exact ⟨d.trans (MixDcvProof.left m c _ fun z => dcv_at _ _ _ z).symm, rest⟩) (MixDcvRefIdeal.Value.run (F := Ideal) m' g')⟩

/-! ## From the queries' gradient -/

theorem dqln_kernel : Cert.quiescent_MixDqln := fun m g _ => MixDqln.Gen.frame m g

theorem dqln_ideal : Cert.quiescent_MixDqlnIdeal := fun m g _ => MixDqlnIdeal.Gen.frame m g

theorem dqln_reference : Cert.quiescent_MixDqlnRefIdeal := fun m g _ =>
  (θ_run MixDqlnRefIdeal.defs _ _).mono (fun r h => ⟨fun c => (h c).2, sem_eq_zero_of_no_sems (by decide) r.2⟩)
    (MixDqlnRefIdeal.Value.run (F := Ideal) m g)

open Cert.MixDqlnRefIdeal in
theorem dqln_at (A : S4096x1024.Idx → EReal) (B : S384x1024.Idx → EReal) (h : S384x1024.Transposes [1, 0] S1024x384) (z : S4096x384.Idx) :
    Host.dotGeneral (F := Ideal) (φ₁ := .f32) (φ₂ := .f32) dot_S4096x1024_S1024x384_S4096x384_1_0_0_1_n_n none A (transpose S1024x384 [1, 0] B h) z
      = overColumns A B (z 0).val (z 1).val :=
  (product_at dot_S4096x1024_S1024x384_S4096x384_1_0_0_1_n_n rfl rfl A (transpose S1024x384 [1, 0] B h) (fun _ => 0) z (fun k => ix2 (z 0) k) (fun k => ix2 k (z 1))
    (fun _ => index_eq rfl rfl) (fun _ => index_eq rfl rfl) rfl).trans (turned_terms A B h z)

theorem dqln_value : Cert.algebraic_MixDqlnIdeal_MixDqlnRefIdeal := fun m g m' g' _ h =>
  ⟨_, MixDqlnIdeal.Value.run_blocks (F := Ideal) m g,
    (θ_run MixDqlnRefIdeal.defs _ _).mono (fun _ hr c => by
      obtain ⟨h0, h1⟩ := h c
      obtain ⟨d, rest⟩ := hr c
      rw [h0, h1] at d
      exact ⟨d.trans (MixDqlnProof.left m c _ fun z => dqln_at _ _ _ z).symm, rest⟩) (MixDqlnRefIdeal.Value.run (F := Ideal) m' g')⟩

/-! ## From the keys' gradient -/

theorem dkvlnK_kernel : Cert.quiescent_MixDkvlnK := fun m g _ => MixDkvlnK.Gen.frame m g

theorem dkvlnK_ideal : Cert.quiescent_MixDkvlnKIdeal := fun m g _ => MixDkvlnKIdeal.Gen.frame m g

theorem dkvlnK_reference : Cert.quiescent_MixDkvlnKRefIdeal := fun m g _ =>
  (θ_run MixDkvlnKRefIdeal.defs _ _).mono (fun r h => ⟨fun c => (h c).2, sem_eq_zero_of_no_sems (by decide) r.2⟩)
    (MixDkvlnKRefIdeal.Value.run (F := Ideal) m g)

open Cert.MixDkvlnKRefIdeal in
/-- The product serves the values' gradient too. -/
theorem dkvln_at (A : S4096x1024.Idx → EReal) (B : S256x1024.Idx → EReal) (h : S256x1024.Transposes [1, 0] S1024x256) (z : S4096x256.Idx) :
    Host.dotGeneral (F := Ideal) (φ₁ := .f32) (φ₂ := .f32) dot_S4096x1024_S1024x256_S4096x256_1_0_0_1_n_n none A (transpose S1024x256 [1, 0] B h) z
      = overColumns A B (z 0).val (z 1).val :=
  (product_at dot_S4096x1024_S1024x256_S4096x256_1_0_0_1_n_n rfl rfl A (transpose S1024x256 [1, 0] B h) (fun _ => 0) z (fun k => ix2 (z 0) k) (fun k => ix2 k (z 1))
    (fun _ => index_eq rfl rfl) (fun _ => index_eq rfl rfl) rfl).trans (turned_terms A B h z)

theorem dkvlnK_value : Cert.algebraic_MixDkvlnKIdeal_MixDkvlnKRefIdeal := fun m g m' g' _ h =>
  ⟨_, MixDkvlnKIdeal.Value.run_blocks (F := Ideal) m g,
    (θ_run MixDkvlnKRefIdeal.defs _ _).mono (fun _ hr c => by
      obtain ⟨h0, h1⟩ := h c
      obtain ⟨d, rest⟩ := hr c
      rw [h0, h1] at d
      exact ⟨d.trans (MixDkvlnKProof.left m c _ fun z => dkvln_at _ _ _ z).symm, rest⟩) (MixDkvlnKRefIdeal.Value.run (F := Ideal) m' g')⟩

/-! ## From the values' gradient -/

theorem dkvlnV_kernel : Cert.quiescent_MixDkvlnV := fun m g _ => MixDkvlnV.Gen.frame m g

theorem dkvlnV_ideal : Cert.quiescent_MixDkvlnVIdeal := fun m g _ => MixDkvlnVIdeal.Gen.frame m g

theorem dkvlnV_reference : Cert.quiescent_MixDkvlnVRefIdeal := fun m g _ =>
  (θ_run MixDkvlnVRefIdeal.defs _ _).mono (fun r h => ⟨fun c => (h c).2, sem_eq_zero_of_no_sems (by decide) r.2⟩)
    (MixDkvlnVRefIdeal.Value.run (F := Ideal) m g)

theorem dkvlnV_value : Cert.algebraic_MixDkvlnVIdeal_MixDkvlnVRefIdeal := fun m g m' g' _ h =>
  ⟨_, MixDkvlnVIdeal.Value.run_blocks (F := Ideal) m g,
    (θ_run MixDkvlnVRefIdeal.defs _ _).mono (fun _ hr c => by
      obtain ⟨h0, h1, h2⟩ := h c
      obtain ⟨d, rest⟩ := hr c
      rw [h0, h1, h2] at d
      exact ⟨d.trans (MixDkvlnVProof.left m c _ fun z => congrArg₂ (· + ·) (read_entry _ z rfl rfl) (dkvln_at _ _ Cert.MixDkvlnVRefIdeal.Gen.transposes_S256x1024_S1024x256_1_0 z)).symm, rest⟩) (MixDkvlnVRefIdeal.Value.run (F := Ideal) m' g')⟩

end Cert.MixBackProof

end
-- ==== Proof.LossTile.lean ====
/-
# One tile of the loss head

At each of its eight steps the loss head takes 512 rows of the last layer's output and of the target. It writes the rows of
the gradient, and it adds the rows' losses to a row of 128 equal numbers, which the first step sets to zero before it adds.
Here is one step, and what the call does to memory.
-/
module

public import proofs.«01_k».proof.Proof.Whole
public import proofs.«01_k».proof.Proof.Gen.LossIdeal.Skeleton
public import proofs.«01_k».proof.Proof.Gen.LossIdeal.Points
public import proofs.«01_k».proof.Proof.Gen.LossIdeal.Launch
public import Idealize.ShloMosaic.Lib.Tactic

@[expose] public section

noncomputable section

namespace Cert.LossProof

open Cert.LossIdeal Cert.LossIdeal.Gen Cert.Train
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline

set_option Elab.async false

variable {F : FTy → Type} [FloatOps F]
variable {U : Type} [URA U]

/-- The test of the body: is this the first step? -/
abbrev IsFirst (i : grid0.Coords) : Prop := Scalar.cmpi .ne (Scalar.extui (Scalar.cmpi .eq (BitVec.ofNat 32 (i 0).val) 0#32)) 0#32 = 1#1

theorem isFirst_of : ∀ n : Fin 8, (Scalar.cmpi .ne (Scalar.extui (Scalar.cmpi .eq (BitVec.ofNat 32 n.val) 0#32)) 0#32 = 1#1) ↔ n.val = 0 := by decide

theorem isFirst_iff (t : Fin grid0.N) : IsFirst (grid0.coords t) ↔ t.val = 0 := by
  have ht : t.val < 8 := Nat.lt_of_lt_of_eq t.isLt N_0
  have e : (grid0.coords t 0).val = t.val / 1 % 8 := Pipeline.Grid.coords_val t 0 (by decide) rfl
  have e' : (grid0.coords t 0).val = t.val := by rw [e]; omega
  unfold IsFirst
  rw [e']
  exact isFirst_of ⟨t.val, ht⟩

abbrev Rows : Shape := S512x1024
abbrev Sums : Shape := S1x128

/-- Every offset of the body's loads and stores is zero. -/
theorem zeros : ∀ a : Fin 2, (![0, 0] : Fin 2 → ℕ) a = 0 := by decide

/-- The first step. -/
theorem first_tile (c : Dev nD) (i : grid0.Coords) (hi : IsFirst i)
    (M0 : Memref sig .tc .vmem Rows .f32) (h0 : M0.IsWhole) (M1 : Memref sig .tc .vmem Rows .f32) (h1 : M1.IsWhole)
    (M2 : Memref sig .tc .vmem Sums .f32) (h2 : M2.IsWhole) (M3 : Memref sig .tc .vmem Rows .f32) (h3 : M3.IsWhole)
    (x0 x1 x3 : Rows.Idx → Elt F .f32) (x2 : Sums.Idx → Elt F .f32) (Q : PUnit → sProp (MT nD τ sig ℕ (Elt F) ℕ U ℕ)) :
    iprop(owns (c : Thread nD τ) M0 fullShare x0 ∗ owns (c : Thread nD τ) M1 fullShare x1 ∗ owns (c : Thread nD τ) M2 fullShare x2 ∗ owns (c : Thread nD τ) M3 fullShare x3
        ∗ (iprop(owns (c : Thread nD τ) M0 fullShare x0 ∗ owns (c : Thread nD τ) M1 fullShare x1
            ∗ owns (c : Thread nD τ) M2 fullShare (k0_pay4 x0 x1 k0_pay3) ∗ owns (c : Thread nD τ) M3 fullShare (k0_pay2 x0 x1)) -∗ Q ⟨⟩))
      ⊢ wp frame (wpE (defs₀ (F := F)) Variants.none c none) Set.univ (cc0_loss_head i M0 h0 M1 h1 M2 h2 M3 h3) Q := by
  rw [cc0_loss_head_eq_skeleton]; unfold cc0_loss_head_skel
  unfold owns
  iintro ⟨⟨%f0, %e0, H0⟩, ⟨%f1, %e1, H1⟩, ⟨%f2, -, H2⟩, ⟨%f3, -, H3⟩, Hk⟩
  sl_exec (disch := first | sl_exact hi)
  sl_step
  iapply Hk
  isplitl [H0]
  · iexists _; isplitr; · ipureintro; exact e0
    iexact H0
  isplitl [H1]
  · iexists _; isplitr; · ipureintro; exact e1
    iexact H1
  isplitl [H2]
  · iexists _; isplitr; swap; · iexact H2
    ipureintro
    refine (whole_store M2.view _ zeros inb_S1x128_S1x128_0_0 _).trans ?_
    unfold first_tile.sl.v16
    rw [show M0.view.readAt (Elt F) _ f0 = x0 from (whole_load M0.view zeros _ f0).trans e0,
      show M1.view.readAt (Elt F) _ f1 = x1 from (whole_load M1.view zeros _ f1).trans e1]
    exact congrArg (k0_pay4 x0 x1) ((whole_load M2.view zeros _ _).trans (whole_store M2.view _ zeros _ _))
  iexists _; isplitr; swap; · iexact H3
  ipureintro
  refine (whole_store M3.view _ zeros inb_S512x1024_S512x1024_0_0 _).trans ?_
  rw [show M0.view.readAt (Elt F) _ f0 = x0 from (whole_load M0.view zeros _ f0).trans e0,
    show M1.view.readAt (Elt F) _ f1 = x1 from (whole_load M1.view zeros _ f1).trans e1]

/-- A later step. -/
theorem later_tile (c : Dev nD) (i : grid0.Coords) (hi : ¬IsFirst i)
    (M0 : Memref sig .tc .vmem Rows .f32) (h0 : M0.IsWhole) (M1 : Memref sig .tc .vmem Rows .f32) (h1 : M1.IsWhole)
    (M2 : Memref sig .tc .vmem Sums .f32) (h2 : M2.IsWhole) (M3 : Memref sig .tc .vmem Rows .f32) (h3 : M3.IsWhole)
    (x0 x1 x3 : Rows.Idx → Elt F .f32) (x2 : Sums.Idx → Elt F .f32) (Q : PUnit → sProp (MT nD τ sig ℕ (Elt F) ℕ U ℕ)) :
    iprop(owns (c : Thread nD τ) M0 fullShare x0 ∗ owns (c : Thread nD τ) M1 fullShare x1 ∗ owns (c : Thread nD τ) M2 fullShare x2 ∗ owns (c : Thread nD τ) M3 fullShare x3
        ∗ (iprop(owns (c : Thread nD τ) M0 fullShare x0 ∗ owns (c : Thread nD τ) M1 fullShare x1
            ∗ owns (c : Thread nD τ) M2 fullShare (k0_pay4 x0 x1 x2) ∗ owns (c : Thread nD τ) M3 fullShare (k0_pay2 x0 x1)) -∗ Q ⟨⟩))
      ⊢ wp frame (wpE (defs₀ (F := F)) Variants.none c none) Set.univ (cc0_loss_head i M0 h0 M1 h1 M2 h2 M3 h3) Q := by
  rw [cc0_loss_head_eq_skeleton]; unfold cc0_loss_head_skel
  unfold owns
  iintro ⟨⟨%f0, %e0, H0⟩, ⟨%f1, %e1, H1⟩, ⟨%f2, %e2, H2⟩, ⟨%f3, -, H3⟩, Hk⟩
  sl_exec (disch := first | sl_exact hi)
  sl_step
  iapply Hk
  isplitl [H0]
  · iexists _; isplitr; · ipureintro; exact e0
    iexact H0
  isplitl [H1]
  · iexists _; isplitr; · ipureintro; exact e1
    iexact H1
  isplitl [H2]
  · iexists _; isplitr; swap; · iexact H2
    ipureintro
    refine (whole_store M2.view _ zeros inb_S1x128_S1x128_0_0 _).trans ?_
    rw [show M0.view.readAt (Elt F) _ f0 = x0 from (whole_load M0.view zeros _ f0).trans e0,
      show M1.view.readAt (Elt F) _ f1 = x1 from (whole_load M1.view zeros _ f1).trans e1,
      show M2.view.readAt (Elt F) _ f2 = x2 from (whole_load M2.view zeros _ f2).trans e2]
  iexists _; isplitr; swap; · iexact H3
  ipureintro
  refine (whole_store M3.view _ zeros inb_S512x1024_S512x1024_0_0 _).trans ?_
  rw [show M0.view.readAt (Elt F) _ f0 = x0 from (whole_load M0.view zeros _ f0).trans e0,
    show M1.view.readAt (Elt F) _ f1 = x1 from (whole_load M1.view zeros _ f1).trans e1]

/-! ## The call -/

variable (V : Dev nD → Valuation τ sig (Elt F))

/-- The rows of the output at point `t`, and of the target, of the arrays as the call finds them. -/
abbrev outs (c : Dev nD) (t : Fin grid0.N) : Rows.Idx → Elt F .f32 :=
  ((cfg0.win 0).blk t).view.read (Elt F) (V c (Proc.devRef .tc (arrRef spec0 0)))
abbrev aims (c : Dev nD) (t : Fin grid0.N) : Rows.Idx → Elt F .f32 :=
  ((cfg0.win 1).blk t).view.read (Elt F) (V c (Proc.devRef .tc (arrRef spec0 1)))

/-- The row of sums after each step. -/
def sums (c : Dev nD) : (n : ℕ) → n < grid0.N → Sums.Idx → Elt F .f32
  | 0, h => k0_pay4 (outs V c ⟨0, h⟩) (aims V c ⟨0, h⟩) k0_pay3
  | n + 1, h => k0_pay4 (outs V c ⟨n + 1, h⟩) (aims V c ⟨n + 1, h⟩) (sums c n (Nat.lt_of_succ_lt h))

/-- What the loss head does to memory. It runs while the all-reduce is still owed. -/
def lossDat (c : Dev nD) : Dat τ (Elt F) ℕ ℕ U ℕ cfg0 c where
  A w := V c (Proc.devRef .tc (arrRef spec0 w))
  after w t := match w with
    | ⟨0, _⟩ => outs V c t
    | ⟨1, _⟩ => aims V c t
    | ⟨2, _⟩ => sums V c t.val t.isLt
    | ⟨3, _⟩ => k0_pay2 (outs V c t) (aims V c t)
  Φ _ := iprop(emp)
  q _ := fullShare
  owed _ := Sites.O0 (F := F) c

theorem before_0 (c : Dev nD) (t d) : (lossDat (U := U) V c).before 0 t d = outs V c t :=
  (lossDat (U := U) V c).before_in_eq_fetched 0 rfl (fun _ => rfl) (fun _ _ _ => rfl) (fun _ => rfl) t d
theorem before_1 (c : Dev nD) (t d) : (lossDat (U := U) V c).before 1 t d = aims V c t :=
  (lossDat (U := U) V c).before_in_eq_fetched 1 rfl (fun _ => rfl) (fun _ _ _ => rfl) (fun _ => rfl) t d

/-- After the first step, a step finds the sums as the step before it left them. -/
theorem before_2 (c : Dev nD) (n : ℕ) (h : n + 1 < grid0.N) (d) :
    (lossDat (U := U) V c).before 2 ⟨n + 1, h⟩ d = sums V c n (Nat.lt_of_succ_lt h) := by
  have hn : n + 1 < 8 := Nat.lt_of_lt_of_eq h N_0
  rw [(lossDat (U := U) V c).before_of_pos 2 ⟨n + 1, h⟩ (Nat.succ_ne_zero n) rfl d, if_neg]
  · rfl
  · intro hf
    have := (flush0_2 _).mp hf
    have e : n % 8 = 7 := this
    omega

theorem loss_obligation (c : Dev nD) : BodyObligation (lossDat (U := U) V c) (defs₀ (F := F)) Variants.none 0 Set.univ := fun t => by
  rw [bigSep_W0, bigSep_W0]
  show iprop((lossDat (U := U) V c).Φ t.castSucc ∗ (lossDat (U := U) V c).owesAt 0 t.castSucc
      ∗ (∃ d, owns (c : Thread nD τ) (win0_0.stage (cfg0.slots t 0)) fullShare ((lossDat (U := U) V c).before 0 t d))
      ∗ (∃ d, owns (c : Thread nD τ) (win0_1.stage (cfg0.slots t 1)) fullShare ((lossDat (U := U) V c).before 1 t d))
      ∗ (∃ d, owns (c : Thread nD τ) (win0_2.stage (cfg0.slots t 2)) fullShare ((lossDat (U := U) V c).before 2 t d))
      ∗ (∃ d, owns (c : Thread nD τ) (win0_3.stage (cfg0.slots t 3)) fullShare ((lossDat (U := U) V c).before 3 t d)))
    ⊢ wp frame (wpE (defs₀ (F := F)) Variants.none c none) Set.univ
        (bodyAt0 (F := F) t)
        fun _ => iprop((lossDat (U := U) V c).Φ t.castSucc ∗ (lossDat (U := U) V c).owesAt 0 t.castSucc
          ∗ owns (c : Thread nD τ) (win0_0.stage (cfg0.slots t 0)) fullShare (outs V c t)
          ∗ owns (c : Thread nD τ) (win0_1.stage (cfg0.slots t 1)) fullShare (aims V c t)
          ∗ owns (c : Thread nD τ) (win0_2.stage (cfg0.slots t 2)) fullShare (sums V c t.val t.isLt)
          ∗ owns (c : Thread nD τ) (win0_3.stage (cfg0.slots t 3)) fullShare (k0_pay2 (outs V c t) (aims V c t)))
  iintro ⟨HΦ, Ho, ⟨%d0, H0⟩, ⟨%d1, H1⟩, ⟨%d2, H2⟩, ⟨%d3, H3⟩⟩
  rw [before_0, before_1]
  match t with
  | ⟨0, h⟩ =>
    iapply (first_tile (U := U) c (grid0.coords ⟨0, h⟩) ((isFirst_iff ⟨0, h⟩).mpr rfl) _ _ _ _ _ _ _ _ (outs V c ⟨0, h⟩) (aims V c ⟨0, h⟩) ((lossDat (U := U) V c).before 3 ⟨0, h⟩ d3) ((lossDat (U := U) V c).before 2 ⟨0, h⟩ d2))
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  | ⟨n + 1, h⟩ =>
    rw [before_2]
    iapply (later_tile (U := U) c (grid0.coords ⟨n + 1, h⟩) (fun e => Nat.succ_ne_zero n ((isFirst_iff ⟨n + 1, h⟩).mp e)) _ _ _ _ _ _ _ _ (outs V c ⟨n + 1, h⟩) (aims V c ⟨n + 1, h⟩) ((lossDat (U := U) V c).before 3 ⟨n + 1, h⟩ d3) (sums V c n (Nat.lt_of_succ_lt h)))
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

end Cert.LossProof

end
-- ==== Proof.LossArrays.lean ====
/-
# What the loss head leaves

Its tiles cover the rows of the gradient, and the row of sums is what the last step leaves.
-/
module

public import proofs.«01_k».proof.Proof.LossTile
public import Idealize.ShloMosaic.Lib.ValueIdxCore
public import Idealize.ShloMosaic.Lib.Pipeline.ValueKit.Geometry
public import Idealize.ShloMosaic.PureOps.Ideal

@[expose] public section

noncomputable section

namespace Cert.LossProof

open Cert.LossIdeal Cert.LossIdeal.Gen Cert.Train
open Idealize.ShloMosaic
open Idealize.ShloMosaic.TcCoe
open Idealize.SL Idealize.SL.RA
open Idealize.ShloMosaic.Pipeline

set_option Elab.async false

variable {F : FTy → Type} [FloatOps F]
variable {U : Type} [URA U]

/-- A device's rows of the output. -/
abbrev Out : Shape := S4096x1024

/-- The gradient, as the kernel makes it of the output and the target. -/
def grad (y x : Out.Idx → Elt F .f32) : Out.Idx → Elt F .f32 :=
  mulf (s := Out) (φ := .f32) (subf (s := Out) (φ := .f32) y x) (broadcast Out (Scalar.ofBits .f32 0x3A800000#32))

theorem step_word (i : grid0.Coords) : (BitVec.ofNat 32 (i 0).val).toNat = (i 0).val := by
  rw [BitVec.toNat_ofNat]; exact Nat.mod_eq_of_lt (lt_trans (i 0).isLt (by decide))

theorem point (t : Fin grid0.N) : (grid0.coords t 0).val = t.val := by
  have ht : t.val < 8 := Nat.lt_of_lt_of_eq t.isLt N_0
  have e : (grid0.coords t 0).val = t.val / 1 % 8 := Pipeline.Grid.coords_val t 0 (by decide) rfl
  rw [e]; omega

/-- Where row `y` of tile `t` lies. -/
def spot (t : Fin grid0.N) (y : Rows.Idx) : Out.Idx :=
  ValueIdx.ix2 ⟨t.val * 512 + (y 0).val, by
    have h : t.val < 8 := Nat.lt_of_lt_of_eq t.isLt N_0
    have h0 : (y 0).val < 512 := (y 0).isLt
    omega⟩ ⟨(y 1).val, (y 1).isLt⟩

theorem ix_tile (t : Fin grid0.N) : (![(BitVec.ofNat 32 (grid0.coords t 0).val).toNat, (0#32).toNat] : Fin 2 → ℕ) = ![t.val, 0] := by
  rw [step_word, point]; rfl

theorem emb_0 (t : Fin grid0.N) (y : Rows.Idx) : ((cfg0.win 0).blk t).view.emb y = spot t y := by
  funext a
  refine Fin.ext (((cfg0.win 0).rect_emb_val t y a rfl).trans ((congrArg (fun f : Fin 2 → ℕ => f a * Rows.size a + (y a).val) (ix_tile t)).trans ?_))
  match a with
  | ⟨0, _⟩ => rfl
  | ⟨1, _⟩ => show 0 * 1024 + (y 1).val = (y 1).val; omega
theorem emb_1 (t : Fin grid0.N) (y : Rows.Idx) : ((cfg0.win 1).blk t).view.emb y = spot t y := by
  funext a
  refine Fin.ext (((cfg0.win 1).rect_emb_val t y a rfl).trans ((congrArg (fun f : Fin 2 → ℕ => f a * Rows.size a + (y a).val) (ix_tile t)).trans ?_))
  match a with
  | ⟨0, _⟩ => rfl
  | ⟨1, _⟩ => show 0 * 1024 + (y 1).val = (y 1).val; omega
theorem emb_3 (t : Fin grid0.N) (y : Rows.Idx) : ((cfg0.win 3).blk t).view.emb y = spot t y := by
  funext a
  refine Fin.ext (((cfg0.win 3).rect_emb_val t y a rfl).trans ((congrArg (fun f : Fin 2 → ℕ => f a * Rows.size a + (y a).val) (ix_tile t)).trans ?_))
  match a with
  | ⟨0, _⟩ => rfl
  | ⟨1, _⟩ => show 0 * 1024 + (y 1).val = (y 1).val; omega
theorem emb_2 (t : Fin grid0.N) (y : Sums.Idx) : ((cfg0.win 2).blk t).view.emb y = y := by
  funext a
  refine Fin.ext (((cfg0.win 2).rect_emb_val t y a rfl).trans ?_)
  match a with
  | ⟨0, _⟩ => show 0 * 1 + (y 0).val = (y 0).val; omega
  | ⟨1, _⟩ => show 0 * 128 + (y 1).val = (y 1).val; omega

theorem covers_2 : (cfg0.win 2).Covers := by decide +kernel
theorem covers_3 : (cfg0.win 3).Covers := by decide +kernel

variable (V : Dev nD → Valuation τ sig (Elt F))

theorem outs_at (c : Dev nD) (t : Fin grid0.N) (y : Rows.Idx) : outs V c t y = V c (Proc.devRef .tc main_arg0) (spot t y) :=
  congrArg (V c (Proc.devRef .tc main_arg0)) (emb_0 t y)
theorem aims_at (c : Dev nD) (t : Fin grid0.N) (y : Rows.Idx) : aims V c t y = V c (Proc.devRef .tc main_arg1) (spot t y) :=
  congrArg (V c (Proc.devRef .tc main_arg1)) (emb_1 t y)

/-- The difference of the output and the target, in a tile. -/
theorem diff_at (x0 x1 : Rows.Idx → Elt F .f32) (y : Rows.Idx) : k0_pay1 x0 x1 y = FloatOps.subf (φ := .f32) (x0 y) (x1 y) := by
  unfold k0_pay1
  rw [shapeCast_self, shapeCast_self]
  rfl

/-- The row of sums after the last step. -/
abbrev total (c : Dev nD) : Sums.Idx → Elt F .f32 := sums V c 7 (by rw [N_0]; decide)

theorem loss_sums (c : Dev nD) : (lossDat (U := U) V c).arrAt 2 cfg0.N = total V c := by
  refine (lossDat (U := U) V c).arrAt_eq_of_covers 2 _ covers_2 (fun t hf y => ?_)
  have h : t.val < 8 := Nat.lt_of_lt_of_eq t.isLt N_0
  have h7 : t.val % 8 = 7 := (flush0_2 t).mp hf
  have ht : t = ⟨7, by rw [N_0]; decide⟩ := Fin.ext (by show t.val = 7; omega)
  subst ht
  exact (congrArg (total V c) (emb_2 _ y)).symm

theorem loss_grad (c : Dev nD) :
    (lossDat (U := U) V c).arrAt 3 cfg0.N = grad (V c (Proc.devRef .tc main_arg0)) (V c (Proc.devRef .tc main_arg1)) := by
  refine (lossDat (U := U) V c).arrAt_eq_of_covers 3 _ covers_3 (fun t _ y => ?_)
  show k0_pay2 (outs V c t) (aims V c t) y = grad _ _ (((cfg0.win 3).blk t).view.emb y)
  rw [emb_3 t y]
  show FloatOps.mulf (φ := .f32) (k0_pay1 (outs V c t) (aims V c t) y) (Scalar.ofBits .f32 0x3A800000#32) = _
  rw [diff_at, outs_at, aims_at]
  rfl

end Cert.LossProof

end
-- ==== Proof.LossHost.lean ====
/-
# A device's arrays, call by call

The loss head fills the row of sums and the gradient. The host takes the first of the sums, and the devices add theirs up.
-/
module

public import proofs.«01_k».proof.Proof.LossArrays
public import Idealize.ShloMosaic.Lib.StableHlo.CollectiveRules
public import Idealize.ShloMosaic.Lib.Pipeline.CollectiveSegs

@[expose] public section

noncomputable section

namespace Cert.LossProof

open Cert.LossIdeal Cert.LossIdeal.Gen Cert.Train
open Idealize.ShloMosaic
open Idealize.ShloMosaic.TcCoe
open Idealize.SL Idealize.SL.RA
open Idealize.ShloMosaic.Pipeline

set_option Elab.async false

variable {F : FTy → Type} [FloatOps F]

abbrev Mem (F : FTy → Type) [FloatOps F] : Type := (ℓ : Loc nD τ sig) → Buf (Elt F) ℓ

variable (m : Mem F)

/-- Device `c`'s arrays at the start, -/
abbrev start (c : Dev nD) : Valuation τ sig (Elt F) := fun b => m (c, b)
/-- the gradient the loss head makes, -/
abbrev slope (c : Dev nD) : Out.Idx → Elt F .f32 :=
  grad (m ((c : Thread nD τ).loc main_arg0)) (m ((c : Thread nD τ).loc main_arg1))
/-- the arrays after the loss head, -/
def headed (c : Dev nD) : Valuation τ sig (Elt F) :=
  Function.update (Function.update (start m c) (Proc.devRef .tc main_v1_0) (total (start m) c)) (Proc.devRef .tc main_v1_1) (slope m c)
/-- when the first sum is taken, -/
def ready (c : Dev nD) : Valuation τ sig (Elt F) := StableHlo.after hostOps1 (headed m c)
/-- and when the devices have added theirs up. -/
def finish (c : Dev nD) : Valuation τ sig (Elt F) := (ar0 (F := F)).after₀ (ready m) c

theorem headed_slope (c : Dev nD) : headed m c (Proc.devRef .tc main_v1_1) = slope m c := Function.update_self ..
theorem headed_total (c : Dev nD) : headed m c (Proc.devRef .tc main_v1_0) = total (start m) c :=
  (Function.update_of_ne (by decide) ..).trans (Function.update_self ..)
theorem headed_of (c : Dev nD) {b : DevRef τ sig} (h0 : b ≠ Proc.devRef .tc main_v1_0) (h1 : b ≠ Proc.devRef .tc main_v1_1) :
    headed m c b = start m c b :=
  (Function.update_of_ne h1 ..).trans (Function.update_of_ne h0 ..)

theorem ready_of (c : Dev nD) {b : DevRef τ sig} (h2 : b ≠ Proc.devRef .tc main_v2) (h3 : b ≠ Proc.devRef .tc main_v3) :
    ready m c b = headed m c b :=
  (HloOp.result_of_not_mem _ _ fun h => h3 (Finset.mem_singleton.mp h)).trans (HloOp.result_of_not_mem _ _ fun h => h2 (Finset.mem_singleton.mp h))

/-- A device's part of the loss: the first of its equal sums. -/
def part (c : Dev nD) : S_.Idx → Elt F .f32 :=
  shapeCast S_ (extractStridedSlice S1x1 ![0, 0] (total (start m) c) slices_S1x128_S1x1_0_0) shapeCasts_S1x1_S_

theorem ready_part (c : Dev nD) : ready m c (Proc.devRef .tc main_v3) = part m c := by
  unfold part; rw [← headed_total]; rfl

theorem peer_eq (d : Dev nD) (j : Fin 8) : (ar0 (F := F)).peer d j = j := by fin_cases d <;> fin_cases j <;> rfl

/-- How the devices add. -/
abbrev plus (a b : F .f32) : F .f32 := Collective.reduce (φ := .f32) .add a b

/-- The sum of the devices' parts, in their order. -/
def loss : S_.Idx → Elt F .f32 := fun i =>
  plus (plus (plus (plus (plus (plus (plus (part m 0 i) (part m 1 i)) (part m 2 i)) (part m 3 i)) (part m 4 i)) (part m 5 i)) (part m 6 i)) (part m 7 i)

theorem finish_loss (c : Dev nD) : finish m c (Proc.devRef .tc main_v4) = loss m := by
  refine ((ar0 (F := F)).after₀_result (ready m) c).trans ?_
  have e : (fun j : Fin 8 => ready m ((ar0 (F := F)).peer c j) (Proc.devRef .tc main_v3)) = fun j : Fin 8 => part m j :=
    funext fun j => by rw [peer_eq, ready_part]
  show (ar0 (F := F)).foldGroup (fun j : Fin 8 => ready m ((ar0 (F := F)).peer c j) (Proc.devRef .tc main_v3)) = loss m
  rw [e]
  funext i
  show ((List.finRange 8).drop 1).foldl (fun a j => plus (F := F) a (part m j i)) (part m 0 i) = loss m i
  rw [show (List.finRange 8).drop 1 = [1, 2, 3, 4, 5, 6, 7] from by decide]
  rfl

/-- The arrays of the addition over the devices. -/
abbrev added : Finset (DevRef τ sig) := insert (Proc.devRef .tc main_v4) (insert (Proc.devRef .tc main_v3) (Finset.univ.image fun j => Proc.devRef .tc (ar0_stage j)))

theorem site_eq : (ar0 (F := F)).siteRefs = added := by
  unfold AllReduce.Cfg.siteRefs AllReduce.Cfg.stageRefs
  simp only [Finset.map_eq_image]
  rfl

theorem finish_of (c : Dev nD) (r : Ref sig .tc) (h : Proc.devRef (τ := τ) .tc r ∉ added) (h2 : Proc.devRef (τ := τ) .tc r ≠ Proc.devRef .tc main_v2)
    (h3 : Proc.devRef (τ := τ) .tc r ≠ Proc.devRef .tc main_v3) : finish m c (Proc.devRef .tc r) = headed m c (Proc.devRef .tc r) :=
  ((ar0 (F := F)).after₀_off_siteRefs (ready m) c (by rw [site_eq]; exact h)).trans (ready_of m c h2 h3)

theorem finish_arg0 (c : Dev nD) : finish m c (Proc.devRef .tc main_arg0) = m ((c : Thread nD τ).loc main_arg0) :=
  (finish_of m c main_arg0 (by decide) (by decide) (by decide)).trans (headed_of m c (by decide) (by decide))
theorem finish_arg1 (c : Dev nD) : finish m c (Proc.devRef .tc main_arg1) = m ((c : Thread nD τ).loc main_arg1) :=
  (finish_of m c main_arg1 (by decide) (by decide) (by decide)).trans (headed_of m c (by decide) (by decide))
theorem finish_slope (c : Dev nD) : finish m c (Proc.devRef .tc main_v1_1) = slope m c :=
  (finish_of m c main_v1_1 (by decide) (by decide) (by decide)).trans (headed_slope m c)

end Cert.LossProof

end
-- ==== Proof.LossLaunch.lean ====
/-
# The loss head and the addition over the devices

The devices run: first the loss head, on each device alone, while the device's place in the later addition waits beside it;
then the host takes the first sum; then the devices add their sums up. At the end each device holds its output and target
unchanged, the whole loss and its rows of the gradient, and every semaphore is at zero.
-/
module

public import proofs.«01_k».proof.Proof.LossHost
public import Idealize.ShloMosaic.Lib.Pipeline.Regions
public import Idealize.ShloMosaic.Lib.Pipeline.Kit
public import Idealize.ShloMosaic.Lib.Pipeline.RegionArrays
public import Idealize.ShloMosaic.Lib.Quiescent
public import Idealize.ShloMosaic.Lib.Tactic

@[expose] public section

noncomputable section

namespace Cert.LossProof

open Cert.LossIdeal Cert.LossIdeal.Gen Cert.Train
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

set_option Elab.async false

variable {F : FTy → Type} [FloatOps F]

/-- What the run keeps beside memory: the call's transfers, and the addition over the devices. -/
abbrev Kept : Type := UR sig nD τ × Sites.UC

local notation "𝕄" => MT nD τ sig ℕ (Elt F) ℕ Kept ℕ

abbrev callKept : Emb (UR sig nD τ) (MT nD τ sig ℕ (Elt F) ℕ Kept ℕ) := embL
abbrev addKept : Emb Sites.UC (MT nD τ sig ℕ (Elt F) ℕ Kept ℕ) := embR

variable (m : Mem F)

abbrev only (p : Fin 1) : (pcfgs (F := F) p).Adm := (cfgs p).toPCfg_adm

def dats (p : Fin 1) (c : Dev nD) : Dat τ (Elt F) ℕ ℕ Kept ℕ (pin (pcfgs (F := F)) only p) c := match p with
  | ⟨0, _⟩ => lossDat (start m) c

/-! ## The loss head -/

/-- What the windows' arrays end with. -/
theorem arrays_at_end (c : Dev nD) (w : Fin 4) :
    (lossDat (U := Kept) (start m) c).arrAt w cfg0.N = headed m c (Proc.devRef .tc (arrRef spec0 w)) := by
  match w with
  | ⟨0, _⟩ => exact ((lossDat (U := Kept) (start m) c).arrAt_in 0 rfl _).trans (headed_of m c (show Proc.devRef .tc main_arg0 ≠ Proc.devRef .tc main_v1_0 by decide) (show Proc.devRef .tc main_arg0 ≠ Proc.devRef .tc main_v1_1 by decide)).symm
  | ⟨1, _⟩ => exact ((lossDat (U := Kept) (start m) c).arrAt_in 1 rfl _).trans (headed_of m c (show Proc.devRef .tc main_arg1 ≠ Proc.devRef .tc main_v1_0 by decide) (show Proc.devRef .tc main_arg1 ≠ Proc.devRef .tc main_v1_1 by decide)).symm
  | ⟨2, _⟩ => exact (loss_sums (U := Kept) (start m) c).trans (headed_total m c).symm
  | ⟨3, _⟩ => exact (loss_grad (U := Kept) (start m) c).trans (headed_slope m c).symm

/-- The arrays of the loss head are among a device's arrays. -/
theorem four_sub : arrRefs (τ := τ) spec0 ⊆ ucRefs τ sig := arrRefs_sub_ucRefs spec0 (by decide)

/-- What waits while the loss head runs: the other arrays, and the device's place in the addition. -/
abbrev waiting (c : Dev nD) : sProp 𝕄 :=
  iprop(StableHlo.held (c : Thread nD τ) (ucRefs τ sig \ arrRefs spec0) (start m c) ∗ (∃ r, prngReg c r) ∗ Sites.rides0 addKept (ready m) c)

theorem levels : LevelCut (pcfgs (F := F)) only 0 Sites.L Sites.lv 0 (Sites.O0 (F := F)) (fun _ => 0) where
  hι c w s := Sites.mem_L c _ (by decide)
  hιb _ _ _ := le_refl _
  hD _ _ _ h := ⟨(Sites.O0_pos h).1, (Sites.O0_pos h).2⟩

def head : Pipeline.RegionSeg (pcfgs (F := F)) only (dats m) 0 defs₀ Variants.none Sites.L Sites.lv 0 :=
  Pipeline.RegionSeg.ofHeld (pcfgs (F := F)) only (dats m) 0 defs₀ Variants.none Sites.L Sites.lv 0 (Sites.O0 (F := F))
    (fun _ => iprop(emp)) (fun _ => iprop(emp)) launch0.toP rfl (fun c => (loss_obligation (U := Kept) (start m) c).loose)
    (fun _ _ => rfl) (fun _ => rfl) (fun c w => (lossDat (U := Kept) (start m) c).share_full (fun _ => rfl) w)
    (fun c => by iintro -; iempintro)
    (fun c => by rw [show (scopedRest (pin (pcfgs (F := F)) only 0).spec c : sProp 𝕄) = BI.emp from scopedRest0_eq c]; iintro -; isplitr <;> iempintro)
    (fun _ => 0) levels (waiting m) (start m) (headed m) (fun _ _ => rfl) (arrays_at_end m)

/-! ## The first sum, and the addition -/

theorem first_fresh : ∀ op ∈ (hostOps1 : List (HloOp τ sig (Elt F))), op.fresh = ∅ := fun op h => by
  rcases List.mem_cons.mp h with rfl | h
  · rfl
  · obtain rfl := List.mem_singleton.mp h; rfl

def first : HostSeg (Name := ℕ) (U := Kept) (pcfgs (F := F)) defs₀ Variants.none Sites.L Sites.lv :=
  HostSeg.ofOps _ _ _ _ _ (ucRefs τ sig) hostOps1
    (fun op h => sub_ucRefs op ((List.forall_iff_forall_mem.mp hostOps1_sub) op h)) first_fresh (headed m) (Sites.Es addKept (ready m) 0)

/-- The records of the addition, which last to the end. -/
abbrev invs : sProp 𝕄 := iprop(∃ κ, (AllReduce.Dat.once (ar0 (F := F)) (ready m)).cellInvs (Sites.E0 (F := F) addKept) κ)

def sum : HostSeg (Name := ℕ) (U := Kept) (pcfgs (F := F)) defs₀ Variants.none Sites.L Sites.lv :=
  Sites.seg0 addKept Variants.none (ready m) (Sites.Rest0 (ready m) fun _ => invs m)

abbrev steps : List (Pipeline.Seg (pcfgs (F := F)) only (dats m) 0 defs₀ Variants.none Sites.L Sites.lv) :=
  [.region (head m), .host (first m), .host (sum m)]

/-- A device before the loss head, -/
abbrev before (c : Dev nD) : sProp 𝕄 := iprop(StableHlo.held (c : Thread nD τ) (ucRefs τ sig) (start m c) ∗ Sites.Es addKept (ready m) 0 c)
/-- and at the end. -/
abbrev after (c : Dev nD) : sProp 𝕄 :=
  iprop(StableHlo.held (c : Thread nD τ) (ucRefs τ sig) (finish m c) ∗ (invs m ∗ Sites.Ghost0 (F := F) addKept c))

theorem to_head (c : Dev nD) : before m c ⊢ (head m).pre c := by
  show iprop(StableHlo.held (c : Thread nD τ) (ucRefs τ sig) (start m c) ∗ Sites.Es addKept (ready m) 0 c)
    ⊢ iprop(StableHlo.held (c : Thread nD τ) (arrRefs spec0) (start m c) ∗ emp ∗ waiting m c ∗ ∃ W, owes (c : Thread nD τ) (Sites.O0 (F := F) c) W)
  rw [StableHlo.held_sub_split (c : Thread nD τ) four_sub (start m c), Sites.Es_0]
  iintro ⟨⟨Ha, Hb⟩, Ho, Hp, Hr⟩
  isplitl [Ha]; · iexact Ha
  isplitr; · iempintro
  isplitr [Ho]
  · isplitl [Hb]; · iexact Hb
    isplitl [Hp] <;> iassumption
  iexact Ho

theorem others_eq (c : Dev nD) :
    (StableHlo.held (c : Thread nD τ) (ucRefs τ sig \ arrRefs spec0) (headed m c) : sProp 𝕄) = StableHlo.held (c : Thread nD τ) (ucRefs τ sig \ arrRefs spec0) (start m c) :=
  StableHlo.held_congr (c : Thread nD τ) fun b hb => headed_of m c
    (fun h => (Finset.mem_sdiff.mp hb).2 (by rw [h]; decide)) (fun h => (Finset.mem_sdiff.mp hb).2 (by rw [h]; decide))

theorem to_first (c : Dev nD) : (head m).post c ⊢ (first m).pre c := by
  show iprop(StableHlo.held (c : Thread nD τ) (arrRefs spec0) (headed m c) ∗ emp ∗ waiting m c ∗ ∃ W, owes (c : Thread nD τ) (Sites.O0 (F := F) c) W)
    ⊢ iprop(StableHlo.held (c : Thread nD τ) (ucRefs τ sig) (headed m c) ∗ Sites.Es addKept (ready m) 0 c)
  rw [StableHlo.held_sub_split (c : Thread nD τ) four_sub (headed m c), others_eq, Sites.Es_0]
  iintro ⟨Ha, -, ⟨Hb, Hp, Hr⟩, Ho⟩
  isplitl [Ha Hb]
  · isplitl [Ha] <;> iassumption
  isplitl [Ho]; · iexact Ho
  isplitl [Hp] <;> iassumption

theorem to_sum (c : Dev nD) : (first m).post c ⊢ (sum m).pre c := by
  refine BIBase.Entails.trans ?_ (Sites.pre0 addKept Variants.none (ready m) (fun _ => invs m) c)
  show iprop(StableHlo.held (c : Thread nD τ) (ucRefs τ sig) (ready m c) ∗ Sites.Es addKept (ready m) 0 c) ⊢ _
  rw [Sites.Es_0]
  iintro ⟨Hh, Ho, Hp, Hr⟩
  ihave #Hi := (show Sites.rides0 addKept (ready m) c ⊢ invs m from by unfold Sites.rides0 AllReduce.Dat.rides; iintro ⟨Hi, -⟩; iexact Hi) $$ Hr
  isplitl [Hh]; · iexact Hh
  isplitl [Ho Hp Hr]
  · isplitl [Ho]; · iexact Ho
    isplitl [Hp] <;> iassumption
  iexact Hi

theorem to_end (c : Dev nD) : (sum m).post c ⊢ iprop(after m c ∗ ∃ W, owes (c : Thread nD τ) (0 : CellTallies nD τ sig ℕ) W) := by
  refine (Sites.post0 addKept Variants.none (ready m) (fun _ => invs m) c).trans ?_
  show iprop(StableHlo.held (c : Thread nD τ) (ucRefs τ sig) (finish m c) ∗ _) ⊢ _
  iintro ⟨Hh, He, Hg, Hi⟩
  ihave Ho := (Sites.hE_last addKept (ready m) c) $$ He
  isplitr [Ho]
  · isplitl [Hh]; · iexact Hh
    isplitl [Hi] <;> iassumption
  iexact Ho

/-! ## The run -/

theorem at_start (g : Dev nD → PrngReg) :
    iprop((bigSep Finset.univ fun c : Dev nD => iprop(unscopedBufs c (fun b => m ((c : Thread nD τ).loc b)) ∗ unscopedSems0 c
          ∗ owes (c : Thread nD τ) (Sites.O0 (F := F) c) ∅ ∗ launchCred (Sites.O0 (F := F)) c ∗ prngReg c (g c) ∗ Sites.G addKept (ready m) c)) ∗ levAts Sites.L Sites.lv)
      ⊢ (|={Set.univ}=> bigSep Finset.univ (before m) : sProp 𝕄) := by
  have e (c : Dev nD) : (unscopedBufs c (fun b => m ((c : Thread nD τ).loc b)) : sProp 𝕄) = StableHlo.held (c : Thread nD τ) (ucRefs τ sig) (start m c) :=
    Pipeline.unscopedBufs_held (Ix := ℕ) (Name := ℕ) (U := Kept) (Lvl := ℕ) c (start m c)
  have h : (bigSep Finset.univ (before m) : sProp 𝕄)
      = iprop((bigSep Finset.univ fun c : Dev nD => StableHlo.held (c : Thread nD τ) (ucRefs τ sig) (start m c)) ∗ bigSep Finset.univ (Sites.Es addKept (ready m) 0)) :=
    bigSep_sep' ..
  simp only [e]
  rw [h, bigSep_sep']
  iintro ⟨⟨Hb, H⟩, Hl⟩
  imod (Sites.hE0 addKept (ready m) g) $$ [H Hl] with He
  · isplitl [H] <;> iassumption
  imodintro
  isplitl [Hb] <;> iassumption

/-- What every device holds at the end. -/
def Done (c : Dev nD) (s : MemSt nD τ sig (Elt F)) : Prop :=
  s.mem ((c : Thread nD τ).loc main_arg0) = m ((c : Thread nD τ).loc main_arg0) ∧ s.mem ((c : Thread nD τ).loc main_arg1) = m ((c : Thread nD τ).loc main_arg1)
    ∧ s.mem ((c : Thread nD τ).loc main_v4) = loss m ∧ s.mem ((c : Thread nD τ).loc main_v1_1) = slope m c

/-- The three semaphores of the addition are at zero. -/
def Quiet (c : Dev nD) (s : MemSt nD τ sig (Elt F)) : Prop :=
  s.sem ((ar0 (F := F)).barrierCell c) = 0 ∧ s.sem ((ar0 (F := F)).recvCell c) = 0 ∧ s.sem ((ar0 (F := F)).sendCell c) = 0

theorem at_end (c : Dev nD) (s : Phys nD τ sig (Elt F)) :
    iprop(after m c ∗ SI s) ⊢ (|={Set.univ}=> iprop(⌜Done m c s.mem ∧ Quiet c s.mem⌝ ∗ SI s) : sProp 𝕄) := by
  unfold after StableHlo.held
  iintro ⟨⟨Hh, He⟩, HSI⟩
  ihave Hr := (pointsTo_read_all (ucRefs τ sig) (fun b => ((c : Thread nD τ).1, b)) (finish m c) s) $$ [Hh HSI]
  · isplitl [Hh] <;> iassumption
  icases Hr with ⟨%h, HSI⟩
  imod ((AllReduce.Dat.once (ar0 (F := F)) (ready m)).ghostAfter_read (Sites.E0 (F := F) addKept) c (k := 0) le_rfl s) $$ [He HSI] with ⟨%hz, HSI⟩
  · isplitl [He] <;> iassumption
  imodintro
  isplitr
  · ipureintro
    have at_ (r : Ref sig .tc) (hr : r.isScoped = false) : s.mem.mem ((c : Thread nD τ).loc r) = finish m c (Proc.devRef .tc r) :=
      h (Proc.devRef .tc r) (Finset.mem_filter.mpr ⟨StableHlo.devRef_mem_tcRefs r, by rw [show (Proc.devRef (τ := τ) .tc r).isScoped = r.isScoped from rfl, hr]; decide⟩)
    exact ⟨⟨(at_ main_arg0 (by decide)).trans (finish_arg0 m c), (at_ main_arg1 (by decide)).trans (finish_arg1 m c),
      (at_ main_v4 (by decide)).trans (finish_loss m c), (at_ main_v1_1 (by decide)).trans (finish_slope m c)⟩, hz⟩
  · iexact HSI

theorem main_eq (c : Dev nD) : main (F := F) c = Pipeline.Seg.run (steps m) :=
  main_segs only (dats m) 0 Variants.none Sites.L Sites.lv (first m) (sum m) (head m) rfl rfl c

theorem launch_kept :
    (ownU (initOf (cells (pin (pcfgs (F := F)) only) cellOf_inj) (launchToks (pin (pcfgs (F := F)) only) cellOf_inj), Sites.uC (U := Kept) (ready m)) : sProp 𝕄)
      ⊢ |={Set.univ}=> iprop(BI.own (callKept (initOf (cells (pin (pcfgs (F := F)) only) cellOf_inj) (launchToks (pin (pcfgs (F := F)) only) cellOf_inj)))
        ∗ bigSep Finset.univ (Sites.G addKept (ready m))) := by
  iintro H
  ihave H' := (ownU_pair _ _) $$ H
  icases H' with ⟨Ha, Hb⟩
  imodintro
  isplitl [Ha]; · iexact Ha
  rw [Sites.bigSep_G]; iexact Hb

set_option backward.isDefEq.respectTransparency.types false in
/-- Every weakly fair run ends, with each device's output and target as they were, the loss and the gradient in its results,
    and every semaphore at zero. -/
theorem run_main (g : Dev nD → PrngReg) :
    θ_run (defs (F := F)) (onTc (τ := τ) main) ⟨m, fun _ => 0, g⟩ (fun r => (∀ c, Done m c r.2) ∧ r.2.sem = fun _ => 0) :=
  Pipeline.θ_run_regions_kit_sems (pcfgs (F := F)) only (dats m) 0 cellOf_inj callKept defs₀ Variants.none Sites.L Sites.lv m g main (steps m)
    (fun c Q => by rw [main_eq m c])
    (show ([0] : List (Fin 1)).Nodup from by decide)
    (O₀ := Sites.O0 (F := F)) (hL := Sites.hL) (G := Sites.G addKept (ready m)) (u₀ := _) (hu₀ := launch_kept m)
    (T₀ := before m) (Tₙ := after m) (hch := ⟨to_head m, to_first m, to_sum m, to_end m⟩)
    (hinit := at_start m g) (QY := fun c s => Done m c s ∧ Quiet c s) (hfin := at_end m)
    (hQ := fun s h hs => ⟨fun c => (h c).1, sem_eq_zero hs fun c sm hsm => by
      have hl : ∀ sm : SemLoc sig, sm.isScoped .tc = false → sm = .reg ar0_barrier ∨ sm = .dma ar0_recv ∨ sm = .dma ar0_send := by decide
      rcases hl sm hsm with rfl | rfl | rfl
      exacts [(h c).2.1, (h c).2.2.1, (h c).2.2.2]⟩)

end Cert.LossProof

end
-- ==== Proof.LossKernel.lean ====
/-
# The loss head over the float formats' bits

The kernel and its idealization are the same text, printed twice. Here they are matched: the call's configuration, its body,
the addition over the devices, the order of the three; then the idealization's run is the kernel's.
-/
module

public import proofs.«01_k».proof.Proof.Gen.Loss
public import Idealize.ShloMosaic.PureOps.BitExact
public import proofs.«01_k».proof.Proof.LossLaunch

@[expose] public section

noncomputable section

namespace Cert.LossProof

open Idealize.ShloMosaic
open Idealize.ShloMosaic.TcCoe
open Idealize.SL.Sem

set_option Elab.async false

/-- The configuration agrees, -/
theorem pcfgs_eq : Loss.pcfgs (F := Bits) = LossIdeal.pcfgs (F := Bits) := rfl

/-- and the body. -/
theorem defs₀_eq : Loss.defs₀ (F := Bits) = LossIdeal.defs₀ (F := Bits) := by
  unfold Loss.defs₀ LossIdeal.defs₀
  refine congrArg Defs.onTc (funext fun l => funext fun a => ?_)
  match l, a with
  | 0, (t, s) => rfl

/-- The call, the host's part and the addition, for any configuration of the call. -/
abbrev inOrder (pcs : Fin 1 → Pipeline.PCfg LossIdeal.sig LossIdeal.Λ₀ (Elt Bits)) (_ : Dev LossIdeal.nD) :
    Prog (TpuEff LossIdeal.nD LossIdeal.τ LossIdeal.sig (Elt Bits) (Pipeline.Sig LossIdeal.Λ₀ (Fin 1) fun p => (pcs p).Adm) .tc) PUnit :=
  Pipeline.chain [Prog.lift (.customCall (Pipeline.entry 0) ()), StableHlo.seq LossIdeal.Gen.hostOps1, StableHlo.allReduce LossIdeal.ar0]

/-- and their order. -/
theorem main_kernel (c : Dev Loss.nD) : Loss.main (F := Bits) c = inOrder (Loss.pcfgs (F := Bits)) c := by
  unfold inOrder
  rewrite [Pipeline.chain_cons, StableHlo.chain_seq_cons, Pipeline.chain_cons]
  chain_rfl

open LossIdeal in
/-- Equal configurations and bodies run alike. -/
theorem run_congr {pcs pcs' : Fin 1 → Pipeline.PCfg sig Λ₀ (Elt Bits)} (h : pcs = pcs') {d d' : Defs nD τ sig (Elt Bits) Λ₀} (hd : d = d')
    (s) (Q) (H : θ_run (Pipeline.defs pcs d) (onTc (τ := τ) (inOrder pcs)) s Q) : θ_run (Pipeline.defs pcs' d') (onTc (τ := τ) (inOrder pcs')) s Q := by
  subst h; subst hd; exact H

/-- Every run of the kernel ends as the idealization's does. -/
theorem run_kernel (m : Mem Bits) (g : Dev LossIdeal.nD → PrngReg) :
    θ_run (Loss.defs (F := Bits)) (onTc (τ := Loss.τ) Loss.main) ⟨m, fun _ => 0, g⟩ (fun r => (∀ c, Done m c r.2) ∧ r.2.sem = fun _ => 0) := by
  unfold Loss.defs
  rw [show Loss.main (F := Bits) = inOrder (Loss.pcfgs (F := Bits)) from funext main_kernel]
  refine run_congr pcfgs_eq.symm defs₀_eq.symm _ _ ?_
  have h := run_main m g
  rw [show LossIdeal.main (F := Bits) = inOrder (LossIdeal.pcfgs (F := Bits)) from funext LossIdeal.Gen.main_chain] at h
  exact h

end Cert.LossProof

end
-- ==== Proof.LossValue.lean ====
/-
# The reference's loss, and the devices' sum

Every step adds its rows' losses, so a device's part is the sum over its rows, and the devices' sum is over all the rows: the
reference's loss.
-/
module

public import proofs.«01_k».proof.Proof.LossHost
public import proofs.«01_k».proof.Proof.LossNumbers
public import proofs.«01_k».proof.Proof.Gen.LossRefIdeal
public import Idealize.ShloMosaic.Lib.LayoutAt
public import Idealize.ShloMosaic.Lib.Pipeline.Value
public import Idealize.ShloMosaic.Lib.Pointwise.Reduce

@[expose] public section

noncomputable section

namespace Cert.LossProof

open Cert.LossIdeal Cert.LossIdeal.Gen Cert.Train
open Idealize.ShloMosaic
open Idealize.ShloMosaic.TcCoe

set_option Elab.async false

/-- All the devices' rows. -/
abbrev All : Shape := ⟨2, ![32768, 1024]⟩

/-! ## The reference -/

/-- The reference's loss of the output and the target, -/
def lossOf (Y T : All.Idx → Elt Ideal .f32) : LossRefIdeal.S_.Idx → Elt Ideal .f32 :=
  open Cert.LossRefIdeal Cert.LossRefIdeal.Gen in
  mulf (F := Ideal) (φ := .f32) (constant LossRefIdeal.S_ .f32 0x3F000000#32) (Host.reduceAdd (Host.divf (Host.reduceAdd (mulf (subf Y T) (subf Y T)) (constant LossRefIdeal.S_ .f32 0x00000000#32) reducesTo_S32768x1024_S32768_d1 h_S_) (broadcastInDim S32768 ![] bcast_S_S32768 (constant LossRefIdeal.S_ .f32 0x44800000#32))) (constant LossRefIdeal.S_ .f32 0x00000000#32) reducesTo_S32768_S_d0 h_S_)
/-- and its gradient. -/
def slopeOf (Y T : All.Idx → Elt Ideal .f32) : All.Idx → Elt Ideal .f32 :=
  open Cert.LossRefIdeal Cert.LossRefIdeal.Gen in
  mulf (F := Ideal) (φ := .f32) (broadcastInDim S32768x1024 ![0] bcast_S32768_S32768x1024_0 (Host.divf (broadcastInDim S32768 ![] bcast_S_S32768 (mulf (constant LossRefIdeal.S_ .f32 0x3F000000#32) (constant LossRefIdeal.S_ .f32 0x3F800000#32))) (broadcastInDim S32768 ![] bcast_S_S32768 (constant LossRefIdeal.S_ .f32 0x44800000#32)))) (mulf (broadcastInDim S32768x1024 ![] bcast_S_S32768x1024 (constant LossRefIdeal.S_ .f32 0x40000000#32)) (subf Y T))

/-- The difference at an element. -/
def diff (Y T : All.Idx → Elt Ideal .f32) (i : All.Idx) : EReal := (show EReal from Y i) - (show EReal from T i)
/-- A row's sum of squares. -/
def squares (Y T : All.Idx → Elt Ideal .f32) (r : ℕ) : EReal :=
  if h : r < 32768 then ∑ k : Fin 1024, diff Y T (ValueIdx.ix2 ⟨r, h⟩ k) * diff Y T (ValueIdx.ix2 ⟨r, h⟩ k) else 0

theorem squares_nonneg (Y T : All.Idx → Elt Ideal .f32) (r : ℕ) : 0 ≤ squares Y T r := by
  unfold squares
  split
  · exact Finset.sum_nonneg fun k _ => square_nonneg _
  · exact le_refl 0

theorem squares_at (Y T : All.Idx → Elt Ideal .f32) (r : Fin 32768) :
    squares Y T r.val = ∑ k : Fin 1024, diff Y T (ValueIdx.ix2 r k) * diff Y T (ValueIdx.ix2 r k) := dif_pos r.isLt

theorem zero_first : constant (F := Ideal) LossRefIdeal.S_ .f32 0x00000000#32 (Shape.Idx.first LossRefIdeal.Gen.h_S_) = (0 : EReal) := Ideal.ofBits_zero_f32

/-- The reference's loss is half the sum of the rows' means. -/
theorem lossOf_apply (Y T : All.Idx → Elt Ideal .f32) (i : LossRefIdeal.S_.Idx) :
    lossOf Y T i = Ideal.ofBits .f32 0x3F000000#32 * ∑ r : Fin 32768, Ideal.div (squares Y T r.val) (Ideal.ofBits .f32 0x44800000#32) := by
  unfold lossOf
  show Ideal.ofBits .f32 0x3F000000#32 * (show EReal from Host.reduceAdd (F := Ideal) (φ := .f32) _ _ _ _ i) = _
  refine congrArg (Ideal.ofBits .f32 0x3F000000#32 * ·) ?_
  dsimp only
  rw [Host.reduceAdd_apply, Ideal.hostReduceAdd_def, Ideal.hostReduceAdd_r1_a0, zero_first, zero_add]
  refine Finset.sum_congr rfl fun r _ => ?_
  show Ideal.div (show EReal from Host.reduceAdd (F := Ideal) (φ := .f32) _ _ _ _ (ix1 r)) (Ideal.ofBits .f32 0x44800000#32) = _
  refine congrArg (fun x => Ideal.div x (Ideal.ofBits .f32 0x44800000#32)) ?_
  dsimp only
  rw [Host.reduceAdd_apply, Ideal.hostReduceAdd_def, Ideal.hostReduceAdd_r2_a1, zero_first, zero_add, squares_at]
  rfl

theorem slopeOf_apply (Y T : All.Idx → Elt Ideal .f32) (i : All.Idx) :
    slopeOf Y T i = diff Y T i * Ideal.ofBits .f32 0x3A800000#32 :=
  slope_factors (diff Y T i)

/-! ## The kernel -/

/-- A step adds its rows' losses to each of the sums. -/
theorem step_at (x0 x1 : Rows.Idx → Elt Ideal .f32) (v : Sums.Idx → Elt Ideal .f32) (j : Sums.Idx) :
    k0_pay4 x0 x1 v j = (show EReal from v j) + ∑ i : Fin 512, (∑ k : Fin 1024, (show EReal from k0_pay1 x0 x1 (ValueIdx.ix2 i k)) * (show EReal from k0_pay1 x0 x1 (ValueIdx.ix2 i k)))
      * Ideal.ofBits .f32 0x3A000000#32 := by
  unfold k0_pay4
  dsimp only
  rw [shapeCast_self, shapeCast_self]
  refine congrArg (fun a : EReal => (show EReal from v j) + a) ?_
  refine (broadcastTo_apply _ _ j (ValueIdx.ix2 0 0) fun a => match a with | ⟨0, _⟩ => rfl | ⟨1, _⟩ => rfl).trans ?_
  refine (shapeCast_apply _ _ (ValueIdx.ix2 0 0) (ix1 0) rfl).trans ?_
  refine (multiReduction_add_apply _ _ _ _ _ _).trans ?_
  rw [Ideal.reduceAdd_def, Ideal.reduceAdd_r2_a0]
  refine Finset.sum_congr rfl fun i _ => ?_
  refine congrArg (· * Ideal.ofBits .f32 0x3A000000#32) ?_
  refine (shapeCast_apply _ _ _ (ix1 i) ?_).trans ?_
  · rw [Shape.rowMajor_val_one, Shape.rowMajor_val_two]
    show i.val = i.val * 1 + 0
    omega
  refine (multiReduction_add_apply _ _ _ _ _ _).trans ?_
  rw [Ideal.reduceAdd_def, Ideal.reduceAdd_r2_a1]
  rfl

variable (m : Mem Ideal) (Y T : All.Idx → Elt Ideal .f32)

/-- The devices' arrays are blocks of the output and the target. -/
def Blocks : Prop := ∀ c : Dev nD,
  m ((c : Thread nD τ).loc main_arg0) = Layout.block ⟨2, ![4096, 1024]⟩ ⟨2, ![32768, 1024]⟩ 0 8 c Y
    ∧ m ((c : Thread nD τ).loc main_arg1) = Layout.block ⟨2, ![4096, 1024]⟩ ⟨2, ![32768, 1024]⟩ 0 8 c T

/-- Where an element of device `c`'s block lies. -/
def global (c : Dev nD) (y : Out.Idx) : All.Idx :=
  ValueIdx.ix2 ⟨c.val * 4096 + (y 0).val, by
    have h : c.val < 8 := c.isLt
    have h0 : (y 0).val < 4096 := (y 0).isLt
    omega⟩ ⟨(y 1).val, (y 1).isLt⟩

theorem block_at (X : All.Idx → Elt Ideal .f32) (c : Dev nD) (y : Out.Idx) :
    (Layout.block ⟨2, ![4096, 1024]⟩ ⟨2, ![32768, 1024]⟩ 0 8 c X) y = X (global c y) := by
  refine congrArg X (funext fun a => Fin.ext ?_)
  match a with
  | ⟨0, _⟩ => rfl
  | ⟨1, _⟩ => rfl

variable {m Y T}

/-- A device's difference is the whole difference. -/
theorem diff_block (h : Blocks m Y T) (c : Dev nD) (y : Out.Idx) :
    (show EReal from m ((c : Thread nD τ).loc main_arg0) y) - (show EReal from m ((c : Thread nD τ).loc main_arg1) y) = diff Y T (global c y) := by
  rw [(h c).1, (h c).2]
  dsimp only
  rw [block_at, block_at]
  rfl

/-- What step `t` of device `c` adds. -/
def stepLoss (Y T : All.Idx → Elt Ideal .f32) (c t : ℕ) : EReal := ∑ i : Fin 512, squares Y T (c * 4096 + (t * 512 + i.val)) * Ideal.ofBits .f32 0x3A000000#32

theorem step_loss (h : Blocks m Y T) (c : Dev nD) (t : Fin grid0.N) (v : Sums.Idx → Elt Ideal .f32) (j : Sums.Idx) :
    k0_pay4 (outs (start m) c t) (aims (start m) c t) v j = (show EReal from v j) + stepLoss Y T c.val t.val := by
  have hc : c.val < 8 := c.isLt
  have ht : t.val < 8 := Nat.lt_of_lt_of_eq t.isLt N_0
  rw [step_at]
  refine congrArg (fun a : EReal => (show EReal from v j) + a) (Finset.sum_congr rfl fun i _ => ?_)
  refine congrArg (· * Ideal.ofBits .f32 0x3A000000#32) ?_
  have hi : i.val < 512 := i.isLt
  refine Eq.trans (Finset.sum_congr rfl fun k _ => ?_) (squares_at Y T ⟨c.val * 4096 + (t.val * 512 + i.val), by omega⟩).symm
  have e : k0_pay1 (outs (start m) c t) (aims (start m) c t) (ValueIdx.ix2 i k)
      = diff Y T (ValueIdx.ix2 ⟨c.val * 4096 + (t.val * 512 + i.val), by omega⟩ k) := by
    rw [diff_at, outs_at, aims_at]
    exact diff_block h c (spot t (ValueIdx.ix2 i k))
  exact congrArg₂ (fun a b : EReal => a * b) e e

/-- The sums after step `n`. -/
theorem sums_at (h : Blocks m Y T) (c : Dev nD) (j : Sums.Idx) : ∀ (n : ℕ) (hn : n < grid0.N),
    sums (start m) c n hn j = ∑ t : Fin (n + 1), stepLoss Y T c.val t.val
  | 0, hn => by
    refine (step_loss h c ⟨0, hn⟩ (k0_pay3 (F := Ideal)) j).trans ?_
    rw [show (show EReal from k0_pay3 (F := Ideal) j) = 0 from Ideal.ofBits_zero_f32, zero_add, Fin.sum_univ_one]
    rfl
  | n + 1, hn => by
    refine (step_loss h c ⟨n + 1, hn⟩ _ j).trans ?_
    dsimp only
    rw [sums_at h c j n, Fin.sum_univ_castSucc (n := n + 1)]
    rfl

/-- A device's part of the loss. -/
theorem part_at (h : Blocks m Y T) (c : Dev nD) (i : S_.Idx) : part m c i = ∑ t : Fin 8, stepLoss Y T c.val t.val := by
  unfold part
  refine (shapeCast_apply _ _ i (ValueIdx.ix2 0 0) ?_).trans ?_
  · have h1 : S_.numel = 1 := rfl
    have h2 := (S_.rowMajor i).isLt
    have h3 : ((⟨2, ![1, 1]⟩ : Shape).rowMajor (ValueIdx.ix2 0 0)).val = 0 := by rw [Shape.rowMajor_val_two]; rfl
    exact h3.trans (by omega)
  refine (extractStridedSlice_apply _ _ _ _ (ValueIdx.ix2 0 0) fun a => match a with | ⟨0, _⟩ => rfl | ⟨1, _⟩ => rfl).trans ?_
  exact sums_at h c _ 7 _

/-- The devices' sum is the reference's loss. -/
theorem loss_eq (h : Blocks m Y T) : loss m = lossOf Y T := by
  funext i
  refine Eq.trans ?_ (lossOf_apply Y T i).symm
  rw [half_means _ (squares_nonneg Y T)]
  refine Eq.trans ?_ (Fin.sum_univ_eight _).symm
  show (((((((part m 0 i : EReal) + (part m 1 i : EReal)) + (part m 2 i : EReal)) + (part m 3 i : EReal)) + (part m 4 i : EReal)) + (part m 5 i : EReal)) + (part m 6 i : EReal)) + (part m 7 i : EReal) = _
  rw [part_at h, part_at h, part_at h, part_at h, part_at h, part_at h, part_at h, part_at h]
  rfl

/-- A device's gradient is its rows of the reference's. -/
theorem slope_eq (h : Blocks m Y T) (c : Dev nD) : slope m c = Layout.block ⟨2, ![4096, 1024]⟩ ⟨2, ![32768, 1024]⟩ 0 8 c (slopeOf Y T) := by
  funext y
  rw [block_at, slopeOf_apply, ← diff_block h c y]
  rfl

end Cert.LossProof

end
-- ==== Proof.LossClaims.lean ====
/-
# What is claimed of the loss

Every run of the loss head and of the sum over the devices ends, its arguments unchanged and every semaphore at zero; the sum
is the reference's loss, and the devices' gradients are the rows of the reference's.
-/
module

public import proofs.«01_k».proof.Defs
public import proofs.«01_k».proof.Proof.LossKernel
public import proofs.«01_k».proof.Proof.LossValue
public import proofs.«01_k».proof.Proof.Gen.LossRefIdeal.Run
public import Idealize.ShloMosaic.Lib.Quiescent

@[expose] public section

noncomputable section

namespace Cert.LossProof

open Idealize.ShloMosaic
open Idealize.ShloMosaic.TcCoe
open Idealize.SL.Sem

set_option Elab.async false

/-- Over the float formats' bits, the loss head and the sum end with their arguments unchanged and every semaphore at zero. -/
theorem frame_kernel : Cert.quiescent_Loss := fun m g _ =>
  (θ_run (Loss.defs (F := Bits)) _ _).mono (fun _ h => ⟨fun c => ⟨(h.1 c).1, (h.1 c).2.1⟩, h.2⟩) (run_kernel m g)

/-- So they do over the extended reals. -/
theorem frame_ideal : Cert.quiescent_LossIdeal := fun m g _ =>
  (θ_run (LossIdeal.defs (F := Ideal)) _ _).mono (fun _ h => ⟨fun c => ⟨(h.1 c).1, (h.1 c).2.1⟩, h.2⟩) (run_main (F := Ideal) m g)

/-- The reference ends likewise. -/
theorem frame_reference_ideal : Cert.quiescent_LossRefIdeal := fun m g _ =>
  (θ_run (LossRefIdeal.defs (F := Ideal)) _ _).mono (fun r h => ⟨fun c => (h c).2.2, sem_eq_zero_of_no_sems (by decide) r.2⟩)
    (LossRefIdeal.Value.run (F := Ideal) m g)

/-- Over the extended reals, every device ends with the reference's loss and its rows of the reference's gradient. -/
theorem value_ideal : Cert.algebraic_LossIdeal_LossRefIdeal := fun m g m' g' _ h =>
  ⟨lossOf (m' (((0 : Dev LossRefIdeal.nD).tc : Thread LossRefIdeal.nD LossRefIdeal.τ).loc LossRefIdeal.main_arg0))
      (m' (((0 : Dev LossRefIdeal.nD).tc : Thread LossRefIdeal.nD LossRefIdeal.τ).loc LossRefIdeal.main_arg1)),
    slopeOf (m' (((0 : Dev LossRefIdeal.nD).tc : Thread LossRefIdeal.nD LossRefIdeal.τ).loc LossRefIdeal.main_arg0))
      (m' (((0 : Dev LossRefIdeal.nD).tc : Thread LossRefIdeal.nD LossRefIdeal.τ).loc LossRefIdeal.main_arg1)),
    (θ_run (LossIdeal.defs (F := Ideal)) _ _).mono
      (fun _ hr c => ⟨(hr.1 c).2.2.1.trans (loss_eq h), (hr.1 c).2.2.2.trans (slope_eq h c), (hr.1 c).1, (hr.1 c).2.1⟩) (run_main (F := Ideal) m g),
    (θ_run (LossRefIdeal.defs (F := Ideal)) _ _).mono (fun _ hr => hr 0) (LossRefIdeal.Value.run (F := Ideal) m' g')⟩

end Cert.LossProof

end
-- ==== Proof.lean ====
/-
# The claims, assembled

Each call's claims are proved in a module of its own: `GatherClaims`, `SiblingClaims`, `ChipsClaims`, `UpdateClaims`,
`SmallClaims`, `NormClaims`, `FfnClaims`, `ForwardClaims`, `MixBackClaims`, `LossClaims`.
-/
module

public import proofs.«01_k».proof.Defs
public import proofs.«01_k».proof.Proof.GatherClaims
public import proofs.«01_k».proof.Proof.SiblingClaims
public import proofs.«01_k».proof.Proof.ChipsClaims
public import proofs.«01_k».proof.Proof.UpdateClaims
public import proofs.«01_k».proof.Proof.SmallClaims
public import proofs.«01_k».proof.Proof.NormClaims
public import proofs.«01_k».proof.Proof.FfnClaims
public import proofs.«01_k».proof.Proof.ForwardClaims
public import proofs.«01_k».proof.Proof.MixBackClaims
public import proofs.«01_k».proof.Proof.LossClaims

@[expose] public section

noncomputable section

namespace Cert.Proof

open Idealize.ShloMosaic Idealize.SL.Sem

theorem claim : Cert.Claim :=
  ⟨Cert.Gather.Gen.facts, Cert.GatherIdeal.Gen.facts, Cert.GatherRefIdeal.Gen.facts, Cert.Sibling.Gen.facts, Cert.SiblingIdeal.Gen.facts,
    Cert.SiblingRefIdeal.Gen.facts, Cert.Chips.Gen.facts, Cert.ChipsIdeal.Gen.facts, Cert.ChipsRefIdeal.Gen.facts,
    Cert.UpGate.Gen.facts, Cert.UpGateIdeal.Gen.facts, Cert.UpGateRefIdeal.Gen.facts,
    Cert.UpDown.Gen.facts, Cert.UpDownIdeal.Gen.facts, Cert.UpDownRefIdeal.Gen.facts,
    Cert.UpIn.Gen.facts, Cert.UpInIdeal.Gen.facts, Cert.UpInRefIdeal.Gen.facts,
    Cert.UpUq.Gen.facts, Cert.UpUqIdeal.Gen.facts, Cert.UpUqRefIdeal.Gen.facts,
    Cert.UpUkv.Gen.facts, Cert.UpUkvIdeal.Gen.facts, Cert.UpUkvRefIdeal.Gen.facts,
    Cert.UpOut.Gen.facts, Cert.UpOutIdeal.Gen.facts, Cert.UpOutRefIdeal.Gen.facts,
    Cert.UpConv.Gen.facts, Cert.UpConvIdeal.Gen.facts, Cert.UpConvRefIdeal.Gen.facts,
    Cert.UpVectors.Gen.facts, Cert.UpVectorsIdeal.Gen.facts, Cert.UpVectorsRefIdeal.Gen.facts,
    Cert.Small.Gen.facts, Cert.SmallIdeal.Gen.facts, Cert.SmallRefIdeal.Gen.facts,
    Cert.Norm.Gen.facts, Cert.NormIdeal.Gen.facts, Cert.NormRefIdeal.Gen.facts,
    Cert.FfnUp.Gen.facts, Cert.FfnUpIdeal.Gen.facts, Cert.FfnUpRefIdeal.Gen.facts,
    Cert.Glu.Gen.facts, Cert.GluIdeal.Gen.facts, Cert.GluRefIdeal.Gen.facts,
    Cert.FfnDown.Gen.facts, Cert.FfnDownIdeal.Gen.facts, Cert.FfnDownRefIdeal.Gen.facts,
    Cert.FfnDz.Gen.facts, Cert.FfnDzIdeal.Gen.facts, Cert.FfnDzRefIdeal.Gen.facts,
    Cert.FfnDwd.Gen.facts, Cert.FfnDwdIdeal.Gen.facts, Cert.FfnDwdRefIdeal.Gen.facts,
    Cert.GluBack.Gen.facts, Cert.GluBackIdeal.Gen.facts, Cert.GluBackRefIdeal.Gen.facts,
    Cert.FfnDwgu.Gen.facts, Cert.FfnDwguIdeal.Gen.facts, Cert.FfnDwguRefIdeal.Gen.facts,
    Cert.FfnDh.Gen.facts, Cert.FfnDhIdeal.Gen.facts, Cert.FfnDhRefIdeal.Gen.facts,
    Cert.NormIn.Gen.facts, Cert.NormInIdeal.Gen.facts, Cert.NormInRefIdeal.Gen.facts,
    Cert.NormOut.Gen.facts, Cert.NormOutIdeal.Gen.facts, Cert.NormOutRefIdeal.Gen.facts,
    Cert.MixIn.Gen.facts, Cert.MixInIdeal.Gen.facts, Cert.MixInRefIdeal.Gen.facts,
    Cert.MixQ.Gen.facts, Cert.MixQIdeal.Gen.facts, Cert.MixQRefIdeal.Gen.facts,
    Cert.MixK.Gen.facts, Cert.MixKIdeal.Gen.facts, Cert.MixKRefIdeal.Gen.facts,
    Cert.MixV.Gen.facts, Cert.MixVIdeal.Gen.facts, Cert.MixVRefIdeal.Gen.facts,
    Cert.MixAttn.Gen.facts, Cert.MixAttnIdeal.Gen.facts, Cert.MixAttnRefIdeal.Gen.facts,
    Cert.MixConv.Gen.facts, Cert.MixConvIdeal.Gen.facts, Cert.MixConvRefIdeal.Gen.facts,
    Cert.MixDo.Gen.facts, Cert.MixDoIdeal.Gen.facts, Cert.MixDoRefIdeal.Gen.facts,
    Cert.MixDcv.Gen.facts, Cert.MixDcvIdeal.Gen.facts, Cert.MixDcvRefIdeal.Gen.facts,
    Cert.MixDqln.Gen.facts, Cert.MixDqlnIdeal.Gen.facts, Cert.MixDqlnRefIdeal.Gen.facts,
    Cert.MixDkvlnK.Gen.facts, Cert.MixDkvlnKIdeal.Gen.facts, Cert.MixDkvlnKRefIdeal.Gen.facts,
    Cert.MixDkvlnV.Gen.facts, Cert.MixDkvlnVIdeal.Gen.facts, Cert.MixDkvlnVRefIdeal.Gen.facts,
    Cert.Loss.Gen.facts, Cert.LossIdeal.Gen.facts, Cert.LossRefIdeal.Gen.facts,
    Cert.GatherRef.Gen.facts,
    GatherProof.frame_kernel, GatherProof.frame_ideal, GatherProof.frame_reference_ideal,
    SiblingProof.frame_kernel, SiblingProof.frame_ideal, SiblingProof.frame_reference_ideal,
    ChipsProof.frame_kernel, ChipsProof.frame_ideal, ChipsProof.frame_reference_ideal,
    UpdateProof.gate_kernel, UpdateProof.gate_ideal, UpdateProof.gate_reference,
    UpdateProof.down_kernel, UpdateProof.down_ideal, UpdateProof.down_reference,
    UpdateProof.in_kernel, UpdateProof.in_ideal, UpdateProof.in_reference,
    UpdateProof.uq_kernel, UpdateProof.uq_ideal, UpdateProof.uq_reference,
    UpdateProof.ukv_kernel, UpdateProof.ukv_ideal, UpdateProof.ukv_reference,
    UpdateProof.out_kernel, UpdateProof.out_ideal, UpdateProof.out_reference,
    UpdateProof.conv_kernel, UpdateProof.conv_ideal, UpdateProof.conv_reference,
    UpdateProof.vectors_kernel, UpdateProof.vectors_ideal, UpdateProof.vectors_reference,
    SmallProof.frame_kernel, SmallProof.frame_ideal, SmallProof.frame_reference_ideal,
    NormProof.frame_kernel, NormProof.frame_ideal, NormProof.frame_reference_ideal,
    FfnProof.up_kernel, FfnProof.up_ideal, FfnProof.up_reference,
    FfnProof.gate_kernel, FfnProof.gate_ideal, FfnProof.gate_reference,
    FfnProof.down_kernel, FfnProof.down_ideal, FfnProof.down_reference,
    FfnProof.dz_kernel, FfnProof.dz_ideal, FfnProof.dz_reference,
    FfnProof.dwd_kernel, FfnProof.dwd_ideal, FfnProof.dwd_reference,
    FfnProof.back_kernel, FfnProof.back_ideal, FfnProof.back_reference,
    FfnProof.dwgu_kernel, FfnProof.dwgu_ideal, FfnProof.dwgu_reference,
    FfnProof.dh_kernel, FfnProof.dh_ideal, FfnProof.dh_reference,
    ForwardProof.normIn_kernel, ForwardProof.normIn_ideal, ForwardProof.normIn_reference,
    ForwardProof.normOut_kernel, ForwardProof.normOut_ideal, ForwardProof.normOut_reference,
    ForwardProof.in_kernel, ForwardProof.in_ideal, ForwardProof.in_reference,
    ForwardProof.q_kernel, ForwardProof.q_ideal, ForwardProof.q_reference,
    ForwardProof.k_kernel, ForwardProof.k_ideal, ForwardProof.k_reference,
    ForwardProof.v_kernel, ForwardProof.v_ideal, ForwardProof.v_reference,
    ForwardProof.attn_kernel, ForwardProof.attn_ideal, ForwardProof.attn_reference,
    ForwardProof.conv_kernel, ForwardProof.conv_ideal, ForwardProof.conv_reference,
    MixBackProof.do_kernel, MixBackProof.do_ideal, MixBackProof.do_reference,
    MixBackProof.dcv_kernel, MixBackProof.dcv_ideal, MixBackProof.dcv_reference,
    MixBackProof.dqln_kernel, MixBackProof.dqln_ideal, MixBackProof.dqln_reference,
    MixBackProof.dkvlnK_kernel, MixBackProof.dkvlnK_ideal, MixBackProof.dkvlnK_reference,
    MixBackProof.dkvlnV_kernel, MixBackProof.dkvlnV_ideal, MixBackProof.dkvlnV_reference,
    LossProof.frame_kernel, LossProof.frame_ideal, LossProof.frame_reference_ideal,
    GatherProof.frame_reference,
    trivial, GatherProof.value_ideal, trivial, SiblingProof.value_ideal, trivial, ChipsProof.value_ideal,
    trivial, UpdateProof.gate_value, trivial, UpdateProof.down_value, trivial, UpdateProof.in_value,
    trivial, UpdateProof.uq_value, trivial, UpdateProof.ukv_value, trivial, UpdateProof.out_value,
    trivial, UpdateProof.conv_value, trivial, UpdateProof.vectors_value,
    trivial, SmallProof.value_ideal,
    trivial, NormProof.value_ideal,
    trivial, FfnProof.up_value, trivial, FfnProof.gate_value,
    trivial, FfnProof.down_value, trivial, FfnProof.dz_value,
    trivial, FfnProof.dwd_value, trivial, FfnProof.back_value,
    trivial, FfnProof.dwgu_value, trivial, FfnProof.dh_value,
    trivial, ForwardProof.normIn_value, trivial, ForwardProof.normOut_value,
    trivial, ForwardProof.in_value, trivial, ForwardProof.q_value,
    trivial, ForwardProof.k_value, trivial, ForwardProof.v_value,
    trivial, ForwardProof.attn_value, trivial, ForwardProof.conv_value,
    trivial, MixBackProof.do_value,
    trivial, MixBackProof.dcv_value,
    trivial, MixBackProof.dqln_value,
    trivial, MixBackProof.dkvlnK_value,
    trivial, MixBackProof.dkvlnV_value,
    trivial, LossProof.value_ideal,
    GatherProof.value_bits⟩

end Cert.Proof

end
